-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v46)) (v3 : (c : Dev Cert.KernelIdeal.nD) → Buf (Elt Ideal) ((c.tc : Thread Cert.KernelIdeal.nD Cert.KernelIdeal.τ).loc Cert.KernelIdeal.main_v47)) (v4 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_v47) = v3 c
          ∧ r.2.mem ((c.tc : Thread Cert.KernelIdeal.nD Cert.KernelIdeal.τ).loc Cert.KernelIdeal.main_v49) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_v64) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v20)) (v1 : (c : Dev Cert.Kernel2Ideal.nD) → Buf (Elt Ideal) ((c.tc : Thread Cert.Kernel2Ideal.nD Cert.Kernel2Ideal.τ).loc Cert.Kernel2Ideal.main_v15)) (v2 : (c : Dev Cert.Kernel2Ideal.nD) → Buf (Elt Ideal) ((c.tc : Thread Cert.Kernel2Ideal.nD Cert.Kernel2Ideal.τ).loc Cert.Kernel2Ideal.main_v16)) (v3 : (c : Dev Cert.Kernel2Ideal.nD) → Buf (Elt Ideal) ((c.tc : Thread Cert.Kernel2Ideal.nD Cert.Kernel2Ideal.τ).loc Cert.Kernel2Ideal.main_v17)) (v4 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_v15) = v1 c
          ∧ r.2.mem ((c.tc : Thread Cert.Kernel2Ideal.nD Cert.Kernel2Ideal.τ).loc Cert.Kernel2Ideal.main_v16) = v2 c
          ∧ r.2.mem ((c.tc : Thread Cert.Kernel2Ideal.nD Cert.Kernel2Ideal.τ).loc Cert.Kernel2Ideal.main_v17) = v3 c
          ∧ r.2.mem ((c.tc : Thread Cert.Kernel2Ideal.nD Cert.Kernel2Ideal.τ).loc Cert.Kernel2Ideal.main_v11) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_v29) = v3 c
          ∧ r.2.mem ((c.tc : Thread Cert.Reference2Ideal.nD Cert.Reference2Ideal.τ).loc Cert.Reference2Ideal.main_v30) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v9)) (v1 : (c : Dev Cert.Kernel3Ideal.nD) → Buf (Elt Ideal) ((c.tc : Thread Cert.Kernel3Ideal.nD Cert.Kernel3Ideal.τ).loc Cert.Kernel3Ideal.main_v10)) (v2 : (c : Dev Cert.Kernel3Ideal.nD) → Buf (Elt Ideal) ((c.tc : Thread Cert.Kernel3Ideal.nD Cert.Kernel3Ideal.τ).loc Cert.Kernel3Ideal.main_v11)) (v3 : (c : Dev Cert.Kernel3Ideal.nD) → Buf (Elt Ideal) ((c.tc : Thread Cert.Kernel3Ideal.nD Cert.Kernel3Ideal.τ).loc Cert.Kernel3Ideal.main_v15)) (v4 : (c : Dev Cert.Kernel3Ideal.nD) → Buf (Elt Ideal) ((c.tc : Thread Cert.Kernel3Ideal.nD Cert.Kernel3Ideal.τ).loc Cert.Kernel3Ideal.main_v16)) (v5 : (c : Dev Cert.Kernel3Ideal.nD) → Buf (Elt Ideal) ((c.tc : Thread Cert.Kernel3Ideal.nD Cert.Kernel3Ideal.τ).loc Cert.Kernel3Ideal.main_v12)) (v6 : (c : Dev Cert.Kernel3Ideal.nD) → Buf (Elt Ideal) ((c.tc : Thread Cert.Kernel3Ideal.nD Cert.Kernel3Ideal.τ).loc Cert.Kernel3Ideal.main_v13)) (v7 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_v10) = v1 c
          ∧ r.2.mem ((c.tc : Thread Cert.Kernel3Ideal.nD Cert.Kernel3Ideal.τ).loc Cert.Kernel3Ideal.main_v11) = v2 c
          ∧ r.2.mem ((c.tc : Thread Cert.Kernel3Ideal.nD Cert.Kernel3Ideal.τ).loc Cert.Kernel3Ideal.main_v15) = v3 c
          ∧ r.2.mem ((c.tc : Thread Cert.Kernel3Ideal.nD Cert.Kernel3Ideal.τ).loc Cert.Kernel3Ideal.main_v16) = v4 c
          ∧ r.2.mem ((c.tc : Thread Cert.Kernel3Ideal.nD Cert.Kernel3Ideal.τ).loc Cert.Kernel3Ideal.main_v12) = v5 c
          ∧ r.2.mem ((c.tc : Thread Cert.Kernel3Ideal.nD Cert.Kernel3Ideal.τ).loc Cert.Kernel3Ideal.main_v13) = v6 c
          ∧ r.2.mem ((c.tc : Thread Cert.Kernel3Ideal.nD Cert.Kernel3Ideal.τ).loc Cert.Kernel3Ideal.main_v14) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v1) = v1 c
          ∧ r.2.mem ((c.tc : Thread Cert.Reference3Ideal.nD Cert.Reference3Ideal.τ).loc Cert.Reference3Ideal.main_v2) = v2 c
          ∧ r.2.mem ((c.tc : Thread Cert.Reference3Ideal.nD Cert.Reference3Ideal.τ).loc Cert.Reference3Ideal.main_v11) = v3 c
          ∧ r.2.mem ((c.tc : Thread Cert.Reference3Ideal.nD Cert.Reference3Ideal.τ).loc Cert.Reference3Ideal.main_v12) = v4 c
          ∧ r.2.mem ((c.tc : Thread Cert.Reference3Ideal.nD Cert.Reference3Ideal.τ).loc Cert.Reference3Ideal.main_v13) = v5 c
          ∧ r.2.mem ((c.tc : Thread Cert.Reference3Ideal.nD Cert.Reference3Ideal.τ).loc Cert.Reference3Ideal.main_v14) = v6 c
          ∧ r.2.mem ((c.tc : Thread Cert.Reference3Ideal.nD Cert.Reference3Ideal.τ).loc Cert.Reference3Ideal.main_v15) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v27)) (v1 : (c : Dev Cert.Kernel4Ideal.nD) → Buf (Elt Ideal) ((c.tc : Thread Cert.Kernel4Ideal.nD Cert.Kernel4Ideal.τ).loc Cert.Kernel4Ideal.main_v28)) (v2 : (c : Dev Cert.Kernel4Ideal.nD) → Buf (Elt Ideal) ((c.tc : Thread Cert.Kernel4Ideal.nD Cert.Kernel4Ideal.τ).loc Cert.Kernel4Ideal.main_v29)) (v3 : (c : Dev Cert.Kernel4Ideal.nD) → Buf (Elt Ideal) ((c.tc : Thread Cert.Kernel4Ideal.nD Cert.Kernel4Ideal.τ).loc Cert.Kernel4Ideal.main_v30)) (v4 : (c : Dev Cert.Kernel4Ideal.nD) → Buf (Elt Ideal) ((c.tc : Thread Cert.Kernel4Ideal.nD Cert.Kernel4Ideal.τ).loc Cert.Kernel4Ideal.main_v31)) (v5 : (c : Dev Cert.Kernel4Ideal.nD) → Buf (Elt Ideal) ((c.tc : Thread Cert.Kernel4Ideal.nD Cert.Kernel4Ideal.τ).loc Cert.Kernel4Ideal.main_v32)) (v6 : (c : Dev Cert.Kernel4Ideal.nD) → Buf (Elt Ideal) ((c.tc : Thread Cert.Kernel4Ideal.nD Cert.Kernel4Ideal.τ).loc Cert.Kernel4Ideal.main_v26)) (v7 : (c : Dev Cert.Kernel4Ideal.nD) → Buf (Elt Ideal) ((c.tc : Thread Cert.Kernel4Ideal.nD Cert.Kernel4Ideal.τ).loc Cert.Kernel4Ideal.main_v39)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27) = v0 c
          ∧ r.2.mem ((c.tc : Thread Cert.Kernel4Ideal.nD Cert.Kernel4Ideal.τ).loc Cert.Kernel4Ideal.main_v28) = v1 c
          ∧ r.2.mem ((c.tc : Thread Cert.Kernel4Ideal.nD Cert.Kernel4Ideal.τ).loc Cert.Kernel4Ideal.main_v29) = v2 c
          ∧ r.2.mem ((c.tc : Thread Cert.Kernel4Ideal.nD Cert.Kernel4Ideal.τ).loc Cert.Kernel4Ideal.main_v30) = v3 c
          ∧ r.2.mem ((c.tc : Thread Cert.Kernel4Ideal.nD Cert.Kernel4Ideal.τ).loc Cert.Kernel4Ideal.main_v31) = v4 c
          ∧ r.2.mem ((c.tc : Thread Cert.Kernel4Ideal.nD Cert.Kernel4Ideal.τ).loc Cert.Kernel4Ideal.main_v32) = v5 c
          ∧ r.2.mem ((c.tc : Thread Cert.Kernel4Ideal.nD Cert.Kernel4Ideal.τ).loc Cert.Kernel4Ideal.main_v26) = v6 c
          ∧ r.2.mem ((c.tc : Thread Cert.Kernel4Ideal.nD Cert.Kernel4Ideal.τ).loc Cert.Kernel4Ideal.main_v39) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v2) = v1 c
          ∧ r.2.mem ((c.tc : Thread Cert.Reference4Ideal.nD Cert.Reference4Ideal.τ).loc Cert.Reference4Ideal.main_v3) = v2 c
          ∧ r.2.mem ((c.tc : Thread Cert.Reference4Ideal.nD Cert.Reference4Ideal.τ).loc Cert.Reference4Ideal.main_v4) = v3 c
          ∧ r.2.mem ((c.tc : Thread Cert.Reference4Ideal.nD Cert.Reference4Ideal.τ).loc Cert.Reference4Ideal.main_v5) = v4 c
          ∧ r.2.mem ((c.tc : Thread Cert.Reference4Ideal.nD Cert.Reference4Ideal.τ).loc Cert.Reference4Ideal.main_v6) = v5 c
          ∧ r.2.mem ((c.tc : Thread Cert.Reference4Ideal.nD Cert.Reference4Ideal.τ).loc Cert.Reference4Ideal.main_v11) = v6 c
          ∧ r.2.mem ((c.tc : Thread Cert.Reference4Ideal.nD Cert.Reference4Ideal.τ).loc Cert.Reference4Ideal.main_v13) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v34)) (v1 : (c : Dev Cert.Kernel6Ideal.nD) → Buf (Elt Ideal) ((c.tc : Thread Cert.Kernel6Ideal.nD Cert.Kernel6Ideal.τ).loc Cert.Kernel6Ideal.main_v36)) (v2 : (c : Dev Cert.Kernel6Ideal.nD) → Buf (Elt Ideal) ((c.tc : Thread Cert.Kernel6Ideal.nD Cert.Kernel6Ideal.τ).loc Cert.Kernel6Ideal.main_v38)) (v3 : (c : Dev Cert.Kernel6Ideal.nD) → Buf (Elt Ideal) ((c.tc : Thread Cert.Kernel6Ideal.nD Cert.Kernel6Ideal.τ).loc Cert.Kernel6Ideal.main_v40)) (v4 : (c : Dev Cert.Kernel6Ideal.nD) → Buf (Elt Ideal) ((c.tc : Thread Cert.Kernel6Ideal.nD Cert.Kernel6Ideal.τ).loc Cert.Kernel6Ideal.main_v29)) (v5 : (c : Dev Cert.Kernel6Ideal.nD) → Buf (Elt Ideal) ((c.tc : Thread Cert.Kernel6Ideal.nD Cert.Kernel6Ideal.τ).loc Cert.Kernel6Ideal.main_v46)) (v6 : (c : Dev Cert.Kernel6Ideal.nD) → Buf (Elt Ideal) ((c.tc : Thread Cert.Kernel6Ideal.nD Cert.Kernel6Ideal.τ).loc Cert.Kernel6Ideal.main_v31)) (v7 : (c : Dev Cert.Kernel6Ideal.nD) → Buf (Elt Ideal) ((c.tc : Thread Cert.Kernel6Ideal.nD Cert.Kernel6Ideal.τ).loc Cert.Kernel6Ideal.main_v52)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v34) = v0 c
          ∧ r.2.mem ((c.tc : Thread Cert.Kernel6Ideal.nD Cert.Kernel6Ideal.τ).loc Cert.Kernel6Ideal.main_v36) = v1 c
          ∧ r.2.mem ((c.tc : Thread Cert.Kernel6Ideal.nD Cert.Kernel6Ideal.τ).loc Cert.Kernel6Ideal.main_v38) = v2 c
          ∧ r.2.mem ((c.tc : Thread Cert.Kernel6Ideal.nD Cert.Kernel6Ideal.τ).loc Cert.Kernel6Ideal.main_v40) = v3 c
          ∧ r.2.mem ((c.tc : Thread Cert.Kernel6Ideal.nD Cert.Kernel6Ideal.τ).loc Cert.Kernel6Ideal.main_v29) = v4 c
          ∧ r.2.mem ((c.tc : Thread Cert.Kernel6Ideal.nD Cert.Kernel6Ideal.τ).loc Cert.Kernel6Ideal.main_v46) = v5 c
          ∧ r.2.mem ((c.tc : Thread Cert.Kernel6Ideal.nD Cert.Kernel6Ideal.τ).loc Cert.Kernel6Ideal.main_v31) = v6 c
          ∧ r.2.mem ((c.tc : Thread Cert.Kernel6Ideal.nD Cert.Kernel6Ideal.τ).loc Cert.Kernel6Ideal.main_v52) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_v7) = v3 c
          ∧ r.2.mem ((c.tc : Thread Cert.Reference6Ideal.nD Cert.Reference6Ideal.τ).loc Cert.Reference6Ideal.main_v17) = v4 c
          ∧ r.2.mem ((c.tc : Thread Cert.Reference6Ideal.nD Cert.Reference6Ideal.τ).loc Cert.Reference6Ideal.main_v19) = v5 c
          ∧ r.2.mem ((c.tc : Thread Cert.Reference6Ideal.nD Cert.Reference6Ideal.τ).loc Cert.Reference6Ideal.main_v13) = v6 c
          ∧ r.2.mem ((c.tc : Thread Cert.Reference6Ideal.nD Cert.Reference6Ideal.τ).loc Cert.Reference6Ideal.main_v20) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v45) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v45) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts) (hPre_finite5 : Cert.Pre_finite5.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S2048x16x64 : Shape := ⟨3, ![2048, 16, 64]⟩
abbrev S2048x16x32 : Shape := ⟨3, ![2048, 16, 32]⟩
abbrev S2048x32 : Shape := ⟨2, ![2048, 32]⟩
abbrev S_ : Shape := ⟨0, ![]⟩

class Facts : Prop where
  bcast_S_S2048x16x64 : S_.BroadcastsInDim S2048x16x64 (![] : Fin 0 → Fin S2048x16x64.rank)
  reducesTo_S2048x16x64_S_d0_1_2 : S2048x16x64.ReducesTo [0, 1, 2] S_
  h_S_ : 0 < S_.numel
  bcast_S_S2048x16x32 : S_.BroadcastsInDim S2048x16x32 (![] : Fin 0 → Fin S2048x16x32.rank)
  reducesTo_S2048x16x32_S_d0_1_2 : S2048x16x32.ReducesTo [0, 1, 2] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg4 : FVec F S2048x32 .f32) (main_arg5 : FVec F S2048x16x64 .f32) (main_v13 : IVec S_ 1) (main_v16 : IVec S2048x16x64 1) : IVec S_ 1 :=
  let main_c_5 : IVec S_ 1 := constantI S_ 1 1#1
  let main_v17 : IVec S_ 1 := (fun x v => Host.reduce IntOp.andi x v reducesTo_S2048x16x64_S_d0_1_2 h_S_) main_v16 main_c_5
  let main_v18 : IVec S_ 1 := andi main_v13 main_v17
  let main_v19 : FVec F S2048x32 .f32 := Host.absf main_arg4
  let main_cst_6 : FVec F S_ .f32 := constant S_ .f32 0x7F800000#32
  let main_v20 : FVec F S2048x32 .f32 := broadcastInDim S2048x32 ![] bcast_S_S2048x32 main_cst_6
  let main_v21 : IVec S2048x32 1 := cmpf .olt main_v19 main_v20
  let main_c_7 : IVec S_ 1 := constantI S_ 1 1#1
  let main_v22 : IVec S_ 1 := (fun x v => Host.reduce IntOp.andi x v reducesTo_S2048x32_S_d0_1 h_S_) main_v21 main_c_7
  let main_v23 : IVec S_ 1 := andi main_v18 main_v22
  let main_v24 : FVec F S2048x16x64 .f32 := Host.absf main_arg5
  let main_cst_8 : FVec F S_ .f32 := constant S_ .f32 0x7F800000#32
  let main_v25 : FVec F S2048x16x64 .f32 := broadcastInDim S2048x16x64 ![] bcast_S_S2048x16x64 main_cst_8
  let main_v26 : IVec S2048x16x64 1 := cmpf .olt main_v24 main_v25
  let main_c_9 : IVec S_ 1 := constantI S_ 1 1#1
  let main_v27 : IVec S_ 1 := (fun x v => Host.reduce IntOp.andi x v reducesTo_S2048x16x64_S_d0_1_2 h_S_) main_v26 main_c_9
  let main_v28 : IVec S_ 1 := andi main_v23 main_v27
  main_v28

def fn {F : FTy → Type} [FloatOps F] (main_arg0 : FVec F S2048x16x64 .f32) (main_arg1 : FVec F S2048x16x32 .f32) (main_arg2 : FVec F S2048x16x64 .f32) (main_arg3 : FVec F S2048x16x64 .f32) (main_arg4 : FVec F S2048x32 .f32) (main_arg5 : FVec F S2048x16x64 .f32) : IVec S_ 1 :=
  let main_v0 : FVec F S2048x16x64 .f32 := Host.absf main_arg0
  let main_cst : FVec F S_ .f32 := constant S_ .f32 0x7F800000#32
  let main_v1 : FVec F S2048x16x64 .f32 := broadcastInDim S2048x16x64 ![] bcast_S_S2048x16x64 main_cst
  let main_v2 : IVec S2048x16x64 1 := cmpf .olt main_v0 main_v1
  let main_c : IVec S_ 1 := constantI S_ 1 1#1
  let main_v3 : IVec S_ 1 := (fun x v => Host.reduce IntOp.andi x v reducesTo_S2048x16x64_S_d0_1_2 h_S_) main_v2 main_c
  let main_v4 : FVec F S2048x16x32 .f32 := Host.absf main_arg1
  let main_cst_0 : FVec F S_ .f32 := constant S_ .f32 0x7F800000#32
  let main_v5 : FVec F S2048x16x32 .f32 := broadcastInDim S2048x16x32 ![] bcast_S_S2048x16x32 main_cst_0
  let main_v6 : IVec S2048x16x32 1 := cmpf .olt main_v4 main_v5
  let main_c_1 : IVec S_ 1 := constantI S_ 1 1#1
  let main_v7 : IVec S_ 1 := (fun x v => Host.reduce IntOp.andi x v reducesTo_S2048x16x32_S_d0_1_2 h_S_) main_v6 main_c_1
  let main_v8 : IVec S_ 1 := andi main_v3 main_v7
  let main_v9 : FVec F S2048x16x64 .f32 := Host.absf main_arg2
  let main_cst_2 : FVec F S_ .f32 := constant S_ .f32 0x7F800000#32
  let main_v10 : FVec F S2048x16x64 .f32 := broadcastInDim S2048x16x64 ![] bcast_S_S2048x16x64 main_cst_2
  let main_v11 : IVec S2048x16x64 1 := cmpf .olt main_v9 main_v10
  let main_c_3 : IVec S_ 1 := constantI S_ 1 1#1
  let main_v12 : IVec S_ 1 := (fun x v => Host.reduce IntOp.andi x v reducesTo_S2048x16x64_S_d0_1_2 h_S_) main_v11 main_c_3
  let main_v13 : IVec S_ 1 := andi main_v8 main_v12
  let main_v14 : FVec F S2048x16x64 .f32 := Host.absf main_arg3
  let main_cst_4 : FVec F S_ .f32 := constant S_ .f32 0x7F800000#32
  let main_v15 : FVec F S2048x16x64 .f32 := broadcastInDim S2048x16x64 ![] bcast_S_S2048x16x64 main_cst_4
  let main_v16 : IVec S2048x16x64 1 := cmpf .olt main_v14 main_v15
  fn_part1 (F := F) main_arg4 main_arg5 main_v13 main_v16
-- ==== Pre_finite2.lean ====
abbrev S2048x1024 : Shape := ⟨2, ![2048, 1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2048x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x1024 .f32) (main_arg1 : FVec F S1024x2816 .f32) (main_arg2 : FVec F S1024x2816 .f32) (main_arg3 : FVec F S2816x1024 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite5.lean ====
abbrev S2048x16x64 : Shape := ⟨3, ![2048, 16, 64]⟩
abbrev S2048x16x32 : Shape := ⟨3, ![2048, 16, 32]⟩
abbrev S2048x32 : Shape := ⟨2, ![2048, 32]⟩
abbrev S_ : Shape := ⟨0, ![]⟩

class Facts : Prop where
  bcast_S_S2048x16x64 : S_.BroadcastsInDim S2048x16x64 (![] : Fin 0 → Fin S2048x16x64.rank)
  reducesTo_S2048x16x64_S_d0_1_2 : S2048x16x64.ReducesTo [0, 1, 2] S_
  h_S_ : 0 < S_.numel
  bcast_S_S2048x16x32 : S_.BroadcastsInDim S2048x16x32 (![] : Fin 0 → Fin S2048x16x32.rank)
  reducesTo_S2048x16x32_S_d0_1_2 : S2048x16x32.ReducesTo [0, 1, 2] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_v13 : IVec S_ 1) (main_v16 : IVec S2048x32 1) : IVec S_ 1 :=
  let main_c_5 : IVec S_ 1 := constantI S_ 1 1#1
  let main_v17 : IVec S_ 1 := (fun x v => Host.reduce IntOp.andi x v reducesTo_S2048x32_S_d0_1 h_S_) main_v16 main_c_5
  let main_v18 : IVec S_ 1 := andi main_v13 main_v17
  main_v18

def fn {F : FTy → Type} [FloatOps F] (main_arg0 : FVec F S2048x16x64 .f32) (main_arg1 : FVec F S2048x16x32 .f32) (main_arg2 : FVec F S2048x16x64 .f32) (main_arg3 : FVec F S2048x16x64 .f32) (main_arg4 : FVec F S2048x32 .f32) : IVec S_ 1 :=
  let main_v0 : FVec F S2048x16x64 .f32 := Host.absf main_arg0
  let main_cst : FVec F S_ .f32 := constant S_ .f32 0x7F800000#32
  let main_v1 : FVec F S2048x16x64 .f32 := broadcastInDim S2048x16x64 ![] bcast_S_S2048x16x64 main_cst
  let main_v2 : IVec S2048x16x64 1 := cmpf .olt main_v0 main_v1
  let main_c : IVec S_ 1 := constantI S_ 1 1#1
  let main_v3 : IVec S_ 1 := (fun x v => Host.reduce IntOp.andi x v reducesTo_S2048x16x64_S_d0_1_2 h_S_) main_v2 main_c
  let main_v4 : FVec F S2048x16x32 .f32 := Host.absf main_arg1
  let main_cst_0 : FVec F S_ .f32 := constant S_ .f32 0x7F800000#32
  let main_v5 : FVec F S2048x16x32 .f32 := broadcastInDim S2048x16x32 ![] bcast_S_S2048x16x32 main_cst_0
  let main_v6 : IVec S2048x16x32 1 := cmpf .olt main_v4 main_v5
  let main_c_1 : IVec S_ 1 := constantI S_ 1 1#1
  let main_v7 : IVec S_ 1 := (fun x v => Host.reduce IntOp.andi x v reducesTo_S2048x16x32_S_d0_1_2 h_S_) main_v6 main_c_1
  let main_v8 : IVec S_ 1 := andi main_v3 main_v7
  let main_v9 : FVec F S2048x16x64 .f32 := Host.absf main_arg2
  let main_cst_2 : FVec F S_ .f32 := constant S_ .f32 0x7F800000#32
  let main_v10 : FVec F S2048x16x64 .f32 := broadcastInDim S2048x16x64 ![] bcast_S_S2048x16x64 main_cst_2
  let main_v11 : IVec S2048x16x64 1 := cmpf .olt main_v9 main_v10
  let main_c_3 : IVec S_ 1 := constantI S_ 1 1#1
  let main_v12 : IVec S_ 1 := (fun x v => Host.reduce IntOp.andi x v reducesTo_S2048x16x64_S_d0_1_2 h_S_) main_v11 main_c_3
  let main_v13 : IVec S_ 1 := andi main_v8 main_v12
  let main_v14 : FVec F S2048x32 .f32 := Host.absf main_arg4
  let main_cst_4 : FVec F S_ .f32 := constant S_ .f32 0x7F800000#32
  let main_v15 : FVec F S2048x32 .f32 := broadcastInDim S2048x32 ![] bcast_S_S2048x32 main_cst_4
  let main_v16 : IVec S2048x32 1 := cmpf .olt main_v14 main_v15
  fn_part1 (F := F) main_v13 main_v16
-- ==== Pre_finite7.lean ====
abbrev S2048x1536 : Shape := ⟨2, ![2048, 1536]⟩
abbrev S4x1536 : Shape := ⟨2, ![4, 1536]⟩
abbrev S1x1536 : Shape := ⟨2, ![1, 1536]⟩
abbrev S_ : Shape := ⟨0, ![]⟩

class Facts : Prop where
  bcast_S_S2048x1536 : S_.BroadcastsInDim S2048x1536 (![] : Fin 0 → Fin S2048x1536.rank)
  reducesTo_S2048x1536_S_d0_1 : S2048x1536.ReducesTo [0, 1] S_
  h_S_ : 0 < S_.numel
  bcast_S_S4x1536 : S_.BroadcastsInDim S4x1536 (![] : Fin 0 → Fin S4x1536.rank)
  reducesTo_S4x1536_S_d0_1 : S4x1536.ReducesTo [0, 1] S_
  bcast_S_S1x1536 : S_.BroadcastsInDim S1x1536 (![] : Fin 0 → Fin S1x1536.rank)
  reducesTo_S1x1536_S_d0_1 : S1x1536.ReducesTo [0, 1] S_

variable [Facts]

def fn_part1 {F : FTy → Type} [FloatOps F] (main_v13 : IVec S_ 1) (main_v16 : IVec S2048x1536 1) : IVec S_ 1 :=
  let main_c_5 : IVec S_ 1 := constantI S_ 1 1#1
  let main_v17 : IVec S_ 1 := (fun x v => Host.reduce IntOp.andi x v reducesTo_S2048x1536_S_d0_1 h_S_) main_v16 main_c_5
  let main_v18 : IVec S_ 1 := andi main_v13 main_v17
  main_v18

def fn {F : FTy → Type} [FloatOps F] (main_arg0 : FVec F S2048x1536 .f32) (main_arg1 : FVec F S4x1536 .f32) (main_arg2 : FVec F S1x1536 .f32) (main_arg3 : FVec F S2048x1536 .f32) : IVec S_ 1 :=
  let main_v0 : FVec F S2048x1536 .f32 := Host.absf main_arg0
  let main_cst : FVec F S_ .f32 := constant S_ .f32 0x7F800000#32
  let main_v1 : FVec F S2048x1536 .f32 := broadcastInDim S2048x1536 ![] bcast_S_S2048x1536 main_cst
  let main_v2 : IVec S2048x1536 1 := cmpf .olt main_v0 main_v1
  let main_c : IVec S_ 1 := constantI S_ 1 1#1
  let main_v3 : IVec S_ 1 := (fun x v => Host.reduce IntOp.andi x v reducesTo_S2048x1536_S_d0_1 h_S_) main_v2 main_c
  let main_v4 : FVec F S4x1536 .f32 := Host.absf main_arg1
  let main_cst_0 : FVec F S_ .f32 := constant S_ .f32 0x7F800000#32
  let main_v5 : FVec F S4x1536 .f32 := broadcastInDim S4x1536 ![] bcast_S_S4x1536 main_cst_0
  let main_v6 : IVec S4x1536 1 := cmpf .olt main_v4 main_v5
  let main_c_1 : IVec S_ 1 := constantI S_ 1 1#1
  let main_v7 : IVec S_ 1 := (fun x v => Host.reduce IntOp.andi x v reducesTo_S4x1536_S_d0_1 h_S_) main_v6 main_c_1
  let main_v8 : IVec S_ 1 := andi main_v3 main_v7
  let main_v9 : FVec F S1x1536 .f32 := Host.absf main_arg2
  let main_cst_2 : FVec F S_ .f32 := constant S_ .f32 0x7F800000#32
  let main_v10 : FVec F S1x1536 .f32 := broadcastInDim S1x1536 ![] bcast_S_S1x1536 main_cst_2
  let main_v11 : IVec S1x1536 1 := cmpf .olt main_v9 main_v10
  let main_c_3 : IVec S_ 1 := constantI S_ 1 1#1
  let main_v12 : IVec S_ 1 := (fun x v => Host.reduce IntOp.andi x v reducesTo_S1x1536_S_d0_1 h_S_) main_v11 main_c_3
  let main_v13 : IVec S_ 1 := andi main_v8 main_v12
  let main_v14 : FVec F S2048x1536 .f32 := Host.absf main_arg3
  let main_cst_4 : FVec F S_ .f32 := constant S_ .f32 0x7F800000#32
  let main_v15 : FVec F S2048x1536 .f32 := broadcastInDim S2048x1536 ![] bcast_S_S2048x1536 main_cst_4
  let main_v16 : IVec S2048x1536 1 := cmpf .olt main_v14 main_v15
  fn_part1 (F := F) main_v13 main_v16
-- ==== Kernel.lean ====
abbrev S2048x16x64 : Shape := ⟨3, ![2048, 16, 64]⟩
abbrev S2048x16x32 : Shape := ⟨3, ![2048, 16, 32]⟩
abbrev S2048x32 : Shape := ⟨2, ![2048, 32]⟩
abbrev S16x2048x2048 : Shape := ⟨3, ![16, 2048, 2048]⟩
abbrev S2048x2048x16 : Shape := ⟨3, ![2048, 2048, 16]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x2048 : Shape := ⟨2, ![16, 2048]⟩
abbrev S16x2048x1 : Shape := ⟨3, ![16, 2048, 1]⟩
abbrev S16x64x2048 : Shape := ⟨3, ![16, 64, 2048]⟩
abbrev S2048x1024 : Shape := ⟨2, ![2048, 1024]⟩
abbrev S2048x512 : Shape := ⟨2, ![2048, 512]⟩
abbrev S2048x1536 : Shape := ⟨2, ![2048, 1536]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2x2048x512 : Shape := ⟨3, ![2, 2048, 512]⟩
abbrev S8x2048x128 : Shape := ⟨3, ![8, 2048, 128]⟩
abbrev S1x2048x128 : Shape := ⟨3, ![1, 2048, 128]⟩
abbrev S2048x256 : Shape := ⟨2, ![2048, 256]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩
abbrev S256x512 : Shape := ⟨2, ![256, 512]⟩
abbrev S512x256 : Shape := ⟨2, ![512, 256]⟩
abbrev S512x128 : Shape := ⟨2, ![512, 128]⟩
abbrev S1x512x128 : Shape := ⟨3, ![1, 512, 128]⟩
abbrev S256x768 : Shape := ⟨2, ![256, 768]⟩
abbrev S768x256 : Shape := ⟨2, ![768, 256]⟩
abbrev S768x128 : Shape := ⟨2, ![768, 128]⟩
abbrev S1x768x128 : Shape := ⟨3, ![1, 768, 128]⟩
abbrev S256x1024 : Shape := ⟨2, ![256, 1024]⟩
abbrev S1024x256 : Shape := ⟨2, ![1024, 256]⟩
abbrev S1024x128 : Shape := ⟨2, ![1024, 128]⟩
abbrev S1x1024x128 : Shape := ⟨3, ![1, 1024, 128]⟩
abbrev S256x1280 : Shape := ⟨2, ![256, 1280]⟩
abbrev S1280x256 : Shape := ⟨2, ![1280, 256]⟩
abbrev S1280x128 : Shape := ⟨2, ![1280, 128]⟩
abbrev S1x1280x128 : Shape := ⟨3, ![1, 1280, 128]⟩
abbrev S256x1536 : Shape := ⟨2, ![256, 1536]⟩
abbrev S1536x256 : Shape := ⟨2, ![1536, 256]⟩
abbrev S1536x128 : Shape := ⟨2, ![1536, 128]⟩
abbrev S1x1536x128 : Shape := ⟨3, ![1, 1536, 128]⟩
abbrev S256x1792 : Shape := ⟨2, ![256, 1792]⟩
abbrev S1792x256 : Shape := ⟨2, ![1792, 256]⟩
abbrev S1792x128 : Shape := ⟨2, ![1792, 128]⟩
abbrev S1x1792x128 : Shape := ⟨3, ![1, 1792, 128]⟩
abbrev S256x2048 : Shape := ⟨2, ![256, 2048]⟩
abbrev S1x2048x512 : Shape := ⟨3, ![1, 2048, 512]⟩
abbrev S8x2048x4x32 : Shape := ⟨4, ![8, 2048, 4, 32]⟩

abbrev nBuf : Space → Nat
  | .hbm => 69
  | .vmem => 25
  | .smem => 0
  | _ => 0

abbrev bufTy : (tb : Table) → Fin (tcTables nBuf tb) → BufTy
  | .hbm, ⟨0, _⟩ => ⟨S2048x16x64, .f32⟩
  | .hbm, ⟨1, _⟩ => ⟨S2048x16x32, .f32⟩
  | .hbm, ⟨2, _⟩ => ⟨S2048x16x64, .f32⟩
  | .hbm, ⟨3, _⟩ => ⟨S2048x16x64, .f32⟩
  | .hbm, ⟨4, _⟩ => ⟨S2048x32, .f32⟩
  | .hbm, ⟨5, _⟩ => ⟨S2048x16x64, .f32⟩
  | .hbm, ⟨6, _⟩ => ⟨S16x2048x2048, .f32⟩
  | .hbm, ⟨7, _⟩ => ⟨S2048x2048x16, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S2048, .i32⟩
  | .hbm, ⟨14, _⟩ => ⟨S2048x1, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S16x2048x2048, .i1⟩
  | .hbm, ⟨22, _⟩ => ⟨S16x2048x2048, .f32⟩
  | .hbm, ⟨23, _⟩ => ⟨S16x2048x2048, .f32⟩
  | .hbm, ⟨24, _⟩ => ⟨S_, .f32⟩
  | .hbm, ⟨25, _⟩ => ⟨S16x2048, .f32⟩
  | .hbm, ⟨26, _⟩ => ⟨S_, .f32⟩
  | .hbm, ⟨27, _⟩ => ⟨S16x2048, .f32⟩
  | .hbm, ⟨28, _⟩ => ⟨S16x2048, .f32⟩
  | .hbm, ⟨29, _⟩ => ⟨S16x2048x1, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048, .f32⟩
  | .hbm, ⟨35, _⟩ => ⟨S16x2048x1, .f32⟩
  | .hbm, ⟨36, _⟩ => ⟨S16x2048x2048, .f32⟩
  | .hbm, ⟨37, _⟩ => ⟨S16x2048x2048, .f32⟩
  | .hbm, ⟨38, _⟩ => ⟨S16x64x2048, .f32⟩
  | .hbm, ⟨39, _⟩ => ⟨S2048x16x64, .f32⟩
  | .hbm, ⟨40, _⟩ => ⟨S2048x1024, .f32⟩
  | .hbm, ⟨41, _⟩ => ⟨S2048x1024, .f32⟩
  | .hbm, ⟨42, _⟩ => ⟨S2048x512, .f32⟩
  | .hbm, ⟨43, _⟩ => ⟨S2048x1536, .f32⟩
  | .hbm, ⟨44, _⟩ => ⟨S2048x1024, .f32⟩
  | .hbm, ⟨45, _⟩ => ⟨S2048x1024, .f32⟩
  | .hbm, ⟨46, _⟩ => ⟨S2048x2048, .f32⟩
  | .hbm, ⟨47, _⟩ => ⟨S2048x512, .f32⟩
  | .hbm, ⟨48, _⟩ => ⟨S1x2048x1x32, .f32⟩
  | .hbm, ⟨49, _⟩ => ⟨S1x2048x4x32, .f32⟩
  | .hbm, ⟨50, _⟩ => ⟨S2048x128, .f32⟩
  | .hbm, ⟨51, _⟩ => ⟨S2048x1024, .f32⟩
  | .hbm, ⟨52, _⟩ => ⟨S2048x1024, .bf16⟩
  | .hbm, ⟨53, _⟩ => ⟨S2x2048x512, .f32⟩
  | .hbm, ⟨54, _⟩ => ⟨S2048x1024, .f32⟩
  | .hbm, ⟨55, _⟩ => ⟨S2048x1024, .f32⟩
  | .hbm, ⟨56, _⟩ => ⟨S8x2048x128, .f32⟩
  | .hbm, ⟨57, _⟩ => ⟨S2048x16x64, .bf16⟩
  | .hbm, ⟨58, _⟩ => ⟨S1x2048x512, .f32⟩
  | .hbm, ⟨59, _⟩ => ⟨S2048x512, .f32⟩
  | .hbm, ⟨60, _⟩ => ⟨S1x2048x512, .f32⟩
  | .hbm, ⟨61, _⟩ => ⟨S2048x512, .f32⟩
  | .hbm, ⟨62, _⟩ => ⟨S2048x512, .f32⟩
  | .hbm, ⟨63, _⟩ => ⟨S2048x16x32, .f32⟩
  | .hbm, ⟨64, _⟩ => ⟨S2048x16x64, .f32⟩
  | .hbm, ⟨65, _⟩ => ⟨S2048x16x64, .f32⟩
  | .hbm, ⟨66, _⟩ => ⟨S8x2048x4x32, .f32⟩
  | .hbm, ⟨67, _⟩ => ⟨S_, .f32⟩
  | .hbm, ⟨68, _⟩ => ⟨S2048x32, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .bf16⟩
  | .local _ .vmem, ⟨14, _⟩ => ⟨S2048x128, .bf16⟩
  | .local _ .vmem, ⟨15, _⟩ => ⟨S1x2048x128, .f32⟩
  | .local _ .vmem, ⟨16, _⟩ => ⟨S1x2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S1x2048x128, .f32⟩
  | .local _ .vmem, ⟨22, _⟩ => ⟨S1x2048x128, .f32⟩
  | .local _ .vmem, ⟨23, _⟩ => ⟨S2048x256, .bf16⟩
  | .local _ .vmem, ⟨24, _⟩ => ⟨S2048x128, .bf16⟩
  | _, _ => ⟨S2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38_0 : Ref sig .tc := ⟨.hbm, 52, rfl⟩
abbrev main_v38_1 : Ref sig .tc := ⟨.hbm, 53, rfl⟩
abbrev main_v38_2 : Ref sig .tc := ⟨.hbm, 54, rfl⟩
abbrev main_v38_3 : Ref sig .tc := ⟨.hbm, 55, rfl⟩
abbrev main_v38_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2048x16x64 : Shape := ⟨3, ![2048, 16, 64]⟩
abbrev S2048x16x32 : Shape := ⟨3, ![2048, 16, 32]⟩
abbrev S2048x32 : Shape := ⟨2, ![2048, 32]⟩
abbrev S16x2048x2048 : Shape := ⟨3, ![16, 2048, 2048]⟩
abbrev S2048x2048x16 : Shape := ⟨3, ![2048, 2048, 16]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x2048 : Shape := ⟨2, ![16, 2048]⟩
abbrev S16x2048x1 : Shape := ⟨3, ![16, 2048, 1]⟩
abbrev S16x64x2048 : Shape := ⟨3, ![16, 64, 2048]⟩
abbrev S16x2048x64 : Shape := ⟨3, ![16, 2048, 64]⟩

abbrev nBuf : Space → Nat
  | .hbm => 98
  | .vmem => 0
  | .smem => 0
  | _ => 0

abbrev bufTy : (tb : Table) → Fin (tcTables nBuf tb) → BufTy
  | .hbm, ⟨0, _⟩ => ⟨S2048x16x64, .f32⟩
  | .hbm, ⟨1, _⟩ => ⟨S2048x16x32, .f32⟩
  | .hbm, ⟨2, _⟩ => ⟨S2048x16x64, .f32⟩
  | .hbm, ⟨3, _⟩ => ⟨S2048x16x64, .f32⟩
  | .hbm, ⟨4, _⟩ => ⟨S2048x32, .f32⟩
  | .hbm, ⟨5, _⟩ => ⟨S2048x16x64, .f32⟩
  | .hbm, ⟨6, _⟩ => ⟨S16x2048x2048, .f32⟩
  | .hbm, ⟨7, _⟩ => ⟨S2048x2048x16, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S2048, .i32⟩
  | .hbm, ⟨14, _⟩ => ⟨S2048x1, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S16x2048x2048, .i1⟩
  | .hbm, ⟨22, _⟩ => ⟨S16x2048x2048, .f32⟩
  | .hbm, ⟨23, _⟩ => ⟨S16x2048x2048, .f32⟩
  | .hbm, ⟨24, _⟩ => ⟨S_, .f32⟩
  | .hbm, ⟨25, _⟩ => ⟨S16x2048x2048, .f32⟩
  | .hbm, ⟨26, _⟩ => ⟨S_, .f32⟩
  | .hbm, ⟨27, _⟩ => ⟨S16x2048, .f32⟩
  | .hbm, ⟨28, _⟩ => ⟨S16x2048x1, .f32⟩
  | .hbm, ⟨29, _⟩ => ⟨S16x2048x2048, .f32⟩
  | .hbm, ⟨30, _⟩ => ⟨S16x2048x2048, .i1⟩
  | .hbm, ⟨31, _⟩ => ⟨S16x2048x2048, .f32⟩
  | .hbm, ⟨32, _⟩ => ⟨S_, .f32⟩
  | .hbm, ⟨33, _⟩ => ⟨S16x2048, .f32⟩
  | .hbm, ⟨34, _⟩ => ⟨S_, .f32⟩
  | .hbm, ⟨35, _⟩ => ⟨S16x2048, .f32⟩
  | .hbm, ⟨36, _⟩ => ⟨S16x2048, .f32⟩
  | .hbm, ⟨37, _⟩ => ⟨S_, .f32⟩
  | .hbm, ⟨38, _⟩ => ⟨S16x2048, .f32⟩
  | .hbm, ⟨39, _⟩ => ⟨S16x2048, .i1⟩
  | .hbm, ⟨40, _⟩ => ⟨S_, .f32⟩
  | .hbm, ⟨41, _⟩ => ⟨S16x2048, .f32⟩
  | .hbm, ⟨42, _⟩ => ⟨S16x2048, .i1⟩
  | .hbm, ⟨43, _⟩ => ⟨S_, .f32⟩
  | .hbm, ⟨44, _⟩ => ⟨S16x2048, .f32⟩
  | .hbm, ⟨45, _⟩ => ⟨S_, .f32⟩
  | .hbm, ⟨46, _⟩ => ⟨S16x2048, .f32⟩
  | .hbm, ⟨47, _⟩ => ⟨S_, .f32⟩
  | .hbm, ⟨48, _⟩ => ⟨S16x2048, .f32⟩
  | .hbm, ⟨49, _⟩ => ⟨S16x2048, .f32⟩
  | .hbm, ⟨50, _⟩ => ⟨S16x2048, .f32⟩
  | .hbm, ⟨51, _⟩ => ⟨S16x2048x1, .f32⟩
  | .hbm, ⟨52, _⟩ => ⟨S16x2048x2048, .f32⟩
  | .hbm, ⟨53, _⟩ => ⟨S16x2048x2048, .f32⟩
  | .hbm, ⟨54, _⟩ => ⟨S16x2048x2048, .f32⟩
  | .hbm, ⟨55, _⟩ => ⟨S_, .f32⟩
  | .hbm, ⟨56, _⟩ => ⟨S16x2048, .f32⟩
  | .hbm, ⟨57, _⟩ => ⟨S16x2048x1, .f32⟩
  | .hbm, ⟨58, _⟩ => ⟨S16x2048x2048, .f32⟩
  | .hbm, ⟨59, _⟩ => ⟨S16x2048x2048, .f32⟩
  | .hbm, ⟨60, _⟩ => ⟨S16x2048x1, .f32⟩
  | .hbm, ⟨61, _⟩ => ⟨S_, .f32⟩
  | .hbm, ⟨62, _⟩ => ⟨S16x2048x1, .f32⟩
  | .hbm, ⟨63, _⟩ => ⟨S16x2048x1, .f32⟩
  | .hbm, ⟨64, _⟩ => ⟨S16x64x2048, .f32⟩
  | .hbm, ⟨65, _⟩ => ⟨S2048x16x64, .f32⟩
  | .hbm, ⟨66, _⟩ => ⟨S16x64x2048, .f32⟩
  | .hbm, ⟨67, _⟩ => ⟨S16x2048x2048, .f32⟩
  | .hbm, ⟨68, _⟩ => ⟨S16x64x2048, .f32⟩
  | .hbm, ⟨69, _⟩ => ⟨S2048x16x64, .f32⟩
  | .hbm, ⟨70, _⟩ => ⟨S16x2048x2048, .f32⟩
  | .hbm, ⟨71, _⟩ => ⟨S16x2048x2048, .f32⟩
  | .hbm, ⟨72, _⟩ => ⟨S16x2048x2048, .f32⟩
  | .hbm, ⟨73, _⟩ => ⟨S_, .f32⟩
  | .hbm, ⟨74, _⟩ => ⟨S16x2048, .f32⟩
  | .hbm, ⟨75, _⟩ => ⟨S16x2048x1, .f32⟩
  | .hbm, ⟨76, _⟩ => ⟨S16x2048x1, .f32⟩
  | .hbm, ⟨77, _⟩ => ⟨S16x2048x2048, .f32⟩
  | .hbm, ⟨78, _⟩ => ⟨S16x2048x2048, .f32⟩
  | .hbm, ⟨79, _⟩ => ⟨S_, .f32⟩
  | .hbm, ⟨80, _⟩ => ⟨S16x2048, .f32⟩
  | .hbm, ⟨81, _⟩ => ⟨S16x2048x2048, .f32⟩
  | .hbm, ⟨82, _⟩ => ⟨S16x2048x2048, .f32⟩
  | .hbm, ⟨83, _⟩ => ⟨S16x2048x2048, .f32⟩
  | .hbm, ⟨84, _⟩ => ⟨S_, .f32⟩
  | .hbm, ⟨85, _⟩ => ⟨S16x2048x2048, .f32⟩
  | .hbm, ⟨86, _⟩ => ⟨S16x2048x2048, .f32⟩
  | .hbm, ⟨87, _⟩ => ⟨S_, .f32⟩
  | .hbm, ⟨88, _⟩ => ⟨S16x2048x2048, .f32⟩
  | .hbm, ⟨89, _⟩ => ⟨S16x2048x2048, .f32⟩
  | .hbm, ⟨90, _⟩ => ⟨S2048x2048x16, .f32⟩
  | .hbm, ⟨91, _⟩ => ⟨S2048x16x32, .f32⟩
  | .hbm, ⟨92, _⟩ => ⟨S2048x32, .f32⟩
  | .hbm, ⟨93, _⟩ => ⟨S16x2048x64, .f32⟩
  | .hbm, ⟨94, _⟩ => ⟨S2048x16x64, .f32⟩
  | .hbm, ⟨95, _⟩ => ⟨S16x2048x64, .f32⟩
  | .hbm, ⟨96, _⟩ => ⟨S2048x16x64, .f32⟩
  | .hbm, ⟨97, _⟩ => ⟨S2048x16x64, .bf16⟩
  | _, _ => ⟨S2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_v12_1 : Ref sig .tc := ⟨.hbm, 21, rfl⟩
abbrev main_call0_v2 : Ref sig .tc := ⟨.hbm, 22, rfl⟩
abbrev main_v12_0 : Ref sig .tc := ⟨.hbm, 23, rfl⟩
abbrev main_call0_cst : Ref sig .tc := ⟨.hbm, 24, rfl⟩
abbrev main_v12_2 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Kernel2.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩
abbrev S512x2816 : Shape := ⟨2, ![512, 2816]⟩
abbrev S512x1024 : Shape := ⟨2, ![512, 1024]⟩
abbrev S2048x1408 : Shape := ⟨2, ![2048, 1408]⟩
abbrev S_ : Shape := ⟨0, ![]⟩

abbrev nBuf : Space → Nat
  | .hbm => 30
  | .vmem => 62
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x1024, .bf16⟩
  | .hbm, ⟨6, _⟩ => ⟨S2048x1024, .bf16⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S2048x2816, .bf16⟩
  | .hbm, ⟨13, _⟩ => ⟨S2048x2816, .bf16⟩
  | .hbm, ⟨14, _⟩ => ⟨S2048x2816, .bf16⟩
  | .hbm, ⟨15, _⟩ => ⟨S2048x1024, .f32⟩
  | .hbm, ⟨16, _⟩ => ⟨S2048x2816, .bf16⟩
  | .hbm, ⟨17, _⟩ => ⟨S2048x2816, .bf16⟩
  | .hbm, ⟨18, _⟩ => ⟨S2816x1024, .bf16⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2816x1024, .bf16⟩
  | .hbm, ⟨25, _⟩ => ⟨S2816x1024, .bf16⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .bf16⟩
  | .local _ .vmem, ⟨7, _⟩ => ⟨S1024x1024, .bf16⟩
  | .local _ .vmem, ⟨8, _⟩ => ⟨S1408x1024, .bf16⟩
  | .local _ .vmem, ⟨9, _⟩ => ⟨S1408x1024, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S1024x1408, .bf16⟩
  | .local _ .vmem, ⟨16, _⟩ => ⟨S512x2816, .bf16⟩
  | .local _ .vmem, ⟨17, _⟩ => ⟨S512x2816, .bf16⟩
  | .local _ .vmem, ⟨18, _⟩ => ⟨S2816x1024, .bf16⟩
  | .local _ .vmem, ⟨19, _⟩ => ⟨S512x1024, .f32⟩
  | .local _ .vmem, ⟨20, _⟩ => ⟨S512x1024, .f32⟩
  | .local _ .vmem, ⟨21, _⟩ => ⟨S1024x1024, .bf16⟩
  | .local _ .vmem, ⟨22, _⟩ => ⟨S1024x1024, .bf16⟩
  | .local _ .vmem, ⟨23, _⟩ => ⟨S1408x1024, .bf16⟩
  | .local _ .vmem, ⟨24, _⟩ => ⟨S1408x1024, .bf16⟩
  | .local _ .vmem, ⟨25, _⟩ => ⟨S1024x1408, .bf16⟩
  | .local _ .vmem, ⟨26, _⟩ => ⟨S1024x1408, .bf16⟩
  | .local _ .vmem, ⟨27, _⟩ => ⟨S1024x1408, .bf16⟩
  | .local _ .vmem, ⟨28, _⟩ => ⟨S1024x1408, .bf16⟩
  | .local _ .vmem, ⟨29, _⟩ => ⟨S1024x1408, .bf16⟩
  | .local _ .vmem, ⟨30, _⟩ => ⟨S1024x1408, .bf16⟩
  | .local _ .vmem, ⟨31, _⟩ => ⟨S1024x1408, .bf16⟩
  | .local _ .vmem, ⟨32, _⟩ => ⟨S1024x1408, .bf16⟩
  | .local _ .vmem, ⟨33, _⟩ => ⟨S2048x1408, .bf16⟩
  | .local _ .vmem, ⟨34, _⟩ => ⟨S2048x1408, .bf16⟩
  | .local _ .vmem, ⟨35, _⟩ => ⟨S2048x1024, .bf16⟩
  | .local _ .vmem, ⟨36, _⟩ => ⟨S1408x1024, .bf16⟩
  | .local _ .vmem, ⟨37, _⟩ => ⟨S1408x1024, .bf16⟩
  | .local _ .vmem, ⟨38, _⟩ => ⟨S512x2816, .bf16⟩
  | .local _ .vmem, ⟨39, _⟩ => ⟨S512x2816, .bf16⟩
  | .local _ .vmem, ⟨40, _⟩ => ⟨S2816x1024, .bf16⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x2816, .bf16⟩
  | .local _ .vmem, ⟨46, _⟩ => ⟨S512x2816, .bf16⟩
  | .local _ .vmem, ⟨47, _⟩ => ⟨S2816x1024, .bf16⟩
  | .local _ .vmem, ⟨48, _⟩ => ⟨S512x1024, .f32⟩
  | .local _ .vmem, ⟨49, _⟩ => ⟨S512x1024, .f32⟩
  | .local _ .vmem, ⟨50, _⟩ => ⟨S512x1024, .f32⟩
  | .local _ .vmem, ⟨51, _⟩ => ⟨S512x1024, .f32⟩
  | .local _ .vmem, ⟨52, _⟩ => ⟨S2048x1408, .bf16⟩
  | .local _ .vmem, ⟨53, _⟩ => ⟨S2048x1408, .bf16⟩
  | .local _ .vmem, ⟨54, _⟩ => ⟨S2048x1024, .bf16⟩
  | .local _ .vmem, ⟨55, _⟩ => ⟨S1408x1024, .bf16⟩
  | .local _ .vmem, ⟨56, _⟩ => ⟨S1408x1024, .bf16⟩
  | .local _ .vmem, ⟨57, _⟩ => ⟨S2048x1408, .bf16⟩
  | .local _ .vmem, ⟨58, _⟩ => ⟨S2048x1408, .bf16⟩
  | .local _ .vmem, ⟨59, _⟩ => ⟨S2048x1024, .bf16⟩
  | .local _ .vmem, ⟨60, _⟩ => ⟨S1408x1024, .bf16⟩
  | .local _ .vmem, ⟨61, _⟩ => ⟨S1408x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg3_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg2_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg2_0 : Ref sig .tc := ⟨.vmem, 60, rfl⟩
abbrev cc8_stg2_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem4_1 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem2_1 : DmaSem sig := 42
abbrev cc5_sem3_0 : DmaSem sig := 43
abbrev cc5_sem3_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem2_1 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem2_1 : DmaSem sig := 56
abbrev cc8_sem0_0 : DmaSem sig := 57
abbrev cc8_sem0_1 : DmaSem sig := 58
abbrev cc8_sem1_0 : DmaSem sig := 59
abbrev cc8_sem2_0 : DmaSem sig := 60
abbrev cc8_sem2_1 : DmaSem sig := 61

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1408x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1408 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S1024x1408 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1024x1408 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev grid4 : Pipeline.Grid := ⟨3, ![2, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1408x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S512x2816 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S2816x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x2816 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S2816x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨3, ![2, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S2048x1408 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S2048x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1408x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S2048x1408 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S2048x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S1408x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== Reference2Ideal.lean ====
abbrev S2048x1024 : Shape := ⟨2, ![2048, 1024]⟩
abbrev S1024x2816 : Shape := ⟨2, ![1024, 2816]⟩
abbrev S2816x1024 : Shape := ⟨2, ![2816, 1024]⟩
abbrev S_ : Shape := ⟨0, ![]⟩
abbrev S2048x2816 : Shape := ⟨2, ![2048, 2816]⟩

abbrev nBuf : Space → Nat
  | .hbm => 53
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S_, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1024x2816, .f32⟩
  | .hbm, ⟨29, _⟩ => ⟨S2816x1024, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2816x1024, .f32⟩
  | .hbm, ⟨34, _⟩ => ⟨S1024x2816, .f32⟩
  | .hbm, ⟨35, _⟩ => ⟨S2048x1024, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2816x1024, .f32⟩
  | .hbm, ⟨41, _⟩ => ⟨S1024x2816, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2816x1024, .f32⟩
  | .hbm, ⟨49, _⟩ => ⟨S2816x1024, .bf16⟩
  | .hbm, ⟨50, _⟩ => ⟨S2816x1024, .f32⟩
  | .hbm, ⟨51, _⟩ => ⟨S2816x1024, .bf16⟩
  | .hbm, ⟨52, _⟩ => ⟨S2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== Kernel3.lean ====
abbrev S2048x2048 : Shape := ⟨2, ![2048, 2048]⟩
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩
abbrev S1024x2048 : Shape := ⟨2, ![1024, 2048]⟩
abbrev S1024x256 : Shape := ⟨2, ![1024, 256]⟩

abbrev nBuf : Space → Nat
  | .hbm => 27
  | .vmem => 39
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S2048x256, .f32⟩
  | .hbm, ⟨5, _⟩ => ⟨S256x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x2048, .bf16⟩
  | .hbm, ⟨11, _⟩ => ⟨S2048x1024, .bf16⟩
  | .hbm, ⟨12, _⟩ => ⟨S2048x256, .bf16⟩
  | .hbm, ⟨13, _⟩ => ⟨S2048x1024, .bf16⟩
  | .hbm, ⟨14, _⟩ => ⟨S1024x1024, .bf16⟩
  | .hbm, ⟨15, _⟩ => ⟨S256x1024, .bf16⟩
  | .hbm, ⟨16, _⟩ => ⟨S2048x1024, .bf16⟩
  | .hbm, ⟨17, _⟩ => ⟨S2048x1024, .bf16⟩
  | .hbm, ⟨18, _⟩ => ⟨S2048x1024, .bf16⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1024x1024, .bf16⟩
  | .hbm, ⟨24, _⟩ => ⟨S256x1024, .bf16⟩
  | .hbm, ⟨25, _⟩ => ⟨S2048x2048, .f32⟩
  | .hbm, ⟨26, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S2048x1024, .bf16⟩
  | .local _ .vmem, ⟨23, _⟩ => ⟨S2048x1024, .bf16⟩
  | .local _ .vmem, ⟨24, _⟩ => ⟨S1024x1024, .bf16⟩
  | .local _ .vmem, ⟨25, _⟩ => ⟨S2048x256, .bf16⟩
  | .local _ .vmem, ⟨26, _⟩ => ⟨S2048x1024, .bf16⟩
  | .local _ .vmem, ⟨27, _⟩ => ⟨S256x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S1024x1024, .f32⟩
  | .local _ .vmem, ⟨33, _⟩ => ⟨S1024x1024, .f32⟩
  | .local _ .vmem, ⟨34, _⟩ => ⟨S2048x1024, .bf16⟩
  | .local _ .vmem, ⟨35, _⟩ => ⟨S2048x1024, .bf16⟩
  | .local _ .vmem, ⟨36, _⟩ => ⟨S2048x1024, .bf16⟩
  | .local _ .vmem, ⟨37, _⟩ => ⟨S1024x1024, .bf16⟩
  | .local _ .vmem, ⟨38, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg2_0 : Ref sig .tc := ⟨.vmem, 27, rfl⟩
abbrev cc6_stg0_0 : Ref sig .tc := ⟨.vmem, 28, rfl⟩
abbrev cc6_stg0_1 : Ref sig .tc := ⟨.vmem, 29, rfl⟩
abbrev cc6_stg1_0 : Ref sig .tc := ⟨.vmem, 30, rfl⟩
abbrev cc6_stg1_1 : Ref sig .tc := ⟨.vmem, 31, rfl⟩
abbrev cc6_stg2_0 : Ref sig .tc := ⟨.vmem, 32, rfl⟩
abbrev cc6_stg2_1 : Ref sig .tc := ⟨.vmem, 33, rfl⟩
abbrev cc7_stg0_0 : Ref sig .tc := ⟨.vmem, 34, rfl⟩
abbrev cc7_stg0_1 : Ref sig .tc := ⟨.vmem, 35, rfl⟩
abbrev cc7_stg1_0 : Ref sig .tc := ⟨.vmem, 36, rfl⟩
abbrev cc7_stg2_0 : Ref sig .tc := ⟨.vmem, 37, rfl⟩
abbrev cc7_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem1_0 : DmaSem sig := 23
abbrev cc4_sem2_0 : DmaSem sig := 24
abbrev cc5_sem0_0 : DmaSem sig := 25
abbrev cc5_sem1_0 : DmaSem sig := 26
abbrev cc5_sem2_0 : DmaSem sig := 27
abbrev cc6_sem0_0 : DmaSem sig := 28
abbrev cc6_sem0_1 : DmaSem sig := 29
abbrev cc6_sem1_0 : DmaSem sig := 30
abbrev cc6_sem1_1 : DmaSem sig := 31
abbrev cc6_sem2_0 : DmaSem sig := 32
abbrev cc6_sem2_1 : DmaSem sig := 33
abbrev cc7_sem0_0 : DmaSem sig := 34
abbrev cc7_sem0_1 : DmaSem sig := 35
abbrev cc7_sem1_0 : DmaSem sig := 36
abbrev cc7_sem2_0 : DmaSem sig := 37
abbrev cc7_sem2_1 : DmaSem sig := 38

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![1, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S1024x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![1, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2048x256 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 1 → Memref sig .tc .vmem S256x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]

abbrev grid6 : Pipeline.Grid := ⟨3, ![2, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![2, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S2048x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S2048x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== Reference3Ideal.lean ====
abbrev S2048x2048 : Shape := ⟨2, ![2048, 2048]⟩
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩
abbrev S1024x256 : Shape := ⟨2, ![1024, 256]⟩
abbrev S1024x2048 : Shape := ⟨2, ![1024, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S2048x256, .f32⟩
  | .hbm, ⟨5, _⟩ => ⟨S256x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S1024x256, .f32⟩
  | .hbm, ⟨14, _⟩ => ⟨S256x1024, .f32⟩
  | .hbm, ⟨15, _⟩ => ⟨S2048x256, .f32⟩
  | .hbm, ⟨16, _⟩ => ⟨S1024x1024, .f32⟩
  | .hbm, ⟨17, _⟩ => ⟨S1024x1024, .f32⟩
  | .hbm, ⟨18, _⟩ => ⟨S2048x1024, .f32⟩
  | .hbm, ⟨19, _⟩ => ⟨S1024x2048, .f32⟩
  | .hbm, ⟨20, _⟩ => ⟨S2048x1024, .f32⟩
  | .hbm, ⟨21, _⟩ => ⟨S2048x2048, .f32⟩
  | .hbm, ⟨22, _⟩ => ⟨S2048x1024, .bf16⟩
  | .hbm, ⟨23, _⟩ => ⟨S2048x1024, .f32⟩
  | .hbm, ⟨24, _⟩ => ⟨S1024x1024, .bf16⟩
  | .hbm, ⟨25, _⟩ => ⟨S256x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel4.lean ====
abbrev S2048x1024 : Shape := ⟨2, ![2048, 1024]⟩
abbrev S1024x3248 : Shape := ⟨2, ![1024, 3248]⟩
abbrev S2048x1536 : Shape := ⟨2, ![2048, 1536]⟩
abbrev S2048x16 : Shape := ⟨2, ![2048, 16]⟩
abbrev S2048x384 : Shape := ⟨2, ![2048, 384]⟩
abbrev S2048x256 : Shape := ⟨2, ![2048, 256]⟩
abbrev S2048x32 : Shape := ⟨2, ![2048, 32]⟩
abbrev S_ : Shape := ⟨0, ![]⟩
abbrev S8x128 : Shape := ⟨2, ![8, 128]⟩
abbrev S3248x1024 : Shape := ⟨2, ![3248, 1024]⟩
abbrev S1024x1024 : Shape := ⟨2, ![1024, 1024]⟩
abbrev S16x1024 : Shape := ⟨2, ![16, 1024]⟩
abbrev S112x1024 : Shape := ⟨2, ![112, 1024]⟩
abbrev S384x1024 : Shape := ⟨2, ![384, 1024]⟩
abbrev S1536x1024 : Shape := ⟨2, ![1536, 1024]⟩
abbrev S256x1024 : Shape := ⟨2, ![256, 1024]⟩
abbrev S32x1024 : Shape := ⟨2, ![32, 1024]⟩
abbrev S96x1024 : Shape := ⟨2, ![96, 1024]⟩
abbrev S3456x1024 : Shape := ⟨2, ![3456, 1024]⟩
abbrev S2048x3456 : Shape := ⟨2, ![2048, 3456]⟩
abbrev S1152x1024 : Shape := ⟨2, ![1152, 1024]⟩
abbrev S1024x1152 : Shape := ⟨2, ![1024, 1152]⟩
abbrev S2048x112 : Shape := ⟨2, ![2048, 112]⟩
abbrev S2048x128 : Shape := ⟨2, ![2048, 128]⟩
abbrev S2048x96 : Shape := ⟨2, ![2048, 96]⟩
abbrev S2048x1152 : Shape := ⟨2, ![2048, 1152]⟩
abbrev S512x3456 : Shape := ⟨2, ![512, 3456]⟩
abbrev S512x1024 : Shape := ⟨2, ![512, 1024]⟩

abbrev nBuf : Space → Nat
  | .hbm => 54
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S1024x3248, .f32⟩
  | .hbm, ⟨2, _⟩ => ⟨S2048x1024, .f32⟩
  | .hbm, ⟨3, _⟩ => ⟨S2048x1536, .f32⟩
  | .hbm, ⟨4, _⟩ => ⟨S2048x16, .f32⟩
  | .hbm, ⟨5, _⟩ => ⟨S2048x384, .f32⟩
  | .hbm, ⟨6, _⟩ => ⟨S2048x256, .f32⟩
  | .hbm, ⟨7, _⟩ => ⟨S2048x32, .f32⟩
  | .hbm, ⟨8, _⟩ => ⟨S2048x1024, .f32⟩
  | .hbm, ⟨9, _⟩ => ⟨S_, .f32⟩
  | .hbm, ⟨10, _⟩ => ⟨S8x128, .f32⟩
  | .hbm, ⟨11, _⟩ => ⟨S2048x1024, .bf16⟩
  | .hbm, ⟨12, _⟩ => ⟨S3248x1024, .f32⟩
  | .hbm, ⟨13, _⟩ => ⟨S3248x1024, .bf16⟩
  | .hbm, ⟨14, _⟩ => ⟨S1024x1024, .bf16⟩
  | .hbm, ⟨15, _⟩ => ⟨S16x1024, .bf16⟩
  | .hbm, ⟨16, _⟩ => ⟨S_, .bf16⟩
  | .hbm, ⟨17, _⟩ => ⟨S112x1024, .bf16⟩
  | .hbm, ⟨18, _⟩ => ⟨S384x1024, .bf16⟩
  | .hbm, ⟨19, _⟩ => ⟨S1536x1024, .bf16⟩
  | .hbm, ⟨20, _⟩ => ⟨S256x1024, .bf16⟩
  | .hbm, ⟨21, _⟩ => ⟨S32x1024, .bf16⟩
  | .hbm, ⟨22, _⟩ => ⟨S_, .bf16⟩
  | .hbm, ⟨23, _⟩ => ⟨S96x1024, .bf16⟩
  | .hbm, ⟨24, _⟩ => ⟨S3456x1024, .bf16⟩
  | .hbm, ⟨25, _⟩ => ⟨S2048x3456, .f32⟩
  | .hbm, ⟨26, _⟩ => ⟨S_, .f32⟩
  | .hbm, ⟨27, _⟩ => ⟨S2048x112, .f32⟩
  | .hbm, ⟨28, _⟩ => ⟨S2048x128, .f32⟩
  | .hbm, ⟨29, _⟩ => ⟨S_, .f32⟩
  | .hbm, ⟨30, _⟩ => ⟨S2048x96, .f32⟩
  | .hbm, ⟨31, _⟩ => ⟨S2048x128, .f32⟩
  | .hbm, ⟨32, _⟩ => ⟨S2048x1024, .bf16⟩
  | .hbm, ⟨33, _⟩ => ⟨S2048x128, .bf16⟩
  | .hbm, ⟨34, _⟩ => ⟨S2048x384, .bf16⟩
  | .hbm, ⟨35, _⟩ => ⟨S2048x1536, .bf16⟩
  | .hbm, ⟨36, _⟩ => ⟨S2048x256, .bf16⟩
  | .hbm, ⟨37, _⟩ => ⟨S2048x128, .bf16⟩
  | .hbm, ⟨38, _⟩ => ⟨S2048x3456, .bf16⟩
  | .hbm, ⟨39, _⟩ => ⟨S3456x1024, .bf16⟩
  | .hbm, ⟨40, _⟩ => ⟨S2048x1024, .f32⟩
  | .hbm, ⟨41, _⟩ => ⟨S2048x1024, .f32⟩
  | .hbm, ⟨42, _⟩ => ⟨S2048x1536, .f32⟩
  | .hbm, ⟨43, _⟩ => ⟨S2048x16, .f32⟩
  | .hbm, ⟨44, _⟩ => ⟨S2048x384, .f32⟩
  | .hbm, ⟨45, _⟩ => ⟨S2048x256, .f32⟩
  | .hbm, ⟨46, _⟩ => ⟨S2048x32, .f32⟩
  | .hbm, ⟨47, _⟩ => ⟨S1024x1024, .bf16⟩
  | .hbm, ⟨48, _⟩ => ⟨S1536x1024, .bf16⟩
  | .hbm, ⟨49, _⟩ => ⟨S16x1024, .bf16⟩
  | .hbm, ⟨50, _⟩ => ⟨S384x1024, .bf16⟩
  | .hbm, ⟨51, _⟩ => ⟨S256x1024, .bf16⟩
  | .hbm, ⟨52, _⟩ => ⟨S32x1024, .bf16⟩
  | .hbm, ⟨53, _⟩ => ⟨S3248x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1024x1152, .f32⟩
  | .local _ .vmem, ⟨5, _⟩ => ⟨S1024x1152, .f32⟩
  | .local _ .vmem, ⟨6, _⟩ => ⟨S2048x1152, .bf16⟩
  | .local _ .vmem, ⟨7, _⟩ => ⟨S2048x1152, .bf16⟩
  | .local _ .vmem, ⟨8, _⟩ => ⟨S2048x1024, .bf16⟩
  | .local _ .vmem, ⟨9, _⟩ => ⟨S1152x1024, .bf16⟩
  | .local _ .vmem, ⟨10, _⟩ => ⟨S1152x1024, .bf16⟩
  | .local _ .vmem, ⟨11, _⟩ => ⟨S512x3456, .bf16⟩
  | .local _ .vmem, ⟨12, _⟩ => ⟨S512x3456, .bf16⟩
  | .local _ .vmem, ⟨13, _⟩ => ⟨S3456x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![3, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1152 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1152x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x3456 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S3456x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]
-- ==== Reference4Ideal.lean ====
abbrev S2048x1024 : Shape := ⟨2, ![2048, 1024]⟩
abbrev S1024x3248 : Shape := ⟨2, ![1024, 3248]⟩
abbrev S2048x1536 : Shape := ⟨2, ![2048, 1536]⟩
abbrev S2048x16 : Shape := ⟨2, ![2048, 16]⟩
abbrev S2048x384 : Shape := ⟨2, ![2048, 384]⟩
abbrev S2048x256 : Shape := ⟨2, ![2048, 256]⟩
abbrev S2048x32 : Shape := ⟨2, ![2048, 32]⟩
abbrev S2048x3248 : Shape := ⟨2, ![2048, 3248]⟩
abbrev S3248x1024 : Shape := ⟨2, ![3248, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3248, .f32⟩
  | .hbm, ⟨2, _⟩ => ⟨S2048x1024, .f32⟩
  | .hbm, ⟨3, _⟩ => ⟨S2048x1536, .f32⟩
  | .hbm, ⟨4, _⟩ => ⟨S2048x16, .f32⟩
  | .hbm, ⟨5, _⟩ => ⟨S2048x384, .f32⟩
  | .hbm, ⟨6, _⟩ => ⟨S2048x256, .f32⟩
  | .hbm, ⟨7, _⟩ => ⟨S2048x32, .f32⟩
  | .hbm, ⟨8, _⟩ => ⟨S2048x1024, .f32⟩
  | .hbm, ⟨9, _⟩ => ⟨S2048x3248, .f32⟩
  | .hbm, ⟨10, _⟩ => ⟨S2048x1024, .f32⟩
  | .hbm, ⟨11, _⟩ => ⟨S2048x1536, .f32⟩
  | .hbm, ⟨12, _⟩ => ⟨S2048x16, .f32⟩
  | .hbm, ⟨13, _⟩ => ⟨S2048x384, .f32⟩
  | .hbm, ⟨14, _⟩ => ⟨S2048x256, .f32⟩
  | .hbm, ⟨15, _⟩ => ⟨S2048x32, .f32⟩
  | .hbm, ⟨16, _⟩ => ⟨S2048x3248, .f32⟩
  | .hbm, ⟨17, _⟩ => ⟨S3248x1024, .f32⟩
  | .hbm, ⟨18, _⟩ => ⟨S1024x3248, .f32⟩
  | .hbm, ⟨19, _⟩ => ⟨S2048x1024, .f32⟩
  | .hbm, ⟨20, _⟩ => ⟨S2048x1024, .f32⟩
  | .hbm, ⟨21, _⟩ => ⟨S3248x1024, .f32⟩
  | .hbm, ⟨22, _⟩ => ⟨S3248x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel5.lean ====
abbrev S2048x16x64 : Shape := ⟨3, ![2048, 16, 64]⟩
abbrev S2048x16x32 : Shape := ⟨3, ![2048, 16, 32]⟩
abbrev S2048x32 : Shape := ⟨2, ![2048, 32]⟩
abbrev S2048x1024 : Shape := ⟨2, ![2048, 1024]⟩
abbrev S2048x512 : Shape := ⟨2, ![2048, 512]⟩
abbrev S2048x1536 : Shape := ⟨2, ![2048, 1536]⟩
abbrev S2048x2048 : Shape := ⟨2, ![2048, 2048]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x256 : Shape := ⟨2, ![2048, 256]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S256x512 : Shape := ⟨2, ![256, 512]⟩
abbrev S512x256 : Shape := ⟨2, ![512, 256]⟩
abbrev S512x128 : Shape := ⟨2, ![512, 128]⟩
abbrev S256x768 : Shape := ⟨2, ![256, 768]⟩
abbrev S768x256 : Shape := ⟨2, ![768, 256]⟩
abbrev S768x128 : Shape := ⟨2, ![768, 128]⟩
abbrev S256x1024 : Shape := ⟨2, ![256, 1024]⟩
abbrev S1024x256 : Shape := ⟨2, ![1024, 256]⟩
abbrev S1024x128 : Shape := ⟨2, ![1024, 128]⟩
abbrev S256x1280 : Shape := ⟨2, ![256, 1280]⟩
abbrev S1280x256 : Shape := ⟨2, ![1280, 256]⟩
abbrev S1280x128 : Shape := ⟨2, ![1280, 128]⟩
abbrev S256x1536 : Shape := ⟨2, ![256, 1536]⟩
abbrev S1536x256 : Shape := ⟨2, ![1536, 256]⟩
abbrev S1536x128 : Shape := ⟨2, ![1536, 128]⟩
abbrev S256x1792 : Shape := ⟨2, ![256, 1792]⟩
abbrev S1792x256 : Shape := ⟨2, ![1792, 256]⟩
abbrev S1792x128 : Shape := ⟨2, ![1792, 128]⟩
abbrev S256x2048 : Shape := ⟨2, ![256, 2048]⟩

abbrev nBuf : Space → Nat
  | .hbm => 16
  | .vmem => 13
  | .smem => 0
  | _ => 0

abbrev bufTy : (tb : Table) → Fin (tcTables nBuf tb) → BufTy
  | .hbm, ⟨0, _⟩ => ⟨S2048x16x64, .f32⟩
  | .hbm, ⟨1, _⟩ => ⟨S2048x16x32, .f32⟩
  | .hbm, ⟨2, _⟩ => ⟨S2048x16x64, .f32⟩
  | .hbm, ⟨3, _⟩ => ⟨S2048x16x64, .f32⟩
  | .hbm, ⟨4, _⟩ => ⟨S2048x32, .f32⟩
  | .hbm, ⟨5, _⟩ => ⟨S2048x1024, .f32⟩
  | .hbm, ⟨6, _⟩ => ⟨S2048x512, .f32⟩
  | .hbm, ⟨7, _⟩ => ⟨S2048x1536, .f32⟩
  | .hbm, ⟨8, _⟩ => ⟨S2048x1024, .f32⟩
  | .hbm, ⟨9, _⟩ => ⟨S2048x1024, .f32⟩
  | .hbm, ⟨10, _⟩ => ⟨S2048x2048, .f32⟩
  | .hbm, ⟨11, _⟩ => ⟨S2048x512, .f32⟩
  | .hbm, ⟨12, _⟩ => ⟨S1x2048x1x32, .f32⟩
  | .hbm, ⟨13, _⟩ => ⟨S1x2048x4x32, .f32⟩
  | .hbm, ⟨14, _⟩ => ⟨S2048x128, .f32⟩
  | .hbm, ⟨15, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x256, .bf16⟩
  | .local _ .vmem, ⟨12, _⟩ => ⟨S2048x128, .bf16⟩
  | _, _ => ⟨S2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S2048x16x64 : Shape := ⟨3, ![2048, 16, 64]⟩
abbrev S2048x16x32 : Shape := ⟨3, ![2048, 16, 32]⟩
abbrev S2048x32 : Shape := ⟨2, ![2048, 32]⟩
abbrev S16x2048x2048 : Shape := ⟨3, ![16, 2048, 2048]⟩
abbrev S2048x2048x16 : Shape := ⟨3, ![2048, 2048, 16]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x2048 : Shape := ⟨2, ![16, 2048]⟩
abbrev S16x2048x1 : Shape := ⟨3, ![16, 2048, 1]⟩
abbrev S16x64x2048 : Shape := ⟨3, ![16, 64, 2048]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2048x16x64, .f32⟩
  | .hbm, ⟨1, _⟩ => ⟨S2048x16x32, .f32⟩
  | .hbm, ⟨2, _⟩ => ⟨S2048x16x64, .f32⟩
  | .hbm, ⟨3, _⟩ => ⟨S2048x16x64, .f32⟩
  | .hbm, ⟨4, _⟩ => ⟨S2048x32, .f32⟩
  | .hbm, ⟨5, _⟩ => ⟨S16x2048x2048, .f32⟩
  | .hbm, ⟨6, _⟩ => ⟨S2048x2048x16, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S2048, .i32⟩
  | .hbm, ⟨13, _⟩ => ⟨S2048x1, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .f32⟩
  | .hbm, ⟨19, _⟩ => ⟨S_, .f32⟩
  | .hbm, ⟨20, _⟩ => ⟨S16x2048x2048, .i1⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048, .f32⟩
  | .hbm, ⟨25, _⟩ => ⟨S_, .f32⟩
  | .hbm, ⟨26, _⟩ => ⟨S16x2048, .f32⟩
  | .hbm, ⟨27, _⟩ => ⟨S16x2048, .f32⟩
  | .hbm, ⟨28, _⟩ => ⟨S16x2048x1, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S16x2048x2048, .f32⟩
  | .hbm, ⟨36, _⟩ => ⟨S16x2048x2048, .f32⟩
  | .hbm, ⟨37, _⟩ => ⟨S16x64x2048, .f32⟩
  | .hbm, ⟨38, _⟩ => ⟨S2048x16x64, .f32⟩
  | .hbm, ⟨39, _⟩ => ⟨S2048x1024, .f32⟩
  | _, _ => ⟨S2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel6.lean ====
abbrev S2048x384 : Shape := ⟨2, ![2048, 384]⟩
abbrev S384x1536 : Shape := ⟨2, ![384, 1536]⟩
abbrev S2048x256 : Shape := ⟨2, ![2048, 256]⟩
abbrev S256x2048 : Shape := ⟨2, ![256, 2048]⟩
abbrev S2048x16x64 : Shape := ⟨3, ![2048, 16, 64]⟩
abbrev S2048x16x32 : Shape := ⟨3, ![2048, 16, 32]⟩
abbrev S1536x384 : Shape := ⟨2, ![1536, 384]⟩
abbrev S16x96x384 : Shape := ⟨3, ![16, 96, 384]⟩
abbrev S16x64x384 : Shape := ⟨3, ![16, 64, 384]⟩
abbrev S1024x384 : Shape := ⟨2, ![1024, 384]⟩
abbrev S16x32x384 : Shape := ⟨3, ![16, 32, 384]⟩
abbrev S512x384 : Shape := ⟨2, ![512, 384]⟩
abbrev S256x16x128 : Shape := ⟨3, ![256, 16, 128]⟩
abbrev S256x16x64 : Shape := ⟨3, ![256, 16, 64]⟩
abbrev S256x1024 : Shape := ⟨2, ![256, 1024]⟩
abbrev S2048x1536 : Shape := ⟨2, ![2048, 1536]⟩
abbrev S768x384 : Shape := ⟨2, ![768, 384]⟩
abbrev S1024x768 : Shape := ⟨2, ![1024, 768]⟩
abbrev S2048x2048 : Shape := ⟨2, ![2048, 2048]⟩
abbrev S1024x256 : Shape := ⟨2, ![1024, 256]⟩
abbrev S1024x1024 : Shape := ⟨2, ![1024, 1024]⟩
abbrev S2048x1024 : Shape := ⟨2, ![2048, 1024]⟩
abbrev S2048x512 : Shape := ⟨2, ![2048, 512]⟩
abbrev S1024x1536 : Shape := ⟨2, ![1024, 1536]⟩
abbrev S2048x768 : Shape := ⟨2, ![2048, 768]⟩
abbrev S1024x2048 : Shape := ⟨2, ![1024, 2048]⟩

abbrev nBuf : Space → Nat
  | .hbm => 61
  | .vmem => 32
  | .smem => 0
  | _ => 0

abbrev bufTy : (tb : Table) → Fin (tcTables nBuf tb) → BufTy
  | .hbm, ⟨0, _⟩ => ⟨S2048x384, .f32⟩
  | .hbm, ⟨1, _⟩ => ⟨S384x1536, .f32⟩
  | .hbm, ⟨2, _⟩ => ⟨S2048x256, .f32⟩
  | .hbm, ⟨3, _⟩ => ⟨S256x2048, .f32⟩
  | .hbm, ⟨4, _⟩ => ⟨S2048x16x64, .f32⟩
  | .hbm, ⟨5, _⟩ => ⟨S2048x16x32, .f32⟩
  | .hbm, ⟨6, _⟩ => ⟨S2048x16x64, .f32⟩
  | .hbm, ⟨7, _⟩ => ⟨S2048x16x64, .f32⟩
  | .hbm, ⟨8, _⟩ => ⟨S2048x384, .bf16⟩
  | .hbm, ⟨9, _⟩ => ⟨S2048x256, .bf16⟩
  | .hbm, ⟨10, _⟩ => ⟨S1536x384, .f32⟩
  | .hbm, ⟨11, _⟩ => ⟨S1536x384, .bf16⟩
  | .hbm, ⟨12, _⟩ => ⟨S16x96x384, .bf16⟩
  | .hbm, ⟨13, _⟩ => ⟨S16x64x384, .bf16⟩
  | .hbm, ⟨14, _⟩ => ⟨S1024x384, .bf16⟩
  | .hbm, ⟨15, _⟩ => ⟨S16x32x384, .bf16⟩
  | .hbm, ⟨16, _⟩ => ⟨S512x384, .bf16⟩
  | .hbm, ⟨17, _⟩ => ⟨S1536x384, .bf16⟩
  | .hbm, ⟨18, _⟩ => ⟨S256x2048, .bf16⟩
  | .hbm, ⟨19, _⟩ => ⟨S256x16x128, .bf16⟩
  | .hbm, ⟨20, _⟩ => ⟨S256x16x64, .bf16⟩
  | .hbm, ⟨21, _⟩ => ⟨S256x1024, .bf16⟩
  | .hbm, ⟨22, _⟩ => ⟨S256x16x64, .bf16⟩
  | .hbm, ⟨23, _⟩ => ⟨S256x1024, .bf16⟩
  | .hbm, ⟨24, _⟩ => ⟨S256x2048, .bf16⟩
  | .hbm, ⟨25, _⟩ => ⟨S2048x1536, .f32⟩
  | .hbm, ⟨26, _⟩ => ⟨S2048x2048, .f32⟩
  | .hbm, ⟨27, _⟩ => ⟨S2048x1024, .f32⟩
  | .hbm, ⟨28, _⟩ => ⟨S2048x1024, .bf16⟩
  | .hbm, ⟨29, _⟩ => ⟨S2048x512, .f32⟩
  | .hbm, ⟨30, _⟩ => ⟨S2048x512, .bf16⟩
  | .hbm, ⟨31, _⟩ => ⟨S2048x1536, .bf16⟩
  | .hbm, ⟨32, _⟩ => ⟨S2048x1024, .f32⟩
  | .hbm, ⟨33, _⟩ => ⟨S2048x1024, .bf16⟩
  | .hbm, ⟨34, _⟩ => ⟨S2048x1024, .f32⟩
  | .hbm, ⟨35, _⟩ => ⟨S2048x1024, .bf16⟩
  | .hbm, ⟨36, _⟩ => ⟨S2048x2048, .bf16⟩
  | .hbm, ⟨37, _⟩ => ⟨S2048x384, .f32⟩
  | .hbm, ⟨38, _⟩ => ⟨S1536x384, .bf16⟩
  | .hbm, ⟨39, _⟩ => ⟨S2048x256, .f32⟩
  | .hbm, ⟨40, _⟩ => ⟨S256x2048, .bf16⟩
  | .hbm, ⟨41, _⟩ => ⟨S2048x1024, .f32⟩
  | .hbm, ⟨42, _⟩ => ⟨S2048x16x64, .f32⟩
  | .hbm, ⟨43, _⟩ => ⟨S2048x512, .f32⟩
  | .hbm, ⟨44, _⟩ => ⟨S2048x16x32, .f32⟩
  | .hbm, ⟨45, _⟩ => ⟨S2048x1024, .f32⟩
  | .hbm, ⟨46, _⟩ => ⟨S2048x16x64, .f32⟩
  | .hbm, ⟨47, _⟩ => ⟨S2048x1024, .f32⟩
  | .hbm, ⟨48, _⟩ => ⟨S2048x16x64, .f32⟩
  | .hbm, ⟨49, _⟩ => ⟨S1024x384, .bf16⟩
  | .hbm, ⟨50, _⟩ => ⟨S16x64x384, .bf16⟩
  | .hbm, ⟨51, _⟩ => ⟨S512x384, .bf16⟩
  | .hbm, ⟨52, _⟩ => ⟨S16x32x384, .bf16⟩
  | .hbm, ⟨53, _⟩ => ⟨S16x96x384, .bf16⟩
  | .hbm, ⟨54, _⟩ => ⟨S1536x384, .bf16⟩
  | .hbm, ⟨55, _⟩ => ⟨S256x1024, .bf16⟩
  | .hbm, ⟨56, _⟩ => ⟨S256x16x64, .bf16⟩
  | .hbm, ⟨57, _⟩ => ⟨S256x1024, .bf16⟩
  | .hbm, ⟨58, _⟩ => ⟨S256x16x64, .bf16⟩
  | .hbm, ⟨59, _⟩ => ⟨S256x16x128, .bf16⟩
  | .hbm, ⟨60, _⟩ => ⟨S256x2048, .bf16⟩
  | .local _ .vmem, ⟨0, _⟩ => ⟨S1024x384, .bf16⟩
  | .local _ .vmem, ⟨1, _⟩ => ⟨S1024x384, .bf16⟩
  | .local _ .vmem, ⟨2, _⟩ => ⟨S768x384, .bf16⟩
  | .local _ .vmem, ⟨3, _⟩ => ⟨S768x384, .bf16⟩
  | .local _ .vmem, ⟨4, _⟩ => ⟨S1024x768, .f32⟩
  | .local _ .vmem, ⟨5, _⟩ => ⟨S1024x768, .f32⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1536, .bf16⟩
  | .local _ .vmem, ⟨13, _⟩ => ⟨S1024x1536, .bf16⟩
  | .local _ .vmem, ⟨14, _⟩ => ⟨S1536x384, .bf16⟩
  | .local _ .vmem, ⟨15, _⟩ => ⟨S1024x384, .f32⟩
  | .local _ .vmem, ⟨16, _⟩ => ⟨S1024x384, .f32⟩
  | .local _ .vmem, ⟨17, _⟩ => ⟨S2048x768, .bf16⟩
  | .local _ .vmem, ⟨18, _⟩ => ⟨S2048x768, .bf16⟩
  | .local _ .vmem, ⟨19, _⟩ => ⟨S2048x384, .bf16⟩
  | .local _ .vmem, ⟨20, _⟩ => ⟨S768x384, .bf16⟩
  | .local _ .vmem, ⟨21, _⟩ => ⟨S768x384, .bf16⟩
  | .local _ .vmem, ⟨22, _⟩ => ⟨S1024x2048, .bf16⟩
  | .local _ .vmem, ⟨23, _⟩ => ⟨S1024x2048, .bf16⟩
  | .local _ .vmem, ⟨24, _⟩ => ⟨S256x2048, .bf16⟩
  | .local _ .vmem, ⟨25, _⟩ => ⟨S1024x256, .f32⟩
  | .local _ .vmem, ⟨26, _⟩ => ⟨S1024x256, .f32⟩
  | .local _ .vmem, ⟨27, _⟩ => ⟨S2048x256, .bf16⟩
  | .local _ .vmem, ⟨28, _⟩ => ⟨S2048x1024, .bf16⟩
  | .local _ .vmem, ⟨29, _⟩ => ⟨S2048x1024, .bf16⟩
  | .local _ .vmem, ⟨30, _⟩ => ⟨S256x1024, .bf16⟩
  | .local _ .vmem, ⟨31, _⟩ => ⟨S256x1024, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem1_0 : DmaSem sig := 28
abbrev cc5_sem1_1 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1536 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1536x384 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x768 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x384 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S768x384 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S256x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2048x256 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S256x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference6Ideal.lean ====
abbrev S2048x384 : Shape := ⟨2, ![2048, 384]⟩
abbrev S384x1536 : Shape := ⟨2, ![384, 1536]⟩
abbrev S2048x256 : Shape := ⟨2, ![2048, 256]⟩
abbrev S256x2048 : Shape := ⟨2, ![256, 2048]⟩
abbrev S2048x16x64 : Shape := ⟨3, ![2048, 16, 64]⟩
abbrev S2048x16x32 : Shape := ⟨3, ![2048, 16, 32]⟩
abbrev S2048x1536 : Shape := ⟨2, ![2048, 1536]⟩
abbrev S2048x16x96 : Shape := ⟨3, ![2048, 16, 96]⟩
abbrev S2048x2048 : Shape := ⟨2, ![2048, 2048]⟩
abbrev S2048x16x128 : Shape := ⟨3, ![2048, 16, 128]⟩
abbrev S1536x384 : Shape := ⟨2, ![1536, 384]⟩

abbrev nBuf : Space → Nat
  | .hbm => 29
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S384x1536, .f32⟩
  | .hbm, ⟨2, _⟩ => ⟨S2048x256, .f32⟩
  | .hbm, ⟨3, _⟩ => ⟨S256x2048, .f32⟩
  | .hbm, ⟨4, _⟩ => ⟨S2048x16x64, .f32⟩
  | .hbm, ⟨5, _⟩ => ⟨S2048x16x32, .f32⟩
  | .hbm, ⟨6, _⟩ => ⟨S2048x16x64, .f32⟩
  | .hbm, ⟨7, _⟩ => ⟨S2048x16x64, .f32⟩
  | .hbm, ⟨8, _⟩ => ⟨S2048x1536, .f32⟩
  | .hbm, ⟨9, _⟩ => ⟨S2048x16x96, .f32⟩
  | .hbm, ⟨10, _⟩ => ⟨S2048x2048, .f32⟩
  | .hbm, ⟨11, _⟩ => ⟨S2048x16x128, .f32⟩
  | .hbm, ⟨12, _⟩ => ⟨S2048x16x64, .f32⟩
  | .hbm, ⟨13, _⟩ => ⟨S2048x16x32, .f32⟩
  | .hbm, ⟨14, _⟩ => ⟨S2048x16x64, .f32⟩
  | .hbm, ⟨15, _⟩ => ⟨S2048x16x64, .f32⟩
  | .hbm, ⟨16, _⟩ => ⟨S2048x16x128, .f32⟩
  | .hbm, ⟨17, _⟩ => ⟨S2048x16x96, .f32⟩
  | .hbm, ⟨18, _⟩ => ⟨S2048x2048, .f32⟩
  | .hbm, ⟨19, _⟩ => ⟨S2048x256, .f32⟩
  | .hbm, ⟨20, _⟩ => ⟨S256x2048, .f32⟩
  | .hbm, ⟨21, _⟩ => ⟨S2048x256, .f32⟩
  | .hbm, ⟨22, _⟩ => ⟨S2048x1536, .f32⟩
  | .hbm, ⟨23, _⟩ => ⟨S1536x384, .f32⟩
  | .hbm, ⟨24, _⟩ => ⟨S384x1536, .f32⟩
  | .hbm, ⟨25, _⟩ => ⟨S2048x384, .f32⟩
  | .hbm, ⟨26, _⟩ => ⟨S1536x384, .f32⟩
  | .hbm, ⟨27, _⟩ => ⟨S1536x384, .bf16⟩
  | .hbm, ⟨28, _⟩ => ⟨S256x2048, .bf16⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel7.lean ====
abbrev S2048x1536 : Shape := ⟨2, ![2048, 1536]⟩
abbrev S4x1536 : Shape := ⟨2, ![4, 1536]⟩
abbrev S1x1536 : Shape := ⟨2, ![1, 1536]⟩
abbrev S_ : Shape := ⟨0, ![]⟩
abbrev S2048x384 : Shape := ⟨2, ![2048, 384]⟩
abbrev S2048x3456 : Shape := ⟨2, ![2048, 3456]⟩
abbrev S512x1536 : Shape := ⟨2, ![512, 1536]⟩
abbrev S1536 : Shape := ⟨1, ![1536]⟩

abbrev nBuf : Space → Nat
  | .hbm => 12
  | .vmem => 12
  | .smem => 0
  | _ => 0

abbrev bufTy : (tb : Table) → Fin (tcTables nBuf tb) → BufTy
  | .hbm, ⟨0, _⟩ => ⟨S2048x1536, .f32⟩
  | .hbm, ⟨1, _⟩ => ⟨S4x1536, .f32⟩
  | .hbm, ⟨2, _⟩ => ⟨S1x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S_, .f32⟩
  | .hbm, ⟨7, _⟩ => ⟨S2048x384, .f32⟩
  | .hbm, ⟨8, _⟩ => ⟨S2048x3456, .f32⟩
  | .hbm, ⟨9, _⟩ => ⟨S2048x1536, .f32⟩
  | .hbm, ⟨10, _⟩ => ⟨S4x1536, .f32⟩
  | .hbm, ⟨11, _⟩ => ⟨S1x1536, .f32⟩
  | .local _ .vmem, ⟨0, _⟩ => ⟨S512x1536, .f32⟩
  | .local _ .vmem, ⟨1, _⟩ => ⟨S512x1536, .f32⟩
  | .local _ .vmem, ⟨2, _⟩ => ⟨S512x1536, .f32⟩
  | .local _ .vmem, ⟨3, _⟩ => ⟨S512x1536, .f32⟩
  | .local _ .vmem, ⟨4, _⟩ => ⟨S4x1536, .f32⟩
  | .local _ .vmem, ⟨5, _⟩ => ⟨S1x1536, .f32⟩
  | .local _ .vmem, ⟨6, _⟩ => ⟨S512x1536, .f32⟩
  | .local _ .vmem, ⟨7, _⟩ => ⟨S512x1536, .f32⟩
  | .local _ .vmem, ⟨8, _⟩ => ⟨S512x1536, .f32⟩
  | .local _ .vmem, ⟨9, _⟩ => ⟨S512x1536, .f32⟩
  | .local _ .vmem, ⟨10, _⟩ => ⟨S4x1536, .f32⟩
  | .local _ .vmem, ⟨11, _⟩ => ⟨S1x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S2048x1536 : Shape := ⟨2, ![2048, 1536]⟩
abbrev S4x1536 : Shape := ⟨2, ![4, 1536]⟩
abbrev S1x1536 : Shape := ⟨2, ![1, 1536]⟩
abbrev S_ : Shape := ⟨0, ![]⟩
abbrev S3x1536 : Shape := ⟨2, ![3, 1536]⟩
abbrev S2051x1536 : Shape := ⟨2, ![2051, 1536]⟩
abbrev S1536 : Shape := ⟨1, ![1536]⟩

abbrev nBuf : Space → Nat
  | .hbm => 75
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S4x1536, .f32⟩
  | .hbm, ⟨2, _⟩ => ⟨S1x1536, .f32⟩
  | .hbm, ⟨3, _⟩ => ⟨S2048x1536, .f32⟩
  | .hbm, ⟨4, _⟩ => ⟨S_, .f32⟩
  | .hbm, ⟨5, _⟩ => ⟨S3x1536, .f32⟩
  | .hbm, ⟨6, _⟩ => ⟨S2051x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S1x1536, .f32⟩
  | .hbm, ⟨12, _⟩ => ⟨S2048x1536, .f32⟩
  | .hbm, ⟨13, _⟩ => ⟨S2048x1536, .f32⟩
  | .hbm, ⟨14, _⟩ => ⟨S1x1536, .f32⟩
  | .hbm, ⟨15, _⟩ => ⟨S2048x1536, .f32⟩
  | .hbm, ⟨16, _⟩ => ⟨S2048x1536, .f32⟩
  | .hbm, ⟨17, _⟩ => ⟨S2048x1536, .f32⟩
  | .hbm, ⟨18, _⟩ => ⟨S1x1536, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S1x1536, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S2048x1536, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S_, .f32⟩
  | .hbm, ⟨34, _⟩ => ⟨S2048x1536, .f32⟩
  | .hbm, ⟨35, _⟩ => ⟨S2048x1536, .f32⟩
  | .hbm, ⟨36, _⟩ => ⟨S_, .f32⟩
  | .hbm, ⟨37, _⟩ => ⟨S2048x1536, .f32⟩
  | .hbm, ⟨38, _⟩ => ⟨S2048x1536, .f32⟩
  | .hbm, ⟨39, _⟩ => ⟨S2048x1536, .f32⟩
  | .hbm, ⟨40, _⟩ => ⟨S2048x1536, .f32⟩
  | .hbm, ⟨41, _⟩ => ⟨S2048x1536, .f32⟩
  | .hbm, ⟨42, _⟩ => ⟨S2048x1536, .f32⟩
  | .hbm, ⟨43, _⟩ => ⟨S2048x1536, .f32⟩
  | .hbm, ⟨44, _⟩ => ⟨S2048x1536, .f32⟩
  | .hbm, ⟨45, _⟩ => ⟨S_, .f32⟩
  | .hbm, ⟨46, _⟩ => ⟨S1536, .f32⟩
  | .hbm, ⟨47, _⟩ => ⟨S1x1536, .f32⟩
  | .hbm, ⟨48, _⟩ => ⟨S2048x1536, .f32⟩
  | .hbm, ⟨49, _⟩ => ⟨S_, .f32⟩
  | .hbm, ⟨50, _⟩ => ⟨S1536, .f32⟩
  | .hbm, ⟨51, _⟩ => ⟨S1x1536, .f32⟩
  | .hbm, ⟨52, _⟩ => ⟨S_, .f32⟩
  | .hbm, ⟨53, _⟩ => ⟨S4x1536, .f32⟩
  | .hbm, ⟨54, _⟩ => ⟨S2048x1536, .f32⟩
  | .hbm, ⟨55, _⟩ => ⟨S_, .f32⟩
  | .hbm, ⟨56, _⟩ => ⟨S1536, .f32⟩
  | .hbm, ⟨57, _⟩ => ⟨S1x1536, .f32⟩
  | .hbm, ⟨58, _⟩ => ⟨S_, .f32⟩
  | .hbm, ⟨59, _⟩ => ⟨S4x1536, .f32⟩
  | .hbm, ⟨60, _⟩ => ⟨S4x1536, .f32⟩
  | .hbm, ⟨61, _⟩ => ⟨S2048x1536, .f32⟩
  | .hbm, ⟨62, _⟩ => ⟨S_, .f32⟩
  | .hbm, ⟨63, _⟩ => ⟨S1536, .f32⟩
  | .hbm, ⟨64, _⟩ => ⟨S1x1536, .f32⟩
  | .hbm, ⟨65, _⟩ => ⟨S_, .f32⟩
  | .hbm, ⟨66, _⟩ => ⟨S4x1536, .f32⟩
  | .hbm, ⟨67, _⟩ => ⟨S4x1536, .f32⟩
  | .hbm, ⟨68, _⟩ => ⟨S2048x1536, .f32⟩
  | .hbm, ⟨69, _⟩ => ⟨S_, .f32⟩
  | .hbm, ⟨70, _⟩ => ⟨S1536, .f32⟩
  | .hbm, ⟨71, _⟩ => ⟨S1x1536, .f32⟩
  | .hbm, ⟨72, _⟩ => ⟨S_, .f32⟩
  | .hbm, ⟨73, _⟩ => ⟨S4x1536, .f32⟩
  | .hbm, ⟨74, _⟩ => ⟨S4x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v23_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v23_1 : Ref sig .tc := ⟨.hbm, 39, rfl⟩
abbrev main_v23_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v24 : Ref sig .tc := ⟨.hbm, 44, rfl⟩
abbrev main_cst_0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_1 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩

abbrev nD : Nat := 1
abbrev τ : Topo := Topo.v7x

variable {F : FTy → Type} [FloatOps F]
-- ==== Kernel8.lean ====
abbrev S4x1536 : Shape := ⟨2, ![4, 1536]⟩
abbrev S2048x1536 : Shape := ⟨2, ![2048, 1536]⟩
abbrev S512x1536 : Shape := ⟨2, ![512, 1536]⟩
abbrev S1x1536 : Shape := ⟨2, ![1, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4x1536, .f32⟩
  | .hbm, ⟨1, _⟩ => ⟨S2048x1536, .f32⟩
  | .hbm, ⟨2, _⟩ => ⟨S2048x1536, .bf16⟩
  | .local _ .vmem, ⟨0, _⟩ => ⟨S512x1536, .f32⟩
  | .local _ .vmem, ⟨1, _⟩ => ⟨S512x1536, .f32⟩
  | .local _ .vmem, ⟨2, _⟩ => ⟨S512x1536, .f32⟩
  | .local _ .vmem, ⟨3, _⟩ => ⟨S512x1536, .f32⟩
  | .local _ .vmem, ⟨4, _⟩ => ⟨S4x1536, .f32⟩
  | .local _ .vmem, ⟨5, _⟩ => ⟨S512x1536, .bf16⟩
  | .local _ .vmem, ⟨6, _⟩ => ⟨S512x1536, .bf16⟩
  | _, _ => ⟨S4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c3_i32 : BitVec 32 := 3#32
  let v1 : BitVec 32 := Scalar.minsi v0 c3_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S4x1536 : Shape := ⟨2, ![4, 1536]⟩
abbrev S2048x1536 : Shape := ⟨2, ![2048, 1536]⟩
abbrev S_ : Shape := ⟨0, ![]⟩
abbrev S1x1536 : Shape := ⟨2, ![1, 1536]⟩
abbrev S3x1536 : Shape := ⟨2, ![3, 1536]⟩
abbrev S2051x1536 : Shape := ⟨2, ![2051, 1536]⟩

abbrev nBuf : Space → Nat
  | .hbm => 56
  | .vmem => 0
  | .smem => 0
  | _ => 0

abbrev bufTy : (tb : Table) → Fin (tcTables nBuf tb) → BufTy
  | .hbm, ⟨0, _⟩ => ⟨S4x1536, .f32⟩
  | .hbm, ⟨1, _⟩ => ⟨S2048x1536, .f32⟩
  | .hbm, ⟨2, _⟩ => ⟨S_, .f32⟩
  | .hbm, ⟨3, _⟩ => ⟨S1x1536, .f32⟩
  | .hbm, ⟨4, _⟩ => ⟨S_, .f32⟩
  | .hbm, ⟨5, _⟩ => ⟨S2048x1536, .f32⟩
  | .hbm, ⟨6, _⟩ => ⟨S_, .f32⟩
  | .hbm, ⟨7, _⟩ => ⟨S3x1536, .f32⟩
  | .hbm, ⟨8, _⟩ => ⟨S2051x1536, .f32⟩
  | .hbm, ⟨9, _⟩ => ⟨S_, .f32⟩
  | .hbm, ⟨10, _⟩ => ⟨S3x1536, .f32⟩
  | .hbm, ⟨11, _⟩ => ⟨S2048x1536, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S1x1536, .f32⟩
  | .hbm, ⟨16, _⟩ => ⟨S2048x1536, .f32⟩
  | .hbm, ⟨17, _⟩ => ⟨S2048x1536, .f32⟩
  | .hbm, ⟨18, _⟩ => ⟨S1x1536, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S1x1536, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S1x1536, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S2048x1536, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S2048x1536, .f32⟩
  | .hbm, ⟨38, _⟩ => ⟨S2048x1536, .f32⟩
  | .hbm, ⟨39, _⟩ => ⟨S2048x1536, .f32⟩
  | .hbm, ⟨40, _⟩ => ⟨S2048x1536, .f32⟩
  | .hbm, ⟨41, _⟩ => ⟨S2048x1536, .f32⟩
  | .hbm, ⟨42, _⟩ => ⟨S_, .f32⟩
  | .hbm, ⟨43, _⟩ => ⟨S2051x1536, .f32⟩
  | .hbm, ⟨44, _⟩ => ⟨S_, .f32⟩
  | .hbm, ⟨45, _⟩ => ⟨S2051x1536, .f32⟩
  | .hbm, ⟨46, _⟩ => ⟨S2051x1536, .f32⟩
  | .hbm, ⟨47, _⟩ => ⟨S_, .f32⟩
  | .hbm, ⟨48, _⟩ => ⟨S2051x1536, .f32⟩
  | .hbm, ⟨49, _⟩ => ⟨S2051x1536, .f32⟩
  | .hbm, ⟨50, _⟩ => ⟨S_, .f32⟩
  | .hbm, ⟨51, _⟩ => ⟨S2051x1536, .f32⟩
  | .hbm, ⟨52, _⟩ => ⟨S2051x1536, .f32⟩
  | .hbm, ⟨53, _⟩ => ⟨S3x1536, .f32⟩
  | .hbm, ⟨54, _⟩ => ⟨S2048x1536, .f32⟩
  | .hbm, ⟨55, _⟩ => ⟨S2048x1536, .bf16⟩
  | _, _ => ⟨S4x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_3 : Ref sig .tc := ⟨.hbm, 42, rfl⟩
abbrev main_v36 : Ref sig .tc := ⟨.hbm, 43, rfl⟩
abbrev main_cst_4 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev main_cst_6 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== Kernel9.lean ====
abbrev S2048x1536 : Shape := ⟨2, ![2048, 1536]⟩
abbrev S4x1536 : Shape := ⟨2, ![4, 1536]⟩
abbrev S1x1536 : Shape := ⟨2, ![1, 1536]⟩
abbrev S_ : Shape := ⟨0, ![]⟩
abbrev S2048x384 : Shape := ⟨2, ![2048, 384]⟩
abbrev S2048x3456 : Shape := ⟨2, ![2048, 3456]⟩
abbrev S512x1536 : Shape := ⟨2, ![512, 1536]⟩

abbrev nBuf : Space → Nat
  | .hbm => 9
  | .vmem => 8
  | .smem => 0
  | _ => 0

abbrev bufTy : (tb : Table) → Fin (tcTables nBuf tb) → BufTy
  | .hbm, ⟨0, _⟩ => ⟨S2048x1536, .f32⟩
  | .hbm, ⟨1, _⟩ => ⟨S4x1536, .f32⟩
  | .hbm, ⟨2, _⟩ => ⟨S1x1536, .f32⟩
  | .hbm, ⟨3, _⟩ => ⟨S_, .f32⟩
  | .hbm, ⟨4, _⟩ => ⟨S2048x1536, .f32⟩
  | .hbm, ⟨5, _⟩ => ⟨S_, .f32⟩
  | .hbm, ⟨6, _⟩ => ⟨S2048x384, .f32⟩
  | .hbm, ⟨7, _⟩ => ⟨S2048x3456, .f32⟩
  | .hbm, ⟨8, _⟩ => ⟨S2048x1536, .f32⟩
  | .local _ .vmem, ⟨0, _⟩ => ⟨S512x1536, .f32⟩
  | .local _ .vmem, ⟨1, _⟩ => ⟨S512x1536, .f32⟩
  | .local _ .vmem, ⟨2, _⟩ => ⟨S512x1536, .f32⟩
  | .local _ .vmem, ⟨3, _⟩ => ⟨S512x1536, .f32⟩
  | .local _ .vmem, ⟨4, _⟩ => ⟨S4x1536, .f32⟩
  | .local _ .vmem, ⟨5, _⟩ => ⟨S1x1536, .f32⟩
  | .local _ .vmem, ⟨6, _⟩ => ⟨S512x1536, .f32⟩
  | .local _ .vmem, ⟨7, _⟩ => ⟨S512x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S2048x1536 : Shape := ⟨2, ![2048, 1536]⟩
abbrev S4x1536 : Shape := ⟨2, ![4, 1536]⟩
abbrev S1x1536 : Shape := ⟨2, ![1, 1536]⟩
abbrev S_ : Shape := ⟨0, ![]⟩
abbrev S3x1536 : Shape := ⟨2, ![3, 1536]⟩
abbrev S2051x1536 : Shape := ⟨2, ![2051, 1536]⟩

abbrev nBuf : Space → Nat
  | .hbm => 36
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S4x1536, .f32⟩
  | .hbm, ⟨2, _⟩ => ⟨S1x1536, .f32⟩
  | .hbm, ⟨3, _⟩ => ⟨S_, .f32⟩
  | .hbm, ⟨4, _⟩ => ⟨S3x1536, .f32⟩
  | .hbm, ⟨5, _⟩ => ⟨S2051x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S1x1536, .f32⟩
  | .hbm, ⟨11, _⟩ => ⟨S2048x1536, .f32⟩
  | .hbm, ⟨12, _⟩ => ⟨S2048x1536, .f32⟩
  | .hbm, ⟨13, _⟩ => ⟨S1x1536, .f32⟩
  | .hbm, ⟨14, _⟩ => ⟨S2048x1536, .f32⟩
  | .hbm, ⟨15, _⟩ => ⟨S2048x1536, .f32⟩
  | .hbm, ⟨16, _⟩ => ⟨S2048x1536, .f32⟩
  | .hbm, ⟨17, _⟩ => ⟨S1x1536, .f32⟩
  | .hbm, ⟨18, _⟩ => ⟨S2048x1536, .f32⟩
  | .hbm, ⟨19, _⟩ => ⟨S2048x1536, .f32⟩
  | .hbm, ⟨20, _⟩ => ⟨S2048x1536, .f32⟩
  | .hbm, ⟨21, _⟩ => ⟨S1x1536, .f32⟩
  | .hbm, ⟨22, _⟩ => ⟨S2048x1536, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S2048x1536, .f32⟩
  | .hbm, ⟨27, _⟩ => ⟨S2048x1536, .f32⟩
  | .hbm, ⟨28, _⟩ => ⟨S2048x1536, .f32⟩
  | .hbm, ⟨29, _⟩ => ⟨S_, .f32⟩
  | .hbm, ⟨30, _⟩ => ⟨S2048x1536, .f32⟩
  | .hbm, ⟨31, _⟩ => ⟨S2048x1536, .f32⟩
  | .hbm, ⟨32, _⟩ => ⟨S_, .f32⟩
  | .hbm, ⟨33, _⟩ => ⟨S2048x1536, .f32⟩
  | .hbm, ⟨34, _⟩ => ⟨S2048x1536, .f32⟩
  | .hbm, ⟨35, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.Math.lean ====
/- The mathematics of the attention gradient, over the reals, with indices in `ℕ`: the scores, the causal softmax, the
   five gradients; and the extended-real softmax of one row of scores, read as those reals. No program is named here. -/
module

public import Idealize.ShloMosaic.PureOps.Ideal
public import Idealize.ShloMosaic.PureOps.Ideal.Laws

@[expose] public section

noncomputable section

namespace Cert.Attn

open Idealize.ShloMosaic Finset

/-- The real arguments of one attention: query and key halves with and without position, values, the output's cotangent,
    and the factor of the scores. -/
structure Args where
  qn : ℕ → ℕ → ℕ → ℝ
  qr : ℕ → ℕ → ℕ → ℝ
  kn : ℕ → ℕ → ℕ → ℝ
  vv : ℕ → ℕ → ℕ → ℝ
  kr : ℕ → ℕ → ℝ
  ct : ℕ → ℕ → ℕ → ℝ
  sc : ℝ

namespace Args

variable (A : Args)

/-- The score of query `q` against key `k` in head `h`. -/
def S (h q k : ℕ) : ℝ := (∑ d ∈ range 64, A.qn q h d * A.kn k h d + ∑ r ∈ range 32, A.qr q h r * A.kr k r) * A.sc

/-- The weight of key `k` before it is normalised: zero after the query's own position. -/
def E (h q k : ℕ) : ℝ := if k ≤ q then Real.exp (A.S h q k) else 0

/-- The sum of a query's weights. -/
def L (h q : ℕ) : ℝ := ∑ k ∈ range 2048, A.E h q k

/-- The attention probability. -/
def Pr (h q k : ℕ) : ℝ := A.E h q k / A.L h q

/-- The attention output. -/
def O (h q d : ℕ) : ℝ := ∑ k ∈ range 2048, A.Pr h q k * A.vv k h d

/-- The derivative with respect to a probability. -/
def dP (h q k : ℕ) : ℝ := ∑ d ∈ range 64, A.ct q h d * A.vv k h d

/-- The row term of the softmax derivative: the cotangent against the output. -/
def D (h q : ℕ) : ℝ := ∑ d ∈ range 64, A.ct q h d * A.O h q d

/-- The derivative with respect to a score, before the factor. -/
def dS (h q k : ℕ) : ℝ := A.Pr h q k * (A.dP h q k - A.D h q)

def dqn (q h d : ℕ) : ℝ := (∑ k ∈ range 2048, A.dS h q k * A.kn k h d) * A.sc
def dqr (q h r : ℕ) : ℝ := (∑ k ∈ range 2048, A.dS h q k * A.kr k r) * A.sc
def dkn (k h d : ℕ) : ℝ := ∑ q ∈ range 2048, A.dS h q k * (A.qn q h d * A.sc)
def dvv (k h d : ℕ) : ℝ := ∑ q ∈ range 2048, A.Pr h q k * A.ct q h d
def dkr1 (h k r : ℕ) : ℝ := ∑ q ∈ range 2048, A.dS h q k * (A.qr q h r * A.sc)
def dkr (k r : ℕ) : ℝ := ∑ h ∈ range 16, A.dkr1 h k r

theorem E_nonneg (h q k : ℕ) : 0 ≤ A.E h q k := by
  unfold E; split
  · exact (Real.exp_pos _).le
  · exact le_rfl

theorem L_pos (h q : ℕ) (hq : q < 2048) : 0 < A.L h q := by
  refine Finset.sum_pos' (fun k _ => A.E_nonneg h q k) ⟨q, Finset.mem_range.mpr hq, ?_⟩
  unfold E; rw [if_pos le_rfl]; exact Real.exp_pos _

theorem E_of_lt {h q k : ℕ} (hk : q < k) : A.E h q k = 0 := by unfold E; rw [if_neg (by omega)]
theorem Pr_of_lt {h q k : ℕ} (hk : q < k) : A.Pr h q k = 0 := by unfold Pr; rw [A.E_of_lt hk, zero_div]
theorem dS_of_lt {h q k : ℕ} (hk : q < k) : A.dS h q k = 0 := by unfold dS; rw [A.Pr_of_lt hk, zero_mul]

/-- The row term is the sum of the probabilities against their derivatives. -/
theorem D_eq (h q : ℕ) : A.D h q = ∑ k ∈ range 2048, A.Pr h q k * A.dP h q k := by
  unfold D O dP
  simp only [Finset.mul_sum]
  rw [Finset.sum_comm]
  refine Finset.sum_congr rfl fun k _ => Finset.sum_congr rfl fun d _ => by ring

/-- The scores with the factor on the query instead of on the sum. -/
theorem S_eq (h q k : ℕ) : A.S h q k
    = ∑ d ∈ range 64, A.qn q h d * A.sc * A.kn k h d + ∑ r ∈ range 32, A.qr q h r * A.sc * A.kr k r := by
  unfold S
  rw [add_mul, Finset.sum_mul, Finset.sum_mul]
  congr 1 <;> exact Finset.sum_congr rfl fun _ _ => by ring

/-- The row sum needs only the keys up to any bound past the query. -/
theorem L_of_le {h q n : ℕ} (hq : q < n) (hn : n ≤ 2048) : ∑ k ∈ range n, A.E h q k = A.L h q := by
  unfold L
  refine Finset.sum_subset (Finset.range_mono hn) fun k _ hk => A.E_of_lt ?_
  have := Finset.mem_range.not.mp hk; omega

end Args

/-! ## Sums of reals among the extended reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum over `Fin n` of reals given by a function of the number. -/
theorem sum_fin_coe {n : ℕ} (f : Fin n → EReal) (g : ℕ → ℝ) (h : ∀ i : Fin n, f i = ((g i.val : ℝ) : EReal)) :
    ∑ i, f i = ((∑ i ∈ range n, g i : ℝ) : EReal) := by
  rw [Finset.sum_congr rfl fun i _ => h i, coe_sum, Finset.sum_range]

/-- The division of a real by a non-zero real. -/
theorem div_coe_coe (x y : ℝ) (hy : y ≠ 0) : Ideal.div (x : EReal) (y : EReal) = ((x / y : ℝ) : EReal) := by
  rw [Ideal.div_coe hy, ← EReal.coe_mul, mul_one_div]

/-- The largest of `n` scores, some of them `⊥` and one of them real, is real. -/
theorem fold_max_real {n : ℕ} (s : Fin n → EReal) (hs : ∀ k, s k ≠ ⊤) (k0 : Fin n) (h0 : s k0 ≠ ⊥) :
    ∃ M : ℝ, (Finset.univ.fold max (⊥ : EReal) s) = (M : EReal) := by
  have hsup : Finset.univ.fold max (⊥ : EReal) s = Finset.univ.sup s := rfl
  rw [hsup]
  have hne : Finset.univ.sup s ≠ ⊥ := fun h => h0 ((Finset.sup_eq_bot_iff _ _).mp h k0 (Finset.mem_univ _))
  have hnt : Finset.univ.sup s ≠ ⊤ := by
    refine ne_of_lt ((Finset.sup_lt_iff (by exact bot_lt_top)).mpr fun k _ => lt_top_iff_ne_top.mpr (hs k))
  exact ⟨(Finset.univ.sup s).toReal, (EReal.coe_toReal hnt hne).symm⟩

theorem exp_sub_coe (x M : ℝ) : Ideal.exp ((x : EReal) - (M : EReal)) = ((Real.exp x * Real.exp (-M) : ℝ) : EReal) := by
  rw [← EReal.coe_sub, ← Real.exp_add, ← sub_eq_add_neg]; rfl

theorem exp_bot_sub (M : ℝ) : Ideal.exp ((⊥ : EReal) - (M : EReal)) = ((0 : ℝ) : EReal) := by
  rw [EReal.bot_sub]; rfl

end Cert.Attn

end
-- ==== Proof.Mat.lean ====
/- Matrices of extended reals that hold reals: `IsR X f` says that the vector `X` holds at row `r` and column `c` the real
   `f r c`. The operations of a kernel's body, one lemma each: what they make of such matrices. No program is named here. -/
module

public import proofs.«01_k».proof.Proof.Math
public import Idealize.ShloMosaic.Lib.MatmulPlain
public import Idealize.ShloMosaic.Lib.Pipeline.Value
public import Idealize.ShloMosaic.Lib.WordCmp

@[expose] public section

noncomputable section

namespace Cert.Attn

open Idealize.ShloMosaic Idealize.ShloMosaic.ValueIdx Finset

/-- A matrix of `a` rows and `c` columns. -/
abbrev M (a c : ℕ) : Shape := ⟨2, ![a, c]⟩

/-- The matrix `X` holds the reals `f`. -/
def IsR {a c : ℕ} {φ : FTy} (X : FVec Ideal (M a c) φ) (f : ℕ → ℕ → ℝ) : Prop :=
  ∀ (r : Fin a) (k : Fin c), X (ix2 r k) = ((f r.val k.val : ℝ) : EReal)

/-- The bit matrix `X` holds one where `p` holds. -/
def IsB {a c : ℕ} (X : IVec (M a c) 1) (p : ℕ → ℕ → Prop) : Prop :=
  ∀ (r : Fin a) (k : Fin c), X (ix2 r k) = 1#1 ↔ p r.val k.val

namespace IsR

variable {a c n : ℕ} {φ ψ : FTy}

/-- The reals matter only inside the matrix. -/
theorem congr {X : FVec Ideal (M a c) φ} {f g : ℕ → ℕ → ℝ} (h : IsR X f) (e : ∀ r < a, ∀ k < c, f r k = g r k) : IsR X g :=
  fun r k => by rw [h r k, e r.val r.isLt k.val k.isLt]

theorem of_eq {X Y : FVec Ideal (M a c) φ} {f : ℕ → ℕ → ℝ} (h : IsR Y f) (e : X = Y) : IsR X f := e ▸ h

theorem add {X Y : FVec Ideal (M a c) φ} {f g : ℕ → ℕ → ℝ} (hX : IsR X f) (hY : IsR Y g) :
    IsR (addf X Y) (fun r k => f r k + g r k) := fun r k => by
  show X (ix2 r k) + Y (ix2 r k) = _
  rw [hX r k, hY r k, EReal.coe_add]

theorem sub {X Y : FVec Ideal (M a c) φ} {f g : ℕ → ℕ → ℝ} (hX : IsR X f) (hY : IsR Y g) :
    IsR (subf X Y) (fun r k => f r k - g r k) := fun r k => by
  show X (ix2 r k) - Y (ix2 r k) = _
  rw [hX r k, hY r k, EReal.coe_sub]

theorem mul {X Y : FVec Ideal (M a c) φ} {f g : ℕ → ℕ → ℝ} (hX : IsR X f) (hY : IsR Y g) :
    IsR (mulf X Y) (fun r k => f r k * g r k) := fun r k => by
  show X (ix2 r k) * Y (ix2 r k) = _
  rw [hX r k, hY r k, EReal.coe_mul]

theorem trunc {X : FVec Ideal (M a c) φ} {f : ℕ → ℕ → ℝ} (hX : IsR X f) (h : ψ.bits < φ.bits) :
    IsR (truncf ψ X h) f := hX

/-- A splat of a real number. -/
theorem splat {x : Ideal φ} {y : ℝ} (h : x = ((y : ℝ) : EReal)) : IsR (broadcast (M a c) x) (fun _ _ => y) := fun _ _ => h

/-- The product with the right operand contracted on its columns. -/
theorem dotNT {X : FVec Ideal (M a n) φ} {Y : FVec Ideal (M c n) ψ} {f g : ℕ → ℕ → ℝ} (hX : IsR X f) (hY : IsR Y g) :
    IsR (φ := .f32) (matmul (DotDims.transposedRhs a n c) none X Y (constant (M a c) .f32 0x00000000#32))
      (fun r k => ∑ l ∈ range n, f r l * g k l) := fun r k => by
  simp only [matmul]
  rw [Ideal.matmul_transposedRhs_apply]
  show Ideal.ofBits .f32 0x00000000#32 + _ = _
  rw [Ideal.ofBits_zero_f32, zero_add]
  exact sum_fin_coe _ (fun l => f r.val l * g k.val l) fun l => by rw [hX r l, hY k l, EReal.coe_mul]

/-- The plain product. -/
theorem dotNN {X : FVec Ideal (M a n) φ} {Y : FVec Ideal (M n c) ψ} {f g : ℕ → ℕ → ℝ} (hX : IsR X f) (hY : IsR Y g) :
    IsR (φ := .f32) (matmul (DotDims.plain a n c) none X Y (constant (M a c) .f32 0x00000000#32))
      (fun r k => ∑ l ∈ range n, f r l * g l k) := fun r k => by
  simp only [matmul]
  rw [Ideal.matmul_plain_apply]
  show Ideal.ofBits .f32 0x00000000#32 + _ = _
  rw [Ideal.ofBits_zero_f32, zero_add]
  exact sum_fin_coe _ (fun l => f r.val l * g l k.val) fun l => by rw [hX r l, hY l k, EReal.coe_mul]

end IsR

/-- Both operands contracted on their rows: `[K,M]ᵀ × [K,N]`. -/
def dTN (K Mr N : ℕ) : DotDims (M K Mr) (M K N) (M Mr N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem dTN_rank (K Mr N : ℕ) : (dTN K Mr N).contr.rank = 1 := rfl
theorem dTN_size (K Mr N : ℕ) : (dTN K Mr N).contr.size ⟨0, by rw [dTN_rank]; exact Nat.one_pos⟩ = K := rfl

/-- That product at a row and a column is the sum over the shared rows. -/
theorem IsR.dotTN {a c n : ℕ} {φ ψ : FTy} {X : FVec Ideal (M n a) φ} {Y : FVec Ideal (M n c) ψ} {f g : ℕ → ℕ → ℝ}
    (hX : IsR X f) (hY : IsR Y g) :
    IsR (φ := .f32) (matmul (dTN n a c) none X Y (constant (M a c) .f32 0x00000000#32))
      (fun r k => ∑ l ∈ range n, f l r * g l k) := fun r k => by
  simp only [matmul]
  rw [Ideal.matmul_constant_zero_apply, ← Equiv.sum_comp (contrEquiv1 _ n (dTN_rank n a c) (dTN_size n a c)).symm]
  refine sum_fin_coe _ (fun l => f l r.val * g l k.val) fun l => ?_
  have hk := contrEquiv1_symm_val _ n (dTN_rank n a c) (dTN_size n a c) l
  have el : (dTN n a c).lhsIdx (ix2 r k) ((contrEquiv1 _ n (dTN_rank n a c) (dTN_size n a c)).symm l) = ix2 l r := by
    funext x; apply Fin.ext
    match x with
    | ⟨0, _⟩ => exact hk
    | ⟨1, _⟩ => rfl
  have er : (dTN n a c).rhsIdx (ix2 r k) ((contrEquiv1 _ n (dTN_rank n a c) (dTN_size n a c)).symm l) = ix2 l k := by
    funext x; apply Fin.ext
    match x with
    | ⟨0, _⟩ => exact hk
    | ⟨1, _⟩ => rfl
  rw [el, er, hX l r, hY l k, EReal.coe_mul]

section More

variable {a c n : ℕ} {φ : FTy}

/-- A choice between two matrices. -/
theorem IsR.sel {B : IVec (M a c) 1} {p : ℕ → ℕ → Prop} [∀ r k, Decidable (p r k)] {X Y : FVec Ideal (M a c) φ}
    {f g : ℕ → ℕ → ℝ} (hB : IsB B p) (hX : IsR X f) (hY : IsR Y g) :
    IsR (select B X Y) (fun r k => if p r k then f r k else g r k) := fun r k => by
  show (if B (ix2 r k) = 1#1 then X (ix2 r k) else Y (ix2 r k)) = ((if p r.val k.val then f r.val k.val else g r.val k.val : ℝ) : EReal)
  by_cases h : p r.val k.val
  · rw [if_pos ((hB r k).mpr h), if_pos h, hX r k]
  · rw [if_neg (fun e => h ((hB r k).mp e)), if_neg h, hY r k]

/-- The lift of a row number through a reduction over the columns. -/
theorem lift_row (h : (M a c).Reduces [1] ⟨1, ![a]⟩) (r : Fin a) (k : Fin c) :
    h.lift (ix1 r) k = ix2 r k := by
  funext x; apply Fin.ext
  match x with
  | ⟨0, _⟩ => rfl
  | ⟨1, _⟩ => rfl

/-- A vector of row values stretched over the columns. -/
theorem stretch_apply {α : Type} (v : (⟨1, ![a]⟩ : Shape).Idx → α) (h1 : (⟨1, ![a]⟩ : Shape).ShapeCasts (M a 1))
    (h2 : (M a 1).Broadcasts (M a c)) (r : Fin a) (k : Fin c) :
    broadcastTo (M a c) (shapeCast (M a 1) v h1) h2 (ix2 r k) = v (ix1 r) := by
  rw [broadcastTo_apply _ h2 (ix2 r k) (ix2 r (⟨0, Nat.one_pos⟩ : Fin 1))
    (by intro x; match x with
        | ⟨0, _⟩ => show r.val = if a = 1 then 0 else r.val; split <;> [(have := r.isLt; omega); rfl]
        | ⟨1, _⟩ => rfl)]
  exact shapeCast_apply v h1 _ (ix1 r) (by
    rw [Shape.rowMajor_val_one, Shape.rowMajor_val_two]; show r.val = r.val * 1 + 0; omega)

/-- The row sums of a real matrix. -/
theorem rowSum_apply {X : FVec Ideal (M a c) φ} {f : ℕ → ℕ → ℝ} (hX : IsR X f) (acc : BitVec φ.bits)
    (h : (M a c).Reduces [1] ⟨1, ![a]⟩) (hφ : FKind.Formats φ) (hacc : acc = FKind.add.neutral φ hφ) (r : Fin a) :
    multiReduction .add [1] ⟨1, ![a]⟩ X acc h hφ hacc (ix1 r) = ((∑ k ∈ range c, f r.val k : ℝ) : EReal) := by
  rw [Ideal.multiReduction_add_single]
  exact sum_fin_coe _ (fun k => f r.val k) fun k => (congrArg X (lift_row h r k)).trans (hX r k)

/-- The row sums stretched over the columns. -/
theorem IsR.rowSum {X : FVec Ideal (M a c) φ} {f : ℕ → ℕ → ℝ} (hX : IsR X f) (acc : BitVec φ.bits)
    (h : (M a c).Reduces [1] ⟨1, ![a]⟩) (hφ : FKind.Formats φ) (hacc : acc = FKind.add.neutral φ hφ)
    (h1 : (⟨1, ![a]⟩ : Shape).ShapeCasts (M a 1)) (h2 : (M a 1).Broadcasts (M a n)) :
    IsR (broadcastTo (M a n) (shapeCast (M a 1) (multiReduction .add [1] ⟨1, ![a]⟩ X acc h hφ hacc) h1) h2)
      (fun r _ => ∑ k ∈ range c, f r k) := fun r k => by
  rw [stretch_apply]; exact rowSum_apply hX acc h hφ hacc r

end More

/-! ## The masked softmax of a tile of rows -/

/-- The exponentials of the masked scores against the row maxima, as a kernel's body takes them. -/
def expo (a n : ℕ) (B : IVec (M a n) 1) (X : FVec Ideal (M a n) .f32) (hr : (M a n).Reduces [1] ⟨1, ![a]⟩)
    (h1 : (⟨1, ![a]⟩ : Shape).ShapeCasts (M a 1)) (h2 : (M a 1).Broadcasts (M a n)) : FVec Ideal (M a n) .f32 :=
  exp (subf (select B X (broadcast (M a n) (Scalar.ofBits (F := Ideal) .f32 0xFF800000#32)))
    (broadcastTo (M a n) (shapeCast (M a 1) (multiReduction .maximumf [1] ⟨1, ![a]⟩
      (select B X (broadcast (M a n) (Scalar.ofBits (F := Ideal) .f32 0xFF800000#32))) 0xFF800000#32 hr (.inl rfl) rfl) h1) h2))

/-- Those exponentials times the reciprocals of their row sums. -/
def prob (a n : ℕ) (e : FVec Ideal (M a n) .f32) (hr : (M a n).Reduces [1] ⟨1, ![a]⟩)
    (h1 : (⟨1, ![a]⟩ : Shape).ShapeCasts (M a 1)) (h2 : (M a 1).Broadcasts (M a n)) : FVec Ideal (M a n) .f32 :=
  mulf e (broadcastTo (M a n) (divf (broadcast (M a 1) (Scalar.ofBits (F := Ideal) .f32 0x3F800000#32))
    (shapeCast (M a 1) (multiReduction .add [1] ⟨1, ![a]⟩ e 0x00000000#32 hr (.inl rfl) rfl) h1)) h2)

theorem ofBits_neg_inf : Ideal.ofBits .f32 0xFF800000#32 = ⊥ := by simp [Ideal.ofBits, Ideal.ieee]

theorem ofBits_one : Ideal.ofBits .f32 0x3F800000#32 = ((1 : ℝ) : EReal) := by
  simp [Ideal.ofBits, Ideal.ieee, -EReal.coe_mul]; norm_num

section Softmax

variable {a n : ℕ} {B : IVec (M a n) 1} {X : FVec Ideal (M a n) .f32} {b : ℕ} {S : ℕ → ℕ → ℝ}

theorem expo_real (hB : IsB B fun r k => k ≤ b + r) (hX : IsR X S) (hn : 0 < n) (hr : (M a n).Reduces [1] ⟨1, ![a]⟩)
    (h1 : (⟨1, ![a]⟩ : Shape).ShapeCasts (M a 1)) (h2 : (M a 1).Broadcasts (M a n)) :
    ∃ m : ℕ → ℝ, IsR (expo a n B X hr h1 h2) (fun r k => (if k ≤ b + r then Real.exp (S r k) else 0) * Real.exp (-(m r))) := by
  have hs : ∀ (r : Fin a) (k : Fin n), select B X (broadcast (M a n) (Scalar.ofBits (F := Ideal) .f32 0xFF800000#32)) (ix2 r k)
      = if k.val ≤ b + r.val then ((S r.val k.val : ℝ) : EReal) else ⊥ := fun r k => by
    show (if B (ix2 r k) = 1#1 then X (ix2 r k) else Ideal.ofBits .f32 0xFF800000#32) = _
    by_cases h : k.val ≤ b + r.val
    · rw [if_pos ((hB r k).mpr h), if_pos h, hX r k]
    · rw [if_neg (fun e => h ((hB r k).mp e)), if_neg h]; exact ofBits_neg_inf
  have hm : ∀ r : Fin a, ∃ m : ℝ, multiReduction .maximumf [1] ⟨1, ![a]⟩
      (select B X (broadcast (M a n) (Scalar.ofBits (F := Ideal) .f32 0xFF800000#32))) 0xFF800000#32 hr (.inl rfl) rfl (ix1 r)
      = (m : EReal) := fun r => by
    have e := Ideal.multiReduction_maximumf_single
      (select B X (broadcast (M a n) (Scalar.ofBits (F := Ideal) .f32 0xFF800000#32))) 0xFF800000#32 hr (.inl rfl) rfl (ix1 r)
    obtain ⟨m, hm⟩ := fold_max_real (fun k : Fin n => if k.val ≤ b + r.val then ((S r.val k.val : ℝ) : EReal) else ⊥)
      (fun k => by split <;> simp) (⟨0, hn⟩ : Fin n) (by simp)
    refine ⟨m, e.trans (Eq.trans ?_ hm)⟩
    show Finset.univ.fold max (Ideal.ofBits .f32 0xFF800000#32) _ = _
    rw [ofBits_neg_inf]
    exact congrArg (Finset.univ.fold max (⊥ : EReal)) (funext fun k => (congrArg _ (lift_row hr r k)).trans (hs r k))
  choose m hm using hm
  refine ⟨fun r => if h : r < a then m ⟨r, h⟩ else 0, fun r k => ?_⟩
  have hmr : (fun r => if h : r < a then m ⟨r, h⟩ else 0) r.val = m r := by simp
  show Ideal.exp (select B X (broadcast (M a n) (Scalar.ofBits (F := Ideal) .f32 0xFF800000#32)) (ix2 r k) - broadcastTo _ _ _ (ix2 r k)) = _
  rw [stretch_apply, hm r, hs r k]
  show _ = (((if k.val ≤ b + r.val then Real.exp (S r.val k.val) else 0)
    * Real.exp (-(if h : r.val < a then m ⟨r.val, h⟩ else 0)) : ℝ) : EReal)
  rw [dif_pos r.isLt]
  by_cases h : k.val ≤ b + r.val
  · rw [if_pos h, if_pos h, exp_sub_coe]
  · rw [if_neg h, if_neg h, exp_bot_sub, zero_mul]

theorem prob_real (hB : IsB B fun r k => k ≤ b + r) (hX : IsR X S) (hn : 0 < n) (hr : (M a n).Reduces [1] ⟨1, ![a]⟩)
    (h1 : (⟨1, ![a]⟩ : Shape).ShapeCasts (M a 1)) (h2 : (M a 1).Broadcasts (M a n)) :
    IsR (prob a n (expo a n B X hr h1 h2) hr h1 h2) (fun r k => (if k ≤ b + r then Real.exp (S r k) else 0)
      / ∑ l ∈ range n, if l ≤ b + r then Real.exp (S r l) else 0) := by
  obtain ⟨m, he⟩ := expo_real hB hX hn hr h1 h2
  intro r k
  have hpos : 0 < ∑ l ∈ range n, if l ≤ b + r.val then Real.exp (S r.val l) else 0 := by
    refine Finset.sum_pos' (fun l _ => ?_) ⟨0, Finset.mem_range.mpr hn, ?_⟩
    · split; exacts [(Real.exp_pos _).le, le_rfl]
    · rw [if_pos (Nat.zero_le _)]; exact Real.exp_pos _
  have hl : ∑ l ∈ range n, (if l ≤ b + r.val then Real.exp (S r.val l) else 0) * Real.exp (-(m r.val))
      = (∑ l ∈ range n, if l ≤ b + r.val then Real.exp (S r.val l) else 0) * Real.exp (-(m r.val)) := (Finset.sum_mul ..).symm
  have hd : broadcastTo (M a n) (divf (broadcast (M a 1) (Scalar.ofBits (F := Ideal) .f32 0x3F800000#32))
      (shapeCast (M a 1) (multiReduction .add [1] ⟨1, ![a]⟩ (expo a n B X hr h1 h2) 0x00000000#32 hr (.inl rfl) rfl) h1)) h2 (ix2 r k)
      = ((1 / ((∑ l ∈ range n, if l ≤ b + r.val then Real.exp (S r.val l) else 0) * Real.exp (-(m r.val))) : ℝ) : EReal) := by
    show Ideal.div (Ideal.ofBits .f32 0x3F800000#32) (broadcastTo (M a n) (shapeCast (M a 1) (multiReduction .add [1] ⟨1, ![a]⟩
      (expo a n B X hr h1 h2) 0x00000000#32 hr (.inl rfl) rfl) h1) h2 (ix2 r k)) = _
    rw [stretch_apply, ofBits_one]
    refine (congrArg (Ideal.div _) ((rowSum_apply he 0x00000000#32 hr (.inl rfl) rfl r).trans (congrArg _ hl))).trans ?_
    exact div_coe_coe _ _ (mul_pos hpos (Real.exp_pos _)).ne'
  show expo a n B X hr h1 h2 (ix2 r k) * _ = _
  rw [hd, he r k, ← EReal.coe_mul]
  have h0 := (Real.exp_pos (-(m r.val))).ne'
  have h3 := hpos.ne'
  congr 1
  field_simp

end Softmax

end Cert.Attn

end
-- ==== Proof.Tile.lean ====
/- One tile of 256 query rows against the first `n` keys, for one of the two heads that share a block of 128 lanes: the
   matrices of the attention gradient as a kernel's body computes them, and the reals they hold. -/
module

public import proofs.«01_k».proof.Proof.Mat

@[expose] public section

noncomputable section

namespace Cert.Attn

open Idealize.ShloMosaic Idealize.ShloMosaic.ValueIdx Finset

section Layout

variable {a c c₁ c₂ : ℕ} {φ : FTy}

/-- A reshape to the same shape changes nothing. -/
theorem shapeCast_same {α : Type} {s : Shape} (x : s.Idx → α) (h : s.ShapeCasts s) : shapeCast s x h = x :=
  funext fun j => shapeCast_apply x h j j rfl

/-- Two matrices side by side. -/
theorem IsR.cat {X : FVec Ideal (M a c₁) φ} {Y : FVec Ideal (M a c₂) φ} {f g : ℕ → ℕ → ℝ} (hX : IsR X f) (hY : IsR Y g)
    (h : Shape.Concatenates [M a c₁, M a c₂] (M a c) 1) :
    IsR (φ := φ) (concatenate (M a c) 1 [⟨M a c₁, X⟩, ⟨M a c₂, Y⟩] h) (fun r l => if l < c₁ then f r l else g r (l - c₁)) := by
  have hc : c₁ + c₂ = c := by
    have := h.2.2
    simpa using this
  intro r l
  show _ = ((if l.val < c₁ then f r.val l.val else g r.val (l.val - c₁) : ℝ) : EReal)
  by_cases hl : l.val < c₁
  · rw [if_pos hl]
    refine (concatenate_pair_apply_left 1 X Y h (ix2 r l) rfl (ix2 r (⟨l.val, hl⟩ : Fin c₁)) fun b => ?_).trans (hX r ⟨l.val, hl⟩)
    match b with
    | ⟨0, _⟩ => rfl
    | ⟨1, _⟩ => rfl
  · rw [if_neg hl]
    have h2 : l.val - c₁ < c₂ := by have := l.isLt; omega
    refine (concatenate_pair_apply_right 1 X Y h (ix2 r l) rfl rfl (ix2 r (⟨l.val - c₁, h2⟩ : Fin c₂)) (fun b hb => ?_) ?_).trans
      (hY r ⟨l.val - c₁, h2⟩)
    · match b with
      | ⟨0, _⟩ => rfl
      | ⟨1, _⟩ => exact absurd rfl hb
    · show l.val - c₁ + c₁ = l.val; omega

/-- A block of columns. -/
theorem IsR.slice {X : FVec Ideal (M a c₁) φ} {f : ℕ → ℕ → ℝ} (hX : IsR X f) (o : ℕ) (h : (M a c₁).Slices ![0, o] (M a c)) :
    IsR (φ := φ) (extractStridedSlice (M a c) ![0, o] X h) (fun r l => f r (o + l)) := fun r l => by
  have hl : o + l.val < c₁ := by have := h.2 1; have h3 := l.isLt; exact lt_of_lt_of_le (Nat.add_lt_add_left h3 o) this
  refine (extractStridedSlice_apply ![0, o] X h (ix2 r l) (ix2 r (⟨o + l.val, hl⟩ : Fin c₁)) fun b => ?_).trans (hX r _)
  match b with
  | ⟨0, _⟩ => show r.val = 0 + r.val; omega
  | ⟨1, _⟩ => rfl

end Layout

/-! ## The matrices -/

/-- The factor of the scores. -/
def scale : ℝ := (Ideal.ofBits .f32 0x3DD105EC#32).toReal

theorem ofBits_scale : Ideal.ofBits .f32 0x3DD105EC#32 = ((scale : ℝ) : EReal) := by
  refine (EReal.coe_toReal ?_ ?_).symm <;> simp [Ideal.ofBits, Ideal.ieee, -EReal.coe_mul]

/-- The queries of one head, the other head's lanes zeroed, times the factor. -/
def qcat (half grp : IVec (M 256 128) 32) (p g : BitVec 32) (qn qr : FVec Ideal (M 256 128) .f32)
    (h : Shape.Concatenates [M 256 128, M 256 128] (M 256 256) 1) (hb : FTy.bf16.bits < FTy.f32.bits) : FVec Ideal (M 256 256) .bf16 :=
  truncf .bf16 (concatenate (M 256 256) 1
    [⟨M 256 128, select (cmpi .eq half (broadcast (M 256 128) p))
        (mulf qn (broadcast (M 256 128) (Scalar.ofBits (F := Ideal) .f32 0x3DD105EC#32)))
        (broadcast (M 256 128) (Scalar.ofBits (F := Ideal) .f32 0x00000000#32))⟩,
     ⟨M 256 128, select (cmpi .eq grp (broadcast (M 256 128) g))
        (mulf qr (broadcast (M 256 128) (Scalar.ofBits (F := Ideal) .f32 0x3DD105EC#32)))
        (broadcast (M 256 128) (Scalar.ofBits (F := Ideal) .f32 0x00000000#32))⟩] h) hb

/-- The cotangent's lanes of one head. -/
def dom (half : IVec (M 256 128) 32) (p : BitVec 32) (d : FVec Ideal (M 256 128) .f32) : FVec Ideal (M 256 128) .f32 :=
  select (cmpi .eq half (broadcast (M 256 128) p)) d (broadcast (M 256 128) (Scalar.ofBits (F := Ideal) .f32 0x00000000#32))

/-- The causal mask of a tile whose first row is `b`. -/
def mask (n : ℕ) (b : BitVec 32) (h0 : (M 256 n).Iotas .tc 32 [0]) (h1 : (M 256 n).Iotas .tc 32 [1]) : IVec (M 256 n) 1 :=
  cmpi .sge (addi (broadcast (M 256 n) b) (iota .tc (M 256 n) 32 [0] h0)) (iota .tc (M 256 n) 32 [1] h1)

/-- The scores against the first `n` keys. -/
def scores (n : ℕ) (qc : FVec Ideal (M 256 256) .bf16) (k : FVec Ideal (M n 256) .bf16) : FVec Ideal (M 256 n) .f32 :=
  matmul (DotDims.transposedRhs 256 256 n) none qc k (constant (M 256 n) .f32 0x00000000#32)

/-- The derivative with respect to the scores. -/
def dscore (n : ℕ) (P : FVec Ideal (M 256 n) .f32) (d : FVec Ideal (M 256 128) .f32) (v : FVec Ideal (M n 128) .bf16)
    (o : FVec Ideal (M 256 128) .f32) (hr : (M 256 128).Reduces [1] ⟨1, ![256]⟩) (h1 : (⟨1, ![256]⟩ : Shape).ShapeCasts (M 256 1))
    (h2 : (M 256 1).Broadcasts (M 256 n)) (hb : FTy.bf16.bits < FTy.f32.bits) : FVec Ideal (M 256 n) .bf16 :=
  truncf .bf16 (mulf P (subf
    (matmul (DotDims.transposedRhs 256 128 n) none (truncf .bf16 d hb) v (constant (M 256 n) .f32 0x00000000#32))
    (broadcastTo (M 256 n) (shapeCast (M 256 1)
      (multiReduction .add [1] ⟨1, ![256]⟩ (mulf d o) 0x00000000#32 hr (.inl rfl) rfl) h1) h2))) hb

/-- The derivative with respect to the scaled queries, times the factor. -/
def dqcat (n : ℕ) (ds : FVec Ideal (M 256 n) .bf16) (k : FVec Ideal (M n 256) .bf16) : FVec Ideal (M 256 256) .f32 :=
  mulf (matmul (DotDims.plain 256 n 256) none ds k (constant (M 256 256) .f32 0x00000000#32))
    (broadcast (M 256 256) (Scalar.ofBits (F := Ideal) .f32 0x3DD105EC#32))

/-- The derivative with respect to the keys. -/
def dkcat (n : ℕ) (ds : FVec Ideal (M 256 n) .bf16) (qc : FVec Ideal (M 256 256) .bf16) : FVec Ideal (M n 256) .f32 :=
  matmul (dTN 256 n 256) none ds qc (constant (M n 256) .f32 0x00000000#32)

/-- The derivative with respect to the values. -/
def dval (n : ℕ) (P : FVec Ideal (M 256 n) .f32) (d : FVec Ideal (M 256 128) .f32) (hb : FTy.bf16.bits < FTy.f32.bits) :
    FVec Ideal (M n 128) .f32 :=
  matmul (dTN 256 n 128) none (truncf .bf16 P hb) (truncf .bf16 d hb) (constant (M n 128) .f32 0x00000000#32)

/-! ## The reals they hold -/

/-- The lanes of a head's scaled query. -/
def rq (p g : ℕ) (qn qr : ℕ → ℕ → ℝ) (r l : ℕ) : ℝ :=
  if l < 128 then (if l / 64 = p then qn r l * scale else 0) else (if (l - 128) / 32 = g then qr r (l - 128) * scale else 0)

/-- The lanes of a head's cotangent. -/
def rd (p : ℕ) (d : ℕ → ℕ → ℝ) (r l : ℕ) : ℝ := if l / 64 = p then d r l else 0

/-- The probabilities of a tile. -/
def rp (n b : ℕ) (q k : ℕ → ℕ → ℝ) (r κ : ℕ) : ℝ :=
  (if κ ≤ b + r then Real.exp (∑ l ∈ range 256, q r l * k κ l) else 0)
    / ∑ κ' ∈ range n, if κ' ≤ b + r then Real.exp (∑ l ∈ range 256, q r l * k κ' l) else 0

/-- The derivative with respect to the scores of a tile. -/
def rds (P : ℕ → ℕ → ℝ) (d v o : ℕ → ℕ → ℝ) (r κ : ℕ) : ℝ :=
  P r κ * (∑ l ∈ range 128, d r l * v κ l - ∑ l ∈ range 128, d r l * o r l)

/-- Lanes whose block number is `p`. -/
theorem isB_eq {B : IVec (M 256 128) 32} {x : ℕ → ℕ} (hB : ∀ (r : Fin 256) (l : Fin 128), B (ix2 r l) = BitVec.ofNat 32 (x l.val))
    (hx : ∀ l < 128, x l < 4) {w : BitVec 32} {p : ℕ} (hw : w = BitVec.ofNat 32 p) (hp : p < 4) :
    IsB (cmpi .eq B (broadcast (M 256 128) w)) (fun _ l => x l = p) := fun r l => by
  show IntOp.cmpi .eq (B (ix2 r l)) w = 1#1 ↔ _
  rw [hB r l, hw, WordCmp.cmpi_eq_ofNat_eq_one_iff (by have := hx l.val l.isLt; omega) (by omega)]

theorem qcat_real {half grp : IVec (M 256 128) 32} {w u : BitVec 32} {p g : ℕ} {qn qr : FVec Ideal (M 256 128) .f32} {f e : ℕ → ℕ → ℝ}
    (hh : ∀ (r : Fin 256) (l : Fin 128), half (ix2 r l) = BitVec.ofNat 32 (l.val / 64))
    (hg : ∀ (r : Fin 256) (l : Fin 128), grp (ix2 r l) = BitVec.ofNat 32 (l.val / 32))
    (hw : w = BitVec.ofNat 32 p) (hu : u = BitVec.ofNat 32 g) (hp : p < 4) (hg4 : g < 4) (hqn : IsR qn f) (hqr : IsR qr e)
    (h : Shape.Concatenates [M 256 128, M 256 128] (M 256 256) 1) (hb : FTy.bf16.bits < FTy.f32.bits) :
    IsR (qcat half grp w u qn qr h hb) (rq p g f e) :=
  IsR.trunc (IsR.cat
    (IsR.sel (isB_eq (x := fun l => l / 64) hh (fun l hl => by omega) hw hp) (hqn.mul (.splat ofBits_scale)) (.splat Ideal.ofBits_zero_f32))
    (IsR.sel (isB_eq (x := fun l => l / 32) hg (fun l hl => by omega) hu hg4) (hqr.mul (.splat ofBits_scale)) (.splat Ideal.ofBits_zero_f32)) h) hb

theorem dom_real {half : IVec (M 256 128) 32} {w : BitVec 32} {p : ℕ} {d : FVec Ideal (M 256 128) .f32} {f : ℕ → ℕ → ℝ}
    (hh : ∀ (r : Fin 256) (l : Fin 128), half (ix2 r l) = BitVec.ofNat 32 (l.val / 64))
    (hw : w = BitVec.ofNat 32 p) (hp : p < 4) (hd : IsR d f) : IsR (dom half w d) (rd p f) :=
  IsR.sel (isB_eq (x := fun l => l / 64) hh (fun l hl => by omega) hw hp) hd (.splat Ideal.ofBits_zero_f32)

theorem mask_real {n b : ℕ} (hn : n ≤ 2048) (hb : b < 2048) (h0 : (M 256 n).Iotas .tc 32 [0]) (h1 : (M 256 n).Iotas .tc 32 [1]) :
    IsB (mask n (BitVec.ofNat 32 b) h0 h1) (fun r k => k ≤ b + r) := fun r k => by
  show IntOp.cmpi .sge (BitVec.ofNat 32 b + iota .tc (M 256 n) 32 [0] h0 (ix2 r k)) (iota .tc (M 256 n) 32 [1] h1 (ix2 r k)) = 1#1 ↔ _
  rw [iota_single_apply, iota_single_apply]
  show IntOp.cmpi .sge (BitVec.ofNat 32 b + BitVec.ofNat 32 r.val) (BitVec.ofNat 32 k.val) = 1#1 ↔ _
  rw [← BitVec.ofNat_add, WordCmp.cmpi_sge_ofNat_eq_one_iff (by have := r.isLt; omega) (by have := k.isLt; omega)]

theorem scores_real {n : ℕ} {qc : FVec Ideal (M 256 256) .bf16} {k : FVec Ideal (M n 256) .bf16} {q K : ℕ → ℕ → ℝ} (hq : IsR qc q)
    (hk : IsR k K) : IsR (scores n qc k) (fun r κ => ∑ l ∈ range 256, q r l * K κ l) := hq.dotNT hk

theorem prob_tile {n b : ℕ} {qc : FVec Ideal (M 256 256) .bf16} {k : FVec Ideal (M n 256) .bf16} {q K : ℕ → ℕ → ℝ} (hq : IsR qc q)
    (hk : IsR k K) (hn0 : 0 < n) (hn : n ≤ 2048) (hb : b < 2048) (h0 : (M 256 n).Iotas .tc 32 [0]) (h1 : (M 256 n).Iotas .tc 32 [1])
    (hr : (M 256 n).Reduces [1] ⟨1, ![256]⟩) (hc : (⟨1, ![256]⟩ : Shape).ShapeCasts (M 256 1)) (h2 : (M 256 1).Broadcasts (M 256 n)) :
    IsR (prob 256 n (expo 256 n (mask n (BitVec.ofNat 32 b) h0 h1) (scores n qc k) hr hc h2) hr hc h2) (rp n b q K) :=
  prob_real (mask_real hn hb h0 h1) (scores_real hq hk) hn0 hr hc h2

theorem dscore_real {n : ℕ} {P : FVec Ideal (M 256 n) .f32} {d o : FVec Ideal (M 256 128) .f32} {v : FVec Ideal (M n 128) .bf16}
    {p D V O : ℕ → ℕ → ℝ} (hP : IsR P p) (hd : IsR d D) (hv : IsR v V) (ho : IsR o O) (hr : (M 256 128).Reduces [1] ⟨1, ![256]⟩)
    (h1 : (⟨1, ![256]⟩ : Shape).ShapeCasts (M 256 1)) (h2 : (M 256 1).Broadcasts (M 256 n)) (hb : FTy.bf16.bits < FTy.f32.bits) :
    IsR (dscore n P d v o hr h1 h2 hb) (rds p D V O) :=
  IsR.trunc (hP.mul (((hd.trunc hb).dotNT hv).sub ((hd.mul ho).rowSum _ hr _ _ h1 h2))) hb

theorem dqcat_real {n : ℕ} {ds : FVec Ideal (M 256 n) .bf16} {k : FVec Ideal (M n 256) .bf16} {s K : ℕ → ℕ → ℝ} (hs : IsR ds s)
    (hk : IsR k K) : IsR (dqcat n ds k) (fun r l => (∑ κ ∈ range n, s r κ * K κ l) * scale) :=
  (hs.dotNN hk).mul (.splat ofBits_scale)

theorem dkcat_real {n : ℕ} {ds : FVec Ideal (M 256 n) .bf16} {qc : FVec Ideal (M 256 256) .bf16} {s q : ℕ → ℕ → ℝ} (hs : IsR ds s)
    (hq : IsR qc q) : IsR (dkcat n ds qc) (fun κ l => ∑ r ∈ range 256, s r κ * q r l) := hs.dotTN hq

theorem dval_real {n : ℕ} {P : FVec Ideal (M 256 n) .f32} {d : FVec Ideal (M 256 128) .f32} {p D : ℕ → ℕ → ℝ} (hP : IsR P p)
    (hd : IsR d D) (hb : FTy.bf16.bits < FTy.f32.bits) :
    IsR (dval n P d hb) (fun κ l => ∑ r ∈ range 256, p r κ * D r l) := (hP.trunc hb).dotTN (hd.trunc hb)

end Cert.Attn

end
-- ==== Proof.TileOut.lean ====
/- The five results of one tile of 256 query rows, both heads of a lane block together: the matrices and the reals they
   hold. -/
module

public import proofs.«01_k».proof.Proof.Tile

@[expose] public section

noncomputable section

namespace Cert.Attn

open Idealize.ShloMosaic Idealize.ShloMosaic.ValueIdx Finset

/-- The shape conditions that the operations of a tile against `n` keys ask for. -/
structure Fits (n : ℕ) : Prop where
  i0 : (M 256 n).Iotas .tc 32 [0]
  i1 : (M 256 n).Iotas .tc 32 [1]
  rn : (M 256 n).Reduces [1] ⟨1, ![256]⟩
  r128 : (M 256 128).Reduces [1] ⟨1, ![256]⟩
  c1 : (⟨1, ![256]⟩ : Shape).ShapeCasts (M 256 1)
  bn : (M 256 1).Broadcasts (M 256 n)
  cc : Shape.Concatenates [M 256 128, M 256 128] (M 256 256) 1
  bits : FTy.bf16.bits < FTy.f32.bits
  s0 : (M 256 256).Slices ![0, 0] (M 256 128)
  s1 : (M 256 256).Slices ![0, 128] (M 256 128)
  n0 : (M n 256).Slices ![0, 0] (M n 128)
  n1 : (M n 256).Slices ![0, 128] (M n 128)

section Out

variable (n : ℕ) (w : Fits n) (half grp : IVec (M 256 128) 32) (e b : BitVec 32) (K : FVec Ideal (M n 256) .bf16)
  (V : FVec Ideal (M n 128) .bf16) (q r o d : FVec Ideal (M 256 128) .f32)

def tqc (p : BitVec 32) : FVec Ideal (M 256 256) .bf16 := qcat half grp p (Scalar.addi e p) q r w.cc w.bits
def tdm (p : BitVec 32) : FVec Ideal (M 256 128) .f32 := dom half p d
def tpr (p : BitVec 32) : FVec Ideal (M 256 n) .f32 :=
  prob 256 n (expo 256 n (mask n b w.i0 w.i1) (scores n (tqc n w half grp e q r p) K) w.rn w.c1 w.bn) w.rn w.c1 w.bn
def tds (p : BitVec 32) : FVec Ideal (M 256 n) .bf16 :=
  dscore n (tpr n w half grp e b K q r p) (tdm half d p) V o w.r128 w.c1 w.bn w.bits
def tdq (p : BitVec 32) : FVec Ideal (M 256 256) .f32 := dqcat n (tds n w half grp e b K V q r o d p) K
def tdk (p : BitVec 32) : FVec Ideal (M n 256) .f32 := dkcat n (tds n w half grp e b K V q r o d p) (tqc n w half grp e q r p)
def tdv (p : BitVec 32) : FVec Ideal (M n 128) .f32 := dval n (tpr n w half grp e b K q r p) (tdm half d p) w.bits

/-- The gradient of the queries' part without position. -/
def outQn : FVec Ideal (M 256 128) .bf16 :=
  truncf .bf16 (select (cmpi .eq half (broadcast (M 256 128) 0#32))
    (extractStridedSlice (M 256 128) ![0, 0] (tdq n w half grp e b K V q r o d 0#32) w.s0)
    (extractStridedSlice (M 256 128) ![0, 0] (tdq n w half grp e b K V q r o d 1#32) w.s0)) w.bits
/-- The gradient of the queries' part with position. -/
def outQr : FVec Ideal (M 256 128) .f32 :=
  addf (select (cmpi .eq grp (broadcast (M 256 128) e))
      (extractStridedSlice (M 256 128) ![0, 128] (tdq n w half grp e b K V q r o d 0#32) w.s1)
      (broadcast (M 256 128) (Scalar.ofBits (F := Ideal) .f32 0x00000000#32)))
    (select (cmpi .eq grp (broadcast (M 256 128) (Scalar.addi e 1#32)))
      (extractStridedSlice (M 256 128) ![0, 128] (tdq n w half grp e b K V q r o d 1#32) w.s1)
      (broadcast (M 256 128) (Scalar.ofBits (F := Ideal) .f32 0x00000000#32)))
/-- What the tile adds to the gradient of the keys' part without position. -/
def outKn : FVec Ideal (M n 128) .f32 :=
  addf (extractStridedSlice (M n 128) ![0, 0] (tdk n w half grp e b K V q r o d 0#32) w.n0)
    (extractStridedSlice (M n 128) ![0, 0] (tdk n w half grp e b K V q r o d 1#32) w.n0)
/-- What the tile adds to the gradient of the keys' part with position. -/
def outKr : FVec Ideal (M n 128) .f32 :=
  addf (extractStridedSlice (M n 128) ![0, 128] (tdk n w half grp e b K V q r o d 0#32) w.n1)
    (extractStridedSlice (M n 128) ![0, 128] (tdk n w half grp e b K V q r o d 1#32) w.n1)
/-- What the tile adds to the gradient of the values. -/
def outV : FVec Ideal (M n 128) .f32 := addf (tdv n w half grp e b K q r d 0#32) (tdv n w half grp e b K q r d 1#32)

end Out

/-! ## The reals -/

section Reals

variable (n b g : ℕ) (K V q r o d : ℕ → ℕ → ℝ)

def rP (p : ℕ) : ℕ → ℕ → ℝ := rp n b (rq p (g + p) q r) K
def rS (p : ℕ) : ℕ → ℕ → ℝ := rds (rP n b g K q r p) (rd p d) V o
def rDq (p i l : ℕ) : ℝ := (∑ κ ∈ range n, rS n b g K V q r o d p i κ * K κ l) * scale
def rDk (p κ l : ℕ) : ℝ := ∑ i ∈ range 256, rS n b g K V q r o d p i κ * rq p (g + p) q r i l
def rDv (p κ l : ℕ) : ℝ := ∑ i ∈ range 256, rP n b g K q r p i κ * rd p d i l

def rQn (i l : ℕ) : ℝ := if l / 64 = 0 then rDq n b g K V q r o d 0 i l else rDq n b g K V q r o d 1 i l
def rQr (i l : ℕ) : ℝ :=
  (if l / 32 = g then rDq n b g K V q r o d 0 i (128 + l) else 0) + (if l / 32 = g + 1 then rDq n b g K V q r o d 1 i (128 + l) else 0)
def rKn (κ l : ℕ) : ℝ := rDk n b g K V q r o d 0 κ l + rDk n b g K V q r o d 1 κ l
def rKr (κ l : ℕ) : ℝ := rDk n b g K V q r o d 0 κ (128 + l) + rDk n b g K V q r o d 1 κ (128 + l)
def rV (κ l : ℕ) : ℝ := rDv n b g K q r d 0 κ l + rDv n b g K q r d 1 κ l

end Reals

section Real

variable {n : ℕ} (w : Fits n) {half grp : IVec (M 256 128) 32} {e : BitVec 32} {g b : ℕ} {K : FVec Ideal (M n 256) .bf16}
  {V : FVec Ideal (M n 128) .bf16} {q r o d : FVec Ideal (M 256 128) .f32} {k v fq fr fo fd : ℕ → ℕ → ℝ}

/-- What is known of a tile's operands: the lane numbers, the group, and the reals in its matrices. -/
structure Holds (n : ℕ) (half grp : IVec (M 256 128) 32) (e : BitVec 32) (g b : ℕ) (K : FVec Ideal (M n 256) .bf16)
    (V : FVec Ideal (M n 128) .bf16) (q r o d : FVec Ideal (M 256 128) .f32) (k v fq fr fo fd : ℕ → ℕ → ℝ) : Prop where
  hh : ∀ (r : Fin 256) (l : Fin 128), half (ix2 r l) = BitVec.ofNat 32 (l.val / 64)
  hg : ∀ (r : Fin 256) (l : Fin 128), grp (ix2 r l) = BitVec.ofNat 32 (l.val / 32)
  he : e = BitVec.ofNat 32 g
  g2 : g < 3
  n0 : 0 < n
  n1 : n ≤ 2048
  b1 : b < 2048
  hK : IsR K k
  hV : IsR V v
  hq : IsR q fq
  hr : IsR r fr
  ho : IsR o fo
  hd : IsR d fd

variable (h : Holds n half grp e g b K V q r o d k v fq fr fo fd)
include h

theorem tqc_real {u : BitVec 32} {p : ℕ} (hu : u = BitVec.ofNat 32 p) (hp : p < 2) :
    IsR (tqc n w half grp e q r u) (rq p (g + p) fq fr) :=
  qcat_real h.hh h.hg hu (by rw [h.he, hu]; exact (BitVec.ofNat_add g p).symm) (by omega) (by have := h.g2; omega) h.hq h.hr _ _

theorem tpr_real {u : BitVec 32} {p : ℕ} (hu : u = BitVec.ofNat 32 p) (hp : p < 2) :
    IsR (tpr n w half grp e (BitVec.ofNat 32 b) K q r u) (rP n b g k fq fr p) :=
  prob_tile (tqc_real w h hu hp) h.hK h.n0 h.n1 h.b1 _ _ _ _ _

theorem tds_real {u : BitVec 32} {p : ℕ} (hu : u = BitVec.ofNat 32 p) (hp : p < 2) :
    IsR (tds n w half grp e (BitVec.ofNat 32 b) K V q r o d u) (rS n b g k v fq fr fo fd p) :=
  dscore_real (tpr_real w h hu hp) (dom_real h.hh hu (by omega) h.hd) h.hV h.ho _ _ _ _

theorem tdq_real {u : BitVec 32} {p : ℕ} (hu : u = BitVec.ofNat 32 p) (hp : p < 2) :
    IsR (tdq n w half grp e (BitVec.ofNat 32 b) K V q r o d u) (rDq n b g k v fq fr fo fd p) :=
  dqcat_real (tds_real w h hu hp) h.hK

theorem tdk_real {u : BitVec 32} {p : ℕ} (hu : u = BitVec.ofNat 32 p) (hp : p < 2) :
    IsR (tdk n w half grp e (BitVec.ofNat 32 b) K V q r o d u) (rDk n b g k v fq fr fo fd p) :=
  dkcat_real (tds_real w h hu hp) (tqc_real w h hu hp)

theorem tdv_real {u : BitVec 32} {p : ℕ} (hu : u = BitVec.ofNat 32 p) (hp : p < 2) :
    IsR (tdv n w half grp e (BitVec.ofNat 32 b) K q r d u) (rDv n b g k fq fr fd p) :=
  dval_real (tpr_real w h hu hp) (dom_real h.hh hu (by omega) h.hd) _

theorem outQn_real : IsR (outQn n w half grp e (BitVec.ofNat 32 b) K V q r o d) (rQn n b g k v fq fr fo fd) :=
  IsR.trunc ((IsR.sel (isB_eq (x := fun l => l / 64) h.hh (fun l hl => by omega) rfl (by omega))
    ((tdq_real w h rfl (by omega)).slice 0 w.s0) ((tdq_real w h rfl (by omega)).slice 0 w.s0)).congr
    (fun i _ l _ => by simp only [Nat.zero_add]; rfl)) w.bits

theorem outQr_real : IsR (outQr n w half grp e (BitVec.ofNat 32 b) K V q r o d) (rQr n b g k v fq fr fo fd) :=
  (IsR.sel (isB_eq (x := fun l => l / 32) h.hg (fun l hl => by omega) h.he (by have := h.g2; omega))
    ((tdq_real w h rfl (by omega)).slice 128 w.s1) (.splat Ideal.ofBits_zero_f32)).add
  (IsR.sel (isB_eq (x := fun l => l / 32) (p := g + 1) h.hg (fun l hl => by omega)
      (by rw [h.he]; exact (BitVec.ofNat_add g 1).symm) (by have := h.g2; omega))
    ((tdq_real w h rfl (by omega)).slice 128 w.s1) (.splat Ideal.ofBits_zero_f32))

theorem outKn_real : IsR (outKn n w half grp e (BitVec.ofNat 32 b) K V q r o d) (rKn n b g k v fq fr fo fd) :=
  (((tdk_real w h rfl (by omega)).slice 0 w.n0).add ((tdk_real w h rfl (by omega)).slice 0 w.n0)).congr
    (fun i _ l _ => by simp only [Nat.zero_add]; rfl)

theorem outKr_real : IsR (outKr n w half grp e (BitVec.ofNat 32 b) K V q r o d) (rKr n b g k v fq fr fo fd) :=
  ((tdk_real w h rfl (by omega)).slice 128 w.n1).add ((tdk_real w h rfl (by omega)).slice 128 w.n1)

theorem outV_real : IsR (outV n w half grp e (BitVec.ofNat 32 b) K q r d) (rV n b g k fq fr fd) :=
  (tdv_real w h rfl (by omega)).add (tdv_real w h rfl (by omega))

end Real

end Cert.Attn

end
-- ==== Proof.Pieces.lean ====
/- The program's stores, tile by tile: each piece the region writes is the tile's matrix of the mathematics. -/
module

public import proofs.«01_k».proof.Proof.Gen.KernelIdeal.Frame
public import proofs.«01_k».proof.Proof.TileOut

@[expose] public section

set_option maxRecDepth 65536

noncomputable section

namespace Cert.KernelIdeal.Hand

open Idealize.ShloMosaic Idealize.ShloMosaic.ValueIdx Cert.Attn Cert.KernelIdeal.Gen

/-- A tile of 256 rows of an input block, from row `o`. -/
def rowLd (arg : Memref sig .tc .vmem S2048x128 .f32) (harg : arg.IsWhole) (x : Vec Ideal S2048x128 .f32) (o : ℕ)
    (inb : ∀ a, (![o, 0] : Fin 2 → ℕ) a + S256x128.size a ≤ S2048x128.size a) : FVec Ideal (M 256 128) .f32 :=
  shapeCast S256x128 (View.readAt (Elt Ideal) arg.view (Rect.unit (s := S2048x128) ![o, 0] S256x128.size inb).toLoadRect (harg.unread x))
    shapeCasts_S256x128_S256x128

/-- A prefix of the rows of the keys' scratch buffer. -/
def kcLd (c : Dev nD) (arg3 : Memref sig .tc .vmem S2048x128 .f32) (w3 : arg3.IsWhole)
    (arg4 : Memref sig .tc .vmem S2048x128 .f32) (w4 : arg4.IsWhole) (arg13 : Memref sig .tc .vmem S2048x256 .bf16)
    (x2 x3 : Vec Ideal S2048x128 .f32) (n : ℕ) (inb : ∀ a, (![0, 0] : Fin 2 → ℕ) a + (M n 256).size a ≤ S2048x256.size a) :
    FVec Ideal (M n 256) .bf16 :=
  arg13.view.readCov (kernelRun0_A.sl.HS0_1 c arg3 w3 arg4 w4 x2 x3) (Rect.unit (s := S2048x256) ![0, 0] (M n 256).size inb).toLoadRect

/-- A prefix of the rows of the values' scratch buffer. -/
def vbLd (c : Dev nD) (arg5 : Memref sig .tc .vmem S2048x128 .f32) (w5 : arg5.IsWhole)
    (arg14 : Memref sig .tc .vmem S2048x128 .bf16)
    (x4 : Vec Ideal S2048x128 .f32) (n : ℕ) (inb : ∀ a, (![0, 0] : Fin 2 → ℕ) a + (M n 128).size a ≤ S2048x128.size a) :
    FVec Ideal (M n 128) .bf16 :=
  arg14.view.readCov (kernelRun0_A.sl.HS1_1 c arg5 w5 x4) (Rect.unit (s := S2048x128) ![0, 0] (M n 128).size inb).toLoadRect

/-- A prefix of rows increased by a matrix. -/
def accCons (v : View sig .tc .vmem S2048x128 .f32) (n : ℕ)
    (inb : ∀ a, (![0, 0] : Fin 2 → ℕ) a + (M n 128).size a ≤ S2048x128.size a) (hs : (M n 128).ShapeCasts (M n 128))
    (X : FVec Ideal (M n 128) .f32) (H : List (View.Piece (Elt Ideal) S2048x128 .f32)) : List (View.Piece (Elt Ideal) S2048x128 .f32) :=
  ⟨Rect.unit (s := S2048x128) ![0, 0] (M n 128).size inb,
    addf (F := Ideal) (shapeCast (M n 128) (v.readCov H (Rect.unit (s := S2048x128) ![0, 0] (M n 128).size inb).toLoadRect) hs) X⟩ :: H

/-- A prefix of rows of a block with a unit axis increased by a matrix. -/
def accCons₁ (v : View sig .tc .vmem S1x2048x128 .f32) (n : ℕ)
    (inb : ∀ a, (![0, 0, 0] : Fin 3 → ℕ) a + (⟨3, ![1, n, 128]⟩ : Shape).size a ≤ S1x2048x128.size a)
    (hs : (⟨3, ![1, n, 128]⟩ : Shape).ShapeCasts (M n 128)) (hs' : (M n 128).ShapeCasts ⟨3, ![1, n, 128]⟩)
    (X : FVec Ideal (M n 128) .f32) (H : List (View.Piece (Elt Ideal) S1x2048x128 .f32)) : List (View.Piece (Elt Ideal) S1x2048x128 .f32) :=
  ⟨Rect.unit (s := S1x2048x128) ![0, 0, 0] (⟨3, ![1, n, 128]⟩ : Shape).size inb,
    shapeCast ⟨3, ![1, n, 128]⟩ (addf (F := Ideal)
      (shapeCast (M n 128) (v.readCov H (Rect.unit (s := S1x2048x128) ![0, 0, 0] (⟨3, ![1, n, 128]⟩ : Shape).size inb).toLoadRect) hs) X) hs'⟩ :: H

section

variable (c : Dev nD) (i : grid0.Coords)
  (arg1 : Memref sig .tc .vmem S2048x128 .f32) (w1 : arg1.IsWhole)
  (arg2 : Memref sig .tc .vmem S2048x128 .f32) (w2 : arg2.IsWhole)
  (arg3 : Memref sig .tc .vmem S2048x128 .f32) (w3 : arg3.IsWhole)
  (arg4 : Memref sig .tc .vmem S2048x128 .f32) (w4 : arg4.IsWhole)
  (arg5 : Memref sig .tc .vmem S2048x128 .f32) (w5 : arg5.IsWhole)
  (arg6 : Memref sig .tc .vmem S2048x128 .f32) (w6 : arg6.IsWhole)
  (arg7 : Memref sig .tc .vmem S2048x128 .f32) (w7 : arg7.IsWhole)
  (arg8 : Memref sig .tc .vmem S2048x128 .bf16) (w8 : arg8.IsWhole)
  (arg9 : Memref sig .tc .vmem S1x2048x128 .f32) (w9 : arg9.IsWhole)
  (arg10 : Memref sig .tc .vmem S2048x128 .f32) (w10 : arg10.IsWhole)
  (arg11 : Memref sig .tc .vmem S2048x128 .f32) (w11 : arg11.IsWhole)
  (arg12 : Memref sig .tc .vmem S1x2048x128 .f32) (w12 : arg12.IsWhole)
  (arg13 : Memref sig .tc .vmem S2048x256 .bf16) (w13 : arg13.IsWhole)
  (arg14 : Memref sig .tc .vmem S2048x128 .bf16) (w14 : arg14.IsWhole)
  (x0 x1 x2 x3 x4 x5 x6 : Vec Ideal S2048x128 .f32)

theorem fits_256 : Fits 256 :=
  ⟨iota_S256x256_d0_w32, iota_S256x256_d1_w32, reduces_S256x256_S256, reduces_S256x128_S256, shapeCasts_S256_S256x1,
    broadcasts_S256x1_S256x256, concatenates_S256x128_S256x128_S256x256_d1, bitsLt_bf16_f32,
    slices_S256x256_o0_0_S256x128, slices_S256x256_o0_128_S256x128, slices_S256x256_o0_0_S256x128,
    slices_S256x256_o0_128_S256x128⟩

theorem fits_512 : Fits 512 :=
  ⟨iota_S256x512_d0_w32, iota_S256x512_d1_w32, reduces_S256x512_S256, reduces_S256x128_S256, shapeCasts_S256_S256x1,
    broadcasts_S256x1_S256x512, concatenates_S256x128_S256x128_S256x256_d1, bitsLt_bf16_f32,
    slices_S256x256_o0_0_S256x128, slices_S256x256_o0_128_S256x128, slices_S512x256_o0_0_S512x128,
    slices_S512x256_o0_128_S512x128⟩

theorem fits_768 : Fits 768 :=
  ⟨iota_S256x768_d0_w32, iota_S256x768_d1_w32, reduces_S256x768_S256, reduces_S256x128_S256, shapeCasts_S256_S256x1,
    broadcasts_S256x1_S256x768, concatenates_S256x128_S256x128_S256x256_d1, bitsLt_bf16_f32,
    slices_S256x256_o0_0_S256x128, slices_S256x256_o0_128_S256x128, slices_S768x256_o0_0_S768x128,
    slices_S768x256_o0_128_S768x128⟩

theorem fits_1024 : Fits 1024 :=
  ⟨iota_S256x1024_d0_w32, iota_S256x1024_d1_w32, reduces_S256x1024_S256, reduces_S256x128_S256, shapeCasts_S256_S256x1,
    broadcasts_S256x1_S256x1024, concatenates_S256x128_S256x128_S256x256_d1, bitsLt_bf16_f32,
    slices_S256x256_o0_0_S256x128, slices_S256x256_o0_128_S256x128, slices_S1024x256_o0_0_S1024x128,
    slices_S1024x256_o0_128_S1024x128⟩

theorem fits_1280 : Fits 1280 :=
  ⟨iota_S256x1280_d0_w32, iota_S256x1280_d1_w32, reduces_S256x1280_S256, reduces_S256x128_S256, shapeCasts_S256_S256x1,
    broadcasts_S256x1_S256x1280, concatenates_S256x128_S256x128_S256x256_d1, bitsLt_bf16_f32,
    slices_S256x256_o0_0_S256x128, slices_S256x256_o0_128_S256x128, slices_S1280x256_o0_0_S1280x128,
    slices_S1280x256_o0_128_S1280x128⟩

theorem fits_1536 : Fits 1536 :=
  ⟨iota_S256x1536_d0_w32, iota_S256x1536_d1_w32, reduces_S256x1536_S256, reduces_S256x128_S256, shapeCasts_S256_S256x1,
    broadcasts_S256x1_S256x1536, concatenates_S256x128_S256x128_S256x256_d1, bitsLt_bf16_f32,
    slices_S256x256_o0_0_S256x128, slices_S256x256_o0_128_S256x128, slices_S1536x256_o0_0_S1536x128,
    slices_S1536x256_o0_128_S1536x128⟩

theorem fits_1792 : Fits 1792 :=
  ⟨iota_S256x1792_d0_w32, iota_S256x1792_d1_w32, reduces_S256x1792_S256, reduces_S256x128_S256, shapeCasts_S256_S256x1,
    broadcasts_S256x1_S256x1792, concatenates_S256x128_S256x128_S256x256_d1, bitsLt_bf16_f32,
    slices_S256x256_o0_0_S256x128, slices_S256x256_o0_128_S256x128, slices_S1792x256_o0_0_S1792x128,
    slices_S1792x256_o0_128_S1792x128⟩

theorem fits_2048 : Fits 2048 :=
  ⟨iota_S256x2048_d0_w32, iota_S256x2048_d1_w32, reduces_S256x2048_S256, reduces_S256x128_S256, shapeCasts_S256_S256x1,
    broadcasts_S256x1_S256x2048, concatenates_S256x128_S256x128_S256x256_d1, bitsLt_bf16_f32,
    slices_S256x256_o0_0_S256x128, slices_S256x256_o0_128_S256x128, slices_S2048x256_o0_0_S2048x128,
    slices_S2048x256_o0_128_S2048x128⟩

section

variable (b n : ℕ) (F : Fits n) (inb : ∀ a, (![b, 0] : Fin 2 → ℕ) a + S256x128.size a ≤ S2048x128.size a)
  (inbK : ∀ a, (![0, 0] : Fin 2 → ℕ) a + (M n 256).size a ≤ S2048x256.size a)
  (inbV : ∀ a, (![0, 0] : Fin 2 → ℕ) a + (M n 128).size a ≤ S2048x128.size a)

/-- One tile's share of the gradient of the queries' part without position. -/
def tileQn :=
  outQn n F kernelRun0_A.sl.v35 kernelRun0_A.sl.r (kernelRun0_A.sl.v10 i) (BitVec.ofNat 32 b)
    (kcLd c arg3 w3 arg4 w4 arg13 x2 x3 n inbK) (vbLd c arg5 w5 arg14 x4 n inbV) (rowLd arg1 w1 x0 b inb) (rowLd arg2 w2 x1 b inb)
    (rowLd arg6 w6 x5 b inb) (rowLd arg7 w7 x6 b inb)

/-- … of the queries' part with position. -/
def tileQr :=
  outQr n F kernelRun0_A.sl.v35 kernelRun0_A.sl.r (kernelRun0_A.sl.v10 i) (BitVec.ofNat 32 b)
    (kcLd c arg3 w3 arg4 w4 arg13 x2 x3 n inbK) (vbLd c arg5 w5 arg14 x4 n inbV) (rowLd arg1 w1 x0 b inb) (rowLd arg2 w2 x1 b inb)
    (rowLd arg6 w6 x5 b inb) (rowLd arg7 w7 x6 b inb)

/-- … of the keys' part without position. -/
def tileKn :=
  outKn n F kernelRun0_A.sl.v35 kernelRun0_A.sl.r (kernelRun0_A.sl.v10 i) (BitVec.ofNat 32 b)
    (kcLd c arg3 w3 arg4 w4 arg13 x2 x3 n inbK) (vbLd c arg5 w5 arg14 x4 n inbV) (rowLd arg1 w1 x0 b inb) (rowLd arg2 w2 x1 b inb)
    (rowLd arg6 w6 x5 b inb) (rowLd arg7 w7 x6 b inb)

/-- … of the shared key. -/
def tileKr :=
  outKr n F kernelRun0_A.sl.v35 kernelRun0_A.sl.r (kernelRun0_A.sl.v10 i) (BitVec.ofNat 32 b)
    (kcLd c arg3 w3 arg4 w4 arg13 x2 x3 n inbK) (vbLd c arg5 w5 arg14 x4 n inbV) (rowLd arg1 w1 x0 b inb) (rowLd arg2 w2 x1 b inb)
    (rowLd arg6 w6 x5 b inb) (rowLd arg7 w7 x6 b inb)

/-- … of the values. -/
def tileV :=
  outV n F kernelRun0_A.sl.v35 kernelRun0_A.sl.r (kernelRun0_A.sl.v10 i) (BitVec.ofNat 32 b)
    (kcLd c arg3 w3 arg4 w4 arg13 x2 x3 n inbK) (rowLd arg1 w1 x0 b inb) (rowLd arg2 w2 x1 b inb) (rowLd arg7 w7 x6 b inb)

end

/-- The stores of the gradient of the queries' part without position. -/
theorem L7_eq : (kernelRun0_A c i arg1 w1 arg2 w2 arg3 w3 arg4 w4 arg5 w5 arg6 w6 arg7 w7 arg8 w8 arg9 w9 arg10 w10 arg11 w11 arg12 w12 arg13 w13 arg14 w14 x0 x1 x2 x3 x4 x5 x6).1 = (fun T => [
    ⟨Rect.unit ![1792, 0] S256x128.size inb_S2048x128_S256x128_1792_0, (T 1792 2048 fits_2048 inb_S2048x128_S256x128_1792_0 inb_S2048x256_S2048x256_0_0 inb_S2048x128_S2048x128_0_0)⟩,
    ⟨Rect.unit ![1536, 0] S256x128.size inb_S2048x128_S256x128_1536_0, (T 1536 1792 fits_1792 inb_S2048x128_S256x128_1536_0 inb_S2048x256_S1792x256_0_0 inb_S2048x128_S1792x128_0_0)⟩,
    ⟨Rect.unit ![1280, 0] S256x128.size inb_S2048x128_S256x128_1280_0, (T 1280 1536 fits_1536 inb_S2048x128_S256x128_1280_0 inb_S2048x256_S1536x256_0_0 inb_S2048x128_S1536x128_0_0)⟩,
    ⟨Rect.unit ![1024, 0] S256x128.size inb_S2048x128_S256x128_1024_0, (T 1024 1280 fits_1280 inb_S2048x128_S256x128_1024_0 inb_S2048x256_S1280x256_0_0 inb_S2048x128_S1280x128_0_0)⟩,
    ⟨Rect.unit ![768, 0] S256x128.size inb_S2048x128_S256x128_768_0, (T 768 1024 fits_1024 inb_S2048x128_S256x128_768_0 inb_S2048x256_S1024x256_0_0 inb_S2048x128_S1024x128_0_0)⟩,
    ⟨Rect.unit ![512, 0] S256x128.size inb_S2048x128_S256x128_512_0, (T 512 768 fits_768 inb_S2048x128_S256x128_512_0 inb_S2048x256_S768x256_0_0 inb_S2048x128_S768x128_0_0)⟩,
    ⟨Rect.unit ![256, 0] S256x128.size inb_S2048x128_S256x128_256_0, (T 256 512 fits_512 inb_S2048x128_S256x128_256_0 inb_S2048x256_S512x256_0_0 inb_S2048x128_S512x128_0_0)⟩,
    ⟨Rect.unit ![0, 0] S256x128.size inb_S2048x128_S256x128_0_0, (T 0 256 fits_256 inb_S2048x128_S256x128_0_0 inb_S2048x256_S256x256_0_0 inb_S2048x128_S256x128_0_0)⟩])
    (tileQn c i arg1 w1 arg2 w2 arg3 w3 arg4 w4 arg5 w5 arg6 w6 arg7 w7 arg13 arg14 x0 x1 x2 x3 x4 x5 x6) := by
  rfl

/-- The stores of the gradient of the queries' part with position. -/
theorem L8_eq : (kernelRun0_A c i arg1 w1 arg2 w2 arg3 w3 arg4 w4 arg5 w5 arg6 w6 arg7 w7 arg8 w8 arg9 w9 arg10 w10 arg11 w11 arg12 w12 arg13 w13 arg14 w14 x0 x1 x2 x3 x4 x5 x6).2.1 = (fun T => [
    ⟨Rect.unit ![0, 1792, 0] S1x256x128.size inb_S1x2048x128_S1x256x128_0_1792_0, shapeCast S1x256x128 (T 1792 2048 fits_2048 inb_S2048x128_S256x128_1792_0 inb_S2048x256_S2048x256_0_0 inb_S2048x128_S2048x128_0_0) shapeCasts_S256x128_S1x256x128⟩,
    ⟨Rect.unit ![0, 1536, 0] S1x256x128.size inb_S1x2048x128_S1x256x128_0_1536_0, shapeCast S1x256x128 (T 1536 1792 fits_1792 inb_S2048x128_S256x128_1536_0 inb_S2048x256_S1792x256_0_0 inb_S2048x128_S1792x128_0_0) shapeCasts_S256x128_S1x256x128⟩,
    ⟨Rect.unit ![0, 1280, 0] S1x256x128.size inb_S1x2048x128_S1x256x128_0_1280_0, shapeCast S1x256x128 (T 1280 1536 fits_1536 inb_S2048x128_S256x128_1280_0 inb_S2048x256_S1536x256_0_0 inb_S2048x128_S1536x128_0_0) shapeCasts_S256x128_S1x256x128⟩,
    ⟨Rect.unit ![0, 1024, 0] S1x256x128.size inb_S1x2048x128_S1x256x128_0_1024_0, shapeCast S1x256x128 (T 1024 1280 fits_1280 inb_S2048x128_S256x128_1024_0 inb_S2048x256_S1280x256_0_0 inb_S2048x128_S1280x128_0_0) shapeCasts_S256x128_S1x256x128⟩,
    ⟨Rect.unit ![0, 768, 0] S1x256x128.size inb_S1x2048x128_S1x256x128_0_768_0, shapeCast S1x256x128 (T 768 1024 fits_1024 inb_S2048x128_S256x128_768_0 inb_S2048x256_S1024x256_0_0 inb_S2048x128_S1024x128_0_0) shapeCasts_S256x128_S1x256x128⟩,
    ⟨Rect.unit ![0, 512, 0] S1x256x128.size inb_S1x2048x128_S1x256x128_0_512_0, shapeCast S1x256x128 (T 512 768 fits_768 inb_S2048x128_S256x128_512_0 inb_S2048x256_S768x256_0_0 inb_S2048x128_S768x128_0_0) shapeCasts_S256x128_S1x256x128⟩,
    ⟨Rect.unit ![0, 256, 0] S1x256x128.size inb_S1x2048x128_S1x256x128_0_256_0, shapeCast S1x256x128 (T 256 512 fits_512 inb_S2048x128_S256x128_256_0 inb_S2048x256_S512x256_0_0 inb_S2048x128_S512x128_0_0) shapeCasts_S256x128_S1x256x128⟩,
    ⟨Rect.unit ![0, 0, 0] S1x256x128.size inb_S1x2048x128_S1x256x128_0_0_0, shapeCast S1x256x128 (T 0 256 fits_256 inb_S2048x128_S256x128_0_0 inb_S2048x256_S256x256_0_0 inb_S2048x128_S256x128_0_0) shapeCasts_S256x128_S1x256x128⟩])
    (tileQr c i arg1 w1 arg2 w2 arg3 w3 arg4 w4 arg5 w5 arg6 w6 arg7 w7 arg13 arg14 x0 x1 x2 x3 x4 x5 x6) := by
  rfl

/-- The stores of an accumulated gradient. -/
theorem L9_eq : (kernelRun0_A c i arg1 w1 arg2 w2 arg3 w3 arg4 w4 arg5 w5 arg6 w6 arg7 w7 arg8 w8 arg9 w9 arg10 w10 arg11 w11 arg12 w12 arg13 w13 arg14 w14 x0 x1 x2 x3 x4 x5 x6).2.2.1 = (fun T => accCons arg10.view 2048 inb_S2048x128_S2048x128_0_0 shapeCasts_S2048x128_S2048x128 (T 1792 2048 fits_2048 inb_S2048x128_S256x128_1792_0 inb_S2048x256_S2048x256_0_0 inb_S2048x128_S2048x128_0_0)
      (accCons arg10.view 1792 inb_S2048x128_S1792x128_0_0 shapeCasts_S1792x128_S1792x128 (T 1536 1792 fits_1792 inb_S2048x128_S256x128_1536_0 inb_S2048x256_S1792x256_0_0 inb_S2048x128_S1792x128_0_0)
      (accCons arg10.view 1536 inb_S2048x128_S1536x128_0_0 shapeCasts_S1536x128_S1536x128 (T 1280 1536 fits_1536 inb_S2048x128_S256x128_1280_0 inb_S2048x256_S1536x256_0_0 inb_S2048x128_S1536x128_0_0)
      (accCons arg10.view 1280 inb_S2048x128_S1280x128_0_0 shapeCasts_S1280x128_S1280x128 (T 1024 1280 fits_1280 inb_S2048x128_S256x128_1024_0 inb_S2048x256_S1280x256_0_0 inb_S2048x128_S1280x128_0_0)
      (accCons arg10.view 1024 inb_S2048x128_S1024x128_0_0 shapeCasts_S1024x128_S1024x128 (T 768 1024 fits_1024 inb_S2048x128_S256x128_768_0 inb_S2048x256_S1024x256_0_0 inb_S2048x128_S1024x128_0_0)
      (accCons arg10.view 768 inb_S2048x128_S768x128_0_0 shapeCasts_S768x128_S768x128 (T 512 768 fits_768 inb_S2048x128_S256x128_512_0 inb_S2048x256_S768x256_0_0 inb_S2048x128_S768x128_0_0)
      (accCons arg10.view 512 inb_S2048x128_S512x128_0_0 shapeCasts_S512x128_S512x128 (T 256 512 fits_512 inb_S2048x128_S256x128_256_0 inb_S2048x256_S512x256_0_0 inb_S2048x128_S512x128_0_0)
      (accCons arg10.view 256 inb_S2048x128_S256x128_0_0 shapeCasts_S256x128_S256x128 (T 0 256 fits_256 inb_S2048x128_S256x128_0_0 inb_S2048x256_S256x256_0_0 inb_S2048x128_S256x128_0_0)
      (kernelRun0_A.sl.H9_1)))))))))
    (tileKn c i arg1 w1 arg2 w2 arg3 w3 arg4 w4 arg5 w5 arg6 w6 arg7 w7 arg13 arg14 x0 x1 x2 x3 x4 x5 x6) := by
  rfl

/-- The stores of an accumulated gradient. -/
theorem L10_eq : (kernelRun0_A c i arg1 w1 arg2 w2 arg3 w3 arg4 w4 arg5 w5 arg6 w6 arg7 w7 arg8 w8 arg9 w9 arg10 w10 arg11 w11 arg12 w12 arg13 w13 arg14 w14 x0 x1 x2 x3 x4 x5 x6).2.2.2.1 = (fun T => accCons arg11.view 2048 inb_S2048x128_S2048x128_0_0 shapeCasts_S2048x128_S2048x128 (T 1792 2048 fits_2048 inb_S2048x128_S256x128_1792_0 inb_S2048x256_S2048x256_0_0)
      (accCons arg11.view 1792 inb_S2048x128_S1792x128_0_0 shapeCasts_S1792x128_S1792x128 (T 1536 1792 fits_1792 inb_S2048x128_S256x128_1536_0 inb_S2048x256_S1792x256_0_0)
      (accCons arg11.view 1536 inb_S2048x128_S1536x128_0_0 shapeCasts_S1536x128_S1536x128 (T 1280 1536 fits_1536 inb_S2048x128_S256x128_1280_0 inb_S2048x256_S1536x256_0_0)
      (accCons arg11.view 1280 inb_S2048x128_S1280x128_0_0 shapeCasts_S1280x128_S1280x128 (T 1024 1280 fits_1280 inb_S2048x128_S256x128_1024_0 inb_S2048x256_S1280x256_0_0)
      (accCons arg11.view 1024 inb_S2048x128_S1024x128_0_0 shapeCasts_S1024x128_S1024x128 (T 768 1024 fits_1024 inb_S2048x128_S256x128_768_0 inb_S2048x256_S1024x256_0_0)
      (accCons arg11.view 768 inb_S2048x128_S768x128_0_0 shapeCasts_S768x128_S768x128 (T 512 768 fits_768 inb_S2048x128_S256x128_512_0 inb_S2048x256_S768x256_0_0)
      (accCons arg11.view 512 inb_S2048x128_S512x128_0_0 shapeCasts_S512x128_S512x128 (T 256 512 fits_512 inb_S2048x128_S256x128_256_0 inb_S2048x256_S512x256_0_0)
      (accCons arg11.view 256 inb_S2048x128_S256x128_0_0 shapeCasts_S256x128_S256x128 (T 0 256 fits_256 inb_S2048x128_S256x128_0_0 inb_S2048x256_S256x256_0_0)
      (kernelRun0_A.sl.H10_1)))))))))
    (tileV c i arg1 w1 arg2 w2 arg3 w3 arg4 w4 arg7 w7 arg13 x0 x1 x2 x3 x6) := by
  rfl

/-- The stores of an accumulated gradient. -/
theorem L11_eq : (kernelRun0_A c i arg1 w1 arg2 w2 arg3 w3 arg4 w4 arg5 w5 arg6 w6 arg7 w7 arg8 w8 arg9 w9 arg10 w10 arg11 w11 arg12 w12 arg13 w13 arg14 w14 x0 x1 x2 x3 x4 x5 x6).2.2.2.2.1 = (fun T => accCons₁ arg12.view 2048 inb_S1x2048x128_S1x2048x128_0_0_0 shapeCasts_S1x2048x128_S2048x128 shapeCasts_S2048x128_S1x2048x128 (T 1792 2048 fits_2048 inb_S2048x128_S256x128_1792_0 inb_S2048x256_S2048x256_0_0 inb_S2048x128_S2048x128_0_0)
      (accCons₁ arg12.view 1792 inb_S1x2048x128_S1x1792x128_0_0_0 shapeCasts_S1x1792x128_S1792x128 shapeCasts_S1792x128_S1x1792x128 (T 1536 1792 fits_1792 inb_S2048x128_S256x128_1536_0 inb_S2048x256_S1792x256_0_0 inb_S2048x128_S1792x128_0_0)
      (accCons₁ arg12.view 1536 inb_S1x2048x128_S1x1536x128_0_0_0 shapeCasts_S1x1536x128_S1536x128 shapeCasts_S1536x128_S1x1536x128 (T 1280 1536 fits_1536 inb_S2048x128_S256x128_1280_0 inb_S2048x256_S1536x256_0_0 inb_S2048x128_S1536x128_0_0)
      (accCons₁ arg12.view 1280 inb_S1x2048x128_S1x1280x128_0_0_0 shapeCasts_S1x1280x128_S1280x128 shapeCasts_S1280x128_S1x1280x128 (T 1024 1280 fits_1280 inb_S2048x128_S256x128_1024_0 inb_S2048x256_S1280x256_0_0 inb_S2048x128_S1280x128_0_0)
      (accCons₁ arg12.view 1024 inb_S1x2048x128_S1x1024x128_0_0_0 shapeCasts_S1x1024x128_S1024x128 shapeCasts_S1024x128_S1x1024x128 (T 768 1024 fits_1024 inb_S2048x128_S256x128_768_0 inb_S2048x256_S1024x256_0_0 inb_S2048x128_S1024x128_0_0)
      (accCons₁ arg12.view 768 inb_S1x2048x128_S1x768x128_0_0_0 shapeCasts_S1x768x128_S768x128 shapeCasts_S768x128_S1x768x128 (T 512 768 fits_768 inb_S2048x128_S256x128_512_0 inb_S2048x256_S768x256_0_0 inb_S2048x128_S768x128_0_0)
      (accCons₁ arg12.view 512 inb_S1x2048x128_S1x512x128_0_0_0 shapeCasts_S1x512x128_S512x128 shapeCasts_S512x128_S1x512x128 (T 256 512 fits_512 inb_S2048x128_S256x128_256_0 inb_S2048x256_S512x256_0_0 inb_S2048x128_S512x128_0_0)
      (accCons₁ arg12.view 256 inb_S1x2048x128_S1x256x128_0_0_0 shapeCasts_S1x256x128_S256x128 shapeCasts_S256x128_S1x256x128 (T 0 256 fits_256 inb_S2048x128_S256x128_0_0 inb_S2048x256_S256x256_0_0 inb_S2048x128_S256x128_0_0)
      (kernelRun0_A.sl.H11_1)))))))))
    (tileKr c i arg1 w1 arg2 w2 arg3 w3 arg4 w4 arg5 w5 arg6 w6 arg7 w7 arg13 arg14 x0 x1 x2 x3 x4 x5 x6) := by
  rfl

end

end Cert.KernelIdeal.Hand

end
-- ==== Proof.Canon.lean ====
/- What lists of stores of whole rows leave in a block, where every stored matrix holds reals. -/
module

public import proofs.«01_k».proof.Proof.Pieces

@[expose] public section

set_option maxRecDepth 16384

noncomputable section

namespace Cert.Attn

open Idealize.ShloMosaic Idealize.ShloMosaic.ValueIdx

variable {n c : ℕ} {φ : FTy} {e : EltTy}

/-- The block with a leading unit axis. -/
abbrev M₁ (n c : ℕ) : Shape := ⟨3, ![1, n, c]⟩

/-- The block `X` with a leading unit axis holds the reals `f`. -/
def IsR₁ {a c : ℕ} {φ : FTy} (X : FVec Ideal (M₁ a c) φ) (f : ℕ → ℕ → ℝ) : Prop :=
  ∀ (r : Fin a) (k : Fin c), X (ix3 (0 : Fin 1) r k) = ((f r.val k.val : ℝ) : EReal)

/-- Inside the rows of the last store the block holds what was stored. -/
theorem canon_in {o k : ℕ} (inb : ∀ a, (![o, 0] : Fin 2 → ℕ) a + (M k c).size a ≤ (M n c).size a) (X : (M k c).Idx → Elt Ideal e)
    (H : List (View.Piece (Elt Ideal) (M n c) e)) (r : Fin n) (l : Fin c) (ρ : Fin k) (h : r.val = o + ρ.val) :
    View.canon (⟨Rect.unit (s := M n c) ![o, 0] (M k c).size inb, X⟩ :: H) (ix2 r l) = X (ix2 ρ l) := by
  have e : (Rect.unit (s := M n c) ![o, 0] (M k c).size inb).emb (ix2 ρ l) = ix2 r l := by
    funext a
    refine Fin.ext ?_
    match a with
    | ⟨0, _⟩ => show o + 1 * ρ.val = r.val; omega
    | ⟨1, _⟩ => show 0 + 1 * l.val = l.val; omega
  exact (congrArg _ e.symm).trans (View.canon_cons_emb (Rect.unit (s := M n c) ![o, 0] (M k c).size inb) X H (ix2 ρ l))

/-- Outside them it holds what it held. -/
theorem canon_out {o k : ℕ} (inb : ∀ a, (![o, 0] : Fin 2 → ℕ) a + (M k c).size a ≤ (M n c).size a) (X : (M k c).Idx → Elt Ideal e)
    (H : List (View.Piece (Elt Ideal) (M n c) e)) (r : Fin n) (l : Fin c) (h : ¬ (o ≤ r.val ∧ r.val < o + k)) :
    View.canon (⟨Rect.unit (s := M n c) ![o, 0] (M k c).size inb, X⟩ :: H) (ix2 r l) = View.canon H (ix2 r l) := by
  refine View.canon_cons_of_not_mem _ H fun hm => h ?_
  exact (Rect.mem_set_unit (s := M n c) (inb := inb) |>.mp hm) 0

/-- The same with a leading unit axis. -/
theorem canon_in₁ {o k : ℕ} (inb : ∀ a, (![0, o, 0] : Fin 3 → ℕ) a + (M₁ k c).size a ≤ (M₁ n c).size a)
    (X : (M₁ k c).Idx → Elt Ideal e) (H : List (View.Piece (Elt Ideal) (M₁ n c) e)) (r : Fin n) (l : Fin c) (ρ : Fin k)
    (h : r.val = o + ρ.val) :
    View.canon (⟨Rect.unit (s := M₁ n c) ![0, o, 0] (M₁ k c).size inb, X⟩ :: H) (ix3 (0 : Fin 1) r l) = X (ix3 (0 : Fin 1) ρ l) := by
  have e : (Rect.unit (s := M₁ n c) ![0, o, 0] (M₁ k c).size inb).emb (ix3 (0 : Fin 1) ρ l) = ix3 (0 : Fin 1) r l := by
    funext a
    refine Fin.ext ?_
    match a with
    | ⟨0, _⟩ => rfl
    | ⟨1, _⟩ => show o + 1 * ρ.val = r.val; omega
    | ⟨2, _⟩ => show 0 + 1 * l.val = l.val; omega
  exact (congrArg _ e.symm).trans
    (View.canon_cons_emb (Rect.unit (s := M₁ n c) ![0, o, 0] (M₁ k c).size inb) X H (ix3 (0 : Fin 1) ρ l))

theorem canon_out₁ {o k : ℕ} (inb : ∀ a, (![0, o, 0] : Fin 3 → ℕ) a + (M₁ k c).size a ≤ (M₁ n c).size a)
    (X : (M₁ k c).Idx → Elt Ideal e) (H : List (View.Piece (Elt Ideal) (M₁ n c) e)) (r : Fin n) (l : Fin c)
    (h : ¬ (o ≤ r.val ∧ r.val < o + k)) :
    View.canon (⟨Rect.unit (s := M₁ n c) ![0, o, 0] (M₁ k c).size inb, X⟩ :: H) (ix3 (0 : Fin 1) r l)
      = View.canon H (ix3 (0 : Fin 1) r l) := by
  refine View.canon_cons_of_not_mem _ H fun hm => h ?_
  exact (Rect.mem_set_unit (s := M₁ n c) (inb := inb) |>.mp hm) 1

/-! ## Disjoint rows -/

/-- The stores so far hold the values `f` in the rows before `o`. -/
def Upto (H : List (View.Piece (Elt Ideal) (M n c) e)) (o : ℕ) (f : ℕ → ℕ → Elt Ideal e) : Prop :=
  ∀ (r : Fin n) (l : Fin c), r.val < o → View.canon H (ix2 r l) = f r.val l.val
def Upto₁ (H : List (View.Piece (Elt Ideal) (M₁ n c) e)) (o : ℕ) (f : ℕ → ℕ → Elt Ideal e) : Prop :=
  ∀ (r : Fin n) (l : Fin c), r.val < o → View.canon H (ix3 (0 : Fin 1) r l) = f r.val l.val

theorem Upto.step {H : List (View.Piece (Elt Ideal) (M n c) e)} {o k o' : ℕ} {f g : ℕ → ℕ → Elt Ideal e} (hH : Upto H o f)
    (inb : ∀ a, (![o, 0] : Fin 2 → ℕ) a + (M k c).size a ≤ (M n c).size a) {X : (M k c).Idx → Elt Ideal e} (hX : ∀ (r : Fin k) (l : Fin c), X (ix2 r l) = g r.val l.val)
    (ho : o' = o + k) (hfg : ∀ r l, r < k → f (o + r) l = g r l) :
    Upto (⟨Rect.unit (s := M n c) ![o, 0] (M k c).size inb, X⟩ :: H) o' f := fun r l hr => by
  by_cases h : r.val < o
  · rw [canon_out inb X H r l (by omega)]; exact hH r l h
  · have hρ : r.val = o + (⟨r.val - o, by omega⟩ : Fin k).val := by show r.val = o + (r.val - o); omega
    rw [canon_in inb X H r l _ hρ, hX, ← hfg _ _ (by show r.val - o < k; omega)]
    exact congrArg (f · l.val) hρ.symm

theorem Upto₁.step {H : List (View.Piece (Elt Ideal) (M₁ n c) e)} {o k o' : ℕ} {f g : ℕ → ℕ → Elt Ideal e} (hH : Upto₁ H o f)
    (inb : ∀ a, (![0, o, 0] : Fin 3 → ℕ) a + (M₁ k c).size a ≤ (M₁ n c).size a) {X : (M₁ k c).Idx → Elt Ideal e} (hX : ∀ (r : Fin k) (l : Fin c), X (ix3 (0 : Fin 1) r l) = g r.val l.val)
    (ho : o' = o + k) (hfg : ∀ r l, r < k → f (o + r) l = g r l) :
    Upto₁ (⟨Rect.unit (s := M₁ n c) ![0, o, 0] (M₁ k c).size inb, X⟩ :: H) o' f := fun r l hr => by
  by_cases h : r.val < o
  · rw [canon_out₁ inb X H r l (by omega)]; exact hH r l h
  · have hρ : r.val = o + (⟨r.val - o, by omega⟩ : Fin k).val := by show r.val = o + (r.val - o); omega
    rw [canon_in₁ inb X H r l _ hρ, hX, ← hfg _ _ (by show r.val - o < k; omega)]
    exact congrArg (f · l.val) hρ.symm

/-! ## Reshapes that add or drop the unit axis -/

theorem IsR.add₁ {X : FVec Ideal (M n c) φ} {f : ℕ → ℕ → ℝ} (hX : IsR X f) (h : (M n c).ShapeCasts (M₁ n c)) :
    IsR₁ (φ := φ) (shapeCast (M₁ n c) X h) f := fun r l => by
  refine (shapeCast_apply X h (ix3 (0 : Fin 1) r l) (ix2 r l) ?_).trans (hX r l)
  rw [Shape.rowMajor_val_two, Shape.rowMajor_val_three]
  show r.val * c + l.val = (0 * n + r.val) * c + l.val
  rw [Nat.zero_mul, Nat.zero_add]

theorem IsR₁.drop {X : FVec Ideal (M₁ n c) φ} {f : ℕ → ℕ → ℝ} (hX : IsR₁ X f) (h : (M₁ n c).ShapeCasts (M n c)) :
    IsR (φ := φ) (shapeCast (M n c) X h) f := fun r l => by
  refine (shapeCast_apply X h (ix2 r l) (ix3 (0 : Fin 1) r l) ?_).trans (hX r l)
  rw [Shape.rowMajor_val_two, Shape.rowMajor_val_three]
  show (0 * n + r.val) * c + l.val = r.val * c + l.val
  rw [Nat.zero_mul, Nat.zero_add]

theorem IsR.same {X : FVec Ideal (M n c) φ} {f : ℕ → ℕ → ℝ} (hX : IsR X f) (h : (M n c).ShapeCasts (M n c)) :
    IsR (φ := φ) (shapeCast (M n c) X h) f := by rw [shapeCast_same]; exact hX

end Cert.Attn

namespace Cert.KernelIdeal.Hand

open Idealize.ShloMosaic Idealize.ShloMosaic.ValueIdx Cert.Attn Cert.KernelIdeal.Gen

/-! ## Accumulated rows -/

/-- A load of the first `n` rows. -/
theorem cov_rows {c N : ℕ} {e : EltTy} (v : View sig .tc .vmem (M N c) e) {H : List (View.Piece (Elt Ideal) (M N c) e)}
    {f : ℕ → ℕ → Elt Ideal e} (hH : Upto H N f) (n : ℕ) (inb : ∀ a, (![0, 0] : Fin 2 → ℕ) a + (M n c).size a ≤ (M N c).size a) :
    ∀ (r : Fin n) (l : Fin c), v.readCov H (Rect.unit (s := M N c) ![0, 0] (M n c).size inb).toLoadRect (ix2 r l) = f r.val l.val :=
  fun r l => by
  have hr : r.val < N := by have h := inb 0; have h2 := r.isLt; simp at h; omega
  rw [View.readCov_eq_canon']
  refine (congrArg (View.canon H) (?_ : _ = ix2 (⟨r.val, hr⟩ : Fin N) l)).trans (hH ⟨r.val, hr⟩ l hr)
  funext a
  refine Fin.ext ?_
  match a with
  | ⟨0, _⟩ => show 0 + 1 * r.val = r.val; omega
  | ⟨1, _⟩ => show 0 + 1 * l.val = l.val; omega

theorem cov_rows₁ {c N : ℕ} {e : EltTy} (v : View sig .tc .vmem (M₁ N c) e)
    {H : List (View.Piece (Elt Ideal) (M₁ N c) e)}
    {f : ℕ → ℕ → Elt Ideal e} (hH : Upto₁ H N f) (n : ℕ) (inb : ∀ a, (![0, 0, 0] : Fin 3 → ℕ) a + (M₁ n c).size a ≤ (M₁ N c).size a) :
    ∀ (r : Fin n) (l : Fin c), v.readCov H (Rect.unit (s := M₁ N c) ![0, 0, 0] (M₁ n c).size inb).toLoadRect (ix3 (0 : Fin 1) r l) = f r.val l.val :=
  fun r l => by
  have hr : r.val < N := by have h := inb 1; have h2 := r.isLt; simp at h; omega
  rw [View.readCov_eq_canon']
  refine (congrArg (View.canon H) (?_ : _ = ix3 (0 : Fin 1) (⟨r.val, hr⟩ : Fin N) l)).trans (hH ⟨r.val, hr⟩ l hr)
  funext a
  refine Fin.ext ?_
  match a with
  | ⟨0, _⟩ => rfl
  | ⟨1, _⟩ => show 0 + 1 * r.val = r.val; omega
  | ⟨2, _⟩ => show 0 + 1 * l.val = l.val; omega

theorem accCons_real {v : View sig .tc .vmem S2048x128 .f32} {n : ℕ}
    {inb : ∀ a, (![0, 0] : Fin 2 → ℕ) a + (M n 128).size a ≤ S2048x128.size a} {hs : (M n 128).ShapeCasts (M n 128)}
    {X : FVec Ideal (M n 128) .f32} {H : List (View.Piece (Elt Ideal) S2048x128 .f32)} {f g : ℕ → ℕ → ℝ}
    (hX : IsR X g) (hH : Upto H 2048 (fun r l => ((f r l : ℝ) : EReal))) :
    Upto (accCons v n inb hs X H) 2048 (fun r l => ((f r l + if r < n then g r l else 0 : ℝ) : EReal)) := fun r l hr => by
  by_cases h : r.val < n
  · refine (canon_in inb _ H r l (⟨r.val, h⟩ : Fin n) (by show r.val = 0 + r.val; omega)).trans ?_
    refine (((IsR.same (φ := .f32) (cov_rows v hH n inb) hs).add hX) ⟨r.val, h⟩ l).trans ?_
    simp only [if_pos h]
  · refine (canon_out inb _ H r l (by omega)).trans ((hH r l hr).trans ?_)
    simp only [if_neg h, add_zero]

theorem accCons₁_real {v : View sig .tc .vmem S1x2048x128 .f32} {n : ℕ}
    {inb : ∀ a, (![0, 0, 0] : Fin 3 → ℕ) a + (⟨3, ![1, n, 128]⟩ : Shape).size a ≤ S1x2048x128.size a}
    {hs : (⟨3, ![1, n, 128]⟩ : Shape).ShapeCasts (M n 128)} {hs' : (M n 128).ShapeCasts ⟨3, ![1, n, 128]⟩}
    {X : FVec Ideal (M n 128) .f32} {H : List (View.Piece (Elt Ideal) S1x2048x128 .f32)} {f g : ℕ → ℕ → ℝ}
    (hX : IsR X g) (hH : Upto₁ H 2048 (fun r l => ((f r l : ℝ) : EReal))) :
    Upto₁ (accCons₁ v n inb hs hs' X H) 2048 (fun r l => ((f r l + if r < n then g r l else 0 : ℝ) : EReal)) := fun r l hr => by
  by_cases h : r.val < n
  · refine (canon_in₁ inb _ H r l (⟨r.val, h⟩ : Fin n) (by show r.val = 0 + r.val; omega)).trans ?_
    refine ((((IsR₁.drop (φ := .f32) (cov_rows₁ v hH n inb) hs).add hX).add₁ hs') ⟨r.val, h⟩ l).trans ?_
    simp only [if_pos h]
  · refine (canon_out₁ inb _ H r l (by omega)).trans ((hH r l hr).trans ?_)
    simp only [if_neg h, add_zero]

end Cert.KernelIdeal.Hand

end
-- ==== Proof.TileMath.lean ====
/- The reals of a tile in terms of the attention's own derivatives: lane sums become sums over a head's coordinates, and
   the tiles' sums over keys and queries become the whole sums. -/
module

public import proofs.«01_k».proof.Proof.Math
public import proofs.«01_k».proof.Proof.TileOut

@[expose] public section

noncomputable section

namespace Cert.Attn

open Finset

/-! ## Sums over lanes -/

/-- A sum over the 256 lanes of two blocks side by side. -/
theorem sum_256 (f : ℕ → ℝ) : ∑ l ∈ range 256, f l = ∑ l ∈ range 128, f l + ∑ l ∈ range 128, f (128 + l) :=
  Finset.sum_range_add f 128 128

/-- A sum over the lanes of one piece of `w` lanes out of `m`. -/
theorem sum_piece (w m p : ℕ) (hw : 0 < w) (hp : p < m) (F : ℕ → ℝ) :
    ∑ l ∈ range (w * m), (if l / w = p then F l else 0) = ∑ d ∈ range w, F (w * p + d) := by
  rw [← Finset.sum_filter]
  refine (Finset.sum_bij (fun d _ => w * p + d) ?_ ?_ ?_ ?_).symm
  · intro d hd
    have hd := Finset.mem_range.mp hd
    refine Finset.mem_filter.mpr ⟨Finset.mem_range.mpr ?_, ?_⟩
    · calc w * p + d < w * p + w := by omega
        _ = w * (p + 1) := by ring
        _ ≤ w * m := Nat.mul_le_mul_left w hp
    · rw [Nat.mul_add_div hw, Nat.div_eq_of_lt hd, Nat.add_zero]
  · intro a _ b _ h; omega
  · intro l hl
    obtain ⟨_, h2⟩ := Finset.mem_filter.mp hl
    refine ⟨l % w, Finset.mem_range.mpr (Nat.mod_lt _ hw), ?_⟩
    rw [← h2]; exact Nat.div_add_mod l w
  · intro _ _; rfl

theorem sum_half (p : ℕ) (hp : p < 2) (F : ℕ → ℝ) :
    ∑ l ∈ range 128, (if l / 64 = p then F l else 0) = ∑ d ∈ range 64, F (64 * p + d) := sum_piece 64 2 p (by omega) hp F
theorem sum_group (p : ℕ) (hp : p < 4) (F : ℕ → ℝ) :
    ∑ l ∈ range 128, (if l / 32 = p then F l else 0) = ∑ d ∈ range 32, F (32 * p + d) := sum_piece 32 4 p (by omega) hp F

/-! ## The blocks of a pair of heads -/

variable (A : Args) (j : ℕ)

/-- The queries of the two heads of block `j`, side by side. -/
def bq (r l : ℕ) : ℝ := A.qn r (2 * j + l / 64) (l % 64)
/-- The queries' parts with position of the four heads that hold those of block `j`. -/
def br (r l : ℕ) : ℝ := A.qr r (4 * (j / 2) + l / 32) (l % 32)
/-- The keys of block `j`, and beside them four copies of the part with position. -/
def bk (κ l : ℕ) : ℝ := if l < 128 then A.kn κ (2 * j + l / 64) (l % 64) else A.kr κ ((l - 128) % 32)
def bv (κ l : ℕ) : ℝ := A.vv κ (2 * j + l / 64) (l % 64)
def bo (r l : ℕ) : ℝ := A.O (2 * j + l / 64) r (l % 64)
def bd (r l : ℕ) : ℝ := A.ct r (2 * j + l / 64) (l % 64)

/-- The position group of the first head of block `j`. -/
def grp (j : ℕ) : ℕ := 2 * (j % 2)

variable (hsc : A.sc = scale) (b n : ℕ) (hn : n = b + 256) (h2 : n ≤ 2048)

def tq (ρ l : ℕ) : ℝ := bq A j (b + ρ) l
def tr (ρ l : ℕ) : ℝ := br A j (b + ρ) l
def tO (ρ l : ℕ) : ℝ := bo A j (b + ρ) l
def td (ρ l : ℕ) : ℝ := bd A j (b + ρ) l

include hsc in
theorem score_eq (p ρ κ : ℕ) (hp : p < 2) :
    ∑ l ∈ range 256, rq p (grp j + p) (tq A j b) (tr A j b) ρ l * bk A j κ l = A.S (2 * j + p) (b + ρ) κ := by
  rw [sum_256, A.S_eq]
  have hg : grp j + p < 4 := by unfold grp; omega
  congr 1
  · rw [Finset.sum_congr rfl (g := fun l => if l / 64 = p then A.qn (b + ρ) (2 * j + l / 64) (l % 64) * A.sc
        * A.kn κ (2 * j + l / 64) (l % 64) else 0), sum_half p hp]
    · refine Finset.sum_congr rfl fun d hd => ?_
      have hd := Finset.mem_range.mp hd
      have h1 : (64 * p + d) / 64 = p := by omega
      have h3 : (64 * p + d) % 64 = d := by omega
      rw [h1, h3]
    · intro l hl
      have hl := Finset.mem_range.mp hl
      unfold rq bk tq bq
      rw [if_pos hl, if_pos hl, hsc]
      split <;> simp
  · rw [Finset.sum_congr rfl (g := fun l => if l / 32 = grp j + p then A.qr (b + ρ) (4 * (j / 2) + l / 32) (l % 32) * A.sc
        * A.kr κ (l % 32) else 0), sum_group _ hg]
    · refine Finset.sum_congr rfl fun d hd => ?_
      have hd := Finset.mem_range.mp hd
      have h1 : (32 * (grp j + p) + d) / 32 = grp j + p := by omega
      have h3 : (32 * (grp j + p) + d) % 32 = d := by omega
      have h4 : 4 * (j / 2) + (grp j + p) = 2 * j + p := by unfold grp; omega
      rw [h1, h3, h4]
    · intro l hl
      unfold rq bk tr br
      have h5 : 128 + l - 128 = l := by omega
      have h6 : ¬ 128 + l < 128 := by omega
      simp only [if_neg h6, hsc, h5]
      split <;> simp

include hsc hn h2 in
theorem P_eq (p ρ κ : ℕ) (hp : p < 2) (hρ : ρ < 256) :
    rP n b (grp j) (bk A j) (tq A j b) (tr A j b) p ρ κ = A.Pr (2 * j + p) (b + ρ) κ := by
  unfold rP rp Args.Pr
  congr 1
  · rw [score_eq A j hsc b p ρ κ hp]; rfl
  · rw [← A.L_of_le (h := 2 * j + p) (q := b + ρ) (n := n) (by omega) h2]
    refine Finset.sum_congr rfl fun κ' _ => ?_
    rw [score_eq A j hsc b p ρ κ' hp]; rfl

theorem lane_ct (p ρ : ℕ) (hp : p < 2) (F : ℕ → ℝ) :
    ∑ l ∈ range 128, rd p (td A j b) ρ l * F l = ∑ d ∈ range 64, A.ct (b + ρ) (2 * j + p) d * F (64 * p + d) := by
  rw [Finset.sum_congr rfl (g := fun l => if l / 64 = p then A.ct (b + ρ) (2 * j + l / 64) (l % 64) * F l else 0), sum_half p hp]
  · refine Finset.sum_congr rfl fun d hd => ?_
    have hd := Finset.mem_range.mp hd
    have h1 : (64 * p + d) / 64 = p := by omega
    have h3 : (64 * p + d) % 64 = d := by omega
    rw [h1, h3]
  · intro l _
    unfold rd td bd
    split <;> simp

include hsc hn h2 in
theorem S_tile (p ρ κ : ℕ) (hp : p < 2) (hρ : ρ < 256) :
    rS n b (grp j) (bk A j) (bv A j) (tq A j b) (tr A j b) (tO A j b) (td A j b) p ρ κ = A.dS (2 * j + p) (b + ρ) κ := by
  unfold rS rds Args.dS
  rw [P_eq A j hsc b n hn h2 p ρ κ hp hρ, lane_ct A j b p ρ hp, lane_ct A j b p ρ hp]
  have e : ∀ d ∈ range 64, (64 * p + d) / 64 = p ∧ (64 * p + d) % 64 = d := fun d hd => by
    have := Finset.mem_range.mp hd; omega
  congr 2
  · exact Finset.sum_congr rfl fun d hd => by unfold bv; rw [(e d hd).1, (e d hd).2]
  · exact Finset.sum_congr rfl fun d hd => by unfold tO bo; rw [(e d hd).1, (e d hd).2]

include hsc hn h2 in
theorem Dq_tile (p ρ l : ℕ) (hp : p < 2) (hρ : ρ < 256) :
    rDq n b (grp j) (bk A j) (bv A j) (tq A j b) (tr A j b) (tO A j b) (td A j b) p ρ l
      = (∑ κ ∈ range 2048, A.dS (2 * j + p) (b + ρ) κ * bk A j κ l) * A.sc := by
  unfold rDq
  rw [hsc]
  congr 1
  rw [Finset.sum_congr rfl fun κ _ => by rw [S_tile A j hsc b n hn h2 p ρ κ hp hρ]]
  refine Finset.sum_subset (Finset.range_mono h2) fun κ _ hκ => ?_
  have := Finset.mem_range.not.mp hκ
  rw [A.dS_of_lt (by omega), zero_mul]

include hsc hn h2 in
/-- A tile's gradient of the queries' part without position. -/
theorem Qn_tile (ρ l : ℕ) (hρ : ρ < 256) (hl : l < 128) :
    rQn n b (grp j) (bk A j) (bv A j) (tq A j b) (tr A j b) (tO A j b) (td A j b) ρ l
      = A.dqn (b + ρ) (2 * j + l / 64) (l % 64) := by
  have key : ∀ p < 2, l / 64 = p → rDq n b (grp j) (bk A j) (bv A j) (tq A j b) (tr A j b) (tO A j b) (td A j b) p ρ l
      = A.dqn (b + ρ) (2 * j + l / 64) (l % 64) := fun p hp hl' => by
    rw [Dq_tile A j hsc b n hn h2 p ρ l hp hρ, hl']
    unfold Args.dqn bk
    simp only [if_pos hl, hl']
  unfold rQn
  split
  · exact key 0 (by omega) ‹_›
  · exact key 1 (by omega) (by omega)

include hsc hn h2 in
/-- A tile's gradient of the queries' part with position: the lanes of the block's two heads, zero elsewhere. -/
theorem Qr_tile (ρ l : ℕ) (hρ : ρ < 256) (hl : l < 128) :
    rQr n b (grp j) (bk A j) (bv A j) (tq A j b) (tr A j b) (tO A j b) (td A j b) ρ l
      = if l / 64 = j % 2 then A.dqr (b + ρ) (4 * (j / 2) + l / 32) (l % 32) else 0 := by
  have key : ∀ p < 2, l / 32 = grp j + p →
      rDq n b (grp j) (bk A j) (bv A j) (tq A j b) (tr A j b) (tO A j b) (td A j b) p ρ (128 + l)
      = A.dqr (b + ρ) (4 * (j / 2) + l / 32) (l % 32) := fun p hp hl' => by
    have h4 : 4 * (j / 2) + l / 32 = 2 * j + p := by rw [hl']; unfold grp; omega
    rw [Dq_tile A j hsc b n hn h2 p ρ _ hp hρ, h4]
    unfold Args.dqr bk
    have h5 : 128 + l - 128 = l := by omega
    simp only [if_neg (show ¬ 128 + l < 128 by omega), h5]
  unfold rQr
  by_cases h : l / 64 = j % 2
  · rw [if_pos h]
    by_cases h0 : l / 32 = grp j
    · rw [if_pos h0, if_neg (by omega), add_zero]; exact key 0 (by omega) h0
    · have h1 : l / 32 = grp j + 1 := by unfold grp at h0 ⊢; omega
      rw [if_neg h0, if_pos h1, zero_add]; exact key 1 (by omega) h1
  · rw [if_neg h, if_neg (by unfold grp; omega), if_neg (by unfold grp; omega), add_zero]

include hsc hn h2 in
theorem Kn_tile (κ l : ℕ) (hl : l < 128) :
    rKn n b (grp j) (bk A j) (bv A j) (tq A j b) (tr A j b) (tO A j b) (td A j b) κ l
      = ∑ i ∈ range 256, A.dS (2 * j + l / 64) (b + i) κ * (A.qn (b + i) (2 * j + l / 64) (l % 64) * A.sc) := by
  have key : ∀ p < 2, rDk n b (grp j) (bk A j) (bv A j) (tq A j b) (tr A j b) (tO A j b) (td A j b) p κ l
      = if l / 64 = p then ∑ i ∈ range 256, A.dS (2 * j + l / 64) (b + i) κ * (A.qn (b + i) (2 * j + l / 64) (l % 64) * A.sc)
        else 0 := fun p hp => by
    unfold rDk
    rw [Finset.sum_congr rfl fun i hi => by rw [S_tile A j hsc b n hn h2 p i κ hp (Finset.mem_range.mp hi)]]
    split
    · next h =>
      refine Finset.sum_congr rfl fun i _ => ?_
      unfold rq tq bq; rw [if_pos hl, if_pos h, hsc, h]
    · next h =>
      refine Finset.sum_eq_zero fun i _ => ?_
      unfold rq; rw [if_pos hl, if_neg h, mul_zero]
  unfold rKn
  rw [key 0 (by omega), key 1 (by omega)]
  by_cases h : l / 64 = 0
  · rw [if_pos h, if_neg (by omega), add_zero]
  · rw [if_neg h, if_pos (by omega), zero_add]

include hsc hn h2 in
theorem Kr_tile (κ l : ℕ) (hl : l < 128) :
    rKr n b (grp j) (bk A j) (bv A j) (tq A j b) (tr A j b) (tO A j b) (td A j b) κ l
      = if l / 64 = j % 2 then ∑ i ∈ range 256, A.dS (4 * (j / 2) + l / 32) (b + i) κ
          * (A.qr (b + i) (4 * (j / 2) + l / 32) (l % 32) * A.sc) else 0 := by
  have key : ∀ p < 2, rDk n b (grp j) (bk A j) (bv A j) (tq A j b) (tr A j b) (tO A j b) (td A j b) p κ (128 + l)
      = if l / 32 = grp j + p then ∑ i ∈ range 256, A.dS (4 * (j / 2) + l / 32) (b + i) κ
          * (A.qr (b + i) (4 * (j / 2) + l / 32) (l % 32) * A.sc) else 0 := fun p hp => by
    have h5 : 128 + l - 128 = l := by omega
    unfold rDk
    rw [Finset.sum_congr rfl fun i hi => by rw [S_tile A j hsc b n hn h2 p i κ hp (Finset.mem_range.mp hi)]]
    split
    · next h =>
      have h4 : 4 * (j / 2) + l / 32 = 2 * j + p := by rw [h]; unfold grp; omega
      refine Finset.sum_congr rfl fun i _ => ?_
      have h6 : ¬ 128 + l < 128 := by omega
      unfold rq tr br; simp only [if_neg h6, h5]; rw [if_pos h, hsc, h4]
    · next h =>
      refine Finset.sum_eq_zero fun i _ => ?_
      have h6 : ¬ 128 + l < 128 := by omega
      unfold rq; simp only [if_neg h6, h5]; rw [if_neg h, mul_zero]
  unfold rKr
  rw [key 0 (by omega), key 1 (by omega)]
  by_cases h : l / 64 = j % 2
  · rw [if_pos h]
    by_cases h0 : l / 32 = grp j + 0
    · rw [if_pos h0, if_neg (by omega), add_zero]
    · rw [if_neg h0, if_pos (by unfold grp at h0 ⊢; omega), zero_add]
  · rw [if_neg h, if_neg (by unfold grp; omega), if_neg (by unfold grp; omega), add_zero]

include hsc hn h2 in
theorem V_tile (κ l : ℕ) (hl : l < 128) :
    rV n b (grp j) (bk A j) (tq A j b) (tr A j b) (td A j b) κ l
      = ∑ i ∈ range 256, A.Pr (2 * j + l / 64) (b + i) κ * A.ct (b + i) (2 * j + l / 64) (l % 64) := by
  have key : ∀ p < 2, rDv n b (grp j) (bk A j) (tq A j b) (tr A j b) (td A j b) p κ l
      = if l / 64 = p then ∑ i ∈ range 256, A.Pr (2 * j + l / 64) (b + i) κ * A.ct (b + i) (2 * j + l / 64) (l % 64)
        else 0 := fun p hp => by
    unfold rDv
    rw [Finset.sum_congr rfl fun i hi => by rw [P_eq A j hsc b n hn h2 p i κ hp (Finset.mem_range.mp hi)]]
    split
    · next h =>
      refine Finset.sum_congr rfl fun i _ => ?_
      unfold rd td bd; rw [if_pos h, h]
    · next h =>
      refine Finset.sum_eq_zero fun i _ => ?_
      unfold rd; rw [if_neg h, mul_zero]
  unfold rV
  rw [key 0 (by omega), key 1 (by omega)]
  by_cases h : l / 64 = 0
  · rw [if_pos h, if_neg (by omega), add_zero]
  · rw [if_neg h, if_pos (by omega), zero_add]

/-! ## The tiles together -/

/-- The eight tiles' sums, each over the keys before its end, are the sum over all queries when what a query adds to a
    later key is zero. -/
theorem tiles_sum (κ : ℕ) (F : ℕ → ℝ) (h0 : ∀ q < κ, F q = 0) :
    (((((((((0 : ℝ) + if κ < 256 then ∑ i ∈ range 256, F (0 + i) else 0) + if κ < 512 then ∑ i ∈ range 256, F (256 + i) else 0)
      + if κ < 768 then ∑ i ∈ range 256, F (512 + i) else 0) + if κ < 1024 then ∑ i ∈ range 256, F (768 + i) else 0)
      + if κ < 1280 then ∑ i ∈ range 256, F (1024 + i) else 0) + if κ < 1536 then ∑ i ∈ range 256, F (1280 + i) else 0)
      + if κ < 1792 then ∑ i ∈ range 256, F (1536 + i) else 0) + if κ < 2048 then ∑ i ∈ range 256, F (1792 + i) else 0)
      = ∑ q ∈ range 2048, F q := by
  have key : ∀ b n, n = b + 256 → (if κ < n then ∑ i ∈ range 256, F (b + i) else 0) = ∑ i ∈ range 256, F (b + i) :=
    fun b n hn => by
      split
      · rfl
      · exact (Finset.sum_eq_zero fun i hi => h0 _ (by have := Finset.mem_range.mp hi; omega)).symm
  rw [key 0 256 rfl, key 256 512 rfl, key 512 768 rfl, key 768 1024 rfl, key 1024 1280 rfl, key 1280 1536 rfl,
    key 1536 1792 rfl, key 1792 2048 rfl]
  rw [show (2048 : ℕ) = 1792 + 256 from rfl, Finset.sum_range_add, show (1792 : ℕ) = 1536 + 256 from rfl, Finset.sum_range_add,
    show (1536 : ℕ) = 1280 + 256 from rfl, Finset.sum_range_add, show (1280 : ℕ) = 1024 + 256 from rfl, Finset.sum_range_add,
    show (1024 : ℕ) = 768 + 256 from rfl, Finset.sum_range_add, show (768 : ℕ) = 512 + 256 from rfl, Finset.sum_range_add,
    show (512 : ℕ) = 256 + 256 from rfl, Finset.sum_range_add]
  simp only [zero_add]

end Cert.Attn

end
-- ==== Proof.BodyVal.lean ====
/- The five blocks that one grid point leaves, at the reals: the derivatives of its two heads. -/
module

public import proofs.«01_k».proof.Proof.Canon
public import proofs.«01_k».proof.Proof.TileMath

@[expose] public section

set_option maxRecDepth 16384

noncomputable section

namespace Cert.KernelIdeal.Hand

open Idealize.ShloMosaic Idealize.ShloMosaic.ValueIdx Cert.Attn Cert.KernelIdeal.Gen

theorem half_lane : ∀ l : Fin 128, kernelRun0_A.sl.v35 (ix2 (0 : Fin 256) l) = BitVec.ofNat 32 (l.val / 64) := by
  decide +kernel
theorem grp_lane : ∀ l : Fin 128, kernelRun0_A.sl.r (ix2 (0 : Fin 256) l) = BitVec.ofNat 32 (l.val / 32) := by
  decide +kernel

/-- The half of a lane. -/
theorem half_eq (r : Fin 256) (l : Fin 128) : kernelRun0_A.sl.v35 (ix2 r l) = BitVec.ofNat 32 (l.val / 64) :=
  (show kernelRun0_A.sl.v35 (ix2 r l) = kernelRun0_A.sl.v35 (ix2 (0 : Fin 256) l) from rfl).trans (half_lane l)
/-- The group of a lane. -/
theorem grp_eq (r : Fin 256) (l : Fin 128) : kernelRun0_A.sl.r (ix2 r l) = BitVec.ofNat 32 (l.val / 32) :=
  (show kernelRun0_A.sl.r (ix2 r l) = kernelRun0_A.sl.r (ix2 (0 : Fin 256) l) from rfl).trans (grp_lane l)
/-- The group of the grid point's first head. -/
theorem v10_eq : ∀ t : Fin grid0.N, kernelRun0_A.sl.v10 (grid0.coords t) = BitVec.ofNat 32 (Cert.Attn.grp t.val) := by
  decide +kernel

theorem rowLd_real {arg : Memref sig .tc .vmem S2048x128 .f32} {harg : arg.IsWhole} {x : Vec Ideal S2048x128 .f32} {f : ℕ → ℕ → ℝ}
    (hx : IsR (φ := .f32) x f) (o : ℕ) (inb : ∀ a, (![o, 0] : Fin 2 → ℕ) a + S256x128.size a ≤ S2048x128.size a) :
    IsR (φ := .f32) (rowLd arg harg x o inb) (fun r l => f (o + r) l) := by
  refine IsR.same (φ := .f32) (fun r l => ?_) _
  have hr : o + r.val < 2048 := by have h := inb 0; have h2 := r.isLt; simp at h; omega
  rw [View.readAt_eq_ld, harg.read_unread]
  refine (congrArg x (?_ : _ = ix2 (⟨o + r.val, hr⟩ : Fin 2048) l)).trans (hx _ l)
  funext a
  refine Fin.ext ?_
  match a with
  | ⟨0, _⟩ => show o + 1 * r.val = o + r.val; omega
  | ⟨1, _⟩ => show 0 + 1 * l.val = l.val; omega

theorem whole_real {arg : Memref sig .tc .vmem S2048x128 .f32} {harg : arg.IsWhole} {x : Vec Ideal S2048x128 .f32} {f : ℕ → ℕ → ℝ}
    (hx : IsR (φ := .f32) x f) (inb : ∀ a, (![0, 0] : Fin 2 → ℕ) a + S2048x128.size a ≤ S2048x128.size a) :
    IsR (φ := .f32) (View.readAt (Elt Ideal) arg.view (Rect.unit (s := S2048x128) ![0, 0] S2048x128.size inb).toLoadRect (harg.unread x)) f := by
  intro r l
  rw [View.readAt_eq_ld, harg.read_unread]
  refine (congrArg x (?_ : _ = ix2 r l)).trans (hx r l)
  funext a
  refine Fin.ext ?_
  match a with
  | ⟨0, _⟩ => show 0 + 1 * r.val = r.val; omega
  | ⟨1, _⟩ => show 0 + 1 * l.val = l.val; omega

theorem Upto.nil {n c : ℕ} {e : EltTy} (f : ℕ → ℕ → Elt Ideal e) : Upto (n := n) (c := c) [] 0 f := fun r _ h => absurd h (Nat.not_lt_zero _)
theorem Upto₁.nil {n c : ℕ} {e : EltTy} (f : ℕ → ℕ → Elt Ideal e) : Upto₁ (n := n) (c := c) [] 0 f := fun r _ h => absurd h (Nat.not_lt_zero _)

theorem Upto.stepR {n c : ℕ} {H : List (View.Piece (Elt Ideal) (M n c) .bf16)} {o k o' : ℕ} {f g : ℕ → ℕ → ℝ}
    (hH : Upto H o (fun r l => ((f r l : ℝ) : EReal)))
    (inb : ∀ a, (![o, 0] : Fin 2 → ℕ) a + (M k c).size a ≤ (M n c).size a) {X : FVec Ideal (M k c) .bf16} (hX : IsR X g)
    (ho : o' = o + k) (hfg : ∀ r l, r < k → f (o + r) l = g r l) :
    Upto (⟨Rect.unit (s := M n c) ![o, 0] (M k c).size inb, X⟩ :: H) o' (fun r l => ((f r l : ℝ) : EReal)) :=
  by
  refine Upto.step (k := k) (g := fun r l => ((g r l : ℝ) : EReal)) hH inb ?_ ho ?_
  · exact fun r l => hX r l
  · exact fun r l hr => congrArg _ (hfg r l hr)
theorem Upto₁.stepR {n c : ℕ} {H : List (View.Piece (Elt Ideal) (M₁ n c) .f32)} {o k o' : ℕ} {f g : ℕ → ℕ → ℝ}
    (hH : Upto₁ H o (fun r l => ((f r l : ℝ) : EReal)))
    (inb : ∀ a, (![0, o, 0] : Fin 3 → ℕ) a + (M₁ k c).size a ≤ (M₁ n c).size a) {X : FVec Ideal (M₁ k c) .f32} (hX : IsR₁ X g)
    (ho : o' = o + k) (hfg : ∀ r l, r < k → f (o + r) l = g r l) :
    Upto₁ (⟨Rect.unit (s := M₁ n c) ![0, o, 0] (M₁ k c).size inb, X⟩ :: H) o' (fun r l => ((f r l : ℝ) : EReal)) :=
  by
  refine Upto₁.step (k := k) (g := fun r l => ((g r l : ℝ) : EReal)) hH inb ?_ ho ?_
  · exact fun r l => hX r l
  · exact fun r l hr => congrArg _ (hfg r l hr)

section

variable (c : Dev nD) (i : grid0.Coords)
  (arg1 : Memref sig .tc .vmem S2048x128 .f32) (w1 : arg1.IsWhole)
  (arg2 : Memref sig .tc .vmem S2048x128 .f32) (w2 : arg2.IsWhole)
  (arg3 : Memref sig .tc .vmem S2048x128 .f32) (w3 : arg3.IsWhole)
  (arg4 : Memref sig .tc .vmem S2048x128 .f32) (w4 : arg4.IsWhole)
  (arg5 : Memref sig .tc .vmem S2048x128 .f32) (w5 : arg5.IsWhole)
  (arg6 : Memref sig .tc .vmem S2048x128 .f32) (w6 : arg6.IsWhole)
  (arg7 : Memref sig .tc .vmem S2048x128 .f32) (w7 : arg7.IsWhole)
  (arg8 : Memref sig .tc .vmem S2048x128 .bf16) (w8 : arg8.IsWhole)
  (arg9 : Memref sig .tc .vmem S1x2048x128 .f32) (w9 : arg9.IsWhole)
  (arg10 : Memref sig .tc .vmem S2048x128 .f32) (w10 : arg10.IsWhole)
  (arg11 : Memref sig .tc .vmem S2048x128 .f32) (w11 : arg11.IsWhole)
  (arg12 : Memref sig .tc .vmem S1x2048x128 .f32) (w12 : arg12.IsWhole)
  (arg13 : Memref sig .tc .vmem S2048x256 .bf16) (w13 : arg13.IsWhole)
  (arg14 : Memref sig .tc .vmem S2048x128 .bf16) (w14 : arg14.IsWhole)
  (x0 x1 x2 x3 x4 x5 x6 : Vec Ideal S2048x128 .f32)
variable (A : Args) (j : ℕ) (hsc : A.sc = scale) (he : kernelRun0_A.sl.v10 i = BitVec.ofNat 32 (Cert.Attn.grp j))
  (h0 : IsR (φ := .f32) x0 (bq A j)) (h1 : IsR (φ := .f32) x1 (br A j))
  (h2 : IsR (φ := .f32) x2 (fun κ l => A.kn κ (2 * j + l / 64) (l % 64))) (h3 : IsR (φ := .f32) x3 (fun κ l => A.kr κ (l % 32)))
  (h4 : IsR (φ := .f32) x4 (bv A j)) (h5 : IsR (φ := .f32) x5 (bo A j)) (h6 : IsR (φ := .f32) x6 (bd A j))

include h2 h3 in
/-- The keys' scratch buffer holds the block's keys. -/
theorem kcLd_real (n : ℕ) (inb : ∀ a, (![0, 0] : Fin 2 → ℕ) a + (M n 256).size a ≤ S2048x256.size a) :
    IsR (kcLd c arg3 w3 arg4 w4 arg13 x2 x3 n inb) (bk A j) := by
  refine cov_rows (e := .bf16) (f := fun r l => ((bk A j r l : ℝ) : EReal)) arg13.view ?_ n inb
  refine Upto.step (o := 0) (g := fun r l => ((bk A j r l : ℝ) : EReal)) (Upto.nil _) inb_S2048x256_S2048x256_0_0 ?_ rfl ?_
  · exact IsR.same (φ := .bf16) (((IsR.cat (IsR.same (φ := .f32) (whole_real (harg := w3) h2 _) shapeCasts_S2048x128_S2048x128)
      (whole_real (harg := w4) h3 _) concatenates_S2048x128_S2048x128_S2048x256_d1)).trunc bitsLt_bf16_f32) shapeCasts_S2048x256_S2048x256
  · intro r l _; simp only [Nat.zero_add]

include h4 in
/-- The values' scratch buffer holds the block's values. -/
theorem vbLd_real (n : ℕ) (inb : ∀ a, (![0, 0] : Fin 2 → ℕ) a + (M n 128).size a ≤ S2048x128.size a) :
    IsR (vbLd c arg5 w5 arg14 x4 n inb) (bv A j) := by
  refine cov_rows (e := .bf16) (f := fun r l => ((bv A j r l : ℝ) : EReal)) arg14.view ?_ n inb
  refine Upto.step (o := 0) (g := fun r l => ((bv A j r l : ℝ) : EReal)) (Upto.nil _) inb_S2048x128_S2048x128_0_0 ?_ rfl ?_
  · exact IsR.same (φ := .bf16) ((IsR.same (φ := .f32) (whole_real (harg := w5) h4 _) shapeCasts_S2048x128_S2048x128).trunc
      bitsLt_bf16_f32) shapeCasts_S2048x128_S2048x128
  · intro r l _; simp only [Nat.zero_add]

include he h0 h1 h2 h3 h4 h5 h6 in
/-- What a tile's operands hold. -/
theorem holds (b n : ℕ) (hb : b < 2048) (hn0 : 0 < n) (hn : n ≤ 2048)
    (inb : ∀ a, (![b, 0] : Fin 2 → ℕ) a + S256x128.size a ≤ S2048x128.size a)
    (inbK : ∀ a, (![0, 0] : Fin 2 → ℕ) a + (M n 256).size a ≤ S2048x256.size a)
    (inbV : ∀ a, (![0, 0] : Fin 2 → ℕ) a + (M n 128).size a ≤ S2048x128.size a) :
    Holds n kernelRun0_A.sl.v35 kernelRun0_A.sl.r (kernelRun0_A.sl.v10 i) (Cert.Attn.grp j) b
      (kcLd c arg3 w3 arg4 w4 arg13 x2 x3 n inbK) (vbLd c arg5 w5 arg14 x4 n inbV)
      (rowLd arg1 w1 x0 b inb) (rowLd arg2 w2 x1 b inb) (rowLd arg6 w6 x5 b inb) (rowLd arg7 w7 x6 b inb)
      (bk A j) (bv A j) (tq A j b) (tr A j b) (tO A j b) (td A j b) where
  hh := half_eq
  hg := grp_eq
  he := he
  g2 := by unfold Cert.Attn.grp; omega
  n0 := hn0
  n1 := hn
  b1 := hb
  hK := kcLd_real c arg3 w3 arg4 w4 arg13 x2 x3 A j h2 h3 n inbK
  hV := vbLd_real c arg5 w5 arg14 x4 A j h4 n inbV
  hq := rowLd_real h0 b inb
  hr := rowLd_real h1 b inb
  ho := rowLd_real h5 b inb
  hd := rowLd_real h6 b inb

variable (b n : ℕ) (hb : n = b + 256) (hn : n ≤ 2048) (F : Fits n) (inb : ∀ a, (![b, 0] : Fin 2 → ℕ) a + S256x128.size a ≤ S2048x128.size a)
  (inbK : ∀ a, (![0, 0] : Fin 2 → ℕ) a + (M n 256).size a ≤ S2048x256.size a)
  (inbV : ∀ a, (![0, 0] : Fin 2 → ℕ) a + (M n 128).size a ≤ S2048x128.size a)

variable {c i arg1 w1 arg2 w2 arg3 w3 arg4 w4 arg5 w5 arg6 w6 arg7 w7 arg13 arg14 x0 x1 x2 x3 x4 x5 x6 A j}

include hsc he h0 h1 h2 h3 h4 h5 h6 hb hn in
/-- One tile's share of the gradient of the queries' part without position. -/
theorem Qn_real : IsR (outQn n F kernelRun0_A.sl.v35 kernelRun0_A.sl.r (kernelRun0_A.sl.v10 i) (BitVec.ofNat 32 b)
    (kcLd c arg3 w3 arg4 w4 arg13 x2 x3 n inbK) (vbLd c arg5 w5 arg14 x4 n inbV) (rowLd arg1 w1 x0 b inb) (rowLd arg2 w2 x1 b inb)
    (rowLd arg6 w6 x5 b inb) (rowLd arg7 w7 x6 b inb))
    (fun ρ l => A.dqn (b + ρ) (2 * j + l / 64) (l % 64)) :=
  (outQn_real F (holds c i arg1 w1 arg2 w2 arg3 w3 arg4 w4 arg5 w5 arg6 w6 arg7 w7 arg13 arg14 x0 x1 x2 x3 x4 x5 x6
    A j he h0 h1 h2 h3 h4 h5 h6 b n (by omega) (by omega) hn inb inbK inbV)).congr
    fun ρ hρ l hl => Qn_tile A j hsc b n hb hn ρ l hρ hl

include hsc he h0 h1 h2 h3 h4 h5 h6 hb hn in
/-- … with position. -/
theorem Qr_real : IsR (outQr n F kernelRun0_A.sl.v35 kernelRun0_A.sl.r (kernelRun0_A.sl.v10 i) (BitVec.ofNat 32 b)
    (kcLd c arg3 w3 arg4 w4 arg13 x2 x3 n inbK) (vbLd c arg5 w5 arg14 x4 n inbV) (rowLd arg1 w1 x0 b inb) (rowLd arg2 w2 x1 b inb)
    (rowLd arg6 w6 x5 b inb) (rowLd arg7 w7 x6 b inb))
    (fun ρ l => if l / 64 = j % 2 then A.dqr (b + ρ) (4 * (j / 2) + l / 32) (l % 32) else 0) :=
  (outQr_real F (holds c i arg1 w1 arg2 w2 arg3 w3 arg4 w4 arg5 w5 arg6 w6 arg7 w7 arg13 arg14 x0 x1 x2 x3 x4 x5 x6
    A j he h0 h1 h2 h3 h4 h5 h6 b n (by omega) (by omega) hn inb inbK inbV)).congr
    fun ρ hρ l hl => Qr_tile A j hsc b n hb hn ρ l hρ hl

include hsc he h0 h1 h2 h3 h4 h5 h6 hb hn in
/-- … of the keys' part without position. -/
theorem Kn_real : IsR (outKn n F kernelRun0_A.sl.v35 kernelRun0_A.sl.r (kernelRun0_A.sl.v10 i) (BitVec.ofNat 32 b)
    (kcLd c arg3 w3 arg4 w4 arg13 x2 x3 n inbK) (vbLd c arg5 w5 arg14 x4 n inbV) (rowLd arg1 w1 x0 b inb) (rowLd arg2 w2 x1 b inb)
    (rowLd arg6 w6 x5 b inb) (rowLd arg7 w7 x6 b inb))
    (fun κ l => ∑ u ∈ Finset.range 256, A.dS (2 * j + l / 64) (b + u) κ * (A.qn (b + u) (2 * j + l / 64) (l % 64) * A.sc)) :=
  (outKn_real F (holds c i arg1 w1 arg2 w2 arg3 w3 arg4 w4 arg5 w5 arg6 w6 arg7 w7 arg13 arg14 x0 x1 x2 x3 x4 x5 x6
    A j he h0 h1 h2 h3 h4 h5 h6 b n (by omega) (by omega) hn inb inbK inbV)).congr
    fun ρ hρ l hl => Kn_tile A j hsc b n hb hn ρ l hl

include hsc he h0 h1 h2 h3 h4 h5 h6 hb hn in
/-- … of the shared key. -/
theorem Kr_real : IsR (outKr n F kernelRun0_A.sl.v35 kernelRun0_A.sl.r (kernelRun0_A.sl.v10 i) (BitVec.ofNat 32 b)
    (kcLd c arg3 w3 arg4 w4 arg13 x2 x3 n inbK) (vbLd c arg5 w5 arg14 x4 n inbV) (rowLd arg1 w1 x0 b inb) (rowLd arg2 w2 x1 b inb)
    (rowLd arg6 w6 x5 b inb) (rowLd arg7 w7 x6 b inb))
    (fun κ l => if l / 64 = j % 2 then ∑ u ∈ Finset.range 256, A.dS (4 * (j / 2) + l / 32) (b + u) κ * (A.qr (b + u) (4 * (j / 2) + l / 32) (l % 32) * A.sc) else 0) :=
  (outKr_real F (holds c i arg1 w1 arg2 w2 arg3 w3 arg4 w4 arg5 w5 arg6 w6 arg7 w7 arg13 arg14 x0 x1 x2 x3 x4 x5 x6
    A j he h0 h1 h2 h3 h4 h5 h6 b n (by omega) (by omega) hn inb inbK inbV)).congr
    fun ρ hρ l hl => Kr_tile A j hsc b n hb hn ρ l hl

include arg5 w5 arg6 w6 arg14 inbV in
include hsc he h0 h1 h2 h3 h4 h5 h6 hb hn in
/-- … of the values. -/
theorem V_real : IsR (outV n F kernelRun0_A.sl.v35 kernelRun0_A.sl.r (kernelRun0_A.sl.v10 i) (BitVec.ofNat 32 b)
    (kcLd c arg3 w3 arg4 w4 arg13 x2 x3 n inbK) (rowLd arg1 w1 x0 b inb) (rowLd arg2 w2 x1 b inb) (rowLd arg7 w7 x6 b inb))
    (fun κ l => ∑ u ∈ Finset.range 256, A.Pr (2 * j + l / 64) (b + u) κ * A.ct (b + u) (2 * j + l / 64) (l % 64)) :=
  (outV_real F (holds c i arg1 w1 arg2 w2 arg3 w3 arg4 w4 arg5 w5 arg6 w6 arg7 w7 arg13 arg14 x0 x1 x2 x3 x4 x5 x6
    A j he h0 h1 h2 h3 h4 h5 h6 b n (by omega) (by omega) hn inb inbK inbV)).congr
    fun ρ hρ l hl => V_tile A j hsc b n hb hn ρ l hl

variable (c i arg1 w1 arg2 w2 arg3 w3 arg4 w4 arg5 w5 arg6 w6 arg7 w7 arg13 arg14 x0 x1 x2 x3 x4 x5 x6 A j)

include hsc he h0 h1 h2 h3 h4 h5 h6 in
/-- What the point leaves in its block of the gradient of the queries' part without position. -/
theorem L7_real : Upto (kernelRun0_A c i arg1 w1 arg2 w2 arg3 w3 arg4 w4 arg5 w5 arg6 w6 arg7 w7 arg8 w8 arg9 w9 arg10 w10 arg11 w11 arg12 w12 arg13 w13 arg14 w14 x0 x1 x2 x3 x4 x5 x6).1 2048 (fun r l => ((A.dqn r (2 * j + l / 64) (l % 64) : ℝ) : EReal)) := by
  rw [L7_eq]
  beta_reduce
  refine Upto.stepR (o := 1792) (k := 256) ?_ inb_S2048x128_S256x128_1792_0 (Qn_real hsc he h0 h1 h2 h3 h4 h5 h6 1792 2048 rfl (by decide) fits_2048 _ _ _) rfl (fun _ _ _ => rfl)
  refine Upto.stepR (o := 1536) (k := 256) ?_ inb_S2048x128_S256x128_1536_0 (Qn_real hsc he h0 h1 h2 h3 h4 h5 h6 1536 1792 rfl (by decide) fits_1792 _ _ _) rfl (fun _ _ _ => rfl)
  refine Upto.stepR (o := 1280) (k := 256) ?_ inb_S2048x128_S256x128_1280_0 (Qn_real hsc he h0 h1 h2 h3 h4 h5 h6 1280 1536 rfl (by decide) fits_1536 _ _ _) rfl (fun _ _ _ => rfl)
  refine Upto.stepR (o := 1024) (k := 256) ?_ inb_S2048x128_S256x128_1024_0 (Qn_real hsc he h0 h1 h2 h3 h4 h5 h6 1024 1280 rfl (by decide) fits_1280 _ _ _) rfl (fun _ _ _ => rfl)
  refine Upto.stepR (o := 768) (k := 256) ?_ inb_S2048x128_S256x128_768_0 (Qn_real hsc he h0 h1 h2 h3 h4 h5 h6 768 1024 rfl (by decide) fits_1024 _ _ _) rfl (fun _ _ _ => rfl)
  refine Upto.stepR (o := 512) (k := 256) ?_ inb_S2048x128_S256x128_512_0 (Qn_real hsc he h0 h1 h2 h3 h4 h5 h6 512 768 rfl (by decide) fits_768 _ _ _) rfl (fun _ _ _ => rfl)
  refine Upto.stepR (o := 256) (k := 256) ?_ inb_S2048x128_S256x128_256_0 (Qn_real hsc he h0 h1 h2 h3 h4 h5 h6 256 512 rfl (by decide) fits_512 _ _ _) rfl (fun _ _ _ => rfl)
  refine Upto.stepR (o := 0) (k := 256) ?_ inb_S2048x128_S256x128_0_0 (Qn_real hsc he h0 h1 h2 h3 h4 h5 h6 0 256 rfl (by decide) fits_256 _ _ _) rfl (fun _ _ _ => rfl)
  exact Upto.nil _

include hsc he h0 h1 h2 h3 h4 h5 h6 in
/-- … with position. -/
theorem L8_real : Upto₁ (kernelRun0_A c i arg1 w1 arg2 w2 arg3 w3 arg4 w4 arg5 w5 arg6 w6 arg7 w7 arg8 w8 arg9 w9 arg10 w10 arg11 w11 arg12 w12 arg13 w13 arg14 w14 x0 x1 x2 x3 x4 x5 x6).2.1 2048
    (fun r l => ((if l / 64 = j % 2 then A.dqr r (4 * (j / 2) + l / 32) (l % 32) else 0 : ℝ) : EReal)) := by
  rw [L8_eq]
  beta_reduce
  refine Upto₁.stepR (o := 1792) (k := 256) ?_ inb_S1x2048x128_S1x256x128_0_1792_0 ((Qr_real hsc he h0 h1 h2 h3 h4 h5 h6 1792 2048 rfl (by decide) fits_2048 _ _ _).add₁ shapeCasts_S256x128_S1x256x128) rfl (fun _ _ _ => rfl)
  refine Upto₁.stepR (o := 1536) (k := 256) ?_ inb_S1x2048x128_S1x256x128_0_1536_0 ((Qr_real hsc he h0 h1 h2 h3 h4 h5 h6 1536 1792 rfl (by decide) fits_1792 _ _ _).add₁ shapeCasts_S256x128_S1x256x128) rfl (fun _ _ _ => rfl)
  refine Upto₁.stepR (o := 1280) (k := 256) ?_ inb_S1x2048x128_S1x256x128_0_1280_0 ((Qr_real hsc he h0 h1 h2 h3 h4 h5 h6 1280 1536 rfl (by decide) fits_1536 _ _ _).add₁ shapeCasts_S256x128_S1x256x128) rfl (fun _ _ _ => rfl)
  refine Upto₁.stepR (o := 1024) (k := 256) ?_ inb_S1x2048x128_S1x256x128_0_1024_0 ((Qr_real hsc he h0 h1 h2 h3 h4 h5 h6 1024 1280 rfl (by decide) fits_1280 _ _ _).add₁ shapeCasts_S256x128_S1x256x128) rfl (fun _ _ _ => rfl)
  refine Upto₁.stepR (o := 768) (k := 256) ?_ inb_S1x2048x128_S1x256x128_0_768_0 ((Qr_real hsc he h0 h1 h2 h3 h4 h5 h6 768 1024 rfl (by decide) fits_1024 _ _ _).add₁ shapeCasts_S256x128_S1x256x128) rfl (fun _ _ _ => rfl)
  refine Upto₁.stepR (o := 512) (k := 256) ?_ inb_S1x2048x128_S1x256x128_0_512_0 ((Qr_real hsc he h0 h1 h2 h3 h4 h5 h6 512 768 rfl (by decide) fits_768 _ _ _).add₁ shapeCasts_S256x128_S1x256x128) rfl (fun _ _ _ => rfl)
  refine Upto₁.stepR (o := 256) (k := 256) ?_ inb_S1x2048x128_S1x256x128_0_256_0 ((Qr_real hsc he h0 h1 h2 h3 h4 h5 h6 256 512 rfl (by decide) fits_512 _ _ _).add₁ shapeCasts_S256x128_S1x256x128) rfl (fun _ _ _ => rfl)
  refine Upto₁.stepR (o := 0) (k := 256) ?_ inb_S1x2048x128_S1x256x128_0_0_0 ((Qr_real hsc he h0 h1 h2 h3 h4 h5 h6 0 256 rfl (by decide) fits_256 _ _ _).add₁ shapeCasts_S256x128_S1x256x128) rfl (fun _ _ _ => rfl)
  exact Upto₁.nil _

theorem Upto.zero : Upto (kernelRun0_A.sl.H9_1 (F := Ideal)) 2048 (fun _ _ => ((0 : ℝ) : EReal)) :=
  by
  refine Upto.step (o := 0) (k := 2048) (g := fun _ _ => ((0 : ℝ) : EReal)) (Upto.nil _) inb_S2048x128_S2048x128_0_0 ?_ rfl (fun _ _ _ => rfl)
  exact fun _ _ => Ideal.ofBits_zero_f32.trans EReal.coe_zero.symm
theorem Upto.zero' : Upto (kernelRun0_A.sl.H10_1 (F := Ideal)) 2048 (fun _ _ => ((0 : ℝ) : EReal)) :=
  by
  refine Upto.step (o := 0) (k := 2048) (g := fun _ _ => ((0 : ℝ) : EReal)) (Upto.nil _) inb_S2048x128_S2048x128_0_0 ?_ rfl (fun _ _ _ => rfl)
  exact fun _ _ => Ideal.ofBits_zero_f32.trans EReal.coe_zero.symm
theorem Upto₁.zero : Upto₁ (kernelRun0_A.sl.H11_1 (F := Ideal)) 2048 (fun _ _ => ((0 : ℝ) : EReal)) :=
  by
  refine Upto₁.step (o := 0) (k := 2048) (g := fun _ _ => ((0 : ℝ) : EReal)) (Upto₁.nil _) inb_S1x2048x128_S1x2048x128_0_0_0 ?_ rfl
    (fun _ _ _ => rfl)
  have h : IsR (φ := .f32) (broadcast (M 2048 128) (Scalar.ofBits (F := Ideal) .f32 0x00000000#32)) (fun _ _ => 0) :=
    fun _ _ => Ideal.ofBits_zero_f32.trans EReal.coe_zero.symm
  exact fun r l => (h.add₁ shapeCasts_S2048x128_S1x2048x128) r l

theorem Upto.fix {n c o : ℕ} {H : List (View.Piece (Elt Ideal) (M n c) .f32)} {f g : ℕ → ℕ → ℝ}
    (h : Upto H o (fun r l => ((f r l : ℝ) : EReal))) (e : ∀ r l, r < n → l < c → f r l = g r l) :
    Upto H o (fun r l => ((g r l : ℝ) : EReal)) := fun r l hr => (h r l hr).trans (congrArg _ (e r.val l.val r.isLt l.isLt))
theorem Upto₁.fix {n c o : ℕ} {H : List (View.Piece (Elt Ideal) (M₁ n c) .f32)} {f g : ℕ → ℕ → ℝ}
    (h : Upto₁ H o (fun r l => ((f r l : ℝ) : EReal))) (e : ∀ r l, r < n → l < c → f r l = g r l) :
    Upto₁ H o (fun r l => ((g r l : ℝ) : EReal)) := fun r l hr => (h r l hr).trans (congrArg _ (e r.val l.val r.isLt l.isLt))

include hsc he h0 h1 h2 h3 h4 h5 h6 in
/-- What the point leaves in its block of an accumulated gradient. -/
theorem L9_real : Upto (kernelRun0_A c i arg1 w1 arg2 w2 arg3 w3 arg4 w4 arg5 w5 arg6 w6 arg7 w7 arg8 w8 arg9 w9 arg10 w10 arg11 w11 arg12 w12 arg13 w13 arg14 w14 x0 x1 x2 x3 x4 x5 x6).2.2.1 2048 (fun r l => ((A.dkn r (2 * j + l / 64) (l % 64) : ℝ) : EReal)) := by
  rw [L9_eq]
  beta_reduce
  refine Upto.fix (accCons_real (Kn_real hsc he h0 h1 h2 h3 h4 h5 h6 1792 2048 rfl (by decide) fits_2048 _ _ _)
    (accCons_real (Kn_real hsc he h0 h1 h2 h3 h4 h5 h6 1536 1792 rfl (by decide) fits_1792 _ _ _)
    (accCons_real (Kn_real hsc he h0 h1 h2 h3 h4 h5 h6 1280 1536 rfl (by decide) fits_1536 _ _ _)
    (accCons_real (Kn_real hsc he h0 h1 h2 h3 h4 h5 h6 1024 1280 rfl (by decide) fits_1280 _ _ _)
    (accCons_real (Kn_real hsc he h0 h1 h2 h3 h4 h5 h6 768 1024 rfl (by decide) fits_1024 _ _ _)
    (accCons_real (Kn_real hsc he h0 h1 h2 h3 h4 h5 h6 512 768 rfl (by decide) fits_768 _ _ _)
    (accCons_real (Kn_real hsc he h0 h1 h2 h3 h4 h5 h6 256 512 rfl (by decide) fits_512 _ _ _)
    (accCons_real (Kn_real hsc he h0 h1 h2 h3 h4 h5 h6 0 256 rfl (by decide) fits_256 _ _ _) (Upto.zero))))))))) (fun r l _ _ => ?_)
  exact tiles_sum r (fun q => A.dS (2 * j + l / 64) q r * (A.qn q (2 * j + l / 64) (l % 64) * A.sc)) (fun q hq => by rw [A.dS_of_lt hq, zero_mul])

include hsc he h0 h1 h2 h3 h4 h5 h6 in
/-- What the point leaves in its block of an accumulated gradient. -/
theorem L10_real : Upto (kernelRun0_A c i arg1 w1 arg2 w2 arg3 w3 arg4 w4 arg5 w5 arg6 w6 arg7 w7 arg8 w8 arg9 w9 arg10 w10 arg11 w11 arg12 w12 arg13 w13 arg14 w14 x0 x1 x2 x3 x4 x5 x6).2.2.2.1 2048 (fun r l => ((A.dvv r (2 * j + l / 64) (l % 64) : ℝ) : EReal)) := by
  rw [L10_eq]
  beta_reduce
  have T := @V_real c i arg1 w1 arg2 w2 arg3 w3 arg4 w4 arg5 w5 arg6 w6 arg7 w7 arg13 arg14 x0 x1 x2 x3 x4 x5 x6 A j hsc he h0 h1 h2 h3 h4 h5 h6
  refine Upto.fix (accCons_real (T 1792 2048 rfl (by decide) fits_2048 _ _ inb_S2048x128_S2048x128_0_0)
    (accCons_real (T 1536 1792 rfl (by decide) fits_1792 _ _ inb_S2048x128_S1792x128_0_0)
    (accCons_real (T 1280 1536 rfl (by decide) fits_1536 _ _ inb_S2048x128_S1536x128_0_0)
    (accCons_real (T 1024 1280 rfl (by decide) fits_1280 _ _ inb_S2048x128_S1280x128_0_0)
    (accCons_real (T 768 1024 rfl (by decide) fits_1024 _ _ inb_S2048x128_S1024x128_0_0)
    (accCons_real (T 512 768 rfl (by decide) fits_768 _ _ inb_S2048x128_S768x128_0_0)
    (accCons_real (T 256 512 rfl (by decide) fits_512 _ _ inb_S2048x128_S512x128_0_0)
    (accCons_real (T 0 256 rfl (by decide) fits_256 _ _ inb_S2048x128_S256x128_0_0) (Upto.zero'))))))))) (fun r l _ _ => ?_)
  exact tiles_sum r (fun q => A.Pr (2 * j + l / 64) q r * A.ct q (2 * j + l / 64) (l % 64)) (fun q hq => by rw [A.Pr_of_lt hq, zero_mul])

include hsc he h0 h1 h2 h3 h4 h5 h6 in
/-- What the point leaves in its block of an accumulated gradient. -/
theorem L11_real : Upto₁ (kernelRun0_A c i arg1 w1 arg2 w2 arg3 w3 arg4 w4 arg5 w5 arg6 w6 arg7 w7 arg8 w8 arg9 w9 arg10 w10 arg11 w11 arg12 w12 arg13 w13 arg14 w14 x0 x1 x2 x3 x4 x5 x6).2.2.2.2.1 2048 (fun r l => ((if l / 64 = j % 2 then A.dkr1 (4 * (j / 2) + l / 32) r (l % 32) else 0 : ℝ) : EReal)) := by
  rw [L11_eq]
  beta_reduce
  refine Upto₁.fix (accCons₁_real (Kr_real hsc he h0 h1 h2 h3 h4 h5 h6 1792 2048 rfl (by decide) fits_2048 _ _ _)
    (accCons₁_real (Kr_real hsc he h0 h1 h2 h3 h4 h5 h6 1536 1792 rfl (by decide) fits_1792 _ _ _)
    (accCons₁_real (Kr_real hsc he h0 h1 h2 h3 h4 h5 h6 1280 1536 rfl (by decide) fits_1536 _ _ _)
    (accCons₁_real (Kr_real hsc he h0 h1 h2 h3 h4 h5 h6 1024 1280 rfl (by decide) fits_1280 _ _ _)
    (accCons₁_real (Kr_real hsc he h0 h1 h2 h3 h4 h5 h6 768 1024 rfl (by decide) fits_1024 _ _ _)
    (accCons₁_real (Kr_real hsc he h0 h1 h2 h3 h4 h5 h6 512 768 rfl (by decide) fits_768 _ _ _)
    (accCons₁_real (Kr_real hsc he h0 h1 h2 h3 h4 h5 h6 256 512 rfl (by decide) fits_512 _ _ _)
    (accCons₁_real (Kr_real hsc he h0 h1 h2 h3 h4 h5 h6 0 256 rfl (by decide) fits_256 _ _ _) (Upto₁.zero))))))))) (fun r l _ _ => ?_)
  exact by
    by_cases hl : l / 64 = j % 2
    · simp only [if_pos hl]
      exact tiles_sum r (fun q => A.dS (4 * (j / 2) + l / 32) q r * (A.qr q (4 * (j / 2) + l / 32) (l % 32) * A.sc)) (fun q hq => by rw [A.dS_of_lt hq, zero_mul])
    · simp only [if_neg hl, ite_self, add_zero]

end

end Cert.KernelIdeal.Hand

end
-- ==== Proof.Blocks.lean ====
/- The windows' blocks at the reals: what a grid point reads of the six input arrays, and what the five arrays hold after
   the region. -/
module

public import proofs.«01_k».proof.Proof.BodyVal

@[expose] public section

set_option maxRecDepth 16384

noncomputable section

namespace Cert.KernelIdeal.Hand

open Idealize.ShloMosaic Idealize.ShloMosaic.ValueIdx Idealize.ShloMosaic.TcCoe Cert.Attn Cert.KernelIdeal Cert.KernelIdeal.Gen Idealize.SL.Sem
open Idealize.ShloMosaic.Pipeline (Dat)

variable (m : (ℓ : Loc nD τ sig) → Buf (Elt Ideal) ℓ)

/-- What the arrays hold that the region reads, in terms of the reals `A`. -/
structure Ins (A : Args) (c : Dev nD) : Prop where
  sc : A.sc = scale
  q : IsR (a := 2048) (c := 1536) (φ := .f32) (V m c main_v29) (fun r k => if k < 1024 then A.qn r (k / 64) (k % 64) else A.qr r ((k - 1024) / 32) ((k - 1024) % 32))
  qr : IsR (a := 2048) (c := 512) (φ := .f32) (V m c main_v33) (fun r k => A.qr r (k / 32) (k % 32))
  kv : IsR (a := 2048) (c := 2048) (φ := .f32) (V m c main_v32) (fun r k => if k < 1024 then A.kn r (k / 64) (k % 64) else A.vv r ((k - 1024) / 64) ((k - 1024) % 64))
  kr : IsR (a := 2048) (c := 128) (φ := .f32) (V m c main_v36) (fun r k => A.kr r (k % 32))
  o : IsR (a := 2048) (c := 1024) (φ := .f32) (V m c main_v26) (fun r k => A.O (k / 64) r (k % 64))
  d : IsR (a := 2048) (c := 1024) (φ := .f32) (V m c main_v37) (fun r k => A.ct r (k / 64) (k % 64))

theorem idxw0 : ∀ t : Fin grid0.N, win0_0.index t 0 = 0 ∧ win0_0.index t 1 = t.val := by decide +kernel

/-- Window 0's block at a grid point is a column block of its array. -/
theorem iblk0_real (c : Dev nD) (t : Fin cfg0.N) (f : ℕ → ℕ → ℝ) (h : IsR (a := 2048) (c := 1536) (φ := .f32) (V m c main_v29) f) :
    IsR (a := 2048) (c := 128) (φ := .f32) (iblk m c 0 t) (fun r l => f r ((t.val) * 128 + l)) := fun r l => by
  obtain ⟨e0, e1⟩ := idxw0 t
  have ht : t.val < 8 := t.isLt
  have hl := l.isLt
  have hi : ((cfg0.win 0).blk t).view.emb (ix2 r l : S2048x128.Idx) = (ix2 r ⟨(t.val) * 128 + l.val, by omega⟩ : S2048x1536.Idx) := by
    funext a
    apply Fin.ext
    match a with
    | ⟨0, _⟩ => show win0_0.index t 0 * 2048 + 1 * r.val = r.val; rw [e0]; omega
    | ⟨1, _⟩ => show win0_0.index t 1 * 128 + 1 * l.val = (t.val) * 128 + l.val; rw [e1]; omega
  have hv : (iblk m c 0 t : Vec Ideal S2048x128 .f32) (ix2 r l) = V m c main_v29 (((cfg0.win 0).blk t).view.emb (ix2 r l : S2048x128.Idx)) := by
    unfold iblk
    rw [View.read_apply]
    rfl
  exact hv.trans ((congrArg (V m c main_v29) hi).trans (h r ⟨(t.val) * 128 + l.val, by omega⟩))

theorem idxw1 : ∀ t : Fin grid0.N, win0_1.index t 0 = 0 ∧ win0_1.index t 1 = t.val / 2 := by decide +kernel

/-- Window 1's block at a grid point is a column block of its array. -/
theorem iblk1_real (c : Dev nD) (t : Fin cfg0.N) (f : ℕ → ℕ → ℝ) (h : IsR (a := 2048) (c := 512) (φ := .f32) (V m c main_v33) f) :
    IsR (a := 2048) (c := 128) (φ := .f32) (iblk m c 1 t) (fun r l => f r ((t.val / 2) * 128 + l)) := fun r l => by
  obtain ⟨e0, e1⟩ := idxw1 t
  have ht : t.val < 8 := t.isLt
  have hl := l.isLt
  have hi : ((cfg0.win 1).blk t).view.emb (ix2 r l : S2048x128.Idx) = (ix2 r ⟨(t.val / 2) * 128 + l.val, by omega⟩ : S2048x512.Idx) := by
    funext a
    apply Fin.ext
    match a with
    | ⟨0, _⟩ => show win0_1.index t 0 * 2048 + 1 * r.val = r.val; rw [e0]; omega
    | ⟨1, _⟩ => show win0_1.index t 1 * 128 + 1 * l.val = (t.val / 2) * 128 + l.val; rw [e1]; omega
  have hv : (iblk m c 1 t : Vec Ideal S2048x128 .f32) (ix2 r l) = V m c main_v33 (((cfg0.win 1).blk t).view.emb (ix2 r l : S2048x128.Idx)) := by
    unfold iblk
    rw [View.read_apply]
    rfl
  exact hv.trans ((congrArg (V m c main_v33) hi).trans (h r ⟨(t.val / 2) * 128 + l.val, by omega⟩))

theorem idxw2 : ∀ t : Fin grid0.N, win0_2.index t 0 = 0 ∧ win0_2.index t 1 = t.val := by decide +kernel

/-- Window 2's block at a grid point is a column block of its array. -/
theorem iblk2_real (c : Dev nD) (t : Fin cfg0.N) (f : ℕ → ℕ → ℝ) (h : IsR (a := 2048) (c := 2048) (φ := .f32) (V m c main_v32) f) :
    IsR (a := 2048) (c := 128) (φ := .f32) (iblk m c 2 t) (fun r l => f r ((t.val) * 128 + l)) := fun r l => by
  obtain ⟨e0, e1⟩ := idxw2 t
  have ht : t.val < 8 := t.isLt
  have hl := l.isLt
  have hi : ((cfg0.win 2).blk t).view.emb (ix2 r l : S2048x128.Idx) = (ix2 r ⟨(t.val) * 128 + l.val, by omega⟩ : S2048x2048.Idx) := by
    funext a
    apply Fin.ext
    match a with
    | ⟨0, _⟩ => show win0_2.index t 0 * 2048 + 1 * r.val = r.val; rw [e0]; omega
    | ⟨1, _⟩ => show win0_2.index t 1 * 128 + 1 * l.val = (t.val) * 128 + l.val; rw [e1]; omega
  have hv : (iblk m c 2 t : Vec Ideal S2048x128 .f32) (ix2 r l) = V m c main_v32 (((cfg0.win 2).blk t).view.emb (ix2 r l : S2048x128.Idx)) := by
    unfold iblk
    rw [View.read_apply]
    rfl
  exact hv.trans ((congrArg (V m c main_v32) hi).trans (h r ⟨(t.val) * 128 + l.val, by omega⟩))

theorem idxw3 : ∀ t : Fin grid0.N, win0_3.index t 0 = 0 ∧ win0_3.index t 1 = 0 := by decide +kernel

/-- Window 3's block at a grid point is a column block of its array. -/
theorem iblk3_real (c : Dev nD) (t : Fin cfg0.N) (f : ℕ → ℕ → ℝ) (h : IsR (a := 2048) (c := 128) (φ := .f32) (V m c main_v36) f) :
    IsR (a := 2048) (c := 128) (φ := .f32) (iblk m c 3 t) (fun r l => f r ((0) * 128 + l)) := fun r l => by
  obtain ⟨e0, e1⟩ := idxw3 t
  have ht : t.val < 8 := t.isLt
  have hl := l.isLt
  have hi : ((cfg0.win 3).blk t).view.emb (ix2 r l : S2048x128.Idx) = (ix2 r ⟨(0) * 128 + l.val, by omega⟩ : S2048x128.Idx) := by
    funext a
    apply Fin.ext
    match a with
    | ⟨0, _⟩ => show win0_3.index t 0 * 2048 + 1 * r.val = r.val; rw [e0]; omega
    | ⟨1, _⟩ => show win0_3.index t 1 * 128 + 1 * l.val = (0) * 128 + l.val; rw [e1]; omega
  have hv : (iblk m c 3 t : Vec Ideal S2048x128 .f32) (ix2 r l) = V m c main_v36 (((cfg0.win 3).blk t).view.emb (ix2 r l : S2048x128.Idx)) := by
    unfold iblk
    rw [View.read_apply]
    rfl
  exact hv.trans ((congrArg (V m c main_v36) hi).trans (h r ⟨(0) * 128 + l.val, by omega⟩))

theorem idxw4 : ∀ t : Fin grid0.N, win0_4.index t 0 = 0 ∧ win0_4.index t 1 = 8 + t.val := by decide +kernel

/-- Window 4's block at a grid point is a column block of its array. -/
theorem iblk4_real (c : Dev nD) (t : Fin cfg0.N) (f : ℕ → ℕ → ℝ) (h : IsR (a := 2048) (c := 2048) (φ := .f32) (V m c main_v32) f) :
    IsR (a := 2048) (c := 128) (φ := .f32) (iblk m c 4 t) (fun r l => f r ((8 + t.val) * 128 + l)) := fun r l => by
  obtain ⟨e0, e1⟩ := idxw4 t
  have ht : t.val < 8 := t.isLt
  have hl := l.isLt
  have hi : ((cfg0.win 4).blk t).view.emb (ix2 r l : S2048x128.Idx) = (ix2 r ⟨(8 + t.val) * 128 + l.val, by omega⟩ : S2048x2048.Idx) := by
    funext a
    apply Fin.ext
    match a with
    | ⟨0, _⟩ => show win0_4.index t 0 * 2048 + 1 * r.val = r.val; rw [e0]; omega
    | ⟨1, _⟩ => show win0_4.index t 1 * 128 + 1 * l.val = (8 + t.val) * 128 + l.val; rw [e1]; omega
  have hv : (iblk m c 4 t : Vec Ideal S2048x128 .f32) (ix2 r l) = V m c main_v32 (((cfg0.win 4).blk t).view.emb (ix2 r l : S2048x128.Idx)) := by
    unfold iblk
    rw [View.read_apply]
    rfl
  exact hv.trans ((congrArg (V m c main_v32) hi).trans (h r ⟨(8 + t.val) * 128 + l.val, by omega⟩))

theorem idxw5 : ∀ t : Fin grid0.N, win0_5.index t 0 = 0 ∧ win0_5.index t 1 = t.val := by decide +kernel

/-- Window 5's block at a grid point is a column block of its array. -/
theorem iblk5_real (c : Dev nD) (t : Fin cfg0.N) (f : ℕ → ℕ → ℝ) (h : IsR (a := 2048) (c := 1024) (φ := .f32) (V m c main_v26) f) :
    IsR (a := 2048) (c := 128) (φ := .f32) (iblk m c 5 t) (fun r l => f r ((t.val) * 128 + l)) := fun r l => by
  obtain ⟨e0, e1⟩ := idxw5 t
  have ht : t.val < 8 := t.isLt
  have hl := l.isLt
  have hi : ((cfg0.win 5).blk t).view.emb (ix2 r l : S2048x128.Idx) = (ix2 r ⟨(t.val) * 128 + l.val, by omega⟩ : S2048x1024.Idx) := by
    funext a
    apply Fin.ext
    match a with
    | ⟨0, _⟩ => show win0_5.index t 0 * 2048 + 1 * r.val = r.val; rw [e0]; omega
    | ⟨1, _⟩ => show win0_5.index t 1 * 128 + 1 * l.val = (t.val) * 128 + l.val; rw [e1]; omega
  have hv : (iblk m c 5 t : Vec Ideal S2048x128 .f32) (ix2 r l) = V m c main_v26 (((cfg0.win 5).blk t).view.emb (ix2 r l : S2048x128.Idx)) := by
    unfold iblk
    rw [View.read_apply]
    rfl
  exact hv.trans ((congrArg (V m c main_v26) hi).trans (h r ⟨(t.val) * 128 + l.val, by omega⟩))

theorem idxw6 : ∀ t : Fin grid0.N, win0_6.index t 0 = 0 ∧ win0_6.index t 1 = t.val := by decide +kernel

/-- Window 6's block at a grid point is a column block of its array. -/
theorem iblk6_real (c : Dev nD) (t : Fin cfg0.N) (f : ℕ → ℕ → ℝ) (h : IsR (a := 2048) (c := 1024) (φ := .f32) (V m c main_v37) f) :
    IsR (a := 2048) (c := 128) (φ := .f32) (iblk m c 6 t) (fun r l => f r ((t.val) * 128 + l)) := fun r l => by
  obtain ⟨e0, e1⟩ := idxw6 t
  have ht : t.val < 8 := t.isLt
  have hl := l.isLt
  have hi : ((cfg0.win 6).blk t).view.emb (ix2 r l : S2048x128.Idx) = (ix2 r ⟨(t.val) * 128 + l.val, by omega⟩ : S2048x1024.Idx) := by
    funext a
    apply Fin.ext
    match a with
    | ⟨0, _⟩ => show win0_6.index t 0 * 2048 + 1 * r.val = r.val; rw [e0]; omega
    | ⟨1, _⟩ => show win0_6.index t 1 * 128 + 1 * l.val = (t.val) * 128 + l.val; rw [e1]; omega
  have hv : (iblk m c 6 t : Vec Ideal S2048x128 .f32) (ix2 r l) = V m c main_v37 (((cfg0.win 6).blk t).view.emb (ix2 r l : S2048x128.Idx)) := by
    unfold iblk
    rw [View.read_apply]
    rfl
  exact hv.trans ((congrArg (V m c main_v37) hi).trans (h r ⟨(t.val) * 128 + l.val, by omega⟩))

section

variable (A : Args) (c : Dev nD) (hI : Ins m A c) (t : Fin cfg0.N)

include hI

theorem x0_real : IsR (a := 2048) (c := 128) (φ := .f32) (iblk m c 0 t) (bq A t.val) :=
  (iblk0_real m c t _ hI.q).congr fun r _ l hl => by
    have ht : t.val < 8 := t.isLt
    rw [if_pos (by omega)]; unfold bq
    congr 1 <;> omega
theorem x1_real : IsR (a := 2048) (c := 128) (φ := .f32) (iblk m c 1 t) (br A t.val) :=
  (iblk1_real m c t _ hI.qr).congr fun r _ l hl => by
    unfold br
    congr 1 <;> omega
theorem x2_real : IsR (a := 2048) (c := 128) (φ := .f32) (iblk m c 2 t) (fun r l => A.kn r (2 * t.val + l / 64) (l % 64)) :=
  (iblk2_real m c t _ hI.kv).congr fun r _ l hl => by
    have ht : t.val < 8 := t.isLt
    rw [if_pos (by omega)]
    congr 1 <;> omega
theorem x3_real : IsR (a := 2048) (c := 128) (φ := .f32) (iblk m c 3 t) (fun r l => A.kr r (l % 32)) :=
  (iblk3_real m c t _ hI.kr).congr fun r _ l hl => by
    congr 1; omega
theorem x4_real : IsR (a := 2048) (c := 128) (φ := .f32) (iblk m c 4 t) (bv A t.val) :=
  (iblk4_real m c t _ hI.kv).congr fun r _ l hl => by
    rw [if_neg (by omega)]; unfold bv
    congr 1 <;> omega
theorem x5_real : IsR (a := 2048) (c := 128) (φ := .f32) (iblk m c 5 t) (bo A t.val) :=
  (iblk5_real m c t _ hI.o).congr fun r _ l hl => by
    unfold bo
    rw [show (t.val * 128 + l) / 64 = 2 * t.val + l / 64 by omega, show (t.val * 128 + l) % 64 = l % 64 by omega]
theorem x6_real : IsR (a := 2048) (c := 128) (φ := .f32) (iblk m c 6 t) (bd A t.val) :=
  (iblk6_real m c t _ hI.d).congr fun r _ l hl => by
    unfold bd
    congr 1 <;> omega

/-- What a grid point leaves in window 7's block. -/
theorem left7_real (r : Fin 2048) (l : Fin 128) : (outsAt0 m c t).1 (ix2 r l : S2048x128.Idx) = (((fun r l => A.dqn r (2 * t.val + l / 64) (l % 64) : ℕ → ℕ → ℝ) r.val l.val : ℝ) : EReal) := by
  have h := L7_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) A t.val hI.sc (v10_eq t) (x0_real m A c hI t) (x1_real m A c hI t) (x2_real m A c hI t) (x3_real m A c hI t) (x4_real m A c hI t) (x5_real m A c hI t) (x6_real m A c hI t) r l r.isLt
  refine Eq.trans ?_ h
  simp only [outsAt0]
  unfold out0_A_7
  exact congrFun (View.read_writes_junk_eq_canon _ _) _

/-- What a grid point leaves in window 8's block. -/
theorem left8_real (r : Fin 2048) (l : Fin 128) : (outsAt0 m c t).2.1 (ix3 (0 : Fin 1) r l : S1x2048x128.Idx) = (((fun r l => if l / 64 = t.val % 2 then A.dqr r (4 * (t.val / 2) + l / 32) (l % 32) else 0 : ℕ → ℕ → ℝ) r.val l.val : ℝ) : EReal) := by
  have h := L8_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) A t.val hI.sc (v10_eq t) (x0_real m A c hI t) (x1_real m A c hI t) (x2_real m A c hI t) (x3_real m A c hI t) (x4_real m A c hI t) (x5_real m A c hI t) (x6_real m A c hI t) r l r.isLt
  refine Eq.trans ?_ h
  simp only [outsAt0]
  unfold out0_A_8
  exact congrFun (View.read_writes_junk_eq_canon _ _) _

/-- What a grid point leaves in window 9's block. -/
theorem left9_real (r : Fin 2048) (l : Fin 128) : (outsAt0 m c t).2.2.1 (ix2 r l : S2048x128.Idx) = (((fun r l => A.dkn r (2 * t.val + l / 64) (l % 64) : ℕ → ℕ → ℝ) r.val l.val : ℝ) : EReal) := by
  have h := L9_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) A t.val hI.sc (v10_eq t) (x0_real m A c hI t) (x1_real m A c hI t) (x2_real m A c hI t) (x3_real m A c hI t) (x4_real m A c hI t) (x5_real m A c hI t) (x6_real m A c hI t) r l r.isLt
  refine Eq.trans ?_ h
  simp only [outsAt0]
  unfold out0_A_9
  exact congrFun (View.read_writes_junk_eq_canon _ _) _

/-- What a grid point leaves in window 10's block. -/
theorem left10_real (r : Fin 2048) (l : Fin 128) : (outsAt0 m c t).2.2.2.1 (ix2 r l : S2048x128.Idx) = (((fun r l => A.dvv r (2 * t.val + l / 64) (l % 64) : ℕ → ℕ → ℝ) r.val l.val : ℝ) : EReal) := by
  have h := L10_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) A t.val hI.sc (v10_eq t) (x0_real m A c hI t) (x1_real m A c hI t) (x2_real m A c hI t) (x3_real m A c hI t) (x4_real m A c hI t) (x5_real m A c hI t) (x6_real m A c hI t) r l r.isLt
  refine Eq.trans ?_ h
  simp only [outsAt0]
  unfold out0_A_10
  exact congrFun (View.read_writes_junk_eq_canon _ _) _

/-- What a grid point leaves in window 11's block. -/
theorem left11_real (r : Fin 2048) (l : Fin 128) : (outsAt0 m c t).2.2.2.2 (ix3 (0 : Fin 1) r l : S1x2048x128.Idx) = (((fun r l => if l / 64 = t.val % 2 then A.dkr1 (4 * (t.val / 2) + l / 32) r (l % 32) else 0 : ℕ → ℕ → ℝ) r.val l.val : ℝ) : EReal) := by
  have h := L11_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) A t.val hI.sc (v10_eq t) (x0_real m A c hI t) (x1_real m A c hI t) (x2_real m A c hI t) (x3_real m A c hI t) (x4_real m A c hI t) (x5_real m A c hI t) (x6_real m A c hI t) r l r.isLt
  refine Eq.trans ?_ h
  simp only [outsAt0]
  unfold out0_A_11
  exact congrFun (View.read_writes_junk_eq_canon _ _) _

end

end Cert.KernelIdeal.Hand

end
-- ==== Proof.Arrays.lean ====
/- The five arrays after the region, at an index: the derivatives. -/
module

public import proofs.«01_k».proof.Proof.Blocks

@[expose] public section

set_option maxRecDepth 16384

noncomputable section

namespace Cert.KernelIdeal.Hand

open Idealize.ShloMosaic Idealize.ShloMosaic.ValueIdx Idealize.ShloMosaic.TcCoe Cert.Attn Cert.KernelIdeal Cert.KernelIdeal.Gen Idealize.SL.Sem
open Idealize.ShloMosaic.Pipeline (Dat)

variable (m : (ℓ : Loc nD τ sig) → Buf (Elt Ideal) ℓ) (A : Args) (c : Dev nD) (hI : Ins m A c)

theorem idxo7 : ∀ t : Fin grid0.N, win0_7.index t 0 = 0 ∧ win0_7.index t 1 = t.val := by decide +kernel

theorem idx_inj7 : ∀ t t' : Fin cfg0.N, win0_7.index t = win0_7.index t' → t = t' :=
  (by decide +kernel : ∀ t t' : Fin grid0.N, win0_7.index t = win0_7.index t' → t = t')

/-- No two grid points' blocks of window 7 share an index. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- A block of the array after the region is what its grid point left. -/
theorem block7 (t : Fin cfg0.N) (y : S2048x128.Idx) :
    (dats m 0 c).arrAt 7 cfg0.N (((cfg0.win 7).blk t).view.emb y) = (outsAt0 m c t).1 y := by
  have h := congrFun ((dats m 0 c).read_blk_arrAt_eq_flushed 7 disjoint7 cfg0.N t t.isLt (flush0_7 t)) y
  rw [View.read_apply] at h
  refine h.trans ?_
  show (cfg0.win 7).cut (grid0.coords t) ((dats m 0 c).after 7 t) y = _
  rw [after0_7]
  rfl

include hI in
/-- The array of window 7 after the region. -/
theorem array7 (r : Fin 2048) (k : Fin 1024) : (dats m 0 c).arrAt 7 cfg0.N (ix2 r k : S2048x1024.Idx) = ((A.dqn r.val (k.val / 64) (k.val % 64) : ℝ) : EReal) := by
  have hk := k.isLt
  obtain ⟨t, ht⟩ : ∃ t : Fin cfg0.N, t.val = k.val / 128 := ⟨⟨k.val / 128, (by omega : k.val / 128 < 8)⟩, rfl⟩
  have e := idxo7 t
  have hi : ((cfg0.win 7).blk t).view.emb (ix2 r ⟨k.val % 128, by omega⟩ : S2048x128.Idx) = (ix2 r k : S2048x1024.Idx) := by
    funext x
    apply Fin.ext
    match x with
    | ⟨0, _⟩ => show win0_7.index t 0 * 2048 + 1 * r.val = r.val; rw [e.1]; omega
    | ⟨1, _⟩ => show win0_7.index t 1 * 128 + 1 * (k.val % 128) = k.val; rw [e.2, ht]; omega
  refine (congrArg ((dats m 0 c).arrAt 7 cfg0.N) hi).symm.trans ((block7 m c t _).trans ((left7_real m A c hI t r ⟨k.val % 128, by omega⟩).trans ?_))
  show ((A.dqn r.val (2 * t.val + k.val % 128 / 64) (k.val % 128 % 64) : ℝ) : EReal) = _
  rw [ht, show 2 * (k.val / 128) + k.val % 128 / 64 = k.val / 64 by omega, show k.val % 128 % 64 = k.val % 64 by omega]

theorem idxo8 : ∀ t : Fin grid0.N, win0_8.index t 0 = t.val % 2 ∧ win0_8.index t 1 = 0 ∧ win0_8.index t 2 = t.val / 2 := by decide +kernel

theorem idx_inj8 : ∀ t t' : Fin cfg0.N, win0_8.index t = win0_8.index t' → t = t' :=
  (by decide +kernel : ∀ t t' : Fin grid0.N, win0_8.index t = win0_8.index t' → t = t')

/-- No two grid points' blocks of window 8 share an index. -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- A block of the array after the region is what its grid point left. -/
theorem block8 (t : Fin cfg0.N) (y : S1x2048x128.Idx) :
    (dats m 0 c).arrAt 8 cfg0.N (((cfg0.win 8).blk t).view.emb y) = (outsAt0 m c t).2.1 y := by
  have h := congrFun ((dats m 0 c).read_blk_arrAt_eq_flushed 8 disjoint8 cfg0.N t t.isLt (flush0_8 t)) y
  rw [View.read_apply] at h
  refine h.trans ?_
  show (cfg0.win 8).cut (grid0.coords t) ((dats m 0 c).after 8 t) y = _
  rw [after0_8]
  rfl

include hI in
/-- The array of window 8 after the region. -/
theorem array8 (a : Fin 2) (r : Fin 2048) (k : Fin 512) : (dats m 0 c).arrAt 8 cfg0.N (ix3 a r k : S2x2048x512.Idx) = ((if k.val / 64 % 2 = a.val then A.dqr r.val (k.val / 32) (k.val % 32) else 0 : ℝ) : EReal) := by
  have hk := k.isLt
  have ha := a.isLt
  obtain ⟨t, ht⟩ : ∃ t : Fin cfg0.N, t.val = 2 * (k.val / 128) + a.val := ⟨⟨2 * (k.val / 128) + a.val, (by omega : 2 * (k.val / 128) + a.val < 8)⟩, rfl⟩
  have e := idxo8 t
  have hi : ((cfg0.win 8).blk t).view.emb (ix3 (0 : Fin 1) r ⟨k.val % 128, by omega⟩ : S1x2048x128.Idx) = (ix3 a r k : S2x2048x512.Idx) := by
    funext x
    apply Fin.ext
    match x with
    | ⟨0, _⟩ => show win0_8.index t 0 * 1 + 1 * 0 = a.val; rw [e.1, ht]; omega
    | ⟨1, _⟩ => show win0_8.index t 1 * 2048 + 1 * r.val = r.val; rw [e.2.1]; omega
    | ⟨2, _⟩ => show win0_8.index t 2 * 128 + 1 * (k.val % 128) = k.val; rw [e.2.2, ht]; omega
  refine (congrArg ((dats m 0 c).arrAt 8 cfg0.N) hi).symm.trans ((block8 m c t _).trans ((left8_real m A c hI t r ⟨k.val % 128, by omega⟩).trans ?_))
  show (((if k.val % 128 / 64 = t.val % 2 then A.dqr r.val (4 * (t.val / 2) + k.val % 128 / 32) (k.val % 128 % 32) else 0) : ℝ) : EReal) = _
  rw [ht, show (2 * (k.val / 128) + a.val) % 2 = a.val by omega, show 4 * ((2 * (k.val / 128) + a.val) / 2) + k.val % 128 / 32 = k.val / 32 by omega, show k.val % 128 % 32 = k.val % 32 by omega, show k.val % 128 / 64 = k.val / 64 % 2 by omega]

theorem idxo9 : ∀ t : Fin grid0.N, win0_9.index t 0 = 0 ∧ win0_9.index t 1 = t.val := by decide +kernel

theorem idx_inj9 : ∀ t t' : Fin cfg0.N, win0_9.index t = win0_9.index t' → t = t' :=
  (by decide +kernel : ∀ t t' : Fin grid0.N, win0_9.index t = win0_9.index t' → t = t')

/-- No two grid points' blocks of window 9 share an index. -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- A block of the array after the region is what its grid point left. -/
theorem block9 (t : Fin cfg0.N) (y : S2048x128.Idx) :
    (dats m 0 c).arrAt 9 cfg0.N (((cfg0.win 9).blk t).view.emb y) = (outsAt0 m c t).2.2.1 y := by
  have h := congrFun ((dats m 0 c).read_blk_arrAt_eq_flushed 9 disjoint9 cfg0.N t t.isLt (flush0_9 t)) y
  rw [View.read_apply] at h
  refine h.trans ?_
  show (cfg0.win 9).cut (grid0.coords t) ((dats m 0 c).after 9 t) y = _
  rw [after0_9]
  rfl

include hI in
/-- The array of window 9 after the region. -/
theorem array9 (r : Fin 2048) (k : Fin 1024) : (dats m 0 c).arrAt 9 cfg0.N (ix2 r k : S2048x1024.Idx) = ((A.dkn r.val (k.val / 64) (k.val % 64) : ℝ) : EReal) := by
  have hk := k.isLt
  obtain ⟨t, ht⟩ : ∃ t : Fin cfg0.N, t.val = k.val / 128 := ⟨⟨k.val / 128, (by omega : k.val / 128 < 8)⟩, rfl⟩
  have e := idxo9 t
  have hi : ((cfg0.win 9).blk t).view.emb (ix2 r ⟨k.val % 128, by omega⟩ : S2048x128.Idx) = (ix2 r k : S2048x1024.Idx) := by
    funext x
    apply Fin.ext
    match x with
    | ⟨0, _⟩ => show win0_9.index t 0 * 2048 + 1 * r.val = r.val; rw [e.1]; omega
    | ⟨1, _⟩ => show win0_9.index t 1 * 128 + 1 * (k.val % 128) = k.val; rw [e.2, ht]; omega
  refine (congrArg ((dats m 0 c).arrAt 9 cfg0.N) hi).symm.trans ((block9 m c t _).trans ((left9_real m A c hI t r ⟨k.val % 128, by omega⟩).trans ?_))
  show ((A.dkn r.val (2 * t.val + k.val % 128 / 64) (k.val % 128 % 64) : ℝ) : EReal) = _
  rw [ht, show 2 * (k.val / 128) + k.val % 128 / 64 = k.val / 64 by omega, show k.val % 128 % 64 = k.val % 64 by omega]

theorem idxo10 : ∀ t : Fin grid0.N, win0_10.index t 0 = 0 ∧ win0_10.index t 1 = t.val := by decide +kernel

theorem idx_inj10 : ∀ t t' : Fin cfg0.N, win0_10.index t = win0_10.index t' → t = t' :=
  (by decide +kernel : ∀ t t' : Fin grid0.N, win0_10.index t = win0_10.index t' → t = t')

/-- No two grid points' blocks of window 10 share an index. -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- A block of the array after the region is what its grid point left. -/
theorem block10 (t : Fin cfg0.N) (y : S2048x128.Idx) :
    (dats m 0 c).arrAt 10 cfg0.N (((cfg0.win 10).blk t).view.emb y) = (outsAt0 m c t).2.2.2.1 y := by
  have h := congrFun ((dats m 0 c).read_blk_arrAt_eq_flushed 10 disjoint10 cfg0.N t t.isLt (flush0_10 t)) y
  rw [View.read_apply] at h
  refine h.trans ?_
  show (cfg0.win 10).cut (grid0.coords t) ((dats m 0 c).after 10 t) y = _
  rw [after0_10]
  rfl

include hI in
/-- The array of window 10 after the region. -/
theorem array10 (r : Fin 2048) (k : Fin 1024) : (dats m 0 c).arrAt 10 cfg0.N (ix2 r k : S2048x1024.Idx) = ((A.dvv r.val (k.val / 64) (k.val % 64) : ℝ) : EReal) := by
  have hk := k.isLt
  obtain ⟨t, ht⟩ : ∃ t : Fin cfg0.N, t.val = k.val / 128 := ⟨⟨k.val / 128, (by omega : k.val / 128 < 8)⟩, rfl⟩
  have e := idxo10 t
  have hi : ((cfg0.win 10).blk t).view.emb (ix2 r ⟨k.val % 128, by omega⟩ : S2048x128.Idx) = (ix2 r k : S2048x1024.Idx) := by
    funext x
    apply Fin.ext
    match x with
    | ⟨0, _⟩ => show win0_10.index t 0 * 2048 + 1 * r.val = r.val; rw [e.1]; omega
    | ⟨1, _⟩ => show win0_10.index t 1 * 128 + 1 * (k.val % 128) = k.val; rw [e.2, ht]; omega
  refine (congrArg ((dats m 0 c).arrAt 10 cfg0.N) hi).symm.trans ((block10 m c t _).trans ((left10_real m A c hI t r ⟨k.val % 128, by omega⟩).trans ?_))
  show ((A.dvv r.val (2 * t.val + k.val % 128 / 64) (k.val % 128 % 64) : ℝ) : EReal) = _
  rw [ht, show 2 * (k.val / 128) + k.val % 128 / 64 = k.val / 64 by omega, show k.val % 128 % 64 = k.val % 64 by omega]

theorem idxo11 : ∀ t : Fin grid0.N, win0_11.index t 0 = t.val ∧ win0_11.index t 1 = 0 ∧ win0_11.index t 2 = 0 := by decide +kernel

theorem idx_inj11 : ∀ t t' : Fin cfg0.N, win0_11.index t = win0_11.index t' → t = t' :=
  (by decide +kernel : ∀ t t' : Fin grid0.N, win0_11.index t = win0_11.index t' → t = t')

/-- No two grid points' blocks of window 11 share an index. -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- A block of the array after the region is what its grid point left. -/
theorem block11 (t : Fin cfg0.N) (y : S1x2048x128.Idx) :
    (dats m 0 c).arrAt 11 cfg0.N (((cfg0.win 11).blk t).view.emb y) = (outsAt0 m c t).2.2.2.2 y := by
  have h := congrFun ((dats m 0 c).read_blk_arrAt_eq_flushed 11 disjoint11 cfg0.N t t.isLt (flush0_11 t)) y
  rw [View.read_apply] at h
  refine h.trans ?_
  show (cfg0.win 11).cut (grid0.coords t) ((dats m 0 c).after 11 t) y = _
  rw [after0_11]
  rfl

include hI in
/-- The array of window 11 after the region. -/
theorem array11 (a : Fin 8) (r : Fin 2048) (k : Fin 128) : (dats m 0 c).arrAt 11 cfg0.N (ix3 a r k : S8x2048x128.Idx) = ((if k.val / 64 = a.val % 2 then A.dkr1 (4 * (a.val / 2) + k.val / 32) r.val (k.val % 32) else 0 : ℝ) : EReal) := by
  have hk := k.isLt
  have ha := a.isLt
  obtain ⟨t, ht⟩ : ∃ t : Fin cfg0.N, t.val = a.val := ⟨⟨a.val, (by omega : a.val < 8)⟩, rfl⟩
  have e := idxo11 t
  have hi : ((cfg0.win 11).blk t).view.emb (ix3 (0 : Fin 1) r ⟨k.val, by omega⟩ : S1x2048x128.Idx) = (ix3 a r k : S8x2048x128.Idx) := by
    funext x
    apply Fin.ext
    match x with
    | ⟨0, _⟩ => show win0_11.index t 0 * 1 + 1 * 0 = a.val; rw [e.1, ht]; omega
    | ⟨1, _⟩ => show win0_11.index t 1 * 2048 + 1 * r.val = r.val; rw [e.2.1]; omega
    | ⟨2, _⟩ => show win0_11.index t 2 * 128 + 1 * (k.val) = k.val; rw [e.2.2]; omega
  refine (congrArg ((dats m 0 c).arrAt 11 cfg0.N) hi).symm.trans ((block11 m c t _).trans ((left11_real m A c hI t r ⟨k.val, by omega⟩).trans ?_))
  exact congrArg (fun n : ℕ => (((if k.val / 64 = n % 2 then A.dkr1 (4 * (n / 2) + k.val / 32) r.val (k.val % 32) else 0) : ℝ) : EReal)) ht

end Cert.KernelIdeal.Hand

end
-- ==== Proof.RefValue.lean ====
/- The reference at the reals: one operation at a time, from the scores to the five gradients. -/
module

public import proofs.«01_k».proof.Proof.Tile
public import proofs.«01_k».proof.Proof.Gen.ReferenceIdeal.Read
public import Idealize.ShloMosaic.Lib.KernelVsHost
public import Idealize.ShloMosaic.Lib.TwoAxisContraction

@[expose] public section

set_option maxRecDepth 16384

noncomputable section

namespace Cert.Attn

open Idealize.ShloMosaic

/-- The three-axis array `X` holds the reals `f`. -/
def R3 {a b c : ℕ} (X : (⟨3, ![a, b, c]⟩ : Shape).Idx → EReal) (f : ℕ → ℕ → ℕ → ℝ) : Prop :=
  ∀ i, X i = ((f (i 0).val (i 1).val (i 2).val : ℝ) : EReal)

/-- The two-axis array `X` holds the reals `f`. -/
def R2 {a b : ℕ} (X : (⟨2, ![a, b]⟩ : Shape).Idx → EReal) (f : ℕ → ℕ → ℝ) : Prop :=
  ∀ i, X i = ((f (i 0).val (i 1).val : ℝ) : EReal)

theorem lt0 {a b c : ℕ} (i : (⟨3, ![a, b, c]⟩ : Shape).Idx) : (i 0).val < a := (i 0).isLt
theorem lt1 {a b c : ℕ} (i : (⟨3, ![a, b, c]⟩ : Shape).Idx) : (i 1).val < b := (i 1).isLt
theorem lt2 {a b c : ℕ} (i : (⟨3, ![a, b, c]⟩ : Shape).Idx) : (i 2).val < c := (i 2).isLt

/-- The softmax's derivative with the weights scaled by any positive `g`, the way the host writes it. -/
theorem softmax_bwd (A : Args) (h q k : ℕ) (hq : q < 2048) (g : ℝ) (hg : 0 < g) :
    (A.dP h q k / (A.L h q * g) + -(∑ κ ∈ Finset.range 2048, A.dP h q κ * (1 / (A.L h q * g * (A.L h q * g))) * (A.E h q κ * g)))
      * (A.E h q k * g) = A.dS h q k := by
  have hL := (A.L_pos h q hq).ne'
  have hg' := hg.ne'
  have hs : ∑ κ ∈ Finset.range 2048, A.dP h q κ * (1 / (A.L h q * g * (A.L h q * g))) * (A.E h q κ * g) = A.D h q / (A.L h q * g) := by
    rw [A.D_eq, Finset.sum_div]
    refine Finset.sum_congr rfl fun κ _ => ?_
    unfold Args.Pr
    field_simp
  rw [hs]
  unfold Args.dS Args.Pr
  field_simp
  ring

end Cert.Attn

namespace Cert.ReferenceIdeal.Hand

open Idealize.ShloMosaic Idealize.ShloMosaic.ValueIdx Cert.Attn Cert.ReferenceIdeal Cert.ReferenceIdeal.Gen Cert.ReferenceIdeal.Read Finset

/-- The arguments hold the reals `A`. -/
structure Holds6 (A : Args) (x0 : (⟨S2048x16x64, .f32⟩ : BufTy).Contents (Elt Ideal)) (x1 : (⟨S2048x16x32, .f32⟩ : BufTy).Contents (Elt Ideal))
    (x2 x3 : (⟨S2048x16x64, .f32⟩ : BufTy).Contents (Elt Ideal)) (x4 : (⟨S2048x32, .f32⟩ : BufTy).Contents (Elt Ideal))
    (x5 : (⟨S2048x16x64, .f32⟩ : BufTy).Contents (Elt Ideal)) : Prop where
  sc : A.sc = scale
  qn : R3 (a := 2048) (b := 16) (c := 64) x0 A.qn
  qr : R3 (a := 2048) (b := 16) (c := 32) x1 A.qr
  kn : R3 (a := 2048) (b := 16) (c := 64) x2 A.kn
  vv : R3 (a := 2048) (b := 16) (c := 64) x3 A.vv
  kr : R2 (a := 2048) (b := 32) x4 A.kr
  ct : R3 (a := 2048) (b := 16) (c := 64) x5 A.ct

section

variable {A : Args} {x0 : (⟨S2048x16x64, .f32⟩ : BufTy).Contents (Elt Ideal)} {x1 : (⟨S2048x16x32, .f32⟩ : BufTy).Contents (Elt Ideal)}
    {x2 x3 : (⟨S2048x16x64, .f32⟩ : BufTy).Contents (Elt Ideal)} {x4 : (⟨S2048x32, .f32⟩ : BufTy).Contents (Elt Ideal)}
    {x5 : (⟨S2048x16x64, .f32⟩ : BufTy).Contents (Elt Ideal)} (H : Holds6 A x0 x1 x2 x3 x4 x5)

include H

/-- The scores. -/
theorem v5_real : R3 (a := 16) (b := 2048) (c := 2048) (val_main_v5 (F := Ideal) x0 x1 x2 x4) A.S := fun i => by
  have e0 : val_main_v0 (F := Ideal) x0 x2 i = ((∑ d ∈ range 64, A.qn (i 1).val (i 0).val d * A.kn (i 2).val (i 0).val d : ℝ) : EReal) := by
    rw [val_main_v0_apply]
    exact sum_fin_coe _ (fun d => A.qn (i 1).val (i 0).val d * A.kn (i 2).val (i 0).val d) fun d => by
      rw [H.qn, H.kn, EReal.coe_mul]
  have e1 : val_main_v2 (F := Ideal) x1 x4 i = ((∑ r ∈ range 32, A.qr (i 1).val (i 0).val r * A.kr (i 2).val r : ℝ) : EReal) := by
    rw [val_main_v2_apply, val_main_v1_apply]
    exact sum_fin_coe _ (fun r => A.qr (i 1).val (i 0).val r * A.kr (i 2).val r) fun d => by
      rw [H.qr, H.kr, mul_comm, EReal.coe_mul]
  rw [val_main_v5_apply, val_main_v3_apply, val_main_v4_apply, val_main_cst_apply, e0, e1]
  show (_ + _) * Ideal.ofBits .f32 0x3DD105EC#32 = _
  rw [ofBits_scale, ← EReal.coe_add, ← EReal.coe_mul, ← H.sc]
  rfl

omit H in
theorem mask_iff (i : S16x2048x2048.Idx) : val_main_v12_1 (F := Ideal) i = 1#1 ↔ (i 2).val ≤ (i 1).val := by
  rw [val_main_v12_1_apply, val_main_v11_apply, val_main_v9_apply, val_main_v10_apply, val_main_v7_apply, val_main_v8_apply,
    val_main_v6_apply, val_main_v6_apply]
  have h1 : (i 1).val < 2048 := (i 1).isLt
  have h2 : (i 2).val < 2048 := (i 2).isLt
  exact WordCmp.cmpi_sge_ofNat_eq_one_iff (w := 32) (a := (i 1).val) (b := (i 2).val) (by omega) (by omega)

/-- The masked scores. -/
theorem v12_real (i : S16x2048x2048.Idx) : val_main_v12_0 (F := Ideal) x0 x1 x2 x4 i
    = if (i 2).val ≤ (i 1).val then ((A.S (i 0).val (i 1).val (i 2).val : ℝ) : EReal) else ⊥ := by
  rw [val_main_v12_0_apply, val_main_call0_v2_apply, val_main_call0_v0_apply, val_main_cst_0_apply, v5_real H i]
  show (if val_main_v12_1 (F := Ideal) i = 1#1 then _ else Ideal.ofBits .f32 0xFF800000#32) = _
  rw [ofBits_neg_inf]
  exact if_congr (mask_iff i) rfl rfl

/-- The largest score of a row is a real number. -/
theorem v20_real : ∃ M : ℕ → ℕ → ℝ, R2 (a := 16) (b := 2048) (val_main_v20 (F := Ideal) x0 x1 x2 x4) M := by
  have hm : ∀ i : S16x2048.Idx, ∃ M : ℝ, val_main_v20 (F := Ideal) x0 x1 x2 x4 i = (M : EReal) := fun i => by
    have hr : S16x2048x2048.Reduces [2] S16x2048 := by decide
    obtain ⟨M, hM⟩ := fold_max_real (fun k : Fin 2048 => if k.val ≤ (i 1).val then ((A.S (i 0).val (i 1).val k.val : ℝ) : EReal) else ⊥)
      (fun k => by split <;> simp) (⟨0, by omega⟩ : Fin 2048) (by simp)
    have e : val_main_v13 (F := Ideal) x0 x1 x2 x4 i = (M : EReal) := by
      unfold val_main_v13 val_main_cst_1
      refine (congrFun (hostReduce_maximumf_eq_multiReduction (F := Ideal) (φ := .f32) (val_main_v12_0 (F := Ideal) x0 x1 x2 x4) 0xFF800000#32
        reducesTo_S16x2048x2048_S16x2048_d2 h_S_ hr (.inl rfl) rfl) i).trans ?_
      refine (Ideal.multiReduction_maximumf_single _ _ hr _ _ i).trans (Eq.trans ?_ hM)
      show Finset.univ.fold max (Ideal.ofBits .f32 0xFF800000#32) _ = _
      rw [ofBits_neg_inf]
      refine congrArg (Finset.univ.fold max (⊥ : EReal)) (funext fun k => ?_)
      exact v12_real H (hr.lift i k)
    refine ⟨M, ?_⟩
    rw [val_main_v20_apply, val_main_v19_apply, val_main_cst_3_apply, e]
    show max (Ideal.ofBits .f32 0xFF800000#32) (M : EReal) = _
    rw [ofBits_neg_inf]; exact max_eq_right bot_le
  choose M hM using hm
  refine ⟨fun h q => if hh : h < 16 ∧ q < 2048 then M (ix2 ⟨h, hh.1⟩ ⟨q, hh.2⟩) else 0, fun i => ?_⟩
  rw [hM i]
  have h0 : (i 0).val < 16 := (i 0).isLt
  have h1 : (i 1).val < 2048 := (i 1).isLt
  show _ = ((dite _ _ _ : ℝ) : EReal)
  rw [dif_pos ⟨h0, h1⟩]
  exact congrArg (fun j => ((M j : ℝ) : EReal)) (eq_ix2 i)

/-- The weights, up to a positive factor that depends on the row. -/
theorem v33_real : ∃ g : ℕ → ℕ → ℝ, (∀ h q, 0 < g h q) ∧
    R3 (a := 16) (b := 2048) (c := 2048) (val_main_v33 (F := Ideal) x0 x1 x2 x4) (fun h q k => A.E h q k * g h q) := by
  obtain ⟨M, hM⟩ := v20_real H
  refine ⟨fun h q => Real.exp (-(M h q)), fun _ _ => Real.exp_pos _, fun i => ?_⟩
  rw [val_main_v33_apply, val_main_v32_apply, val_main_v31_apply, val_main_v30_apply, hM, v12_real H i]
  show Ideal.exp ((if (i 2).val ≤ (i 1).val then ((A.S (i 0).val (i 1).val (i 2).val : ℝ) : EReal) else ⊥)
    - ((M (i 0).val (i 1).val : ℝ) : EReal)) = ((A.E (i 0).val (i 1).val (i 2).val * Real.exp (-(M (i 0).val (i 1).val)) : ℝ) : EReal)
  unfold Args.E
  by_cases h : (i 2).val ≤ (i 1).val
  · rw [if_pos h, if_pos h, exp_sub_coe]
  · rw [if_neg h, if_neg h, exp_bot_sub, zero_mul]

section

variable {g : ℕ → ℕ → ℝ} (hg : ∀ h q, 0 < g h q)
  (h33 : R3 (a := 16) (b := 2048) (c := 2048) (val_main_v33 (F := Ideal) x0 x1 x2 x4) (fun h q k => A.E h q k * g h q))

include h33

omit H in
/-- A row's sum. -/
theorem v35_real : R3 (a := 16) (b := 2048) (c := 1) (val_main_v35 (F := Ideal) x0 x1 x2 x4) (fun h q _ => A.L h q * g h q) := fun i => by
  rw [val_main_v35_apply, val_main_v34_apply, val_main_cst_9_apply]
  show Ideal.ofBits .f32 0x00000000#32 + _ = _
  rw [Ideal.ofBits_zero_f32, zero_add]
  refine (sum_fin_coe _ (fun k => A.E (i 0).val (i 1).val k * g (i 0).val (i 1).val) fun k => h33 _).trans ?_
  rw [← Finset.sum_mul]
  rfl

include hg

omit H in
/-- The probabilities. -/
theorem v37_real : R3 (a := 16) (b := 2048) (c := 2048) (val_main_v37 (F := Ideal) x0 x1 x2 x4) A.Pr := fun i => by
  have h1 : (i 1).val < 2048 := (i 1).isLt
  rw [val_main_v37_apply, val_main_v36_apply, v35_real h33, h33]
  refine (div_coe_coe _ _ (mul_pos (A.L_pos _ _ h1) (hg _ _)).ne').trans ?_
  congr 1
  exact mul_div_mul_right _ _ (hg _ _).ne'

end

/-- The attention output. -/
theorem v42_real : R3 (a := 2048) (b := 16) (c := 64) (val_main_v42 (F := Ideal) x0 x1 x2 x3 x4) (fun q h d => A.O h q d) := fun i => by
  obtain ⟨g, hg, h33⟩ := v33_real H
  rw [val_main_v42_apply, val_main_v41_apply]
  exact sum_fin_coe _ (fun k => A.Pr (i 1).val (i 0).val k * A.vv k (i 1).val (i 2).val) fun k => by
    rw [H.vv, v37_real hg h33, mul_comm, EReal.coe_mul]

/-- The derivative with respect to the probabilities. -/
theorem v44_real : R3 (a := 16) (b := 2048) (c := 2048) (val_main_v44 (F := Ideal) x3 x5) A.dP := fun i => by
  rw [val_main_v44_apply]
  exact sum_fin_coe _ (fun d => A.ct (i 1).val (i 0).val d * A.vv (i 2).val (i 0).val d) fun k => by
    rw [val_main_v43_apply, H.ct, H.vv, EReal.coe_mul]

/-- The derivative with respect to the scores, times the factor. -/
theorem v61_real : R3 (a := 16) (b := 2048) (c := 2048) (val_main_v61 (F := Ideal) x0 x1 x2 x3 x4 x5) (fun h q k => A.dS h q k * A.sc) := fun i => by
  obtain ⟨g, hg, h33⟩ := v33_real H
  have h1 : (i 1).val < 2048 := (i 1).isLt
  have hL := (mul_pos (A.L_pos (i 0).val (i 1).val h1) (hg (i 0).val (i 1).val)).ne'
  have e47 : ∀ j : S16x2048x2048.Idx, (j 1).val < 2048 → val_main_v47 (F := Ideal) x0 x1 x2 x4 j
      = ((1 / (A.L (j 0).val (j 1).val * g (j 0).val (j 1).val * (A.L (j 0).val (j 1).val * g (j 0).val (j 1).val)) : ℝ) : EReal) := fun j hj => by
    have hL := (mul_pos (A.L_pos (j 0).val (j 1).val hj) (hg (j 0).val (j 1).val)).ne'
    rw [val_main_v47_apply, val_main_v40_apply, val_main_v39_apply, val_main_cst_10_apply, val_main_v38_apply, v35_real h33]
    show Ideal.div (Ideal.ofBits .f32 0x3F800000#32) (_ * _) = _
    rw [ofBits_one, ← EReal.coe_mul]
    exact div_coe_coe _ _ (mul_ne_zero hL hL)
  have e50 : ∀ j : S16x2048.Idx, (j 1).val < 2048 → val_main_v50 (F := Ideal) x0 x1 x2 x3 x4 x5 j
      = ((∑ κ ∈ range 2048, A.dP (j 0).val (j 1).val κ * (1 / (A.L (j 0).val (j 1).val * g (j 0).val (j 1).val * (A.L (j 0).val (j 1).val * g (j 0).val (j 1).val)))
          * (A.E (j 0).val (j 1).val κ * g (j 0).val (j 1).val) : ℝ) : EReal) := fun j hj => by
    rw [val_main_v50_apply, val_main_cst_11_apply]
    show Ideal.ofBits .f32 0x00000000#32 + _ = _
    rw [Ideal.ofBits_zero_f32, zero_add]
    exact sum_fin_coe _ (fun κ => A.dP (j 0).val (j 1).val κ * (1 / (A.L (j 0).val (j 1).val * g (j 0).val (j 1).val * (A.L (j 0).val (j 1).val * g (j 0).val (j 1).val)))
          * (A.E (j 0).val (j 1).val κ * g (j 0).val (j 1).val)) fun κ => by
      rw [val_main_v49_apply, val_main_v48_apply, v44_real H, h33, e47 _ hj, EReal.coe_mul, EReal.coe_mul]
      rfl
  have e52 : ∀ j : S16x2048x1.Idx, val_main_v52 (F := Ideal) x0 x1 x2 x3 x4 x5 j
      = ((-(∑ κ ∈ range 2048, A.dP (j 0).val (j 1).val κ * (1 / (A.L (j 0).val (j 1).val * g (j 0).val (j 1).val * (A.L (j 0).val (j 1).val * g (j 0).val (j 1).val)))
          * (A.E (j 0).val (j 1).val κ * g (j 0).val (j 1).val)) : ℝ) : EReal) := fun j => by
    have hj0 : (j 0).val < 16 := (j 0).isLt
    have hj1 : (j 1).val < 2048 := (j 1).isLt
    have hj2 : (j 2).val < 1 := (j 2).isLt
    have ej : idx_main_v51 j = (ix2 ⟨(j 0).val, hj0⟩ ⟨(j 1).val, hj1⟩ : S16x2048.Idx) := by
      funext a; apply Fin.ext
      match a with
      | ⟨0, _⟩ => show (((j 0).val * 2048 + (j 1).val) * 1 + (j 2).val) / 2048 = (j 0).val; omega
      | ⟨1, _⟩ => show (((j 0).val * 2048 + (j 1).val) * 1 + (j 2).val) % 2048 = (j 1).val; omega
    rw [val_main_v52_apply, val_main_v51_apply, ej, e50 _ hj1]
    exact (EReal.coe_neg _).symm
  have e57 : val_main_v57 (F := Ideal) x0 x1 x2 x3 x4 x5 i
      = ((A.dP (i 0).val (i 1).val (i 2).val / (A.L (i 0).val (i 1).val * g (i 0).val (i 1).val)
        + -(∑ κ ∈ range 2048, A.dP (i 0).val (i 1).val κ * (1 / (A.L (i 0).val (i 1).val * g (i 0).val (i 1).val * (A.L (i 0).val (i 1).val * g (i 0).val (i 1).val)))
          * (A.E (i 0).val (i 1).val κ * g (i 0).val (i 1).val)) : ℝ) : EReal) := by
    rw [val_main_v57_apply, val_main_v54_apply, val_main_v53_apply, val_main_v56_apply, val_main_v55_apply, val_main_cst_12_apply, v35_real h33,
      v44_real H, Fin.sum_univ_one, e52]
    show Ideal.div _ _ + (Ideal.ofBits .f32 0x00000000#32 + _) = _
    rw [Ideal.ofBits_zero_f32, zero_add, EReal.coe_add]
    congr 1
    exact div_coe_coe _ _ hL
  have e59 : val_main_v59 (F := Ideal) x0 x1 x2 x3 x4 x5 i = ((A.dS (i 0).val (i 1).val (i 2).val : ℝ) : EReal) := by
    rw [val_main_v59_apply, val_main_v58_apply, h33, e57, val_main_call1_v0_apply]
    show (if val_main_v12_1 (F := Ideal) i = 1#1 then (_ : EReal) * _ else _) = _
    by_cases h : (i 2).val ≤ (i 1).val
    · rw [if_pos ((mask_iff i).mpr h), ← EReal.coe_mul]
      exact congrArg _ (softmax_bwd A _ _ _ h1 _ (hg _ _))
    · rw [if_neg fun e => h ((mask_iff i).mp e), A.dS_of_lt (by omega)]
      exact Ideal.ofBits_zero_f32
  rw [val_main_v61_apply, e59, val_main_v60_apply, val_main_cst_13_apply]
  show _ * Ideal.ofBits .f32 0x3DD105EC#32 = _
  rw [ofBits_scale, ← H.sc, ← EReal.coe_mul]

/-- The gradient of the queries without position. -/
theorem v69_real : R3 (a := 2048) (b := 16) (c := 64) (val_main_v69 (F := Ideal) x0 x1 x2 x3 x4 x5) A.dqn := fun i => by
  rw [val_main_v69_apply]
  show val_main_v68 (F := Ideal) x0 x1 x2 x3 x4 x5 i = _
  rw [val_main_v68_apply, val_main_v67_apply]
  refine (sum_fin_coe _ (fun k => A.dS (i 1).val (i 0).val k * A.sc * A.kn k (i 1).val (i 2).val) fun k => by
    rw [v61_real H, H.kn, ← EReal.coe_mul]).trans ?_
  unfold Args.dqn
  rw [Finset.sum_mul]
  exact congrArg _ (Finset.sum_congr rfl fun _ _ => by ring)

/-- The gradient of the queries with position. -/
theorem v63_real : R3 (a := 2048) (b := 16) (c := 32) (val_main_v63 (F := Ideal) x0 x1 x2 x3 x4 x5) A.dqr := fun i => by
  rw [val_main_v63_apply]
  refine (sum_fin_coe _ (fun k => A.dS (i 1).val (i 0).val k * A.sc * A.kr k (i 2).val) fun k => by
    rw [val_main_v62_apply, v61_real H, H.kr, ← EReal.coe_mul]).trans ?_
  unfold Args.dqr
  rw [Finset.sum_mul]
  exact congrArg _ (Finset.sum_congr rfl fun _ _ => by ring)

/-- The gradient of the keys without position. -/
theorem v66_real : R3 (a := 2048) (b := 16) (c := 64) (val_main_v66 (F := Ideal) x0 x1 x2 x3 x4 x5) A.dkn := fun i => by
  rw [val_main_v66_apply, val_main_v65_apply]
  refine (sum_fin_coe _ (fun q => A.dS (i 1).val q (i 0).val * A.sc * A.qn q (i 1).val (i 2).val) fun k => by
    rw [v61_real H, H.qn, ← EReal.coe_mul]).trans ?_
  unfold Args.dkn
  exact congrArg _ (Finset.sum_congr rfl fun _ _ => by ring)

/-- The gradient of the values. -/
theorem v46_real : R3 (a := 2048) (b := 16) (c := 64) (val_main_v46 (F := Ideal) x0 x1 x2 x4 x5) A.dvv := fun i => by
  obtain ⟨g, hg, h33⟩ := v33_real H
  rw [val_main_v46_apply, val_main_v45_apply]
  exact sum_fin_coe _ (fun q => A.Pr (i 1).val q (i 0).val * A.ct q (i 1).val (i 2).val) fun k => by
    rw [val_main_v43_apply, H.ct, v37_real hg h33, mul_comm, EReal.coe_mul]

/-- The gradient of the keys with position: both the queries and the heads are summed. -/
theorem v64_real : R2 (a := 2048) (b := 32) (val_main_v64 (F := Ideal) x0 x1 x2 x3 x4 x5) A.dkr := fun i => by
  unfold val_main_v64
  simp only [Host.dotGeneral]
  rw [Ideal.dotGeneral_apply, ← Equiv.sum_comp (contrEquiv2 dot_S2048x2048x16_S2048x16x32_S2048x32_12_01_0_2_n_n 2048 16 rfl rfl rfl).symm,
    Fintype.sum_prod_type]
  have e : ∀ (q : Fin 2048) (h : Fin 16), val_main_v62 (F := Ideal) x0 x1 x2 x3 x4 x5
        (dot_S2048x2048x16_S2048x16x32_S2048x32_12_01_0_2_n_n.lhsIdx i ((contrEquiv2 dot_S2048x2048x16_S2048x16x32_S2048x32_12_01_0_2_n_n 2048 16 rfl rfl rfl).symm (q, h)))
      * x1 (dot_S2048x2048x16_S2048x16x32_S2048x32_12_01_0_2_n_n.rhsIdx i ((contrEquiv2 dot_S2048x2048x16_S2048x16x32_S2048x32_12_01_0_2_n_n 2048 16 rfl rfl rfl).symm (q, h)))
      = ((A.dS h.val q.val (i 0).val * (A.qr q.val h.val (i 1).val * A.sc) : ℝ) : EReal) := fun q h => by
    have k0 := contrEquiv2_symm_val0 dot_S2048x2048x16_S2048x16x32_S2048x32_12_01_0_2_n_n 2048 16 rfl rfl rfl (q, h)
    have k1 := contrEquiv2_symm_val1 dot_S2048x2048x16_S2048x16x32_S2048x32_12_01_0_2_n_n 2048 16 rfl rfl rfl (q, h)
    have el : dot_S2048x2048x16_S2048x16x32_S2048x32_12_01_0_2_n_n.lhsIdx i ((contrEquiv2 dot_S2048x2048x16_S2048x16x32_S2048x32_12_01_0_2_n_n 2048 16 rfl rfl rfl).symm (q, h))
        = (ix3 (i 0) q h : S2048x2048x16.Idx) := by
      funext a; apply Fin.ext
      match a with
      | ⟨0, _⟩ => rfl
      | ⟨1, _⟩ => exact k0
      | ⟨2, _⟩ => exact k1
    have er : dot_S2048x2048x16_S2048x16x32_S2048x32_12_01_0_2_n_n.rhsIdx i ((contrEquiv2 dot_S2048x2048x16_S2048x16x32_S2048x32_12_01_0_2_n_n 2048 16 rfl rfl rfl).symm (q, h))
        = (ix3 q h (i 1) : S2048x16x32.Idx) := by
      funext a; apply Fin.ext
      match a with
      | ⟨0, _⟩ => exact k0
      | ⟨1, _⟩ => exact k1
      | ⟨2, _⟩ => rfl
    rw [el, er, val_main_v62_apply, v61_real H, H.qr, ← EReal.coe_mul]
    exact congrArg _ (by show A.dS h.val q.val (i 0).val * A.sc * A.qr q.val h.val (i 1).val = _; ring)
  refine (Finset.sum_congr rfl fun q _ => (Finset.sum_congr rfl fun h _ => e q h)).trans ?_
  refine (Finset.sum_congr rfl fun q _ => sum_fin_coe _ (fun h => A.dS h q.val (i 0).val * (A.qr q.val h (i 1).val * A.sc)) fun h => rfl).trans ?_
  refine (sum_fin_coe _ (fun q => ∑ h ∈ range 16, A.dS h q (i 0).val * (A.qr q h (i 1).val * A.sc)) fun q => rfl).trans ?_
  unfold Args.dkr Args.dkr1
  rw [Finset.sum_comm]

end

end Cert.ReferenceIdeal.Hand

end
-- ==== Proof.HostIn.lean ====
/- What the arrays hold that the region reads: the arguments laid side by side, and the attention output. -/
module

public import proofs.«01_k».proof.Proof.Blocks
public import proofs.«01_k».proof.Proof.RefValue

@[expose] public section

set_option maxRecDepth 16384

noncomputable section

namespace Cert.Attn

open Idealize.ShloMosaic Idealize.ShloMosaic.ValueIdx

/-- Merging the last two axes: column `k` of the result is entry `(k / c, k % c)`. -/
theorem R3.flat {a b c n : ℕ} {X : (⟨3, ![a, b, c]⟩ : Shape).Idx → EReal} {f : ℕ → ℕ → ℕ → ℝ} (hX : R3 X f)
    (h : (⟨3, ![a, b, c]⟩ : Shape).ShapeCasts (M a n)) (hn : n = b * c) (hc : 0 < c) :
    IsR (a := a) (c := n) (φ := .f32) (shapeCast (M a n) X h) (fun r k => f r (k / c) (k % c)) := fun r k => by
  have hk := k.isLt
  refine (shapeCast_apply X h (ix2 r k) (ix3 r (⟨k.val / c, Nat.div_lt_of_lt_mul (by rw [Nat.mul_comm, ← hn]; exact hk)⟩ : Fin b)
    (⟨k.val % c, Nat.mod_lt _ hc⟩ : Fin c)) ?_).trans (hX _)
  rw [Shape.rowMajor_val_two, Shape.rowMajor_val_three]
  show (r.val * b + k.val / c) * c + k.val % c = r.val * n + k.val
  rw [Nat.add_mul, Nat.mul_assoc, Nat.add_assoc, Nat.div_add_mod', ← hn]

/-- Splitting the last axis: entry `(h, d)` of the result is column `h * c + d`. -/
theorem IsR.unflat {a b c n : ℕ} {φ : FTy} {X : FVec Ideal (M a n) φ} {f : ℕ → ℕ → ℕ → ℝ}
    (hX : IsR X (fun r k => f r (k / c) (k % c))) (h : (M a n).ShapeCasts ⟨3, ![a, b, c]⟩) (hn : n = b * c) :
    R3 (a := a) (b := b) (c := c) (shapeCast ⟨3, ![a, b, c]⟩ X h) f := fun i => by
  have h1 := lt1 i
  have h2 := lt2 i
  have hc : 0 < c := lt_of_le_of_lt (Nat.zero_le _) h2
  have hk : (i 1).val * c + (i 2).val < n := by
    rw [hn]
    calc (i 1).val * c + (i 2).val < (i 1).val * c + c := Nat.add_lt_add_left h2 _
      _ = ((i 1).val + 1) * c := by rw [Nat.add_mul, Nat.one_mul]
      _ ≤ b * c := Nat.mul_le_mul_right _ h1
  refine (shapeCast_apply X h i (ix2 (⟨(i 0).val, lt0 i⟩ : Fin a) (⟨(i 1).val * c + (i 2).val, hk⟩ : Fin n)) ?_).trans ((hX _ _).trans ?_)
  · rw [Shape.rowMajor_val_two, Shape.rowMajor_val_three]
    show (i 0).val * n + ((i 1).val * c + (i 2).val) = ((i 0).val * b + (i 1).val) * c + (i 2).val
    rw [hn, Nat.add_mul, Nat.mul_assoc, Nat.add_assoc]
  · show ((f (i 0).val (((i 1).val * c + (i 2).val) / c) (((i 1).val * c + (i 2).val) % c) : ℝ) : EReal) = _
    rw [Nat.mul_comm, Nat.mul_add_div hc, Nat.mul_add_mod, Nat.div_eq_of_lt h2, Nat.mod_eq_of_lt h2, Nat.add_zero]

end Cert.Attn

namespace Cert.KernelIdeal.Hand

open Idealize.ShloMosaic Idealize.ShloMosaic.ValueIdx Idealize.ShloMosaic.TcCoe Cert.Attn Cert.ReferenceIdeal.Hand Cert.KernelIdeal Cert.KernelIdeal.Gen Idealize.SL.Sem

variable (m : (ℓ : Loc nD τ sig) → Buf (Elt Ideal) ℓ) (c : Dev nD)

/-- The attention output, flattened: the reference's own forward operations. -/
theorem V_v26 : V m c main_v26 = shapeCast S2048x1024 (Cert.ReferenceIdeal.Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    shapeCasts_S2048x16x64_S2048x1024 := by
  show StableHlo.after (hostOps0 ++ (hostOps0_1 ++ (hostOps0_2 ++ []))) (fun b => m (c, b)) (Proc.tc.devRef main_v26) = _
  rw [StableHlo.after_append, StableHlo.after_append, List.append_nil]
  generalize hσ : StableHlo.after hostOps0_1 (StableHlo.after hostOps0 fun b => m (c, b)) = σ
  have h12 : σ (Proc.tc.devRef main_v12) = Cert.ReferenceIdeal.Read.val_main_v12_0 (F := Ideal) (m ((c.tc : Thread nD τ).loc main_arg0)) (m ((c.tc : Thread nD τ).loc main_arg1)) (m ((c.tc : Thread nD τ).loc main_arg2)) (m ((c.tc : Thread nD τ).loc main_arg4)) := by
    subst hσ
    rfl
  have h3 : σ (Proc.tc.devRef main_arg3) = m ((c.tc : Thread nD τ).loc main_arg3) := by
    subst hσ
    rfl
  clear hσ
  simp only [hostOps0_2]
  after_results_simp
  rw [h12, h3]
  rfl

theorem V_v29 : V m c main_v29 = concatenate S2048x1536 1 [⟨S2048x1024, shapeCast S2048x1024 (m ((c.tc : Thread nD τ).loc main_arg0)) shapeCasts_S2048x16x64_S2048x1024⟩,
    ⟨S2048x512, shapeCast S2048x512 (m ((c.tc : Thread nD τ).loc main_arg1)) shapeCasts_S2048x16x32_S2048x512⟩] concatenates_S2048x1024_S2048x512_S2048x1536_d1 := by
  entry_read
  rfl

theorem V_v32 : V m c main_v32 = concatenate S2048x2048 1 [⟨S2048x1024, shapeCast S2048x1024 (m ((c.tc : Thread nD τ).loc main_arg2)) shapeCasts_S2048x16x64_S2048x1024⟩,
    ⟨S2048x1024, shapeCast S2048x1024 (m ((c.tc : Thread nD τ).loc main_arg3)) shapeCasts_S2048x16x64_S2048x1024⟩] concatenates_S2048x1024_S2048x1024_S2048x2048_d1 := by
  entry_read
  rfl

theorem V_v33 : V m c main_v33 = shapeCast S2048x512 (m ((c.tc : Thread nD τ).loc main_arg1)) shapeCasts_S2048x16x32_S2048x512 := by
  entry_read
  rfl

theorem V_v36 : V m c main_v36 = shapeCast S2048x128 (broadcastInDim S1x2048x4x32 ![0, 1, 2, 3] bcast_S1x2048x1x32_S1x2048x4x32_0_1_2_3
    (shapeCast S1x2048x1x32 (m ((c.tc : Thread nD τ).loc main_arg4)) shapeCasts_S2048x32_S1x2048x1x32)) shapeCasts_S1x2048x4x32_S2048x128 := by
  entry_read
  rfl

theorem V_v37 : V m c main_v37 = shapeCast S2048x1024 (m ((c.tc : Thread nD τ).loc main_arg5)) shapeCasts_S2048x16x64_S2048x1024 := by
  entry_read
  rfl

variable {m c} {A : Args} (H : Holds6 A (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
include H

/-- What the region reads, in terms of the arguments' real entries. -/
theorem ins : Ins m A c where
  sc := H.sc
  q := by
    rw [V_v29]
    refine (IsR.cat (R3.flat H.qn _ rfl (by decide)) (R3.flat H.qr _ rfl (by decide)) _).congr fun r _ k _ => rfl
  qr := by
    rw [V_v33]
    exact R3.flat H.qr _ rfl (by decide)
  kv := by
    rw [V_v32]
    refine (IsR.cat (R3.flat H.kn _ rfl (by decide)) (R3.flat H.vv _ rfl (by decide)) _).congr fun r _ k _ => rfl
  kr := by
    rw [V_v36]
    intro r k
    have hk := k.isLt
    refine (shapeCast_apply _ _ (ix2 r k) (ix4 (0 : Fin 1) r (⟨k.val / 32, by omega⟩ : Fin 4) (⟨k.val % 32, by omega⟩ : Fin 32)) ?_).trans ?_
    · rw [Shape.rowMajor_val_two, Shape.rowMajor_val_four]
      show ((0 * 2048 + r.val) * 4 + k.val / 32) * 32 + k.val % 32 = r.val * 128 + k.val
      omega
    refine (broadcastInDim_apply _ _ _ _ (ix4 (0 : Fin 1) r (0 : Fin 1) (⟨k.val % 32, by omega⟩ : Fin 32)) ?_).trans ?_
    · intro a
      match a with
      | ⟨0, _⟩ => rfl
      | ⟨1, _⟩ => rfl
      | ⟨2, _⟩ => rfl
      | ⟨3, _⟩ => rfl
    refine (shapeCast_apply _ _ _ (ix2 r (⟨k.val % 32, by omega⟩ : Fin 32)) ?_).trans (H.kr _)
    rw [Shape.rowMajor_val_two, Shape.rowMajor_val_four]
    show r.val * 32 + k.val % 32 = ((0 * 2048 + r.val) * 1 + 0) * 32 + k.val % 32
    omega
  o := by
    rw [V_v26]
    exact R3.flat (v42_real H) _ rfl (by decide)
  d := by
    rw [V_v37]
    exact R3.flat H.ct _ rfl (by decide)

end Cert.KernelIdeal.Hand

end
-- ==== Proof.Results.lean ====
/- What the kernel program's five results hold: the host operations after the region, read over the region's arrays. -/
module

public import proofs.«01_k».proof.Proof.Arrays
public import proofs.«01_k».proof.Proof.HostIn

@[expose] public section

set_option maxRecDepth 16384

noncomputable section

namespace Cert.Attn

open Finset

/-- Each head's part of the position key's gradient lies in exactly one slot and one lane group. -/
theorem slots_sum (f : ℕ → ℝ) :
    ∑ a ∈ range 8, ∑ g ∈ range 4, (if g / 2 = a % 2 then f (4 * (a / 2) + g) else 0) = ∑ h ∈ range 16, f h := by
  simp only [Finset.sum_range_succ, Finset.sum_range_zero]
  norm_num
  ring

end Cert.Attn

namespace Cert.KernelIdeal.Hand

open Idealize.ShloMosaic Idealize.ShloMosaic.ValueIdx Idealize.ShloMosaic.TcCoe Cert.Attn Cert.KernelIdeal Cert.KernelIdeal.Gen Idealize.SL.Sem

variable (m : (ℓ : Loc nD τ sig) → Buf (Elt Ideal) ℓ) (A : Args) (c : Dev nD) (hI : Ins m A c)

/-- The contents every buffer has when the region ends. -/
def W : Valuation τ sig (Elt Ideal) :=
  Pipeline.withArrays (cfgs 0).spec c (V0 m c) fun w => (dats m 0 c).arrAt w (cfgs 0).N

theorem W_arr (w : Fin cfg0.W) : W m c (Proc.devRef .tc (Pipeline.arrRef spec0 w)) = (dats m 0 c).arrAt w cfg0.N :=
  Pipeline.withArrays_arr_shared (cfgs 0).spec c (V0 m c) _
    (Pipeline.Dat.arrAt_sharedIn (dats m 0 c) sharedIn0 (V0 m c) (A_eq m c) cfg0.N) w

/-- A buffer when the program ends. -/
abbrev fin (b : Ref sig .tc) : Buf (Elt Ideal) ((c.tc : Thread nD τ).loc b) :=
  Pipeline.afterTail₀ cfgs (dats m) 0 (V0 m) [hostOps1] c b

theorem fin_eq (b : Ref sig .tc) : fin m c b = StableHlo.after hostOps1 (W m c) (Proc.devRef .tc b) := by
  show StableHlo.after (hostOps1 ++ []) (W m c) (Proc.devRef .tc b) = _
  rw [List.append_nil]

include hI

theorem fin39 : R3 (a := 2048) (b := 16) (c := 64) (fin m c main_v39) A.dqn := by
  have h : fin m c main_v39 = shapeCast S2048x16x64 (W m c (Proc.devRef .tc main_v38_0)) shapeCasts_S2048x1024_S2048x16x64 := by
    rw [fin_eq]; generalize W m c = σ; simp only [hostOps1]; after_results_simp; rfl
  rw [h]
  have hX : IsR (a := 2048) (c := 1024) (φ := .bf16) (W m c (Proc.devRef .tc main_v38_0)) (fun r k => A.dqn r (k / 64) (k % 64)) := fun r k =>
    (congrFun (W_arr m c 7) (ix2 r k : S2048x1024.Idx)).trans (array7 m A c hI r k)
  exact hX.unflat _ rfl

theorem fin46 : R3 (a := 2048) (b := 16) (c := 64) (fin m c main_v46) A.dkn := by
  have h : fin m c main_v46 = shapeCast S2048x16x64 (W m c (Proc.devRef .tc main_v38_2)) shapeCasts_S2048x1024_S2048x16x64 := by
    rw [fin_eq]; generalize W m c = σ; simp only [hostOps1]; after_results_simp; rfl
  rw [h]
  have hX : IsR (a := 2048) (c := 1024) (φ := .f32) (W m c (Proc.devRef .tc main_v38_2)) (fun r k => A.dkn r (k / 64) (k % 64)) := fun r k =>
    (congrFun (W_arr m c 9) (ix2 r k : S2048x1024.Idx)).trans (array9 m A c hI r k)
  exact hX.unflat _ rfl

theorem fin47 : R3 (a := 2048) (b := 16) (c := 64) (fin m c main_v47) A.dvv := by
  have h : fin m c main_v47 = shapeCast S2048x16x64 (W m c (Proc.devRef .tc main_v38_3)) shapeCasts_S2048x1024_S2048x16x64 := by
    rw [fin_eq]; generalize W m c = σ; simp only [hostOps1]; after_results_simp; rfl
  rw [h]
  have hX : IsR (a := 2048) (c := 1024) (φ := .f32) (W m c (Proc.devRef .tc main_v38_3)) (fun r k => A.dvv r (k / 64) (k % 64)) := fun r k =>
    (congrFun (W_arr m c 10) (ix2 r k : S2048x1024.Idx)).trans (array10 m A c hI r k)
  exact hX.unflat _ rfl

/-- One slot of the position query's gradient. -/
theorem slot8 (a : Fin 2) (h : S2x2048x512.Slices ![a.val, 0, 0] S1x2048x512) :
    IsR (a := 2048) (c := 512) (φ := .f32) (shapeCast S2048x512 (extractStridedSlice S1x2048x512 ![a.val, 0, 0] (W m c (Proc.devRef .tc main_v38_1)) h)
      shapeCasts_S1x2048x512_S2048x512) (fun r k => if k / 64 % 2 = a.val then A.dqr r (k / 32) (k % 32) else 0) := fun r k => by
  refine (shapeCast_apply _ _ (ix2 r k) (ix3 (0 : Fin 1) r k) ?_).trans ?_
  · rw [Shape.rowMajor_val_two, Shape.rowMajor_val_three]
    show (0 * 2048 + r.val) * 512 + k.val = r.val * 512 + k.val
    omega
  refine (extractStridedSlice_apply _ _ h (ix3 (0 : Fin 1) r k) (ix3 a r k) fun b => ?_).trans
    ((congrFun (W_arr m c 8) (ix3 a r k : S2x2048x512.Idx)).trans (array8 m A c hI a r k))
  match b with
  | ⟨0, _⟩ => show a.val = a.val + 0; omega
  | ⟨1, _⟩ => show r.val = 0 + r.val; omega
  | ⟨2, _⟩ => show k.val = 0 + k.val; omega

theorem fin45 : R3 (a := 2048) (b := 16) (c := 32) (fin m c main_v45) A.dqr := by
  have h : fin m c main_v45 = (shapeCast S2048x16x32 (addf (F := Ideal) (φ := .f32)
      (shapeCast S2048x512 (extractStridedSlice S1x2048x512 ![0, 0, 0] (W m c (Proc.devRef .tc main_v38_1) : FVec Ideal S2x2048x512 .f32) slices_S2x2048x512_S1x2048x512_0_0_0) shapeCasts_S1x2048x512_S2048x512)
      (shapeCast S2048x512 (extractStridedSlice S1x2048x512 ![1, 0, 0] (W m c (Proc.devRef .tc main_v38_1) : FVec Ideal S2x2048x512 .f32) slices_S2x2048x512_S1x2048x512_1_0_0) shapeCasts_S1x2048x512_S2048x512))
      shapeCasts_S2048x512_S2048x16x32 : FVec Ideal S2048x16x32 .f32) := by
    rw [fin_eq]; generalize W m c = σ; simp only [hostOps1]; after_results_simp; rfl
  rw [h]
  have hX := (slot8 m A c hI 0 slices_S2x2048x512_S1x2048x512_0_0_0).add (slot8 m A c hI 1 slices_S2x2048x512_S1x2048x512_1_0_0)
  refine IsR.unflat (hX.congr fun r _ k _ => ?_) _ rfl
  show (if k / 64 % 2 = 0 then A.dqr r (k / 32) (k % 32) else 0) + (if k / 64 % 2 = 1 then A.dqr r (k / 32) (k % 32) else 0) = _
  rcases Nat.mod_two_eq_zero_or_one (k / 64) with e | e <;> rw [e] <;> simp

theorem fin49 : R2 (a := 2048) (b := 32) (fin m c main_v49) A.dkr := by
  have h : fin m c main_v49 = (Host.reduceAdd (F := Ideal) (φ := .f32) (shapeCast S8x2048x4x32 (W m c (Proc.devRef .tc main_v38_4) : FVec Ideal S8x2048x128 .f32) shapeCasts_S8x2048x128_S8x2048x4x32)
      (constant S_ .f32 0x00000000#32) reducesTo_S8x2048x4x32_S2048x32_d0_2 h_S_ : FVec Ideal S2048x32 .f32) := by
    rw [fin_eq]; generalize W m c = σ; simp only [hostOps1]; after_results_simp; rfl
  rw [h]
  have hX : ∀ (a : Fin 8) (r : Fin 2048) (g : Fin 4) (d : Fin 32), shapeCast S8x2048x4x32 (W m c (Proc.devRef .tc main_v38_4) : FVec Ideal S8x2048x128 .f32) shapeCasts_S8x2048x128_S8x2048x4x32
      (ix4 a r g d : S8x2048x4x32.Idx) = ((if g.val / 2 = a.val % 2 then A.dkr1 (4 * (a.val / 2) + g.val) r.val d.val else 0 : ℝ) : EReal) := fun a r g d => by
    have hg := g.isLt
    have hd := d.isLt
    refine (shapeCast_apply _ _ (ix4 a r g d) (ix3 a r (⟨32 * g.val + d.val, by omega⟩ : Fin 128)) ?_).trans
      ((congrFun (W_arr m c 11) (ix3 a r (⟨32 * g.val + d.val, by omega⟩ : Fin 128) : S8x2048x128.Idx)).trans ((array11 m A c hI a r _).trans ?_))
    · rw [Shape.rowMajor_val_three, Shape.rowMajor_val_four]
      show (a.val * 2048 + r.val) * 128 + (32 * g.val + d.val) = ((a.val * 2048 + r.val) * 4 + g.val) * 32 + d.val
      omega
    · show ((if (32 * g.val + d.val) / 64 = a.val % 2 then A.dkr1 (4 * (a.val / 2) + (32 * g.val + d.val) / 32) r.val ((32 * g.val + d.val) % 32) else 0 : ℝ) : EReal) = _
      rw [(by omega : (32 * g.val + d.val) / 64 = g.val / 2), (by omega : (32 * g.val + d.val) / 32 = g.val), (by omega : (32 * g.val + d.val) % 32 = d.val)]
  generalize (shapeCast S8x2048x4x32 (W m c (Proc.devRef .tc main_v38_4) : FVec Ideal S8x2048x128 .f32) shapeCasts_S8x2048x128_S8x2048x4x32 : FVec Ideal S8x2048x4x32 .f32) = X at hX ⊢
  intro j
  show Ideal.hostReduceAdd reducesTo_S8x2048x4x32_S2048x32_d0_2 X (Ideal.ofBits .f32 0x00000000#32) j = _
  unfold Ideal.hostReduceAdd
  rw [Ideal.ofBits_zero_f32, zero_add]
  have hs : ∑ i ∈ Finset.univ.filter (fun i => reducesTo_S8x2048x4x32_S2048x32_d0_2.drop i = j), X i
      = ∑ p : Fin 8 × Fin 4, X (ix4 p.1 (j 0) p.2 (j 1)) := by
    refine (Finset.sum_bij (fun p _ => (ix4 p.1 (j 0) p.2 (j 1) : S8x2048x4x32.Idx)) (fun p _ => ?_) (fun p _ q _ e => ?_) (fun i hi => ?_) (fun p _ => rfl)).symm
    · refine Finset.mem_filter.mpr ⟨Finset.mem_univ _, funext fun b => ?_⟩
      match b with
      | ⟨0, _⟩ => rfl
      | ⟨1, _⟩ => rfl
    · exact Prod.ext (congrFun e 0) (congrFun e 2)
    · have hi := (Finset.mem_filter.mp hi).2
      refine ⟨(i 0, i 2), Finset.mem_univ _, funext fun b => ?_⟩
      match b with
      | ⟨0, _⟩ => rfl
      | ⟨1, _⟩ => rw [← hi]; rfl
      | ⟨2, _⟩ => rfl
      | ⟨3, _⟩ => rw [← hi]; rfl
  rw [hs, Fintype.sum_prod_type]
  refine (sum_fin_coe _ (fun a => ∑ g ∈ Finset.range 4, if g / 2 = a % 2 then A.dkr1 (4 * (a / 2) + g) (j 0).val (j 1).val else 0) fun a => ?_).trans ?_
  · exact sum_fin_coe _ (fun g => if g / 2 = a.val % 2 then A.dkr1 (4 * (a.val / 2) + g) (j 0).val (j 1).val else 0) fun g => hX a (j 0) g (j 1)
  · rw [slots_sum fun h => A.dkr1 h (j 0).val (j 1).val]
    rfl

end Cert.KernelIdeal.Hand

end
-- ==== Proof.Finite.lean ====
/- The precondition read off: every entry of every argument is a real number. -/
module

public import proofs.«01_k».proof.Defs
public import proofs.«01_k».proof.Proof.Gen.Pre_finite
public import proofs.«01_k».proof.Proof.HostIn
public import Idealize.ShloMosaic.Lib.ReduceAll

@[expose] public section

set_option maxRecDepth 16384

noncomputable section

namespace Cert.Attn

open Idealize.ShloMosaic Idealize.ShloMosaic.ValueIdx Cert.Pre_finite Cert.Pre_finite.Facts

theorem ofBits_inf : Ideal.ofBits .f32 0x7F800000#32 = ⊤ := by simp [Ideal.ofBits, Ideal.ieee]

/-- An extended real whose absolute value is below infinity is a real number. -/
theorem real_of_abs_lt (x : EReal) (h : BitVec.ofBool (decide (max x (-x) < ⊤)) = 1#1) : x = ((x.toReal : ℝ) : EReal) := by
  have hlt : max x (-x) < ⊤ := by
    by_contra hn
    rw [decide_eq_false hn] at h
    exact absurd h (by decide)
  refine (EReal.coe_toReal ?_ ?_).symm
  · rintro rfl
    simp at hlt
  · rintro rfl
    simp at hlt

/-- One argument's part of the precondition. -/
theorem real_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) h hu j = 1#1) (i : s.Idx) :
    x i = (((x i).toReal : ℝ) : EReal) := by
  haveI : Subsingleton S_.Idx := ⟨fun a b => funext fun k => k.elim0⟩
  have e1 := Host.reduce_andi_all _ _ h hu j e i
  refine real_of_abs_lt _ ?_
  rw [← ofBits_inf]
  exact e1

theorem andi_one (a b : BitVec 1) (h : a &&& b = 1#1) : a = 1#1 ∧ b = 1#1 := by revert a b; decide

/-- The precondition says that every entry of the six arguments is a real number. -/
theorem finite_args [Facts] (x0 : FVec Ideal S2048x16x64 .f32) (x1 : FVec Ideal S2048x16x32 .f32) (x2 x3 : FVec Ideal S2048x16x64 .f32)
    (x4 : FVec Ideal S2048x32 .f32) (x5 : FVec Ideal S2048x16x64 .f32) (h : fn (F := Ideal) x0 x1 x2 x3 x4 x5 = fun _ => 1#1) :
    (∀ i, x0 i = (((x0 i).toReal : ℝ) : EReal)) ∧ (∀ i, x1 i = (((x1 i).toReal : ℝ) : EReal)) ∧ (∀ i, x2 i = (((x2 i).toReal : ℝ) : EReal))
      ∧ (∀ i, x3 i = (((x3 i).toReal : ℝ) : EReal)) ∧ (∀ i, x4 i = (((x4 i).toReal : ℝ) : EReal)) ∧ (∀ i, x5 i = (((x5 i).toReal : ℝ) : EReal)) := by
  have e := congrFun h (fun k => k.elim0)
  obtain ⟨e, h5⟩ := andi_one _ _ e
  obtain ⟨e, h4⟩ := andi_one _ _ e
  obtain ⟨e, h3⟩ := andi_one _ _ e
  obtain ⟨e, h2⟩ := andi_one _ _ e
  obtain ⟨h0, h1⟩ := andi_one _ _ e
  exact ⟨real_of_all _ _ _ _ _ h0, real_of_all _ _ _ _ _ h1, real_of_all _ _ _ _ _ h2, real_of_all _ _ _ _ _ h3, real_of_all _ _ _ _ _ h4, real_of_all _ _ _ _ _ h5⟩

/-- A three-axis array's entries by natural numbers, zero outside. -/
def entry3 {a b c : ℕ} (X : (⟨3, ![a, b, c]⟩ : Shape).Idx → EReal) (i j k : ℕ) : ℝ :=
  if h : i < a ∧ j < b ∧ k < c then (X (ix3 ⟨i, h.1⟩ ⟨j, h.2.1⟩ ⟨k, h.2.2⟩)).toReal else 0

/-- A two-axis array's likewise. -/
def entry2 {a b : ℕ} (X : (⟨2, ![a, b]⟩ : Shape).Idx → EReal) (i j : ℕ) : ℝ :=
  if h : i < a ∧ j < b then (X (ix2 ⟨i, h.1⟩ ⟨j, h.2⟩)).toReal else 0

theorem entry3_R3 {a b c : ℕ} (X : (⟨3, ![a, b, c]⟩ : Shape).Idx → EReal) (h : ∀ i, X i = (((X i).toReal : ℝ) : EReal)) : R3 X (entry3 X) := fun i => by
  rw [entry3, dif_pos ⟨lt0 i, lt1 i, lt2 i⟩, ← h]
  congr 1
  funext k
  match k with
  | ⟨0, _⟩ => rfl
  | ⟨1, _⟩ => rfl
  | ⟨2, _⟩ => rfl

theorem entry2_R2 {a b : ℕ} (X : (⟨2, ![a, b]⟩ : Shape).Idx → EReal) (h : ∀ i, X i = (((X i).toReal : ℝ) : EReal)) : R2 X (entry2 X) := fun i => by
  have h0 : (i 0).val < a := (i 0).isLt
  have h1 : (i 1).val < b := (i 1).isLt
  rw [entry2, dif_pos ⟨h0, h1⟩, ← h]
  congr 1
  funext k
  match k with
  | ⟨0, _⟩ => rfl
  | ⟨1, _⟩ => rfl

/-- The real numbers the six arguments hold. -/
def argsOf (x0 : FVec Ideal S2048x16x64 .f32) (x1 : FVec Ideal S2048x16x32 .f32) (x2 x3 : FVec Ideal S2048x16x64 .f32)
    (x4 : FVec Ideal S2048x32 .f32) (x5 : FVec Ideal S2048x16x64 .f32) : Args :=
  ⟨entry3 x0, entry3 x1, entry3 x2, entry3 x3, entry2 x4, entry3 x5, scale⟩

/-- Under the precondition the arguments hold real numbers. -/
theorem holds_of_finite [Facts] (x0 : FVec Ideal S2048x16x64 .f32) (x1 : FVec Ideal S2048x16x32 .f32) (x2 x3 : FVec Ideal S2048x16x64 .f32)
    (x4 : FVec Ideal S2048x32 .f32) (x5 : FVec Ideal S2048x16x64 .f32) (h : fn (F := Ideal) x0 x1 x2 x3 x4 x5 = fun _ => 1#1) :
    Cert.ReferenceIdeal.Hand.Holds6 (argsOf x0 x1 x2 x3 x4 x5) x0 x1 x2 x3 x4 x5 := by
  obtain ⟨h0, h1, h2, h3, h4, h5⟩ := finite_args x0 x1 x2 x3 x4 x5 h
  exact ⟨rfl, entry3_R3 x0 h0, entry3_R3 x1 h1, entry3_R3 x2 h2, entry3_R3 x3 h3, entry2_R2 x4 h4, entry3_R3 x5 h5⟩

end Cert.Attn

end
-- ==== Proof.FfnLaunch.lean ====
/- The whole run of the nine regions: what every buffer holds at the end. -/
module

public import proofs.«01_k».proof.Proof.Gen.Kernel2Ideal.Frame

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of @main ends with the buffers at the last boundary's contents. -/
theorem run_all : θ_run defs (onTc (τ := τ) (main (F := F))) ⟨m, fun _ => 0, ρ⟩ (fun r => ∀ c : Dev nD, ∀ b ∈ Pipeline.ucRefs τ sig,
      r.2.mem (((c : Thread nD τ)).1, b) = W12 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => h)

end Cert.Kernel2Ideal.Hand

end
-- ==== Proof.FfnMath.lean ====
/- The gated feed-forward block and its derivative over the reals, with natural-number indices; the sigmoid on matrices that hold
   reals. No program is named here. -/
module

public import proofs.«01_k».proof.Proof.Tile

@[expose] public section

noncomputable section

namespace Cert.Attn

open Idealize.ShloMosaic Idealize.ShloMosaic.ValueIdx Finset

/-- The logistic function. -/
def sgm (x : ℝ) : ℝ := 1 / (1 + Real.exp (-x))

/-- The block's operands: the input, the three weights, the cotangent, and the factor of the direct path. -/
structure Ffn where
  (H Wg Wu Wd C : ℕ → ℕ → ℝ)
  al : ℝ

namespace Ffn

variable (A : Ffn)

/-- The gate before the logistic function. -/
def G (r f : ℕ) : ℝ := ∑ l ∈ range 1024, A.H r l * A.Wg l f
/-- The other factor. -/
def U (r f : ℕ) : ℝ := ∑ l ∈ range 1024, A.H r l * A.Wu l f
/-- The gated product. -/
def Act (r f : ℕ) : ℝ := A.G r f * sgm (A.G r f) * A.U r f
/-- The block's output without the direct path, -/
def F (r k : ℕ) : ℝ := ∑ l ∈ range 2816, A.Act r l * A.Wd l k
/-- and with it. -/
def Out (r k : ℕ) : ℝ := A.al * A.H r k + A.F r k
/-- The derivative of the gated product. -/
def D (r f : ℕ) : ℝ := ∑ l ∈ range 1024, A.C r l * A.Wd f l
/-- The derivative of the gate, -/
def dG (r f : ℕ) : ℝ := A.D r f * A.U r f * (sgm (A.G r f) * (1 + A.G r f * (1 - sgm (A.G r f))))
/-- of the other factor, -/
def dU (r f : ℕ) : ℝ := A.D r f * (A.G r f * sgm (A.G r f))
/-- of the input, -/
def dH (r k : ℕ) : ℝ := (∑ l ∈ range 2816, A.dU r l * A.Wu k l) + ((∑ l ∈ range 2816, A.dG r l * A.Wg k l) + A.al * A.C r k)
/-- and of the three weights, the first two transposed. -/
def gGate (f k : ℕ) : ℝ := ∑ l ∈ range 2048, A.dG l f * A.H l k
def gUp (f k : ℕ) : ℝ := ∑ l ∈ range 2048, A.dU l f * A.H l k
def gDown (f k : ℕ) : ℝ := ∑ l ∈ range 2048, A.Act l f * A.C l k

end Ffn

/-- The whole-shape offsets are zero. -/
theorem zz : (![0, 0] : Fin 2 → ℕ) = fun _ => 0 := by
  funext a
  match a with
  | ⟨0, _⟩ => rfl
  | ⟨1, _⟩ => rfl

section

variable {a c : ℕ} {φ ψ : FTy}

theorem exp_coe' (x : ℝ) : Ideal.exp (x : EReal) = ((Real.exp x : ℝ) : EReal) := by
  rfl

theorem one_add_exp_ne (x : ℝ) : 1 + Real.exp x ≠ 0 := (add_pos one_pos (Real.exp_pos x)).ne'

/-- Widening a matrix keeps its reals. -/
theorem IsR.ext {X : FVec Ideal (M a c) φ} {f : ℕ → ℕ → ℝ} (hX : IsR X f) (h : φ.bits < ψ.bits) : IsR (extf ψ X h) f := hX

/-- One splatted. -/
theorem IsR.one : IsR (φ := .f32) (broadcast (M a c) (Scalar.ofBits (F := Ideal) .f32 0x3F800000#32)) (fun _ _ => 1) :=
  IsR.splat ofBits_one

/-- Zero splatted. -/
theorem IsR.zero : IsR (φ := .f32) (broadcast (M a c) (Scalar.ofBits (F := Ideal) .f32 0x00000000#32)) (fun _ _ => 0) :=
  IsR.splat (Ideal.ofBits_zero_f32.trans EReal.coe_zero.symm)

/-- The logistic function of a matrix, as a body writes it. -/
theorem IsR.sig {X : FVec Ideal (M a c) .f32} {f : ℕ → ℕ → ℝ} (hX : IsR X f) :
    IsR (divf (broadcast (M a c) (Scalar.ofBits (F := Ideal) .f32 0x3F800000#32))
      (addf (broadcast (M a c) (Scalar.ofBits (F := Ideal) .f32 0x3F800000#32))
        (exp (subf (broadcast (M a c) (Scalar.ofBits (F := Ideal) .f32 0x00000000#32)) X)))) (fun r k => sgm (f r k)) := fun r k => by
  show Ideal.div (Ideal.ofBits .f32 0x3F800000#32) (Ideal.ofBits .f32 0x3F800000#32 + Ideal.exp (Ideal.ofBits .f32 0x00000000#32 - X (ix2 r k))) = _
  rw [hX r k, Ideal.ofBits_zero_f32, zero_sub, ← EReal.coe_neg, exp_coe', ofBits_one, ← EReal.coe_add]
  exact div_coe_coe _ _ (one_add_exp_ne _)

end

end Cert.Attn

end
-- ==== Proof.FfnHolds.lean ====
/- The five arguments of the feed-forward block at the reals. -/
module

public import proofs.«01_k».proof.Proof.FfnMath
public import proofs.«01_k».proof.Proof.RefValue

@[expose] public section

noncomputable section

namespace Cert.Attn

open Idealize.ShloMosaic Idealize.ShloMosaic.ValueIdx

/-- The factor of the direct path. -/
def alv : ℝ := (Ideal.ofBits .f32 0x3F9837F0#32).toReal

theorem ofBits_al : Ideal.ofBits .f32 0x3F9837F0#32 = ((alv : ℝ) : EReal) := by
  refine (EReal.coe_toReal ?_ ?_).symm <;> simp [Ideal.ofBits, Ideal.ieee, -EReal.coe_mul]

section

variable {a c : ℕ} {φ : FTy} {f : ℕ → ℕ → ℝ}

/-- The same array in the matrices' words, -/
theorem R2.isR {X : (M a c).Idx → EReal} (h : R2 X f) : IsR (φ := φ) X f := fun r k => h (ix2 r k)

/-- and back. -/
theorem IsR.r2 {X : FVec Ideal (M a c) φ} (h : IsR X f) : R2 (a := a) (b := c) X f := fun i => by
  refine (congrArg X (funext fun x => ?_)).trans (h ⟨(i 0).val, (i 0).isLt⟩ ⟨(i 1).val, (i 1).isLt⟩)
  match x with
  | ⟨0, _⟩ => rfl
  | ⟨1, _⟩ => rfl

/-- A transposed matrix. -/
theorem R2.isRt {X : (M a c).Idx → EReal} (h : R2 X f) (ht : (M a c).Transposes [1, 0] (M c a)) :
    IsR (φ := φ) (transpose (M c a) [1, 0] X ht) (fun r k => f k r) := fun r k =>
  (transpose_apply [1, 0] X ht (ix2 r k) (ix2 k r) (fun b => match b with
    | ⟨0, _⟩ => rfl
    | ⟨1, _⟩ => rfl)).trans (h (ix2 k r))

/-- A constant spread over a matrix by the host. -/
theorem IsR.hsplat {w : BitVec 32} {x : ℝ} (hw : Ideal.ofBits .f32 w = ((x : ℝ) : EReal)) (hb : (⟨0, ![]⟩ : Shape).BroadcastsInDim (M a c) (![] : Fin 0 → Fin 2)) :
    IsR (φ := .f32) (broadcastInDim (M a c) ![] hb (constant (F := Ideal) ⟨0, ![]⟩ .f32 w)) (fun _ _ => x) := fun _ _ => hw

end

/-- The arguments hold the reals `A`. -/
structure Holds5 (A : Ffn) (x0 : (M 2048 1024).Idx → EReal) (x1 x2 : (M 1024 2816).Idx → EReal) (x3 : (M 2816 1024).Idx → EReal)
    (x4 : (M 2048 1024).Idx → EReal) : Prop where
  al : A.al = alv
  h : R2 (a := 2048) (b := 1024) x0 A.H
  wg : R2 (a := 1024) (b := 2816) x1 A.Wg
  wu : R2 (a := 1024) (b := 2816) x2 A.Wu
  wd : R2 (a := 2816) (b := 1024) x3 A.Wd
  ct : R2 (a := 2048) (b := 1024) x4 A.C

end Cert.Attn

end
-- ==== Proof.ProdMat.lean ====
/- Matrix products over the extended reals, entry by entry: no precondition is needed, since both sides add the same products in an
   order that does not matter. -/
module

public import proofs.«01_k».proof.Proof.FfnHolds

@[expose] public section

noncomputable section

namespace Cert.Attn

open Idealize.ShloMosaic Idealize.ShloMosaic.ValueIdx Finset

/-- The matrix `X` has the entries `f`. -/
def IsE {a c : ℕ} {φ : FTy} (X : FVec Ideal (M a c) φ) (f : ℕ → ℕ → EReal) : Prop :=
  ∀ (r : Fin a) (k : Fin c), X (ix2 r k) = f r.val k.val

/-- The array `X` has the entries `f`. -/
def E2 {a b : ℕ} (X : (⟨2, ![a, b]⟩ : Shape).Idx → EReal) (f : ℕ → ℕ → EReal) : Prop :=
  ∀ i, X i = f (i 0).val (i 1).val

/-- An array's entries by natural numbers, zero outside. -/
def entE {a b : ℕ} (X : (⟨2, ![a, b]⟩ : Shape).Idx → EReal) (i j : ℕ) : EReal :=
  if h : i < a ∧ j < b then X (ix2 ⟨i, h.1⟩ ⟨j, h.2⟩) else 0

theorem entE_E2 {a b : ℕ} (X : (⟨2, ![a, b]⟩ : Shape).Idx → EReal) : E2 X (entE X) := fun i => by
  have h0 : (i 0).val < a := (i 0).isLt
  have h1 : (i 1).val < b := (i 1).isLt
  rw [entE, dif_pos ⟨h0, h1⟩]
  congr 1
  funext k
  match k with
  | ⟨0, _⟩ => rfl
  | ⟨1, _⟩ => rfl

theorem E2_eq {a b : ℕ} {X Y : (⟨2, ![a, b]⟩ : Shape).Idx → EReal} {f : ℕ → ℕ → EReal} (hX : E2 X f) (hY : E2 Y f) : Y = X :=
  funext fun i => (hY i).trans (hX i).symm

section

variable {a c n : ℕ} {φ ψ : FTy} {f g : ℕ → ℕ → EReal}

/-- The same array in the matrices' words, -/
theorem E2.isE {X : (M a c).Idx → EReal} (h : E2 X f) : IsE (φ := φ) X f := fun r k => h (ix2 r k)

/-- and back. -/
theorem IsE.e2 {X : FVec Ideal (M a c) φ} (h : IsE X f) : E2 (a := a) (b := c) X f := fun i => by
  refine (congrArg X (funext fun x => ?_)).trans (h ⟨(i 0).val, (i 0).isLt⟩ ⟨(i 1).val, (i 1).isLt⟩)
  match x with
  | ⟨0, _⟩ => rfl
  | ⟨1, _⟩ => rfl

/-- A transposed matrix. -/
theorem E2.isEt {X : (M a c).Idx → EReal} (h : E2 X f) (ht : (M a c).Transposes [1, 0] (M c a)) :
    IsE (φ := φ) (transpose (M c a) [1, 0] X ht) (fun r k => f k r) := fun r k =>
  (transpose_apply [1, 0] X ht (ix2 r k) (ix2 k r) (fun b => match b with
    | ⟨0, _⟩ => rfl
    | ⟨1, _⟩ => rfl)).trans (h (ix2 k r))

theorem IsE.of_eq {X Y : FVec Ideal (M a c) φ} (h : IsE Y f) (e : X = Y) : IsE X f := e ▸ h

/-- The entries matter only inside the matrix. -/
theorem IsE.congr {X : FVec Ideal (M a c) φ} (h : IsE X f) (e : ∀ r < a, ∀ k < c, f r k = g r k) : IsE X g :=
  fun r k => by rw [h r k, e r.val r.isLt k.val k.isLt]

theorem IsE.trunc {X : FVec Ideal (M a c) φ} (hX : IsE X f) (h : ψ.bits < φ.bits) : IsE (truncf ψ X h) f := hX

theorem IsE.add {X Y : FVec Ideal (M a c) φ} (hX : IsE X f) (hY : IsE Y g) : IsE (addf X Y) (fun r k => f r k + g r k) := fun r k => by
  show X (ix2 r k) + Y (ix2 r k) = _
  rw [hX r k, hY r k]

/-- A sum over a range from one over `Fin`. -/
theorem sum_fin_range {n : ℕ} (u : Fin n → EReal) (v : ℕ → EReal) (h : ∀ l : Fin n, u l = v l.val) : ∑ l, u l = ∑ l ∈ range n, v l :=
  (Finset.sum_congr rfl fun l _ => h l).trans (Finset.sum_range v).symm

/-- The product with the right operand contracted on its columns, -/
theorem IsE.dotNT {X : FVec Ideal (M a n) φ} {Y : FVec Ideal (M c n) ψ} (hX : IsE X f) (hY : IsE Y g) :
    IsE (φ := .f32) (matmul (DotDims.transposedRhs a n c) none X Y (constant (M a c) .f32 0x00000000#32))
      (fun r k => ∑ l ∈ range n, f r l * g k l) := fun r k => by
  simp only [matmul]
  rw [Ideal.matmul_transposedRhs_apply]
  show Ideal.ofBits .f32 0x00000000#32 + _ = _
  rw [Ideal.ofBits_zero_f32, zero_add]
  exact sum_fin_range _ (fun l => f r.val l * g k.val l) fun l => by rw [hX r l, hY k l]

/-- the plain product, -/
theorem IsE.dotNN {X : FVec Ideal (M a n) φ} {Y : FVec Ideal (M n c) ψ} (hX : IsE X f) (hY : IsE Y g) :
    IsE (φ := .f32) (matmul (DotDims.plain a n c) none X Y (constant (M a c) .f32 0x00000000#32))
      (fun r k => ∑ l ∈ range n, f r l * g l k) := fun r k => by
  simp only [matmul]
  rw [Ideal.matmul_plain_apply]
  show Ideal.ofBits .f32 0x00000000#32 + _ = _
  rw [Ideal.ofBits_zero_f32, zero_add]
  exact sum_fin_range _ (fun l => f r.val l * g l k.val) fun l => by rw [hX r l, hY l k]

/-- and the product with both operands contracted on their rows. -/
theorem IsE.dotTN {X : FVec Ideal (M n a) φ} {Y : FVec Ideal (M n c) ψ} (hX : IsE X f) (hY : IsE Y g) :
    IsE (φ := .f32) (matmul (dTN n a c) none X Y (constant (M a c) .f32 0x00000000#32))
      (fun r k => ∑ l ∈ range n, f l r * g l k) := fun r k => by
  simp only [matmul]
  rw [Ideal.matmul_constant_zero_apply, ← Equiv.sum_comp (contrEquiv1 _ n (dTN_rank n a c) (dTN_size n a c)).symm]
  refine sum_fin_range _ (fun l => f l r.val * g l k.val) fun l => ?_
  have hk := contrEquiv1_symm_val _ n (dTN_rank n a c) (dTN_size n a c) l
  have el : (dTN n a c).lhsIdx (ix2 r k) ((contrEquiv1 _ n (dTN_rank n a c) (dTN_size n a c)).symm l) = ix2 l r := by
    funext x; apply Fin.ext
    match x with
    | ⟨0, _⟩ => exact hk
    | ⟨1, _⟩ => rfl
  have er : (dTN n a c).rhsIdx (ix2 r k) ((contrEquiv1 _ n (dTN_rank n a c) (dTN_size n a c)).symm l) = ix2 l k := by
    funext x; apply Fin.ext
    match x with
    | ⟨0, _⟩ => exact hk
    | ⟨1, _⟩ => rfl
  rw [el, er, hX l r, hY l k]

end

end Cert.Attn

end
-- ==== Proof.BlockMat.lean ====
/- Matrices by blocks: what is known of every block is known of the matrix. -/
module

public import proofs.«01_k».proof.Proof.ProdMat

@[expose] public section

set_option maxRecDepth 16384

noncomputable section

namespace Cert.Attn

open Idealize.ShloMosaic Idealize.ShloMosaic.ValueIdx Finset

/-- A block of a matrix: its entries are the matrix's from the block's corner on. -/
theorem IsE.blk {a c a' c' : ℕ} {φ : FTy} {X : FVec Ideal (M a c) φ} {f : ℕ → ℕ → EReal} (h : IsE X f) (emb : (M a' c').Idx → (M a c).Idx) (o p : ℕ)
    (h0 : ∀ y, (emb y 0).val = o + (y 0).val) (h1 : ∀ y, (emb y 1).val = p + (y 1).val) :
    IsE (a := a') (c := c') (φ := φ) (fun y => X (emb y)) (fun r l => f (o + r) (p + l)) := fun r l => by
  refine (h.e2 _).trans ?_
  rw [h0, h1]
  rfl

/-- A matrix whose blocks of `a'` rows and `c'` columns have the entries `f` has the entries `f`. -/
theorem IsE.ofBlocks {a c : ℕ} {φ : FTy} {X : FVec Ideal (M a c) φ} {f : ℕ → ℕ → EReal} (a' c' : ℕ) (ha : 0 < a') (hc : 0 < c')
    (h : ∀ u v, u * a' < a → v * c' < c → ∃ emb : (M a' c').Idx → (M a c).Idx, (∀ y, (emb y 0).val = u * a' + (y 0).val) ∧
      (∀ y, (emb y 1).val = v * c' + (y 1).val) ∧ IsE (a := a') (c := c') (φ := φ) (fun y => X (emb y)) (fun r l => f (u * a' + r) (v * c' + l))) :
    IsE X f := fun r k => by
  have er : r.val / a' * a' + r.val % a' = r.val := Nat.div_add_mod' _ _
  have ek : k.val / c' * c' + k.val % c' = k.val := Nat.div_add_mod' _ _
  obtain ⟨emb, h0, h1, hB⟩ := h (r.val / a') (k.val / c') (lt_of_le_of_lt (Nat.div_mul_le_self _ _) r.isLt) (lt_of_le_of_lt (Nat.div_mul_le_self _ _) k.isLt)
  have hb := hB ⟨r.val % a', Nat.mod_lt _ ha⟩ ⟨k.val % c', Nat.mod_lt _ hc⟩
  beta_reduce at hb
  rw [er, ek] at hb
  refine (congrArg X (funext fun x => Fin.ext ?_)).trans hb
  match x with
  | ⟨0, _⟩ => exact er.symm.trans (h0 (ix2 (⟨r.val % a', Nat.mod_lt _ ha⟩ : Fin a') (⟨k.val % c', Nat.mod_lt _ hc⟩ : Fin c'))).symm
  | ⟨1, _⟩ => exact ek.symm.trans (h1 (ix2 (⟨r.val % a', Nat.mod_lt _ ha⟩ : Fin a') (⟨k.val % c', Nat.mod_lt _ hc⟩ : Fin c'))).symm

end Cert.Attn

end
-- ==== Proof.FfnPay.lean ====
/- The payloads of the nine products' bodies at matrices that hold reals. -/
module

public import proofs.«01_k».proof.Proof.FfnMath
public import proofs.«01_k».proof.Proof.Gen.Kernel2Ideal.Skeleton

@[expose] public section

noncomputable section

namespace Cert.Kernel2Ideal.Hand

open Idealize.ShloMosaic Idealize.ShloMosaic.ValueIdx Cert.Attn Cert.Kernel2Ideal Cert.Kernel2Ideal.Gen Finset

variable {f g h e : ℕ → ℕ → ℝ}

section NT

variable {X : Vec Ideal S1024x1024 .bf16} {Y : Vec Ideal S1408x1024 .bf16} {G U : Vec Ideal S1024x1408 .bf16}
  (hX : IsR (a := 1024) (c := 1024) (φ := .bf16) X f) (hY : IsR (a := 1408) (c := 1024) (φ := .bf16) Y g)
  (hG : IsR (a := 1024) (c := 1408) (φ := .bf16) G h) (hU : IsR (a := 1024) (c := 1408) (φ := .bf16) U e)
include hX hY

/-- The gate's product. -/
theorem pay0_1 : IsR (a := 1024) (c := 1408) (φ := .bf16) (k0_pay1 X Y) (fun r k => ∑ l ∈ range 1024, f r l * g k l) := by
  unfold k0_pay1
  simp only [shapeCast_same]
  exact (IsR.dotNT hX hY).trunc _

/-- The other factor's product, -/
theorem pay1_1 : IsR (a := 1024) (c := 1408) (φ := .f32) (k1_pay1 X Y) (fun r k => ∑ l ∈ range 1024, f r l * g k l) := by
  unfold k1_pay1
  simp only [shapeCast_same]
  exact IsR.dotNT hX hY

/-- stored, -/
theorem pay1_2 : IsR (a := 1024) (c := 1408) (φ := .bf16) (k1_pay2 X Y) (fun r k => ∑ l ∈ range 1024, f r l * g k l) := by
  unfold k1_pay2
  exact (pay1_1 hX hY).trunc _

include hG in
/-- and gated. -/
theorem pay1_3 : IsR (a := 1024) (c := 1408) (φ := .bf16) (k1_pay3 X Y G) (fun r k => h r k * sgm (h r k) * ∑ l ∈ range 1024, f r l * g k l) := by
  unfold k1_pay3
  simp only [shapeCast_same]
  exact (((hG.ext _).mul (hG.ext _).sig).mul (pay1_1 hX hY)).trunc _

/-- The gated product's derivative, -/
theorem pay3_1 : IsR (a := 1024) (c := 1408) (φ := .f32) (k3_pay1 X Y) (fun r k => ∑ l ∈ range 1024, f r l * g k l) := by
  unfold k3_pay1
  simp only [shapeCast_same]
  exact IsR.dotNT hX hY

omit hX hY in
include hG in
theorem pay3_2 : IsR (a := 1024) (c := 1408) (φ := .f32) (k3_pay2 G) h := by
  unfold k3_pay2
  simp only [shapeCast_same]
  exact hG.ext _

omit hX hY in
include hG in
theorem pay3_3 : IsR (a := 1024) (c := 1408) (φ := .f32) (k3_pay3 G) (fun r k => sgm (h r k)) := by
  unfold k3_pay3
  exact (pay3_2 hG).sig

include hG hU in
/-- the gate's, -/
theorem pay3_4 : IsR (a := 1024) (c := 1408) (φ := .bf16) (k3_pay4 X Y G U) (fun r k => (∑ l ∈ range 1024, f r l * g k l) * e r k
    * (sgm (h r k) * (1 + h r k * (1 - sgm (h r k))))) := by
  unfold k3_pay4
  simp only [shapeCast_same]
  exact (((pay3_1 hX hY).mul (hU.ext _)).mul ((pay3_3 hG).mul (IsR.one.add ((pay3_2 hG).mul (IsR.one.sub (pay3_3 hG)))))).trunc _

include hG in
/-- and the other factor's. -/
theorem pay3_5 : IsR (a := 1024) (c := 1408) (φ := .bf16) (k3_pay5 X Y G) (fun r k => (∑ l ∈ range 1024, f r l * g k l) * (h r k * sgm (h r k))) := by
  unfold k3_pay5
  exact ((pay3_1 hX hY).mul ((pay3_2 hG).mul (pay3_3 hG))).trunc _

end NT

section NN

variable {X : Vec Ideal S512x2816 .bf16} {Y : Vec Ideal S2816x1024 .bf16} {Z : Vec Ideal S512x1024 .f32}
  (hX : IsR (a := 512) (c := 2816) (φ := .bf16) X f) (hY : IsR (a := 2816) (c := 1024) (φ := .bf16) Y g)
  (hZ : IsR (a := 512) (c := 1024) (φ := .f32) Z h)
include hX hY

/-- The product that ends the block. -/
theorem pay2_1 : IsR (a := 512) (c := 1024) (φ := .f32) (k2_pay1 X Y) (fun r k => ∑ l ∈ range 2816, f r l * g l k) := by
  unfold k2_pay1
  simp only [shapeCast_same]
  exact IsR.dotNN hX hY

include hZ

/-- The input's derivative through the gate, added to what is there, -/
theorem pay5_1 : IsR (a := 512) (c := 1024) (φ := .f32) (k5_pay1 X Y Z) (fun r k => (∑ l ∈ range 2816, f r l * g l k) + h r k) := by
  unfold k5_pay1
  simp only [shapeCast_same]
  exact (IsR.dotNN hX hY).add hZ

/-- and through the other factor. -/
theorem pay6_1 : IsR (a := 512) (c := 1024) (φ := .f32) (k6_pay1 X Y Z) (fun r k => (∑ l ∈ range 2816, f r l * g l k) + h r k) := by
  unfold k6_pay1
  simp only [shapeCast_same]
  exact (IsR.dotNN hX hY).add hZ

end NN

section TN

variable {X : Vec Ideal S2048x1408 .bf16} {Y : Vec Ideal S2048x1024 .bf16}
  (hX : IsR (a := 2048) (c := 1408) (φ := .bf16) X f) (hY : IsR (a := 2048) (c := 1024) (φ := .bf16) Y g)
include hX hY

/-- The weights' derivatives. -/
theorem pay4_1 : IsR (a := 1408) (c := 1024) (φ := .bf16) (k4_pay1 X Y) (fun r k => ∑ l ∈ range 2048, f l r * g l k) := by
  unfold k4_pay1
  simp only [shapeCast_same]
  exact (IsR.dotTN hX hY).trunc _

theorem pay7_1 : IsR (a := 1408) (c := 1024) (φ := .bf16) (k7_pay1 X Y) (fun r k => ∑ l ∈ range 2048, f l r * g l k) := by
  unfold k7_pay1
  simp only [shapeCast_same]
  exact (IsR.dotTN hX hY).trunc _

theorem pay8_1 : IsR (a := 1408) (c := 1024) (φ := .bf16) (k8_pay1 X Y) (fun r k => ∑ l ∈ range 2048, f l r * g l k) := by
  unfold k8_pay1
  simp only [shapeCast_same]
  exact (IsR.dotTN hX hY).trunc _

end TN

end Cert.Kernel2Ideal.Hand

end
-- ==== Proof.FfnRegions.lean ====
/- The feed-forward block's regions: what their arrays hold after them. -/
module

public import proofs.«01_k».proof.Proof.BlockMat
public import proofs.«01_k».proof.Proof.FfnPay
public import proofs.«01_k».proof.Proof.Gen.Kernel2Ideal.Frame

@[expose] public section

set_option maxRecDepth 16384

noncomputable section

namespace Cert.Attn

open Idealize.ShloMosaic

/-- A block of a matrix of real numbers, -/
theorem IsR.blk {a c a' c' : ℕ} {φ : FTy} {X : FVec Ideal (M a c) φ} {f : ℕ → ℕ → ℝ} (h : IsR X f) (emb : (M a' c').Idx → (M a c).Idx) (o p : ℕ)
    (h0 : ∀ y, (emb y 0).val = o + (y 0).val) (h1 : ∀ y, (emb y 1).val = p + (y 1).val) :
    IsR (a := a') (c := c') (φ := φ) (fun y => X (emb y)) (fun r l => f (o + r) (p + l)) := IsE.blk (f := fun r k => (f r k : EReal)) h emb o p h0 h1

/-- a matrix by its blocks, -/
theorem IsR.ofBlocks {a c : ℕ} {φ : FTy} {X : FVec Ideal (M a c) φ} {f : ℕ → ℕ → ℝ} (a' c' : ℕ) (ha : 0 < a') (hc : 0 < c')
    (h : ∀ u v, u * a' < a → v * c' < c → ∃ emb : (M a' c').Idx → (M a c).Idx, (∀ y, (emb y 0).val = u * a' + (y 0).val) ∧
      (∀ y, (emb y 1).val = v * c' + (y 1).val) ∧ IsR (a := a') (c := c') (φ := φ) (fun y => X (emb y)) (fun r l => f (u * a' + r) (v * c' + l))) :
    IsR X f := IsE.ofBlocks (f := fun r k => (f r k : EReal)) a' c' ha hc h

/-- and other words for its entries. -/
theorem IsR.congrR {a c : ℕ} {φ : FTy} {X : FVec Ideal (M a c) φ} {f g : ℕ → ℕ → ℝ} (h : IsR X f) (e : ∀ r k, f r k = g r k) : IsR X g :=
  (funext fun r => funext fun k => e r k : f = g) ▸ h

end Cert.Attn

namespace Cert.Kernel2Ideal.Hand

open Idealize.ShloMosaic Idealize.ShloMosaic.ValueIdx Idealize.ShloMosaic.TcCoe Cert.Attn Cert.Kernel2Ideal Cert.Kernel2Ideal.Gen Idealize.SL.Sem Finset
open Idealize.ShloMosaic.Pipeline (Dat)

variable (V : (c : Dev nD) → (b : Ref sig .tc) → Buf (Elt Ideal) ((c : Thread nD τ).loc b)) (c : Dev nD)

/-- Region 0: every pair of blocks has its grid point. -/
theorem tile0 : ∀ u < 2, ∀ v < 2, ∃ t : Fin grid0.N, win0_0.index t = ![u, 0] ∧ win0_1.index t = ![v, 0] ∧ win0_2.index t = ![u, v] := by decide +kernel

theorem inj0_2 : ∀ t t' : Fin grid0.N, win0_2.index t = win0_2.index t' → t = t' := by decide +kernel

/-- Region 0: the array of window 2 after the region. -/
theorem array0_2 {f g : ℕ → ℕ → ℝ} (hf : IsR (a := 2048) (c := 1024) (φ := .bf16) (V c main_v0) f) (hg : IsR (a := 2816) (c := 1024) (φ := .bf16) (V c main_v3) g) :
    IsR (a := 2048) (c := 2816) (φ := .bf16) ((dat0 V c).arrAt 2 cfg0.N) (fun r k => ∑ l ∈ range 1024, f r l * g k l) := by
  refine IsR.ofBlocks 1024 1408 (by decide) (by decide) fun u v hu hv => ?_
  obtain ⟨t, e0, e1, e2⟩ := tile0 u (by omega) v (by omega)
  have b0 : IsR (a := 1024) (c := 1024) (φ := .bf16) (iblk0 V c 0 t) _ := hf.blk (((cfg0.win 0).blk t).view.emb) (u * 1024) (0 * 1024)
    (fun y => by show win0_0.index t 0 * 1024 + 1 * (y 0).val = _; rw [e0, Nat.one_mul]; rfl) (fun y => by show win0_0.index t 1 * 1024 + 1 * (y 1).val = _; rw [e0, Nat.one_mul]; rfl)
  have b1 : IsR (a := 1408) (c := 1024) (φ := .bf16) (iblk0 V c 1 t) _ := hg.blk (((cfg0.win 1).blk t).view.emb) (v * 1408) (0 * 1024)
    (fun y => by show win0_1.index t 0 * 1408 + 1 * (y 0).val = _; rw [e1, Nat.one_mul]; rfl) (fun y => by show win0_1.index t 1 * 1024 + 1 * (y 1).val = _; rw [e1, Nat.one_mul]; rfl)
  refine ⟨((cfg0.win 2).blk t).view.emb, (fun y => by show win0_2.index t 0 * 1024 + 1 * (y 0).val = _; rw [e2, Nat.one_mul]; rfl), (fun y => by show win0_2.index t 1 * 1408 + 1 * (y 1).val = _; rw [e2, Nat.one_mul]; rfl), ?_⟩
  have hX : (fun y => (dat0 V c).arrAt 2 cfg0.N (((cfg0.win 2).blk t).view.emb y)) = out0_2 (iblk0 V c 0 t) (iblk0 V c 1 t) := by
    refine ((dat0 V c).read_blk_arrAt_eq_flushed 2 (fun t t' _ _ hne => (cfg0.win 2).disjoint_blk fun h => hne (inj0_2 t t' h)) cfg0.N t t.isLt (flush0_2 t)).trans ?_
    show (cfg0.win 2).cut (grid0.coords t) ((dat0 V c).after 2 t) = _
    rw [after0_2]
    rfl
  refine IsR.of_eq ?_ hX
  unfold out0_2
  rw [View.canon_unit_zero zz]
  simp only [View.ld_unit_zero (S := S1024x1024) zz, View.ld_unit_zero (S := S1408x1024) zz]
  exact (pay0_1 b0 b1).congrR fun r k => by simp only [Nat.zero_mul, Nat.zero_add]

set_option synthInstance.maxSize 512 in
/-- Region 1: every pair of blocks has its grid point. -/
theorem tile1 : ∀ u < 2, ∀ v < 2, ∃ t : Fin grid1.N, win1_0.index t = ![u, 0] ∧ win1_1.index t = ![v, 0] ∧ win1_2.index t = ![u, v] ∧ win1_3.index t = ![u, v] ∧ win1_4.index t = ![u, v] := by decide +kernel

theorem inj1_3 : ∀ t t' : Fin grid1.N, win1_3.index t = win1_3.index t' → t = t' := by decide +kernel

/-- Region 1: the array of window 3 after the region. -/
theorem array1_3 {f g : ℕ → ℕ → ℝ} (hf : IsR (a := 2048) (c := 1024) (φ := .bf16) (V c main_v0) f) (hg : IsR (a := 2816) (c := 1024) (φ := .bf16) (V c main_v5) g) :
    IsR (a := 2048) (c := 2816) (φ := .bf16) ((dat1 V c).arrAt 3 cfg1.N) (fun r k => ∑ l ∈ range 1024, f r l * g k l) := by
  refine IsR.ofBlocks 1024 1408 (by decide) (by decide) fun u v hu hv => ?_
  obtain ⟨t, e0, e1, e2, e3, e4⟩ := tile1 u (by omega) v (by omega)
  have b0 : IsR (a := 1024) (c := 1024) (φ := .bf16) (iblk1 V c 0 t) _ := hf.blk (((cfg1.win 0).blk t).view.emb) (u * 1024) (0 * 1024)
    (fun y => by show win1_0.index t 0 * 1024 + 1 * (y 0).val = _; rw [e0, Nat.one_mul]; rfl) (fun y => by show win1_0.index t 1 * 1024 + 1 * (y 1).val = _; rw [e0, Nat.one_mul]; rfl)
  have b1 : IsR (a := 1408) (c := 1024) (φ := .bf16) (iblk1 V c 1 t) _ := hg.blk (((cfg1.win 1).blk t).view.emb) (v * 1408) (0 * 1024)
    (fun y => by show win1_1.index t 0 * 1408 + 1 * (y 0).val = _; rw [e1, Nat.one_mul]; rfl) (fun y => by show win1_1.index t 1 * 1024 + 1 * (y 1).val = _; rw [e1, Nat.one_mul]; rfl)
  refine ⟨((cfg1.win 3).blk t).view.emb, (fun y => by show win1_3.index t 0 * 1024 + 1 * (y 0).val = _; rw [e3, Nat.one_mul]; rfl), (fun y => by show win1_3.index t 1 * 1408 + 1 * (y 1).val = _; rw [e3, Nat.one_mul]; rfl), ?_⟩
  have hX : (fun y => (dat1 V c).arrAt 3 cfg1.N (((cfg1.win 3).blk t).view.emb y)) = out1_3 (iblk1 V c 0 t) (iblk1 V c 1 t) (iblk1 V c 2 t) := by
    refine ((dat1 V c).read_blk_arrAt_eq_flushed 3 (fun t t' _ _ hne => (cfg1.win 3).disjoint_blk fun h => hne (inj1_3 t t' h)) cfg1.N t t.isLt (flush1_3 t)).trans ?_
    show (cfg1.win 3).cut (grid1.coords t) ((dat1 V c).after 3 t) = _
    rw [after1_3]
    rfl
  refine IsR.of_eq ?_ hX
  unfold out1_3
  rw [View.canon_unit_zero zz]
  simp only [View.ld_unit_zero (S := S1024x1024) zz, View.ld_unit_zero (S := S1408x1024) zz]
  exact (pay1_2 b0 b1).congrR fun r k => by simp only [Nat.zero_mul, Nat.zero_add]

theorem inj1_4 : ∀ t t' : Fin grid1.N, win1_4.index t = win1_4.index t' → t = t' := by decide +kernel

/-- Region 1: the array of window 4 after the region. -/
theorem array1_4 {f g h : ℕ → ℕ → ℝ} (hf : IsR (a := 2048) (c := 1024) (φ := .bf16) (V c main_v0) f) (hg : IsR (a := 2816) (c := 1024) (φ := .bf16) (V c main_v5) g) (hh : IsR (a := 2048) (c := 2816) (φ := .bf16) (V c main_v7) h) :
    IsR (a := 2048) (c := 2816) (φ := .bf16) ((dat1 V c).arrAt 4 cfg1.N) (fun r k => h r k * sgm (h r k) * ∑ l ∈ range 1024, f r l * g k l) := by
  refine IsR.ofBlocks 1024 1408 (by decide) (by decide) fun u v hu hv => ?_
  obtain ⟨t, e0, e1, e2, e3, e4⟩ := tile1 u (by omega) v (by omega)
  have b0 : IsR (a := 1024) (c := 1024) (φ := .bf16) (iblk1 V c 0 t) _ := hf.blk (((cfg1.win 0).blk t).view.emb) (u * 1024) (0 * 1024)
    (fun y => by show win1_0.index t 0 * 1024 + 1 * (y 0).val = _; rw [e0, Nat.one_mul]; rfl) (fun y => by show win1_0.index t 1 * 1024 + 1 * (y 1).val = _; rw [e0, Nat.one_mul]; rfl)
  have b1 : IsR (a := 1408) (c := 1024) (φ := .bf16) (iblk1 V c 1 t) _ := hg.blk (((cfg1.win 1).blk t).view.emb) (v * 1408) (0 * 1024)
    (fun y => by show win1_1.index t 0 * 1408 + 1 * (y 0).val = _; rw [e1, Nat.one_mul]; rfl) (fun y => by show win1_1.index t 1 * 1024 + 1 * (y 1).val = _; rw [e1, Nat.one_mul]; rfl)
  have b2 : IsR (a := 1024) (c := 1408) (φ := .bf16) (iblk1 V c 2 t) _ := hh.blk (((cfg1.win 2).blk t).view.emb) (u * 1024) (v * 1408)
    (fun y => by show win1_2.index t 0 * 1024 + 1 * (y 0).val = _; rw [e2, Nat.one_mul]; rfl) (fun y => by show win1_2.index t 1 * 1408 + 1 * (y 1).val = _; rw [e2, Nat.one_mul]; rfl)
  refine ⟨((cfg1.win 4).blk t).view.emb, (fun y => by show win1_4.index t 0 * 1024 + 1 * (y 0).val = _; rw [e4, Nat.one_mul]; rfl), (fun y => by show win1_4.index t 1 * 1408 + 1 * (y 1).val = _; rw [e4, Nat.one_mul]; rfl), ?_⟩
  have hX : (fun y => (dat1 V c).arrAt 4 cfg1.N (((cfg1.win 4).blk t).view.emb y)) = out1_4 (iblk1 V c 0 t) (iblk1 V c 1 t) (iblk1 V c 2 t) := by
    refine ((dat1 V c).read_blk_arrAt_eq_flushed 4 (fun t t' _ _ hne => (cfg1.win 4).disjoint_blk fun h => hne (inj1_4 t t' h)) cfg1.N t t.isLt (flush1_4 t)).trans ?_
    show (cfg1.win 4).cut (grid1.coords t) ((dat1 V c).after 4 t) = _
    rw [after1_4]
    rfl
  refine IsR.of_eq ?_ hX
  unfold out1_4
  rw [View.canon_unit_zero zz]
  simp only [View.ld_unit_zero (S := S1024x1024) zz, View.ld_unit_zero (S := S1024x1408) zz, View.ld_unit_zero (S := S1408x1024) zz]
  exact (pay1_3 b0 b1 b2).congrR fun r k => by simp only [Nat.zero_mul, Nat.zero_add]

/-- Region 2: every pair of blocks has its grid point. -/
theorem tile2 : ∀ u < 4, ∀ v < 1, ∃ t : Fin grid2.N, win2_0.index t = ![u, 0] ∧ win2_1.index t = ![0, 0] ∧ win2_2.index t = ![u, v] := by decide +kernel

theorem inj2_2 : ∀ t t' : Fin grid2.N, win2_2.index t = win2_2.index t' → t = t' := by decide +kernel

/-- Region 2: the array of window 2 after the region. -/
theorem array2_2 {f g : ℕ → ℕ → ℝ} (hf : IsR (a := 2048) (c := 2816) (φ := .bf16) (V c main_v8_1) f) (hg : IsR (a := 2816) (c := 1024) (φ := .bf16) (V c main_v6) g) :
    IsR (a := 2048) (c := 1024) (φ := .f32) ((dat2 V c).arrAt 2 cfg2.N) (fun r k => ∑ l ∈ range 2816, f r l * g l k) := by
  refine IsR.ofBlocks 512 1024 (by decide) (by decide) fun u v hu hv => ?_
  obtain rfl : v = 0 := by omega
  obtain ⟨t, e0, e1, e2⟩ := tile2 u (by omega) 0 (by omega)
  have b0 : IsR (a := 512) (c := 2816) (φ := .bf16) (iblk2 V c 0 t) _ := hf.blk (((cfg2.win 0).blk t).view.emb) (u * 512) (0 * 2816)
    (fun y => by show win2_0.index t 0 * 512 + 1 * (y 0).val = _; rw [e0, Nat.one_mul]; rfl) (fun y => by show win2_0.index t 1 * 2816 + 1 * (y 1).val = _; rw [e0, Nat.one_mul]; rfl)
  have b1 : IsR (a := 2816) (c := 1024) (φ := .bf16) (iblk2 V c 1 t) _ := hg.blk (((cfg2.win 1).blk t).view.emb) (0 * 2816) (0 * 1024)
    (fun y => by show win2_1.index t 0 * 2816 + 1 * (y 0).val = _; rw [e1, Nat.one_mul]; rfl) (fun y => by show win2_1.index t 1 * 1024 + 1 * (y 1).val = _; rw [e1, Nat.one_mul]; rfl)
  refine ⟨((cfg2.win 2).blk t).view.emb, (fun y => by show win2_2.index t 0 * 512 + 1 * (y 0).val = _; rw [e2, Nat.one_mul]; rfl), (fun y => by show win2_2.index t 1 * 1024 + 1 * (y 1).val = _; rw [e2, Nat.one_mul]; rfl), ?_⟩
  have hX : (fun y => (dat2 V c).arrAt 2 cfg2.N (((cfg2.win 2).blk t).view.emb y)) = out2_2 (iblk2 V c 0 t) (iblk2 V c 1 t) := by
    refine ((dat2 V c).read_blk_arrAt_eq_flushed 2 (fun t t' _ _ hne => (cfg2.win 2).disjoint_blk fun h => hne (inj2_2 t t' h)) cfg2.N t t.isLt (flush2_2 t)).trans ?_
    show (cfg2.win 2).cut (grid2.coords t) ((dat2 V c).after 2 t) = _
    rw [after2_2]
    rfl
  refine IsR.of_eq ?_ hX
  unfold out2_2
  rw [View.canon_unit_zero zz]
  simp only [View.ld_unit_zero (S := S2816x1024) zz, View.ld_unit_zero (S := S512x2816) zz]
  exact (pay2_1 b0 b1).congrR fun r k => by simp only [Nat.zero_mul, Nat.zero_add]

set_option synthInstance.maxSize 512 in
/-- Region 3: every pair of blocks has its grid point. -/
theorem tile3 : ∀ u < 2, ∀ v < 2, ∃ t : Fin grid3.N, win3_0.index t = ![u, 0] ∧ win3_1.index t = ![v, 0] ∧ win3_2.index t = ![u, v] ∧ win3_3.index t = ![u, v] ∧ win3_4.index t = ![u, v] ∧ win3_5.index t = ![u, v] := by decide +kernel

theorem inj3_4 : ∀ t t' : Fin grid3.N, win3_4.index t = win3_4.index t' → t = t' := by decide +kernel

/-- Region 3: the array of window 4 after the region. -/
theorem array3_4 {f g h e : ℕ → ℕ → ℝ} (hf : IsR (a := 2048) (c := 1024) (φ := .bf16) (V c main_v1) f) (hg : IsR (a := 2816) (c := 1024) (φ := .bf16) (V c main_v6) g) (hh : IsR (a := 2048) (c := 2816) (φ := .bf16) (V c main_v7) h) (he : IsR (a := 2048) (c := 2816) (φ := .bf16) (V c main_v8_0) e) :
    IsR (a := 2048) (c := 2816) (φ := .bf16) ((dat3 V c).arrAt 4 cfg3.N) (fun r k => (∑ l ∈ range 1024, f r l * g k l) * e r k * (sgm (h r k) * (1 + h r k * (1 - sgm (h r k))))) := by
  refine IsR.ofBlocks 1024 1408 (by decide) (by decide) fun u v hu hv => ?_
  obtain ⟨t, e0, e1, e2, e3, e4, e5⟩ := tile3 u (by omega) v (by omega)
  have b0 : IsR (a := 1024) (c := 1024) (φ := .bf16) (iblk3 V c 0 t) _ := hf.blk (((cfg3.win 0).blk t).view.emb) (u * 1024) (0 * 1024)
    (fun y => by show win3_0.index t 0 * 1024 + 1 * (y 0).val = _; rw [e0, Nat.one_mul]; rfl) (fun y => by show win3_0.index t 1 * 1024 + 1 * (y 1).val = _; rw [e0, Nat.one_mul]; rfl)
  have b1 : IsR (a := 1408) (c := 1024) (φ := .bf16) (iblk3 V c 1 t) _ := hg.blk (((cfg3.win 1).blk t).view.emb) (v * 1408) (0 * 1024)
    (fun y => by show win3_1.index t 0 * 1408 + 1 * (y 0).val = _; rw [e1, Nat.one_mul]; rfl) (fun y => by show win3_1.index t 1 * 1024 + 1 * (y 1).val = _; rw [e1, Nat.one_mul]; rfl)
  have b2 : IsR (a := 1024) (c := 1408) (φ := .bf16) (iblk3 V c 2 t) _ := hh.blk (((cfg3.win 2).blk t).view.emb) (u * 1024) (v * 1408)
    (fun y => by show win3_2.index t 0 * 1024 + 1 * (y 0).val = _; rw [e2, Nat.one_mul]; rfl) (fun y => by show win3_2.index t 1 * 1408 + 1 * (y 1).val = _; rw [e2, Nat.one_mul]; rfl)
  have b3 : IsR (a := 1024) (c := 1408) (φ := .bf16) (iblk3 V c 3 t) _ := he.blk (((cfg3.win 3).blk t).view.emb) (u * 1024) (v * 1408)
    (fun y => by show win3_3.index t 0 * 1024 + 1 * (y 0).val = _; rw [e3, Nat.one_mul]; rfl) (fun y => by show win3_3.index t 1 * 1408 + 1 * (y 1).val = _; rw [e3, Nat.one_mul]; rfl)
  refine ⟨((cfg3.win 4).blk t).view.emb, (fun y => by show win3_4.index t 0 * 1024 + 1 * (y 0).val = _; rw [e4, Nat.one_mul]; rfl), (fun y => by show win3_4.index t 1 * 1408 + 1 * (y 1).val = _; rw [e4, Nat.one_mul]; rfl), ?_⟩
  have hX : (fun y => (dat3 V c).arrAt 4 cfg3.N (((cfg3.win 4).blk t).view.emb y)) = out3_4 (iblk3 V c 0 t) (iblk3 V c 1 t) (iblk3 V c 2 t) (iblk3 V c 3 t) := by
    refine ((dat3 V c).read_blk_arrAt_eq_flushed 4 (fun t t' _ _ hne => (cfg3.win 4).disjoint_blk fun h => hne (inj3_4 t t' h)) cfg3.N t t.isLt (flush3_4 t)).trans ?_
    show (cfg3.win 4).cut (grid3.coords t) ((dat3 V c).after 4 t) = _
    rw [after3_4]
    rfl
  refine IsR.of_eq ?_ hX
  unfold out3_4
  rw [View.canon_unit_zero zz]
  simp only [View.ld_unit_zero (S := S1024x1024) zz, View.ld_unit_zero (S := S1024x1408) zz, View.ld_unit_zero (S := S1408x1024) zz]
  exact (pay3_4 b0 b1 b2 b3).congrR fun r k => by simp only [Nat.zero_mul, Nat.zero_add]

theorem inj3_5 : ∀ t t' : Fin grid3.N, win3_5.index t = win3_5.index t' → t = t' := by decide +kernel

/-- Region 3: the array of window 5 after the region. -/
theorem array3_5 {f g h : ℕ → ℕ → ℝ} (hf : IsR (a := 2048) (c := 1024) (φ := .bf16) (V c main_v1) f) (hg : IsR (a := 2816) (c := 1024) (φ := .bf16) (V c main_v6) g) (hh : IsR (a := 2048) (c := 2816) (φ := .bf16) (V c main_v7) h) :
    IsR (a := 2048) (c := 2816) (φ := .bf16) ((dat3 V c).arrAt 5 cfg3.N) (fun r k => (∑ l ∈ range 1024, f r l * g k l) * (h r k * sgm (h r k))) := by
  refine IsR.ofBlocks 1024 1408 (by decide) (by decide) fun u v hu hv => ?_
  obtain ⟨t, e0, e1, e2, e3, e4, e5⟩ := tile3 u (by omega) v (by omega)
  have b0 : IsR (a := 1024) (c := 1024) (φ := .bf16) (iblk3 V c 0 t) _ := hf.blk (((cfg3.win 0).blk t).view.emb) (u * 1024) (0 * 1024)
    (fun y => by show win3_0.index t 0 * 1024 + 1 * (y 0).val = _; rw [e0, Nat.one_mul]; rfl) (fun y => by show win3_0.index t 1 * 1024 + 1 * (y 1).val = _; rw [e0, Nat.one_mul]; rfl)
  have b1 : IsR (a := 1408) (c := 1024) (φ := .bf16) (iblk3 V c 1 t) _ := hg.blk (((cfg3.win 1).blk t).view.emb) (v * 1408) (0 * 1024)
    (fun y => by show win3_1.index t 0 * 1408 + 1 * (y 0).val = _; rw [e1, Nat.one_mul]; rfl) (fun y => by show win3_1.index t 1 * 1024 + 1 * (y 1).val = _; rw [e1, Nat.one_mul]; rfl)
  have b2 : IsR (a := 1024) (c := 1408) (φ := .bf16) (iblk3 V c 2 t) _ := hh.blk (((cfg3.win 2).blk t).view.emb) (u * 1024) (v * 1408)
    (fun y => by show win3_2.index t 0 * 1024 + 1 * (y 0).val = _; rw [e2, Nat.one_mul]; rfl) (fun y => by show win3_2.index t 1 * 1408 + 1 * (y 1).val = _; rw [e2, Nat.one_mul]; rfl)
  refine ⟨((cfg3.win 5).blk t).view.emb, (fun y => by show win3_5.index t 0 * 1024 + 1 * (y 0).val = _; rw [e5, Nat.one_mul]; rfl), (fun y => by show win3_5.index t 1 * 1408 + 1 * (y 1).val = _; rw [e5, Nat.one_mul]; rfl), ?_⟩
  have hX : (fun y => (dat3 V c).arrAt 5 cfg3.N (((cfg3.win 5).blk t).view.emb y)) = out3_5 (iblk3 V c 0 t) (iblk3 V c 1 t) (iblk3 V c 2 t) (iblk3 V c 3 t) := by
    refine ((dat3 V c).read_blk_arrAt_eq_flushed 5 (fun t t' _ _ hne => (cfg3.win 5).disjoint_blk fun h => hne (inj3_5 t t' h)) cfg3.N t t.isLt (flush3_5 t)).trans ?_
    show (cfg3.win 5).cut (grid3.coords t) ((dat3 V c).after 5 t) = _
    rw [after3_5]
    rfl
  refine IsR.of_eq ?_ hX
  unfold out3_5
  rw [View.canon_unit_zero zz]
  simp only [View.ld_unit_zero (S := S1024x1024) zz, View.ld_unit_zero (S := S1024x1408) zz, View.ld_unit_zero (S := S1408x1024) zz]
  exact (pay3_5 b0 b1 b2).congrR fun r k => by simp only [Nat.zero_mul, Nat.zero_add]

/-- Region 4: every pair of blocks has its grid point. -/
theorem tile4 : ∀ u < 2, ∀ v < 1, ∃ t : Fin grid4.N, win4_0.index t = ![0, u] ∧ win4_1.index t = ![0, 0] ∧ win4_2.index t = ![u, v] := by decide +kernel

theorem inj4_2 : ∀ t t' : Fin grid4.N, win4_2.index t = win4_2.index t' → t = t' := by decide +kernel

/-- Region 4: the array of window 2 after the region. -/
theorem array4_2 {f g : ℕ → ℕ → ℝ} (hf : IsR (a := 2048) (c := 2816) (φ := .bf16) (V c main_v8_1) f) (hg : IsR (a := 2048) (c := 1024) (φ := .bf16) (V c main_v1) g) :
    IsR (a := 2816) (c := 1024) (φ := .bf16) ((dat4 V c).arrAt 2 cfg4.N) (fun r k => ∑ l ∈ range 2048, f l r * g l k) := by
  refine IsR.ofBlocks 1408 1024 (by decide) (by decide) fun u v hu hv => ?_
  obtain rfl : v = 0 := by omega
  obtain ⟨t, e0, e1, e2⟩ := tile4 u (by omega) 0 (by omega)
  have b0 : IsR (a := 2048) (c := 1408) (φ := .bf16) (iblk4 V c 0 t) _ := hf.blk (((cfg4.win 0).blk t).view.emb) (0 * 2048) (u * 1408)
    (fun y => by show win4_0.index t 0 * 2048 + 1 * (y 0).val = _; rw [e0, Nat.one_mul]; rfl) (fun y => by show win4_0.index t 1 * 1408 + 1 * (y 1).val = _; rw [e0, Nat.one_mul]; rfl)
  have b1 : IsR (a := 2048) (c := 1024) (φ := .bf16) (iblk4 V c 1 t) _ := hg.blk (((cfg4.win 1).blk t).view.emb) (0 * 2048) (0 * 1024)
    (fun y => by show win4_1.index t 0 * 2048 + 1 * (y 0).val = _; rw [e1, Nat.one_mul]; rfl) (fun y => by show win4_1.index t 1 * 1024 + 1 * (y 1).val = _; rw [e1, Nat.one_mul]; rfl)
  refine ⟨((cfg4.win 2).blk t).view.emb, (fun y => by show win4_2.index t 0 * 1408 + 1 * (y 0).val = _; rw [e2, Nat.one_mul]; rfl), (fun y => by show win4_2.index t 1 * 1024 + 1 * (y 1).val = _; rw [e2, Nat.one_mul]; rfl), ?_⟩
  have hX : (fun y => (dat4 V c).arrAt 2 cfg4.N (((cfg4.win 2).blk t).view.emb y)) = out4_2 (iblk4 V c 0 t) (iblk4 V c 1 t) := by
    refine ((dat4 V c).read_blk_arrAt_eq_flushed 2 (fun t t' _ _ hne => (cfg4.win 2).disjoint_blk fun h => hne (inj4_2 t t' h)) cfg4.N t t.isLt (flush4_2 t)).trans ?_
    show (cfg4.win 2).cut (grid4.coords t) ((dat4 V c).after 2 t) = _
    rw [after4_2]
    rfl
  refine IsR.of_eq ?_ hX
  unfold out4_2
  rw [View.canon_unit_zero zz]
  simp only [View.ld_unit_zero (S := S2048x1024) zz, View.ld_unit_zero (S := S2048x1408) zz]
  exact (pay4_1 b0 b1).congrR fun r k => by simp only [Nat.zero_mul, Nat.zero_add]

set_option synthInstance.maxSize 512 in
/-- Region 5: every pair of blocks has its grid point. -/
theorem tile5 : ∀ u < 4, ∀ v < 1, ∃ t : Fin grid5.N, win5_0.index t = ![u, 0] ∧ win5_1.index t = ![0, 0] ∧ win5_2.index t = ![u, 0] ∧ win5_3.index t = ![u, v] := by decide +kernel

theorem inj5_3 : ∀ t t' : Fin grid5.N, win5_3.index t = win5_3.index t' → t = t' := by decide +kernel

/-- Region 5: the array of window 3 after the region. -/
theorem array5_3 {f g h : ℕ → ℕ → ℝ} (hf : IsR (a := 2048) (c := 2816) (φ := .bf16) (V c main_v10_0) f) (hg : IsR (a := 2816) (c := 1024) (φ := .bf16) (V c main_v3) g) (hh : IsR (a := 2048) (c := 1024) (φ := .f32) (V c main_v13) h) :
    IsR (a := 2048) (c := 1024) (φ := .f32) ((dat5 V c).arrAt 3 cfg5.N) (fun r k => (∑ l ∈ range 2816, f r l * g l k) + h r k) := by
  refine IsR.ofBlocks 512 1024 (by decide) (by decide) fun u v hu hv => ?_
  obtain rfl : v = 0 := by omega
  obtain ⟨t, e0, e1, e2, e3⟩ := tile5 u (by omega) 0 (by omega)
  have b0 : IsR (a := 512) (c := 2816) (φ := .bf16) (iblk5 V c 0 t) _ := hf.blk (((cfg5.win 0).blk t).view.emb) (u * 512) (0 * 2816)
    (fun y => by show win5_0.index t 0 * 512 + 1 * (y 0).val = _; rw [e0, Nat.one_mul]; rfl) (fun y => by show win5_0.index t 1 * 2816 + 1 * (y 1).val = _; rw [e0, Nat.one_mul]; rfl)
  have b1 : IsR (a := 2816) (c := 1024) (φ := .bf16) (iblk5 V c 1 t) _ := hg.blk (((cfg5.win 1).blk t).view.emb) (0 * 2816) (0 * 1024)
    (fun y => by show win5_1.index t 0 * 2816 + 1 * (y 0).val = _; rw [e1, Nat.one_mul]; rfl) (fun y => by show win5_1.index t 1 * 1024 + 1 * (y 1).val = _; rw [e1, Nat.one_mul]; rfl)
  have b2 : IsR (a := 512) (c := 1024) (φ := .f32) (iblk5 V c 2 t) _ := hh.blk (((cfg5.win 2).blk t).view.emb) (u * 512) (0 * 1024)
    (fun y => by show win5_2.index t 0 * 512 + 1 * (y 0).val = _; rw [e2, Nat.one_mul]; rfl) (fun y => by show win5_2.index t 1 * 1024 + 1 * (y 1).val = _; rw [e2, Nat.one_mul]; rfl)
  refine ⟨((cfg5.win 3).blk t).view.emb, (fun y => by show win5_3.index t 0 * 512 + 1 * (y 0).val = _; rw [e3, Nat.one_mul]; rfl), (fun y => by show win5_3.index t 1 * 1024 + 1 * (y 1).val = _; rw [e3, Nat.one_mul]; rfl), ?_⟩
  have hX : (fun y => (dat5 V c).arrAt 3 cfg5.N (((cfg5.win 3).blk t).view.emb y)) = out5_3 (iblk5 V c 0 t) (iblk5 V c 1 t) (iblk5 V c 2 t) := by
    refine ((dat5 V c).read_blk_arrAt_eq_flushed 3 (fun t t' _ _ hne => (cfg5.win 3).disjoint_blk fun h => hne (inj5_3 t t' h)) cfg5.N t t.isLt (flush5_3 t)).trans ?_
    show (cfg5.win 3).cut (grid5.coords t) ((dat5 V c).after 3 t) = _
    rw [after5_3]
    rfl
  refine IsR.of_eq ?_ hX
  unfold out5_3
  rw [View.canon_unit_zero zz]
  simp only [View.ld_unit_zero (S := S2816x1024) zz, View.ld_unit_zero (S := S512x1024) zz, View.ld_unit_zero (S := S512x2816) zz]
  exact (pay5_1 b0 b1 b2).congrR fun r k => by simp only [Nat.zero_mul, Nat.zero_add]

set_option synthInstance.maxSize 512 in
/-- Region 6: every pair of blocks has its grid point. -/
theorem tile6 : ∀ u < 4, ∀ v < 1, ∃ t : Fin grid6.N, win6_0.index t = ![u, 0] ∧ win6_1.index t = ![0, 0] ∧ win6_2.index t = ![u, 0] ∧ win6_3.index t = ![u, v] := by decide +kernel

theorem inj6_3 : ∀ t t' : Fin grid6.N, win6_3.index t = win6_3.index t' → t = t' := by decide +kernel

/-- Region 6: the array of window 3 after the region. -/
theorem array6_3 {f g h : ℕ → ℕ → ℝ} (hf : IsR (a := 2048) (c := 2816) (φ := .bf16) (V c main_v10_1) f) (hg : IsR (a := 2816) (c := 1024) (φ := .bf16) (V c main_v5) g) (hh : IsR (a := 2048) (c := 1024) (φ := .f32) (V c main_v14) h) :
    IsR (a := 2048) (c := 1024) (φ := .f32) ((dat6 V c).arrAt 3 cfg6.N) (fun r k => (∑ l ∈ range 2816, f r l * g l k) + h r k) := by
  refine IsR.ofBlocks 512 1024 (by decide) (by decide) fun u v hu hv => ?_
  obtain rfl : v = 0 := by omega
  obtain ⟨t, e0, e1, e2, e3⟩ := tile6 u (by omega) 0 (by omega)
  have b0 : IsR (a := 512) (c := 2816) (φ := .bf16) (iblk6 V c 0 t) _ := hf.blk (((cfg6.win 0).blk t).view.emb) (u * 512) (0 * 2816)
    (fun y => by show win6_0.index t 0 * 512 + 1 * (y 0).val = _; rw [e0, Nat.one_mul]; rfl) (fun y => by show win6_0.index t 1 * 2816 + 1 * (y 1).val = _; rw [e0, Nat.one_mul]; rfl)
  have b1 : IsR (a := 2816) (c := 1024) (φ := .bf16) (iblk6 V c 1 t) _ := hg.blk (((cfg6.win 1).blk t).view.emb) (0 * 2816) (0 * 1024)
    (fun y => by show win6_1.index t 0 * 2816 + 1 * (y 0).val = _; rw [e1, Nat.one_mul]; rfl) (fun y => by show win6_1.index t 1 * 1024 + 1 * (y 1).val = _; rw [e1, Nat.one_mul]; rfl)
  have b2 : IsR (a := 512) (c := 1024) (φ := .f32) (iblk6 V c 2 t) _ := hh.blk (((cfg6.win 2).blk t).view.emb) (u * 512) (0 * 1024)
    (fun y => by show win6_2.index t 0 * 512 + 1 * (y 0).val = _; rw [e2, Nat.one_mul]; rfl) (fun y => by show win6_2.index t 1 * 1024 + 1 * (y 1).val = _; rw [e2, Nat.one_mul]; rfl)
  refine ⟨((cfg6.win 3).blk t).view.emb, (fun y => by show win6_3.index t 0 * 512 + 1 * (y 0).val = _; rw [e3, Nat.one_mul]; rfl), (fun y => by show win6_3.index t 1 * 1024 + 1 * (y 1).val = _; rw [e3, Nat.one_mul]; rfl), ?_⟩
  have hX : (fun y => (dat6 V c).arrAt 3 cfg6.N (((cfg6.win 3).blk t).view.emb y)) = out6_3 (iblk6 V c 0 t) (iblk6 V c 1 t) (iblk6 V c 2 t) := by
    refine ((dat6 V c).read_blk_arrAt_eq_flushed 3 (fun t t' _ _ hne => (cfg6.win 3).disjoint_blk fun h => hne (inj6_3 t t' h)) cfg6.N t t.isLt (flush6_3 t)).trans ?_
    show (cfg6.win 3).cut (grid6.coords t) ((dat6 V c).after 3 t) = _
    rw [after6_3]
    rfl
  refine IsR.of_eq ?_ hX
  unfold out6_3
  rw [View.canon_unit_zero zz]
  simp only [View.ld_unit_zero (S := S2816x1024) zz, View.ld_unit_zero (S := S512x1024) zz, View.ld_unit_zero (S := S512x2816) zz]
  exact (pay6_1 b0 b1 b2).congrR fun r k => by simp only [Nat.zero_mul, Nat.zero_add]

/-- Region 7: every pair of blocks has its grid point. -/
theorem tile7 : ∀ u < 2, ∀ v < 1, ∃ t : Fin grid7.N, win7_0.index t = ![0, u] ∧ win7_1.index t = ![0, 0] ∧ win7_2.index t = ![u, v] := by decide +kernel

theorem inj7_2 : ∀ t t' : Fin grid7.N, win7_2.index t = win7_2.index t' → t = t' := by decide +kernel

/-- Region 7: the array of window 2 after the region. -/
theorem array7_2 {f g : ℕ → ℕ → ℝ} (hf : IsR (a := 2048) (c := 2816) (φ := .bf16) (V c main_v10_0) f) (hg : IsR (a := 2048) (c := 1024) (φ := .bf16) (V c main_v0) g) :
    IsR (a := 2816) (c := 1024) (φ := .bf16) ((dat7 V c).arrAt 2 cfg7.N) (fun r k => ∑ l ∈ range 2048, f l r * g l k) := by
  refine IsR.ofBlocks 1408 1024 (by decide) (by decide) fun u v hu hv => ?_
  obtain rfl : v = 0 := by omega
  obtain ⟨t, e0, e1, e2⟩ := tile7 u (by omega) 0 (by omega)
  have b0 : IsR (a := 2048) (c := 1408) (φ := .bf16) (iblk7 V c 0 t) _ := hf.blk (((cfg7.win 0).blk t).view.emb) (0 * 2048) (u * 1408)
    (fun y => by show win7_0.index t 0 * 2048 + 1 * (y 0).val = _; rw [e0, Nat.one_mul]; rfl) (fun y => by show win7_0.index t 1 * 1408 + 1 * (y 1).val = _; rw [e0, Nat.one_mul]; rfl)
  have b1 : IsR (a := 2048) (c := 1024) (φ := .bf16) (iblk7 V c 1 t) _ := hg.blk (((cfg7.win 1).blk t).view.emb) (0 * 2048) (0 * 1024)
    (fun y => by show win7_1.index t 0 * 2048 + 1 * (y 0).val = _; rw [e1, Nat.one_mul]; rfl) (fun y => by show win7_1.index t 1 * 1024 + 1 * (y 1).val = _; rw [e1, Nat.one_mul]; rfl)
  refine ⟨((cfg7.win 2).blk t).view.emb, (fun y => by show win7_2.index t 0 * 1408 + 1 * (y 0).val = _; rw [e2, Nat.one_mul]; rfl), (fun y => by show win7_2.index t 1 * 1024 + 1 * (y 1).val = _; rw [e2, Nat.one_mul]; rfl), ?_⟩
  have hX : (fun y => (dat7 V c).arrAt 2 cfg7.N (((cfg7.win 2).blk t).view.emb y)) = out7_2 (iblk7 V c 0 t) (iblk7 V c 1 t) := by
    refine ((dat7 V c).read_blk_arrAt_eq_flushed 2 (fun t t' _ _ hne => (cfg7.win 2).disjoint_blk fun h => hne (inj7_2 t t' h)) cfg7.N t t.isLt (flush7_2 t)).trans ?_
    show (cfg7.win 2).cut (grid7.coords t) ((dat7 V c).after 2 t) = _
    rw [after7_2]
    rfl
  refine IsR.of_eq ?_ hX
  unfold out7_2
  rw [View.canon_unit_zero zz]
  simp only [View.ld_unit_zero (S := S2048x1024) zz, View.ld_unit_zero (S := S2048x1408) zz]
  exact (pay7_1 b0 b1).congrR fun r k => by simp only [Nat.zero_mul, Nat.zero_add]

/-- Region 8: every pair of blocks has its grid point. -/
theorem tile8 : ∀ u < 2, ∀ v < 1, ∃ t : Fin grid8.N, win8_0.index t = ![0, u] ∧ win8_1.index t = ![0, 0] ∧ win8_2.index t = ![u, v] := by decide +kernel

theorem inj8_2 : ∀ t t' : Fin grid8.N, win8_2.index t = win8_2.index t' → t = t' := by decide +kernel

/-- Region 8: the array of window 2 after the region. -/
theorem array8_2 {f g : ℕ → ℕ → ℝ} (hf : IsR (a := 2048) (c := 2816) (φ := .bf16) (V c main_v10_1) f) (hg : IsR (a := 2048) (c := 1024) (φ := .bf16) (V c main_v0) g) :
    IsR (a := 2816) (c := 1024) (φ := .bf16) ((dat8 V c).arrAt 2 cfg8.N) (fun r k => ∑ l ∈ range 2048, f l r * g l k) := by
  refine IsR.ofBlocks 1408 1024 (by decide) (by decide) fun u v hu hv => ?_
  obtain rfl : v = 0 := by omega
  obtain ⟨t, e0, e1, e2⟩ := tile8 u (by omega) 0 (by omega)
  have b0 : IsR (a := 2048) (c := 1408) (φ := .bf16) (iblk8 V c 0 t) _ := hf.blk (((cfg8.win 0).blk t).view.emb) (0 * 2048) (u * 1408)
    (fun y => by show win8_0.index t 0 * 2048 + 1 * (y 0).val = _; rw [e0, Nat.one_mul]; rfl) (fun y => by show win8_0.index t 1 * 1408 + 1 * (y 1).val = _; rw [e0, Nat.one_mul]; rfl)
  have b1 : IsR (a := 2048) (c := 1024) (φ := .bf16) (iblk8 V c 1 t) _ := hg.blk (((cfg8.win 1).blk t).view.emb) (0 * 2048) (0 * 1024)
    (fun y => by show win8_1.index t 0 * 2048 + 1 * (y 0).val = _; rw [e1, Nat.one_mul]; rfl) (fun y => by show win8_1.index t 1 * 1024 + 1 * (y 1).val = _; rw [e1, Nat.one_mul]; rfl)
  refine ⟨((cfg8.win 2).blk t).view.emb, (fun y => by show win8_2.index t 0 * 1408 + 1 * (y 0).val = _; rw [e2, Nat.one_mul]; rfl), (fun y => by show win8_2.index t 1 * 1024 + 1 * (y 1).val = _; rw [e2, Nat.one_mul]; rfl), ?_⟩
  have hX : (fun y => (dat8 V c).arrAt 2 cfg8.N (((cfg8.win 2).blk t).view.emb y)) = out8_2 (iblk8 V c 0 t) (iblk8 V c 1 t) := by
    refine ((dat8 V c).read_blk_arrAt_eq_flushed 2 (fun t t' _ _ hne => (cfg8.win 2).disjoint_blk fun h => hne (inj8_2 t t' h)) cfg8.N t t.isLt (flush8_2 t)).trans ?_
    show (cfg8.win 2).cut (grid8.coords t) ((dat8 V c).after 2 t) = _
    rw [after8_2]
    rfl
  refine IsR.of_eq ?_ hX
  unfold out8_2
  rw [View.canon_unit_zero zz]
  simp only [View.ld_unit_zero (S := S2048x1024) zz, View.ld_unit_zero (S := S2048x1408) zz]
  exact (pay8_1 b0 b1).congrR fun r k => by simp only [Nat.zero_mul, Nat.zero_add]

end Cert.Kernel2Ideal.Hand

end
-- ==== Proof.FfnChain.lean ====
/- The nine regions in a row, from the arguments' real entries to the five results. -/
module

public import proofs.«01_k».proof.Proof.FfnHolds
public import proofs.«01_k».proof.Proof.FfnRegions

@[expose] public section

set_option maxRecDepth 16384

noncomputable section

namespace Cert.Kernel2Ideal.Hand

open Idealize.ShloMosaic Idealize.ShloMosaic.ValueIdx Idealize.ShloMosaic.TcCoe Cert.Attn Cert.Kernel2Ideal Cert.Kernel2Ideal.Gen Idealize.SL.Sem Finset

variable {m : (ℓ : Loc nD τ sig) → Buf (Elt Ideal) ℓ} {c : Dev nD} {A : Ffn}
  (H : Holds5 A (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
  (ρ : Dev nD → PrngReg)
include H

/-- The input, narrowed. -/
theorem a_v0 : IsR (a := 2048) (c := 1024) (φ := .bf16) (W1 m ρ c (Proc.devRef .tc main_v0)) (A.H) := by
  have e : W1 m ρ c (Proc.devRef .tc main_v0) = truncf (F := Ideal) (s := S2048x1024) (φ := .f32) .bf16 (m ((c.tc : Thread nD τ).loc main_arg0)) bitsLt_bf16_f32 := by
    show StableHlo.after hostOps0 (W0 m ρ c) _ = _
    simp only [hostOps0]
    after_results_simp
  exact IsR.of_eq (H.h.isR.trunc _) e

/-- The cotangent, narrowed. -/
theorem a_v1 : IsR (a := 2048) (c := 1024) (φ := .bf16) (W1 m ρ c (Proc.devRef .tc main_v1)) (A.C) := by
  have e : W1 m ρ c (Proc.devRef .tc main_v1) = truncf (F := Ideal) (s := S2048x1024) (φ := .f32) .bf16 (m ((c.tc : Thread nD τ).loc main_arg4)) bitsLt_bf16_f32 := by
    show StableHlo.after hostOps0 (W0 m ρ c) _ = _
    simp only [hostOps0]
    after_results_simp
  exact IsR.of_eq (H.ct.isR.trunc _) e

/-- The gate's weights, transposed and narrowed. -/
theorem a_v3 : IsR (a := 2816) (c := 1024) (φ := .bf16) (W1 m ρ c (Proc.devRef .tc main_v3)) (fun r k => A.Wg k r) := by
  have e : W1 m ρ c (Proc.devRef .tc main_v3) = truncf (F := Ideal) (s := S2816x1024) (φ := .f32) .bf16 (transpose S2816x1024 [1, 0] (m ((c.tc : Thread nD τ).loc main_arg1)) transposes_S1024x2816_S2816x1024_1_0) bitsLt_bf16_f32 := by
    show StableHlo.after hostOps0 (W0 m ρ c) _ = _
    simp only [hostOps0]
    after_results_simp
  exact IsR.of_eq ((H.wg.isRt _).trunc _) e

/-- The other factor's. -/
theorem a_v5 : IsR (a := 2816) (c := 1024) (φ := .bf16) (W1 m ρ c (Proc.devRef .tc main_v5)) (fun r k => A.Wu k r) := by
  have e : W1 m ρ c (Proc.devRef .tc main_v5) = truncf (F := Ideal) (s := S2816x1024) (φ := .f32) .bf16 (transpose S2816x1024 [1, 0] (m ((c.tc : Thread nD τ).loc main_arg2)) transposes_S1024x2816_S2816x1024_1_0) bitsLt_bf16_f32 := by
    show StableHlo.after hostOps0 (W0 m ρ c) _ = _
    simp only [hostOps0]
    after_results_simp
  exact IsR.of_eq ((H.wu.isRt _).trunc _) e

/-- The last product's weights, narrowed. -/
theorem a_v6 : IsR (a := 2816) (c := 1024) (φ := .bf16) (W1 m ρ c (Proc.devRef .tc main_v6)) (A.Wd) := by
  have e : W1 m ρ c (Proc.devRef .tc main_v6) = truncf (F := Ideal) (s := S2816x1024) (φ := .f32) .bf16 (m ((c.tc : Thread nD τ).loc main_arg3)) bitsLt_bf16_f32 := by
    show StableHlo.after hostOps0 (W0 m ρ c) _ = _
    simp only [hostOps0]
    after_results_simp
  exact IsR.of_eq (H.wd.isR.trunc _) e

/-- Region 0: the gate before the logistic function. -/
theorem a_v7 : IsR (a := 2048) (c := 2816) (φ := .bf16) (W2 m ρ c (Proc.devRef .tc main_v7)) (A.G) := by
  have h := array0_2 (V1 m ρ) c (a_v0 H ρ) (a_v3 H ρ)
  exact (IsR.of_eq h (W2_arr m ρ c 2)).congr fun r _ k _ => rfl

/-- Region 1: the other factor and the gated product. -/
theorem a_v8_0 : IsR (a := 2048) (c := 2816) (φ := .bf16) (W3 m ρ c (Proc.devRef .tc main_v8_0)) (A.U) := by
  have h := array1_3 (V2 m ρ) c ((a_v0 H ρ).of_eq (W2_of m ρ c main_v0 (by decide))) ((a_v5 H ρ).of_eq (W2_of m ρ c main_v5 (by decide)))
  exact (IsR.of_eq h (W3_arr m ρ c 3)).congr fun r _ k _ => rfl

/-- Region 1: the other factor and the gated product. -/
theorem a_v8_1 : IsR (a := 2048) (c := 2816) (φ := .bf16) (W3 m ρ c (Proc.devRef .tc main_v8_1)) (A.Act) := by
  have h := array1_4 (V2 m ρ) c ((a_v0 H ρ).of_eq (W2_of m ρ c main_v0 (by decide))) ((a_v5 H ρ).of_eq (W2_of m ρ c main_v5 (by decide))) (a_v7 H ρ)
  exact (IsR.of_eq h (W3_arr m ρ c 4)).congr fun r _ k _ => rfl

/-- Region 2: the block's output. -/
theorem a_v9 : IsR (a := 2048) (c := 1024) (φ := .f32) (W4 m ρ c (Proc.devRef .tc main_v9)) (A.F) := by
  have h := array2_2 (V3 m ρ) c (a_v8_1 H ρ) ((a_v6 H ρ).of_eq ((W3_of m ρ c main_v6 (by decide)).trans (W2_of m ρ c main_v6 (by decide))))
  exact (IsR.of_eq h (W4_arr m ρ c 2)).congr fun r _ k _ => rfl

/-- Region 3: the derivatives of the gate and of the other factor. -/
theorem a_v10_0 : IsR (a := 2048) (c := 2816) (φ := .bf16) (W5 m ρ c (Proc.devRef .tc main_v10_0)) (A.dG) := by
  have h := array3_4 (V4 m ρ) c ((a_v1 H ρ).of_eq (((W4_of m ρ c main_v1 (by decide)).trans (W3_of m ρ c main_v1 (by decide))).trans (W2_of m ρ c main_v1 (by decide)))) ((a_v6 H ρ).of_eq (((W4_of m ρ c main_v6 (by decide)).trans (W3_of m ρ c main_v6 (by decide))).trans (W2_of m ρ c main_v6 (by decide)))) ((a_v7 H ρ).of_eq ((W4_of m ρ c main_v7 (by decide)).trans (W3_of m ρ c main_v7 (by decide)))) ((a_v8_0 H ρ).of_eq (W4_of m ρ c main_v8_0 (by decide)))
  exact (IsR.of_eq h (W5_arr m ρ c 4)).congr fun r _ k _ => rfl

/-- Region 3: the derivatives of the gate and of the other factor. -/
theorem a_v10_1 : IsR (a := 2048) (c := 2816) (φ := .bf16) (W5 m ρ c (Proc.devRef .tc main_v10_1)) (A.dU) := by
  have h := array3_5 (V4 m ρ) c ((a_v1 H ρ).of_eq (((W4_of m ρ c main_v1 (by decide)).trans (W3_of m ρ c main_v1 (by decide))).trans (W2_of m ρ c main_v1 (by decide)))) ((a_v6 H ρ).of_eq (((W4_of m ρ c main_v6 (by decide)).trans (W3_of m ρ c main_v6 (by decide))).trans (W2_of m ρ c main_v6 (by decide)))) ((a_v7 H ρ).of_eq ((W4_of m ρ c main_v7 (by decide)).trans (W3_of m ρ c main_v7 (by decide))))
  exact (IsR.of_eq h (W5_arr m ρ c 5)).congr fun r _ k _ => rfl

/-- Region 4: the last weights' derivative. -/
theorem a_v11 : IsR (a := 2816) (c := 1024) (φ := .bf16) (W6 m ρ c (Proc.devRef .tc main_v11)) (A.gDown) := by
  have h := array4_2 (V5 m ρ) c ((a_v8_1 H ρ).of_eq ((W5_of m ρ c main_v8_1 (by decide)).trans (W4_of m ρ c main_v8_1 (by decide)))) ((a_v1 H ρ).of_eq ((((W5_of m ρ c main_v1 (by decide)).trans (W4_of m ρ c main_v1 (by decide))).trans (W3_of m ρ c main_v1 (by decide))).trans (W2_of m ρ c main_v1 (by decide))))
  exact (IsR.of_eq h (W6_arr m ρ c 2)).congr fun r _ k _ => rfl

/-- The cotangent through the direct path. -/
theorem a_v13 : IsR (a := 2048) (c := 1024) (φ := .f32) (W7 m ρ c (Proc.devRef .tc main_v13)) (fun r k => A.al * A.C r k) := by
  generalize hσ : W6 m ρ c = σ
  have e4 : σ (Proc.devRef .tc main_arg4) = (m ((c.tc : Thread nD τ).loc main_arg4)) := by
    subst hσ
    exact W6_args m ρ c main_arg4 (by decide)
  have e : StableHlo.after hostOps5 σ (Proc.devRef .tc main_v13) = mulf (F := Ideal) (s := S2048x1024) (φ := .f32) (broadcastInDim S2048x1024 ![] bcast_S_S2048x1024 (constant (F := Ideal) S_ .f32 0x3F9837F0#32)) (m ((c.tc : Thread nD τ).loc main_arg4)) := by
    clear hσ
    simp only [hostOps5]
    after_results_simp
    rw [e4]
  subst hσ
  exact IsR.of_eq ((IsR.hsplat (H.al ▸ ofBits_al) _).mul H.ct.isR) e

/-- Region 5: the input's derivative through the gate. -/
theorem a_v14 : IsR (a := 2048) (c := 1024) (φ := .f32) (W8 m ρ c (Proc.devRef .tc main_v14)) (fun r k => (∑ l ∈ range 2816, A.dG r l * A.Wg k l) + A.al * A.C r k) := by
  have h := array5_3 (V7 m ρ) c ((a_v10_0 H ρ).of_eq ((W7_of m ρ c main_v10_0 (by decide)).trans (W6_of m ρ c main_v10_0 (by decide)))) ((a_v3 H ρ).of_eq ((((((W7_of m ρ c main_v3 (by decide)).trans (W6_of m ρ c main_v3 (by decide))).trans (W5_of m ρ c main_v3 (by decide))).trans (W4_of m ρ c main_v3 (by decide))).trans (W3_of m ρ c main_v3 (by decide))).trans (W2_of m ρ c main_v3 (by decide)))) (a_v13 H ρ)
  exact (IsR.of_eq h (W8_arr m ρ c 3)).congr fun r _ k _ => rfl

/-- Region 6: the input's derivative. -/
theorem a_v15 : IsR (a := 2048) (c := 1024) (φ := .f32) (W9 m ρ c (Proc.devRef .tc main_v15)) (A.dH) := by
  have h := array6_3 (V8 m ρ) c ((a_v10_1 H ρ).of_eq (((W8_of m ρ c main_v10_1 (by decide)).trans (W7_of m ρ c main_v10_1 (by decide))).trans (W6_of m ρ c main_v10_1 (by decide)))) ((a_v5 H ρ).of_eq (((((((W8_of m ρ c main_v5 (by decide)).trans (W7_of m ρ c main_v5 (by decide))).trans (W6_of m ρ c main_v5 (by decide))).trans (W5_of m ρ c main_v5 (by decide))).trans (W4_of m ρ c main_v5 (by decide))).trans (W3_of m ρ c main_v5 (by decide))).trans (W2_of m ρ c main_v5 (by decide)))) (a_v14 H ρ)
  exact (IsR.of_eq h (W9_arr m ρ c 3)).congr fun r _ k _ => by rw [Ffn.dH]

/-- Region 7: the gate's weights' derivative. -/
theorem a_v16 : IsR (a := 2816) (c := 1024) (φ := .bf16) (W10 m ρ c (Proc.devRef .tc main_v16)) (A.gGate) := by
  have h := array7_2 (V9 m ρ) c ((a_v10_0 H ρ).of_eq ((((W9_of m ρ c main_v10_0 (by decide)).trans (W8_of m ρ c main_v10_0 (by decide))).trans (W7_of m ρ c main_v10_0 (by decide))).trans (W6_of m ρ c main_v10_0 (by decide)))) ((a_v0 H ρ).of_eq ((((((((W9_of m ρ c main_v0 (by decide)).trans (W8_of m ρ c main_v0 (by decide))).trans (W7_of m ρ c main_v0 (by decide))).trans (W6_of m ρ c main_v0 (by decide))).trans (W5_of m ρ c main_v0 (by decide))).trans (W4_of m ρ c main_v0 (by decide))).trans (W3_of m ρ c main_v0 (by decide))).trans (W2_of m ρ c main_v0 (by decide))))
  exact (IsR.of_eq h (W10_arr m ρ c 2)).congr fun r _ k _ => rfl

/-- Region 8: the other factor's weights' derivative. -/
theorem a_v17 : IsR (a := 2816) (c := 1024) (φ := .bf16) (W11 m ρ c (Proc.devRef .tc main_v17)) (A.gUp) := by
  have h := array8_2 (V10 m ρ) c ((a_v10_1 H ρ).of_eq (((((W10_of m ρ c main_v10_1 (by decide)).trans (W9_of m ρ c main_v10_1 (by decide))).trans (W8_of m ρ c main_v10_1 (by decide))).trans (W7_of m ρ c main_v10_1 (by decide))).trans (W6_of m ρ c main_v10_1 (by decide)))) ((a_v0 H ρ).of_eq (((((((((W10_of m ρ c main_v0 (by decide)).trans (W9_of m ρ c main_v0 (by decide))).trans (W8_of m ρ c main_v0 (by decide))).trans (W7_of m ρ c main_v0 (by decide))).trans (W6_of m ρ c main_v0 (by decide))).trans (W5_of m ρ c main_v0 (by decide))).trans (W4_of m ρ c main_v0 (by decide))).trans (W3_of m ρ c main_v0 (by decide))).trans (W2_of m ρ c main_v0 (by decide))))
  exact (IsR.of_eq h (W11_arr m ρ c 2)).congr fun r _ k _ => rfl

/-- The block's output with the direct path. -/
theorem a_v20 : IsR (a := 2048) (c := 1024) (φ := .f32) (W12 m ρ c (Proc.devRef .tc main_v20)) (A.Out) := by
  have hF : IsR (a := 2048) (c := 1024) (φ := .f32) (W11 m ρ c (Proc.devRef .tc main_v9)) A.F := ((a_v9 H ρ).of_eq (((((((W11_of m ρ c main_v9 (by decide)).trans (W10_of m ρ c main_v9 (by decide))).trans (W9_of m ρ c main_v9 (by decide))).trans (W8_of m ρ c main_v9 (by decide))).trans (W7_of m ρ c main_v9 (by decide))).trans (W6_of m ρ c main_v9 (by decide))).trans (W5_of m ρ c main_v9 (by decide))))
  revert hF
  generalize hσ : W11 m ρ c = σ
  intro hF
  have e0 : σ (Proc.devRef .tc main_arg0) = (m ((c.tc : Thread nD τ).loc main_arg0)) := by
    subst hσ
    exact W11_args m ρ c main_arg0 (by decide)
  have e : StableHlo.after hostOps9 σ (Proc.devRef .tc main_v20) = addf (F := Ideal) (s := S2048x1024) (φ := .f32) (mulf (F := Ideal) (s := S2048x1024) (φ := .f32) (broadcastInDim S2048x1024 ![] bcast_S_S2048x1024 (constant (F := Ideal) S_ .f32 0x3F9837F0#32)) (m ((c.tc : Thread nD τ).loc main_arg0))) (σ (Proc.devRef .tc main_v9)) := by
    clear hσ hF
    simp only [hostOps9]
    after_results_simp
    rw [e0]
  subst hσ
  exact IsR.of_eq (((IsR.hsplat (H.al ▸ ofBits_al) _).mul H.h.isR).add hF) e

theorem fin_v20 : IsR (a := 2048) (c := 1024) (φ := .f32) (W12 m ρ c (Proc.devRef .tc main_v20)) (A.Out) :=
  (a_v20 H ρ)

theorem fin_v15 : IsR (a := 2048) (c := 1024) (φ := .f32) (W12 m ρ c (Proc.devRef .tc main_v15)) (A.dH) :=
  ((a_v15 H ρ).of_eq (((W12_of m ρ c main_v15 (by decide)).trans (W11_of m ρ c main_v15 (by decide))).trans (W10_of m ρ c main_v15 (by decide))))

theorem fin_v16 : IsR (a := 2816) (c := 1024) (φ := .bf16) (W12 m ρ c (Proc.devRef .tc main_v16)) (A.gGate) :=
  ((a_v16 H ρ).of_eq ((W12_of m ρ c main_v16 (by decide)).trans (W11_of m ρ c main_v16 (by decide))))

theorem fin_v17 : IsR (a := 2816) (c := 1024) (φ := .bf16) (W12 m ρ c (Proc.devRef .tc main_v17)) (A.gUp) :=
  ((a_v17 H ρ).of_eq (W12_of m ρ c main_v17 (by decide)))

theorem fin_v11 : IsR (a := 2816) (c := 1024) (φ := .bf16) (W12 m ρ c (Proc.devRef .tc main_v11)) (A.gDown) :=
  ((a_v11 H ρ).of_eq ((((((W12_of m ρ c main_v11 (by decide)).trans (W11_of m ρ c main_v11 (by decide))).trans (W10_of m ρ c main_v11 (by decide))).trans (W9_of m ρ c main_v11 (by decide))).trans (W8_of m ρ c main_v11 (by decide))).trans (W7_of m ρ c main_v11 (by decide))))

end Cert.Kernel2Ideal.Hand

end
-- ==== Proof.FfnRef.lean ====
/- The feed-forward block's reference at the reals: one operation at a time, from the two products to the five results. -/
module

public import proofs.«01_k».proof.Proof.FfnHolds
public import proofs.«01_k».proof.Proof.Gen.Reference2Ideal.Read

@[expose] public section

set_option maxRecDepth 16384

noncomputable section

namespace Cert.Reference2Ideal.Hand

open Idealize.ShloMosaic Idealize.ShloMosaic.ValueIdx Cert.Attn Cert.Reference2Ideal Cert.Reference2Ideal.Gen Cert.Reference2Ideal.Read Finset

variable {A : Ffn} {x0 : (⟨S2048x1024, .f32⟩ : BufTy).Contents (Elt Ideal)} {x1 x2 : (⟨S1024x2816, .f32⟩ : BufTy).Contents (Elt Ideal)}
    {x3 : (⟨S2816x1024, .f32⟩ : BufTy).Contents (Elt Ideal)} {x4 : (⟨S2048x1024, .f32⟩ : BufTy).Contents (Elt Ideal)} (H : Holds5 A x0 x1 x2 x3 x4)
include H

/-- The gate before the logistic function. -/
theorem v2_real : R2 (a := 2048) (b := 2816) (val_main_v2 (F := Ideal) x0 x1) A.G := fun i => by
  rw [val_main_v2_apply]
  exact sum_fin_coe _ (fun l => A.H (i 0).val l * A.Wg l (i 1).val) fun l => by rw [H.h, H.wg, EReal.coe_mul]

/-- Its logistic function, -/
theorem v3_2_real : R2 (a := 2048) (b := 2816) (val_main_v3_2 (F := Ideal) x0 x1) (fun r f => sgm (A.G r f)) := fun i => by
  show Ideal.div (Ideal.ofBits .f32 0x3F800000#32) (Ideal.ofBits .f32 0x3F800000#32 + Ideal.exp (-(val_main_v2 (F := Ideal) x0 x1 i))) = _
  rw [v2_real H i, ← EReal.coe_neg, exp_coe', ofBits_one, ← EReal.coe_add]
  exact div_coe_coe _ _ (one_add_exp_ne _)

/-- the derivative of that, -/
theorem v3_1_real : R2 (a := 2048) (b := 2816) (val_main_v3_1 (F := Ideal) x0 x1) (fun r f => sgm (A.G r f) * (1 - sgm (A.G r f))) := fun i => by
  show (val_main_v3_2 (F := Ideal) x0 x1 i) * (Ideal.ofBits .f32 0x3F800000#32 - val_main_v3_2 (F := Ideal) x0 x1 i) = _
  rw [v3_2_real H i, ofBits_one, ← EReal.coe_sub, ← EReal.coe_mul]

/-- and the gate. -/
theorem v3_0_real : R2 (a := 2048) (b := 2816) (val_main_v3_0 (F := Ideal) x0 x1) (fun r f => A.G r f * sgm (A.G r f)) := fun i => by
  show (val_main_v2 (F := Ideal) x0 x1 i) * (val_main_v3_2 (F := Ideal) x0 x1 i) = _
  rw [v2_real H i, v3_2_real H i, ← EReal.coe_mul]

/-- The other factor, -/
theorem v4_real : R2 (a := 2048) (b := 2816) (val_main_v4 (F := Ideal) x0 x2) A.U := fun i => by
  rw [val_main_v4_apply]
  exact sum_fin_coe _ (fun l => A.H (i 0).val l * A.Wu l (i 1).val) fun l => by rw [H.h, H.wu, EReal.coe_mul]

/-- and the gated product. -/
theorem v5_real : R2 (a := 2048) (b := 2816) (val_main_v5 (F := Ideal) x0 x1 x2) A.Act := fun i => by
  show (val_main_v3_0 (F := Ideal) x0 x1 i) * (val_main_v4 (F := Ideal) x0 x2 i) = _
  rw [v3_0_real H i, v4_real H i, ← EReal.coe_mul]
  rfl

/-- The block's output. -/
theorem v7_real : R2 (a := 2048) (b := 1024) (val_main_v7 (F := Ideal) x0 x1 x2 x3) A.Out := fun i => by
  have e : val_main_v6 (F := Ideal) x0 x1 x2 x3 i = ((A.F (i 0).val (i 1).val : ℝ) : EReal) := by
    rw [val_main_v6_apply]
    exact sum_fin_coe _ (fun l => A.Act (i 0).val l * A.Wd l (i 1).val) fun l => by rw [v5_real H, H.wd, EReal.coe_mul]
  rw [val_main_v7_apply, val_main_v1_apply, val_main_v0_apply, val_main_cst_apply, e, H.h i]
  show Ideal.ofBits .f32 0x3F9837F0#32 * _ + _ = _
  rw [ofBits_al, ← EReal.coe_mul, ← EReal.coe_add, ← H.al]
  rfl

/-- The cotangent. -/
theorem v9_real : R2 (a := 2048) (b := 1024) (val_main_v9 (F := Ideal) x4) A.C := fun i => by
  refine Eq.trans ?_ (H.ct i)
  show shapeCast S2048x1024 x4 _ i = _
  rw [shapeCast_same]

/-- The gated product's derivative, -/
theorem v12_real : R2 (a := 2048) (b := 2816) (val_main_v12 (F := Ideal) x3 x4) A.D := fun i => by
  rw [val_main_v12_apply]
  exact sum_fin_coe _ (fun l => A.C (i 0).val l * A.Wd (i 1).val l) fun l => by rw [v9_real H, H.wd, EReal.coe_mul]

/-- the other factor's, -/
theorem v13_real : R2 (a := 2048) (b := 2816) (val_main_v13 (F := Ideal) x0 x1 x3 x4) A.dU := fun i => by
  show (val_main_v3_0 (F := Ideal) x0 x1 i) * (val_main_v12 (F := Ideal) x3 x4 i) = _
  rw [v3_0_real H i, v12_real H i, ← EReal.coe_mul, mul_comm]
  rfl

/-- and the gate's. -/
theorem v18_real : R2 (a := 2048) (b := 2816) (val_main_v18 (F := Ideal) x0 x1 x2 x3 x4) A.dG := fun i => by
  have e : val_main_v14 (F := Ideal) x0 x2 x3 x4 i = ((A.D (i 0).val (i 1).val * A.U (i 0).val (i 1).val : ℝ) : EReal) := by
    show (val_main_v12 (F := Ideal) x3 x4 i) * (val_main_v4 (F := Ideal) x0 x2 i) = _
    rw [v12_real H i, v4_real H i, ← EReal.coe_mul]
  show (val_main_v14 (F := Ideal) x0 x2 x3 x4 i) * (val_main_v3_2 (F := Ideal) x0 x1 i)
    + (val_main_v2 (F := Ideal) x0 x1 i) * (val_main_v14 (F := Ideal) x0 x2 x3 x4 i) * (val_main_v3_1 (F := Ideal) x0 x1 i) = _
  rw [e, v3_2_real H i, v2_real H i, v3_1_real H i, ← EReal.coe_mul, ← EReal.coe_mul, ← EReal.coe_mul, ← EReal.coe_add]
  congr 1
  unfold Ffn.dG
  ring

/-- The input's derivative. -/
theorem v25_real : R2 (a := 2048) (b := 1024) (val_main_v25 (F := Ideal) x0 x1 x2 x3 x4) A.dH := fun i => by
  have e17 : val_main_v17 (F := Ideal) x0 x1 x2 x3 x4 i = ((∑ l ∈ range 2816, A.dU (i 0).val l * A.Wu (i 1).val l : ℝ) : EReal) := by
    rw [val_main_v17_apply]
    exact sum_fin_coe _ (fun l => A.dU (i 0).val l * A.Wu (i 1).val l) fun l => by rw [v13_real H, H.wu, EReal.coe_mul]
  have e21 : val_main_v21 (F := Ideal) x0 x1 x2 x3 x4 i = ((∑ l ∈ range 2816, A.dG (i 0).val l * A.Wg (i 1).val l : ℝ) : EReal) := by
    rw [val_main_v21_apply]
    exact sum_fin_coe _ (fun l => A.dG (i 0).val l * A.Wg (i 1).val l) fun l => by rw [v18_real H, H.wg, EReal.coe_mul]
  have e8 : val_main_v8 (F := Ideal) x4 i = ((A.C (i 0).val (i 1).val : ℝ) : EReal) := by
    refine Eq.trans ?_ (H.ct i)
    show shapeCast S2048x1024 x4 _ i = _
    rw [shapeCast_same]
  rw [val_main_v25_apply, val_main_v22_apply, val_main_v24_apply, val_main_v23_apply, val_main_cst_0_apply, e17, e21, e8]
  show _ + _ + Ideal.ofBits .f32 0x3F9837F0#32 * _ = _
  rw [ofBits_al, ← EReal.coe_mul, ← EReal.coe_add, ← EReal.coe_add, ← H.al, add_assoc]
  rfl

/-- The three weights' derivatives: the gate's, -/
theorem v27_real : R2 (a := 2816) (b := 1024) (val_main_v27 (F := Ideal) x0 x1 x2 x3 x4) A.gGate := fun i => by
  show val_main_v26 (F := Ideal) x0 x1 x2 x3 x4 i = _
  rw [val_main_v26_apply, val_main_v20_apply, val_main_v19_apply]
  exact sum_fin_coe _ (fun l => A.dG l (i 0).val * A.H l (i 1).val) fun l => by rw [v18_real H, H.h, EReal.coe_mul]

/-- the other factor's, -/
theorem v29_real : R2 (a := 2816) (b := 1024) (val_main_v29 (F := Ideal) x0 x1 x3 x4) A.gUp := fun i => by
  show val_main_v28 (F := Ideal) x0 x1 x3 x4 i = _
  rw [val_main_v28_apply, val_main_v16_apply, val_main_v15_apply]
  exact sum_fin_coe _ (fun l => A.dU l (i 0).val * A.H l (i 1).val) fun l => by rw [v13_real H, H.h, EReal.coe_mul]

/-- and the last product's. -/
theorem v30_real : R2 (a := 2816) (b := 1024) (val_main_v30 (F := Ideal) x0 x1 x2 x4) A.gDown := fun i => by
  show val_main_v11 (F := Ideal) x0 x1 x2 x4 i = _
  rw [val_main_v11_apply, val_main_v10_apply]
  exact sum_fin_coe _ (fun l => A.Act l (i 0).val * A.C l (i 1).val) fun l => by rw [v9_real H, v5_real H, EReal.coe_mul, mul_comm]

end Cert.Reference2Ideal.Hand

end
-- ==== Proof.FfnFinite.lean ====
/- The feed-forward block's precondition read off: every entry of its five arguments is a real number. -/
module

public import proofs.«01_k».proof.Proof.Finite
public import proofs.«01_k».proof.Proof.FfnHolds
public import proofs.«01_k».proof.Proof.Gen.Pre_finite2

@[expose] public section

set_option maxRecDepth 16384

noncomputable section

namespace Cert.Attn

open Idealize.ShloMosaic Idealize.ShloMosaic.ValueIdx Cert.Pre_finite2 Cert.Pre_finite2.Facts

/-- The real numbers the five arguments hold. -/
def ffnOf (x0 : FVec Ideal S2048x1024 .f32) (x1 x2 : FVec Ideal S1024x2816 .f32) (x3 : FVec Ideal S2816x1024 .f32) (x4 : FVec Ideal S2048x1024 .f32) : Ffn :=
  ⟨entry2 x0, entry2 x1, entry2 x2, entry2 x3, entry2 x4, alv⟩

/-- Under the precondition the arguments hold real numbers. -/
theorem holds5_of_finite [Facts] (x0 : FVec Ideal S2048x1024 .f32) (x1 x2 : FVec Ideal S1024x2816 .f32) (x3 : FVec Ideal S2816x1024 .f32)
    (x4 : FVec Ideal S2048x1024 .f32) (h : fn (F := Ideal) x0 x1 x2 x3 x4 = fun _ => 1#1) : Holds5 (ffnOf x0 x1 x2 x3 x4) x0 x1 x2 x3 x4 := by
  have e := congrFun h (fun k => k.elim0)
  obtain ⟨e, h4⟩ := andi_one _ _ e
  obtain ⟨e, h3⟩ := andi_one _ _ e
  obtain ⟨e, h2⟩ := andi_one _ _ e
  obtain ⟨h0, h1⟩ := andi_one _ _ e
  exact ⟨rfl, entry2_R2 x0 (real_of_all (s := S2048x1024) _ _ _ _ _ h0), entry2_R2 x1 (real_of_all (s := S1024x2816) _ _ _ _ _ h1),
    entry2_R2 x2 (real_of_all (s := S1024x2816) _ _ _ _ _ h2), entry2_R2 x3 (real_of_all (s := S2816x1024) _ _ _ _ _ h3),
    entry2_R2 x4 (real_of_all (s := S2048x1024) _ _ _ _ _ h4)⟩

end Cert.Attn

end
-- ==== Proof.ProdLaunch.lean ====
/- The whole run of the eight products: what every buffer holds at the end. -/
module

public import proofs.«01_k».proof.Proof.Gen.Kernel3Ideal.Frame

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of @main ends with the buffers at the last boundary's contents. -/
theorem run_all : θ_run defs (onTc (τ := τ) (main (F := F))) ⟨m, fun _ => 0, ρ⟩ (fun r => ∀ c : Dev nD, ∀ b ∈ Pipeline.ucRefs τ sig,
      r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

end Cert.Kernel3Ideal.Hand

end
-- ==== Proof.ProdRegions.lean ====
/- The eight products: what each region's array holds after it, entry by entry. -/
module

public import proofs.«01_k».proof.Proof.BlockMat
public import proofs.«01_k».proof.Proof.Gen.Kernel3Ideal.Frame

@[expose] public section

set_option maxRecDepth 16384

noncomputable section

namespace Cert.Kernel3Ideal.Hand

open Idealize.ShloMosaic Idealize.ShloMosaic.ValueIdx Idealize.ShloMosaic.TcCoe Cert.Attn Cert.Kernel3Ideal Cert.Kernel3Ideal.Gen Idealize.SL.Sem Finset
open Idealize.ShloMosaic.Pipeline (Dat)

variable (V : (c : Dev nD) → (b : Ref sig .tc) → Buf (Elt Ideal) ((c : Thread nD τ).loc b)) (c : Dev nD)

/-- Region 0: every pair of blocks has its grid point. -/
theorem tile0 : ∀ u < 2, ∀ v < 1, ∃ t : Fin grid0.N, win0_0.index t = ![u, 0] ∧ win0_1.index t = ![0, 0] ∧ win0_2.index t = ![u, v] := by decide +kernel

/-- Region 0: no two grid points write the same block. -/
theorem inj0 : ∀ t t' : Fin cfg0.N, win0_2.index t = win0_2.index t' → t = t' :=
  (by decide +kernel : ∀ t t' : Fin grid0.N, win0_2.index t = win0_2.index t' → t = t')

/-- Region 0: the array of window 2 after the region. -/
theorem array0_2 {f g : ℕ → ℕ → EReal} (hf : IsE (a := 2048) (c := 2048) (φ := .bf16) (V c main_v0) f) (hg : IsE (a := 2048) (c := 1024) (φ := .bf16) (V c main_v3) g) :
    IsE (a := 2048) (c := 1024) (φ := .f32) ((dat0 V c).arrAt 2 cfg0.N) (fun r k => ∑ l ∈ range 2048, f r l * g l k) := by
  refine IsE.ofBlocks 1024 1024 (by decide) (by decide) fun u v hu hv => ?_
  obtain rfl : v = 0 := by omega
  obtain ⟨t, e0, e1, e⟩ := tile0 u (by omega) 0 (by omega)
  have b0 : IsE (a := 1024) (c := 2048) (φ := .bf16) (iblk0 V c 0 t) _ := hf.blk (((cfg0.win 0).blk t).view.emb) (u * 1024) (0 * 2048)
    (fun y => by show win0_0.index t 0 * 1024 + 1 * (y 0).val = _; rw [e0, Nat.one_mul]; rfl) (fun y => by show win0_0.index t 1 * 2048 + 1 * (y 1).val = _; rw [e0, Nat.one_mul]; rfl)
  have b1 : IsE (a := 2048) (c := 1024) (φ := .bf16) (iblk0 V c 1 t) _ := hg.blk (((cfg0.win 1).blk t).view.emb) (0 * 2048) (0 * 1024)
    (fun y => by show win0_1.index t 0 * 2048 + 1 * (y 0).val = _; rw [e1, Nat.one_mul]; rfl) (fun y => by show win0_1.index t 1 * 1024 + 1 * (y 1).val = _; rw [e1, Nat.one_mul]; rfl)
  refine ⟨((cfg0.win 2).blk t).view.emb, (fun y => by show win0_2.index t 0 * 1024 + 1 * (y 0).val = _; rw [e, Nat.one_mul]; rfl), (fun y => by show win0_2.index t 1 * 1024 + 1 * (y 1).val = _; rw [e, Nat.one_mul]; rfl), ?_⟩
  have hX : (fun y => (dat0 V c).arrAt 2 cfg0.N (((cfg0.win 2).blk t).view.emb y)) = out0_2 (iblk0 V c 0 t) (iblk0 V c 1 t) := by
    refine ((dat0 V c).read_blk_arrAt_eq_flushed 2 (fun t t' _ _ hne => (cfg0.win 2).disjoint_blk fun h => hne (inj0 t t' h)) cfg0.N t t.isLt (flush0_2 t)).trans ?_
    show (cfg0.win 2).cut (grid0.coords t) ((dat0 V c).after 2 t) = _
    rw [after0_2]
    rfl
  refine IsE.of_eq ?_ hX
  unfold out0_2 k0_pay1
  rw [View.canon_unit_zero zz]
  simp only [shapeCast_same, View.ld_unit_zero (S := S1024x2048) zz, View.ld_unit_zero (S := S2048x1024) zz]
  exact (b0.dotNN b1).congr fun r _ k _ => by simp only [Nat.zero_mul, Nat.zero_add]

/-- Region 1: every pair of blocks has its grid point. -/
theorem tile1 : ∀ u < 2, ∀ v < 1, ∃ t : Fin grid1.N, win1_0.index t = ![u, 0] ∧ win1_1.index t = ![0, 0] ∧ win1_2.index t = ![u, v] := by decide +kernel

/-- Region 1: no two grid points write the same block. -/
theorem inj1 : ∀ t t' : Fin cfg1.N, win1_2.index t = win1_2.index t' → t = t' :=
  (by decide +kernel : ∀ t t' : Fin grid1.N, win1_2.index t = win1_2.index t' → t = t')

/-- Region 1: the array of window 2 after the region. -/
theorem array1_2 {f g : ℕ → ℕ → EReal} (hf : IsE (a := 2048) (c := 1024) (φ := .bf16) (V c main_v1) f) (hg : IsE (a := 1024) (c := 1024) (φ := .bf16) (V c main_v4) g) :
    IsE (a := 2048) (c := 1024) (φ := .f32) ((dat1 V c).arrAt 2 cfg1.N) (fun r k => ∑ l ∈ range 1024, f r l * g l k) := by
  refine IsE.ofBlocks 1024 1024 (by decide) (by decide) fun u v hu hv => ?_
  obtain rfl : v = 0 := by omega
  obtain ⟨t, e0, e1, e⟩ := tile1 u (by omega) 0 (by omega)
  have b0 : IsE (a := 1024) (c := 1024) (φ := .bf16) (iblk1 V c 0 t) _ := hf.blk (((cfg1.win 0).blk t).view.emb) (u * 1024) (0 * 1024)
    (fun y => by show win1_0.index t 0 * 1024 + 1 * (y 0).val = _; rw [e0, Nat.one_mul]; rfl) (fun y => by show win1_0.index t 1 * 1024 + 1 * (y 1).val = _; rw [e0, Nat.one_mul]; rfl)
  have b1 : IsE (a := 1024) (c := 1024) (φ := .bf16) (iblk1 V c 1 t) _ := hg.blk (((cfg1.win 1).blk t).view.emb) (0 * 1024) (0 * 1024)
    (fun y => by show win1_1.index t 0 * 1024 + 1 * (y 0).val = _; rw [e1, Nat.one_mul]; rfl) (fun y => by show win1_1.index t 1 * 1024 + 1 * (y 1).val = _; rw [e1, Nat.one_mul]; rfl)
  refine ⟨((cfg1.win 2).blk t).view.emb, (fun y => by show win1_2.index t 0 * 1024 + 1 * (y 0).val = _; rw [e, Nat.one_mul]; rfl), (fun y => by show win1_2.index t 1 * 1024 + 1 * (y 1).val = _; rw [e, Nat.one_mul]; rfl), ?_⟩
  have hX : (fun y => (dat1 V c).arrAt 2 cfg1.N (((cfg1.win 2).blk t).view.emb y)) = out1_2 (iblk1 V c 0 t) (iblk1 V c 1 t) := by
    refine ((dat1 V c).read_blk_arrAt_eq_flushed 2 (fun t t' _ _ hne => (cfg1.win 2).disjoint_blk fun h => hne (inj1 t t' h)) cfg1.N t t.isLt (flush1_2 t)).trans ?_
    show (cfg1.win 2).cut (grid1.coords t) ((dat1 V c).after 2 t) = _
    rw [after1_2]
    rfl
  refine IsE.of_eq ?_ hX
  unfold out1_2 k1_pay1
  rw [View.canon_unit_zero zz]
  simp only [shapeCast_same, View.ld_unit_zero (S := S1024x1024) zz]
  exact (b0.dotNN b1).congr fun r _ k _ => by simp only [Nat.zero_mul, Nat.zero_add]

/-- Region 2: every pair of blocks has its grid point. -/
theorem tile2 : ∀ u < 2, ∀ v < 1, ∃ t : Fin grid2.N, win2_0.index t = ![u, 0] ∧ win2_1.index t = ![0, 0] ∧ win2_2.index t = ![u, v] := by decide +kernel

/-- Region 2: no two grid points write the same block. -/
theorem inj2 : ∀ t t' : Fin cfg2.N, win2_2.index t = win2_2.index t' → t = t' :=
  (by decide +kernel : ∀ t t' : Fin grid2.N, win2_2.index t = win2_2.index t' → t = t')

/-- Region 2: the array of window 2 after the region. -/
theorem array2_2 {f g : ℕ → ℕ → EReal} (hf : IsE (a := 2048) (c := 256) (φ := .bf16) (V c main_v2) f) (hg : IsE (a := 256) (c := 1024) (φ := .bf16) (V c main_v5) g) :
    IsE (a := 2048) (c := 1024) (φ := .f32) ((dat2 V c).arrAt 2 cfg2.N) (fun r k => ∑ l ∈ range 256, f r l * g l k) := by
  refine IsE.ofBlocks 1024 1024 (by decide) (by decide) fun u v hu hv => ?_
  obtain rfl : v = 0 := by omega
  obtain ⟨t, e0, e1, e⟩ := tile2 u (by omega) 0 (by omega)
  have b0 : IsE (a := 1024) (c := 256) (φ := .bf16) (iblk2 V c 0 t) _ := hf.blk (((cfg2.win 0).blk t).view.emb) (u * 1024) (0 * 256)
    (fun y => by show win2_0.index t 0 * 1024 + 1 * (y 0).val = _; rw [e0, Nat.one_mul]; rfl) (fun y => by show win2_0.index t 1 * 256 + 1 * (y 1).val = _; rw [e0, Nat.one_mul]; rfl)
  have b1 : IsE (a := 256) (c := 1024) (φ := .bf16) (iblk2 V c 1 t) _ := hg.blk (((cfg2.win 1).blk t).view.emb) (0 * 256) (0 * 1024)
    (fun y => by show win2_1.index t 0 * 256 + 1 * (y 0).val = _; rw [e1, Nat.one_mul]; rfl) (fun y => by show win2_1.index t 1 * 1024 + 1 * (y 1).val = _; rw [e1, Nat.one_mul]; rfl)
  refine ⟨((cfg2.win 2).blk t).view.emb, (fun y => by show win2_2.index t 0 * 1024 + 1 * (y 0).val = _; rw [e, Nat.one_mul]; rfl), (fun y => by show win2_2.index t 1 * 1024 + 1 * (y 1).val = _; rw [e, Nat.one_mul]; rfl), ?_⟩
  have hX : (fun y => (dat2 V c).arrAt 2 cfg2.N (((cfg2.win 2).blk t).view.emb y)) = out2_2 (iblk2 V c 0 t) (iblk2 V c 1 t) := by
    refine ((dat2 V c).read_blk_arrAt_eq_flushed 2 (fun t t' _ _ hne => (cfg2.win 2).disjoint_blk fun h => hne (inj2 t t' h)) cfg2.N t t.isLt (flush2_2 t)).trans ?_
    show (cfg2.win 2).cut (grid2.coords t) ((dat2 V c).after 2 t) = _
    rw [after2_2]
    rfl
  refine IsE.of_eq ?_ hX
  unfold out2_2 k2_pay1
  rw [View.canon_unit_zero zz]
  simp only [shapeCast_same, View.ld_unit_zero (S := S1024x256) zz, View.ld_unit_zero (S := S256x1024) zz]
  exact (b0.dotNN b1).congr fun r _ k _ => by simp only [Nat.zero_mul, Nat.zero_add]

set_option synthInstance.maxSize 512 in
/-- Region 3: every pair of blocks has its grid point. -/
theorem tile3 : ∀ u < 2, ∀ v < 1, ∃ t : Fin grid3.N, win3_0.index t = ![u, 0] ∧ win3_1.index t = ![0, 0] ∧ win3_2.index t = ![u, 0] ∧ win3_3.index t = ![u, v] := by decide +kernel

/-- Region 3: no two grid points write the same block. -/
theorem inj3 : ∀ t t' : Fin cfg3.N, win3_3.index t = win3_3.index t' → t = t' :=
  (by decide +kernel : ∀ t t' : Fin grid3.N, win3_3.index t = win3_3.index t' → t = t')

/-- Region 3: the array of window 3 after the region. -/
theorem array3_3 {f g h : ℕ → ℕ → EReal} (hf : IsE (a := 2048) (c := 1024) (φ := .bf16) (V c main_v7) f) (hg : IsE (a := 1024) (c := 1024) (φ := .bf16) (V c main_v4) g) (hh : IsE (a := 2048) (c := 1024) (φ := .f32) (V c main_arg9) h) :
    IsE (a := 2048) (c := 1024) (φ := .f32) ((dat3 V c).arrAt 3 cfg3.N) (fun r k => (∑ l ∈ range 1024, f r l * g k l) + h r k) := by
  refine IsE.ofBlocks 1024 1024 (by decide) (by decide) fun u v hu hv => ?_
  obtain rfl : v = 0 := by omega
  obtain ⟨t, e0, e1, e2, e⟩ := tile3 u (by omega) 0 (by omega)
  have b0 : IsE (a := 1024) (c := 1024) (φ := .bf16) (iblk3 V c 0 t) _ := hf.blk (((cfg3.win 0).blk t).view.emb) (u * 1024) (0 * 1024)
    (fun y => by show win3_0.index t 0 * 1024 + 1 * (y 0).val = _; rw [e0, Nat.one_mul]; rfl) (fun y => by show win3_0.index t 1 * 1024 + 1 * (y 1).val = _; rw [e0, Nat.one_mul]; rfl)
  have b1 : IsE (a := 1024) (c := 1024) (φ := .bf16) (iblk3 V c 1 t) _ := hg.blk (((cfg3.win 1).blk t).view.emb) (0 * 1024) (0 * 1024)
    (fun y => by show win3_1.index t 0 * 1024 + 1 * (y 0).val = _; rw [e1, Nat.one_mul]; rfl) (fun y => by show win3_1.index t 1 * 1024 + 1 * (y 1).val = _; rw [e1, Nat.one_mul]; rfl)
  have b2 : IsE (a := 1024) (c := 1024) (φ := .f32) (iblk3 V c 2 t) _ := hh.blk (((cfg3.win 2).blk t).view.emb) (u * 1024) (0 * 1024)
    (fun y => by show win3_2.index t 0 * 1024 + 1 * (y 0).val = _; rw [e2, Nat.one_mul]; rfl) (fun y => by show win3_2.index t 1 * 1024 + 1 * (y 1).val = _; rw [e2, Nat.one_mul]; rfl)
  refine ⟨((cfg3.win 3).blk t).view.emb, (fun y => by show win3_3.index t 0 * 1024 + 1 * (y 0).val = _; rw [e, Nat.one_mul]; rfl), (fun y => by show win3_3.index t 1 * 1024 + 1 * (y 1).val = _; rw [e, Nat.one_mul]; rfl), ?_⟩
  have hX : (fun y => (dat3 V c).arrAt 3 cfg3.N (((cfg3.win 3).blk t).view.emb y)) = out3_3 (iblk3 V c 0 t) (iblk3 V c 1 t) (iblk3 V c 2 t) := by
    refine ((dat3 V c).read_blk_arrAt_eq_flushed 3 (fun t t' _ _ hne => (cfg3.win 3).disjoint_blk fun h => hne (inj3 t t' h)) cfg3.N t t.isLt (flush3_3 t)).trans ?_
    show (cfg3.win 3).cut (grid3.coords t) ((dat3 V c).after 3 t) = _
    rw [after3_3]
    rfl
  refine IsE.of_eq ?_ hX
  unfold out3_3 k3_pay1
  rw [View.canon_unit_zero zz]
  simp only [shapeCast_same, View.ld_unit_zero (S := S1024x1024) zz]
  exact ((b0.dotNT b1).add b2).congr fun r _ k _ => by simp only [Nat.zero_mul, Nat.zero_add]

/-- Region 4: every pair of blocks has its grid point. -/
theorem tile4 : ∀ u < 1, ∀ v < 1, ∃ t : Fin grid4.N, win4_0.index t = ![0, 0] ∧ win4_1.index t = ![0, 0] ∧ win4_2.index t = ![u, v] := by decide +kernel

/-- Region 4: no two grid points write the same block. -/
theorem inj4 : ∀ t t' : Fin cfg4.N, win4_2.index t = win4_2.index t' → t = t' :=
  (by decide +kernel : ∀ t t' : Fin grid4.N, win4_2.index t = win4_2.index t' → t = t')

/-- Region 4: the array of window 2 after the region. -/
theorem array4_2 {f g : ℕ → ℕ → EReal} (hf : IsE (a := 2048) (c := 1024) (φ := .bf16) (V c main_v1) f) (hg : IsE (a := 2048) (c := 1024) (φ := .bf16) (V c main_v7) g) :
    IsE (a := 1024) (c := 1024) (φ := .bf16) ((dat4 V c).arrAt 2 cfg4.N) (fun r k => ∑ l ∈ range 2048, f l r * g l k) := by
  refine IsE.ofBlocks 1024 1024 (by decide) (by decide) fun u v hu hv => ?_
  obtain rfl : u = 0 := by omega
  obtain rfl : v = 0 := by omega
  obtain ⟨t, e0, e1, e⟩ := tile4 0 (by omega) 0 (by omega)
  have b0 : IsE (a := 2048) (c := 1024) (φ := .bf16) (iblk4 V c 0 t) _ := hf.blk (((cfg4.win 0).blk t).view.emb) (0 * 2048) (0 * 1024)
    (fun y => by show win4_0.index t 0 * 2048 + 1 * (y 0).val = _; rw [e0, Nat.one_mul]; rfl) (fun y => by show win4_0.index t 1 * 1024 + 1 * (y 1).val = _; rw [e0, Nat.one_mul]; rfl)
  have b1 : IsE (a := 2048) (c := 1024) (φ := .bf16) (iblk4 V c 1 t) _ := hg.blk (((cfg4.win 1).blk t).view.emb) (0 * 2048) (0 * 1024)
    (fun y => by show win4_1.index t 0 * 2048 + 1 * (y 0).val = _; rw [e1, Nat.one_mul]; rfl) (fun y => by show win4_1.index t 1 * 1024 + 1 * (y 1).val = _; rw [e1, Nat.one_mul]; rfl)
  refine ⟨((cfg4.win 2).blk t).view.emb, (fun y => by show win4_2.index t 0 * 1024 + 1 * (y 0).val = _; rw [e, Nat.one_mul]; rfl), (fun y => by show win4_2.index t 1 * 1024 + 1 * (y 1).val = _; rw [e, Nat.one_mul]; rfl), ?_⟩
  have hX : (fun y => (dat4 V c).arrAt 2 cfg4.N (((cfg4.win 2).blk t).view.emb y)) = out4_2 (iblk4 V c 0 t) (iblk4 V c 1 t) := by
    refine ((dat4 V c).read_blk_arrAt_eq_flushed 2 (fun t t' _ _ hne => (cfg4.win 2).disjoint_blk fun h => hne (inj4 t t' h)) cfg4.N t t.isLt (flush4_2 t)).trans ?_
    show (cfg4.win 2).cut (grid4.coords t) ((dat4 V c).after 2 t) = _
    rw [after4_2]
    rfl
  refine IsE.of_eq ?_ hX
  unfold out4_2 k4_pay1
  rw [View.canon_unit_zero zz]
  simp only [shapeCast_same, View.ld_unit_zero (S := S2048x1024) zz]
  exact ((b0.dotTN b1).trunc _).congr fun r _ k _ => by simp only [Nat.zero_mul, Nat.zero_add]

/-- Region 5: every pair of blocks has its grid point. -/
theorem tile5 : ∀ u < 1, ∀ v < 1, ∃ t : Fin grid5.N, win5_0.index t = ![0, 0] ∧ win5_1.index t = ![0, 0] ∧ win5_2.index t = ![u, v] := by decide +kernel

/-- Region 5: no two grid points write the same block. -/
theorem inj5 : ∀ t t' : Fin cfg5.N, win5_2.index t = win5_2.index t' → t = t' :=
  (by decide +kernel : ∀ t t' : Fin grid5.N, win5_2.index t = win5_2.index t' → t = t')

/-- Region 5: the array of window 2 after the region. -/
theorem array5_2 {f g : ℕ → ℕ → EReal} (hf : IsE (a := 2048) (c := 256) (φ := .bf16) (V c main_v2) f) (hg : IsE (a := 2048) (c := 1024) (φ := .bf16) (V c main_v8) g) :
    IsE (a := 256) (c := 1024) (φ := .bf16) ((dat5 V c).arrAt 2 cfg5.N) (fun r k => ∑ l ∈ range 2048, f l r * g l k) := by
  refine IsE.ofBlocks 256 1024 (by decide) (by decide) fun u v hu hv => ?_
  obtain rfl : u = 0 := by omega
  obtain rfl : v = 0 := by omega
  obtain ⟨t, e0, e1, e⟩ := tile5 0 (by omega) 0 (by omega)
  have b0 : IsE (a := 2048) (c := 256) (φ := .bf16) (iblk5 V c 0 t) _ := hf.blk (((cfg5.win 0).blk t).view.emb) (0 * 2048) (0 * 256)
    (fun y => by show win5_0.index t 0 * 2048 + 1 * (y 0).val = _; rw [e0, Nat.one_mul]; rfl) (fun y => by show win5_0.index t 1 * 256 + 1 * (y 1).val = _; rw [e0, Nat.one_mul]; rfl)
  have b1 : IsE (a := 2048) (c := 1024) (φ := .bf16) (iblk5 V c 1 t) _ := hg.blk (((cfg5.win 1).blk t).view.emb) (0 * 2048) (0 * 1024)
    (fun y => by show win5_1.index t 0 * 2048 + 1 * (y 0).val = _; rw [e1, Nat.one_mul]; rfl) (fun y => by show win5_1.index t 1 * 1024 + 1 * (y 1).val = _; rw [e1, Nat.one_mul]; rfl)
  refine ⟨((cfg5.win 2).blk t).view.emb, (fun y => by show win5_2.index t 0 * 256 + 1 * (y 0).val = _; rw [e, Nat.one_mul]; rfl), (fun y => by show win5_2.index t 1 * 1024 + 1 * (y 1).val = _; rw [e, Nat.one_mul]; rfl), ?_⟩
  have hX : (fun y => (dat5 V c).arrAt 2 cfg5.N (((cfg5.win 2).blk t).view.emb y)) = out5_2 (iblk5 V c 0 t) (iblk5 V c 1 t) := by
    refine ((dat5 V c).read_blk_arrAt_eq_flushed 2 (fun t t' _ _ hne => (cfg5.win 2).disjoint_blk fun h => hne (inj5 t t' h)) cfg5.N t t.isLt (flush5_2 t)).trans ?_
    show (cfg5.win 2).cut (grid5.coords t) ((dat5 V c).after 2 t) = _
    rw [after5_2]
    rfl
  refine IsE.of_eq ?_ hX
  unfold out5_2 k5_pay1
  rw [View.canon_unit_zero zz]
  simp only [shapeCast_same, View.ld_unit_zero (S := S2048x1024) zz, View.ld_unit_zero (S := S2048x256) zz]
  exact ((b0.dotTN b1).trunc _).congr fun r _ k _ => by simp only [Nat.zero_mul, Nat.zero_add]

/-- Region 6: every pair of blocks has its grid point. -/
theorem tile6 : ∀ u < 2, ∀ v < 2, ∃ t : Fin grid6.N, win6_0.index t = ![u, 0] ∧ win6_1.index t = ![v, 0] ∧ win6_2.index t = ![u, v] := by decide +kernel

/-- Region 6: no two grid points write the same block. -/
theorem inj6 : ∀ t t' : Fin cfg6.N, win6_2.index t = win6_2.index t' → t = t' :=
  (by decide +kernel : ∀ t t' : Fin grid6.N, win6_2.index t = win6_2.index t' → t = t')

/-- Region 6: the array of window 2 after the region. -/
theorem array6_2 {f g : ℕ → ℕ → EReal} (hf : IsE (a := 2048) (c := 1024) (φ := .bf16) (V c main_v6) f) (hg : IsE (a := 2048) (c := 1024) (φ := .bf16) (V c main_v3) g) :
    IsE (a := 2048) (c := 2048) (φ := .f32) ((dat6 V c).arrAt 2 cfg6.N) (fun r k => ∑ l ∈ range 1024, f r l * g k l) := by
  refine IsE.ofBlocks 1024 1024 (by decide) (by decide) fun u v hu hv => ?_
  obtain ⟨t, e0, e1, e⟩ := tile6 u (by omega) v (by omega)
  have b0 : IsE (a := 1024) (c := 1024) (φ := .bf16) (iblk6 V c 0 t) _ := hf.blk (((cfg6.win 0).blk t).view.emb) (u * 1024) (0 * 1024)
    (fun y => by show win6_0.index t 0 * 1024 + 1 * (y 0).val = _; rw [e0, Nat.one_mul]; rfl) (fun y => by show win6_0.index t 1 * 1024 + 1 * (y 1).val = _; rw [e0, Nat.one_mul]; rfl)
  have b1 : IsE (a := 1024) (c := 1024) (φ := .bf16) (iblk6 V c 1 t) _ := hg.blk (((cfg6.win 1).blk t).view.emb) (v * 1024) (0 * 1024)
    (fun y => by show win6_1.index t 0 * 1024 + 1 * (y 0).val = _; rw [e1, Nat.one_mul]; rfl) (fun y => by show win6_1.index t 1 * 1024 + 1 * (y 1).val = _; rw [e1, Nat.one_mul]; rfl)
  refine ⟨((cfg6.win 2).blk t).view.emb, (fun y => by show win6_2.index t 0 * 1024 + 1 * (y 0).val = _; rw [e, Nat.one_mul]; rfl), (fun y => by show win6_2.index t 1 * 1024 + 1 * (y 1).val = _; rw [e, Nat.one_mul]; rfl), ?_⟩
  have hX : (fun y => (dat6 V c).arrAt 2 cfg6.N (((cfg6.win 2).blk t).view.emb y)) = out6_2 (iblk6 V c 0 t) (iblk6 V c 1 t) := by
    refine ((dat6 V c).read_blk_arrAt_eq_flushed 2 (fun t t' _ _ hne => (cfg6.win 2).disjoint_blk fun h => hne (inj6 t t' h)) cfg6.N t t.isLt (flush6_2 t)).trans ?_
    show (cfg6.win 2).cut (grid6.coords t) ((dat6 V c).after 2 t) = _
    rw [after6_2]
    rfl
  refine IsE.of_eq ?_ hX
  unfold out6_2 k6_pay1
  rw [View.canon_unit_zero zz]
  simp only [shapeCast_same, View.ld_unit_zero (S := S1024x1024) zz]
  exact (b0.dotNT b1).congr fun r _ k _ => by simp only [Nat.zero_mul, Nat.zero_add]

/-- Region 7: every pair of blocks has its grid point. -/
theorem tile7 : ∀ u < 2, ∀ v < 1, ∃ t : Fin grid7.N, win7_0.index t = ![0, u] ∧ win7_1.index t = ![0, 0] ∧ win7_2.index t = ![u, v] := by decide +kernel

/-- Region 7: no two grid points write the same block. -/
theorem inj7 : ∀ t t' : Fin cfg7.N, win7_2.index t = win7_2.index t' → t = t' :=
  (by decide +kernel : ∀ t t' : Fin grid7.N, win7_2.index t = win7_2.index t' → t = t')

/-- Region 7: the array of window 2 after the region. -/
theorem array7_2 {f g : ℕ → ℕ → EReal} (hf : IsE (a := 2048) (c := 2048) (φ := .bf16) (V c main_v0) f) (hg : IsE (a := 2048) (c := 1024) (φ := .bf16) (V c main_v6) g) :
    IsE (a := 2048) (c := 1024) (φ := .bf16) ((dat7 V c).arrAt 2 cfg7.N) (fun r k => ∑ l ∈ range 2048, f l r * g l k) := by
  refine IsE.ofBlocks 1024 1024 (by decide) (by decide) fun u v hu hv => ?_
  obtain rfl : v = 0 := by omega
  obtain ⟨t, e0, e1, e⟩ := tile7 u (by omega) 0 (by omega)
  have b0 : IsE (a := 2048) (c := 1024) (φ := .bf16) (iblk7 V c 0 t) _ := hf.blk (((cfg7.win 0).blk t).view.emb) (0 * 2048) (u * 1024)
    (fun y => by show win7_0.index t 0 * 2048 + 1 * (y 0).val = _; rw [e0, Nat.one_mul]; rfl) (fun y => by show win7_0.index t 1 * 1024 + 1 * (y 1).val = _; rw [e0, Nat.one_mul]; rfl)
  have b1 : IsE (a := 2048) (c := 1024) (φ := .bf16) (iblk7 V c 1 t) _ := hg.blk (((cfg7.win 1).blk t).view.emb) (0 * 2048) (0 * 1024)
    (fun y => by show win7_1.index t 0 * 2048 + 1 * (y 0).val = _; rw [e1, Nat.one_mul]; rfl) (fun y => by show win7_1.index t 1 * 1024 + 1 * (y 1).val = _; rw [e1, Nat.one_mul]; rfl)
  refine ⟨((cfg7.win 2).blk t).view.emb, (fun y => by show win7_2.index t 0 * 1024 + 1 * (y 0).val = _; rw [e, Nat.one_mul]; rfl), (fun y => by show win7_2.index t 1 * 1024 + 1 * (y 1).val = _; rw [e, Nat.one_mul]; rfl), ?_⟩
  have hX : (fun y => (dat7 V c).arrAt 2 cfg7.N (((cfg7.win 2).blk t).view.emb y)) = out7_2 (iblk7 V c 0 t) (iblk7 V c 1 t) := by
    refine ((dat7 V c).read_blk_arrAt_eq_flushed 2 (fun t t' _ _ hne => (cfg7.win 2).disjoint_blk fun h => hne (inj7 t t' h)) cfg7.N t t.isLt (flush7_2 t)).trans ?_
    show (cfg7.win 2).cut (grid7.coords t) ((dat7 V c).after 2 t) = _
    rw [after7_2]
    rfl
  refine IsE.of_eq ?_ hX
  unfold out7_2 k7_pay1
  rw [View.canon_unit_zero zz]
  simp only [shapeCast_same, View.ld_unit_zero (S := S2048x1024) zz]
  exact ((b0.dotTN b1).trunc _).congr fun r _ k _ => by simp only [Nat.zero_mul, Nat.zero_add]

end Cert.Kernel3Ideal.Hand

end
-- ==== Proof.ProdChain.lean ====
/- The eight products in a row, from the arguments' entries to the eight results. -/
module

public import proofs.«01_k».proof.Proof.ProdRegions

@[expose] public section

set_option maxRecDepth 16384

noncomputable section

namespace Cert.Kernel3Ideal.Hand

open Idealize.ShloMosaic Idealize.ShloMosaic.ValueIdx Idealize.ShloMosaic.TcCoe Cert.Attn Cert.Kernel3Ideal Cert.Kernel3Ideal.Gen Idealize.SL.Sem Finset

variable (m : (ℓ : Loc nD τ sig) → Buf (Elt Ideal) ℓ) (ρ : Dev nD → PrngReg) (c : Dev nD)

/-- Argument 0, narrowed. -/
theorem a_v0 : IsE (a := 2048) (c := 2048) (φ := .bf16) (W1 m ρ c (Proc.devRef .tc main_v0)) (entE (a := 2048) (b := 2048) (m ((c.tc : Thread nD τ).loc main_arg0))) := by
  have e : W1 m ρ c (Proc.devRef .tc main_v0) = truncf (F := Ideal) (s := S2048x2048) (φ := .f32) .bf16 (m ((c.tc : Thread nD τ).loc main_arg0)) bitsLt_bf16_f32 := by
    show StableHlo.after hostOps0 (W0 m ρ c) _ = _
    simp only [hostOps0]
    after_results_simp
  exact IsE.of_eq ((entE_E2 _).isE.trunc _) e

/-- Argument 2, narrowed. -/
theorem a_v1 : IsE (a := 2048) (c := 1024) (φ := .bf16) (W1 m ρ c (Proc.devRef .tc main_v1)) (entE (a := 2048) (b := 1024) (m ((c.tc : Thread nD τ).loc main_arg2))) := by
  have e : W1 m ρ c (Proc.devRef .tc main_v1) = truncf (F := Ideal) (s := S2048x1024) (φ := .f32) .bf16 (m ((c.tc : Thread nD τ).loc main_arg2)) bitsLt_bf16_f32 := by
    show StableHlo.after hostOps0 (W0 m ρ c) _ = _
    simp only [hostOps0]
    after_results_simp
  exact IsE.of_eq ((entE_E2 _).isE.trunc _) e

/-- Argument 4, narrowed. -/
theorem a_v2 : IsE (a := 2048) (c := 256) (φ := .bf16) (W1 m ρ c (Proc.devRef .tc main_v2)) (entE (a := 2048) (b := 256) (m ((c.tc : Thread nD τ).loc main_arg4))) := by
  have e : W1 m ρ c (Proc.devRef .tc main_v2) = truncf (F := Ideal) (s := S2048x256) (φ := .f32) .bf16 (m ((c.tc : Thread nD τ).loc main_arg4)) bitsLt_bf16_f32 := by
    show StableHlo.after hostOps0 (W0 m ρ c) _ = _
    simp only [hostOps0]
    after_results_simp
  exact IsE.of_eq ((entE_E2 _).isE.trunc _) e

/-- Argument 1, narrowed. -/
theorem a_v3 : IsE (a := 2048) (c := 1024) (φ := .bf16) (W1 m ρ c (Proc.devRef .tc main_v3)) (entE (a := 2048) (b := 1024) (m ((c.tc : Thread nD τ).loc main_arg1))) := by
  have e : W1 m ρ c (Proc.devRef .tc main_v3) = truncf (F := Ideal) (s := S2048x1024) (φ := .f32) .bf16 (m ((c.tc : Thread nD τ).loc main_arg1)) bitsLt_bf16_f32 := by
    show StableHlo.after hostOps0 (W0 m ρ c) _ = _
    simp only [hostOps0]
    after_results_simp
  exact IsE.of_eq ((entE_E2 _).isE.trunc _) e

/-- Argument 3, narrowed. -/
theorem a_v4 : IsE (a := 1024) (c := 1024) (φ := .bf16) (W1 m ρ c (Proc.devRef .tc main_v4)) (entE (a := 1024) (b := 1024) (m ((c.tc : Thread nD τ).loc main_arg3))) := by
  have e : W1 m ρ c (Proc.devRef .tc main_v4) = truncf (F := Ideal) (s := S1024x1024) (φ := .f32) .bf16 (m ((c.tc : Thread nD τ).loc main_arg3)) bitsLt_bf16_f32 := by
    show StableHlo.after hostOps0 (W0 m ρ c) _ = _
    simp only [hostOps0]
    after_results_simp
  exact IsE.of_eq ((entE_E2 _).isE.trunc _) e

/-- Argument 5, narrowed. -/
theorem a_v5 : IsE (a := 256) (c := 1024) (φ := .bf16) (W1 m ρ c (Proc.devRef .tc main_v5)) (entE (a := 256) (b := 1024) (m ((c.tc : Thread nD τ).loc main_arg5))) := by
  have e : W1 m ρ c (Proc.devRef .tc main_v5) = truncf (F := Ideal) (s := S256x1024) (φ := .f32) .bf16 (m ((c.tc : Thread nD τ).loc main_arg5)) bitsLt_bf16_f32 := by
    show StableHlo.after hostOps0 (W0 m ρ c) _ = _
    simp only [hostOps0]
    after_results_simp
  exact IsE.of_eq ((entE_E2 _).isE.trunc _) e

/-- Argument 6, narrowed. -/
theorem a_v6 : IsE (a := 2048) (c := 1024) (φ := .bf16) (W1 m ρ c (Proc.devRef .tc main_v6)) (entE (a := 2048) (b := 1024) (m ((c.tc : Thread nD τ).loc main_arg6))) := by
  have e : W1 m ρ c (Proc.devRef .tc main_v6) = truncf (F := Ideal) (s := S2048x1024) (φ := .f32) .bf16 (m ((c.tc : Thread nD τ).loc main_arg6)) bitsLt_bf16_f32 := by
    show StableHlo.after hostOps0 (W0 m ρ c) _ = _
    simp only [hostOps0]
    after_results_simp
  exact IsE.of_eq ((entE_E2 _).isE.trunc _) e

/-- Argument 7, narrowed. -/
theorem a_v7 : IsE (a := 2048) (c := 1024) (φ := .bf16) (W1 m ρ c (Proc.devRef .tc main_v7)) (entE (a := 2048) (b := 1024) (m ((c.tc : Thread nD τ).loc main_arg7))) := by
  have e : W1 m ρ c (Proc.devRef .tc main_v7) = truncf (F := Ideal) (s := S2048x1024) (φ := .f32) .bf16 (m ((c.tc : Thread nD τ).loc main_arg7)) bitsLt_bf16_f32 := by
    show StableHlo.after hostOps0 (W0 m ρ c) _ = _
    simp only [hostOps0]
    after_results_simp
  exact IsE.of_eq ((entE_E2 _).isE.trunc _) e

/-- Argument 8, narrowed. -/
theorem a_v8 : IsE (a := 2048) (c := 1024) (φ := .bf16) (W1 m ρ c (Proc.devRef .tc main_v8)) (entE (a := 2048) (b := 1024) (m ((c.tc : Thread nD τ).loc main_arg8))) := by
  have e : W1 m ρ c (Proc.devRef .tc main_v8) = truncf (F := Ideal) (s := S2048x1024) (φ := .f32) .bf16 (m ((c.tc : Thread nD τ).loc main_arg8)) bitsLt_bf16_f32 := by
    show StableHlo.after hostOps0 (W0 m ρ c) _ = _
    simp only [hostOps0]
    after_results_simp
  exact IsE.of_eq ((entE_E2 _).isE.trunc _) e

/-- Region 0's result. -/
theorem a_v9 : IsE (a := 2048) (c := 1024) (φ := .f32) (W2 m ρ c (Proc.devRef .tc main_v9)) (fun r k => ∑ l ∈ range 2048, (entE (a := 2048) (b := 2048) (m ((c.tc : Thread nD τ).loc main_arg0))) r l * (entE (a := 2048) (b := 1024) (m ((c.tc : Thread nD τ).loc main_arg1))) l k) :=
  IsE.of_eq (array0_2 (V1 m ρ) c (a_v0 m ρ c) (a_v3 m ρ c)) (W2_arr m ρ c 2)

theorem fin_v9 : IsE (a := 2048) (c := 1024) (φ := .f32) (W9 m ρ c (Proc.devRef .tc main_v9)) (fun r k => ∑ l ∈ range 2048, (entE (a := 2048) (b := 2048) (m ((c.tc : Thread nD τ).loc main_arg0))) r l * (entE (a := 2048) (b := 1024) (m ((c.tc : Thread nD τ).loc main_arg1))) l k) :=
  (a_v9 m ρ c).of_eq (((((((W9_of m ρ c main_v9 (by decide)).trans (W8_of m ρ c main_v9 (by decide))).trans (W7_of m ρ c main_v9 (by decide))).trans (W6_of m ρ c main_v9 (by decide))).trans (W5_of m ρ c main_v9 (by decide))).trans (W4_of m ρ c main_v9 (by decide))).trans (W3_of m ρ c main_v9 (by decide)))

/-- Region 1's result. -/
theorem a_v10 : IsE (a := 2048) (c := 1024) (φ := .f32) (W3 m ρ c (Proc.devRef .tc main_v10)) (fun r k => ∑ l ∈ range 1024, (entE (a := 2048) (b := 1024) (m ((c.tc : Thread nD τ).loc main_arg2))) r l * (entE (a := 1024) (b := 1024) (m ((c.tc : Thread nD τ).loc main_arg3))) l k) :=
  IsE.of_eq (array1_2 (V2 m ρ) c ((a_v1 m ρ c).of_eq (W2_of m ρ c main_v1 (by decide))) ((a_v4 m ρ c).of_eq (W2_of m ρ c main_v4 (by decide)))) (W3_arr m ρ c 2)

theorem fin_v10 : IsE (a := 2048) (c := 1024) (φ := .f32) (W9 m ρ c (Proc.devRef .tc main_v10)) (fun r k => ∑ l ∈ range 1024, (entE (a := 2048) (b := 1024) (m ((c.tc : Thread nD τ).loc main_arg2))) r l * (entE (a := 1024) (b := 1024) (m ((c.tc : Thread nD τ).loc main_arg3))) l k) :=
  (a_v10 m ρ c).of_eq ((((((W9_of m ρ c main_v10 (by decide)).trans (W8_of m ρ c main_v10 (by decide))).trans (W7_of m ρ c main_v10 (by decide))).trans (W6_of m ρ c main_v10 (by decide))).trans (W5_of m ρ c main_v10 (by decide))).trans (W4_of m ρ c main_v10 (by decide)))

/-- Region 2's result. -/
theorem a_v11 : IsE (a := 2048) (c := 1024) (φ := .f32) (W4 m ρ c (Proc.devRef .tc main_v11)) (fun r k => ∑ l ∈ range 256, (entE (a := 2048) (b := 256) (m ((c.tc : Thread nD τ).loc main_arg4))) r l * (entE (a := 256) (b := 1024) (m ((c.tc : Thread nD τ).loc main_arg5))) l k) :=
  IsE.of_eq (array2_2 (V3 m ρ) c ((a_v2 m ρ c).of_eq ((W3_of m ρ c main_v2 (by decide)).trans (W2_of m ρ c main_v2 (by decide)))) ((a_v5 m ρ c).of_eq ((W3_of m ρ c main_v5 (by decide)).trans (W2_of m ρ c main_v5 (by decide))))) (W4_arr m ρ c 2)

theorem fin_v11 : IsE (a := 2048) (c := 1024) (φ := .f32) (W9 m ρ c (Proc.devRef .tc main_v11)) (fun r k => ∑ l ∈ range 256, (entE (a := 2048) (b := 256) (m ((c.tc : Thread nD τ).loc main_arg4))) r l * (entE (a := 256) (b := 1024) (m ((c.tc : Thread nD τ).loc main_arg5))) l k) :=
  (a_v11 m ρ c).of_eq (((((W9_of m ρ c main_v11 (by decide)).trans (W8_of m ρ c main_v11 (by decide))).trans (W7_of m ρ c main_v11 (by decide))).trans (W6_of m ρ c main_v11 (by decide))).trans (W5_of m ρ c main_v11 (by decide)))

/-- Region 3's result. -/
theorem a_v12 : IsE (a := 2048) (c := 1024) (φ := .f32) (W5 m ρ c (Proc.devRef .tc main_v12)) (fun r k => (∑ l ∈ range 1024, (entE (a := 2048) (b := 1024) (m ((c.tc : Thread nD τ).loc main_arg7))) r l * (entE (a := 1024) (b := 1024) (m ((c.tc : Thread nD τ).loc main_arg3))) k l) + (entE (a := 2048) (b := 1024) (m ((c.tc : Thread nD τ).loc main_arg9))) r k) :=
  IsE.of_eq (array3_3 (V4 m ρ) c ((a_v7 m ρ c).of_eq (((W4_of m ρ c main_v7 (by decide)).trans (W3_of m ρ c main_v7 (by decide))).trans (W2_of m ρ c main_v7 (by decide)))) ((a_v4 m ρ c).of_eq (((W4_of m ρ c main_v4 (by decide)).trans (W3_of m ρ c main_v4 (by decide))).trans (W2_of m ρ c main_v4 (by decide)))) (IsE.of_eq (entE_E2 (m ((c.tc : Thread nD τ).loc main_arg9))).isE (W4_args m ρ c main_arg9 (by decide)))) (W5_arr m ρ c 3)

theorem fin_v12 : IsE (a := 2048) (c := 1024) (φ := .f32) (W9 m ρ c (Proc.devRef .tc main_v12)) (fun r k => (∑ l ∈ range 1024, (entE (a := 2048) (b := 1024) (m ((c.tc : Thread nD τ).loc main_arg7))) r l * (entE (a := 1024) (b := 1024) (m ((c.tc : Thread nD τ).loc main_arg3))) k l) + (entE (a := 2048) (b := 1024) (m ((c.tc : Thread nD τ).loc main_arg9))) r k) :=
  (a_v12 m ρ c).of_eq ((((W9_of m ρ c main_v12 (by decide)).trans (W8_of m ρ c main_v12 (by decide))).trans (W7_of m ρ c main_v12 (by decide))).trans (W6_of m ρ c main_v12 (by decide)))

/-- Region 4's result. -/
theorem a_v13 : IsE (a := 1024) (c := 1024) (φ := .bf16) (W6 m ρ c (Proc.devRef .tc main_v13)) (fun r k => ∑ l ∈ range 2048, (entE (a := 2048) (b := 1024) (m ((c.tc : Thread nD τ).loc main_arg2))) l r * (entE (a := 2048) (b := 1024) (m ((c.tc : Thread nD τ).loc main_arg7))) l k) :=
  IsE.of_eq (array4_2 (V5 m ρ) c ((a_v1 m ρ c).of_eq ((((W5_of m ρ c main_v1 (by decide)).trans (W4_of m ρ c main_v1 (by decide))).trans (W3_of m ρ c main_v1 (by decide))).trans (W2_of m ρ c main_v1 (by decide)))) ((a_v7 m ρ c).of_eq ((((W5_of m ρ c main_v7 (by decide)).trans (W4_of m ρ c main_v7 (by decide))).trans (W3_of m ρ c main_v7 (by decide))).trans (W2_of m ρ c main_v7 (by decide))))) (W6_arr m ρ c 2)

theorem fin_v13 : IsE (a := 1024) (c := 1024) (φ := .bf16) (W9 m ρ c (Proc.devRef .tc main_v13)) (fun r k => ∑ l ∈ range 2048, (entE (a := 2048) (b := 1024) (m ((c.tc : Thread nD τ).loc main_arg2))) l r * (entE (a := 2048) (b := 1024) (m ((c.tc : Thread nD τ).loc main_arg7))) l k) :=
  (a_v13 m ρ c).of_eq (((W9_of m ρ c main_v13 (by decide)).trans (W8_of m ρ c main_v13 (by decide))).trans (W7_of m ρ c main_v13 (by decide)))

/-- Region 5's result. -/
theorem a_v14 : IsE (a := 256) (c := 1024) (φ := .bf16) (W7 m ρ c (Proc.devRef .tc main_v14)) (fun r k => ∑ l ∈ range 2048, (entE (a := 2048) (b := 256) (m ((c.tc : Thread nD τ).loc main_arg4))) l r * (entE (a := 2048) (b := 1024) (m ((c.tc : Thread nD τ).loc main_arg8))) l k) :=
  IsE.of_eq (array5_2 (V6 m ρ) c ((a_v2 m ρ c).of_eq (((((W6_of m ρ c main_v2 (by decide)).trans (W5_of m ρ c main_v2 (by decide))).trans (W4_of m ρ c main_v2 (by decide))).trans (W3_of m ρ c main_v2 (by decide))).trans (W2_of m ρ c main_v2 (by decide)))) ((a_v8 m ρ c).of_eq (((((W6_of m ρ c main_v8 (by decide)).trans (W5_of m ρ c main_v8 (by decide))).trans (W4_of m ρ c main_v8 (by decide))).trans (W3_of m ρ c main_v8 (by decide))).trans (W2_of m ρ c main_v8 (by decide))))) (W7_arr m ρ c 2)

theorem fin_v14 : IsE (a := 256) (c := 1024) (φ := .bf16) (W9 m ρ c (Proc.devRef .tc main_v14)) (fun r k => ∑ l ∈ range 2048, (entE (a := 2048) (b := 256) (m ((c.tc : Thread nD τ).loc main_arg4))) l r * (entE (a := 2048) (b := 1024) (m ((c.tc : Thread nD τ).loc main_arg8))) l k) :=
  (a_v14 m ρ c).of_eq ((W9_of m ρ c main_v14 (by decide)).trans (W8_of m ρ c main_v14 (by decide)))

/-- Region 6's result. -/
theorem a_v15 : IsE (a := 2048) (c := 2048) (φ := .f32) (W8 m ρ c (Proc.devRef .tc main_v15)) (fun r k => ∑ l ∈ range 1024, (entE (a := 2048) (b := 1024) (m ((c.tc : Thread nD τ).loc main_arg6))) r l * (entE (a := 2048) (b := 1024) (m ((c.tc : Thread nD τ).loc main_arg1))) k l) :=
  IsE.of_eq (array6_2 (V7 m ρ) c ((a_v6 m ρ c).of_eq ((((((W7_of m ρ c main_v6 (by decide)).trans (W6_of m ρ c main_v6 (by decide))).trans (W5_of m ρ c main_v6 (by decide))).trans (W4_of m ρ c main_v6 (by decide))).trans (W3_of m ρ c main_v6 (by decide))).trans (W2_of m ρ c main_v6 (by decide)))) ((a_v3 m ρ c).of_eq ((((((W7_of m ρ c main_v3 (by decide)).trans (W6_of m ρ c main_v3 (by decide))).trans (W5_of m ρ c main_v3 (by decide))).trans (W4_of m ρ c main_v3 (by decide))).trans (W3_of m ρ c main_v3 (by decide))).trans (W2_of m ρ c main_v3 (by decide))))) (W8_arr m ρ c 2)

theorem fin_v15 : IsE (a := 2048) (c := 2048) (φ := .f32) (W9 m ρ c (Proc.devRef .tc main_v15)) (fun r k => ∑ l ∈ range 1024, (entE (a := 2048) (b := 1024) (m ((c.tc : Thread nD τ).loc main_arg6))) r l * (entE (a := 2048) (b := 1024) (m ((c.tc : Thread nD τ).loc main_arg1))) k l) :=
  (a_v15 m ρ c).of_eq (W9_of m ρ c main_v15 (by decide))

/-- Region 7's result. -/
theorem a_v16 : IsE (a := 2048) (c := 1024) (φ := .bf16) (W9 m ρ c (Proc.devRef .tc main_v16)) (fun r k => ∑ l ∈ range 2048, (entE (a := 2048) (b := 2048) (m ((c.tc : Thread nD τ).loc main_arg0))) l r * (entE (a := 2048) (b := 1024) (m ((c.tc : Thread nD τ).loc main_arg6))) l k) :=
  IsE.of_eq (array7_2 (V8 m ρ) c ((a_v0 m ρ c).of_eq (((((((W8_of m ρ c main_v0 (by decide)).trans (W7_of m ρ c main_v0 (by decide))).trans (W6_of m ρ c main_v0 (by decide))).trans (W5_of m ρ c main_v0 (by decide))).trans (W4_of m ρ c main_v0 (by decide))).trans (W3_of m ρ c main_v0 (by decide))).trans (W2_of m ρ c main_v0 (by decide)))) ((a_v6 m ρ c).of_eq (((((((W8_of m ρ c main_v6 (by decide)).trans (W7_of m ρ c main_v6 (by decide))).trans (W6_of m ρ c main_v6 (by decide))).trans (W5_of m ρ c main_v6 (by decide))).trans (W4_of m ρ c main_v6 (by decide))).trans (W3_of m ρ c main_v6 (by decide))).trans (W2_of m ρ c main_v6 (by decide))))) (W9_arr m ρ c 2)

theorem fin_v16 : IsE (a := 2048) (c := 1024) (φ := .bf16) (W9 m ρ c (Proc.devRef .tc main_v16)) (fun r k => ∑ l ∈ range 2048, (entE (a := 2048) (b := 2048) (m ((c.tc : Thread nD τ).loc main_arg0))) l r * (entE (a := 2048) (b := 1024) (m ((c.tc : Thread nD τ).loc main_arg6))) l k) :=
  (a_v16 m ρ c)

end Cert.Kernel3Ideal.Hand

end
-- ==== Proof.ProdRef.lean ====
/- The products' reference, entry by entry. -/
module

public import proofs.«01_k».proof.Proof.ProdMat
public import proofs.«01_k».proof.Proof.Gen.Reference3Ideal.Read

@[expose] public section

set_option maxRecDepth 16384

noncomputable section

namespace Cert.Reference3Ideal.Hand

open Idealize.ShloMosaic Idealize.ShloMosaic.ValueIdx Cert.Attn Cert.Reference3Ideal Cert.Reference3Ideal.Gen Cert.Reference3Ideal.Read Finset

variable (x0 : (⟨S2048x2048, .f32⟩ : BufTy).Contents (Elt Ideal)) (x1 : (⟨S2048x1024, .f32⟩ : BufTy).Contents (Elt Ideal)) (x2 : (⟨S2048x1024, .f32⟩ : BufTy).Contents (Elt Ideal)) (x3 : (⟨S1024x1024, .f32⟩ : BufTy).Contents (Elt Ideal)) (x4 : (⟨S2048x256, .f32⟩ : BufTy).Contents (Elt Ideal)) (x5 : (⟨S256x1024, .f32⟩ : BufTy).Contents (Elt Ideal)) (x6 : (⟨S2048x1024, .f32⟩ : BufTy).Contents (Elt Ideal)) (x7 : (⟨S2048x1024, .f32⟩ : BufTy).Contents (Elt Ideal)) (x8 : (⟨S2048x1024, .f32⟩ : BufTy).Contents (Elt Ideal)) (x9 : (⟨S2048x1024, .f32⟩ : BufTy).Contents (Elt Ideal))

/-- The mixed output, -/
theorem v0_val : E2 (a := 2048) (b := 1024) (val_main_v0 (F := Ideal) x0 x1) (fun r k => ∑ l ∈ range 2048, (entE (a := 2048) (b := 2048) x0) r l * (entE (a := 2048) (b := 1024) x1) l k) := fun i => by
  rw [val_main_v0_apply]
  exact sum_fin_range _ (fun l => (entE (a := 2048) (b := 2048) x0) (i 0).val l * (entE (a := 2048) (b := 1024) x1) l (i 1).val) fun l => by rw [entE_E2 x0, entE_E2 x1]

/-- the gate of the layer embedding, -/
theorem v1_val : E2 (a := 2048) (b := 1024) (val_main_v1 (F := Ideal) x2 x3) (fun r k => ∑ l ∈ range 1024, (entE (a := 2048) (b := 1024) x2) r l * (entE (a := 1024) (b := 1024) x3) l k) := fun i => by
  rw [val_main_v1_apply]
  exact sum_fin_range _ (fun l => (entE (a := 2048) (b := 1024) x2) (i 0).val l * (entE (a := 1024) (b := 1024) x3) l (i 1).val) fun l => by rw [entE_E2 x2, entE_E2 x3]

/-- and its projection. -/
theorem v2_val : E2 (a := 2048) (b := 1024) (val_main_v2 (F := Ideal) x4 x5) (fun r k => ∑ l ∈ range 256, (entE (a := 2048) (b := 256) x4) r l * (entE (a := 256) (b := 1024) x5) l k) := fun i => by
  rw [val_main_v2_apply]
  exact sum_fin_range _ (fun l => (entE (a := 2048) (b := 256) x4) (i 0).val l * (entE (a := 256) (b := 1024) x5) l (i 1).val) fun l => by rw [entE_E2 x4, entE_E2 x5]

/-- The mixed output's derivative, -/
theorem v11_val : E2 (a := 2048) (b := 2048) (val_main_v11 (F := Ideal) x1 x6) (fun r k => ∑ l ∈ range 1024, (entE (a := 2048) (b := 1024) x6) r l * (entE (a := 2048) (b := 1024) x1) k l) := fun i => by
  rw [val_main_v11_apply]
  exact sum_fin_range _ (fun l => (entE (a := 2048) (b := 1024) x6) (i 0).val l * (entE (a := 2048) (b := 1024) x1) (i 1).val l) fun l => by rw [entE_E2 x6, entE_E2 x1]

/-- and its weights'. -/
theorem v12_val : E2 (a := 2048) (b := 1024) (val_main_v12 (F := Ideal) x0 x6) (fun r k => ∑ l ∈ range 2048, (entE (a := 2048) (b := 2048) x0) l r * (entE (a := 2048) (b := 1024) x6) l k) := fun i => by
  show val_main_v10 (F := Ideal) x0 x6 i = _
  rw [val_main_v10_apply, val_main_v9_apply]
  exact sum_fin_range _ (fun l => (entE (a := 2048) (b := 2048) x0) l (i 0).val * (entE (a := 2048) (b := 1024) x6) l (i 1).val) fun l => by rw [entE_E2 x0, entE_E2 x6, mul_comm]

/-- The gate's input's derivative, on top of what came the other way, -/
theorem v13_val : E2 (a := 2048) (b := 1024) (val_main_v13 (F := Ideal) x3 x7 x9) (fun r k => (∑ l ∈ range 1024, (entE (a := 2048) (b := 1024) x7) r l * (entE (a := 1024) (b := 1024) x3) k l) + (entE (a := 2048) (b := 1024) x9) r k) := fun i => by
  have e : val_main_v8 (F := Ideal) x3 x7 i = ∑ l ∈ range 1024, (entE (a := 2048) (b := 1024) x7) (i 0).val l * (entE (a := 1024) (b := 1024) x3) (i 1).val l := by
    rw [val_main_v8_apply]
    exact sum_fin_range _ (fun l => (entE (a := 2048) (b := 1024) x7) (i 0).val l * (entE (a := 1024) (b := 1024) x3) (i 1).val l) fun l => by rw [entE_E2 x7, entE_E2 x3]
  show x9 i + val_main_v8 (F := Ideal) x3 x7 i = _
  rw [e, entE_E2 x9 i, add_comm]

/-- and the gate's weights'. -/
theorem v14_val : E2 (a := 1024) (b := 1024) (val_main_v14 (F := Ideal) x2 x7) (fun r k => ∑ l ∈ range 2048, (entE (a := 2048) (b := 1024) x2) l r * (entE (a := 2048) (b := 1024) x7) l k) := fun i => by
  show val_main_v7 (F := Ideal) x2 x7 i = _
  rw [val_main_v7_apply, val_main_v6_apply]
  exact sum_fin_range _ (fun l => (entE (a := 2048) (b := 1024) x2) l (i 0).val * (entE (a := 2048) (b := 1024) x7) l (i 1).val) fun l => by rw [entE_E2 x2, entE_E2 x7, mul_comm]

/-- The projection's weights' derivative. -/
theorem v15_val : E2 (a := 256) (b := 1024) (val_main_v15 (F := Ideal) x4 x8) (fun r k => ∑ l ∈ range 2048, (entE (a := 2048) (b := 256) x4) l r * (entE (a := 2048) (b := 1024) x8) l k) := fun i => by
  show val_main_v4 (F := Ideal) x4 x8 i = _
  rw [val_main_v4_apply, val_main_v3_apply]
  exact sum_fin_range _ (fun l => (entE (a := 2048) (b := 256) x4) l (i 0).val * (entE (a := 2048) (b := 1024) x8) l (i 1).val) fun l => by rw [entE_E2 x4, entE_E2 x8, mul_comm]

end Cert.Reference3Ideal.Hand

end
-- ==== Proof.WinLaunch.lean ====
/- The whole run of the three products of the input projection: what every buffer holds at the end. -/
module

public import proofs.«01_k».proof.Proof.Gen.Kernel4Ideal.Frame

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of @main ends with the buffers at the last boundary's contents. -/
theorem run_all : θ_run defs (onTc (τ := τ) (main (F := F))) ⟨m, fun _ => 0, ρ⟩ (fun r => ∀ c : Dev nD, ∀ b ∈ Pipeline.ucRefs τ sig,
      r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.Kernel4Ideal.Hand

end
-- ==== Proof.WinPay.lean ====
/- The payloads of the products' bodies, entry by entry. -/
module

public import proofs.«01_k».proof.Proof.ProdMat
public import proofs.«01_k».proof.Proof.Gen.Kernel4Ideal.Skeleton

@[expose] public section

set_option maxRecDepth 16384

noncomputable section

namespace Cert.Kernel4Ideal.Hand

open Idealize.ShloMosaic Idealize.ShloMosaic.ValueIdx Cert.Attn Cert.Kernel4Ideal Cert.Kernel4Ideal.Gen Finset

variable {f g h : ℕ → ℕ → EReal}

/-- Region 0: a product with the right operand contracted on its columns. -/
theorem pay0_1 {X : Vec Ideal S1024x1024 .bf16} {Y : Vec Ideal S1152x1024 .bf16} (hX : IsE (a := 1024) (c := 1024) (φ := .bf16) X f) (hY : IsE (a := 1152) (c := 1024) (φ := .bf16) Y g) :
    IsE (a := 1024) (c := 1152) (φ := .f32) (k0_pay1 X Y) (fun r k => ∑ l ∈ range 1024, f r l * g k l) := by
  unfold k0_pay1
  simp only [shapeCast_same]
  exact IsE.dotNT hX hY

/-- Region 1: a product contracted on both rows. -/
theorem pay1_1 {X : Vec Ideal S2048x1152 .bf16} {Y : Vec Ideal S2048x1024 .bf16} (hX : IsE (a := 2048) (c := 1152) (φ := .bf16) X f) (hY : IsE (a := 2048) (c := 1024) (φ := .bf16) Y g) :
    IsE (a := 1152) (c := 1024) (φ := .bf16) (k1_pay1 X Y) (fun r k => ∑ l ∈ range 2048, f l r * g l k) := by
  unfold k1_pay1
  simp only [shapeCast_same]
  exact (IsE.dotTN hX hY).trunc _

/-- Region 2: a plain product, with the added term. -/
theorem pay2_1 {X : Vec Ideal S512x3456 .bf16} {Y : Vec Ideal S3456x1024 .bf16} {Z : Vec Ideal S512x1024 .f32} (hX : IsE (a := 512) (c := 3456) (φ := .bf16) X f) (hY : IsE (a := 3456) (c := 1024) (φ := .bf16) Y g) (hZ : IsE (a := 512) (c := 1024) (φ := .f32) Z h) :
    IsE (a := 512) (c := 1024) (φ := .f32) (k2_pay1 X Y Z) (fun r k => (∑ l ∈ range 3456, f r l * g l k) + h r k) := by
  unfold k2_pay1
  simp only [shapeCast_same]
  exact (IsE.dotNN hX hY).add hZ

end Cert.Kernel4Ideal.Hand

end
-- ==== Proof.WinRegion0.lean ====
/- The windows of region 0 entry by entry: what a grid point reads, and what the array holds after the region. -/
module

public import proofs.«01_k».proof.Proof.WinPay
public import proofs.«01_k».proof.Proof.Gen.Kernel4Ideal.Frame

@[expose] public section

set_option maxRecDepth 16384

noncomputable section

namespace Cert.Kernel4Ideal.Hand

open Idealize.ShloMosaic Idealize.ShloMosaic.ValueIdx Idealize.ShloMosaic.TcCoe Cert.Attn Cert.Kernel4Ideal Cert.Kernel4Ideal.Gen Idealize.SL.Sem Finset
open Idealize.ShloMosaic.Pipeline (Dat)

variable (V : (c : Dev nD) → (b : Ref sig .tc) → Buf (Elt Ideal) ((c : Thread nD τ).loc b)) (c : Dev nD)

theorem idx0_0 : ∀ t : Fin grid0.N, win0_0.index t 0 = t.val / 3 ∧ win0_0.index t 1 = 0 := by decide +kernel

/-- Region 0: window 0's block at a grid point. -/
theorem iblk0_0_val (t : Fin cfg0.N) (f : ℕ → ℕ → EReal) (h : IsE (a := 2048) (c := 1024) (φ := .bf16) (V c main_v1) f) :
    IsE (a := 1024) (c := 1024) (φ := .bf16) (iblk0 V c 0 t) (fun r l => f ((t.val / 3) * 1024 + r) (l)) := fun r l => by
  obtain ⟨e0, e1⟩ := idx0_0 t
  have ht : t.val < 6 := t.isLt
  have hr := r.isLt
  have hl := l.isLt
  have hi : ((cfg0.win 0).blk t).view.emb (ix2 r l : S1024x1024.Idx) = (ix2 ⟨(t.val / 3) * 1024 + r.val, by omega⟩ ⟨l.val, by omega⟩ : S2048x1024.Idx) := by
    funext a
    apply Fin.ext
    match a with
    | ⟨0, _⟩ => show win0_0.index t 0 * 1024 + 1 * r.val = (t.val / 3) * 1024 + r.val; rw [e0]; omega
    | ⟨1, _⟩ => show win0_0.index t 1 * 1024 + 1 * l.val = l.val; rw [e1]; omega
  have hv : (iblk0 V c 0 t : Vec Ideal S1024x1024 .bf16) (ix2 r l) = V c main_v1 (((cfg0.win 0).blk t).view.emb (ix2 r l : S1024x1024.Idx)) := by
    unfold iblk0
    rw [View.read_apply]
    rfl
  exact hv.trans ((congrArg (V c main_v1) hi).trans (h ⟨(t.val / 3) * 1024 + r.val, by omega⟩ ⟨l.val, by omega⟩))

theorem idx0_1 : ∀ t : Fin grid0.N, win0_1.index t 0 = t.val % 3 ∧ win0_1.index t 1 = 0 := by decide +kernel

/-- Region 0: window 1's block at a grid point. -/
theorem iblk0_1_val (t : Fin cfg0.N) (f : ℕ → ℕ → EReal) (h : IsE (a := 3456) (c := 1024) (φ := .bf16) (V c main_v12) f) :
    IsE (a := 1152) (c := 1024) (φ := .bf16) (iblk0 V c 1 t) (fun r l => f ((t.val % 3) * 1152 + r) (l)) := fun r l => by
  obtain ⟨e0, e1⟩ := idx0_1 t
  have ht : t.val < 6 := t.isLt
  have hr := r.isLt
  have hl := l.isLt
  have hi : ((cfg0.win 1).blk t).view.emb (ix2 r l : S1152x1024.Idx) = (ix2 ⟨(t.val % 3) * 1152 + r.val, by omega⟩ ⟨l.val, by omega⟩ : S3456x1024.Idx) := by
    funext a
    apply Fin.ext
    match a with
    | ⟨0, _⟩ => show win0_1.index t 0 * 1152 + 1 * r.val = (t.val % 3) * 1152 + r.val; rw [e0]; omega
    | ⟨1, _⟩ => show win0_1.index t 1 * 1024 + 1 * l.val = l.val; rw [e1]; omega
  have hv : (iblk0 V c 1 t : Vec Ideal S1152x1024 .bf16) (ix2 r l) = V c main_v12 (((cfg0.win 1).blk t).view.emb (ix2 r l : S1152x1024.Idx)) := by
    unfold iblk0
    rw [View.read_apply]
    rfl
  exact hv.trans ((congrArg (V c main_v12) hi).trans (h ⟨(t.val % 3) * 1152 + r.val, by omega⟩ ⟨l.val, by omega⟩))

theorem idx0_2 : ∀ t : Fin grid0.N, win0_2.index t 0 = t.val / 3 ∧ win0_2.index t 1 = t.val % 3 := by decide +kernel

theorem inj0_2 : ∀ t t' : Fin cfg0.N, win0_2.index t = win0_2.index t' → t = t' :=
  (by decide +kernel : ∀ t t' : Fin grid0.N, win0_2.index t = win0_2.index t' → t = t')

/-- Region 0: a grid point's store to window 2 is the body's value of its blocks. -/
theorem out0_2_eq (t : Fin cfg0.N) : outsAt0 V c t = k0_pay1 (iblk0 V c 0 t) (iblk0 V c 1 t) := by
  unfold outsAt0 out0_A_2
  rw [View.read_writes_junk_eq_canon]
  show View.canon ([⟨Rect.unit ![0, 0] S1024x1152.size inb_S1024x1152_S1024x1152_0_0, k0_pay1
      (View.readAt (Elt Ideal) (ms0_0 t).view (Rect.unit (s := S1024x1024) ![0, 0] S1024x1024.size inb_S1024x1024_S1024x1024_0_0).toLoadRect ((hs0_0 t).unread (iblk0 V c 0 t)))
      (View.readAt (Elt Ideal) (ms0_1 t).view (Rect.unit (s := S1152x1024) ![0, 0] S1152x1024.size inb_S1152x1024_S1152x1024_0_0).toLoadRect ((hs0_1 t).unread (iblk0 V c 1 t)))⟩] :
      List (View.Piece (Elt Ideal) S1024x1152 .f32)) = _
  rw [View.canon_unit_zero zz, View.readAt_eq_ld, View.readAt_eq_ld, (hs0_0 t).read_unread, (hs0_1 t).read_unread, View.ld_unit_zero (S := S1024x1024) zz, View.ld_unit_zero (S := S1152x1024) zz]

/-- Region 0: a block of window 2's array after the region is what its grid point stored. -/
theorem block0_2 (t : Fin cfg0.N) (y : S1024x1152.Idx) :
    (dat0 V c).arrAt 2 cfg0.N (((cfg0.win 2).blk t).view.emb y) = outsAt0 V c t y := by
  have h := congrFun ((dat0 V c).read_blk_arrAt_eq_flushed 2 (fun t t' _ _ hne => (cfg0.win 2).disjoint_blk fun h => hne (inj0_2 t t' h)) cfg0.N t t.isLt (flush0_2 t)) y
  rw [View.read_apply] at h
  refine h.trans ?_
  show (cfg0.win 2).cut (grid0.coords t) ((dat0 V c).after 2 t) y = _
  rw [after0_2]
  rfl

/-- Region 0: the array of window 2 after the region. -/
theorem array0_2 {f g : ℕ → ℕ → EReal} (hf : IsE (a := 2048) (c := 1024) (φ := .bf16) (V c main_v1) f) (hg : IsE (a := 3456) (c := 1024) (φ := .bf16) (V c main_v12) g) :
    IsE (a := 2048) (c := 3456) (φ := .f32) ((dat0 V c).arrAt 2 cfg0.N) (fun r k => ∑ l ∈ range 1024, f r l * g k l) := fun r k => by
  have hr := r.isLt
  have hk := k.isLt
  obtain ⟨t, ht⟩ : ∃ t : Fin cfg0.N, t.val = 3 * (r.val / 1024) + k.val / 1152 := ⟨⟨3 * (r.val / 1024) + k.val / 1152, (by omega : 3 * (r.val / 1024) + k.val / 1152 < 6)⟩, rfl⟩
  obtain ⟨e0, e1⟩ := idx0_2 t
  have er : (t.val / 3) * 1024 + (r.val % 1024) = r.val := by omega
  have ek : (t.val % 3) * 1152 + (k.val % 1152) = k.val := by omega
  have hi : ((cfg0.win 2).blk t).view.emb (ix2 ⟨r.val % 1024, by omega⟩ ⟨k.val % 1152, by omega⟩ : S1024x1152.Idx) = (ix2 r k : S2048x3456.Idx) := by
    funext x
    apply Fin.ext
    match x with
    | ⟨0, _⟩ => show win0_2.index t 0 * 1024 + 1 * (r.val % 1024) = r.val; rw [e0]; omega
    | ⟨1, _⟩ => show win0_2.index t 1 * 1152 + 1 * (k.val % 1152) = k.val; rw [e1]; omega
  refine (congrArg ((dat0 V c).arrAt 2 cfg0.N) hi).symm.trans ((block0_2 V c t _).trans ((congrFun (out0_2_eq V c t) _).trans ((pay0_1 (iblk0_0_val V c t _ hf) (iblk0_1_val V c t _ hg) ⟨r.val % 1024, by omega⟩ ⟨k.val % 1152, by omega⟩).trans ?_)))
  show (((∑ l ∈ range 1024, f ((t.val / 3) * 1024 + (r.val % 1024)) l * g ((t.val % 3) * 1152 + (k.val % 1152)) l) : EReal)) = _
  rw [er, ek]

end Cert.Kernel4Ideal.Hand

end
-- ==== Proof.WinRegion1.lean ====
/- The windows of region 1 entry by entry: what a grid point reads, and what the array holds after the region. -/
module

public import proofs.«01_k».proof.Proof.WinPay
public import proofs.«01_k».proof.Proof.Gen.Kernel4Ideal.Frame

@[expose] public section

set_option maxRecDepth 16384

noncomputable section

namespace Cert.Kernel4Ideal.Hand

open Idealize.ShloMosaic Idealize.ShloMosaic.ValueIdx Idealize.ShloMosaic.TcCoe Cert.Attn Cert.Kernel4Ideal Cert.Kernel4Ideal.Gen Idealize.SL.Sem Finset
open Idealize.ShloMosaic.Pipeline (Dat)

variable (V : (c : Dev nD) → (b : Ref sig .tc) → Buf (Elt Ideal) ((c : Thread nD τ).loc b)) (c : Dev nD)

theorem idx1_0 : ∀ t : Fin grid1.N, win1_0.index t 0 = 0 ∧ win1_0.index t 1 = t.val := by decide +kernel

/-- Region 1: window 0's block at a grid point. -/
theorem iblk1_0_val (t : Fin cfg1.N) (f : ℕ → ℕ → EReal) (h : IsE (a := 2048) (c := 3456) (φ := .bf16) (V c main_v24) f) :
    IsE (a := 2048) (c := 1152) (φ := .bf16) (iblk1 V c 0 t) (fun r l => f (r) ((t.val) * 1152 + l)) := fun r l => by
  obtain ⟨e0, e1⟩ := idx1_0 t
  have ht : t.val < 3 := t.isLt
  have hr := r.isLt
  have hl := l.isLt
  have hi : ((cfg1.win 0).blk t).view.emb (ix2 r l : S2048x1152.Idx) = (ix2 ⟨r.val, by omega⟩ ⟨(t.val) * 1152 + l.val, by omega⟩ : S2048x3456.Idx) := by
    funext a
    apply Fin.ext
    match a with
    | ⟨0, _⟩ => show win1_0.index t 0 * 2048 + 1 * r.val = r.val; rw [e0]; omega
    | ⟨1, _⟩ => show win1_0.index t 1 * 1152 + 1 * l.val = (t.val) * 1152 + l.val; rw [e1]; omega
  have hv : (iblk1 V c 0 t : Vec Ideal S2048x1152 .bf16) (ix2 r l) = V c main_v24 (((cfg1.win 0).blk t).view.emb (ix2 r l : S2048x1152.Idx)) := by
    unfold iblk1
    rw [View.read_apply]
    rfl
  exact hv.trans ((congrArg (V c main_v24) hi).trans (h ⟨r.val, by omega⟩ ⟨(t.val) * 1152 + l.val, by omega⟩))

theorem idx1_1 : ∀ t : Fin grid1.N, win1_1.index t 0 = 0 ∧ win1_1.index t 1 = 0 := by decide +kernel

/-- Region 1: window 1's block at a grid point. -/
theorem iblk1_1_val (t : Fin cfg1.N) (f : ℕ → ℕ → EReal) (h : IsE (a := 2048) (c := 1024) (φ := .bf16) (V c main_v1) f) :
    IsE (a := 2048) (c := 1024) (φ := .bf16) (iblk1 V c 1 t) (fun r l => f (r) (l)) := fun r l => by
  obtain ⟨e0, e1⟩ := idx1_1 t
  have ht : t.val < 3 := t.isLt
  have hr := r.isLt
  have hl := l.isLt
  have hi : ((cfg1.win 1).blk t).view.emb (ix2 r l : S2048x1024.Idx) = (ix2 ⟨r.val, by omega⟩ ⟨l.val, by omega⟩ : S2048x1024.Idx) := by
    funext a
    apply Fin.ext
    match a with
    | ⟨0, _⟩ => show win1_1.index t 0 * 2048 + 1 * r.val = r.val; rw [e0]; omega
    | ⟨1, _⟩ => show win1_1.index t 1 * 1024 + 1 * l.val = l.val; rw [e1]; omega
  have hv : (iblk1 V c 1 t : Vec Ideal S2048x1024 .bf16) (ix2 r l) = V c main_v1 (((cfg1.win 1).blk t).view.emb (ix2 r l : S2048x1024.Idx)) := by
    unfold iblk1
    rw [View.read_apply]
    rfl
  exact hv.trans ((congrArg (V c main_v1) hi).trans (h ⟨r.val, by omega⟩ ⟨l.val, by omega⟩))

theorem idx1_2 : ∀ t : Fin grid1.N, win1_2.index t 0 = t.val ∧ win1_2.index t 1 = 0 := by decide +kernel

theorem inj1_2 : ∀ t t' : Fin cfg1.N, win1_2.index t = win1_2.index t' → t = t' :=
  (by decide +kernel : ∀ t t' : Fin grid1.N, win1_2.index t = win1_2.index t' → t = t')

/-- Region 1: a grid point's store to window 2 is the body's value of its blocks. -/
theorem out1_2_eq (x0 : Vec Ideal S2048x1152 .bf16) (x1 : Vec Ideal S2048x1024 .bf16) : out1_2 x0 x1 = k1_pay1 x0 x1 := by
  unfold out1_2
  rw [View.canon_unit_zero zz]
  simp only [View.ld_unit_zero (S := S2048x1024) zz, View.ld_unit_zero (S := S2048x1152) zz]

/-- Region 1: a block of window 2's array after the region is what its grid point stored. -/
theorem block1_2 (t : Fin cfg1.N) (y : S1152x1024.Idx) :
    (dat1 V c).arrAt 2 cfg1.N (((cfg1.win 2).blk t).view.emb y) = out1_2 (iblk1 V c 0 t) (iblk1 V c 1 t) y := by
  have h := congrFun ((dat1 V c).read_blk_arrAt_eq_flushed 2 (fun t t' _ _ hne => (cfg1.win 2).disjoint_blk fun h => hne (inj1_2 t t' h)) cfg1.N t t.isLt (flush1_2 t)) y
  rw [View.read_apply] at h
  refine h.trans ?_
  show (cfg1.win 2).cut (grid1.coords t) ((dat1 V c).after 2 t) y = _
  rw [after1_2]
  rfl

/-- Region 1: the array of window 2 after the region. -/
theorem array1_2 {f g : ℕ → ℕ → EReal} (hf : IsE (a := 2048) (c := 3456) (φ := .bf16) (V c main_v24) f) (hg : IsE (a := 2048) (c := 1024) (φ := .bf16) (V c main_v1) g) :
    IsE (a := 3456) (c := 1024) (φ := .bf16) ((dat1 V c).arrAt 2 cfg1.N) (fun r k => ∑ l ∈ range 2048, f l r * g l k) := fun r k => by
  have hr := r.isLt
  have hk := k.isLt
  obtain ⟨t, ht⟩ : ∃ t : Fin cfg1.N, t.val = r.val / 1152 := ⟨⟨r.val / 1152, (by omega : r.val / 1152 < 3)⟩, rfl⟩
  obtain ⟨e0, e1⟩ := idx1_2 t
  have er : (t.val) * 1152 + (r.val % 1152) = r.val := by omega
  have hi : ((cfg1.win 2).blk t).view.emb (ix2 ⟨r.val % 1152, by omega⟩ k : S1152x1024.Idx) = (ix2 r k : S3456x1024.Idx) := by
    funext x
    apply Fin.ext
    match x with
    | ⟨0, _⟩ => show win1_2.index t 0 * 1152 + 1 * (r.val % 1152) = r.val; rw [e0]; omega
    | ⟨1, _⟩ => show win1_2.index t 1 * 1024 + 1 * k.val = k.val; rw [e1, Nat.zero_mul, Nat.zero_add, Nat.one_mul]
  refine (congrArg ((dat1 V c).arrAt 2 cfg1.N) hi).symm.trans ((block1_2 V c t _).trans ((congrFun (out1_2_eq (iblk1 V c 0 t) (iblk1 V c 1 t)) _).trans ((pay1_1 (iblk1_0_val V c t _ hf) (iblk1_1_val V c t _ hg) ⟨r.val % 1152, by omega⟩ k).trans ?_)))
  show (((∑ l ∈ range 2048, f l ((t.val) * 1152 + (r.val % 1152)) * g l (k.val)) : EReal)) = _
  rw [er]

end Cert.Kernel4Ideal.Hand

end
-- ==== Proof.WinRegion2.lean ====
/- The windows of region 2 entry by entry: what a grid point reads, and what the array holds after the region. -/
module

public import proofs.«01_k».proof.Proof.WinPay
public import proofs.«01_k».proof.Proof.Gen.Kernel4Ideal.Frame

@[expose] public section

set_option maxRecDepth 16384

noncomputable section

namespace Cert.Kernel4Ideal.Hand

open Idealize.ShloMosaic Idealize.ShloMosaic.ValueIdx Idealize.ShloMosaic.TcCoe Cert.Attn Cert.Kernel4Ideal Cert.Kernel4Ideal.Gen Idealize.SL.Sem Finset
open Idealize.ShloMosaic.Pipeline (Dat)

variable (V : (c : Dev nD) → (b : Ref sig .tc) → Buf (Elt Ideal) ((c : Thread nD τ).loc b)) (c : Dev nD)

theorem idx2_0 : ∀ t : Fin grid2.N, win2_0.index t 0 = t.val ∧ win2_0.index t 1 = 0 := by decide +kernel

/-- Region 2: window 0's block at a grid point. -/
theorem iblk2_0_val (t : Fin cfg2.N) (f : ℕ → ℕ → EReal) (h : IsE (a := 2048) (c := 3456) (φ := .bf16) (V c main_v24) f) :
    IsE (a := 512) (c := 3456) (φ := .bf16) (iblk2 V c 0 t) (fun r l => f ((t.val) * 512 + r) (l)) := fun r l => by
  obtain ⟨e0, e1⟩ := idx2_0 t
  have ht : t.val < 4 := t.isLt
  have hr := r.isLt
  have hl := l.isLt
  have hi : ((cfg2.win 0).blk t).view.emb (ix2 r l : S512x3456.Idx) = (ix2 ⟨(t.val) * 512 + r.val, by omega⟩ ⟨l.val, by omega⟩ : S2048x3456.Idx) := by
    funext a
    apply Fin.ext
    match a with
    | ⟨0, _⟩ => show win2_0.index t 0 * 512 + 1 * r.val = (t.val) * 512 + r.val; rw [e0]; omega
    | ⟨1, _⟩ => show win2_0.index t 1 * 3456 + 1 * l.val = l.val; rw [e1]; omega
  have hv : (iblk2 V c 0 t : Vec Ideal S512x3456 .bf16) (ix2 r l) = V c main_v24 (((cfg2.win 0).blk t).view.emb (ix2 r l : S512x3456.Idx)) := by
    unfold iblk2
    rw [View.read_apply]
    rfl
  exact hv.trans ((congrArg (V c main_v24) hi).trans (h ⟨(t.val) * 512 + r.val, by omega⟩ ⟨l.val, by omega⟩))

theorem idx2_1 : ∀ t : Fin grid2.N, win2_1.index t 0 = 0 ∧ win2_1.index t 1 = 0 := by decide +kernel

/-- Region 2: window 1's block at a grid point. -/
theorem iblk2_1_val (t : Fin cfg2.N) (f : ℕ → ℕ → EReal) (h : IsE (a := 3456) (c := 1024) (φ := .bf16) (V c main_v12) f) :
    IsE (a := 3456) (c := 1024) (φ := .bf16) (iblk2 V c 1 t) (fun r l => f (r) (l)) := fun r l => by
  obtain ⟨e0, e1⟩ := idx2_1 t
  have ht : t.val < 4 := t.isLt
  have hr := r.isLt
  have hl := l.isLt
  have hi : ((cfg2.win 1).blk t).view.emb (ix2 r l : S3456x1024.Idx) = (ix2 ⟨r.val, by omega⟩ ⟨l.val, by omega⟩ : S3456x1024.Idx) := by
    funext a
    apply Fin.ext
    match a with
    | ⟨0, _⟩ => show win2_1.index t 0 * 3456 + 1 * r.val = r.val; rw [e0]; omega
    | ⟨1, _⟩ => show win2_1.index t 1 * 1024 + 1 * l.val = l.val; rw [e1]; omega
  have hv : (iblk2 V c 1 t : Vec Ideal S3456x1024 .bf16) (ix2 r l) = V c main_v12 (((cfg2.win 1).blk t).view.emb (ix2 r l : S3456x1024.Idx)) := by
    unfold iblk2
    rw [View.read_apply]
    rfl
  exact hv.trans ((congrArg (V c main_v12) hi).trans (h ⟨r.val, by omega⟩ ⟨l.val, by omega⟩))

theorem idx2_2 : ∀ t : Fin grid2.N, win2_2.index t 0 = t.val ∧ win2_2.index t 1 = 0 := by decide +kernel

/-- Region 2: window 2's block at a grid point. -/
theorem iblk2_2_val (t : Fin cfg2.N) (f : ℕ → ℕ → EReal) (h : IsE (a := 2048) (c := 1024) (φ := .f32) (V c main_arg8) f) :
    IsE (a := 512) (c := 1024) (φ := .f32) (iblk2 V c 2 t) (fun r l => f ((t.val) * 512 + r) (l)) := fun r l => by
  obtain ⟨e0, e1⟩ := idx2_2 t
  have ht : t.val < 4 := t.isLt
  have hr := r.isLt
  have hl := l.isLt
  have hi : ((cfg2.win 2).blk t).view.emb (ix2 r l : S512x1024.Idx) = (ix2 ⟨(t.val) * 512 + r.val, by omega⟩ ⟨l.val, by omega⟩ : S2048x1024.Idx) := by
    funext a
    apply Fin.ext
    match a with
    | ⟨0, _⟩ => show win2_2.index t 0 * 512 + 1 * r.val = (t.val) * 512 + r.val; rw [e0]; omega
    | ⟨1, _⟩ => show win2_2.index t 1 * 1024 + 1 * l.val = l.val; rw [e1]; omega
  have hv : (iblk2 V c 2 t : Vec Ideal S512x1024 .f32) (ix2 r l) = V c main_arg8 (((cfg2.win 2).blk t).view.emb (ix2 r l : S512x1024.Idx)) := by
    unfold iblk2
    rw [View.read_apply]
    rfl
  exact hv.trans ((congrArg (V c main_arg8) hi).trans (h ⟨(t.val) * 512 + r.val, by omega⟩ ⟨l.val, by omega⟩))

theorem idx2_3 : ∀ t : Fin grid2.N, win2_3.index t 0 = t.val ∧ win2_3.index t 1 = 0 := by decide +kernel

theorem inj2_3 : ∀ t t' : Fin cfg2.N, win2_3.index t = win2_3.index t' → t = t' :=
  (by decide +kernel : ∀ t t' : Fin grid2.N, win2_3.index t = win2_3.index t' → t = t')

/-- Region 2: a grid point's store to window 3 is the body's value of its blocks. -/
theorem out2_3_eq (t : Fin cfg2.N) : outsAt2 V c t = k2_pay1 (iblk2 V c 0 t) (iblk2 V c 1 t) (iblk2 V c 2 t) := by
  unfold outsAt2 out2_A_3
  rw [View.read_writes_junk_eq_canon]
  show View.canon ([⟨Rect.unit ![0, 0] S512x1024.size inb_S512x1024_S512x1024_0_0, k2_pay1
      (View.readAt (Elt Ideal) (ms2_0 t).view (Rect.unit (s := S512x3456) ![0, 0] S512x3456.size inb_S512x3456_S512x3456_0_0).toLoadRect ((hs2_0 t).unread (iblk2 V c 0 t)))
      (View.readAt (Elt Ideal) (ms2_1 t).view (Rect.unit (s := S3456x1024) ![0, 0] S3456x1024.size inb_S3456x1024_S3456x1024_0_0).toLoadRect ((hs2_1 t).unread (iblk2 V c 1 t)))
      (View.readAt (Elt Ideal) (ms2_2 t).view (Rect.unit (s := S512x1024) ![0, 0] S512x1024.size inb_S512x1024_S512x1024_0_0).toLoadRect ((hs2_2 t).unread (iblk2 V c 2 t)))⟩] :
      List (View.Piece (Elt Ideal) S512x1024 .f32)) = _
  rw [View.canon_unit_zero zz, View.readAt_eq_ld, View.readAt_eq_ld, View.readAt_eq_ld, (hs2_0 t).read_unread, (hs2_1 t).read_unread, (hs2_2 t).read_unread, View.ld_unit_zero (S := S512x3456) zz, View.ld_unit_zero (S := S3456x1024) zz, View.ld_unit_zero (S := S512x1024) zz]

/-- Region 2: a block of window 3's array after the region is what its grid point stored. -/
theorem block2_3 (t : Fin cfg2.N) (y : S512x1024.Idx) :
    (dat2 V c).arrAt 3 cfg2.N (((cfg2.win 3).blk t).view.emb y) = outsAt2 V c t y := by
  have h := congrFun ((dat2 V c).read_blk_arrAt_eq_flushed 3 (fun t t' _ _ hne => (cfg2.win 3).disjoint_blk fun h => hne (inj2_3 t t' h)) cfg2.N t t.isLt (flush2_3 t)) y
  rw [View.read_apply] at h
  refine h.trans ?_
  show (cfg2.win 3).cut (grid2.coords t) ((dat2 V c).after 3 t) y = _
  rw [after2_3]
  rfl

/-- Region 2: the array of window 3 after the region. -/
theorem array2_3 {f g h : ℕ → ℕ → EReal} (hf : IsE (a := 2048) (c := 3456) (φ := .bf16) (V c main_v24) f) (hg : IsE (a := 3456) (c := 1024) (φ := .bf16) (V c main_v12) g) (hh : IsE (a := 2048) (c := 1024) (φ := .f32) (V c main_arg8) h) :
    IsE (a := 2048) (c := 1024) (φ := .f32) ((dat2 V c).arrAt 3 cfg2.N) (fun r k => (∑ l ∈ range 3456, f r l * g l k) + h r k) := fun r k => by
  have hr := r.isLt
  have hk := k.isLt
  obtain ⟨t, ht⟩ : ∃ t : Fin cfg2.N, t.val = r.val / 512 := ⟨⟨r.val / 512, (by omega : r.val / 512 < 4)⟩, rfl⟩
  obtain ⟨e0, e1⟩ := idx2_3 t
  have er : (t.val) * 512 + (r.val % 512) = r.val := by omega
  have hi : ((cfg2.win 3).blk t).view.emb (ix2 ⟨r.val % 512, by omega⟩ k : S512x1024.Idx) = (ix2 r k : S2048x1024.Idx) := by
    funext x
    apply Fin.ext
    match x with
    | ⟨0, _⟩ => show win2_3.index t 0 * 512 + 1 * (r.val % 512) = r.val; rw [e0]; omega
    | ⟨1, _⟩ => show win2_3.index t 1 * 1024 + 1 * k.val = k.val; rw [e1, Nat.zero_mul, Nat.zero_add, Nat.one_mul]
  refine (congrArg ((dat2 V c).arrAt 3 cfg2.N) hi).symm.trans ((block2_3 V c t _).trans ((congrFun (out2_3_eq V c t) _).trans ((pay2_1 (iblk2_0_val V c t _ hf) (iblk2_1_val V c t _ hg) (iblk2_2_val V c t _ hh) ⟨r.val % 512, by omega⟩ k).trans ?_)))
  show ((((∑ l ∈ range 3456, f ((t.val) * 512 + (r.val % 512)) l * g l (k.val)) + h ((t.val) * 512 + (r.val % 512)) (k.val)) : EReal)) = _
  rw [er]

end Cert.Kernel4Ideal.Hand

end
-- ==== Proof.WinMat.lean ====
/- The kernel keeps the input projection's 3248 columns in a layout of 3456: the columns of one piece stand elsewhere, and zero columns
   fill two of the pieces up. A sum over the padded columns is the sum over the columns. -/
module

public import proofs.«01_k».proof.Proof.ProdMat

@[expose] public section

set_option maxRecDepth 16384

noncomputable section

namespace Cert.Attn

open Idealize.ShloMosaic Idealize.ShloMosaic.ValueIdx Finset

section Pieces

variable {a c n : ℕ} {φ : FTy} {f : ℕ → ℕ → EReal}

/-- Columns of a matrix from the `o`-th on, -/
theorem IsE.sliceC {X : FVec Ideal (M a n) φ} (hX : IsE X f) (o : ℕ) (h : (M a n).Slices ![0, o] (M a c)) :
    IsE (φ := φ) (extractStridedSlice (M a c) ![0, o] X h) (fun r l => f r (o + l)) := fun r l => by
  have hl : o + l.val < n := lt_of_lt_of_le (Nat.add_lt_add_left l.isLt o) (h.2 1)
  refine (extractStridedSlice_apply ![0, o] X h (ix2 r l) (ix2 r (⟨o + l.val, hl⟩ : Fin n)) fun b => ?_).trans (hX r _)
  match b with
  | ⟨0, _⟩ => show r.val = 0 + r.val; omega
  | ⟨1, _⟩ => rfl

/-- and rows. -/
theorem IsE.sliceR {X : FVec Ideal (M n c) φ} (hX : IsE X f) (o : ℕ) (h : (M n c).Slices ![o, 0] (M a c)) :
    IsE (φ := φ) (extractStridedSlice (M a c) ![o, 0] X h) (fun r l => f (o + r) l) := fun r l => by
  have hr : o + r.val < n := lt_of_lt_of_le (Nat.add_lt_add_left r.isLt o) (h.2 0)
  refine (extractStridedSlice_apply ![o, 0] X h (ix2 r l) (ix2 (⟨o + r.val, hr⟩ : Fin n) l) fun b => ?_).trans (hX _ l)
  match b with
  | ⟨0, _⟩ => rfl
  | ⟨1, _⟩ => show l.val = 0 + l.val; omega

/-- A zero matrix. -/
theorem IsE.zeros {w : BitVec φ.bits} (hw : Ideal.ofBits φ w = 0) (hb : (⟨0, ![]⟩ : Shape).BroadcastsInDim (M a c) (![] : Fin 0 → Fin 2)) :
    IsE (φ := φ) (broadcastInDim (M a c) ![] hb (constant (F := Ideal) ⟨0, ![]⟩ φ w)) (fun _ _ => 0) := fun _ _ => hw

/-- The narrow format's zero. -/
theorem ofBits_zero_b : Ideal.ofBits .bf16 0x0000#16 = 0 := by simp [Ideal.ofBits, Ideal.ieee]

/-- A row of matrices one under the other: the piece that holds it. -/
theorem catR (xs : List ((s : Shape) × (s.Idx → EReal))) (h : Shape.Concatenates (xs.map (·.1)) (M a c) 0) (k : ℕ) (hk : k < xs.length)
    (X : FVec Ideal (M n c) φ) (hX : IsE X f) (hxk : xs[k] = ⟨M n c, X⟩) (pre : ℕ)
    (hpre : (((xs.take k).map (·.1)).map fun s => if h : s.rank = (M a c).rank then s.size (Fin.cast h.symm 0) else 0).sum = pre)
    (r : Fin a) (j : Fin c) (h1 : pre ≤ r.val) (h2 : r.val - pre < n) :
    concatenate (M a c) 0 xs h (ix2 r j) = f (r.val - pre) j.val := by
  refine (concatenate_apply_piece 0 xs h (ix2 r j) k hk (M n c) X hxk rfl pre hpre (ix2 (⟨r.val - pre, h2⟩ : Fin n) j) (fun b hb => ?_) ?_).trans
    (hX ⟨r.val - pre, h2⟩ j)
  · match b with
    | ⟨0, _⟩ => exact absurd rfl hb
    | ⟨1, _⟩ => rfl
  · show pre + (r.val - pre) = r.val; omega

/-- A column of matrices side by side: the piece that holds it. -/
theorem catC (xs : List ((s : Shape) × (s.Idx → EReal))) (h : Shape.Concatenates (xs.map (·.1)) (M a c) 1) (k : ℕ) (hk : k < xs.length)
    (X : FVec Ideal (M a n) φ) (hX : IsE X f) (hxk : xs[k] = ⟨M a n, X⟩) (pre : ℕ)
    (hpre : (((xs.take k).map (·.1)).map fun s => if h : s.rank = (M a c).rank then s.size (Fin.cast h.symm 1) else 0).sum = pre)
    (r : Fin a) (j : Fin c) (h1 : pre ≤ j.val) (h2 : j.val - pre < n) :
    concatenate (M a c) 1 xs h (ix2 r j) = f r.val (j.val - pre) := by
  refine (concatenate_apply_piece 1 xs h (ix2 r j) k hk (M a n) X hxk rfl pre hpre (ix2 r (⟨j.val - pre, h2⟩ : Fin n)) (fun b hb => ?_) ?_).trans
    (hX r ⟨j.val - pre, h2⟩)
  · match b with
    | ⟨0, _⟩ => rfl
    | ⟨1, _⟩ => exact absurd rfl hb
  · show pre + (j.val - pre) = j.val; omega

end Pieces

/-! ## The 3248 columns of the projection among the kernel's 3456 -/

/-- Column `c` of the padded layout: the six pieces in the kernel's order, two of them filled up with zeros to 128 columns. -/
def padF (N : ℕ → EReal) (c : ℕ) : EReal :=
  if c < 1024 then N (0 + (c - 0))
  else if c < 1040 then N (2560 + (c - 1024))
  else if c < 1152 then 0
  else if c < 1536 then N (2576 + (c - 1152))
  else if c < 3072 then N (1024 + (c - 1536))
  else if c < 3328 then N (2960 + (c - 3072))
  else if c < 3360 then N (3216 + (c - 3328))
  else 0

/-- Where the padded layout keeps column `n`. -/
def pos (n : ℕ) : ℕ :=
  if n < 1024 then n else if n < 2560 then n + 512 else if n < 2576 then n - 1536 else if n < 2960 then n - 1424 else n + 112

theorem padF_at (N : ℕ → EReal) {n c : ℕ} (hn : n < 3248) (hc : c = pos n) : padF N c = N n := by
  subst hc
  unfold pos
  by_cases h0 : n < 1024
  · rw [if_pos h0]; rw [padF, if_pos (by omega)]; congr 1; omega
  rw [if_neg h0]
  by_cases h1 : n < 2560
  · rw [if_pos h1]; rw [padF, if_neg (by omega), if_neg (by omega), if_neg (by omega), if_neg (by omega), if_pos (by omega)]; congr 1; omega
  rw [if_neg h1]
  by_cases h2 : n < 2576
  · rw [if_pos h2]; rw [padF, if_neg (by omega), if_pos (by omega)]; congr 1; omega
  rw [if_neg h2]
  by_cases h3 : n < 2960
  · rw [if_pos h3]; rw [padF, if_neg (by omega), if_neg (by omega), if_neg (by omega), if_pos (by omega)]; congr 1; omega
  rw [if_neg h3]
  by_cases h4 : n < 3216
  · rw [padF, if_neg (by omega), if_neg (by omega), if_neg (by omega), if_neg (by omega), if_neg (by omega), if_pos (by omega)]; congr 1; omega
  rw [padF, if_neg (by omega), if_neg (by omega), if_neg (by omega), if_neg (by omega), if_neg (by omega), if_neg (by omega), if_pos (by omega)]; congr 1; omega

theorem padF_mul (u v : ℕ → EReal) (c : ℕ) : padF u c * padF v c = padF (fun n => u n * v n) c := by
  unfold padF
  split_ifs <;> first | rfl | exact mul_zero 0

/-- The padded columns' sum is the columns' sum. -/
theorem padF_sum (w : ℕ → EReal) : ∑ c ∈ range 3456, padF w c = ∑ n ∈ range 3248, w n := by
  have L : ∑ c ∈ range 3456, padF w c = ∑ c ∈ range (1024 + 16 + 112 + 384 + 1536 + 256 + 32 + 96), padF w c := rfl
  have R : ∑ n ∈ range 3248, w n = ∑ n ∈ range (1024 + 1536 + 16 + 384 + 256 + 32), w n := rfl
  rw [L, R]
  simp only [Finset.sum_range_add]
  have e0 : ∑ x ∈ range 1024, padF w x = ∑ x ∈ range 1024, w x :=
    Finset.sum_congr rfl fun x hx => padF_at w (by have := mem_range.1 hx; omega) (by have := mem_range.1 hx; unfold pos; split_ifs <;> omega)
  have e1 : ∑ x ∈ range 16, padF w (1024 + x) = ∑ x ∈ range 16, w (1024 + 1536 + x) :=
    Finset.sum_congr rfl fun x hx => padF_at w (by have := mem_range.1 hx; omega) (by have := mem_range.1 hx; unfold pos; split_ifs <;> omega)
  have e3 : ∑ x ∈ range 384, padF w (1024 + 16 + 112 + x) = ∑ x ∈ range 384, w (1024 + 1536 + 16 + x) :=
    Finset.sum_congr rfl fun x hx => padF_at w (by have := mem_range.1 hx; omega) (by have := mem_range.1 hx; unfold pos; split_ifs <;> omega)
  have e4 : ∑ x ∈ range 1536, padF w (1024 + 16 + 112 + 384 + x) = ∑ x ∈ range 1536, w (1024 + x) :=
    Finset.sum_congr rfl fun x hx => padF_at w (by have := mem_range.1 hx; omega) (by have := mem_range.1 hx; unfold pos; split_ifs <;> omega)
  have e5 : ∑ x ∈ range 256, padF w (1024 + 16 + 112 + 384 + 1536 + x) = ∑ x ∈ range 256, w (1024 + 1536 + 16 + 384 + x) :=
    Finset.sum_congr rfl fun x hx => padF_at w (by have := mem_range.1 hx; omega) (by have := mem_range.1 hx; unfold pos; split_ifs <;> omega)
  have e6 : ∑ x ∈ range 32, padF w (1024 + 16 + 112 + 384 + 1536 + 256 + x) = ∑ x ∈ range 32, w (1024 + 1536 + 16 + 384 + 256 + x) :=
    Finset.sum_congr rfl fun x hx => padF_at w (by have := mem_range.1 hx; omega) (by have := mem_range.1 hx; unfold pos; split_ifs <;> omega)
  have e2 : ∑ x ∈ range 112, padF w (1024 + 16 + x) = 0 :=
    Finset.sum_eq_zero fun x hx => by have := mem_range.1 hx; unfold padF; split_ifs <;> first | omega | rfl
  have e7 : ∑ x ∈ range 96, padF w (1024 + 16 + 112 + 384 + 1536 + 256 + 32 + x) = 0 :=
    Finset.sum_eq_zero fun x hx => by have := mem_range.1 hx; unfold padF; split_ifs <;> first | omega | rfl
  rw [e0, e1, e2, e3, e4, e5, e6, e7]
  abel

/-- The columns of six matrices side by side. -/
def cat6 (z x d q k e : ℕ → ℕ → EReal) (r n : ℕ) : EReal :=
  if n < 1024 then z r (n - 0) else if n < 2560 then x r (n - 1024) else if n < 2576 then d r (n - 2560)
  else if n < 2960 then q r (n - 2576) else if n < 3216 then k r (n - 2960) else e r (n - 3216)

section Whole

variable {φ : FTy} {f z x d q k e : ℕ → ℕ → EReal}

/-- Six matrices side by side. -/
theorem IsE.six {Z : FVec Ideal (M 2048 1024) φ} {X : FVec Ideal (M 2048 1536) φ} {D : FVec Ideal (M 2048 16) φ} {Q : FVec Ideal (M 2048 384) φ}
    {K : FVec Ideal (M 2048 256) φ} {E : FVec Ideal (M 2048 32) φ} (hZ : IsE Z z) (hX : IsE X x) (hD : IsE D d) (hQ : IsE Q q) (hK : IsE K k) (hE : IsE E e)
    (h : Shape.Concatenates [M 2048 1024, M 2048 1536, M 2048 16, M 2048 384, M 2048 256, M 2048 32] (M 2048 3248) 1) :
    IsE (φ := φ) (concatenate (M 2048 3248) 1 [⟨M 2048 1024, Z⟩, ⟨M 2048 1536, X⟩, ⟨M 2048 16, D⟩, ⟨M 2048 384, Q⟩, ⟨M 2048 256, K⟩, ⟨M 2048 32, E⟩] h)
      (cat6 z x d q k e) := fun r j => by
  have hj := j.isLt
  unfold cat6
  by_cases h0 : j.val < 1024
  · rw [if_pos h0]; exact (catC _ _ 0 (by simp) _ hZ rfl 0 rfl r j (by omega) (by omega))
  rw [if_neg h0]
  by_cases h1 : j.val < 2560
  · rw [if_pos h1]; exact (catC _ _ 1 (by simp) _ hX rfl 1024 rfl r j (by omega) (by omega))
  rw [if_neg h1]
  by_cases h2 : j.val < 2576
  · rw [if_pos h2]; exact (catC _ _ 2 (by simp) _ hD rfl 2560 rfl r j (by omega) (by omega))
  rw [if_neg h2]
  by_cases h3 : j.val < 2960
  · rw [if_pos h3]; exact (catC _ _ 3 (by simp) _ hQ rfl 2576 rfl r j (by omega) (by omega))
  rw [if_neg h3]
  by_cases h4 : j.val < 3216
  · rw [if_pos h4]; exact (catC _ _ 4 (by simp) _ hK rfl 2960 rfl r j (by omega) (by omega))
  rw [if_neg h4]
  exact (catC _ _ 5 (by simp) _ hE rfl 3216 rfl r j (by omega) (by omega))

/-- Two matrices side by side, the right one zero. -/
theorem IsE.fill {n p : ℕ} {X : FVec Ideal (M 2048 n) φ} {O : FVec Ideal (M 2048 p) φ} (hX : IsE X f) (hO : IsE O (fun _ _ => 0)) (hn : n + p = 128)
    (h : Shape.Concatenates [M 2048 n, M 2048 p] (M 2048 128) 1) :
    IsE (φ := φ) (concatenate (M 2048 128) 1 [⟨M 2048 n, X⟩, ⟨M 2048 p, O⟩] h) (fun r l => if l < n then f r l else 0) := fun r j => by
  have hj := j.isLt
  show _ = if j.val < n then f r.val j.val else 0
  by_cases h0 : j.val < n
  · rw [if_pos h0]; exact catC _ _ 0 (by simp) _ hX rfl 0 rfl r j (by omega) (by omega)
  · rw [if_neg h0]; exact catC _ _ 1 (by simp) _ hO rfl n (by simp [M]) r j (by omega) (by omega)

/-- The six derivatives in the padded layout. -/
theorem IsE.padded {Z : FVec Ideal (M 2048 1024) φ} {X : FVec Ideal (M 2048 1536) φ} {D : FVec Ideal (M 2048 128) φ} {Q : FVec Ideal (M 2048 384) φ}
    {K : FVec Ideal (M 2048 256) φ} {E : FVec Ideal (M 2048 128) φ} (hZ : IsE Z z) (hX : IsE X x) (hD : IsE D (fun r l => if l < 16 then d r l else 0))
    (hQ : IsE Q q) (hK : IsE K k) (hE : IsE E (fun r l => if l < 32 then e r l else 0))
    (h : Shape.Concatenates [M 2048 1024, M 2048 128, M 2048 384, M 2048 1536, M 2048 256, M 2048 128] (M 2048 3456) 1) :
    IsE (φ := φ) (concatenate (M 2048 3456) 1 [⟨M 2048 1024, Z⟩, ⟨M 2048 128, D⟩, ⟨M 2048 384, Q⟩, ⟨M 2048 1536, X⟩, ⟨M 2048 256, K⟩, ⟨M 2048 128, E⟩] h)
      (fun r c => padF (cat6 z x d q k e r) c) := fun r j => by
  have hj := j.isLt
  show _ = padF (cat6 z x d q k e r.val) j.val
  by_cases h0 : j.val < 1024
  · rw [padF_at (n := j.val) _ (by omega) (by unfold pos; split_ifs <;> omega), cat6, if_pos h0]
    exact catC _ _ 0 (by simp) _ hZ rfl 0 rfl r j (by omega) (by omega)
  by_cases h1 : j.val < 1152
  · refine (catC _ _ 1 (by simp) _ hD rfl 1024 rfl r j (by omega) (by omega)).trans ?_
    show (if j.val - 1024 < 16 then d r.val (j.val - 1024) else 0) = _
    by_cases h : j.val - 1024 < 16
    · rw [if_pos h, padF_at (n := j.val + 1536) _ (by omega) (by unfold pos; split_ifs <;> omega), cat6, if_neg (by omega), if_neg (by omega),
        if_pos (by omega)]
      congr 1 <;> omega
    · rw [if_neg h, padF, if_neg h0, if_neg (by omega), if_pos h1]
  by_cases h2 : j.val < 1536
  · refine (catC _ _ 2 (by simp) _ hQ rfl 1152 rfl r j (by omega) (by omega)).trans ?_
    rw [padF_at (n := j.val + 1424) _ (by omega) (by unfold pos; split_ifs <;> omega), cat6, if_neg (by omega), if_neg (by omega), if_neg (by omega), if_pos (by omega)]
    congr 1 <;> omega
  by_cases h3 : j.val < 3072
  · refine (catC _ _ 3 (by simp) _ hX rfl 1536 rfl r j (by omega) (by omega)).trans ?_
    rw [padF_at (n := j.val - 512) _ (by omega) (by unfold pos; split_ifs <;> omega), cat6, if_neg (by omega), if_pos (by omega)]
    congr 1 <;> omega
  by_cases h4 : j.val < 3328
  · refine (catC _ _ 4 (by simp) _ hK rfl 3072 rfl r j (by omega) (by omega)).trans ?_
    rw [padF_at (n := j.val - 112) _ (by omega) (by unfold pos; split_ifs <;> omega), cat6, if_neg (by omega), if_neg (by omega), if_neg (by omega), if_neg (by omega), if_pos (by omega)]
    congr 1 <;> omega
  refine (catC _ _ 5 (by simp) _ hE rfl 3328 rfl r j (by omega) (by omega)).trans ?_
  show (if j.val - 3328 < 32 then e r.val (j.val - 3328) else 0) = _
  by_cases h : j.val - 3328 < 32
  · rw [if_pos h, padF_at (n := j.val - 112) _ (by omega) (by unfold pos; split_ifs <;> omega), cat6, if_neg (by omega), if_neg (by omega),
      if_neg (by omega), if_neg (by omega), if_neg (by omega)]
    congr 1 <;> omega
  · rw [if_neg h, padF, if_neg h0, if_neg (by omega), if_neg h1, if_neg h2, if_neg h3, if_neg h4, if_neg (by omega)]

/-- The transposed weights in the padded layout: eight blocks of rows, the third and the last zero. -/
theorem IsE.padRows {Z : FVec Ideal (M 1024 1024) φ} {D : FVec Ideal (M 16 1024) φ} {O : FVec Ideal (M 112 1024) φ} {Q : FVec Ideal (M 384 1024) φ}
    {X : FVec Ideal (M 1536 1024) φ} {K : FVec Ideal (M 256 1024) φ} {E : FVec Ideal (M 32 1024) φ} {P : FVec Ideal (M 96 1024) φ}
    (hZ : IsE Z (fun r l => f (0 + r) l)) (hD : IsE D (fun r l => f (2560 + r) l)) (hO : IsE O (fun _ _ => 0)) (hQ : IsE Q (fun r l => f (2576 + r) l))
    (hX : IsE X (fun r l => f (1024 + r) l)) (hK : IsE K (fun r l => f (2960 + r) l)) (hE : IsE E (fun r l => f (3216 + r) l)) (hP : IsE P (fun _ _ => 0))
    (h : Shape.Concatenates [M 1024 1024, M 16 1024, M 112 1024, M 384 1024, M 1536 1024, M 256 1024, M 32 1024, M 96 1024] (M 3456 1024) 0) :
    IsE (φ := φ) (concatenate (M 3456 1024) 0 [⟨M 1024 1024, Z⟩, ⟨M 16 1024, D⟩, ⟨M 112 1024, O⟩, ⟨M 384 1024, Q⟩, ⟨M 1536 1024, X⟩, ⟨M 256 1024, K⟩,
        ⟨M 32 1024, E⟩, ⟨M 96 1024, P⟩] h) (fun c l => padF (fun n => f n l) c) := fun r j => by
  have hr := r.isLt
  show _ = padF (fun n => f n j.val) r.val
  unfold padF
  by_cases h0 : r.val < 1024
  · rw [if_pos h0]; exact (catR _ _ 0 (by simp) _ hZ rfl 0 rfl r j (by omega) (by omega))
  rw [if_neg h0]
  by_cases h1 : r.val < 1040
  · rw [if_pos h1]; exact (catR _ _ 1 (by simp) _ hD rfl 1024 rfl r j (by omega) (by omega))
  rw [if_neg h1]
  by_cases h2 : r.val < 1152
  · rw [if_pos h2]; exact (catR _ _ 2 (by simp) _ hO rfl 1040 rfl r j (by omega) (by omega))
  rw [if_neg h2]
  by_cases h3 : r.val < 1536
  · rw [if_pos h3]; exact (catR _ _ 3 (by simp) _ hQ rfl 1152 rfl r j (by omega) (by omega))
  rw [if_neg h3]
  by_cases h4 : r.val < 3072
  · rw [if_pos h4]; exact (catR _ _ 4 (by simp) _ hX rfl 1536 rfl r j (by omega) (by omega))
  rw [if_neg h4]
  by_cases h5 : r.val < 3328
  · rw [if_pos h5]; exact (catR _ _ 5 (by simp) _ hK rfl 3072 rfl r j (by omega) (by omega))
  rw [if_neg h5]
  by_cases h6 : r.val < 3360
  · rw [if_pos h6]; exact (catR _ _ 6 (by simp) _ hE rfl 3328 rfl r j (by omega) (by omega))
  rw [if_neg h6]
  exact (catR _ _ 7 (by simp) _ hP rfl 3360 rfl r j (by omega) (by omega))

/-- Six blocks of rows put back into the projection's order. -/
theorem IsE.unpad {Z : FVec Ideal (M 1024 1024) φ} {X : FVec Ideal (M 1536 1024) φ} {D : FVec Ideal (M 16 1024) φ} {Q : FVec Ideal (M 384 1024) φ}
    {K : FVec Ideal (M 256 1024) φ} {E : FVec Ideal (M 32 1024) φ} {F : ℕ → ℕ → EReal} {S : (ℕ → EReal) → ℕ → EReal}
    (hf : ∀ c l, f c l = S (fun t => padF (F t) c) l)
    (hZ : IsE Z (fun r l => f (0 + r) l)) (hX : IsE X (fun r l => f (1536 + r) l)) (hD : IsE D (fun r l => f (1024 + r) l))
    (hQ : IsE Q (fun r l => f (1152 + r) l)) (hK : IsE K (fun r l => f (3072 + r) l)) (hE : IsE E (fun r l => f (3328 + r) l))
    (h : Shape.Concatenates [M 1024 1024, M 1536 1024, M 16 1024, M 384 1024, M 256 1024, M 32 1024] (M 3248 1024) 0) :
    IsE (φ := φ) (concatenate (M 3248 1024) 0 [⟨M 1024 1024, Z⟩, ⟨M 1536 1024, X⟩, ⟨M 16 1024, D⟩, ⟨M 384 1024, Q⟩, ⟨M 256 1024, K⟩, ⟨M 32 1024, E⟩] h)
      (fun n l => S (fun t => F t n) l) := fun r j => by
  have hr := r.isLt
  have go : ∀ c, c = pos r.val → f c j.val = S (fun t => F t r.val) j.val := fun c hc => by
    rw [hf]
    exact congrArg (fun u => S u j.val) (funext fun t => padF_at _ hr hc)
  by_cases h0 : r.val < 1024
  · exact (catR _ _ 0 (by simp) _ hZ rfl 0 rfl r j (by omega) (by omega)).trans (go _ (by unfold pos; split_ifs <;> omega))
  by_cases h1 : r.val < 2560
  · exact (catR _ _ 1 (by simp) _ hX rfl 1024 rfl r j (by omega) (by omega)).trans (go _ (by unfold pos; split_ifs <;> omega))
  by_cases h2 : r.val < 2576
  · exact (catR _ _ 2 (by simp) _ hD rfl 2560 rfl r j (by omega) (by omega)).trans (go _ (by unfold pos; split_ifs <;> omega))
  by_cases h3 : r.val < 2960
  · exact (catR _ _ 3 (by simp) _ hQ rfl 2576 rfl r j (by omega) (by omega)).trans (go _ (by unfold pos; split_ifs <;> omega))
  by_cases h4 : r.val < 3216
  · exact (catR _ _ 4 (by simp) _ hK rfl 2960 rfl r j (by omega) (by omega)).trans (go _ (by unfold pos; split_ifs <;> omega))
  exact (catR _ _ 5 (by simp) _ hE rfl 3216 rfl r j (by omega) (by omega)).trans (go _ (by unfold pos; split_ifs <;> omega))

end Whole

end Cert.Attn

end
-- ==== Proof.WinChain.lean ====
/- The three products of the input projection in a row, from the arguments' entries to the eight results. -/
module

public import proofs.«01_k».proof.Proof.WinRegion0
public import proofs.«01_k».proof.Proof.WinRegion1
public import proofs.«01_k».proof.Proof.WinRegion2
public import proofs.«01_k».proof.Proof.WinMat

@[expose] public section

set_option maxRecDepth 16384

noncomputable section

namespace Cert.Kernel4Ideal.Hand

open Idealize.ShloMosaic Idealize.ShloMosaic.ValueIdx Idealize.ShloMosaic.TcCoe Cert.Attn Cert.Kernel4Ideal Cert.Kernel4Ideal.Gen Idealize.SL.Sem Finset

variable (m : (ℓ : Loc nD τ sig) → Buf (Elt Ideal) ℓ) (ρ : Dev nD → PrngReg) (c : Dev nD)

/-- The input's entries, -/
abbrev X : ℕ → ℕ → EReal := entE (a := 2048) (b := 1024) (m ((c.tc : Thread nD τ).loc main_arg0))

/-- The weights's entries, -/
abbrev Wn : ℕ → ℕ → EReal := entE (a := 1024) (b := 3248) (m ((c.tc : Thread nD τ).loc main_arg1))

/-- The input's derivative from the other way's entries, -/
abbrev dXo : ℕ → ℕ → EReal := entE (a := 2048) (b := 1024) (m ((c.tc : Thread nD τ).loc main_arg8))

/-- and the entries of the projection's derivative, its six pieces side by side. -/
abbrev Ct : ℕ → ℕ → EReal :=
  cat6 (entE (a := 2048) (b := 1024) (m ((c.tc : Thread nD τ).loc main_arg2))) (entE (a := 2048) (b := 1536) (m ((c.tc : Thread nD τ).loc main_arg3))) (entE (a := 2048) (b := 16) (m ((c.tc : Thread nD τ).loc main_arg4))) (entE (a := 2048) (b := 384) (m ((c.tc : Thread nD τ).loc main_arg5))) (entE (a := 2048) (b := 256) (m ((c.tc : Thread nD τ).loc main_arg6))) (entE (a := 2048) (b := 32) (m ((c.tc : Thread nD τ).loc main_arg7)))

/-- The input, narrowed. -/
theorem a_v1 : IsE (a := 2048) (c := 1024) (φ := .bf16) (W1 m ρ c (Proc.devRef .tc main_v1)) (X m c) := by
  have e : W1 m ρ c (Proc.devRef .tc main_v1) = truncf (F := Ideal) (s := S2048x1024) (φ := .f32) .bf16 (m ((c.tc : Thread nD τ).loc main_arg0)) bitsLt_bf16_f32 := by
    show StableHlo.after hostOps0 (W0 m ρ c) _ = _
    simp only [hostOps0]
    after_results_simp
  exact IsE.of_eq ((entE_E2 _).isE.trunc _) e

/-- The transposed weights in the padded layout. -/
theorem a_v12 : IsE (a := 3456) (c := 1024) (φ := .bf16) (W1 m ρ c (Proc.devRef .tc main_v12)) (fun n l => padF (fun n => Wn m c l n) n) := by
  have e : W1 m ρ c (Proc.devRef .tc main_v12) = concatenate S3456x1024 0 [⟨S1024x1024, (extractStridedSlice S1024x1024 ![0, 0] (truncf (F := Ideal) (s := S3248x1024) (φ := .f32) .bf16 (transpose S3248x1024 [1, 0] (m ((c.tc : Thread nD τ).loc main_arg1)) transposes_S1024x3248_S3248x1024_1_0) bitsLt_bf16_f32) slices_S3248x1024_S1024x1024_0_0)⟩, ⟨S16x1024, (extractStridedSlice S16x1024 ![2560, 0] (truncf (F := Ideal) (s := S3248x1024) (φ := .f32) .bf16 (transpose S3248x1024 [1, 0] (m ((c.tc : Thread nD τ).loc main_arg1)) transposes_S1024x3248_S3248x1024_1_0) bitsLt_bf16_f32) slices_S3248x1024_S16x1024_2560_0)⟩, ⟨S112x1024, (broadcastInDim S112x1024 ![] bcast_S_S112x1024 (constant (F := Ideal) S_ .bf16 0x0000#16))⟩, ⟨S384x1024, (extractStridedSlice S384x1024 ![2576, 0] (truncf (F := Ideal) (s := S3248x1024) (φ := .f32) .bf16 (transpose S3248x1024 [1, 0] (m ((c.tc : Thread nD τ).loc main_arg1)) transposes_S1024x3248_S3248x1024_1_0) bitsLt_bf16_f32) slices_S3248x1024_S384x1024_2576_0)⟩, ⟨S1536x1024, (extractStridedSlice S1536x1024 ![1024, 0] (truncf (F := Ideal) (s := S3248x1024) (φ := .f32) .bf16 (transpose S3248x1024 [1, 0] (m ((c.tc : Thread nD τ).loc main_arg1)) transposes_S1024x3248_S3248x1024_1_0) bitsLt_bf16_f32) slices_S3248x1024_S1536x1024_1024_0)⟩, ⟨S256x1024, (extractStridedSlice S256x1024 ![2960, 0] (truncf (F := Ideal) (s := S3248x1024) (φ := .f32) .bf16 (transpose S3248x1024 [1, 0] (m ((c.tc : Thread nD τ).loc main_arg1)) transposes_S1024x3248_S3248x1024_1_0) bitsLt_bf16_f32) slices_S3248x1024_S256x1024_2960_0)⟩, ⟨S32x1024, (extractStridedSlice S32x1024 ![3216, 0] (truncf (F := Ideal) (s := S3248x1024) (φ := .f32) .bf16 (transpose S3248x1024 [1, 0] (m ((c.tc : Thread nD τ).loc main_arg1)) transposes_S1024x3248_S3248x1024_1_0) bitsLt_bf16_f32) slices_S3248x1024_S32x1024_3216_0)⟩, ⟨S96x1024, (broadcastInDim S96x1024 ![] bcast_S_S96x1024 (constant (F := Ideal) S_ .bf16 0x0000#16))⟩] concatenates_S1024x1024_S16x1024_S112x1024_S384x1024_S1536x1024_S256x1024_S32x1024_S96x1024_S3456x1024_d0 := by
    show StableHlo.after hostOps0 (W0 m ρ c) _ = _
    simp only [hostOps0]
    after_results_simp
    rfl
  have w : IsE (a := 3248) (c := 1024) (φ := .bf16) (truncf (F := Ideal) (s := S3248x1024) (φ := .f32) .bf16 (transpose S3248x1024 [1, 0] (m ((c.tc : Thread nD τ).loc main_arg1)) transposes_S1024x3248_S3248x1024_1_0) bitsLt_bf16_f32) (fun n l => Wn m c l n) := ((entE_E2 _).isEt (φ := .f32) _).trunc _
  exact IsE.of_eq (IsE.padRows (f := fun n l => Wn m c l n) (w.sliceR 0 _) (w.sliceR 2560 _) (.zeros ofBits_zero_b _) (w.sliceR 2576 _) (w.sliceR 1024 _) (w.sliceR 2960 _)
    (w.sliceR 3216 _) (.zeros ofBits_zero_b _) _) e

/-- Region 0: the projection, in the padded layout. -/
theorem a_v13 : IsE (a := 2048) (c := 3456) (φ := .f32) (W2 m ρ c (Proc.devRef .tc main_v13)) (fun r n => ∑ l ∈ range 1024, X m c r l * padF (fun n => Wn m c l n) n) :=
  IsE.of_eq (array0_2 (V1 m ρ) c (a_v1 m ρ c) (a_v12 m ρ c)) (W2_arr m ρ c 2)

/-- The projection's derivative in the padded layout. -/
theorem a_v24 : IsE (a := 2048) (c := 3456) (φ := .bf16) (W3 m ρ c (Proc.devRef .tc main_v24)) (fun r n => padF (Ct m c r) n) := by
  generalize hσ : W2 m ρ c = σ
  have e2 : σ (Proc.devRef .tc main_arg2) = (m ((c.tc : Thread nD τ).loc main_arg2)) := by
    subst hσ
    exact W2_args m ρ c main_arg2 (by decide)
  have e3 : σ (Proc.devRef .tc main_arg3) = (m ((c.tc : Thread nD τ).loc main_arg3)) := by
    subst hσ
    exact W2_args m ρ c main_arg3 (by decide)
  have e4 : σ (Proc.devRef .tc main_arg4) = (m ((c.tc : Thread nD τ).loc main_arg4)) := by
    subst hσ
    exact W2_args m ρ c main_arg4 (by decide)
  have e5 : σ (Proc.devRef .tc main_arg5) = (m ((c.tc : Thread nD τ).loc main_arg5)) := by
    subst hσ
    exact W2_args m ρ c main_arg5 (by decide)
  have e6 : σ (Proc.devRef .tc main_arg6) = (m ((c.tc : Thread nD τ).loc main_arg6)) := by
    subst hσ
    exact W2_args m ρ c main_arg6 (by decide)
  have e7 : σ (Proc.devRef .tc main_arg7) = (m ((c.tc : Thread nD τ).loc main_arg7)) := by
    subst hσ
    exact W2_args m ρ c main_arg7 (by decide)
  have e : StableHlo.after hostOps1 σ (Proc.devRef .tc main_v24) = concatenate S2048x3456 1 [⟨S2048x1024, (truncf (F := Ideal) (s := S2048x1024) (φ := .f32) .bf16 (m ((c.tc : Thread nD τ).loc main_arg2)) bitsLt_bf16_f32)⟩, ⟨S2048x128, (truncf (F := Ideal) (s := S2048x128) (φ := .f32) .bf16 (concatenate S2048x128 1 [⟨S2048x16, (m ((c.tc : Thread nD τ).loc main_arg4))⟩, ⟨S2048x112, (broadcastInDim S2048x112 ![] bcast_S_S2048x112 (constant (F := Ideal) S_ .f32 0x00000000#32))⟩] concatenates_S2048x16_S2048x112_S2048x128_d1) bitsLt_bf16_f32)⟩, ⟨S2048x384, (truncf (F := Ideal) (s := S2048x384) (φ := .f32) .bf16 (m ((c.tc : Thread nD τ).loc main_arg5)) bitsLt_bf16_f32)⟩, ⟨S2048x1536, (truncf (F := Ideal) (s := S2048x1536) (φ := .f32) .bf16 (m ((c.tc : Thread nD τ).loc main_arg3)) bitsLt_bf16_f32)⟩, ⟨S2048x256, (truncf (F := Ideal) (s := S2048x256) (φ := .f32) .bf16 (m ((c.tc : Thread nD τ).loc main_arg6)) bitsLt_bf16_f32)⟩, ⟨S2048x128, (truncf (F := Ideal) (s := S2048x128) (φ := .f32) .bf16 (concatenate S2048x128 1 [⟨S2048x32, (m ((c.tc : Thread nD τ).loc main_arg7))⟩, ⟨S2048x96, (broadcastInDim S2048x96 ![] bcast_S_S2048x96 (constant (F := Ideal) S_ .f32 0x00000000#32))⟩] concatenates_S2048x32_S2048x96_S2048x128_d1) bitsLt_bf16_f32)⟩] concatenates_S2048x1024_S2048x128_S2048x384_S2048x1536_S2048x256_S2048x128_S2048x3456_d1 := by
    clear hσ
    rw [← e2, ← e3, ← e4, ← e5, ← e6, ← e7]
    simp only [hostOps1]
    after_results_simp
    rfl
  subst hσ
  exact IsE.of_eq (IsE.padded ((entE_E2 (m ((c.tc : Thread nD τ).loc main_arg2))).isE.trunc _) ((entE_E2 (m ((c.tc : Thread nD τ).loc main_arg3))).isE.trunc _)
    ((IsE.fill (φ := .f32) (entE_E2 (m ((c.tc : Thread nD τ).loc main_arg4))).isE (.zeros Ideal.ofBits_zero_f32 _) rfl _).trunc _) ((entE_E2 (m ((c.tc : Thread nD τ).loc main_arg5))).isE.trunc _)
    ((entE_E2 (m ((c.tc : Thread nD τ).loc main_arg6))).isE.trunc _) ((IsE.fill (φ := .f32) (entE_E2 (m ((c.tc : Thread nD τ).loc main_arg7))).isE (.zeros Ideal.ofBits_zero_f32 _) rfl _).trunc _) _) e

/-- Region 1: the weights' derivative, in the padded layout. -/
theorem a_v25 : IsE (a := 3456) (c := 1024) (φ := .bf16) (W4 m ρ c (Proc.devRef .tc main_v25)) (fun n k => ∑ l ∈ range 2048, padF (Ct m c l) n * X m c l k) :=
  IsE.of_eq (array1_2 (V3 m ρ) c (a_v24 m ρ c) ((a_v1 m ρ c).of_eq ((W3_of m ρ c main_v1 (by decide)).trans (W2_of m ρ c main_v1 (by decide))))) (W4_arr m ρ c 2)

/-- Region 2: the input's derivative, on top of what came the other way. -/
theorem a_v26 : IsE (a := 2048) (c := 1024) (φ := .f32) (W5 m ρ c (Proc.devRef .tc main_v26)) (fun r k => (∑ n ∈ range 3248, Ct m c r n * Wn m c k n) + dXo m c r k) := by
  have h := array2_3 (V4 m ρ) c ((a_v24 m ρ c).of_eq (W4_of m ρ c main_v24 (by decide))) ((a_v12 m ρ c).of_eq (((W4_of m ρ c main_v12 (by decide)).trans (W3_of m ρ c main_v12 (by decide))).trans (W2_of m ρ c main_v12 (by decide)))) (IsE.of_eq (entE_E2 (m ((c.tc : Thread nD τ).loc main_arg8))).isE (W4_args m ρ c main_arg8 (by decide)))
  refine (IsE.of_eq h (W5_arr m ρ c 3)).congr fun r _ k _ => ?_
  refine congrArg (· + dXo m c r k) ?_
  rw [← padF_sum]
  exact Finset.sum_congr rfl fun n _ => padF_mul _ _ n

theorem fin_v26 : IsE (a := 2048) (c := 1024) (φ := .f32) (W6 m ρ c (Proc.devRef .tc main_v26)) (fun r k => (∑ n ∈ range 3248, Ct m c r n * Wn m c k n) + dXo m c r k) :=
  (a_v26 m ρ c).of_eq (W6_of m ρ c main_v26 (by decide))

/-- The projection's columns from 0 on. -/
theorem fin_v27 : IsE (a := 2048) (c := 1024) (φ := .f32) (W6 m ρ c (Proc.devRef .tc main_v27)) (fun r k => ∑ l ∈ range 1024, X m c r l * Wn m c l (0 + k)) := by
  have hp : IsE (a := 2048) (c := 3456) (φ := .f32) (W5 m ρ c (Proc.devRef .tc main_v13)) (fun r n => ∑ l ∈ range 1024, X m c r l * padF (fun n => Wn m c l n) n) := ((a_v13 m ρ c).of_eq (((W5_of m ρ c main_v13 (by decide)).trans (W4_of m ρ c main_v13 (by decide))).trans (W3_of m ρ c main_v13 (by decide))))
  revert hp
  generalize hσ : W5 m ρ c = σ
  intro hp
  have e : StableHlo.after hostOps3 σ (Proc.devRef .tc main_v27) = extractStridedSlice S2048x1024 ![0, 0] (σ (Proc.devRef .tc main_v13)) slices_S2048x3456_S2048x1024_0_0 := by
    clear hσ hp
    simp only [hostOps3]
    after_results_simp
  subst hσ
  refine (IsE.of_eq (hp.sliceC 0 _) e).congr fun r _ k hk => Finset.sum_congr rfl fun l _ => congrArg (X m c r l * ·) ?_
  exact padF_at _ (by omega) (by unfold pos; split_ifs <;> omega)

/-- The projection's columns from 1024 on. -/
theorem fin_v28 : IsE (a := 2048) (c := 1536) (φ := .f32) (W6 m ρ c (Proc.devRef .tc main_v28)) (fun r k => ∑ l ∈ range 1024, X m c r l * Wn m c l (1024 + k)) := by
  have hp : IsE (a := 2048) (c := 3456) (φ := .f32) (W5 m ρ c (Proc.devRef .tc main_v13)) (fun r n => ∑ l ∈ range 1024, X m c r l * padF (fun n => Wn m c l n) n) := ((a_v13 m ρ c).of_eq (((W5_of m ρ c main_v13 (by decide)).trans (W4_of m ρ c main_v13 (by decide))).trans (W3_of m ρ c main_v13 (by decide))))
  revert hp
  generalize hσ : W5 m ρ c = σ
  intro hp
  have e : StableHlo.after hostOps3 σ (Proc.devRef .tc main_v28) = extractStridedSlice S2048x1536 ![0, 1536] (σ (Proc.devRef .tc main_v13)) slices_S2048x3456_S2048x1536_0_1536 := by
    clear hσ hp
    simp only [hostOps3]
    after_results_simp
  subst hσ
  refine (IsE.of_eq (hp.sliceC 1536 _) e).congr fun r _ k hk => Finset.sum_congr rfl fun l _ => congrArg (X m c r l * ·) ?_
  exact padF_at _ (by omega) (by unfold pos; split_ifs <;> omega)

/-- The projection's columns from 2560 on. -/
theorem fin_v29 : IsE (a := 2048) (c := 16) (φ := .f32) (W6 m ρ c (Proc.devRef .tc main_v29)) (fun r k => ∑ l ∈ range 1024, X m c r l * Wn m c l (2560 + k)) := by
  have hp : IsE (a := 2048) (c := 3456) (φ := .f32) (W5 m ρ c (Proc.devRef .tc main_v13)) (fun r n => ∑ l ∈ range 1024, X m c r l * padF (fun n => Wn m c l n) n) := ((a_v13 m ρ c).of_eq (((W5_of m ρ c main_v13 (by decide)).trans (W4_of m ρ c main_v13 (by decide))).trans (W3_of m ρ c main_v13 (by decide))))
  revert hp
  generalize hσ : W5 m ρ c = σ
  intro hp
  have e : StableHlo.after hostOps3 σ (Proc.devRef .tc main_v29) = extractStridedSlice S2048x16 ![0, 1024] (σ (Proc.devRef .tc main_v13)) slices_S2048x3456_S2048x16_0_1024 := by
    clear hσ hp
    simp only [hostOps3]
    after_results_simp
  subst hσ
  refine (IsE.of_eq (hp.sliceC 1024 _) e).congr fun r _ k hk => Finset.sum_congr rfl fun l _ => congrArg (X m c r l * ·) ?_
  exact padF_at _ (by omega) (by unfold pos; split_ifs <;> omega)

/-- The projection's columns from 2576 on. -/
theorem fin_v30 : IsE (a := 2048) (c := 384) (φ := .f32) (W6 m ρ c (Proc.devRef .tc main_v30)) (fun r k => ∑ l ∈ range 1024, X m c r l * Wn m c l (2576 + k)) := by
  have hp : IsE (a := 2048) (c := 3456) (φ := .f32) (W5 m ρ c (Proc.devRef .tc main_v13)) (fun r n => ∑ l ∈ range 1024, X m c r l * padF (fun n => Wn m c l n) n) := ((a_v13 m ρ c).of_eq (((W5_of m ρ c main_v13 (by decide)).trans (W4_of m ρ c main_v13 (by decide))).trans (W3_of m ρ c main_v13 (by decide))))
  revert hp
  generalize hσ : W5 m ρ c = σ
  intro hp
  have e : StableHlo.after hostOps3 σ (Proc.devRef .tc main_v30) = extractStridedSlice S2048x384 ![0, 1152] (σ (Proc.devRef .tc main_v13)) slices_S2048x3456_S2048x384_0_1152 := by
    clear hσ hp
    simp only [hostOps3]
    after_results_simp
  subst hσ
  refine (IsE.of_eq (hp.sliceC 1152 _) e).congr fun r _ k hk => Finset.sum_congr rfl fun l _ => congrArg (X m c r l * ·) ?_
  exact padF_at _ (by omega) (by unfold pos; split_ifs <;> omega)

/-- The projection's columns from 2960 on. -/
theorem fin_v31 : IsE (a := 2048) (c := 256) (φ := .f32) (W6 m ρ c (Proc.devRef .tc main_v31)) (fun r k => ∑ l ∈ range 1024, X m c r l * Wn m c l (2960 + k)) := by
  have hp : IsE (a := 2048) (c := 3456) (φ := .f32) (W5 m ρ c (Proc.devRef .tc main_v13)) (fun r n => ∑ l ∈ range 1024, X m c r l * padF (fun n => Wn m c l n) n) := ((a_v13 m ρ c).of_eq (((W5_of m ρ c main_v13 (by decide)).trans (W4_of m ρ c main_v13 (by decide))).trans (W3_of m ρ c main_v13 (by decide))))
  revert hp
  generalize hσ : W5 m ρ c = σ
  intro hp
  have e : StableHlo.after hostOps3 σ (Proc.devRef .tc main_v31) = extractStridedSlice S2048x256 ![0, 3072] (σ (Proc.devRef .tc main_v13)) slices_S2048x3456_S2048x256_0_3072 := by
    clear hσ hp
    simp only [hostOps3]
    after_results_simp
  subst hσ
  refine (IsE.of_eq (hp.sliceC 3072 _) e).congr fun r _ k hk => Finset.sum_congr rfl fun l _ => congrArg (X m c r l * ·) ?_
  exact padF_at _ (by omega) (by unfold pos; split_ifs <;> omega)

/-- The projection's columns from 3216 on. -/
theorem fin_v32 : IsE (a := 2048) (c := 32) (φ := .f32) (W6 m ρ c (Proc.devRef .tc main_v32)) (fun r k => ∑ l ∈ range 1024, X m c r l * Wn m c l (3216 + k)) := by
  have hp : IsE (a := 2048) (c := 3456) (φ := .f32) (W5 m ρ c (Proc.devRef .tc main_v13)) (fun r n => ∑ l ∈ range 1024, X m c r l * padF (fun n => Wn m c l n) n) := ((a_v13 m ρ c).of_eq (((W5_of m ρ c main_v13 (by decide)).trans (W4_of m ρ c main_v13 (by decide))).trans (W3_of m ρ c main_v13 (by decide))))
  revert hp
  generalize hσ : W5 m ρ c = σ
  intro hp
  have e : StableHlo.after hostOps3 σ (Proc.devRef .tc main_v32) = extractStridedSlice S2048x32 ![0, 3328] (σ (Proc.devRef .tc main_v13)) slices_S2048x3456_S2048x32_0_3328 := by
    clear hσ hp
    simp only [hostOps3]
    after_results_simp
  subst hσ
  refine (IsE.of_eq (hp.sliceC 3328 _) e).congr fun r _ k hk => Finset.sum_congr rfl fun l _ => congrArg (X m c r l * ·) ?_
  exact padF_at _ (by omega) (by unfold pos; split_ifs <;> omega)

/-- The weights' derivative, its rows put back into the projection's order. -/
theorem fin_v39 : IsE (a := 3248) (c := 1024) (φ := .bf16) (W6 m ρ c (Proc.devRef .tc main_v39)) (fun n k => ∑ l ∈ range 2048, Ct m c l n * X m c l k) := by
  have hp : IsE (a := 3456) (c := 1024) (φ := .bf16) (W5 m ρ c (Proc.devRef .tc main_v25)) (fun n k => ∑ l ∈ range 2048, padF (Ct m c l) n * X m c l k) := ((a_v25 m ρ c).of_eq (W5_of m ρ c main_v25 (by decide)))
  revert hp
  generalize hσ : W5 m ρ c = σ
  intro hp
  have e : StableHlo.after hostOps3 σ (Proc.devRef .tc main_v39) = concatenate S3248x1024 0 [⟨S1024x1024, extractStridedSlice S1024x1024 ![0, 0] (σ (Proc.devRef .tc main_v25)) slices_S3456x1024_S1024x1024_0_0⟩, ⟨S1536x1024, extractStridedSlice S1536x1024 ![1536, 0] (σ (Proc.devRef .tc main_v25)) slices_S3456x1024_S1536x1024_1536_0⟩, ⟨S16x1024, extractStridedSlice S16x1024 ![1024, 0] (σ (Proc.devRef .tc main_v25)) slices_S3456x1024_S16x1024_1024_0⟩, ⟨S384x1024, extractStridedSlice S384x1024 ![1152, 0] (σ (Proc.devRef .tc main_v25)) slices_S3456x1024_S384x1024_1152_0⟩, ⟨S256x1024, extractStridedSlice S256x1024 ![3072, 0] (σ (Proc.devRef .tc main_v25)) slices_S3456x1024_S256x1024_3072_0⟩, ⟨S32x1024, extractStridedSlice S32x1024 ![3328, 0] (σ (Proc.devRef .tc main_v25)) slices_S3456x1024_S32x1024_3328_0⟩] concatenates_S1024x1024_S1536x1024_S16x1024_S384x1024_S256x1024_S32x1024_S3248x1024_d0 := by
    clear hσ hp
    simp only [hostOps3]
    after_results_simp
    rfl
  subst hσ
  exact IsE.of_eq (IsE.unpad (F := Ct m c) (S := fun u k => ∑ l ∈ range 2048, u l * X m c l k) (fun _ _ => rfl) (hp.sliceR 0 _) (hp.sliceR 1536 _) (hp.sliceR 1024 _) (hp.sliceR 1152 _)
    (hp.sliceR 3072 _) (hp.sliceR 3328 _) _) e

end Cert.Kernel4Ideal.Hand

end
-- ==== Proof.WinRef.lean ====
/- The input projection's reference, entry by entry. -/
module

public import proofs.«01_k».proof.Proof.WinMat
public import proofs.«01_k».proof.Proof.Gen.Reference4Ideal.Read

@[expose] public section

set_option maxRecDepth 16384

noncomputable section

namespace Cert.Reference4Ideal.Hand

open Idealize.ShloMosaic Idealize.ShloMosaic.ValueIdx Cert.Attn Cert.Reference4Ideal Cert.Reference4Ideal.Gen Cert.Reference4Ideal.Read Finset

variable (x0 : (⟨S2048x1024, .f32⟩ : BufTy).Contents (Elt Ideal)) (x1 : (⟨S1024x3248, .f32⟩ : BufTy).Contents (Elt Ideal)) (x2 : (⟨S2048x1024, .f32⟩ : BufTy).Contents (Elt Ideal)) (x3 : (⟨S2048x1536, .f32⟩ : BufTy).Contents (Elt Ideal)) (x4 : (⟨S2048x16, .f32⟩ : BufTy).Contents (Elt Ideal)) (x5 : (⟨S2048x384, .f32⟩ : BufTy).Contents (Elt Ideal)) (x6 : (⟨S2048x256, .f32⟩ : BufTy).Contents (Elt Ideal)) (x7 : (⟨S2048x32, .f32⟩ : BufTy).Contents (Elt Ideal)) (x8 : (⟨S2048x1024, .f32⟩ : BufTy).Contents (Elt Ideal))

/-- The projection's columns from 0 on: the gate. -/
theorem v1_val : E2 (a := 2048) (b := 1024) (val_main_v1 (F := Ideal) x0 x1) (fun r k => ∑ l ∈ range 1024, (entE (a := 2048) (b := 1024) x0) r l * (entE (a := 1024) (b := 3248) x1) l (0 + k)) := fun i => by
  rw [val_main_v1_apply, val_main_v0_apply]
  simp only [Nat.zero_add]
  exact sum_fin_range _ (fun l => (entE (a := 2048) (b := 1024) x0) (i 0).val l * (entE (a := 1024) (b := 3248) x1) l ((i 1).val)) fun l => by rw [entE_E2 x0, entE_E2 x1]

/-- The projection's columns from 1024 on: the convolution's input. -/
theorem v2_val : E2 (a := 2048) (b := 1536) (val_main_v2 (F := Ideal) x0 x1) (fun r k => ∑ l ∈ range 1024, (entE (a := 2048) (b := 1024) x0) r l * (entE (a := 1024) (b := 3248) x1) l (1024 + k)) := fun i => by
  rw [val_main_v2_apply, val_main_v0_apply]
  show _ = ∑ l ∈ range 1024, (entE (a := 2048) (b := 1024) x0) (i 0).val l * (entE (a := 1024) (b := 3248) x1) l (1024 + (i 1).val)
  exact sum_fin_range _ (fun l => (entE (a := 2048) (b := 1024) x0) (i 0).val l * (entE (a := 1024) (b := 3248) x1) l (1024 + (i 1).val)) fun l => by rw [entE_E2 x0, entE_E2 x1]

/-- The projection's columns from 2560 on: the step sizes. -/
theorem v3_val : E2 (a := 2048) (b := 16) (val_main_v3 (F := Ideal) x0 x1) (fun r k => ∑ l ∈ range 1024, (entE (a := 2048) (b := 1024) x0) r l * (entE (a := 1024) (b := 3248) x1) l (2560 + k)) := fun i => by
  rw [val_main_v3_apply, val_main_v0_apply]
  show _ = ∑ l ∈ range 1024, (entE (a := 2048) (b := 1024) x0) (i 0).val l * (entE (a := 1024) (b := 3248) x1) l (2560 + (i 1).val)
  exact sum_fin_range _ (fun l => (entE (a := 2048) (b := 1024) x0) (i 0).val l * (entE (a := 1024) (b := 3248) x1) l (2560 + (i 1).val)) fun l => by rw [entE_E2 x0, entE_E2 x1]

/-- The projection's columns from 2576 on: the low-rank queries. -/
theorem v4_val : E2 (a := 2048) (b := 384) (val_main_v4 (F := Ideal) x0 x1) (fun r k => ∑ l ∈ range 1024, (entE (a := 2048) (b := 1024) x0) r l * (entE (a := 1024) (b := 3248) x1) l (2576 + k)) := fun i => by
  rw [val_main_v4_apply, val_main_v0_apply]
  show _ = ∑ l ∈ range 1024, (entE (a := 2048) (b := 1024) x0) (i 0).val l * (entE (a := 1024) (b := 3248) x1) l (2576 + (i 1).val)
  exact sum_fin_range _ (fun l => (entE (a := 2048) (b := 1024) x0) (i 0).val l * (entE (a := 1024) (b := 3248) x1) l (2576 + (i 1).val)) fun l => by rw [entE_E2 x0, entE_E2 x1]

/-- The projection's columns from 2960 on: the latent keys and values. -/
theorem v5_val : E2 (a := 2048) (b := 256) (val_main_v5 (F := Ideal) x0 x1) (fun r k => ∑ l ∈ range 1024, (entE (a := 2048) (b := 1024) x0) r l * (entE (a := 1024) (b := 3248) x1) l (2960 + k)) := fun i => by
  rw [val_main_v5_apply, val_main_v0_apply]
  show _ = ∑ l ∈ range 1024, (entE (a := 2048) (b := 1024) x0) (i 0).val l * (entE (a := 1024) (b := 3248) x1) l (2960 + (i 1).val)
  exact sum_fin_range _ (fun l => (entE (a := 2048) (b := 1024) x0) (i 0).val l * (entE (a := 1024) (b := 3248) x1) l (2960 + (i 1).val)) fun l => by rw [entE_E2 x0, entE_E2 x1]

/-- The projection's columns from 3216 on: the shared rotary key. -/
theorem v6_val : E2 (a := 2048) (b := 32) (val_main_v6 (F := Ideal) x0 x1) (fun r k => ∑ l ∈ range 1024, (entE (a := 2048) (b := 1024) x0) r l * (entE (a := 1024) (b := 3248) x1) l (3216 + k)) := fun i => by
  rw [val_main_v6_apply, val_main_v0_apply]
  show _ = ∑ l ∈ range 1024, (entE (a := 2048) (b := 1024) x0) (i 0).val l * (entE (a := 1024) (b := 3248) x1) l (3216 + (i 1).val)
  exact sum_fin_range _ (fun l => (entE (a := 2048) (b := 1024) x0) (i 0).val l * (entE (a := 1024) (b := 3248) x1) l (3216 + (i 1).val)) fun l => by rw [entE_E2 x0, entE_E2 x1]

/-- The six pieces' derivatives side by side. -/
theorem v7_val : E2 (a := 2048) (b := 3248) (val_main_v7 (F := Ideal) x2 x3 x4 x5 x6 x7) (cat6 (entE (a := 2048) (b := 1024) x2) (entE (a := 2048) (b := 1536) x3) (entE (a := 2048) (b := 16) x4) (entE (a := 2048) (b := 384) x5) (entE (a := 2048) (b := 256) x6) (entE (a := 2048) (b := 32) x7)) :=
  (IsE.six (φ := .f32) (entE_E2 x2).isE (entE_E2 x3).isE (entE_E2 x4).isE (entE_E2 x5).isE (entE_E2 x6).isE (entE_E2 x7).isE _).e2

/-- The input's derivative, on top of what came the other way, -/
theorem v11_val : E2 (a := 2048) (b := 1024) (val_main_v11 (F := Ideal) x1 x2 x3 x4 x5 x6 x7 x8) (fun r k => (∑ n ∈ range 3248, (cat6 (entE (a := 2048) (b := 1024) x2) (entE (a := 2048) (b := 1536) x3) (entE (a := 2048) (b := 16) x4) (entE (a := 2048) (b := 384) x5) (entE (a := 2048) (b := 256) x6) (entE (a := 2048) (b := 32) x7)) r n * (entE (a := 1024) (b := 3248) x1) k n) + (entE (a := 2048) (b := 1024) x8) r k) := fun i => by
  have e : val_main_v10 (F := Ideal) x1 x2 x3 x4 x5 x6 x7 i = ∑ n ∈ range 3248, (cat6 (entE (a := 2048) (b := 1024) x2) (entE (a := 2048) (b := 1536) x3) (entE (a := 2048) (b := 16) x4) (entE (a := 2048) (b := 384) x5) (entE (a := 2048) (b := 256) x6) (entE (a := 2048) (b := 32) x7)) (i 0).val n * (entE (a := 1024) (b := 3248) x1) (i 1).val n := by
    rw [val_main_v10_apply]
    exact sum_fin_range _ (fun n => (cat6 (entE (a := 2048) (b := 1024) x2) (entE (a := 2048) (b := 1536) x3) (entE (a := 2048) (b := 16) x4) (entE (a := 2048) (b := 384) x5) (entE (a := 2048) (b := 256) x6) (entE (a := 2048) (b := 32) x7)) (i 0).val n * (entE (a := 1024) (b := 3248) x1) (i 1).val n) fun n => by rw [v7_val x2 x3 x4 x5 x6 x7, entE_E2 x1]
  show x8 i + val_main_v10 (F := Ideal) x1 x2 x3 x4 x5 x6 x7 i = _
  rw [e, entE_E2 x8 i, add_comm]

/-- and the weights'. -/
theorem v13_val : E2 (a := 3248) (b := 1024) (val_main_v13 (F := Ideal) x0 x2 x3 x4 x5 x6 x7) (fun n k => ∑ l ∈ range 2048, (cat6 (entE (a := 2048) (b := 1024) x2) (entE (a := 2048) (b := 1536) x3) (entE (a := 2048) (b := 16) x4) (entE (a := 2048) (b := 384) x5) (entE (a := 2048) (b := 256) x6) (entE (a := 2048) (b := 32) x7)) l n * (entE (a := 2048) (b := 1024) x0) l k) := fun i => by
  show val_main_v12 (F := Ideal) x0 x2 x3 x4 x5 x6 x7 i = _
  rw [val_main_v12_apply, val_main_v9_apply, val_main_v8_apply]
  exact sum_fin_range _ (fun l => (cat6 (entE (a := 2048) (b := 1024) x2) (entE (a := 2048) (b := 1536) x3) (entE (a := 2048) (b := 16) x4) (entE (a := 2048) (b := 384) x5) (entE (a := 2048) (b := 256) x6) (entE (a := 2048) (b := 32) x7)) l (i 0).val * (entE (a := 2048) (b := 1024) x0) l (i 1).val) fun l => by rw [v7_val x2 x3 x4 x5 x6 x7, entE_E2 x0]

end Cert.Reference4Ideal.Hand

end
-- ==== Proof.FwdTile.lean ====
/- One tile of 256 query rows of the attention itself, both heads of a lane block together: the exponentials against the
   values, then times the reciprocals of their row sums. The values may be any extended reals: an exponential is a real,
   and a nonnegative real factor goes into a sum of extended reals. -/
module

public import proofs.«01_k».proof.Proof.TileMath
public import proofs.«01_k».proof.Proof.ProdMat

@[expose] public section

set_option maxRecDepth 16384

noncomputable section

namespace Cert.Attn

open Idealize.ShloMosaic Idealize.ShloMosaic.ValueIdx Finset

/-- A nonnegative real factor goes into a sum of extended reals. -/
theorem sum_mul_coe (s : Finset ℕ) (F : ℕ → EReal) {c : ℝ} (hc : 0 ≤ c) : (∑ κ ∈ s, F κ) * (c : EReal) = ∑ κ ∈ s, F κ * (c : EReal) := by
  induction s using Finset.cons_induction with
  | empty => simp
  | cons a s ha ih =>
    rw [Finset.sum_cons, Finset.sum_cons, EReal.right_distrib_of_nonneg_of_ne_top (EReal.coe_nonneg.mpr hc) (EReal.coe_ne_top c), ih]

section

variable (n : ℕ) (w : Fits n) (half grp : IVec (M 256 128) 32) (e b : BitVec 32) (K : FVec Ideal (M n 256) .bf16)
  (V : FVec Ideal (M n 128) .bf16) (q r : FVec Ideal (M 256 128) .f32) (w₁ : (M 256 1).Broadcasts (M 256 128))

/-- The exponentials of a head's scores. -/
def tex (p : BitVec 32) : FVec Ideal (M 256 n) .f32 :=
  expo 256 n (mask n b w.i0 w.i1) (scores n (tqc n w half grp e q r p) K) w.rn w.c1 w.bn
/-- A head's output, on all lanes of the block. -/
def tou (p : BitVec 32) : FVec Ideal (M 256 128) .f32 :=
  mulf (matmul (DotDims.plain 256 n 128) none (truncf .bf16 (tex n w half grp e b K q r p) w.bits) V (constant (M 256 128) .f32 0x00000000#32))
    (broadcastTo (M 256 128) (divf (broadcast (M 256 1) (Scalar.ofBits (F := Ideal) .f32 0x3F800000#32))
      (shapeCast (M 256 1) (multiReduction .add [1] ⟨1, ![256]⟩ (tex n w half grp e b K q r p) 0x00000000#32 w.rn (.inl rfl) rfl) w.c1)) w₁)
/-- The tile: each head on its own lanes. -/
def outO : FVec Ideal (M 256 128) .f32 :=
  select (cmpi .eq half (broadcast (M 256 128) 0#32)) (tou n w half grp e b K V q r w₁ 0#32) (tou n w half grp e b K V q r w₁ 1#32)

end

section

variable {n : ℕ} (w : Fits n) {half grp : IVec (M 256 128) 32} {e : BitVec 32} {g b : ℕ} {K : FVec Ideal (M n 256) .bf16}
  {V : FVec Ideal (M n 128) .bf16} {q r : FVec Ideal (M 256 128) .f32} {k fq fr : ℕ → ℕ → ℝ} {v : ℕ → ℕ → EReal}

/-- What is known of the operands of a tile of the attention. -/
structure HoldsF (n : ℕ) (half grp : IVec (M 256 128) 32) (e : BitVec 32) (g b : ℕ) (K : FVec Ideal (M n 256) .bf16)
    (V : FVec Ideal (M n 128) .bf16) (q r : FVec Ideal (M 256 128) .f32) (k fq fr : ℕ → ℕ → ℝ) (v : ℕ → ℕ → EReal) : Prop where
  hh : ∀ (r : Fin 256) (l : Fin 128), half (ix2 r l) = BitVec.ofNat 32 (l.val / 64)
  hg : ∀ (r : Fin 256) (l : Fin 128), grp (ix2 r l) = BitVec.ofNat 32 (l.val / 32)
  he : e = BitVec.ofNat 32 g
  g2 : g < 3
  n0 : 0 < n
  n1 : n ≤ 2048
  b1 : b < 2048
  hK : IsR K k
  hV : IsE V v
  hq : IsR q fq
  hr : IsR r fr

variable (h : HoldsF n half grp e g b K V q r k fq fr v) (w₁ : (M 256 1).Broadcasts (M 256 128))
include h

/-- The head's output is the probabilities against the values. -/
theorem tou_real {u : BitVec 32} {p : ℕ} (hu : u = BitVec.ofNat 32 p) (hp : p < 2) :
    IsE (tou n w half grp e (BitVec.ofNat 32 b) K V q r w₁ u) (fun i l => ∑ κ ∈ range n, ((rP n b g k fq fr p i κ : ℝ) : EReal) * v κ l) := by
  have hqc : IsR (tqc n w half grp e q r u) (rq p (g + p) fq fr) :=
    qcat_real h.hh h.hg hu (by rw [h.he, hu]; exact (BitVec.ofNat_add g p).symm) (by omega) (by have := h.g2; omega) h.hq h.hr _ _
  obtain ⟨S, hS⟩ : ∃ S : ℕ → ℕ → ℝ, (fun r κ => ∑ l ∈ range 256, rq p (g + p) fq fr r l * k κ l) = S := ⟨_, rfl⟩
  have hX : IsR (scores n (tqc n w half grp e q r u) K) S := hS ▸ scores_real hqc h.hK
  obtain ⟨m, he⟩ := expo_real (mask_real h.n1 h.b1 w.i0 w.i1) hX h.n0 w.rn w.c1 w.bn
  have hP : ∀ i κ, rP n b g k fq fr p i κ = (if κ ≤ b + i then Real.exp (S i κ) else 0)
      / ∑ κ' ∈ range n, if κ' ≤ b + i then Real.exp (S i κ') else 0 := fun i κ => by
    unfold rP rp
    simp only [← hS]
  intro i l
  have hpos : 0 < ∑ κ ∈ range n, if κ ≤ b + i.val then Real.exp (S i.val κ) else 0 := by
    refine Finset.sum_pos' (fun l _ => ?_) ⟨0, Finset.mem_range.mpr h.n0, ?_⟩
    · split; exacts [(Real.exp_pos _).le, le_rfl]
    · rw [if_pos (Nat.zero_le _)]; exact Real.exp_pos _
  have hl : ∑ κ ∈ range n, (if κ ≤ b + i.val then Real.exp (S i.val κ) else 0) * Real.exp (-(m i.val))
      = (∑ κ ∈ range n, if κ ≤ b + i.val then Real.exp (S i.val κ) else 0) * Real.exp (-(m i.val)) := (Finset.sum_mul ..).symm
  have hd : broadcastTo (M 256 128) (divf (broadcast (M 256 1) (Scalar.ofBits (F := Ideal) .f32 0x3F800000#32))
      (shapeCast (M 256 1) (multiReduction .add [1] ⟨1, ![256]⟩ (tex n w half grp e (BitVec.ofNat 32 b) K q r u) 0x00000000#32 w.rn (.inl rfl) rfl) w.c1)) w₁ (ix2 i l)
      = ((1 / ((∑ κ ∈ range n, if κ ≤ b + i.val then Real.exp (S i.val κ) else 0) * Real.exp (-(m i.val))) : ℝ) : EReal) := by
    show Ideal.div (Ideal.ofBits .f32 0x3F800000#32) (broadcastTo (M 256 128) (shapeCast (M 256 1) (multiReduction .add [1] ⟨1, ![256]⟩
      (tex n w half grp e (BitVec.ofNat 32 b) K q r u) 0x00000000#32 w.rn (.inl rfl) rfl) w.c1) w₁ (ix2 i l)) = _
    rw [stretch_apply, ofBits_one]
    refine (congrArg (Ideal.div _) ((rowSum_apply he 0x00000000#32 w.rn (.inl rfl) rfl i).trans (congrArg _ hl))).trans ?_
    exact div_coe_coe _ _ (mul_pos hpos (Real.exp_pos _)).ne'
  have hm := IsE.dotNN (IsE.trunc (ψ := .bf16) (X := tex n w half grp e (BitVec.ofNat 32 b) K q r u) (f := fun r κ => (((if κ ≤ b + r then Real.exp (S r κ) else 0) * Real.exp (-(m r)) : ℝ) : EReal))
    (fun r κ => he r κ) w.bits) h.hV i l
  show matmul (DotDims.plain 256 n 128) none (truncf .bf16 (tex n w half grp e (BitVec.ofNat 32 b) K q r u) w.bits) V
    (constant (M 256 128) .f32 0x00000000#32) (ix2 i l) * _ = _
  rw [hd]
  refine (congrArg (· * _) hm).trans ?_
  rw [sum_mul_coe _ _ (by positivity)]
  refine Finset.sum_congr rfl fun κ _ => ?_
  rw [mul_right_comm, ← EReal.coe_mul, hP]
  have h0 := (Real.exp_pos (-(m i.val))).ne'
  have h3 := hpos.ne'
  congr 2
  field_simp

/-- The tile's output. -/
theorem outO_real : IsE (outO n w half grp e (BitVec.ofNat 32 b) K V q r w₁)
    (fun i l => ∑ κ ∈ range n, ((rP n b g k fq fr (l / 64) i κ : ℝ) : EReal) * v κ l) := fun i l => by
  have hc := isB_eq (x := fun l => l / 64) h.hh (fun l hl => by omega) (w := 0#32) (p := 0) rfl (by omega) i l
  show (if cmpi .eq half (broadcast (M 256 128) 0#32) (ix2 i l) = 1#1 then tou n w half grp e (BitVec.ofNat 32 b) K V q r w₁ 0#32 (ix2 i l)
    else tou n w half grp e (BitVec.ofNat 32 b) K V q r w₁ 1#32 (ix2 i l)) = _
  have hl := l.isLt
  by_cases hz : l.val / 64 = 0
  · rw [if_pos (hc.mpr hz), tou_real w h w₁ (p := 0) rfl (by omega) i l]
    show _ = ∑ κ ∈ range n, ((rP n b g k fq fr (l.val / 64) i.val κ : ℝ) : EReal) * v κ l.val
    rw [hz]
  · rw [if_neg (fun x => hz (hc.mp x)), tou_real w h w₁ (p := 1) rfl (by omega) i l]
    show _ = ∑ κ ∈ range n, ((rP n b g k fq fr (l.val / 64) i.val κ : ℝ) : EReal) * v κ l.val
    rw [show l.val / 64 = 1 by omega]

end

/-- The attention's output of head `h` against values `v`. -/
def Args.OE (A : Args) (v : ℕ → ℕ → ℕ → EReal) (h q d : ℕ) : EReal := ∑ κ ∈ range 2048, ((A.Pr h q κ : ℝ) : EReal) * v κ h d

/-- Keys after the query's own position add nothing. -/
theorem Args.OE_of_le (A : Args) (v : ℕ → ℕ → ℕ → EReal) {h q d n : ℕ} (hq : q < n) (hn : n ≤ 2048) :
    ∑ κ ∈ range n, ((A.Pr h q κ : ℝ) : EReal) * v κ h d = A.OE v h q d := by
  unfold Args.OE
  refine Finset.sum_subset (Finset.range_mono hn) fun κ _ hκ => ?_
  have := Finset.mem_range.not.mp hκ
  rw [A.Pr_of_lt (by omega), EReal.coe_zero, zero_mul]

/-- A tile's output is the attention's. -/
theorem O_tile (A : Args) (j : ℕ) (hsc : A.sc = scale) (v : ℕ → ℕ → ℕ → EReal) (b n : ℕ) (hn : n = b + 256) (h2 : n ≤ 2048) (ρ l : ℕ) (hρ : ρ < 256)
    (hl : l < 128) :
    ∑ κ ∈ range n, ((rP n b (grp j) (bk A j) (tq A j b) (tr A j b) (l / 64) ρ κ : ℝ) : EReal) * v κ (2 * j + l / 64) (l % 64)
      = A.OE v (2 * j + l / 64) (b + ρ) (l % 64) := by
  rw [← A.OE_of_le v (n := n) (by omega) h2]
  refine Finset.sum_congr rfl fun κ _ => ?_
  rw [P_eq A j hsc b n hn h2 (l / 64) ρ κ (by omega) hρ]

end Cert.Attn

end
-- ==== Proof.FwdBody.lean ====
/- What one grid point of the attention leaves: its stores, tile by tile, are the mathematics' tiles, and together they
   hold the attention's output of two heads. -/
module

public import proofs.«01_k».proof.Proof.Gen.Kernel5Ideal.Frame
public import proofs.«01_k».proof.Proof.FwdTile
public import proofs.«01_k».proof.Proof.Pieces
public import proofs.«01_k».proof.Proof.Canon

@[expose] public section

set_option maxRecDepth 65536

noncomputable section

namespace Cert.Attn

open Idealize.ShloMosaic Idealize.ShloMosaic.ValueIdx

theorem IsE.same {n c : ℕ} {φ : FTy} {X : FVec Ideal (M n c) φ} {f : ℕ → ℕ → EReal} (hX : IsE X f) (h : (M n c).ShapeCasts (M n c)) :
    IsE (φ := φ) (shapeCast (M n c) X h) f := by rw [shapeCast_same]; exact hX

/-- Real entries as extended ones. -/
theorem IsR.isE {n c : ℕ} {φ : FTy} {X : FVec Ideal (M n c) φ} {f : ℕ → ℕ → ℝ} (hX : IsR X f) : IsE X (fun r k => ((f r k : ℝ) : EReal)) := hX

end Cert.Attn

namespace Cert.Kernel5Ideal.Hand

open Idealize.ShloMosaic Idealize.ShloMosaic.ValueIdx Cert.Attn Cert.Kernel5Ideal.Gen

/-- A tile of 256 rows of an input block, from row `o`. -/
def rowLd (arg : Memref sig .tc .vmem S2048x128 .f32) (harg : arg.IsWhole) (x : Vec Ideal S2048x128 .f32) (o : ℕ)
    (inb : ∀ a, (![o, 0] : Fin 2 → ℕ) a + S256x128.size a ≤ S2048x128.size a) : FVec Ideal (M 256 128) .f32 :=
  shapeCast S256x128 (View.readAt (Elt Ideal) arg.view (Rect.unit (s := S2048x128) ![o, 0] S256x128.size inb).toLoadRect (harg.unread x))
    shapeCasts_S256x128_S256x128

/-- A prefix of the rows of the keys' scratch buffer. -/
def kcLd (c : Dev nD) (arg3 : Memref sig .tc .vmem S2048x128 .f32) (w3 : arg3.IsWhole)
    (arg4 : Memref sig .tc .vmem S2048x128 .f32) (w4 : arg4.IsWhole) (arg7 : Memref sig .tc .vmem S2048x256 .bf16)
    (x2 x3 : Vec Ideal S2048x128 .f32) (n : ℕ) (inb : ∀ a, (![0, 0] : Fin 2 → ℕ) a + (M n 256).size a ≤ S2048x256.size a) :
    FVec Ideal (M n 256) .bf16 :=
  arg7.view.readCov (kernelRun0_A.sl.HS0_1 c arg3 w3 arg4 w4 x2 x3) (Rect.unit (s := S2048x256) ![0, 0] (M n 256).size inb).toLoadRect

/-- A prefix of the rows of the values' scratch buffer. -/
def vbLd (c : Dev nD) (arg5 : Memref sig .tc .vmem S2048x128 .f32) (w5 : arg5.IsWhole)
    (arg8 : Memref sig .tc .vmem S2048x128 .bf16)
    (x4 : Vec Ideal S2048x128 .f32) (n : ℕ) (inb : ∀ a, (![0, 0] : Fin 2 → ℕ) a + (M n 128).size a ≤ S2048x128.size a) :
    FVec Ideal (M n 128) .bf16 :=
  arg8.view.readCov (kernelRun0_A.sl.HS1_1 c arg5 w5 x4) (Rect.unit (s := S2048x128) ![0, 0] (M n 128).size inb).toLoadRect

theorem half_lane : ∀ l : Fin 128, kernelRun0_A.sl.v35 (ix2 (0 : Fin 256) l) = BitVec.ofNat 32 (l.val / 64) := by
  decide +kernel
theorem grp_lane : ∀ l : Fin 128, kernelRun0_A.sl.r (ix2 (0 : Fin 256) l) = BitVec.ofNat 32 (l.val / 32) := by
  decide +kernel

/-- The half of a lane. -/
theorem half_eq (r : Fin 256) (l : Fin 128) : kernelRun0_A.sl.v35 (ix2 r l) = BitVec.ofNat 32 (l.val / 64) :=
  (show kernelRun0_A.sl.v35 (ix2 r l) = kernelRun0_A.sl.v35 (ix2 (0 : Fin 256) l) from rfl).trans (half_lane l)
/-- The group of a lane. -/
theorem grp_eq (r : Fin 256) (l : Fin 128) : kernelRun0_A.sl.r (ix2 r l) = BitVec.ofNat 32 (l.val / 32) :=
  (show kernelRun0_A.sl.r (ix2 r l) = kernelRun0_A.sl.r (ix2 (0 : Fin 256) l) from rfl).trans (grp_lane l)
/-- The group of the grid point's first head. -/
theorem v10_eq : ∀ t : Fin grid0.N, kernelRun0_A.sl.v10 (grid0.coords t) = BitVec.ofNat 32 (Cert.Attn.grp t.val) := by
  decide +kernel

theorem rowLd_real {arg : Memref sig .tc .vmem S2048x128 .f32} {harg : arg.IsWhole} {x : Vec Ideal S2048x128 .f32} {f : ℕ → ℕ → ℝ}
    (hx : IsR (φ := .f32) x f) (o : ℕ) (inb : ∀ a, (![o, 0] : Fin 2 → ℕ) a + S256x128.size a ≤ S2048x128.size a) :
    IsR (φ := .f32) (rowLd arg harg x o inb) (fun r l => f (o + r) l) := by
  refine IsR.same (φ := .f32) (fun r l => ?_) _
  have hr : o + r.val < 2048 := by have h := inb 0; have h2 := r.isLt; simp at h; omega
  rw [View.readAt_eq_ld, harg.read_unread]
  refine (congrArg x (?_ : _ = ix2 (⟨o + r.val, hr⟩ : Fin 2048) l)).trans (hx _ l)
  funext a
  refine Fin.ext ?_
  match a with
  | ⟨0, _⟩ => show o + 1 * r.val = o + r.val; omega
  | ⟨1, _⟩ => show 0 + 1 * l.val = l.val; omega

/-- A whole block. -/
theorem whole_ent {arg : Memref sig .tc .vmem S2048x128 .f32} {harg : arg.IsWhole} {x : Vec Ideal S2048x128 .f32} {f : ℕ → ℕ → EReal}
    (hx : IsE (φ := .f32) x f) (inb : ∀ a, (![0, 0] : Fin 2 → ℕ) a + S2048x128.size a ≤ S2048x128.size a) :
    IsE (φ := .f32) (View.readAt (Elt Ideal) arg.view (Rect.unit (s := S2048x128) ![0, 0] S2048x128.size inb).toLoadRect (harg.unread x)) f := by
  intro r l
  rw [View.readAt_eq_ld, harg.read_unread]
  refine (congrArg x (?_ : _ = ix2 r l)).trans (hx r l)
  funext a
  refine Fin.ext ?_
  match a with
  | ⟨0, _⟩ => show 0 + 1 * r.val = r.val; omega
  | ⟨1, _⟩ => show 0 + 1 * l.val = l.val; omega

theorem whole_real {arg : Memref sig .tc .vmem S2048x128 .f32} {harg : arg.IsWhole} {x : Vec Ideal S2048x128 .f32} {f : ℕ → ℕ → ℝ}
    (hx : IsR (φ := .f32) x f) (inb : ∀ a, (![0, 0] : Fin 2 → ℕ) a + S2048x128.size a ≤ S2048x128.size a) :
    IsR (φ := .f32) (View.readAt (Elt Ideal) arg.view (Rect.unit (s := S2048x128) ![0, 0] S2048x128.size inb).toLoadRect (harg.unread x)) f :=
  whole_ent hx.isE inb

/-- A load of the first `n` rows. -/
theorem cov_rows {c N : ℕ} {e : EltTy} (v : View sig .tc .vmem (M N c) e) {H : List (View.Piece (Elt Ideal) (M N c) e)}
    {f : ℕ → ℕ → Elt Ideal e} (hH : Upto H N f) (n : ℕ) (inb : ∀ a, (![0, 0] : Fin 2 → ℕ) a + (M n c).size a ≤ (M N c).size a) :
    ∀ (r : Fin n) (l : Fin c), v.readCov H (Rect.unit (s := M N c) ![0, 0] (M n c).size inb).toLoadRect (ix2 r l) = f r.val l.val :=
  fun r l => by
  have hr : r.val < N := by have h := inb 0; have h2 := r.isLt; simp at h; omega
  rw [View.readCov_eq_canon']
  refine (congrArg (View.canon H) (?_ : _ = ix2 (⟨r.val, hr⟩ : Fin N) l)).trans (hH ⟨r.val, hr⟩ l hr)
  funext a
  refine Fin.ext ?_
  match a with
  | ⟨0, _⟩ => show 0 + 1 * r.val = r.val; omega
  | ⟨1, _⟩ => show 0 + 1 * l.val = l.val; omega

theorem upto_nil {n c : ℕ} {e : EltTy} (f : ℕ → ℕ → Elt Ideal e) : Upto (n := n) (c := c) [] 0 f := fun r _ h => absurd h (Nat.not_lt_zero _)

section

variable (c : Dev nD) (i : grid0.Coords)
  (arg1 : Memref sig .tc .vmem S2048x128 .f32) (w1 : arg1.IsWhole)
  (arg2 : Memref sig .tc .vmem S2048x128 .f32) (w2 : arg2.IsWhole)
  (arg3 : Memref sig .tc .vmem S2048x128 .f32) (w3 : arg3.IsWhole)
  (arg4 : Memref sig .tc .vmem S2048x128 .f32) (w4 : arg4.IsWhole)
  (arg5 : Memref sig .tc .vmem S2048x128 .f32) (w5 : arg5.IsWhole)
  (arg6 : Memref sig .tc .vmem S2048x128 .f32) (w6 : arg6.IsWhole)
  (arg7 : Memref sig .tc .vmem S2048x256 .bf16) (w7 : arg7.IsWhole)
  (arg8 : Memref sig .tc .vmem S2048x128 .bf16) (w8 : arg8.IsWhole)
  (x0 x1 x2 x3 x4 : Vec Ideal S2048x128 .f32)

/-- The tile of `n` keys from row `b`. -/
def tileO (n b : ℕ) (w : Fits n) (inb : ∀ a, (![b, 0] : Fin 2 → ℕ) a + S256x128.size a ≤ S2048x128.size a)
    (inbK : ∀ a, (![0, 0] : Fin 2 → ℕ) a + (M n 256).size a ≤ S2048x256.size a)
    (inbV : ∀ a, (![0, 0] : Fin 2 → ℕ) a + (M n 128).size a ≤ S2048x128.size a) : FVec Ideal (M 256 128) .f32 :=
  outO n w kernelRun0_A.sl.v35 kernelRun0_A.sl.r (kernelRun0_A.sl.v10 i) (BitVec.ofNat 32 b)
    (kcLd c arg3 w3 arg4 w4 arg7 x2 x3 n inbK) (vbLd c arg5 w5 arg8 x4 n inbV)
    (rowLd arg1 w1 x0 b inb) (rowLd arg2 w2 x1 b inb) broadcasts_S256x1_S256x128

/-- The stores of the output block. -/
theorem L5_eq : (kernelRun0_A c i arg1 w1 arg2 w2 arg3 w3 arg4 w4 arg5 w5 arg6 w6 arg7 w7 arg8 w8 x0 x1 x2 x3 x4).1 = [
    ⟨Rect.unit ![1792, 0] S256x128.size inb_S2048x128_S256x128_1792_0, tileO c i arg1 w1 arg2 w2 arg3 w3 arg4 w4 arg5 w5 arg7 arg8 x0 x1 x2 x3 x4 2048 1792 Cert.KernelIdeal.Hand.fits_2048 inb_S2048x128_S256x128_1792_0 inb_S2048x256_S2048x256_0_0 inb_S2048x128_S2048x128_0_0⟩,
    ⟨Rect.unit ![1536, 0] S256x128.size inb_S2048x128_S256x128_1536_0, tileO c i arg1 w1 arg2 w2 arg3 w3 arg4 w4 arg5 w5 arg7 arg8 x0 x1 x2 x3 x4 1792 1536 Cert.KernelIdeal.Hand.fits_1792 inb_S2048x128_S256x128_1536_0 inb_S2048x256_S1792x256_0_0 inb_S2048x128_S1792x128_0_0⟩,
    ⟨Rect.unit ![1280, 0] S256x128.size inb_S2048x128_S256x128_1280_0, tileO c i arg1 w1 arg2 w2 arg3 w3 arg4 w4 arg5 w5 arg7 arg8 x0 x1 x2 x3 x4 1536 1280 Cert.KernelIdeal.Hand.fits_1536 inb_S2048x128_S256x128_1280_0 inb_S2048x256_S1536x256_0_0 inb_S2048x128_S1536x128_0_0⟩,
    ⟨Rect.unit ![1024, 0] S256x128.size inb_S2048x128_S256x128_1024_0, tileO c i arg1 w1 arg2 w2 arg3 w3 arg4 w4 arg5 w5 arg7 arg8 x0 x1 x2 x3 x4 1280 1024 Cert.KernelIdeal.Hand.fits_1280 inb_S2048x128_S256x128_1024_0 inb_S2048x256_S1280x256_0_0 inb_S2048x128_S1280x128_0_0⟩,
    ⟨Rect.unit ![768, 0] S256x128.size inb_S2048x128_S256x128_768_0, tileO c i arg1 w1 arg2 w2 arg3 w3 arg4 w4 arg5 w5 arg7 arg8 x0 x1 x2 x3 x4 1024 768 Cert.KernelIdeal.Hand.fits_1024 inb_S2048x128_S256x128_768_0 inb_S2048x256_S1024x256_0_0 inb_S2048x128_S1024x128_0_0⟩,
    ⟨Rect.unit ![512, 0] S256x128.size inb_S2048x128_S256x128_512_0, tileO c i arg1 w1 arg2 w2 arg3 w3 arg4 w4 arg5 w5 arg7 arg8 x0 x1 x2 x3 x4 768 512 Cert.KernelIdeal.Hand.fits_768 inb_S2048x128_S256x128_512_0 inb_S2048x256_S768x256_0_0 inb_S2048x128_S768x128_0_0⟩,
    ⟨Rect.unit ![256, 0] S256x128.size inb_S2048x128_S256x128_256_0, tileO c i arg1 w1 arg2 w2 arg3 w3 arg4 w4 arg5 w5 arg7 arg8 x0 x1 x2 x3 x4 512 256 Cert.KernelIdeal.Hand.fits_512 inb_S2048x128_S256x128_256_0 inb_S2048x256_S512x256_0_0 inb_S2048x128_S512x128_0_0⟩,
    ⟨Rect.unit ![0, 0] S256x128.size inb_S2048x128_S256x128_0_0, tileO c i arg1 w1 arg2 w2 arg3 w3 arg4 w4 arg5 w5 arg7 arg8 x0 x1 x2 x3 x4 256 0 Cert.KernelIdeal.Hand.fits_256 inb_S2048x128_S256x128_0_0 inb_S2048x256_S256x256_0_0 inb_S2048x128_S256x128_0_0⟩] := by
  rfl

variable (A : Args) (vE : ℕ → ℕ → ℕ → EReal) (j : ℕ) (hsc : A.sc = scale) (he : kernelRun0_A.sl.v10 i = BitVec.ofNat 32 (Cert.Attn.grp j))
  (h0 : IsR (φ := .f32) x0 (bq A j)) (h1 : IsR (φ := .f32) x1 (br A j))
  (h2 : IsR (φ := .f32) x2 (fun κ l => A.kn κ (2 * j + l / 64) (l % 64))) (h3 : IsR (φ := .f32) x3 (fun κ l => A.kr κ (l % 32)))
  (h4 : IsE (φ := .f32) x4 (fun κ l => vE κ (2 * j + l / 64) (l % 64)))

include h2 h3 in
/-- The keys' scratch buffer holds the block's keys. -/
theorem kcLd_real (n : ℕ) (inb : ∀ a, (![0, 0] : Fin 2 → ℕ) a + (M n 256).size a ≤ S2048x256.size a) :
    IsR (kcLd c arg3 w3 arg4 w4 arg7 x2 x3 n inb) (bk A j) := by
  refine cov_rows (e := .bf16) (f := fun r l => ((bk A j r l : ℝ) : EReal)) arg7.view ?_ n inb
  refine Upto.step (o := 0) (g := fun r l => ((bk A j r l : ℝ) : EReal)) (upto_nil _) inb_S2048x256_S2048x256_0_0 ?_ rfl ?_
  · exact IsR.same (φ := .bf16) (((IsR.cat (IsR.same (φ := .f32) (whole_real (harg := w3) h2 _) shapeCasts_S2048x128_S2048x128)
      (whole_real (harg := w4) h3 _) concatenates_S2048x128_S2048x128_S2048x256_d1)).trunc bitsLt_bf16_f32) shapeCasts_S2048x256_S2048x256
  · intro r l _; simp only [Nat.zero_add]

include h4 in
/-- The values' scratch buffer holds the block's values. -/
theorem vbLd_ent (n : ℕ) (inb : ∀ a, (![0, 0] : Fin 2 → ℕ) a + (M n 128).size a ≤ S2048x128.size a) :
    IsE (vbLd c arg5 w5 arg8 x4 n inb) (fun κ l => vE κ (2 * j + l / 64) (l % 64)) := by
  refine cov_rows (e := .bf16) (f := fun κ l => vE κ (2 * j + l / 64) (l % 64)) arg8.view ?_ n inb
  refine Upto.step (o := 0) (g := fun κ l => vE κ (2 * j + l / 64) (l % 64)) (upto_nil _) inb_S2048x128_S2048x128_0_0 ?_ rfl ?_
  · exact IsE.same (φ := .bf16) ((IsE.same (φ := .f32) (whole_ent (harg := w5) h4 _) shapeCasts_S2048x128_S2048x128).trunc
      bitsLt_bf16_f32) shapeCasts_S2048x128_S2048x128
  · intro r l _; simp only [Nat.zero_add]

include hsc he h0 h1 h2 h3 h4 in
/-- A tile holds the attention's output of its rows. -/
theorem tileO_ent (n b : ℕ) (w : Fits n) (hn : n = b + 256) (hn2 : n ≤ 2048)
    (inb : ∀ a, (![b, 0] : Fin 2 → ℕ) a + S256x128.size a ≤ S2048x128.size a)
    (inbK : ∀ a, (![0, 0] : Fin 2 → ℕ) a + (M n 256).size a ≤ S2048x256.size a)
    (inbV : ∀ a, (![0, 0] : Fin 2 → ℕ) a + (M n 128).size a ≤ S2048x128.size a) :
    IsE (tileO c i arg1 w1 arg2 w2 arg3 w3 arg4 w4 arg5 w5 arg7 arg8 x0 x1 x2 x3 x4 n b w inb inbK inbV) (fun ρ l => A.OE vE (2 * j + l / 64) (b + ρ) (l % 64)) := by
  have hH : HoldsF n kernelRun0_A.sl.v35 kernelRun0_A.sl.r (kernelRun0_A.sl.v10 i) (Cert.Attn.grp j) b
      (kcLd c arg3 w3 arg4 w4 arg7 x2 x3 n inbK) (vbLd c arg5 w5 arg8 x4 n inbV)
      (rowLd arg1 w1 x0 b inb) (rowLd arg2 w2 x1 b inb) (bk A j) (tq A j b) (tr A j b)
      (fun κ l => vE κ (2 * j + l / 64) (l % 64)) :=
    { hh := half_eq
      hg := grp_eq
      he := he
      g2 := by unfold Cert.Attn.grp; omega
      n0 := by omega
      n1 := hn2
      b1 := by omega
      hK := kcLd_real c arg3 w3 arg4 w4 arg7 x2 x3 A j h2 h3 n inbK
      hV := vbLd_ent c arg5 w5 arg8 x4 vE j h4 n inbV
      hq := rowLd_real h0 b inb
      hr := rowLd_real h1 b inb }
  exact (outO_real w hH broadcasts_S256x1_S256x128).congr fun ρ hρ l hl => O_tile A j hsc vE b n hn hn2 ρ l hρ hl

include hsc he h0 h1 h2 h3 h4 in
/-- What the point leaves in its block of the output. -/
theorem L5_ent : Upto (kernelRun0_A c i arg1 w1 arg2 w2 arg3 w3 arg4 w4 arg5 w5 arg6 w6 arg7 w7 arg8 w8 x0 x1 x2 x3 x4).1 2048 (fun r l => A.OE vE (2 * j + l / 64) r (l % 64)) := by
  rw [L5_eq]
  refine Upto.step (e := .f32) (o := 1792) (k := 256) (g := fun ρ l => A.OE vE (2 * j + l / 64) (1792 + ρ) (l % 64)) ?_ inb_S2048x128_S256x128_1792_0 (tileO_ent c i arg1 w1 arg2 w2 arg3 w3 arg4 w4 arg5 w5 arg7 arg8 x0 x1 x2 x3 x4 A vE j hsc he h0 h1 h2 h3 h4 2048 1792 _ rfl (by omega) _ _ _) rfl (fun _ _ _ => rfl)
  refine Upto.step (e := .f32) (o := 1536) (k := 256) (g := fun ρ l => A.OE vE (2 * j + l / 64) (1536 + ρ) (l % 64)) ?_ inb_S2048x128_S256x128_1536_0 (tileO_ent c i arg1 w1 arg2 w2 arg3 w3 arg4 w4 arg5 w5 arg7 arg8 x0 x1 x2 x3 x4 A vE j hsc he h0 h1 h2 h3 h4 1792 1536 _ rfl (by omega) _ _ _) rfl (fun _ _ _ => rfl)
  refine Upto.step (e := .f32) (o := 1280) (k := 256) (g := fun ρ l => A.OE vE (2 * j + l / 64) (1280 + ρ) (l % 64)) ?_ inb_S2048x128_S256x128_1280_0 (tileO_ent c i arg1 w1 arg2 w2 arg3 w3 arg4 w4 arg5 w5 arg7 arg8 x0 x1 x2 x3 x4 A vE j hsc he h0 h1 h2 h3 h4 1536 1280 _ rfl (by omega) _ _ _) rfl (fun _ _ _ => rfl)
  refine Upto.step (e := .f32) (o := 1024) (k := 256) (g := fun ρ l => A.OE vE (2 * j + l / 64) (1024 + ρ) (l % 64)) ?_ inb_S2048x128_S256x128_1024_0 (tileO_ent c i arg1 w1 arg2 w2 arg3 w3 arg4 w4 arg5 w5 arg7 arg8 x0 x1 x2 x3 x4 A vE j hsc he h0 h1 h2 h3 h4 1280 1024 _ rfl (by omega) _ _ _) rfl (fun _ _ _ => rfl)
  refine Upto.step (e := .f32) (o := 768) (k := 256) (g := fun ρ l => A.OE vE (2 * j + l / 64) (768 + ρ) (l % 64)) ?_ inb_S2048x128_S256x128_768_0 (tileO_ent c i arg1 w1 arg2 w2 arg3 w3 arg4 w4 arg5 w5 arg7 arg8 x0 x1 x2 x3 x4 A vE j hsc he h0 h1 h2 h3 h4 1024 768 _ rfl (by omega) _ _ _) rfl (fun _ _ _ => rfl)
  refine Upto.step (e := .f32) (o := 512) (k := 256) (g := fun ρ l => A.OE vE (2 * j + l / 64) (512 + ρ) (l % 64)) ?_ inb_S2048x128_S256x128_512_0 (tileO_ent c i arg1 w1 arg2 w2 arg3 w3 arg4 w4 arg5 w5 arg7 arg8 x0 x1 x2 x3 x4 A vE j hsc he h0 h1 h2 h3 h4 768 512 _ rfl (by omega) _ _ _) rfl (fun _ _ _ => rfl)
  refine Upto.step (e := .f32) (o := 256) (k := 256) (g := fun ρ l => A.OE vE (2 * j + l / 64) (256 + ρ) (l % 64)) ?_ inb_S2048x128_S256x128_256_0 (tileO_ent c i arg1 w1 arg2 w2 arg3 w3 arg4 w4 arg5 w5 arg7 arg8 x0 x1 x2 x3 x4 A vE j hsc he h0 h1 h2 h3 h4 512 256 _ rfl (by omega) _ _ _) rfl (fun _ _ _ => rfl)
  refine Upto.step (e := .f32) (o := 0) (k := 256) (g := fun ρ l => A.OE vE (2 * j + l / 64) (0 + ρ) (l % 64)) ?_ inb_S2048x128_S256x128_0_0 (tileO_ent c i arg1 w1 arg2 w2 arg3 w3 arg4 w4 arg5 w5 arg7 arg8 x0 x1 x2 x3 x4 A vE j hsc he h0 h1 h2 h3 h4 256 0 _ rfl (by omega) _ _ _) rfl (fun _ _ _ => rfl)
  exact upto_nil _

end

end Cert.Kernel5Ideal.Hand

end
-- ==== Proof.FwdRegion.lean ====
/- The attention forward call around its body: what a grid point reads of the arrays, what it leaves in the result, and
   what the arrays hold when the region begins. -/
module

public import proofs.«01_k».proof.Proof.FwdBody
public import proofs.«01_k».proof.Proof.HostIn

@[expose] public section

set_option maxRecDepth 16384

noncomputable section

namespace Cert.Attn

open Idealize.ShloMosaic Idealize.ShloMosaic.ValueIdx

/-- The three-axis array `X` holds the extended reals `f`. -/
def E3 {a b c : ℕ} (X : (⟨3, ![a, b, c]⟩ : Shape).Idx → EReal) (f : ℕ → ℕ → ℕ → EReal) : Prop :=
  ∀ i, X i = f (i 0).val (i 1).val (i 2).val

/-- A three-axis array's entries by natural numbers, zero outside. -/
def ent3 {a b c : ℕ} (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0

/-- Every array holds its own entries. -/
theorem ent3_E3 {a b c : ℕ} (X : (⟨3, ![a, b, c]⟩ : Shape).Idx → EReal) : E3 X (ent3 X) := fun i => by
  rw [ent3, dif_pos ⟨lt0 i, lt1 i, lt2 i⟩]
  congr 1
  funext k
  match k with
  | ⟨0, _⟩ => rfl
  | ⟨1, _⟩ => rfl
  | ⟨2, _⟩ => rfl

/-- Merging the last two axes of an array of extended reals. -/
theorem E3.flat {a b c n : ℕ} {X : (⟨3, ![a, b, c]⟩ : Shape).Idx → EReal} {f : ℕ → ℕ → ℕ → EReal} (hX : E3 X f)
    (h : (⟨3, ![a, b, c]⟩ : Shape).ShapeCasts (M a n)) (hn : n = b * c) (hc : 0 < c) :
    IsE (a := a) (c := n) (φ := .f32) (shapeCast (M a n) X h) (fun r k => f r (k / c) (k % c)) := fun r k => by
  have hk := k.isLt
  refine (shapeCast_apply X h (ix2 r k) (ix3 r (⟨k.val / c, Nat.div_lt_of_lt_mul (by rw [Nat.mul_comm, ← hn]; exact hk)⟩ : Fin b)
    (⟨k.val % c, Nat.mod_lt _ hc⟩ : Fin c)) ?_).trans (hX _)
  rw [Shape.rowMajor_val_two, Shape.rowMajor_val_three]
  show (r.val * b + k.val / c) * c + k.val % c = r.val * n + k.val
  rw [Nat.add_mul, Nat.mul_assoc, Nat.add_assoc, Nat.div_add_mod', ← hn]

/-- An array whose entries are the extended reals of `f` holds the reals `f`. -/
theorem IsR.ofE {a c : ℕ} {φ : FTy} {X : FVec Ideal (M a c) φ} {f : ℕ → ℕ → ℝ} (h : IsE X (fun r k => ((f r k : ℝ) : EReal))) : IsR X f := h

/-- Two arrays of extended reals side by side. -/
theorem IsE.cat {a c₁ c₂ c : ℕ} {φ : FTy} {X : FVec Ideal (M a c₁) φ} {Y : FVec Ideal (M a c₂) φ} {f g : ℕ → ℕ → EReal} (hX : IsE X f) (hY : IsE Y g)
    (h : Shape.Concatenates [M a c₁, M a c₂] (M a c) 1) :
    IsE (φ := φ) (concatenate (M a c) 1 [⟨M a c₁, X⟩, ⟨M a c₂, Y⟩] h) (fun r l => if l < c₁ then f r l else g r (l - c₁)) := by
  have hc : c₁ + c₂ = c := by
    have := h.2.2
    simpa using this
  intro r l
  show _ = (if l.val < c₁ then f r.val l.val else g r.val (l.val - c₁) : EReal)
  by_cases hl : l.val < c₁
  · rw [if_pos hl]
    refine (concatenate_pair_apply_left 1 X Y h (ix2 r l) rfl (ix2 r (⟨l.val, hl⟩ : Fin c₁)) fun b => ?_).trans (hX r ⟨l.val, hl⟩)
    match b with
    | ⟨0, _⟩ => rfl
    | ⟨1, _⟩ => rfl
  · rw [if_neg hl]
    have h2 : l.val - c₁ < c₂ := by have := l.isLt; omega
    refine (concatenate_pair_apply_right 1 X Y h (ix2 r l) rfl rfl (ix2 r (⟨l.val - c₁, h2⟩ : Fin c₂)) (fun b hb => ?_) ?_).trans
      (hY r ⟨l.val - c₁, h2⟩)
    · match b with
      | ⟨0, _⟩ => rfl
      | ⟨1, _⟩ => exact absurd rfl hb
    · show l.val - c₁ + c₁ = l.val; omega

end Cert.Attn

namespace Cert.Kernel5Ideal.Hand

open Idealize.ShloMosaic Idealize.ShloMosaic.ValueIdx Idealize.ShloMosaic.TcCoe Cert.Attn Cert.Kernel5Ideal Cert.Kernel5Ideal.Gen Idealize.SL.Sem
open Idealize.ShloMosaic.Pipeline (Dat)

variable (m : (ℓ : Loc nD τ sig) → Buf (Elt Ideal) ℓ)

/-- What the arrays hold that the region reads, in terms of the reals `A` and the values `vE`. -/
structure Ins (A : Args) (vE : ℕ → ℕ → ℕ → EReal) (c : Dev nD) : Prop where
  sc : A.sc = scale
  q : IsR (a := 2048) (c := 1536) (φ := .f32) (V m c main_v2) (fun r k => if k < 1024 then A.qn r (k / 64) (k % 64) else A.qr r ((k - 1024) / 32) ((k - 1024) % 32))
  qr : IsR (a := 2048) (c := 512) (φ := .f32) (V m c main_v6) (fun r k => A.qr r (k / 32) (k % 32))
  kv : IsE (a := 2048) (c := 2048) (φ := .f32) (V m c main_v5)
    (fun r k => if k < 1024 then ((A.kn r (k / 64) (k % 64) : ℝ) : EReal) else vE r ((k - 1024) / 64) ((k - 1024) % 64))
  kr : IsR (a := 2048) (c := 128) (φ := .f32) (V m c main_v9) (fun r k => A.kr r (k % 32))

theorem idxw0 : ∀ t : Fin grid0.N, win0_0.index t 0 = 0 ∧ win0_0.index t 1 = t.val := by decide +kernel

/-- Window 0's block at a grid point is a column block of its array. -/
theorem iblk0_ent (c : Dev nD) (t : Fin cfg0.N) (f : ℕ → ℕ → EReal) (h : IsE (a := 2048) (c := 1536) (φ := .f32) (V m c main_v2) f) :
    IsE (a := 2048) (c := 128) (φ := .f32) (iblk m c 0 t) (fun r l => f r ((t.val) * 128 + l)) := fun r l => by
  obtain ⟨e0, e1⟩ := idxw0 t
  have ht : t.val < 8 := t.isLt
  have hl := l.isLt
  have hi : ((cfg0.win 0).blk t).view.emb (ix2 r l : S2048x128.Idx) = (ix2 r ⟨(t.val) * 128 + l.val, by omega⟩ : S2048x1536.Idx) := by
    funext a
    apply Fin.ext
    match a with
    | ⟨0, _⟩ => show win0_0.index t 0 * 2048 + 1 * r.val = r.val; rw [e0]; omega
    | ⟨1, _⟩ => show win0_0.index t 1 * 128 + 1 * l.val = (t.val) * 128 + l.val; rw [e1]; omega
  have hv : (iblk m c 0 t : Vec Ideal S2048x128 .f32) (ix2 r l) = V m c main_v2 (((cfg0.win 0).blk t).view.emb (ix2 r l : S2048x128.Idx)) := by
    unfold iblk
    rw [View.read_apply]
    rfl
  exact hv.trans ((congrArg (V m c main_v2) hi).trans (h r ⟨(t.val) * 128 + l.val, by omega⟩))

theorem idxw1 : ∀ t : Fin grid0.N, win0_1.index t 0 = 0 ∧ win0_1.index t 1 = t.val / 2 := by decide +kernel

/-- Window 1's block at a grid point is a column block of its array. -/
theorem iblk1_ent (c : Dev nD) (t : Fin cfg0.N) (f : ℕ → ℕ → EReal) (h : IsE (a := 2048) (c := 512) (φ := .f32) (V m c main_v6) f) :
    IsE (a := 2048) (c := 128) (φ := .f32) (iblk m c 1 t) (fun r l => f r ((t.val / 2) * 128 + l)) := fun r l => by
  obtain ⟨e0, e1⟩ := idxw1 t
  have ht : t.val < 8 := t.isLt
  have hl := l.isLt
  have hi : ((cfg0.win 1).blk t).view.emb (ix2 r l : S2048x128.Idx) = (ix2 r ⟨(t.val / 2) * 128 + l.val, by omega⟩ : S2048x512.Idx) := by
    funext a
    apply Fin.ext
    match a with
    | ⟨0, _⟩ => show win0_1.index t 0 * 2048 + 1 * r.val = r.val; rw [e0]; omega
    | ⟨1, _⟩ => show win0_1.index t 1 * 128 + 1 * l.val = (t.val / 2) * 128 + l.val; rw [e1]; omega
  have hv : (iblk m c 1 t : Vec Ideal S2048x128 .f32) (ix2 r l) = V m c main_v6 (((cfg0.win 1).blk t).view.emb (ix2 r l : S2048x128.Idx)) := by
    unfold iblk
    rw [View.read_apply]
    rfl
  exact hv.trans ((congrArg (V m c main_v6) hi).trans (h r ⟨(t.val / 2) * 128 + l.val, by omega⟩))

theorem idxw2 : ∀ t : Fin grid0.N, win0_2.index t 0 = 0 ∧ win0_2.index t 1 = t.val := by decide +kernel

/-- Window 2's block at a grid point is a column block of its array. -/
theorem iblk2_ent (c : Dev nD) (t : Fin cfg0.N) (f : ℕ → ℕ → EReal) (h : IsE (a := 2048) (c := 2048) (φ := .f32) (V m c main_v5) f) :
    IsE (a := 2048) (c := 128) (φ := .f32) (iblk m c 2 t) (fun r l => f r ((t.val) * 128 + l)) := fun r l => by
  obtain ⟨e0, e1⟩ := idxw2 t
  have ht : t.val < 8 := t.isLt
  have hl := l.isLt
  have hi : ((cfg0.win 2).blk t).view.emb (ix2 r l : S2048x128.Idx) = (ix2 r ⟨(t.val) * 128 + l.val, by omega⟩ : S2048x2048.Idx) := by
    funext a
    apply Fin.ext
    match a with
    | ⟨0, _⟩ => show win0_2.index t 0 * 2048 + 1 * r.val = r.val; rw [e0]; omega
    | ⟨1, _⟩ => show win0_2.index t 1 * 128 + 1 * l.val = (t.val) * 128 + l.val; rw [e1]; omega
  have hv : (iblk m c 2 t : Vec Ideal S2048x128 .f32) (ix2 r l) = V m c main_v5 (((cfg0.win 2).blk t).view.emb (ix2 r l : S2048x128.Idx)) := by
    unfold iblk
    rw [View.read_apply]
    rfl
  exact hv.trans ((congrArg (V m c main_v5) hi).trans (h r ⟨(t.val) * 128 + l.val, by omega⟩))

theorem idxw3 : ∀ t : Fin grid0.N, win0_3.index t 0 = 0 ∧ win0_3.index t 1 = 0 := by decide +kernel

/-- Window 3's block at a grid point is a column block of its array. -/
theorem iblk3_ent (c : Dev nD) (t : Fin cfg0.N) (f : ℕ → ℕ → EReal) (h : IsE (a := 2048) (c := 128) (φ := .f32) (V m c main_v9) f) :
    IsE (a := 2048) (c := 128) (φ := .f32) (iblk m c 3 t) (fun r l => f r (0 * 128 + l)) := fun r l => by
  obtain ⟨e0, e1⟩ := idxw3 t
  have ht : t.val < 8 := t.isLt
  have hl := l.isLt
  have hi : ((cfg0.win 3).blk t).view.emb (ix2 r l : S2048x128.Idx) = (ix2 r ⟨0 * 128 + l.val, by omega⟩ : S2048x128.Idx) := by
    funext a
    apply Fin.ext
    match a with
    | ⟨0, _⟩ => show win0_3.index t 0 * 2048 + 1 * r.val = r.val; rw [e0]; omega
    | ⟨1, _⟩ => show win0_3.index t 1 * 128 + 1 * l.val = 0 * 128 + l.val; rw [e1]; omega
  have hv : (iblk m c 3 t : Vec Ideal S2048x128 .f32) (ix2 r l) = V m c main_v9 (((cfg0.win 3).blk t).view.emb (ix2 r l : S2048x128.Idx)) := by
    unfold iblk
    rw [View.read_apply]
    rfl
  exact hv.trans ((congrArg (V m c main_v9) hi).trans (h r ⟨0 * 128 + l.val, by omega⟩))

theorem idxw4 : ∀ t : Fin grid0.N, win0_4.index t 0 = 0 ∧ win0_4.index t 1 = 8 + t.val := by decide +kernel

/-- Window 4's block at a grid point is a column block of its array. -/
theorem iblk4_ent (c : Dev nD) (t : Fin cfg0.N) (f : ℕ → ℕ → EReal) (h : IsE (a := 2048) (c := 2048) (φ := .f32) (V m c main_v5) f) :
    IsE (a := 2048) (c := 128) (φ := .f32) (iblk m c 4 t) (fun r l => f r ((8 + t.val) * 128 + l)) := fun r l => by
  obtain ⟨e0, e1⟩ := idxw4 t
  have ht : t.val < 8 := t.isLt
  have hl := l.isLt
  have hi : ((cfg0.win 4).blk t).view.emb (ix2 r l : S2048x128.Idx) = (ix2 r ⟨(8 + t.val) * 128 + l.val, by omega⟩ : S2048x2048.Idx) := by
    funext a
    apply Fin.ext
    match a with
    | ⟨0, _⟩ => show win0_4.index t 0 * 2048 + 1 * r.val = r.val; rw [e0]; omega
    | ⟨1, _⟩ => show win0_4.index t 1 * 128 + 1 * l.val = (8 + t.val) * 128 + l.val; rw [e1]; omega
  have hv : (iblk m c 4 t : Vec Ideal S2048x128 .f32) (ix2 r l) = V m c main_v5 (((cfg0.win 4).blk t).view.emb (ix2 r l : S2048x128.Idx)) := by
    unfold iblk
    rw [View.read_apply]
    rfl
  exact hv.trans ((congrArg (V m c main_v5) hi).trans (h r ⟨(8 + t.val) * 128 + l.val, by omega⟩))

section

variable (A : Args) (vE : ℕ → ℕ → ℕ → EReal) (c : Dev nD) (hI : Ins m A vE c) (t : Fin cfg0.N)

include hI

theorem x0_ent : IsR (a := 2048) (c := 128) (φ := .f32) (iblk m c 0 t) (bq A t.val) :=
  IsR.ofE <| (iblk0_ent m c t _ hI.q.isE).congr fun r _ l hl => by
    have ht : t.val < 8 := t.isLt
    refine congrArg Real.toEReal ?_
    beta_reduce
    rw [if_pos (by omega)]; unfold bq
    congr 1 <;> omega
theorem x1_ent : IsR (a := 2048) (c := 128) (φ := .f32) (iblk m c 1 t) (br A t.val) :=
  IsR.ofE <| (iblk1_ent m c t _ hI.qr.isE).congr fun r _ l hl => by
    refine congrArg Real.toEReal ?_
    beta_reduce
    unfold br
    congr 1 <;> omega
theorem x2_ent : IsR (a := 2048) (c := 128) (φ := .f32) (iblk m c 2 t) (fun r l => A.kn r (2 * t.val + l / 64) (l % 64)) :=
  IsR.ofE <| (iblk2_ent m c t _ hI.kv).congr fun r _ l hl => by
    have ht : t.val < 8 := t.isLt
    rw [if_pos (by omega), show (t.val * 128 + l) / 64 = 2 * t.val + l / 64 by omega, show (t.val * 128 + l) % 64 = l % 64 by omega]
theorem x3_ent : IsR (a := 2048) (c := 128) (φ := .f32) (iblk m c 3 t) (fun r l => A.kr r (l % 32)) :=
  IsR.ofE <| (iblk3_ent m c t _ hI.kr.isE).congr fun r _ l hl => by
    refine congrArg Real.toEReal ?_
    beta_reduce
    rw [show (0 * 128 + l) % 32 = l % 32 by omega]
theorem x4_ent : IsE (a := 2048) (c := 128) (φ := .f32) (iblk m c 4 t) (fun r l => vE r (2 * t.val + l / 64) (l % 64)) :=
  (iblk4_ent m c t _ hI.kv).congr fun r _ l hl => by
    rw [if_neg (by omega), show ((8 + t.val) * 128 + l - 1024) / 64 = 2 * t.val + l / 64 by omega, show ((8 + t.val) * 128 + l - 1024) % 64 = l % 64 by omega]

/-- What a grid point leaves in the result's block. -/
theorem left5_ent (r : Fin 2048) (l : Fin 128) : (outsAt0 m c t : Vec Ideal S2048x128 .f32) (ix2 r l : S2048x128.Idx) = A.OE vE (2 * t.val + l.val / 64) r.val (l.val % 64) := by
  have h := L5_ent c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) A vE t.val hI.sc (v10_eq t) (x0_ent m A vE c hI t) (x1_ent m A vE c hI t) (x2_ent m A vE c hI t) (x3_ent m A vE c hI t) (x4_ent m A vE c hI t) r l r.isLt
  refine Eq.trans ?_ h
  simp only [outsAt0]
  unfold out0_A_5
  exact congrFun (View.read_writes_junk_eq_canon _ _) _

end

theorem idxo5 : ∀ t : Fin grid0.N, win0_5.index t 0 = 0 ∧ win0_5.index t 1 = t.val := by decide +kernel

theorem idx_inj5 : ∀ t t' : Fin cfg0.N, win0_5.index t = win0_5.index t' → t = t' :=
  (by decide +kernel : ∀ t t' : Fin grid0.N, win0_5.index t = win0_5.index t' → t = t')

/-- No two grid points' blocks of the result share an index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- A block of the result after the region is what its grid point left. -/
theorem block5 (c : Dev nD) (t : Fin cfg0.N) (y : S2048x128.Idx) :
    (dats m 0 c).arrAt 5 cfg0.N (((cfg0.win 5).blk t).view.emb y) = (outsAt0 m c t : Vec Ideal S2048x128 .f32) y := by
  have h := congrFun ((dats m 0 c).read_blk_arrAt_eq_flushed 5 disjoint5 cfg0.N t t.isLt (flush0_5 t)) y
  rw [View.read_apply] at h
  refine h.trans ?_
  show (cfg0.win 5).cut (grid0.coords t) ((dats m 0 c).after 5 t) y = _
  rw [after0_5]
  rfl

/-- The result after the region: the attention output, the heads side by side. -/
theorem array5 (A : Args) (vE : ℕ → ℕ → ℕ → EReal) (c : Dev nD) (hI : Ins m A vE c) (r : Fin 2048) (k : Fin 1024) :
    (dats m 0 c).arrAt 5 cfg0.N (ix2 r k : S2048x1024.Idx) = A.OE vE (k.val / 64) r.val (k.val % 64) := by
  have hk := k.isLt
  obtain ⟨t, ht⟩ : ∃ t : Fin cfg0.N, t.val = k.val / 128 := ⟨⟨k.val / 128, (by omega : k.val / 128 < 8)⟩, rfl⟩
  have e := idxo5 t
  have hi : ((cfg0.win 5).blk t).view.emb (ix2 r ⟨k.val % 128, by omega⟩ : S2048x128.Idx) = (ix2 r k : S2048x1024.Idx) := by
    funext x
    apply Fin.ext
    match x with
    | ⟨0, _⟩ => show win0_5.index t 0 * 2048 + 1 * r.val = r.val; rw [e.1]; omega
    | ⟨1, _⟩ => show win0_5.index t 1 * 128 + 1 * (k.val % 128) = k.val; rw [e.2, ht]; omega
  refine (congrArg ((dats m 0 c).arrAt 5 cfg0.N) hi).symm.trans ((block5 m c t _).trans ((left5_ent m A vE c hI t r ⟨k.val % 128, by omega⟩).trans ?_))
  show A.OE vE (2 * t.val + k.val % 128 / 64) r.val (k.val % 128 % 64) = _
  rw [ht, show 2 * (k.val / 128) + k.val % 128 / 64 = k.val / 64 by omega, show k.val % 128 % 64 = k.val % 64 by omega]

section

variable (c : Dev nD)

theorem V_v2 : V m c main_v2 = concatenate S2048x1536 1 [⟨S2048x1024, shapeCast S2048x1024 (m ((c.tc : Thread nD τ).loc main_arg0)) shapeCasts_S2048x16x64_S2048x1024⟩,
    ⟨S2048x512, shapeCast S2048x512 (m ((c.tc : Thread nD τ).loc main_arg1)) shapeCasts_S2048x16x32_S2048x512⟩] concatenates_S2048x1024_S2048x512_S2048x1536_d1 := by
  entry_read
  rfl

theorem V_v5 : V m c main_v5 = concatenate S2048x2048 1 [⟨S2048x1024, shapeCast S2048x1024 (m ((c.tc : Thread nD τ).loc main_arg2)) shapeCasts_S2048x16x64_S2048x1024⟩,
    ⟨S2048x1024, shapeCast S2048x1024 (m ((c.tc : Thread nD τ).loc main_arg3)) shapeCasts_S2048x16x64_S2048x1024⟩] concatenates_S2048x1024_S2048x1024_S2048x2048_d1 := by
  entry_read
  rfl

theorem V_v6 : V m c main_v6 = shapeCast S2048x512 (m ((c.tc : Thread nD τ).loc main_arg1)) shapeCasts_S2048x16x32_S2048x512 := by
  entry_read
  rfl

theorem V_v9 : V m c main_v9 = shapeCast S2048x128 (broadcastInDim S1x2048x4x32 ![0, 1, 2, 3] bcast_S1x2048x1x32_S1x2048x4x32_0_1_2_3
    (shapeCast S1x2048x1x32 (m ((c.tc : Thread nD τ).loc main_arg4)) shapeCasts_S2048x32_S1x2048x1x32)) shapeCasts_S1x2048x4x32_S2048x128 := by
  entry_read
  rfl

end

/-- What the region reads, in terms of the arguments' entries. -/
theorem ins {c : Dev nD} {A : Args} {vE : ℕ → ℕ → ℕ → EReal} (sc : A.sc = scale) (hqn : R3 (a := 2048) (b := 16) (c := 64) (m ((c.tc : Thread nD τ).loc main_arg0)) A.qn)
    (hqr : R3 (a := 2048) (b := 16) (c := 32) (m ((c.tc : Thread nD τ).loc main_arg1)) A.qr) (hkn : R3 (a := 2048) (b := 16) (c := 64) (m ((c.tc : Thread nD τ).loc main_arg2)) A.kn)
    (hv : E3 (a := 2048) (b := 16) (c := 64) (m ((c.tc : Thread nD τ).loc main_arg3)) vE) (hkr : R2 (a := 2048) (b := 32) (m ((c.tc : Thread nD τ).loc main_arg4)) A.kr) : Ins m A vE c where
  sc := sc
  q := by
    rw [V_v2]
    refine (IsR.cat (R3.flat hqn _ rfl (by decide)) (R3.flat hqr _ rfl (by decide)) _).congr fun r _ k _ => rfl
  qr := by
    rw [V_v6]
    exact R3.flat hqr _ rfl (by decide)
  kv := by
    rw [V_v5]
    exact IsE.cat (R3.flat hkn _ rfl (by decide)).isE (E3.flat hv _ rfl (by decide)) _
  kr := by
    rw [V_v9]
    intro r k
    have hk := k.isLt
    refine (shapeCast_apply _ _ (ix2 r k) (ix4 (0 : Fin 1) r (⟨k.val / 32, by omega⟩ : Fin 4) (⟨k.val % 32, by omega⟩ : Fin 32)) ?_).trans ?_
    · rw [Shape.rowMajor_val_two, Shape.rowMajor_val_four]
      show ((0 * 2048 + r.val) * 4 + k.val / 32) * 32 + k.val % 32 = r.val * 128 + k.val
      omega
    refine (broadcastInDim_apply _ _ _ _ (ix4 (0 : Fin 1) r (0 : Fin 1) (⟨k.val % 32, by omega⟩ : Fin 32)) ?_).trans ?_
    · intro a
      match a with
      | ⟨0, _⟩ => rfl
      | ⟨1, _⟩ => rfl
      | ⟨2, _⟩ => rfl
      | ⟨3, _⟩ => rfl
    refine (shapeCast_apply _ _ _ (ix2 r (⟨k.val % 32, by omega⟩ : Fin 32)) ?_).trans (hkr _)
    rw [Shape.rowMajor_val_two, Shape.rowMajor_val_four]
    show r.val * 32 + k.val % 32 = ((0 * 2048 + r.val) * 1 + 0) * 32 + k.val % 32
    omega

end Cert.Kernel5Ideal.Hand

end
-- ==== Proof.FwdRef.lean ====
/- The attention forward reference at an index, of arguments whose queries and keys are real numbers, and the precondition
   read off. -/
module

public import proofs.«01_k».proof.Defs
public import proofs.«01_k».proof.Proof.Gen.Pre_finite5
public import proofs.«01_k».proof.Proof.Gen.Reference5Ideal.Read
public import proofs.«01_k».proof.Proof.FwdRegion
public import proofs.«01_k».proof.Proof.Finite

@[expose] public section

set_option maxRecDepth 16384

noncomputable section

namespace Cert.Reference5Ideal.Hand

open Idealize.ShloMosaic Idealize.ShloMosaic.ValueIdx Cert.Attn Cert.Reference5Ideal Cert.Reference5Ideal.Read Finset

/-- The real numbers that the queries and the keys hold. -/
def argsF (x0 : FVec Ideal S2048x16x64 .f32) (x1 : FVec Ideal S2048x16x32 .f32) (x2 : FVec Ideal S2048x16x64 .f32) (x4 : FVec Ideal S2048x32 .f32) : Args :=
  argsOf x0 x1 x2 (fun _ => 0) x4 (fun _ => 0)

/-- The precondition says that every entry of the queries and the keys is a real number. -/
theorem finite_args [Cert.Pre_finite5.Facts] (x0 : FVec Ideal S2048x16x64 .f32) (x1 : FVec Ideal S2048x16x32 .f32) (x2 x3 : FVec Ideal S2048x16x64 .f32)
    (x4 : FVec Ideal S2048x32 .f32) (h : Cert.Pre_finite5.fn (F := Ideal) x0 x1 x2 x3 x4 = fun _ => 1#1) :
    (∀ i, x0 i = (((x0 i).toReal : ℝ) : EReal)) ∧ (∀ i, x1 i = (((x1 i).toReal : ℝ) : EReal)) ∧ (∀ i, x2 i = (((x2 i).toReal : ℝ) : EReal))
      ∧ (∀ i, x4 i = (((x4 i).toReal : ℝ) : EReal)) := by
  have e := congrFun h (fun k => k.elim0)
  obtain ⟨e, h4⟩ := andi_one _ _ e
  obtain ⟨e, h2⟩ := andi_one _ _ e
  obtain ⟨h0, h1⟩ := andi_one _ _ e
  exact ⟨real_of_all _ _ _ _ _ h0, real_of_all _ _ _ _ _ h1, real_of_all _ _ _ _ _ h2, real_of_all _ _ _ _ _ h4⟩

/-- Under the precondition the queries and the keys hold real numbers; the other two arrays of the gradient's statement are zero here. -/
theorem holds_of_finite5 [Cert.Pre_finite5.Facts] (x0 : FVec Ideal S2048x16x64 .f32) (x1 : FVec Ideal S2048x16x32 .f32) (x2 x3 : FVec Ideal S2048x16x64 .f32)
    (x4 : FVec Ideal S2048x32 .f32) (h : Cert.Pre_finite5.fn (F := Ideal) x0 x1 x2 x3 x4 = fun _ => 1#1) :
    Cert.ReferenceIdeal.Hand.Holds6 (argsF x0 x1 x2 x4) x0 x1 x2 (fun _ => 0) x4 (fun _ => 0) := by
  obtain ⟨h0, h1, h2, h4⟩ := finite_args x0 x1 x2 x3 x4 h
  have hz : ∀ i : S2048x16x64.Idx, (fun _ => 0 : S2048x16x64.Idx → EReal) i = ((((fun _ => 0 : S2048x16x64.Idx → EReal) i).toReal : ℝ) : EReal) := fun _ => by simp
  exact ⟨rfl, entry3_R3 x0 h0, entry3_R3 x1 h1, entry3_R3 x2 h2, entry3_R3 _ hz, entry2_R2 x4 h4, entry3_R3 _ hz⟩

/-- The forward reference's attention weights are those of the gradient's reference. -/
theorem v23_eq (x0 : FVec Ideal S2048x16x64 .f32) (x1 : FVec Ideal S2048x16x32 .f32) (x2 : FVec Ideal S2048x16x64 .f32) (x4 : FVec Ideal S2048x32 .f32) :
    val_main_v23 (F := Ideal) x0 x1 x2 x4 = Cert.ReferenceIdeal.Read.val_main_v37 (F := Ideal) x0 x1 x2 x4 := rfl

/-- The reference's result: each query's weights against the values, the heads side by side. -/
theorem v26_val {A : Args} {vE : ℕ → ℕ → ℕ → EReal} {x0 : FVec Ideal S2048x16x64 .f32} {x1 : FVec Ideal S2048x16x32 .f32} {x2 x3 y z : FVec Ideal S2048x16x64 .f32}
    {x4 : FVec Ideal S2048x32 .f32} (H : Cert.ReferenceIdeal.Hand.Holds6 A x0 x1 x2 y x4 z) (hv : E3 (a := 2048) (b := 16) (c := 64) x3 vE) (r : Fin 2048) (k : Fin 1024) :
    val_main_v26 (F := Ideal) x0 x1 x2 x3 x4 (ix2 r k : S2048x1024.Idx) = A.OE vE (k.val / 64) r.val (k.val % 64) := by
  have hk := k.isLt
  obtain ⟨g, hg, h33⟩ := Cert.ReferenceIdeal.Hand.v33_real H
  have hP := Cert.ReferenceIdeal.Hand.v37_real hg h33
  rw [val_main_v26_apply, val_main_v25_apply, val_main_v24_apply, v23_eq]
  unfold Args.OE
  refine sum_fin_range _ _ fun κ => ?_
  rw [hv, hP, mul_comm]
  show ((A.Pr ((r.val * 1024 + k.val) / 64 % 16) ((r.val * 1024 + k.val) / 1024) κ.val : ℝ) : EReal)
      * vE κ.val ((r.val * 1024 + k.val) / 64 % 16) ((r.val * 1024 + k.val) % 64) = _
  rw [show (r.val * 1024 + k.val) / 64 % 16 = k.val / 64 by omega, show (r.val * 1024 + k.val) / 1024 = r.val by omega,
    show (r.val * 1024 + k.val) % 64 = k.val % 64 by omega]

end Cert.Reference5Ideal.Hand

end
-- ==== Proof.UpLaunch.lean ====
/- The whole run of the six up-projection products: what every buffer holds at the end. -/
module

public import proofs.«01_k».proof.Proof.Gen.Kernel6Ideal.Frame

@[expose] public section

set_option maxRecDepth 16384

noncomputable section

namespace Cert.Kernel6Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of @main ends with the buffers at the last boundary's contents. -/
theorem run_all : θ_run defs (onTc (τ := τ) (main (F := F))) ⟨m, fun _ => 0, ρ⟩ (fun r => ∀ c : Dev nD, ∀ b ∈ Pipeline.ucRefs τ sig,
      r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

end Cert.Kernel6Ideal.Hand

end
-- ==== Proof.UpRegions.lean ====
/- The six products of the up-projections: what each region's array holds after it, entry by entry. -/
module

public import proofs.«01_k».proof.Proof.BlockMat
public import proofs.«01_k».proof.Proof.Gen.Kernel6Ideal.Frame

@[expose] public section

set_option maxRecDepth 16384

noncomputable section

namespace Cert.Kernel6Ideal.Hand

open Idealize.ShloMosaic Idealize.ShloMosaic.ValueIdx Idealize.ShloMosaic.TcCoe Cert.Attn Cert.Kernel6Ideal Cert.Kernel6Ideal.Gen Idealize.SL.Sem Finset
open Idealize.ShloMosaic.Pipeline (Dat)

variable (V : (c : Dev nD) → (b : Ref sig .tc) → Buf (Elt Ideal) ((c : Thread nD τ).loc b)) (c : Dev nD)

/-- Region 0: every pair of blocks has its grid point. -/
theorem tile0 : ∀ u < 2, ∀ v < 2, ∃ t : Fin grid0.N, win0_0.index t = ![u, 0] ∧ win0_1.index t = ![v, 0] ∧ win0_2.index t = ![u, v] := by decide +kernel

/-- Region 0: no two grid points write the same block. -/
theorem inj0 : ∀ t t' : Fin cfg0.N, win0_2.index t = win0_2.index t' → t = t' :=
  (by decide +kernel : ∀ t t' : Fin grid0.N, win0_2.index t = win0_2.index t' → t = t')

/-- Region 0: the array of window 2 after the region. -/
theorem array0_2 {f g : ℕ → ℕ → EReal} (hf : IsE (a := 2048) (c := 384) (φ := .bf16) (V c main_v0) f) (hg : IsE (a := 1536) (c := 384) (φ := .bf16) (V c main_v9) g) :
    IsE (a := 2048) (c := 1536) (φ := .f32) ((dat0 V c).arrAt 2 cfg0.N) (fun r k => ∑ l ∈ range 384, f r l * g k l) := by
  refine IsE.ofBlocks 1024 768 (by decide) (by decide) fun u v hu hv => ?_
  obtain ⟨t, e0, e1, e⟩ := tile0 u (by omega) v (by omega)
  have b0 : IsE (a := 1024) (c := 384) (φ := .bf16) (iblk0 V c 0 t) _ := hf.blk (((cfg0.win 0).blk t).view.emb) (u * 1024) (0 * 384)
    (fun y => by show win0_0.index t 0 * 1024 + 1 * (y 0).val = _; rw [e0, Nat.one_mul]; rfl) (fun y => by show win0_0.index t 1 * 384 + 1 * (y 1).val = _; rw [e0, Nat.one_mul]; rfl)
  have b1 : IsE (a := 768) (c := 384) (φ := .bf16) (iblk0 V c 1 t) _ := hg.blk (((cfg0.win 1).blk t).view.emb) (v * 768) (0 * 384)
    (fun y => by show win0_1.index t 0 * 768 + 1 * (y 0).val = _; rw [e1, Nat.one_mul]; rfl) (fun y => by show win0_1.index t 1 * 384 + 1 * (y 1).val = _; rw [e1, Nat.one_mul]; rfl)
  refine ⟨((cfg0.win 2).blk t).view.emb, (fun y => by show win0_2.index t 0 * 1024 + 1 * (y 0).val = _; rw [e, Nat.one_mul]; rfl), (fun y => by show win0_2.index t 1 * 768 + 1 * (y 1).val = _; rw [e, Nat.one_mul]; rfl), ?_⟩
  have hX : (fun y => (dat0 V c).arrAt 2 cfg0.N (((cfg0.win 2).blk t).view.emb y)) = out0_2 (iblk0 V c 0 t) (iblk0 V c 1 t) := by
    refine ((dat0 V c).read_blk_arrAt_eq_flushed 2 (fun t t' _ _ hne => (cfg0.win 2).disjoint_blk fun h => hne (inj0 t t' h)) cfg0.N t t.isLt (flush0_2 t)).trans ?_
    show (cfg0.win 2).cut (grid0.coords t) ((dat0 V c).after 2 t) = _
    rw [after0_2]
    rfl
  refine IsE.of_eq ?_ hX
  unfold out0_2 k0_pay1
  rw [View.canon_unit_zero zz]
  simp only [shapeCast_same, View.ld_unit_zero (S := S1024x384) zz, View.ld_unit_zero (S := S768x384) zz]
  exact (b0.dotNT b1).congr fun r _ k _ => by simp only [Nat.zero_mul, Nat.zero_add]

/-- Region 1: every pair of blocks has its grid point. -/
theorem tile1 : ∀ u < 2, ∀ v < 2, ∃ t : Fin grid1.N, win1_0.index t = ![u, 0] ∧ win1_1.index t = ![0, v] ∧ win1_2.index t = ![u, v] := by decide +kernel

/-- Region 1: no two grid points write the same block. -/
theorem inj1 : ∀ t t' : Fin cfg1.N, win1_2.index t = win1_2.index t' → t = t' :=
  (by decide +kernel : ∀ t t' : Fin grid1.N, win1_2.index t = win1_2.index t' → t = t')

/-- Region 1: the array of window 2 after the region. -/
theorem array1_2 {f g : ℕ → ℕ → EReal} (hf : IsE (a := 2048) (c := 256) (φ := .bf16) (V c main_v1) f) (hg : IsE (a := 256) (c := 2048) (φ := .bf16) (V c main_v16) g) :
    IsE (a := 2048) (c := 2048) (φ := .f32) ((dat1 V c).arrAt 2 cfg1.N) (fun r k => ∑ l ∈ range 256, f r l * g l k) := by
  refine IsE.ofBlocks 1024 1024 (by decide) (by decide) fun u v hu hv => ?_
  obtain ⟨t, e0, e1, e⟩ := tile1 u (by omega) v (by omega)
  have b0 : IsE (a := 1024) (c := 256) (φ := .bf16) (iblk1 V c 0 t) _ := hf.blk (((cfg1.win 0).blk t).view.emb) (u * 1024) (0 * 256)
    (fun y => by show win1_0.index t 0 * 1024 + 1 * (y 0).val = _; rw [e0, Nat.one_mul]; rfl) (fun y => by show win1_0.index t 1 * 256 + 1 * (y 1).val = _; rw [e0, Nat.one_mul]; rfl)
  have b1 : IsE (a := 256) (c := 1024) (φ := .bf16) (iblk1 V c 1 t) _ := hg.blk (((cfg1.win 1).blk t).view.emb) (0 * 256) (v * 1024)
    (fun y => by show win1_1.index t 0 * 256 + 1 * (y 0).val = _; rw [e1, Nat.one_mul]; rfl) (fun y => by show win1_1.index t 1 * 1024 + 1 * (y 1).val = _; rw [e1, Nat.one_mul]; rfl)
  refine ⟨((cfg1.win 2).blk t).view.emb, (fun y => by show win1_2.index t 0 * 1024 + 1 * (y 0).val = _; rw [e, Nat.one_mul]; rfl), (fun y => by show win1_2.index t 1 * 1024 + 1 * (y 1).val = _; rw [e, Nat.one_mul]; rfl), ?_⟩
  have hX : (fun y => (dat1 V c).arrAt 2 cfg1.N (((cfg1.win 2).blk t).view.emb y)) = out1_2 (iblk1 V c 0 t) (iblk1 V c 1 t) := by
    refine ((dat1 V c).read_blk_arrAt_eq_flushed 2 (fun t t' _ _ hne => (cfg1.win 2).disjoint_blk fun h => hne (inj1 t t' h)) cfg1.N t t.isLt (flush1_2 t)).trans ?_
    show (cfg1.win 2).cut (grid1.coords t) ((dat1 V c).after 2 t) = _
    rw [after1_2]
    rfl
  refine IsE.of_eq ?_ hX
  unfold out1_2 k1_pay1
  rw [View.canon_unit_zero zz]
  simp only [shapeCast_same, View.ld_unit_zero (S := S1024x256) zz, View.ld_unit_zero (S := S256x1024) zz]
  exact (b0.dotNN b1).congr fun r _ k _ => by simp only [Nat.zero_mul, Nat.zero_add]

/-- Region 2: every pair of blocks has its grid point. -/
theorem tile2 : ∀ u < 2, ∀ v < 1, ∃ t : Fin grid2.N, win2_0.index t = ![u, 0] ∧ win2_1.index t = ![0, 0] ∧ win2_2.index t = ![u, v] := by decide +kernel

/-- Region 2: no two grid points write the same block. -/
theorem inj2 : ∀ t t' : Fin cfg2.N, win2_2.index t = win2_2.index t' → t = t' :=
  (by decide +kernel : ∀ t t' : Fin grid2.N, win2_2.index t = win2_2.index t' → t = t')

/-- Region 2: the array of window 2 after the region. -/
theorem array2_2 {f g : ℕ → ℕ → EReal} (hf : IsE (a := 2048) (c := 1536) (φ := .bf16) (V c main_v23) f) (hg : IsE (a := 1536) (c := 384) (φ := .bf16) (V c main_v9) g) :
    IsE (a := 2048) (c := 384) (φ := .f32) ((dat2 V c).arrAt 2 cfg2.N) (fun r k => ∑ l ∈ range 1536, f r l * g l k) := by
  refine IsE.ofBlocks 1024 384 (by decide) (by decide) fun u v hu hv => ?_
  obtain rfl : v = 0 := by omega
  obtain ⟨t, e0, e1, e⟩ := tile2 u (by omega) 0 (by omega)
  have b0 : IsE (a := 1024) (c := 1536) (φ := .bf16) (iblk2 V c 0 t) _ := hf.blk (((cfg2.win 0).blk t).view.emb) (u * 1024) (0 * 1536)
    (fun y => by show win2_0.index t 0 * 1024 + 1 * (y 0).val = _; rw [e0, Nat.one_mul]; rfl) (fun y => by show win2_0.index t 1 * 1536 + 1 * (y 1).val = _; rw [e0, Nat.one_mul]; rfl)
  have b1 : IsE (a := 1536) (c := 384) (φ := .bf16) (iblk2 V c 1 t) _ := hg.blk (((cfg2.win 1).blk t).view.emb) (0 * 1536) (0 * 384)
    (fun y => by show win2_1.index t 0 * 1536 + 1 * (y 0).val = _; rw [e1, Nat.one_mul]; rfl) (fun y => by show win2_1.index t 1 * 384 + 1 * (y 1).val = _; rw [e1, Nat.one_mul]; rfl)
  refine ⟨((cfg2.win 2).blk t).view.emb, (fun y => by show win2_2.index t 0 * 1024 + 1 * (y 0).val = _; rw [e, Nat.one_mul]; rfl), (fun y => by show win2_2.index t 1 * 384 + 1 * (y 1).val = _; rw [e, Nat.one_mul]; rfl), ?_⟩
  have hX : (fun y => (dat2 V c).arrAt 2 cfg2.N (((cfg2.win 2).blk t).view.emb y)) = out2_2 (iblk2 V c 0 t) (iblk2 V c 1 t) := by
    refine ((dat2 V c).read_blk_arrAt_eq_flushed 2 (fun t t' _ _ hne => (cfg2.win 2).disjoint_blk fun h => hne (inj2 t t' h)) cfg2.N t t.isLt (flush2_2 t)).trans ?_
    show (cfg2.win 2).cut (grid2.coords t) ((dat2 V c).after 2 t) = _
    rw [after2_2]
    rfl
  refine IsE.of_eq ?_ hX
  unfold out2_2 k2_pay1
  rw [View.canon_unit_zero zz]
  simp only [shapeCast_same, View.ld_unit_zero (S := S1024x1536) zz, View.ld_unit_zero (S := S1536x384) zz]
  exact (b0.dotNN b1).congr fun r _ k _ => by simp only [Nat.zero_mul, Nat.zero_add]

/-- Region 3: every pair of blocks has its grid point. -/
theorem tile3 : ∀ u < 2, ∀ v < 1, ∃ t : Fin grid3.N, win3_0.index t = ![0, u] ∧ win3_1.index t = ![0, 0] ∧ win3_2.index t = ![u, v] := by decide +kernel

/-- Region 3: no two grid points write the same block. -/
theorem inj3 : ∀ t t' : Fin cfg3.N, win3_2.index t = win3_2.index t' → t = t' :=
  (by decide +kernel : ∀ t t' : Fin grid3.N, win3_2.index t = win3_2.index t' → t = t')

/-- Region 3: the array of window 2 after the region. -/
theorem array3_2 {f g : ℕ → ℕ → EReal} (hf : IsE (a := 2048) (c := 1536) (φ := .bf16) (V c main_v23) f) (hg : IsE (a := 2048) (c := 384) (φ := .bf16) (V c main_v0) g) :
    IsE (a := 1536) (c := 384) (φ := .bf16) ((dat3 V c).arrAt 2 cfg3.N) (fun r k => ∑ l ∈ range 2048, f l r * g l k) := by
  refine IsE.ofBlocks 768 384 (by decide) (by decide) fun u v hu hv => ?_
  obtain rfl : v = 0 := by omega
  obtain ⟨t, e0, e1, e⟩ := tile3 u (by omega) 0 (by omega)
  have b0 : IsE (a := 2048) (c := 768) (φ := .bf16) (iblk3 V c 0 t) _ := hf.blk (((cfg3.win 0).blk t).view.emb) (0 * 2048) (u * 768)
    (fun y => by show win3_0.index t 0 * 2048 + 1 * (y 0).val = _; rw [e0, Nat.one_mul]; rfl) (fun y => by show win3_0.index t 1 * 768 + 1 * (y 1).val = _; rw [e0, Nat.one_mul]; rfl)
  have b1 : IsE (a := 2048) (c := 384) (φ := .bf16) (iblk3 V c 1 t) _ := hg.blk (((cfg3.win 1).blk t).view.emb) (0 * 2048) (0 * 384)
    (fun y => by show win3_1.index t 0 * 2048 + 1 * (y 0).val = _; rw [e1, Nat.one_mul]; rfl) (fun y => by show win3_1.index t 1 * 384 + 1 * (y 1).val = _; rw [e1, Nat.one_mul]; rfl)
  refine ⟨((cfg3.win 2).blk t).view.emb, (fun y => by show win3_2.index t 0 * 768 + 1 * (y 0).val = _; rw [e, Nat.one_mul]; rfl), (fun y => by show win3_2.index t 1 * 384 + 1 * (y 1).val = _; rw [e, Nat.one_mul]; rfl), ?_⟩
  have hX : (fun y => (dat3 V c).arrAt 2 cfg3.N (((cfg3.win 2).blk t).view.emb y)) = out3_2 (iblk3 V c 0 t) (iblk3 V c 1 t) := by
    refine ((dat3 V c).read_blk_arrAt_eq_flushed 2 (fun t t' _ _ hne => (cfg3.win 2).disjoint_blk fun h => hne (inj3 t t' h)) cfg3.N t t.isLt (flush3_2 t)).trans ?_
    show (cfg3.win 2).cut (grid3.coords t) ((dat3 V c).after 2 t) = _
    rw [after3_2]
    rfl
  refine IsE.of_eq ?_ hX
  unfold out3_2 k3_pay1
  rw [View.canon_unit_zero zz]
  simp only [shapeCast_same, View.ld_unit_zero (S := S2048x384) zz, View.ld_unit_zero (S := S2048x768) zz]
  exact ((b0.dotTN b1).trunc _).congr fun r _ k _ => by simp only [Nat.zero_mul, Nat.zero_add]

/-- Region 4: every pair of blocks has its grid point. -/
theorem tile4 : ∀ u < 2, ∀ v < 1, ∃ t : Fin grid4.N, win4_0.index t = ![u, 0] ∧ win4_1.index t = ![0, 0] ∧ win4_2.index t = ![u, v] := by decide +kernel

/-- Region 4: no two grid points write the same block. -/
theorem inj4 : ∀ t t' : Fin cfg4.N, win4_2.index t = win4_2.index t' → t = t' :=
  (by decide +kernel : ∀ t t' : Fin grid4.N, win4_2.index t = win4_2.index t' → t = t')

/-- Region 4: the array of window 2 after the region. -/
theorem array4_2 {f g : ℕ → ℕ → EReal} (hf : IsE (a := 2048) (c := 2048) (φ := .bf16) (V c main_v28) f) (hg : IsE (a := 256) (c := 2048) (φ := .bf16) (V c main_v16) g) :
    IsE (a := 2048) (c := 256) (φ := .f32) ((dat4 V c).arrAt 2 cfg4.N) (fun r k => ∑ l ∈ range 2048, f r l * g k l) := by
  refine IsE.ofBlocks 1024 256 (by decide) (by decide) fun u v hu hv => ?_
  obtain rfl : v = 0 := by omega
  obtain ⟨t, e0, e1, e⟩ := tile4 u (by omega) 0 (by omega)
  have b0 : IsE (a := 1024) (c := 2048) (φ := .bf16) (iblk4 V c 0 t) _ := hf.blk (((cfg4.win 0).blk t).view.emb) (u * 1024) (0 * 2048)
    (fun y => by show win4_0.index t 0 * 1024 + 1 * (y 0).val = _; rw [e0, Nat.one_mul]; rfl) (fun y => by show win4_0.index t 1 * 2048 + 1 * (y 1).val = _; rw [e0, Nat.one_mul]; rfl)
  have b1 : IsE (a := 256) (c := 2048) (φ := .bf16) (iblk4 V c 1 t) _ := hg.blk (((cfg4.win 1).blk t).view.emb) (0 * 256) (0 * 2048)
    (fun y => by show win4_1.index t 0 * 256 + 1 * (y 0).val = _; rw [e1, Nat.one_mul]; rfl) (fun y => by show win4_1.index t 1 * 2048 + 1 * (y 1).val = _; rw [e1, Nat.one_mul]; rfl)
  refine ⟨((cfg4.win 2).blk t).view.emb, (fun y => by show win4_2.index t 0 * 1024 + 1 * (y 0).val = _; rw [e, Nat.one_mul]; rfl), (fun y => by show win4_2.index t 1 * 256 + 1 * (y 1).val = _; rw [e, Nat.one_mul]; rfl), ?_⟩
  have hX : (fun y => (dat4 V c).arrAt 2 cfg4.N (((cfg4.win 2).blk t).view.emb y)) = out4_2 (iblk4 V c 0 t) (iblk4 V c 1 t) := by
    refine ((dat4 V c).read_blk_arrAt_eq_flushed 2 (fun t t' _ _ hne => (cfg4.win 2).disjoint_blk fun h => hne (inj4 t t' h)) cfg4.N t t.isLt (flush4_2 t)).trans ?_
    show (cfg4.win 2).cut (grid4.coords t) ((dat4 V c).after 2 t) = _
    rw [after4_2]
    rfl
  refine IsE.of_eq ?_ hX
  unfold out4_2 k4_pay1
  rw [View.canon_unit_zero zz]
  simp only [shapeCast_same, View.ld_unit_zero (S := S1024x2048) zz, View.ld_unit_zero (S := S256x2048) zz]
  exact (b0.dotNT b1).congr fun r _ k _ => by simp only [Nat.zero_mul, Nat.zero_add]

/-- Region 5: every pair of blocks has its grid point. -/
theorem tile5 : ∀ u < 1, ∀ v < 2, ∃ t : Fin grid5.N, win5_0.index t = ![0, 0] ∧ win5_1.index t = ![0, v] ∧ win5_2.index t = ![u, v] := by decide +kernel

/-- Region 5: no two grid points write the same block. -/
theorem inj5 : ∀ t t' : Fin cfg5.N, win5_2.index t = win5_2.index t' → t = t' :=
  (by decide +kernel : ∀ t t' : Fin grid5.N, win5_2.index t = win5_2.index t' → t = t')

/-- Region 5: the array of window 2 after the region. -/
theorem array5_2 {f g : ℕ → ℕ → EReal} (hf : IsE (a := 2048) (c := 256) (φ := .bf16) (V c main_v1) f) (hg : IsE (a := 2048) (c := 2048) (φ := .bf16) (V c main_v28) g) :
    IsE (a := 256) (c := 2048) (φ := .bf16) ((dat5 V c).arrAt 2 cfg5.N) (fun r k => ∑ l ∈ range 2048, f l r * g l k) := by
  refine IsE.ofBlocks 256 1024 (by decide) (by decide) fun u v hu hv => ?_
  obtain rfl : u = 0 := by omega
  obtain ⟨t, e0, e1, e⟩ := tile5 0 (by omega) v (by omega)
  have b0 : IsE (a := 2048) (c := 256) (φ := .bf16) (iblk5 V c 0 t) _ := hf.blk (((cfg5.win 0).blk t).view.emb) (0 * 2048) (0 * 256)
    (fun y => by show win5_0.index t 0 * 2048 + 1 * (y 0).val = _; rw [e0, Nat.one_mul]; rfl) (fun y => by show win5_0.index t 1 * 256 + 1 * (y 1).val = _; rw [e0, Nat.one_mul]; rfl)
  have b1 : IsE (a := 2048) (c := 1024) (φ := .bf16) (iblk5 V c 1 t) _ := hg.blk (((cfg5.win 1).blk t).view.emb) (0 * 2048) (v * 1024)
    (fun y => by show win5_1.index t 0 * 2048 + 1 * (y 0).val = _; rw [e1, Nat.one_mul]; rfl) (fun y => by show win5_1.index t 1 * 1024 + 1 * (y 1).val = _; rw [e1, Nat.one_mul]; rfl)
  refine ⟨((cfg5.win 2).blk t).view.emb, (fun y => by show win5_2.index t 0 * 256 + 1 * (y 0).val = _; rw [e, Nat.one_mul]; rfl), (fun y => by show win5_2.index t 1 * 1024 + 1 * (y 1).val = _; rw [e, Nat.one_mul]; rfl), ?_⟩
  have hX : (fun y => (dat5 V c).arrAt 2 cfg5.N (((cfg5.win 2).blk t).view.emb y)) = out5_2 (iblk5 V c 0 t) (iblk5 V c 1 t) := by
    refine ((dat5 V c).read_blk_arrAt_eq_flushed 2 (fun t t' _ _ hne => (cfg5.win 2).disjoint_blk fun h => hne (inj5 t t' h)) cfg5.N t t.isLt (flush5_2 t)).trans ?_
    show (cfg5.win 2).cut (grid5.coords t) ((dat5 V c).after 2 t) = _
    rw [after5_2]
    rfl
  refine IsE.of_eq ?_ hX
  unfold out5_2 k5_pay1
  rw [View.canon_unit_zero zz]
  simp only [shapeCast_same, View.ld_unit_zero (S := S2048x1024) zz, View.ld_unit_zero (S := S2048x256) zz]
  exact ((b0.dotTN b1).trunc _).congr fun r _ k _ => by simp only [Nat.zero_mul, Nat.zero_add]

end Cert.Kernel6Ideal.Hand

end
-- ==== Proof.UpMat.lean ====
/- Heads' columns: splitting and joining them, and the order in which the kernel keeps them. -/
module

public import proofs.«01_k».proof.Proof.FwdRegion
public import proofs.«01_k».proof.Proof.WinMat

@[expose] public section

set_option maxRecDepth 16384

noncomputable section

namespace Cert.Attn

open Idealize.ShloMosaic Idealize.ShloMosaic.ValueIdx Finset

theorem E3_eq {a b c : ℕ} {X Y : (⟨3, ![a, b, c]⟩ : Shape).Idx → EReal} {f : ℕ → ℕ → ℕ → EReal} (hX : E3 X f) (hY : E3 Y f) : Y = X :=
  funext fun i => (hY i).trans (hX i).symm

section

variable {a b c n : ℕ} {φ : FTy} {f : ℕ → ℕ → EReal} {g g' : ℕ → ℕ → ℕ → EReal}

/-- The entries matter only inside the array. -/
theorem E3.congr {X : (⟨3, ![a, b, c]⟩ : Shape).Idx → EReal} (h : E3 X g) (e : ∀ i < a, ∀ j < b, ∀ k < c, g i j k = g' i j k) : E3 X g' :=
  fun i => (h i).trans (e _ (lt0 i) _ (lt1 i) _ (lt2 i))

theorem E3.of_eq {X Y : (⟨3, ![a, b, c]⟩ : Shape).Idx → EReal} (h : E3 Y g) (e : X = Y) : E3 X g := e ▸ h

/-- A place in a row of `b` groups of `c`. -/
theorem lt_groups {i j b c n : ℕ} (hn : n = b * c) (hi : i < b) (hj : j < c) : i * c + j < n :=
  hn ▸ calc i * c + j < i * c + c := Nat.add_lt_add_left hj _
    _ = (i + 1) * c := by rw [Nat.add_mul, Nat.one_mul]
    _ ≤ b * c := Nat.mul_le_mul_right _ hi

/-- A matrix's columns in groups of `c`, -/
theorem IsE.cols {X : FVec Ideal (M a n) φ} (hX : IsE X f) (h : (M a n).ShapeCasts ⟨3, ![a, b, c]⟩) (hn : n = b * c) :
    E3 (a := a) (b := b) (c := c) (shapeCast ⟨3, ![a, b, c]⟩ X h) (fun i j k => f i (j * c + k)) := fun i => by
  refine (shapeCast_apply X h i (ix2 (⟨(i 0).val, lt0 i⟩ : Fin a) (⟨(i 1).val * c + (i 2).val, lt_groups hn (lt1 i) (lt2 i)⟩ : Fin n)) ?_).trans (hX _ _)
  rw [Shape.rowMajor_val_two, Shape.rowMajor_val_three]
  show (i 0).val * n + ((i 1).val * c + (i 2).val) = ((i 0).val * b + (i 1).val) * c + (i 2).val
  rw [hn, Nat.add_mul, Nat.mul_assoc, Nat.add_assoc]

/-- and back. -/
theorem E3.uncols {X : (⟨3, ![a, b, c]⟩ : Shape).Idx → EReal} (hX : E3 X g) (h : (⟨3, ![a, b, c]⟩ : Shape).ShapeCasts (M a n)) (hn : n = b * c) (hc : 0 < c) :
    IsE (a := a) (c := n) (φ := φ) (shapeCast (M a n) X h) (fun r k => g r (k / c) (k % c)) := hX.flat h hn hc

/-- A matrix's rows in groups of `b`, -/
theorem IsE.rows {X : FVec Ideal (M n c) φ} (hX : IsE X f) (h : (M n c).ShapeCasts ⟨3, ![a, b, c]⟩) (hn : n = a * b) :
    E3 (a := a) (b := b) (c := c) (shapeCast ⟨3, ![a, b, c]⟩ X h) (fun i j k => f (i * b + j) k) := fun i => by
  refine (shapeCast_apply X h i (ix2 (⟨(i 0).val * b + (i 1).val, lt_groups hn (lt0 i) (lt1 i)⟩ : Fin n) (⟨(i 2).val, lt2 i⟩ : Fin c)) ?_).trans (hX _ _)
  rw [Shape.rowMajor_val_two, Shape.rowMajor_val_three]
  rfl

/-- and back. -/
theorem E3.unrows {X : (⟨3, ![a, b, c]⟩ : Shape).Idx → EReal} (hX : E3 X g) (h : (⟨3, ![a, b, c]⟩ : Shape).ShapeCasts (M n c)) (hn : n = a * b) (hb : 0 < b) :
    IsE (a := n) (c := c) (φ := φ) (shapeCast (M n c) X h) (fun r k => g (r / b) (r % b) k) := fun r k => by
  have hr := r.isLt
  refine (shapeCast_apply X h (ix2 r k) (ix3 (⟨r.val / b, Nat.div_lt_of_lt_mul (by rw [Nat.mul_comm, ← hn]; exact hr)⟩ : Fin a)
    (⟨r.val % b, Nat.mod_lt _ hb⟩ : Fin b) k) ?_).trans (hX _)
  rw [Shape.rowMajor_val_two, Shape.rowMajor_val_three]
  show (r.val / b * b + r.val % b) * c + k.val = r.val * c + k.val
  rw [Nat.div_add_mod']

/-- The places `o` on along the middle axis, -/
theorem E3.mid {X : (⟨3, ![a, n, c]⟩ : Shape).Idx → EReal} (hX : E3 X g) (o : ℕ) (h : (⟨3, ![a, n, c]⟩ : Shape).Slices ![0, o, 0] ⟨3, ![a, b, c]⟩) :
    E3 (extractStridedSlice ⟨3, ![a, b, c]⟩ ![0, o, 0] X h) (fun i j k => g i (o + j) k) := fun i => by
  have hl : o + (i 1).val < n := lt_of_lt_of_le (Nat.add_lt_add_left (lt1 i) o) (h.2 1)
  refine (extractStridedSlice_apply ![0, o, 0] X h i (ix3 (⟨(i 0).val, lt0 i⟩ : Fin a) (⟨o + (i 1).val, hl⟩ : Fin n) (⟨(i 2).val, lt2 i⟩ : Fin c)) fun q => ?_).trans (hX _)
  match q with
  | ⟨0, _⟩ => exact (Nat.zero_add _).symm
  | ⟨1, _⟩ => rfl
  | ⟨2, _⟩ => exact (Nat.zero_add _).symm

/-- and along the last. -/
theorem E3.last {X : (⟨3, ![a, b, n]⟩ : Shape).Idx → EReal} (hX : E3 X g) (o : ℕ) (h : (⟨3, ![a, b, n]⟩ : Shape).Slices ![0, 0, o] ⟨3, ![a, b, c]⟩) :
    E3 (extractStridedSlice ⟨3, ![a, b, c]⟩ ![0, 0, o] X h) (fun i j k => g i j (o + k)) := fun i => by
  have hl : o + (i 2).val < n := lt_of_lt_of_le (Nat.add_lt_add_left (lt2 i) o) (h.2 2)
  refine (extractStridedSlice_apply ![0, 0, o] X h i (ix3 (⟨(i 0).val, lt0 i⟩ : Fin a) (⟨(i 1).val, lt1 i⟩ : Fin b) (⟨o + (i 2).val, hl⟩ : Fin n)) fun q => ?_).trans (hX _)
  match q with
  | ⟨0, _⟩ => exact (Nat.zero_add _).symm
  | ⟨1, _⟩ => exact (Nat.zero_add _).symm
  | ⟨2, _⟩ => rfl

/-- Two arrays joined along the middle axis, -/
theorem E3.catMid {p q : ℕ} {X : (⟨3, ![a, p, c]⟩ : Shape).Idx → EReal} {Y : (⟨3, ![a, q, c]⟩ : Shape).Idx → EReal} (hX : E3 X g) (hY : E3 Y g') (hb : p + q = b)
    (h : Shape.Concatenates [⟨3, ![a, p, c]⟩, ⟨3, ![a, q, c]⟩] ⟨3, ![a, b, c]⟩ 1) :
    E3 (a := a) (b := b) (c := c) (concatenate ⟨3, ![a, b, c]⟩ 1 [⟨⟨3, ![a, p, c]⟩, X⟩, ⟨⟨3, ![a, q, c]⟩, Y⟩] h) (fun i j k => if j < p then g i j k else g' i (j - p) k) := fun i => by
  have h1 := lt1 i
  by_cases hl : (i 1).val < p
  · refine Eq.trans ?_ (if_pos hl).symm
    refine (concatenate_pair_apply_left 1 X Y h i rfl (ix3 (⟨(i 0).val, lt0 i⟩ : Fin a) (⟨(i 1).val, hl⟩ : Fin p) (⟨(i 2).val, lt2 i⟩ : Fin c)) fun x => ?_).trans (hX _)
    match x with
    | ⟨0, _⟩ => rfl
    | ⟨1, _⟩ => rfl
    | ⟨2, _⟩ => rfl
  · refine Eq.trans ?_ (if_neg hl).symm
    refine (concatenate_pair_apply_right 1 X Y h i rfl rfl (ix3 (⟨(i 0).val, lt0 i⟩ : Fin a) (⟨(i 1).val - p, by omega⟩ : Fin q) (⟨(i 2).val, lt2 i⟩ : Fin c)) (fun x hx => ?_) ?_).trans (hY _)
    · match x with
      | ⟨0, _⟩ => rfl
      | ⟨1, _⟩ => exact absurd rfl hx
      | ⟨2, _⟩ => rfl
    · show (i 1).val - p + p = (i 1).val; omega

/-- and along the last. -/
theorem E3.catLast {p q : ℕ} {X : (⟨3, ![a, b, p]⟩ : Shape).Idx → EReal} {Y : (⟨3, ![a, b, q]⟩ : Shape).Idx → EReal} (hX : E3 X g) (hY : E3 Y g') (hc : p + q = c)
    (h : Shape.Concatenates [⟨3, ![a, b, p]⟩, ⟨3, ![a, b, q]⟩] ⟨3, ![a, b, c]⟩ 2) :
    E3 (a := a) (b := b) (c := c) (concatenate ⟨3, ![a, b, c]⟩ 2 [⟨⟨3, ![a, b, p]⟩, X⟩, ⟨⟨3, ![a, b, q]⟩, Y⟩] h) (fun i j k => if k < p then g i j k else g' i j (k - p)) := fun i => by
  have h1 := lt2 i
  by_cases hl : (i 2).val < p
  · refine Eq.trans ?_ (if_pos hl).symm
    refine (concatenate_pair_apply_left 2 X Y h i rfl (ix3 (⟨(i 0).val, lt0 i⟩ : Fin a) (⟨(i 1).val, lt1 i⟩ : Fin b) (⟨(i 2).val, hl⟩ : Fin p)) fun x => ?_).trans (hX _)
    match x with
    | ⟨0, _⟩ => rfl
    | ⟨1, _⟩ => rfl
    | ⟨2, _⟩ => rfl
  · refine Eq.trans ?_ (if_neg hl).symm
    refine (concatenate_pair_apply_right 2 X Y h i rfl rfl (ix3 (⟨(i 0).val, lt0 i⟩ : Fin a) (⟨(i 1).val, lt1 i⟩ : Fin b) (⟨(i 2).val - p, by omega⟩ : Fin q)) (fun x hx => ?_) ?_).trans (hY _)
    · match x with
      | ⟨0, _⟩ => rfl
      | ⟨1, _⟩ => rfl
      | ⟨2, _⟩ => exact absurd rfl hx
    · show (i 2).val - p + p = (i 2).val; omega

/-- Two matrices one above the other. -/
theorem IsE.catRows {p q : ℕ} {X : FVec Ideal (M p c) φ} {Y : FVec Ideal (M q c) φ} {f f' : ℕ → ℕ → EReal} (hX : IsE X f) (hY : IsE Y f') (ha : p + q = a)
    (h : Shape.Concatenates [M p c, M q c] (M a c) 0) :
    IsE (φ := φ) (concatenate (M a c) 0 [⟨M p c, X⟩, ⟨M q c, Y⟩] h) (fun r l => if r < p then f r l else f' (r - p) l) := fun r j => by
  have hr := r.isLt
  by_cases h0 : r.val < p
  · exact (catR _ _ 0 (by simp) _ hX rfl 0 rfl r j (by omega) (by omega)).trans (if_pos h0).symm
  · exact (catR _ _ 1 (by simp) _ hY rfl p (by simp [M]) r j (by omega) (by omega)).trans (if_neg h0).symm

end

/-! ## The heads' columns, of which the kernel puts the first 64 of every head before all the others -/

/-- Which of the queries' 16 times 96 columns stands at place `j`. -/
def spQ (j : ℕ) : ℕ := if j < 1024 then j / 64 * 96 + j % 64 else (j - 1024) / 32 * 96 + (64 + (j - 1024) % 32)

/-- Which of the keys' and values' 16 times 128 columns stands at place `j`. -/
def spK (j : ℕ) : ℕ := if j < 1024 then j / 64 * 128 + j % 64 else (j - 1024) / 64 * 128 + (64 + (j - 1024) % 64)

/-- A sum over the queries' columns in the kernel's order. -/
theorem sum_spQ (F : ℕ → EReal) : ∑ l ∈ range 1536, F (spQ l) = ∑ n ∈ range 1536, F n :=
  Finset.sum_nbij' spQ (fun n => if n % 96 < 64 then n / 96 * 64 + n % 96 else 1024 + (n / 96 * 32 + (n % 96 - 64)))
    (fun l hl => by rw [mem_range] at *; unfold spQ; split_ifs <;> omega) (fun n hn => by rw [mem_range] at *; split_ifs <;> omega)
    (fun l hl => by rw [mem_range] at *; unfold spQ; split_ifs <;> omega) (fun n hn => by rw [mem_range] at *; unfold spQ; split_ifs <;> omega) (fun _ _ => rfl)

/-- A sum over the keys' and values' columns in the kernel's order. -/
theorem sum_spK (F : ℕ → EReal) : ∑ l ∈ range 2048, F (spK l) = ∑ n ∈ range 2048, F n :=
  Finset.sum_nbij' spK (fun n => if n % 128 < 64 then n / 128 * 64 + n % 128 else 1024 + (n / 128 * 64 + (n % 128 - 64)))
    (fun l hl => by rw [mem_range] at *; unfold spK; split_ifs <;> omega) (fun n hn => by rw [mem_range] at *; split_ifs <;> omega)
    (fun l hl => by rw [mem_range] at *; unfold spK; split_ifs <;> omega) (fun n hn => by rw [mem_range] at *; unfold spK; split_ifs <;> omega) (fun _ _ => rfl)

/-- The columns of heads of width `w`, of which the first 64 are `D`'s and the others `E`'s. -/
def heads (w : ℕ) (D E : ℕ → ℕ → ℕ → EReal) (r n : ℕ) : EReal := if n % w < 64 then D r (n / w) (n % w) else E r (n / w) (n % w - 64)

theorem heads_spQ (D E : ℕ → ℕ → ℕ → EReal) (r j : ℕ) :
    (if j < 1024 then D r (j / 64) (j % 64) else E r ((j - 1024) / 32) ((j - 1024) % 32)) = heads 96 D E r (spQ j) := by
  unfold heads spQ
  by_cases h : j < 1024
  · rw [if_pos h, if_pos h, if_pos (by omega)]; congr 1 <;> omega
  · rw [if_neg h, if_neg h, if_neg (by omega)]; congr 1 <;> omega

theorem heads_spK (D E : ℕ → ℕ → ℕ → EReal) (r j : ℕ) :
    (if j < 1024 then D r (j / 64) (j % 64) else E r ((j - 1024) / 64) ((j - 1024) % 64)) = heads 128 D E r (spK j) := by
  unfold heads spK
  by_cases h : j < 1024
  · rw [if_pos h, if_pos h, if_pos (by omega)]; congr 1 <;> omega
  · rw [if_neg h, if_neg h, if_neg (by omega)]; congr 1 <;> omega

end Cert.Attn

end
-- ==== Proof.UpChain.lean ====
/- The six products of the up-projections in a row, from the arguments' entries to the eight results. -/
module

public import proofs.«01_k».proof.Proof.UpRegions
public import proofs.«01_k».proof.Proof.UpMat

@[expose] public section

set_option maxRecDepth 16384

noncomputable section

namespace Cert.Kernel6Ideal.Hand

open Idealize.ShloMosaic Idealize.ShloMosaic.ValueIdx Idealize.ShloMosaic.TcCoe Cert.Attn Cert.Kernel6Ideal Cert.Kernel6Ideal.Gen Idealize.SL.Sem Finset

variable (m : (ℓ : Loc nD τ sig) → Buf (Elt Ideal) ℓ) (ρ : Dev nD → PrngReg) (c : Dev nD)

/-- The entries of the low-rank queries, -/
abbrev Qn : ℕ → ℕ → EReal := entE (a := 2048) (b := 384) (m ((c.tc : Thread nD τ).loc main_arg0))
/-- of the queries' weights, -/
abbrev Wq : ℕ → ℕ → EReal := entE (a := 384) (b := 1536) (m ((c.tc : Thread nD τ).loc main_arg1))
/-- of the latent keys and values, -/
abbrev Kv : ℕ → ℕ → EReal := entE (a := 2048) (b := 256) (m ((c.tc : Thread nD τ).loc main_arg2))
/-- of their weights, -/
abbrev Wk : ℕ → ℕ → EReal := entE (a := 256) (b := 2048) (m ((c.tc : Thread nD τ).loc main_arg3))
/-- of the queries' derivative, -/
abbrev Dq : ℕ → ℕ → EReal := heads 96 (ent3 (a := 2048) (b := 16) (c := 64) (m ((c.tc : Thread nD τ).loc main_arg4))) (ent3 (a := 2048) (b := 16) (c := 32) (m ((c.tc : Thread nD τ).loc main_arg5)))
/-- and of the keys' and values'. -/
abbrev Dk : ℕ → ℕ → EReal := heads 128 (ent3 (a := 2048) (b := 16) (c := 64) (m ((c.tc : Thread nD τ).loc main_arg6))) (ent3 (a := 2048) (b := 16) (c := 64) (m ((c.tc : Thread nD τ).loc main_arg7)))

/-- The low-rank queries, narrowed. -/
theorem a_v0 : IsE (a := 2048) (c := 384) (φ := .bf16) (W1 m ρ c (Proc.devRef .tc main_v0)) (Qn m c) := by
  show IsE (StableHlo.after hostOps0 (W0 m ρ c) (Proc.devRef .tc main_v0)) _
  simp only [hostOps0]
  after_results_simp
  exact (entE_E2 (a := 2048) (b := 384) (m ((c.tc : Thread nD τ).loc main_arg0))).isE (φ := .f32) |>.trunc _

/-- The latent keys and values, narrowed. -/
theorem a_v1 : IsE (a := 2048) (c := 256) (φ := .bf16) (W1 m ρ c (Proc.devRef .tc main_v1)) (Kv m c) := by
  show IsE (StableHlo.after hostOps0 (W0 m ρ c) (Proc.devRef .tc main_v1)) _
  simp only [hostOps0]
  after_results_simp
  exact (entE_E2 (a := 2048) (b := 256) (m ((c.tc : Thread nD τ).loc main_arg2))).isE (φ := .f32) |>.trunc _

/-- The queries' weights, transposed, in the kernel's order. -/
theorem a_v9 : IsE (a := 1536) (c := 384) (φ := .bf16) (W1 m ρ c (Proc.devRef .tc main_v9)) (fun j l => Wq m c l (spQ j)) := by
  have w : IsE (φ := .bf16) _ (fun j l => Wq m c l j) := ((entE_E2 (a := 384) (b := 1536) (m ((c.tc : Thread nD τ).loc main_arg1))).isEt (φ := .f32) transposes_S384x1536_S1536x384_1_0).trunc bitsLt_bf16_f32
  have h := w.rows (a := 16) (b := 96) shapeCasts_S1536x384_S16x96x384 rfl
  refine (IsE.of_eq (IsE.catRows (φ := .bf16) ((h.mid (b := 64) 0 slices_S16x96x384_S16x64x384_0_0_0).unrows shapeCasts_S16x64x384_S1024x384 rfl (by decide))
    ((h.mid (b := 32) 64 slices_S16x96x384_S16x32x384_0_64_0).unrows shapeCasts_S16x32x384_S512x384 rfl (by decide)) rfl concatenates_S1024x384_S512x384_S1536x384_d0) ?_).congr fun r _ l _ => ?_
  · show StableHlo.after hostOps0 (W0 m ρ c) (Proc.devRef .tc main_v9) = _
    simp only [hostOps0]
    after_results_simp
    rfl
  unfold spQ
  split_ifs
  · rw [Nat.zero_add]
  · rfl

/-- The keys' and values' weights in the kernel's order. -/
theorem a_v16 : IsE (a := 256) (c := 2048) (φ := .bf16) (W1 m ρ c (Proc.devRef .tc main_v16)) (fun l j => Wk m c l (spK j)) := by
  have w : IsE (φ := .bf16) _ (Wk m c) := ((entE_E2 (a := 256) (b := 2048) (m ((c.tc : Thread nD τ).loc main_arg3))).isE (φ := .f32)).trunc bitsLt_bf16_f32
  have h := w.cols (b := 16) (c := 128) shapeCasts_S256x2048_S256x16x128 rfl
  refine (IsE.of_eq (IsE.cat (φ := .bf16) ((h.last (c := 64) 0 slices_S256x16x128_S256x16x64_0_0_0).uncols shapeCasts_S256x16x64_S256x1024 rfl (by decide))
    ((h.last (c := 64) 64 slices_S256x16x128_S256x16x64_0_0_64).uncols shapeCasts_S256x16x64_S256x1024 rfl (by decide)) concatenates_S256x1024_S256x1024_S256x2048_d1) ?_).congr fun r _ l _ => ?_
  · show StableHlo.after hostOps0 (W0 m ρ c) (Proc.devRef .tc main_v16) = _
    simp only [hostOps0]
    after_results_simp
    rfl
  unfold spK
  split_ifs
  · rw [Nat.zero_add]
  · rfl

/-- Region 0: the queries, in the kernel's order. -/
theorem a_v17 : IsE (a := 2048) (c := 1536) (φ := .f32) (W2 m ρ c (Proc.devRef .tc main_v17)) (fun r j => ∑ l ∈ range 384, Qn m c r l * Wq m c l (spQ j)) :=
  IsE.of_eq (array0_2 (V1 m ρ) c (a_v0 m ρ c) (a_v9 m ρ c)) (W2_arr m ρ c 2)

/-- Region 1: the keys and values, in the kernel's order. -/
theorem a_v18 : IsE (a := 2048) (c := 2048) (φ := .f32) (W3 m ρ c (Proc.devRef .tc main_v18)) (fun r j => ∑ l ∈ range 256, Kv m c r l * Wk m c l (spK j)) :=
  IsE.of_eq (array1_2 (V2 m ρ) c ((a_v1 m ρ c).of_eq (W2_of m ρ c main_v1 (by decide))) ((a_v16 m ρ c).of_eq (W2_of m ρ c main_v16 (by decide)))) (W3_arr m ρ c 2)

/-- The queries' derivative, in the kernel's order. -/
theorem a_v23 : IsE (a := 2048) (c := 1536) (φ := .bf16) (W4 m ρ c (Proc.devRef .tc main_v23)) (fun r j => Dq m c r (spQ j)) := by
  have e1 := W3_args m ρ c main_arg4 (by decide)
  have e2 := W3_args m ρ c main_arg5 (by decide)
  revert e1 e2
  show _ → _ → IsE (StableHlo.after hostOps2 (W3 m ρ c) (Proc.devRef .tc main_v23)) _
  generalize W3 m ρ c = σ
  intro e1 e2
  refine (IsE.of_eq (IsE.cat (φ := .bf16) (((ent3_E3 (a := 2048) (b := 16) (c := 64) (σ (Proc.devRef .tc main_arg4))).flat shapeCasts_S2048x16x64_S2048x1024 rfl (by decide)).trunc bitsLt_bf16_f32)
    (((ent3_E3 (a := 2048) (b := 16) (c := 32) (σ (Proc.devRef .tc main_arg5))).flat shapeCasts_S2048x16x32_S2048x512 rfl (by decide)).trunc bitsLt_bf16_f32) concatenates_S2048x1024_S2048x512_S2048x1536_d1) ?_).congr fun r _ j _ => ?_
  · simp only [hostOps2]
    after_results_simp
    rfl
  rw [e1, e2]
  exact heads_spQ _ _ r j

/-- The keys' and values' derivative, in the kernel's order. -/
theorem a_v28 : IsE (a := 2048) (c := 2048) (φ := .bf16) (W4 m ρ c (Proc.devRef .tc main_v28)) (fun r j => Dk m c r (spK j)) := by
  have e1 := W3_args m ρ c main_arg6 (by decide)
  have e2 := W3_args m ρ c main_arg7 (by decide)
  revert e1 e2
  show _ → _ → IsE (StableHlo.after hostOps2 (W3 m ρ c) (Proc.devRef .tc main_v28)) _
  generalize W3 m ρ c = σ
  intro e1 e2
  refine (IsE.of_eq (IsE.cat (φ := .bf16) (((ent3_E3 (a := 2048) (b := 16) (c := 64) (σ (Proc.devRef .tc main_arg6))).flat shapeCasts_S2048x16x64_S2048x1024 rfl (by decide)).trunc bitsLt_bf16_f32)
    (((ent3_E3 (a := 2048) (b := 16) (c := 64) (σ (Proc.devRef .tc main_arg7))).flat shapeCasts_S2048x16x64_S2048x1024 rfl (by decide)).trunc bitsLt_bf16_f32) concatenates_S2048x1024_S2048x1024_S2048x2048_d1) ?_).congr fun r _ j _ => ?_
  · simp only [hostOps2]
    after_results_simp
    rfl
  rw [e1, e2]
  exact heads_spK _ _ r j

/-- Region 2: the low-rank queries' derivative. -/
theorem a_v29 : IsE (a := 2048) (c := 384) (φ := .f32) (W5 m ρ c (Proc.devRef .tc main_v29)) (fun r k => ∑ n ∈ range 1536, Dq m c r (spQ n) * Wq m c k (spQ n)) :=
  IsE.of_eq (array2_2 (V4 m ρ) c (a_v23 m ρ c) ((a_v9 m ρ c).of_eq (((W4_of m ρ c main_v9 (by decide)).trans (W3_of m ρ c main_v9 (by decide))).trans (W2_of m ρ c main_v9 (by decide))))) (W5_arr m ρ c 2)

/-- Region 3: the queries' weights' derivative, in the kernel's order. -/
theorem a_v30 : IsE (a := 1536) (c := 384) (φ := .bf16) (W6 m ρ c (Proc.devRef .tc main_v30)) (fun j k => ∑ l ∈ range 2048, Dq m c l (spQ j) * Qn m c l k) :=
  IsE.of_eq (array3_2 (V5 m ρ) c ((a_v23 m ρ c).of_eq (W5_of m ρ c main_v23 (by decide))) ((a_v0 m ρ c).of_eq ((((W5_of m ρ c main_v0 (by decide)).trans (W4_of m ρ c main_v0 (by decide))).trans (W3_of m ρ c main_v0 (by decide))).trans (W2_of m ρ c main_v0 (by decide))))) (W6_arr m ρ c 2)

/-- Region 4: the latent keys' and values' derivative. -/
theorem a_v31 : IsE (a := 2048) (c := 256) (φ := .f32) (W7 m ρ c (Proc.devRef .tc main_v31)) (fun r k => ∑ n ∈ range 2048, Dk m c r (spK n) * Wk m c k (spK n)) :=
  IsE.of_eq (array4_2 (V6 m ρ) c ((a_v28 m ρ c).of_eq ((W6_of m ρ c main_v28 (by decide)).trans (W5_of m ρ c main_v28 (by decide)))) ((a_v16 m ρ c).of_eq (((((W6_of m ρ c main_v16 (by decide)).trans (W5_of m ρ c main_v16 (by decide))).trans (W4_of m ρ c main_v16 (by decide))).trans (W3_of m ρ c main_v16 (by decide))).trans (W2_of m ρ c main_v16 (by decide))))) (W7_arr m ρ c 2)

/-- Region 5: the keys' and values' weights' derivative, in the kernel's order. -/
theorem a_v32 : IsE (a := 256) (c := 2048) (φ := .bf16) (W8 m ρ c (Proc.devRef .tc main_v32)) (fun k j => ∑ l ∈ range 2048, Kv m c l k * Dk m c l (spK j)) :=
  IsE.of_eq (array5_2 (V7 m ρ) c ((a_v1 m ρ c).of_eq ((((((W7_of m ρ c main_v1 (by decide)).trans (W6_of m ρ c main_v1 (by decide))).trans (W5_of m ρ c main_v1 (by decide))).trans (W4_of m ρ c main_v1 (by decide))).trans (W3_of m ρ c main_v1 (by decide))).trans (W2_of m ρ c main_v1 (by decide)))) ((a_v28 m ρ c).of_eq (((W7_of m ρ c main_v28 (by decide)).trans (W6_of m ρ c main_v28 (by decide))).trans (W5_of m ρ c main_v28 (by decide))))) (W8_arr m ρ c 2)

/-- The low-rank queries' derivative. -/
theorem fin_v29 : IsE (a := 2048) (c := 384) (φ := .f32) (W9 m ρ c (Proc.devRef .tc main_v29)) (fun r k => ∑ n ∈ range 1536, Dq m c r n * Wq m c k n) :=
  (((a_v29 m ρ c).of_eq ((((W9_of m ρ c main_v29 (by decide)).trans (W8_of m ρ c main_v29 (by decide))).trans (W7_of m ρ c main_v29 (by decide))).trans (W6_of m ρ c main_v29 (by decide))))).congr fun r _ k _ => sum_spQ (fun n => Dq m c r n * Wq m c k n)

/-- The latent keys' and values' derivative. -/
theorem fin_v31 : IsE (a := 2048) (c := 256) (φ := .f32) (W9 m ρ c (Proc.devRef .tc main_v31)) (fun r k => ∑ n ∈ range 2048, Dk m c r n * Wk m c k n) :=
  (((a_v31 m ρ c).of_eq ((W9_of m ρ c main_v31 (by decide)).trans (W8_of m ρ c main_v31 (by decide))))).congr fun r _ k _ => sum_spK (fun n => Dk m c r n * Wk m c k n)

/-- The queries' part without the rotation, -/
theorem fin_v34 : E3 (a := 2048) (b := 16) (c := 64) (W9 m ρ c (Proc.devRef .tc main_v34)) (fun r h d => ∑ l ∈ range 384, Qn m c r l * Wq m c l (h * 96 + (0 + d))) := by
  have p := ((a_v17 m ρ c).of_eq ((((((W8_of m ρ c main_v17 (by decide)).trans (W7_of m ρ c main_v17 (by decide))).trans (W6_of m ρ c main_v17 (by decide))).trans (W5_of m ρ c main_v17 (by decide))).trans (W4_of m ρ c main_v17 (by decide))).trans (W3_of m ρ c main_v17 (by decide))))
  show E3 (StableHlo.after hostOps6 (W8 m ρ c) (Proc.devRef .tc main_v34)) _
  revert p
  generalize W8 m ρ c = σ
  intro p
  refine (E3.of_eq ((p.sliceC (c := 1024) 0 slices_S2048x1536_S2048x1024_0_0).cols (b := 16) (c := 64) shapeCasts_S2048x1024_S2048x16x64 rfl) ?_).congr fun r _ h _ d _ => Finset.sum_congr rfl fun l _ => ?_
  · simp only [hostOps6]
    after_results_simp
    rfl
  rw [show spQ (0 + (h * 64 + d)) = h * 96 + (0 + d) by unfold spQ; split_ifs <;> omega]

/-- and their rotary part. -/
theorem fin_v36 : E3 (a := 2048) (b := 16) (c := 32) (W9 m ρ c (Proc.devRef .tc main_v36)) (fun r h d => ∑ l ∈ range 384, Qn m c r l * Wq m c l (h * 96 + (64 + d))) := by
  have p := ((a_v17 m ρ c).of_eq ((((((W8_of m ρ c main_v17 (by decide)).trans (W7_of m ρ c main_v17 (by decide))).trans (W6_of m ρ c main_v17 (by decide))).trans (W5_of m ρ c main_v17 (by decide))).trans (W4_of m ρ c main_v17 (by decide))).trans (W3_of m ρ c main_v17 (by decide))))
  show E3 (StableHlo.after hostOps6 (W8 m ρ c) (Proc.devRef .tc main_v36)) _
  revert p
  generalize W8 m ρ c = σ
  intro p
  refine (E3.of_eq ((p.sliceC (c := 512) 1024 slices_S2048x1536_S2048x512_0_1024).cols (b := 16) (c := 32) shapeCasts_S2048x512_S2048x16x32 rfl) ?_).congr fun r _ h _ d _ => Finset.sum_congr rfl fun l _ => ?_
  · simp only [hostOps6]
    after_results_simp
    rfl
  rw [show spQ (1024 + (h * 32 + d)) = h * 96 + (64 + d) by unfold spQ; split_ifs <;> omega]

/-- The keys, -/
theorem fin_v38 : E3 (a := 2048) (b := 16) (c := 64) (W9 m ρ c (Proc.devRef .tc main_v38)) (fun r h d => ∑ l ∈ range 256, Kv m c r l * Wk m c l (h * 128 + (0 + d))) := by
  have p := ((a_v18 m ρ c).of_eq (((((W8_of m ρ c main_v18 (by decide)).trans (W7_of m ρ c main_v18 (by decide))).trans (W6_of m ρ c main_v18 (by decide))).trans (W5_of m ρ c main_v18 (by decide))).trans (W4_of m ρ c main_v18 (by decide))))
  show E3 (StableHlo.after hostOps6 (W8 m ρ c) (Proc.devRef .tc main_v38)) _
  revert p
  generalize W8 m ρ c = σ
  intro p
  refine (E3.of_eq ((p.sliceC (c := 1024) 0 slices_S2048x2048_S2048x1024_0_0).cols (b := 16) (c := 64) shapeCasts_S2048x1024_S2048x16x64 rfl) ?_).congr fun r _ h _ d _ => Finset.sum_congr rfl fun l _ => ?_
  · simp only [hostOps6]
    after_results_simp
    rfl
  rw [show spK (0 + (h * 64 + d)) = h * 128 + (0 + d) by unfold spK; split_ifs <;> omega]

/-- and the values. -/
theorem fin_v40 : E3 (a := 2048) (b := 16) (c := 64) (W9 m ρ c (Proc.devRef .tc main_v40)) (fun r h d => ∑ l ∈ range 256, Kv m c r l * Wk m c l (h * 128 + (64 + d))) := by
  have p := ((a_v18 m ρ c).of_eq (((((W8_of m ρ c main_v18 (by decide)).trans (W7_of m ρ c main_v18 (by decide))).trans (W6_of m ρ c main_v18 (by decide))).trans (W5_of m ρ c main_v18 (by decide))).trans (W4_of m ρ c main_v18 (by decide))))
  show E3 (StableHlo.after hostOps6 (W8 m ρ c) (Proc.devRef .tc main_v40)) _
  revert p
  generalize W8 m ρ c = σ
  intro p
  refine (E3.of_eq ((p.sliceC (c := 1024) 1024 slices_S2048x2048_S2048x1024_0_1024).cols (b := 16) (c := 64) shapeCasts_S2048x1024_S2048x16x64 rfl) ?_).congr fun r _ h _ d _ => Finset.sum_congr rfl fun l _ => ?_
  · simp only [hostOps6]
    after_results_simp
    rfl
  rw [show spK (1024 + (h * 64 + d)) = h * 128 + (64 + d) by unfold spK; split_ifs <;> omega]

/-- The queries' weights' derivative. -/
theorem fin_v46 : IsE (a := 1536) (c := 384) (φ := .bf16) (W9 m ρ c (Proc.devRef .tc main_v46)) (fun n k => ∑ l ∈ range 2048, Dq m c l n * Qn m c l k) := by
  have p := ((a_v30 m ρ c).of_eq ((W8_of m ρ c main_v30 (by decide)).trans (W7_of m ρ c main_v30 (by decide))))
  show IsE (StableHlo.after hostOps6 (W8 m ρ c) (Proc.devRef .tc main_v46)) _
  revert p
  generalize W8 m ρ c = σ
  intro p
  refine (IsE.of_eq ((((p.sliceR (a := 1024) 0 slices_S1536x384_S1024x384_0_0).rows (a := 16) (b := 64) shapeCasts_S1024x384_S16x64x384 rfl).catMid
    ((p.sliceR (a := 512) 1024 slices_S1536x384_S512x384_1024_0).rows (a := 16) (b := 32) shapeCasts_S512x384_S16x32x384 rfl) rfl concatenates_S16x64x384_S16x32x384_S16x96x384_d1).unrows (φ := .bf16) shapeCasts_S16x96x384_S1536x384 rfl (by decide)) ?_).congr fun r hr k _ => ?_
  · simp only [hostOps6]
    after_results_simp
    rfl
  beta_reduce
  split_ifs
  · rw [show spQ (0 + (r / 96 * 64 + r % 96)) = r by unfold spQ; split_ifs <;> omega]
  · rw [show spQ (1024 + (r / 96 * 32 + (r % 96 - 64))) = r by unfold spQ; split_ifs <;> omega]

/-- The keys' and values' weights' derivative. -/
theorem fin_v52 : IsE (a := 256) (c := 2048) (φ := .bf16) (W9 m ρ c (Proc.devRef .tc main_v52)) (fun k n => ∑ l ∈ range 2048, Kv m c l k * Dk m c l n) := by
  have p := (a_v32 m ρ c)
  show IsE (StableHlo.after hostOps6 (W8 m ρ c) (Proc.devRef .tc main_v52)) _
  revert p
  generalize W8 m ρ c = σ
  intro p
  refine (IsE.of_eq ((((p.sliceC (c := 1024) 0 slices_S256x2048_S256x1024_0_0).cols (b := 16) (c := 64) shapeCasts_S256x1024_S256x16x64 rfl).catLast
    ((p.sliceC (c := 1024) 1024 slices_S256x2048_S256x1024_0_1024).cols (b := 16) (c := 64) shapeCasts_S256x1024_S256x16x64 rfl) rfl concatenates_S256x16x64_S256x16x64_S256x16x128_d2).uncols (φ := .bf16) shapeCasts_S256x16x128_S256x2048 rfl (by decide)) ?_).congr fun k _ r hr => ?_
  · simp only [hostOps6]
    after_results_simp
    rfl
  beta_reduce
  split_ifs
  · rw [show spK (0 + (r / 128 * 64 + r % 128)) = r by unfold spK; split_ifs <;> omega]
  · rw [show spK (1024 + (r / 128 * 64 + (r % 128 - 64))) = r by unfold spK; split_ifs <;> omega]

end Cert.Kernel6Ideal.Hand

end
-- ==== Proof.UpRef.lean ====
/- The up-projections' reference, entry by entry. -/
module

public import proofs.«01_k».proof.Proof.UpMat
public import proofs.«01_k».proof.Proof.Gen.Reference6Ideal.Read

@[expose] public section

set_option maxRecDepth 16384

noncomputable section

namespace Cert.Reference6Ideal.Hand

open Idealize.ShloMosaic Idealize.ShloMosaic.ValueIdx Cert.Attn Cert.Reference6Ideal Cert.Reference6Ideal.Gen Cert.Reference6Ideal.Read Finset

variable (x0 : (⟨S2048x384, .f32⟩ : BufTy).Contents (Elt Ideal)) (x1 : (⟨S384x1536, .f32⟩ : BufTy).Contents (Elt Ideal)) (x2 : (⟨S2048x256, .f32⟩ : BufTy).Contents (Elt Ideal)) (x3 : (⟨S256x2048, .f32⟩ : BufTy).Contents (Elt Ideal)) (x4 : (⟨S2048x16x64, .f32⟩ : BufTy).Contents (Elt Ideal)) (x5 : (⟨S2048x16x32, .f32⟩ : BufTy).Contents (Elt Ideal)) (x6 : (⟨S2048x16x64, .f32⟩ : BufTy).Contents (Elt Ideal)) (x7 : (⟨S2048x16x64, .f32⟩ : BufTy).Contents (Elt Ideal))

/-- The queries, head by head, -/
theorem v0_val : E2 (a := 2048) (b := 1536) (val_main_v0 (F := Ideal) x0 x1) (fun r k => ∑ l ∈ range 384, (entE (a := 2048) (b := 384) x0) r l * (entE (a := 384) (b := 1536) x1) l k) := fun i => by
  rw [val_main_v0_apply]
  exact sum_fin_range _ (fun l => (entE (a := 2048) (b := 384) x0) (i 0).val l * (entE (a := 384) (b := 1536) x1) l (i 1).val) fun l => by rw [entE_E2 x0, entE_E2 x1]

/-- and the keys and values. -/
theorem v2_val : E2 (a := 2048) (b := 2048) (val_main_v2 (F := Ideal) x2 x3) (fun r k => ∑ l ∈ range 256, (entE (a := 2048) (b := 256) x2) r l * (entE (a := 256) (b := 2048) x3) l k) := fun i => by
  rw [val_main_v2_apply]
  exact sum_fin_range _ (fun l => (entE (a := 2048) (b := 256) x2) (i 0).val l * (entE (a := 256) (b := 2048) x3) l (i 1).val) fun l => by rw [entE_E2 x2, entE_E2 x3]

/-- The queries' part without the rotation, -/
theorem v4_val : E3 (a := 2048) (b := 16) (c := 64) (val_main_v4 (F := Ideal) x0 x1) (fun r h d => ∑ l ∈ range 384, (entE (a := 2048) (b := 384) x0) r l * (entE (a := 384) (b := 1536) x1) l (h * 96 + (0 + d))) :=
  (((v0_val x0 x1).isE (φ := .f32)).cols (b := 16) (c := 96) _ rfl).last 0 _

/-- and their rotary part. -/
theorem v5_val : E3 (a := 2048) (b := 16) (c := 32) (val_main_v5 (F := Ideal) x0 x1) (fun r h d => ∑ l ∈ range 384, (entE (a := 2048) (b := 384) x0) r l * (entE (a := 384) (b := 1536) x1) l (h * 96 + (64 + d))) :=
  (((v0_val x0 x1).isE (φ := .f32)).cols (b := 16) (c := 96) _ rfl).last 64 _

/-- The keys, -/
theorem v6_val : E3 (a := 2048) (b := 16) (c := 64) (val_main_v6 (F := Ideal) x2 x3) (fun r h d => ∑ l ∈ range 256, (entE (a := 2048) (b := 256) x2) r l * (entE (a := 256) (b := 2048) x3) l (h * 128 + (0 + d))) :=
  (((v2_val x2 x3).isE (φ := .f32)).cols (b := 16) (c := 128) _ rfl).last 0 _

/-- and the values. -/
theorem v7_val : E3 (a := 2048) (b := 16) (c := 64) (val_main_v7 (F := Ideal) x2 x3) (fun r h d => ∑ l ∈ range 256, (entE (a := 2048) (b := 256) x2) r l * (entE (a := 256) (b := 2048) x3) l (h * 128 + (64 + d))) :=
  (((v2_val x2 x3).isE (φ := .f32)).cols (b := 16) (c := 128) _ rfl).last 64 _

/-- The queries' derivative, head by head, -/
theorem v14_val : E2 (a := 2048) (b := 1536) (val_main_v14 (F := Ideal) x4 x5) (heads 96 (ent3 (a := 2048) (b := 16) (c := 64) x4) (ent3 (a := 2048) (b := 16) (c := 32) x5)) :=
  (((ent3_E3 x4).catLast (c := 96) (ent3_E3 x5) rfl concatenates_S2048x16x64_S2048x16x32_S2048x16x96_d2).flat _ rfl (by decide)).e2

/-- and the keys' and values'. -/
theorem v10_val : E2 (a := 2048) (b := 2048) (val_main_v10 (F := Ideal) x6 x7) (heads 128 (ent3 (a := 2048) (b := 16) (c := 64) x6) (ent3 (a := 2048) (b := 16) (c := 64) x7)) :=
  (((ent3_E3 x6).catLast (c := 128) (ent3_E3 x7) rfl concatenates_S2048x16x64_S2048x16x64_S2048x16x128_d2).flat _ rfl (by decide)).e2

/-- The low-rank queries' derivative, -/
theorem v17_val : E2 (a := 2048) (b := 384) (val_main_v17 (F := Ideal) x1 x4 x5) (fun r k => ∑ l ∈ range 1536, heads 96 (ent3 (a := 2048) (b := 16) (c := 64) x4) (ent3 (a := 2048) (b := 16) (c := 32) x5) r l * (entE (a := 384) (b := 1536) x1) k l) := fun i => by
  rw [val_main_v17_apply]
  exact sum_fin_range _ (fun l => heads 96 (ent3 (a := 2048) (b := 16) (c := 64) x4) (ent3 (a := 2048) (b := 16) (c := 32) x5) (i 0).val l * (entE (a := 384) (b := 1536) x1) (i 1).val l) fun l => by rw [v14_val x4 x5, entE_E2 x1]

/-- their weights' (transposed), -/
theorem v15_val : E2 (a := 1536) (b := 384) (val_main_v15 (F := Ideal) x0 x4 x5) (fun r k => ∑ l ∈ range 2048, heads 96 (ent3 (a := 2048) (b := 16) (c := 64) x4) (ent3 (a := 2048) (b := 16) (c := 32) x5) l r * (entE (a := 2048) (b := 384) x0) l k) := fun i => by
  rw [val_main_v15_apply]
  exact sum_fin_range _ (fun l => heads 96 (ent3 (a := 2048) (b := 16) (c := 64) x4) (ent3 (a := 2048) (b := 16) (c := 32) x5) l (i 0).val * (entE (a := 2048) (b := 384) x0) l (i 1).val) fun l => by rw [v14_val x4 x5, entE_E2 x0]

/-- the latent keys' and values', -/
theorem v13_val : E2 (a := 2048) (b := 256) (val_main_v13 (F := Ideal) x3 x6 x7) (fun r k => ∑ l ∈ range 2048, heads 128 (ent3 (a := 2048) (b := 16) (c := 64) x6) (ent3 (a := 2048) (b := 16) (c := 64) x7) r l * (entE (a := 256) (b := 2048) x3) k l) := fun i => by
  rw [val_main_v13_apply]
  exact sum_fin_range _ (fun l => heads 128 (ent3 (a := 2048) (b := 16) (c := 64) x6) (ent3 (a := 2048) (b := 16) (c := 64) x7) (i 0).val l * (entE (a := 256) (b := 2048) x3) (i 1).val l) fun l => by rw [v10_val x6 x7, entE_E2 x3]

/-- and their weights' (transposed). -/
theorem v11_val : E2 (a := 2048) (b := 256) (val_main_v11 (F := Ideal) x2 x6 x7) (fun r k => ∑ l ∈ range 2048, heads 128 (ent3 (a := 2048) (b := 16) (c := 64) x6) (ent3 (a := 2048) (b := 16) (c := 64) x7) l r * (entE (a := 2048) (b := 256) x2) l k) := fun i => by
  rw [val_main_v11_apply]
  exact sum_fin_range _ (fun l => heads 128 (ent3 (a := 2048) (b := 16) (c := 64) x6) (ent3 (a := 2048) (b := 16) (c := 64) x7) l (i 0).val * (entE (a := 2048) (b := 256) x2) l (i 1).val) fun l => by rw [v10_val x6 x7, entE_E2 x2]

/-- The queries' weights' derivative as returned, -/
theorem v19_val : E2 (a := 1536) (b := 384) (val_main_v19 (F := Ideal) x0 x4 x5) (fun n k => ∑ l ∈ range 2048, heads 96 (ent3 (a := 2048) (b := 16) (c := 64) x4) (ent3 (a := 2048) (b := 16) (c := 32) x5) l n * (entE (a := 2048) (b := 384) x0) l k) := fun i => by
  show val_main_v18 (F := Ideal) x0 x4 x5 i = _
  rw [val_main_v18_apply, val_main_v16_apply]
  exact v15_val x0 x4 x5 _

/-- and the keys' and values' weights'. -/
theorem v20_val : E2 (a := 256) (b := 2048) (val_main_v20 (F := Ideal) x2 x6 x7) (fun k n => ∑ l ∈ range 2048, (entE (a := 2048) (b := 256) x2) l k * heads 128 (ent3 (a := 2048) (b := 16) (c := 64) x6) (ent3 (a := 2048) (b := 16) (c := 64) x7) l n) := fun i => by
  show val_main_v12 (F := Ideal) x2 x6 x7 i = _
  rw [val_main_v12_apply]
  exact (v11_val x2 x6 x7 _).trans (Finset.sum_congr rfl fun l _ => mul_comm _ _)

end Cert.Reference6Ideal.Hand

end
-- ==== Proof.ConvMat.lean ====
/- The convolution's matrices: rows moved up and down with what comes in from the neighbouring block, rows joined above or below. -/
module

public import proofs.«01_k».proof.Proof.WinMat
public import proofs.«01_k».proof.Proof.BlockMat
public import Idealize.ShloMosaic.Lib.KernelVsHost
public import Idealize.ShloMosaic.Lib.WordCmp
public import Idealize.ShloMosaic.Lib.Pointwise.ShapeOpsCore

@[expose] public section

set_option maxRecDepth 16384

noncomputable section

namespace Cert.Attn

open Idealize.ShloMosaic hiding ix2
open Idealize.ShloMosaic.ValueIdx Finset

variable {a b c n : ℕ} {φ : FTy} {f g : ℕ → ℕ → EReal}

theorem IsE.mul {X Y : FVec Ideal (M a c) φ} (hX : IsE X f) (hY : IsE Y g) : IsE (mulf X Y) (fun r k => f r k * g r k) := fun r k => by
  show X (ix2 r k) * Y (ix2 r k) = _
  rw [hX r k, hY r k]

/-- A row stretched over the rows of a tile, -/
theorem IsE.rowT {X : FVec Ideal (M 1 c) φ} (hX : IsE X f) (h : (M 1 c).Broadcasts (M a c)) :
    IsE (φ := φ) (broadcastTo (M a c) X h) (fun _ k => f 0 k) := fun r k =>
  (broadcastTo_apply X h (ix2 r k) (ix2 (⟨0, Nat.one_pos⟩ : Fin 1) k) (fun x => match x with
    | ⟨0, _⟩ => rfl
    | ⟨1, _⟩ => by show k.val = if c = 1 then 0 else k.val; split <;> [(have := k.isLt; omega); rfl])).trans (hX _ k)

/-- and on the host. -/
theorem IsE.rowH {X : FVec Ideal (M 1 c) φ} (hX : IsE X f) (h : (M 1 c).BroadcastsInDim (M a c) ![0, 1]) :
    IsE (φ := φ) (broadcastInDim (M a c) ![0, 1] h X) (fun _ k => f 0 k) := fun r k =>
  (broadcastInDim_apply _ h X (ix2 r k) (ix2 (⟨0, Nat.one_pos⟩ : Fin 1) k) (fun x => match x with
    | ⟨0, _⟩ => rfl
    | ⟨1, _⟩ => by show k.val = if c = 1 then 0 else k.val; split <;> [(have := k.isLt; omega); rfl])).trans (hX _ k)

/-- Rows turned around. -/
theorem rot_row {α : Type} (X : (M a c).Idx → α) (w : BitVec 32) (h : (M a c).Rotates 0 none) (r : Fin a) (k : Fin c) (i : Fin a)
    (hi : i.val = (r.val + a - w.toNat % a) % a) : dynamicRotate 0 w none X h (ix2 r k) = X (ix2 i k) :=
  dynamicRotate_apply 0 w X h (ix2 r k) (ix2 i k) (fun x => match x with
    | ⟨0, _⟩ => hi
    | ⟨1, _⟩ => rfl)

/-- Rows of a tile moved down by `j`; the rows above come from the tile before, or are zero. -/
theorem IsE.down {X Y : FVec Ideal (M 512 c) φ} (hX : IsE X f) (hY : IsE Y g) (j : ℕ) (hj0 : 0 < j) (hj : j < 512) (w : BitVec 32)
    (hw : w = BitVec.ofNat 32 j) (z : Ideal φ) (hz : z = 0) (B : BitVec 1) (hi : (M 512 c).Iotas .tc 32 [0]) (hr : (M 512 c).Rotates 0 none) :
    IsE (φ := φ) (select (cmpi .sge (iota .tc (M 512 c) 32 [0] hi) (broadcast (M 512 c) w)) (dynamicRotate 0 w none X hr)
        (Scalar.select B (broadcast (M 512 c) z) (dynamicRotate 0 w none Y hr)))
      (fun r k => if j ≤ r then f (r - j) k else if B = 1#1 then 0 else g (r + 512 - j) k) := fun r k => by
  have hr' := r.isLt
  have hwn : w.toNat = j := by rw [hw, BitVec.toNat_ofNat]; exact Nat.mod_eq_of_lt (by omega)
  show (if IntOp.cmpi .sge (iota .tc (M 512 c) 32 [0] hi (ix2 r k)) w = 1#1 then dynamicRotate 0 w none X hr (ix2 r k)
    else Scalar.select B (broadcast (M 512 c) z) (dynamicRotate 0 w none Y hr) (ix2 r k)) = _
  rw [iota_single_apply, hw]
  show (if IntOp.cmpi .sge (BitVec.ofNat 32 r.val) (BitVec.ofNat 32 j) = 1#1 then _ else _) = _
  rw [if_congr (WordCmp.cmpi_sge_ofNat_eq_one_iff (by omega) (by omega)) rfl rfl, ← hw]
  beta_reduce
  by_cases h : j ≤ r.val
  · rw [if_pos h, if_pos h, rot_row X w hr r k ⟨r.val - j, by omega⟩ (by show r.val - j = _; rw [hwn]; omega), hX]
  · rw [if_neg h, if_neg h, Scalar.select_fun_apply,
      rot_row Y w hr r k ⟨r.val + 512 - j, by omega⟩ (by show r.val + 512 - j = _; rw [hwn]; omega), hY]
    show (if B = 1#1 then z else _) = _
    rw [hz]

/-- Rows of a tile moved up by `j`; the rows below come from the tile after, or are zero. -/
theorem IsE.up {X Y : FVec Ideal (M 512 c) φ} (hX : IsE X f) (hY : IsE Y g) (j : ℕ) (hj0 : 0 < j) (hj : j < 512) (w : BitVec 32)
    (hw : w = BitVec.ofNat 32 (512 - j)) (z : Ideal φ) (hz : z = 0) (B : BitVec 1) (hi : (M 512 c).Iotas .tc 32 [0]) (hr : (M 512 c).Rotates 0 none) :
    IsE (φ := φ) (select (cmpi .slt (iota .tc (M 512 c) 32 [0] hi) (broadcast (M 512 c) w)) (dynamicRotate 0 w none X hr)
        (Scalar.select B (broadcast (M 512 c) z) (dynamicRotate 0 w none Y hr)))
      (fun r k => if r + j < 512 then f (r + j) k else if B = 1#1 then 0 else g (r + j - 512) k) := fun r k => by
  have hr' := r.isLt
  have hwn : w.toNat = 512 - j := by rw [hw, BitVec.toNat_ofNat]; exact Nat.mod_eq_of_lt (by omega)
  show (if IntOp.cmpi .slt (iota .tc (M 512 c) 32 [0] hi (ix2 r k)) w = 1#1 then dynamicRotate 0 w none X hr (ix2 r k)
    else Scalar.select B (broadcast (M 512 c) z) (dynamicRotate 0 w none Y hr) (ix2 r k)) = _
  rw [iota_single_apply, hw]
  show (if IntOp.cmpi .slt (BitVec.ofNat 32 r.val) (BitVec.ofNat 32 (512 - j)) = 1#1 then _ else _) = _
  rw [if_congr (WordCmp.cmpi_slt_ofNat_eq_one_iff (by omega) (by omega)) rfl rfl, ← hw]
  beta_reduce
  by_cases h : r.val + j < 512
  · rw [if_pos (by omega), if_pos h, rot_row X w hr r k ⟨r.val + j, h⟩ (by show r.val + j = _; rw [hwn]; omega), hX]
  · rw [if_neg (by omega), if_neg h, Scalar.select_fun_apply,
      rot_row Y w hr r k ⟨r.val + j - 512, by omega⟩ (by show r.val + j - 512 = _; rw [hwn]; omega), hY]
    show (if B = 1#1 then z else _) = _
    rw [hz]

/-- A matrix with `lo` rows of zeros above and `hi` below. -/
theorem IsE.padRow {X : FVec Ideal (M a c) φ} (hX : IsE X f) (lo hi : ℕ) (v : FVec Ideal ⟨0, ![]⟩ φ) (hv : ∀ i, v i = 0)
    (h : (M a c).Pads ![lo, 0] ![hi, 0] ![0, 0] (M b c)) (hu : 0 < (⟨0, ![]⟩ : Shape).numel) :
    IsE (φ := φ) (pad (M b c) ![lo, 0] ![hi, 0] ![0, 0] X v h hu) (fun r k => if lo ≤ r ∧ r - lo < a then f (r - lo) k else 0) := fun r k => by
  beta_reduce
  by_cases hin : lo ≤ r.val ∧ r.val - lo < a
  · rw [if_pos hin]
    refine (pad_apply_of_inside _ _ _ X v h hu (ix2 r k) (ix2 (⟨r.val - lo, hin.2⟩ : Fin a) k) fun x => ?_).trans (hX _ k)
    match x with
    | ⟨0, _⟩ => show r.val = lo + (r.val - lo) * 1; omega
    | ⟨1, _⟩ => show k.val = 0 + k.val * 1; omega
  · rw [if_neg hin]
    refine (pad_apply_of_not_inside _ _ _ X v h hu (ix2 r k) 0 fun ⟨h0, _, h2⟩ => hin ⟨h0, ?_⟩).trans (hv _)
    have h3 : (r.val - lo) / 1 < a := h2
    omega

/-- A matrix's rows by natural numbers, rows past the last one zero. -/
def past (n : ℕ) (f : ℕ → ℕ → EReal) (r k : ℕ) : EReal := if r < n then f r k else 0

/-- The rows `j` above; rows above the first one zero. -/
def back (j : ℕ) (f : ℕ → ℕ → EReal) (r k : ℕ) : EReal := if j ≤ r then f (r - j) k else 0

/-- Block `u` moved up has the rows below. -/
theorem up_eq (f : ℕ → ℕ → EReal) (B : BitVec 1) (u j r k : ℕ) (hB : B = 1#1 ↔ u = 3) (hu : u < 4) (hj : j ≤ 512) (hr : r < 512) :
    (if r + j < 512 then f (u * 512 + (r + j)) k else if B = 1#1 then 0 else f (min (u + 1) 3 * 512 + (r + j - 512)) k)
      = past 2048 f (u * 512 + r + j) k := by
  unfold past
  by_cases h : r + j < 512
  · rw [if_pos h, if_pos (by omega)]; congr 1; omega
  · rw [if_neg h]
    by_cases h3 : u = 3
    · rw [if_pos (hB.mpr h3), if_neg (by omega)]
    · rw [if_neg fun e => h3 (hB.mp e), if_pos (by omega)]; congr 1; omega

/-- Block `u` moved down has the rows above. -/
theorem down_eq (f : ℕ → ℕ → EReal) (B : BitVec 1) (u j r k : ℕ) (hB : B = 1#1 ↔ u = 0) (hj : j ≤ 512) (hr : r < 512) :
    (if j ≤ r then f (u * 512 + (r - j)) k else if B = 1#1 then 0 else f ((u - 1) * 512 + (r + 512 - j)) k)
      = back j f (u * 512 + r) k := by
  unfold back
  by_cases h : j ≤ r
  · rw [if_pos h, if_pos (by omega)]; congr 1; omega
  · rw [if_neg h]
    by_cases h3 : u = 0
    · rw [if_pos (hB.mpr h3), if_neg (by omega)]
    · rw [if_neg fun e => h3 (hB.mp e), if_pos (by omega)]; congr 1; omega

/-- A padded product read three rows further down. -/
theorem pad_eq (f : ℕ → ℕ → EReal) (g : EReal) (lo r k : ℕ) (hlo : lo ≤ 3) :
    (if lo ≤ 3 + r ∧ 3 + r - lo < 2048 then g * f (3 + r - lo) k else 0) = past 2048 f (r + (3 - lo)) k * g := by
  unfold past
  by_cases h : r + (3 - lo) < 2048
  · rw [if_pos (by omega), if_pos h, mul_comm]; congr 2; omega
  · rw [if_neg (by omega), if_neg h, zero_mul]

end Cert.Attn

end
-- ==== Proof.ConvIn.lean ====
/- The gradient of the convolution's input: what the kernel's array holds, and the reference's. -/
module

public import proofs.«01_k».proof.Proof.ConvMat
public import proofs.«01_k».proof.Proof.FfnMath
public import proofs.«01_k».proof.Proof.Gen.Kernel8Ideal.Value
public import proofs.«01_k».proof.Proof.Gen.Reference8Ideal.Read

@[expose] public section

set_option maxRecDepth 16384

noncomputable section

open Idealize.ShloMosaic hiding ix2
open Idealize.ShloMosaic.ValueIdx Idealize.ShloMosaic.TcCoe Cert.Attn Idealize.SL.Sem Finset

namespace Cert.Attn

/-- The gradient of the convolution's input: each row takes the three rows of the cotangent below it. -/
def convIn (f g : ℕ → ℕ → EReal) (r k : ℕ) : EReal :=
  past 2048 f r k * g 3 k + past 2048 f (r + 1) k * g 2 k + past 2048 f (r + 2) k * g 1 k + past 2048 f (r + 3) k * g 0 k

end Cert.Attn

namespace Cert.Kernel8Ideal.Hand

open Cert.Kernel8Ideal Cert.Kernel8Ideal.Gen

variable (m : (ℓ : Loc nD τ sig) → Buf (Elt Ideal) ℓ) (c : Dev nD)

/-- Every block of rows has its grid point, and the windows' blocks there. -/
theorem tile : ∀ u < 4, ∃ t : Fin grid0.N, (grid0.coords t 0).val = u ∧ win0_0.index t = ![u, 0] ∧ win0_1.index t = ![min (u + 1) 3, 0]
    ∧ win0_2.index t = ![0, 0] ∧ win0_3.index t = ![u, 0] := by decide +kernel

/-- A row of the weights. -/
theorem row {x : Vec Ideal S4x1536 .f32} {g : ℕ → ℕ → EReal} (hx : IsE (a := 4) (c := 1536) (φ := .f32) x g) (o : ℕ)
    (h : ∀ a, ![o, 0] a + S1x1536.size a ≤ S4x1536.size a) :
    IsE (a := 1) (c := 1536) (φ := .f32) (View.ld x (Rect.unit (s := S4x1536) ![o, 0] S1x1536.size h)) (fun r k => g (o + r) (0 + k)) :=
  hx.blk (Rect.unit (s := S4x1536) ![o, 0] S1x1536.size h).idx o 0 (fun y => by show o + 1 * (y 0).val = _; rw [Nat.one_mul])
    (fun y => by show 0 + 1 * (y 1).val = _; rw [Nat.one_mul])

/-- The kernel's array after the run. -/
theorem array {f g : ℕ → ℕ → EReal} (hg : IsE (a := 4) (c := 1536) (φ := .f32) (V m c main_arg0) g)
    (hf : IsE (a := 2048) (c := 1536) (φ := .f32) (V m c main_arg1) f) :
    IsE (a := 2048) (c := 1536) (φ := .bf16) ((dats m 0 c).arrAt 3 cfg0.N) (convIn f g) := by
  refine IsE.ofBlocks 512 1536 (by decide) (by decide) fun u v hu hv => ?_
  obtain rfl : v = 0 := by omega
  have hu4 : u < 4 := by omega
  obtain ⟨t, ec, e0, e1, e2, e⟩ := tile u hu4
  have b0 : IsE (a := 512) (c := 1536) (φ := .f32) (iblk m c 0 t) _ := hf.blk (((cfg0.win 0).blk t).view.emb) (u * 512) (0 * 1536)
    (fun y => by show win0_0.index t 0 * 512 + 1 * (y 0).val = _; rw [e0, Nat.one_mul]; rfl) (fun y => by show win0_0.index t 1 * 1536 + 1 * (y 1).val = _; rw [e0, Nat.one_mul]; rfl)
  have b1 : IsE (a := 512) (c := 1536) (φ := .f32) (iblk m c 1 t) _ := hf.blk (((cfg0.win 1).blk t).view.emb) (min (u + 1) 3 * 512) (0 * 1536)
    (fun y => by show win0_1.index t 0 * 512 + 1 * (y 0).val = _; rw [e1, Nat.one_mul]; rfl) (fun y => by show win0_1.index t 1 * 1536 + 1 * (y 1).val = _; rw [e1, Nat.one_mul]; rfl)
  have b2 : IsE (a := 4) (c := 1536) (φ := .f32) (iblk m c 2 t) _ := hg.blk (((cfg0.win 2).blk t).view.emb) (0 * 4) (0 * 1536)
    (fun y => by show win0_2.index t 0 * 4 + 1 * (y 0).val = _; rw [e2, Nat.one_mul]; rfl) (fun y => by show win0_2.index t 1 * 1536 + 1 * (y 1).val = _; rw [e2, Nat.one_mul]; rfl)
  refine ⟨((cfg0.win 3).blk t).view.emb, (fun y => by show win0_3.index t 0 * 512 + 1 * (y 0).val = _; rw [e, Nat.one_mul]; rfl), (fun y => by show win0_3.index t 1 * 1536 + 1 * (y 1).val = _; rw [e, Nat.one_mul]; rfl), ?_⟩
  have hX : (fun y => (dats m 0 c).arrAt 3 cfg0.N (((cfg0.win 3).blk t).view.emb y)) = out0_3 (grid0.coords t) (iblk m c 0 t) (iblk m c 1 t) (iblk m c 2 t) := by
    refine ((dats m 0 c).read_blk_arrAt_eq_flushed 3 Cert.Kernel8Ideal.Value.disjoint3 cfg0.N t t.isLt (flush0_3 t)).trans ?_
    show (cfg0.win 3).cut (grid0.coords t) ((dats m 0 c).after 3 t) = _
    rw [after0_3]
    rfl
  refine IsE.of_eq ?_ hX
  have hB : Scalar.cmpi .eq (BitVec.ofNat 32 (grid0.coords t 0).val) 3#32 = 1#1 ↔ u = 3 := by
    rw [ec]; exact WordCmp.cmpi_eq_ofNat_eq_one_iff (by omega) (by omega)
  unfold out0_3 k0_pay1 k0_pay2 k0_pay3
  rw [View.canon_unit_zero zz]
  simp only [View.ld_unit_zero (S := S512x1536) zz]
  have z0 : Scalar.ofBits (F := Ideal) .f32 0x00000000#32 = (0 : EReal) := Ideal.ofBits_zero_f32
  refine ((((b0.mul ((row b2 3 _).rowT _)).add ((b0.up b1 1 (by decide) (by decide) 511#32 rfl _ z0 _ _ _).mul ((row b2 2 _).rowT _))).add
    ((b0.up b1 2 (by decide) (by decide) 510#32 rfl _ z0 _ _ _).mul ((row b2 1 _).rowT _))).add
    ((b0.up b1 3 (by decide) (by decide) 509#32 rfl _ z0 _ _ _).mul ((row b2 0 _).rowT _))).trunc _ |>.congr fun r hr k hk => ?_
  have h0 : f (u * 512 + r) k = past 2048 f (u * 512 + r) k := by unfold past; rw [if_pos (by omega)]
  simp only [Nat.zero_mul, Nat.zero_add, Nat.add_zero]
  rw [up_eq f _ u 1 r k hB hu4 (by omega) hr, up_eq f _ u 2 r k hB hu4 (by omega) hr, up_eq f _ u 3 r k hB hu4 (by omega) hr, h0]
  rfl

end Cert.Kernel8Ideal.Hand

namespace Cert.Reference8Ideal.Hand

open Cert.Reference8Ideal Cert.Reference8Ideal.Gen Cert.Reference8Ideal.Read

/-- The reference's result. -/
theorem result {x0 : FVec Ideal S4x1536 .f32} {x1 : FVec Ideal S2048x1536 .f32} {f g : ℕ → ℕ → EReal}
    (hg : IsE (a := 4) (c := 1536) x0 g) (hf : IsE (a := 2048) (c := 1536) x1 f) :
    IsE (a := 2048) (c := 1536) (φ := .bf16) (val_main_v45 (F := Ideal) x0 x1) (convIn f g) := by
  have hs : IsE (a := 2048) (c := 1536) (φ := .f32) (shapeCast S2048x1536 x1 shapeCasts_S2048x1536_S2048x1536) f := by rw [shapeCast_same]; exact hf
  have zc : ∀ i, constant (F := Ideal) S_ .f32 0x00000000#32 i = (0 : EReal) := fun _ => Ideal.ofBits_zero_f32
  refine IsE.congr (g := convIn f g) (((((((((hg.sliceR 3 _).rowH _).mul hs).padRow 3 0 _ zc _ _).add ((((hg.sliceR 2 _).rowH _).mul hs).padRow 2 1 _ zc _ _)).add
    ((((hg.sliceR 1 _).rowH _).mul hs).padRow 1 2 _ zc _ _)).add ((((hg.sliceR 0 _).rowH _).mul hs).padRow 0 3 _ zc _ _)).sliceR 3 _).trunc bitsLt_bf16_f32) fun r hr k hk => ?_
  have e := pad_eq f
  simp only [e _ 3 r k (by omega), e _ 2 r k (by omega), e _ 1 r k (by omega), e _ 0 r k (by omega)]
  rfl

end Cert.Reference8Ideal.Hand

end
-- ==== Proof.ConvFwd.lean ====
/- The convolution forward: what the kernel's array holds, and the reference's. -/
module

public import proofs.«01_k».proof.Proof.ConvIn
public import proofs.«01_k».proof.Proof.Gen.Kernel9Ideal.Value
public import proofs.«01_k».proof.Proof.Gen.Reference9Ideal.Read

@[expose] public section

set_option maxRecDepth 16384

noncomputable section

open Idealize.ShloMosaic hiding ix2
open Idealize.ShloMosaic.ValueIdx Idealize.ShloMosaic.TcCoe Cert.Attn Idealize.SL.Sem Finset

namespace Cert.Attn

/-- The convolution before its gate: each row takes the three rows above it. -/
def convPre (f g b : ℕ → ℕ → EReal) (r k : ℕ) : EReal :=
  f r k * g 3 k + b 0 k + back 1 f r k * g 2 k + back 2 f r k * g 1 k + back 3 f r k * g 0 k

/-- The logistic function of an extended real. -/
def sigE (x : EReal) : EReal := Ideal.div 1 (1 + Ideal.exp (-x))

/-- The convolution. -/
def convOut (f g b : ℕ → ℕ → EReal) (r k : ℕ) : EReal := convPre f g b r k * sigE (convPre f g b r k)

/-- The logistic function as the kernel writes it, -/
theorem IsE.sigT {a c : ℕ} {X : FVec Ideal (M a c) .f32} {f : ℕ → ℕ → EReal} (hX : IsE X f) :
    IsE (divf (broadcast (M a c) (Scalar.ofBits (F := Ideal) .f32 0x3F800000#32))
      (addf (broadcast (M a c) (Scalar.ofBits (F := Ideal) .f32 0x3F800000#32))
        (exp (subf (broadcast (M a c) (Scalar.ofBits (F := Ideal) .f32 0x00000000#32)) X)))) (fun r k => sigE (f r k)) := fun r k => by
  show Ideal.div (Ideal.ofBits .f32 0x3F800000#32) (Ideal.ofBits .f32 0x3F800000#32 + Ideal.exp (Ideal.ofBits .f32 0x00000000#32 - X (ix2 r k))) = _
  rw [hX r k, Ideal.ofBits_zero_f32, zero_sub, ofBits_one]
  rfl

/-- and as the reference does. -/
theorem IsE.sigH {a c : ℕ} {X : FVec Ideal (M a c) .f32} {f : ℕ → ℕ → EReal} (hX : IsE X f)
    (hb : (⟨0, ![]⟩ : Shape).BroadcastsInDim (M a c) (![] : Fin 0 → Fin 2)) :
    IsE (Host.divf (broadcastInDim (M a c) ![] hb (constant (F := Ideal) ⟨0, ![]⟩ .f32 0x3F800000#32))
      (addf (broadcastInDim (M a c) ![] hb (constant (F := Ideal) ⟨0, ![]⟩ .f32 0x3F800000#32)) (Host.exp (Host.negf X)))) (fun r k => sigE (f r k)) := fun r k => by
  show Ideal.div (Ideal.ofBits .f32 0x3F800000#32) (Ideal.ofBits .f32 0x3F800000#32 + Ideal.exp (-(X (ix2 r k)))) = _
  rw [hX r k, ofBits_one]
  rfl

/-- The columns of a wider array from 1536 on. -/
def mid (f : ℕ → ℕ → EReal) (r k : ℕ) : EReal := if k < 1536 then 0 else if k < 3072 then f r (k - 1536) else 0

/-- The array between zeros. -/
theorem IsE.mid {X : FVec Ideal (M 2048 1536) .f32} {Z : FVec Ideal (M 2048 1536) .f32} {W : FVec Ideal (M 2048 384) .f32} {f : ℕ → ℕ → EReal} (hX : IsE X f)
    (hZ : IsE Z (fun _ _ => 0)) (hW : IsE W (fun _ _ => 0))
    (h : Shape.Concatenates [M 2048 1536, M 2048 1536, M 2048 384] (M 2048 3456) 1) :
    IsE (φ := .f32) (concatenate (M 2048 3456) 1 [⟨M 2048 1536, Z⟩, ⟨M 2048 1536, X⟩, ⟨M 2048 384, W⟩] h) (mid f) := fun r j => by
  have hj := j.isLt
  unfold Cert.Attn.mid
  by_cases h0 : j.val < 1536
  · rw [if_pos h0]; exact catC _ _ 0 (by simp) _ hZ rfl 0 rfl r j (by omega) (by omega)
  rw [if_neg h0]
  by_cases h1 : j.val < 3072
  · rw [if_pos h1]; exact catC _ _ 1 (by simp) _ hX rfl 1536 (by simp [M]) r j (by omega) (by omega)
  · rw [if_neg h1]; exact catC _ _ 2 (by simp) _ hW rfl 3072 (by simp [M]) r j (by omega) (by omega)

/-- The array below three rows of zeros. -/
theorem IsE.below {X : FVec Ideal (M 2048 1536) .f32} {Z : FVec Ideal (M 3 1536) .f32} {f : ℕ → ℕ → EReal} (hX : IsE X f)
    (hZ : IsE Z (fun _ _ => 0)) (h : Shape.Concatenates [M 3 1536, M 2048 1536] (M 2051 1536) 0) :
    IsE (φ := .f32) (concatenate (M 2051 1536) 0 [⟨M 3 1536, Z⟩, ⟨M 2048 1536, X⟩] h) (back 3 f) := fun r j => by
  have hr := r.isLt
  unfold back
  by_cases h0 : 3 ≤ r.val
  · rw [if_pos h0]; exact catR _ _ 1 (by simp) _ hX rfl 3 (by simp [M]) r j (by omega) (by omega)
  · rw [if_neg h0]; exact catR _ _ 0 (by simp) _ hZ rfl 0 rfl r j (by omega) (by omega)

/-- A row further down in it. -/
theorem back_add (f : ℕ → ℕ → EReal) (o r k : ℕ) (ho : o ≤ 3) : back 3 f (o + r) k = back (3 - o) f r k := by
  unfold back
  by_cases h : 3 - o ≤ r
  · rw [if_pos (by omega), if_pos h]; congr 1; omega
  · rw [if_neg (by omega), if_neg h]

/-- No row further up. -/
theorem back_zero (f : ℕ → ℕ → EReal) (r k : ℕ) : back 0 f r k = f r k := rfl

end Cert.Attn

namespace Cert.Kernel9Ideal.Hand

open Cert.Kernel9Ideal Cert.Kernel9Ideal.Gen

variable (m : (ℓ : Loc nD τ sig) → Buf (Elt Ideal) ℓ) (c : Dev nD)

/-- Every block of rows has its grid point, and the windows' blocks there. -/
theorem tile : ∀ u < 4, ∃ t : Fin grid0.N, (grid0.coords t 0).val = u ∧ win0_0.index t = ![u, 1] ∧ win0_1.index t = ![u - 1, 1]
    ∧ win0_2.index t = ![0, 0] ∧ win0_3.index t = ![0, 0] ∧ win0_4.index t = ![u, 0] := by decide +kernel

theorem V_v2 : V m c main_v2 = concatenate S2048x3456 1 [⟨S2048x1536, broadcastInDim S2048x1536 ![] bcast_S_S2048x1536 (constant (F := Ideal) S_ .f32 0x00000000#32)⟩,
    ⟨S2048x1536, m ((c.tc : Thread nD τ).loc main_arg0)⟩, ⟨S2048x384, broadcastInDim S2048x384 ![] bcast_S_S2048x384 (constant (F := Ideal) S_ .f32 0x00000000#32)⟩]
    concatenates_S2048x1536_S2048x1536_S2048x384_S2048x3456_d1 := by
  show StableHlo.after hostOps0 (fun b => m (c, b)) (Proc.tc.devRef main_v2) = _
  rfl

/-- What a whole load of a staging buffer reads. -/
theorem whole {s : Shape} (arg : Memref sig .tc .vmem s .f32) (harg : arg.IsWhole) (x : Vec Ideal s .f32) {z : Fin s.rank → ℕ} (hz : z = fun _ => 0)
    (inb : ∀ a, z a + s.size a ≤ s.size a) : View.readAt (Elt Ideal) arg.view (Rect.unit (s := s) z s.size inb).toLoadRect (harg.unread x) = x := by
  rw [View.readAt_eq_ld, harg.read_unread]; exact View.ld_unit_zero hz ..

/-- A row of the weights. -/
theorem row (arg : Memref sig .tc .vmem S4x1536 .f32) (harg : arg.IsWhole) {x : Vec Ideal S4x1536 .f32} {g : ℕ → ℕ → EReal} (hx : IsE (a := 4) (c := 1536) (φ := .f32) x g) (o : ℕ)
    (h : ∀ a, ![o, 0] a + S1x1536.size a ≤ S4x1536.size a) :
    IsE (a := 1) (c := 1536) (φ := .f32) (View.readAt (Elt Ideal) arg.view (Rect.unit (s := S4x1536) ![o, 0] S1x1536.size h).toLoadRect (harg.unread x)) (fun r k => g (o + r) (0 + k)) := by
  rw [View.readAt_eq_ld, harg.read_unread]
  exact hx.blk (Rect.unit (s := S4x1536) ![o, 0] S1x1536.size h).idx o 0 (fun y => by show o + 1 * (y 0).val = _; rw [Nat.one_mul])
    (fun y => by show 0 + 1 * (y 1).val = _; rw [Nat.one_mul])

/-- What a grid point leaves in its block of the result. -/
theorem left (i : grid0.Coords) (arg1 : Memref sig .tc .vmem S512x1536 .f32) (h1 : arg1.IsWhole) (arg2 : Memref sig .tc .vmem S512x1536 .f32) (h2 : arg2.IsWhole)
    (arg3 : Memref sig .tc .vmem S4x1536 .f32) (h3 : arg3.IsWhole) (arg4 : Memref sig .tc .vmem S1x1536 .f32) (h4 : arg4.IsWhole)
    (arg5 : Memref sig .tc .vmem S512x1536 .f32) (h5 : arg5.IsWhole) {x0 x1 : Vec Ideal S512x1536 .f32} {x2 : Vec Ideal S4x1536 .f32} {x3 : Vec Ideal S1x1536 .f32}
    {f g b : ℕ → ℕ → EReal} (u : ℕ) (hu : u < 4) (hi : (i 0).val = u)
    (p0 : IsE (a := 512) (c := 1536) (φ := .f32) x0 (fun r k => f (u * 512 + r) k)) (p1 : IsE (a := 512) (c := 1536) (φ := .f32) x1 (fun r k => f ((u - 1) * 512 + r) k))
    (p2 : IsE (a := 4) (c := 1536) (φ := .f32) x2 g) (p3 : IsE (a := 1) (c := 1536) (φ := .f32) x3 b) :
    IsE (a := 512) (c := 1536) (φ := .f32) (out0_A_4 c i arg1 h1 arg2 h2 arg3 h3 arg4 h4 arg5 h5 x0 x1 x2 x3) (fun r k => convOut f g b (u * 512 + r) k) := by
  have hB : Scalar.cmpi .eq (BitVec.ofNat 32 (i 0).val) 0#32 = 1#1 ↔ u = 0 := by
    rw [hi]; exact WordCmp.cmpi_eq_ofNat_eq_one_iff (by omega) (by omega)
  have z0 : Scalar.ofBits (F := Ideal) .f32 0x00000000#32 = (0 : EReal) := Ideal.ofBits_zero_f32
  have e : out0_A_4 c i arg1 h1 arg2 h2 arg3 h3 arg4 h4 arg5 h5 x0 x1 x2 x3 = View.canon [⟨Rect.unit (s := S512x1536) ![0, 0] S512x1536.size inb_S512x1536_S512x1536_0_0, _⟩] :=
    View.read_writes_junk_eq_canon _ _
  rw [e, View.canon_unit_zero zz]
  unfold kernelRun0_A.sl.r kernelRun0_A.sl.v5 kernelRun0_A.sl.v6 kernelRun0_A.sl.r_1 kernelRun0_A.sl.r_2
  rw [whole arg1 h1 x0 zz, whole arg2 h2 x1 zz, whole arg4 h4 x3 zz]
  unfold k0_pay1 k0_pay4 k0_pay5 k0_pay6 k0_pay3 k0_pay2
  rw [shapeCast_same, shapeCast_same]
  have q : IsE (a := 512) (c := 1536) (φ := .f32) _ (fun r k => convPre f g b (u * 512 + r) k) := IsE.congr
    (((((p0.mul ((row arg3 h3 p2 3 inb_S4x1536_S1x1536_3_0).rowT broadcasts_S1x1536_S512x1536)).add (p3.rowT broadcasts_S1x1536_S512x1536)).add
    ((p0.down p1 1 (by decide) (by decide) 1#32 rfl _ z0 (Scalar.cmpi .eq (BitVec.ofNat 32 (i 0).val) 0#32) iota_S512x1536_d0_w32 rotates_S512x1536_d0).mul ((row arg3 h3 p2 2 inb_S4x1536_S1x1536_2_0).rowT broadcasts_S1x1536_S512x1536))).add
    ((p0.down p1 2 (by decide) (by decide) 2#32 rfl _ z0 (Scalar.cmpi .eq (BitVec.ofNat 32 (i 0).val) 0#32) iota_S512x1536_d0_w32 rotates_S512x1536_d0).mul ((row arg3 h3 p2 1 inb_S4x1536_S1x1536_1_0).rowT broadcasts_S1x1536_S512x1536))).add
    ((p0.down p1 3 (by decide) (by decide) 3#32 rfl _ z0 (Scalar.cmpi .eq (BitVec.ofNat 32 (i 0).val) 0#32) iota_S512x1536_d0_w32 rotates_S512x1536_d0).mul ((row arg3 h3 p2 0 inb_S4x1536_S1x1536_0_0).rowT broadcasts_S1x1536_S512x1536))) fun r hr k hk => by
      beta_reduce
      rw [down_eq f _ u 1 r k hB (by omega) hr, down_eq f _ u 2 r k hB (by omega) hr, down_eq f _ u 3 r k hB (by omega) hr]
      simp only [Nat.zero_add, Nat.add_zero]
      rfl
  exact q.mul q.sigT

/-- Window 0's block at a grid point. -/
theorem cur {f : ℕ → ℕ → EReal} (hV : IsE (a := 2048) (c := 3456) (φ := .f32) (V m c main_v2) (mid f)) (t : Fin grid0.N) (u : ℕ) (e : win0_0.index t = ![u, 1]) :
    IsE (a := 512) (c := 1536) (φ := .f32) (X0_0 m c t) (fun r k => f (u * 512 + r) k) := fun r l => by
  have hl := l.isLt
  unfold X0_0 Pipeline.Window.fill
  rw [dif_pos (moved0_0 t _)]
  refine (hV.e2 (((cfg0.win 0).blk t).view.emb _)).trans ?_
  rw [show ((((cfg0.win 0).blk t).view.emb _ : S2048x3456.Idx) 0).val = u * 512 + r.val by show win0_0.index t 0 * 512 + 1 * r.val = _; rw [e, Nat.one_mul]; rfl,
    show ((((cfg0.win 0).blk t).view.emb _ : S2048x3456.Idx) 1).val = 1 * 1536 + l.val by show win0_0.index t 1 * 1536 + 1 * l.val = _; rw [e, Nat.one_mul]; rfl]
  unfold mid
  rw [if_neg (by omega), if_pos (by omega)]
  congr 1
  omega

/-- Window 1's block at a grid point. -/
theorem prev {f : ℕ → ℕ → EReal} (hV : IsE (a := 2048) (c := 3456) (φ := .f32) (V m c main_v2) (mid f)) (t : Fin grid0.N) (u : ℕ) (e : win0_1.index t = ![u, 1]) :
    IsE (a := 512) (c := 1536) (φ := .f32) (X0_1 m c t) (fun r k => f (u * 512 + r) k) := fun r l => by
  have hl := l.isLt
  unfold X0_1 Pipeline.Window.fill
  rw [dif_pos (moved0_1 t _)]
  refine (hV.e2 (((cfg0.win 1).blk t).view.emb _)).trans ?_
  rw [show ((((cfg0.win 1).blk t).view.emb _ : S2048x3456.Idx) 0).val = u * 512 + r.val by show win0_1.index t 0 * 512 + 1 * r.val = _; rw [e, Nat.one_mul]; rfl,
    show ((((cfg0.win 1).blk t).view.emb _ : S2048x3456.Idx) 1).val = 1 * 1536 + l.val by show win0_1.index t 1 * 1536 + 1 * l.val = _; rw [e, Nat.one_mul]; rfl]
  unfold mid
  rw [if_neg (by omega), if_pos (by omega)]
  congr 1
  omega

/-- A block of the result after the run is what its grid point left. -/
theorem block (t : Fin cfg0.N) : (fun y => (dats m 0 c).arrAt 4 cfg0.N (((cfg0.win 4).blk t).view.emb y)) = outsAt0 m c t := by
  refine ((dats m 0 c).read_blk_arrAt_eq_flushed 4 Cert.Kernel9Ideal.Value.disjoint4 cfg0.N t t.isLt (flush0_4 t)).trans ?_
  show (cfg0.win 4).cut (grid0.coords t) ((dats m 0 c).after 4 t) = _
  rw [after0_4]
  rfl

/-- What a grid point leaves, in terms of the arguments. -/
theorem left' {f g b : ℕ → ℕ → EReal} (hV : IsE (a := 2048) (c := 3456) (φ := .f32) (V m c main_v2) (mid f)) (t : Fin grid0.N) (u : ℕ) (hu : u < 4) (ec : (grid0.coords t 0).val = u)
    (e0 : win0_0.index t = ![u, 1]) (e1 : win0_1.index t = ![u - 1, 1])
    (b2 : IsE (a := 4) (c := 1536) (φ := .f32) (iblk m c 2 t) g) (b3 : IsE (a := 1) (c := 1536) (φ := .f32) (iblk m c 3 t) b) :
    IsE (a := 512) (c := 1536) (φ := .f32) (outsAt0 m c t) (fun r k => convOut f g b (u * 512 + r) k) := by
  unfold outsAt0
  exact left c (grid0.coords t) (ms0_0 t) (hs0_0 t) (ms0_1 t) (hs0_1 t) (ms0_2 t) (hs0_2 t) (ms0_3 t) (hs0_3 t) (ms0_4 t) (hs0_4 t) u hu ec (cur m c hV t u e0) (prev m c hV t (u - 1) e1) b2 b3

/-- The kernel's array after the run. -/
theorem array {f g b : ℕ → ℕ → EReal} (hf : IsE (a := 2048) (c := 1536) (φ := .f32) (m ((c.tc : Thread nD τ).loc main_arg0)) f)
    (hg : IsE (a := 4) (c := 1536) (φ := .f32) (V m c main_arg1) g) (hb : IsE (a := 1) (c := 1536) (φ := .f32) (V m c main_arg2) b) :
    IsE (a := 2048) (c := 1536) (φ := .f32) ((dats m 0 c).arrAt 4 cfg0.N) (convOut f g b) := by
  have hV : IsE (a := 2048) (c := 3456) (φ := .f32) (V m c main_v2) (mid f) := by
    rw [V_v2]
    exact IsE.mid hf (IsE.zeros Ideal.ofBits_zero_f32 _) (IsE.zeros Ideal.ofBits_zero_f32 _) _
  refine IsE.ofBlocks 512 1536 (by decide) (by decide) fun u v hu hv => ?_
  obtain rfl : v = 0 := by omega
  have hu4 : u < 4 := by omega
  obtain ⟨t, ec, e0, e1, e2, e3, e⟩ := tile u hu4
  have b2 : IsE (a := 4) (c := 1536) (φ := .f32) (iblk m c 2 t) g := (hg.blk (((cfg0.win 2).blk t).view.emb) 0 0
    (fun y => by show win0_2.index t 0 * 4 + 1 * (y 0).val = _; rw [e2, Nat.one_mul]; rfl) (fun y => by show win0_2.index t 1 * 1536 + 1 * (y 1).val = _; rw [e2, Nat.one_mul]; rfl)).congr
    fun r _ k _ => by simp only [Nat.zero_add]
  have b3 : IsE (a := 1) (c := 1536) (φ := .f32) (iblk m c 3 t) b := (hb.blk (((cfg0.win 3).blk t).view.emb) 0 0
    (fun y => by show win0_3.index t 0 * 1 + 1 * (y 0).val = _; rw [e3, Nat.one_mul]; rfl) (fun y => by show win0_3.index t 1 * 1536 + 1 * (y 1).val = _; rw [e3, Nat.one_mul]; rfl)).congr
    fun r _ k _ => by simp only [Nat.zero_add]
  refine ⟨((cfg0.win 4).blk t).view.emb, (fun y => by show win0_4.index t 0 * 512 + 1 * (y 0).val = _; rw [e, Nat.one_mul]; rfl), (fun y => by show win0_4.index t 1 * 1536 + 1 * (y 1).val = _; rw [e, Nat.one_mul]; rfl), ?_⟩
  exact ((left' m c hV t u hu4 ec e0 e1 b2 b3).congr fun r _ k _ => by rw [Nat.zero_mul, Nat.zero_add]).of_eq (block m c t)

end Cert.Kernel9Ideal.Hand

namespace Cert.Reference9Ideal.Hand

open Cert.Reference9Ideal Cert.Reference9Ideal.Gen Cert.Reference9Ideal.Read

/-- The reference's result. -/
theorem result {x0 : FVec Ideal S2048x1536 .f32} {x1 : FVec Ideal S4x1536 .f32} {x2 : FVec Ideal S1x1536 .f32} {f g b : ℕ → ℕ → EReal}
    (hf : IsE (a := 2048) (c := 1536) x0 f) (hg : IsE (a := 4) (c := 1536) x1 g) (hb : IsE (a := 1) (c := 1536) x2 b) :
    IsE (a := 2048) (c := 1536) (φ := .f32) (val_main_v23 (F := Ideal) x0 x1 x2) (convOut f g b) := by
  have h1 : IsE (a := 2051) (c := 1536) (φ := .f32) (val_main_v1 (F := Ideal) x0) (back 3 f) := IsE.below hf (IsE.zeros Ideal.ofBits_zero_f32 _) _
  have h22 : IsE (a := 2048) (c := 1536) (φ := .f32) (val_main_v22 (F := Ideal) x0 x1 x2) (convPre f g b) :=
    ((((((((hg.sliceR 0 _).rowH _).mul (h1.sliceR 0 _)).add (((hg.sliceR 1 _).rowH _).mul (h1.sliceR 1 _))).add
      (((hg.sliceR 2 _).rowH _).mul (h1.sliceR 2 _))).add (((hg.sliceR 3 _).rowH _).mul (h1.sliceR 3 _))).add (hb.rowH _))).congr fun r hr k hk => by
      beta_reduce
      rw [back_add f 0 r k (by omega), back_add f 1 r k (by omega), back_add f 2 r k (by omega), back_add f 3 r k (by omega)]
      show g 0 k * back 3 f r k + g 1 k * back 2 f r k + g 2 k * back 1 f r k + g 3 k * back 0 f r k + b 0 k = _
      unfold convPre
      rw [back_zero, mul_comm (g 0 k), mul_comm (g 1 k), mul_comm (g 2 k), mul_comm (g 3 k)]
      ac_rfl
  exact h22.mul (IsE.sigH h22 _)

end Cert.Reference9Ideal.Hand

end
-- ==== Proof.ConvSum.lean ====
/- The convolution's gradients as sums over rows, and the column sums that make them. -/
module

public import proofs.«01_k».proof.Proof.ConvFwd
public import proofs.«01_k».proof.Proof.FwdBody

@[expose] public section

set_option maxRecDepth 16384

noncomputable section

open Idealize.ShloMosaic hiding ix1 ix2
open Idealize.ShloMosaic.ValueIdx Idealize.ShloMosaic.TcCoe Cert.Attn Idealize.SL.Sem Finset

namespace Cert.Attn

/-- The gradient before the gate: the cotangent times the gate's derivative. -/
def convDa (f g b t : ℕ → ℕ → EReal) (r k : ℕ) : EReal :=
  t r k * (sigE (convPre f g b r k) * (1 + convPre f g b r k * (1 - sigE (convPre f g b r k))))

/-- The gradient of the weights over the first `n` rows. -/
def convDw (d f : ℕ → ℕ → EReal) (n r k : ℕ) : EReal := ∑ x ∈ range n, d x k * back (3 - r) f x k

/-- The gradient of the bias over the first `n` rows. -/
def convDb (d : ℕ → ℕ → EReal) (n _r k : ℕ) : EReal := ∑ x ∈ range n, d x k

variable {a c : ℕ} {φ : FTy} {f : ℕ → ℕ → EReal}

theorem IsE.sub {X Y : FVec Ideal (M a c) φ} {g : ℕ → ℕ → EReal} (hX : IsE X f) (hY : IsE Y g) : IsE (subf X Y) (fun r k => f r k - g r k) := fun r k => by
  show X (ix2 r k) - Y (ix2 r k) = _
  rw [hX r k, hY r k]

/-- A tile of ones. -/
theorem IsE.ones : IsE (a := a) (c := c) (φ := .f32) (broadcast (M a c) (Scalar.ofBits (F := Ideal) .f32 0x3F800000#32)) (fun _ _ => 1) :=
  fun _ _ => ofBits_one

/-- The lift of a column number through a reduction over the rows. -/
theorem lift_col (h : (M a c).Reduces [0] ⟨1, ![c]⟩) (r : Fin c) (k : Fin a) : h.lift (ix1 r) k = ix2 k r := by
  funext x; apply Fin.ext
  match x with
  | ⟨0, _⟩ => rfl
  | ⟨1, _⟩ => rfl

/-- A vector as one row. -/
theorem row_apply {α : Type} (v : (⟨1, ![c]⟩ : Shape).Idx → α) (h : (⟨1, ![c]⟩ : Shape).ShapeCasts (M 1 c)) (r : Fin 1) (k : Fin c) :
    shapeCast (M 1 c) v h (ix2 r k) = v (ix1 k) :=
  shapeCast_apply v h _ (ix1 k) (by
    rw [Shape.rowMajor_val_one, Shape.rowMajor_val_two]; show k.val = r.val * c + k.val; rw [Fin.val_eq_zero r]; omega)

/-- The column sums of a tile. -/
theorem IsE.colT {X : FVec Ideal (M a c) φ} (hX : IsE X f) (acc : BitVec φ.bits) (h : (M a c).Reduces [0] ⟨1, ![c]⟩) (hφ : FKind.Formats φ)
    (hacc : acc = FKind.add.neutral φ hφ) (h1 : (⟨1, ![c]⟩ : Shape).ShapeCasts (M 1 c)) :
    IsE (φ := φ) (shapeCast (M 1 c) (multiReduction .add [0] ⟨1, ![c]⟩ X acc h hφ hacc) h1) (fun _ k => ∑ x ∈ range a, f x k) := fun r k => by
  rw [row_apply, Ideal.multiReduction_add_single]
  exact sum_fin_range _ (fun x => f x k.val) fun x => (congrArg X (lift_col h k x)).trans (hX x k)

/-- The column sums on the host. -/
theorem IsE.colH {X : FVec Ideal (M a c) φ} (hX : IsE X f) {u : Shape} (init : u.Idx → Ideal φ) (h : (M a c).ReducesTo [0] ⟨1, ![c]⟩) (hu : 0 < u.numel)
    (h0 : ∀ i, init i = 0) (h2 : (M a c).Reduces [0] ⟨1, ![c]⟩) (h1 : (⟨1, ![c]⟩ : Shape).ShapeCasts (M 1 c)) :
    IsE (φ := φ) (shapeCast (M 1 c) (Host.reduceAdd X init h hu) h1) (fun _ k => ∑ x ∈ range a, f x k) := fun r k => by
  rw [row_apply]
  show Ideal.hostReduceAdd _ _ _ _ = _
  rw [Ideal.hostReduceAdd_single h h2, h0, zero_add]
  exact sum_fin_range _ (fun x => f x k.val) fun x => (congrArg X (lift_col h2 k x)).trans (hX x k)

/-- Four rows stored one by one. -/
theorem four {c : ℕ} {H : List (View.Piece (Elt Ideal) (M 4 c) .f32)} {X0 X1 X2 X3 : (M 1 c).Idx → Elt Ideal .f32} {F : ℕ → ℕ → EReal}
    (i0 : ∀ a, (![0, 0] : Fin 2 → ℕ) a + (M 1 c).size a ≤ (M 4 c).size a) (i1 : ∀ a, (![1, 0] : Fin 2 → ℕ) a + (M 1 c).size a ≤ (M 4 c).size a)
    (i2 : ∀ a, (![2, 0] : Fin 2 → ℕ) a + (M 1 c).size a ≤ (M 4 c).size a) (i3 : ∀ a, (![3, 0] : Fin 2 → ℕ) a + (M 1 c).size a ≤ (M 4 c).size a)
    (h0 : IsE (a := 1) (c := c) (φ := .f32) X0 (fun r k => F (0 + r) k)) (h1 : IsE (a := 1) (c := c) (φ := .f32) X1 (fun r k => F (1 + r) k)) (h2 : IsE (a := 1) (c := c) (φ := .f32) X2 (fun r k => F (2 + r) k)) (h3 : IsE (a := 1) (c := c) (φ := .f32) X3 (fun r k => F (3 + r) k)) :
    IsE (a := 4) (c := c) (φ := .f32) (View.canon (⟨Rect.unit (s := M 4 c) ![0, 0] (M 1 c).size i0, X0⟩ :: ⟨Rect.unit (s := M 4 c) ![1, 0] (M 1 c).size i1, X1⟩ ::
      ⟨Rect.unit (s := M 4 c) ![2, 0] (M 1 c).size i2, X2⟩ :: ⟨Rect.unit (s := M 4 c) ![3, 0] (M 1 c).size i3, X3⟩ :: H)) F := fun r k => by
  match r with
  | ⟨0, h⟩ => exact (canon_in (e := .f32) i0 X0 _ ⟨0, h⟩ k 0 rfl).trans (h0 0 k)
  | ⟨1, h⟩ => exact (canon_out (e := .f32) i0 X0 _ ⟨1, h⟩ k (by show ¬(0 ≤ 1 ∧ 1 < 0 + 1); omega)).trans ((canon_in (e := .f32) i1 X1 _ ⟨1, h⟩ k 0 rfl).trans (h1 0 k))
  | ⟨2, h⟩ => exact (canon_out (e := .f32) i0 X0 _ ⟨2, h⟩ k (by show ¬(0 ≤ 2 ∧ 2 < 0 + 1); omega)).trans ((canon_out (e := .f32) i1 X1 _ ⟨2, h⟩ k (by show ¬(1 ≤ 2 ∧ 2 < 1 + 1); omega)).trans
      ((canon_in (e := .f32) i2 X2 _ ⟨2, h⟩ k 0 rfl).trans (h2 0 k)))
  | ⟨3, h⟩ => exact (canon_out (e := .f32) i0 X0 _ ⟨3, h⟩ k (by show ¬(0 ≤ 3 ∧ 3 < 0 + 1); omega)).trans ((canon_out (e := .f32) i1 X1 _ ⟨3, h⟩ k (by show ¬(1 ≤ 3 ∧ 3 < 1 + 1); omega)).trans
      ((canon_out (e := .f32) i2 X2 _ ⟨3, h⟩ k (by show ¬(2 ≤ 3 ∧ 3 < 2 + 1); omega)).trans ((canon_in (e := .f32) i3 X3 _ ⟨3, h⟩ k 0 rfl).trans (h3 0 k))))

/-- A row loaded from what was stored. -/
theorem cov_row {c n : ℕ} {sig : RefSig} (v : View sig .tc .vmem (M n c) .f32) {H : List (View.Piece (Elt Ideal) (M n c) .f32)} {F : ℕ → EReal} (o : ℕ) (ho : o < n)
    (hH : ∀ k : Fin c, View.canon H (ix2 (⟨o, ho⟩ : Fin n) k) = F k.val) (inb : ∀ a, (![o, 0] : Fin 2 → ℕ) a + (M 1 c).size a ≤ (M n c).size a) :
    IsE (a := 1) (c := c) (φ := .f32) (v.readCov H (Rect.unit (s := M n c) ![o, 0] (M 1 c).size inb).toLoadRect) (fun _ k => F k) := fun r k => by
  rw [View.readCov_eq_canon']
  refine (congrArg (View.canon H) (?_ : _ = ix2 (⟨o, ho⟩ : Fin n) k)).trans (hH k)
  funext a
  refine Fin.ext ?_
  match a with
  | ⟨0, _⟩ => show o + 1 * r.val = o; rw [Fin.val_eq_zero r]; omega
  | ⟨1, _⟩ => show 0 + 1 * k.val = k.val; omega

end Cert.Attn

end
-- ==== Proof.ConvPre.lean ====
/- The convolution's gradients: what the kernel's three arrays hold. -/
module

public import proofs.«01_k».proof.Proof.ConvSum
public import proofs.«01_k».proof.Proof.Gen.Kernel7Ideal.Value

@[expose] public section

set_option maxRecDepth 16384

noncomputable section

open Idealize.ShloMosaic hiding ix1 ix2
open Idealize.ShloMosaic.ValueIdx Idealize.ShloMosaic.TcCoe Cert.Attn Idealize.SL.Sem Finset

namespace Cert.Kernel7Ideal.Hand

open Cert.Kernel7Ideal Cert.Kernel7Ideal.Gen

variable (m : (ℓ : Loc nD τ sig) → Buf (Elt Ideal) ℓ) (c : Dev nD)

/-- 512 rows of 1536 columns with the entries `f`. -/
abbrev E512 (X : FVec Ideal (M 512 1536) .f32) (f : ℕ → ℕ → EReal) : Prop := IsE X f

/-- Four rows of 1536 columns with the entries `f`. -/
abbrev E4 (X : FVec Ideal (M 4 1536) .f32) (f : ℕ → ℕ → EReal) : Prop := IsE X f

/-- One row of 1536 columns with the entries `f`. -/
abbrev E1 (X : FVec Ideal (M 1 1536) .f32) (f : ℕ → ℕ → EReal) : Prop := IsE X f

/-- What a whole load of a staging buffer reads. -/
theorem whole {s : Shape} (arg : Memref sig .tc .vmem s .f32) (harg : arg.IsWhole) (x : Vec Ideal s .f32) {z : Fin s.rank → ℕ} (hz : z = fun _ => 0)
    (inb : ∀ a, z a + s.size a ≤ s.size a) : View.readAt (Elt Ideal) arg.view (Rect.unit (s := s) z s.size inb).toLoadRect (harg.unread x) = x := by
  rw [View.readAt_eq_ld, harg.read_unread]; exact View.ld_unit_zero hz ..

/-- A row of the weights. -/
theorem row (arg : Memref sig .tc .vmem S4x1536 .f32) (harg : arg.IsWhole) {x : Vec Ideal S4x1536 .f32} {g : ℕ → ℕ → EReal} (hx : E4 x g) (o : ℕ)
    (h : ∀ a, ![o, 0] a + S1x1536.size a ≤ S4x1536.size a) :
    E1 (View.readAt (Elt Ideal) arg.view (Rect.unit (s := S4x1536) ![o, 0] S1x1536.size h).toLoadRect (harg.unread x)) (fun r k => g (o + r) (0 + k)) := by
  rw [View.readAt_eq_ld, harg.read_unread]
  exact hx.blk (Rect.unit (s := S4x1536) ![o, 0] S1x1536.size h).idx o 0 (fun y => by show o + 1 * (y 0).val = _; rw [Nat.one_mul])
    (fun y => by show 0 + 1 * (y 1).val = _; rw [Nat.one_mul])

section

variable (i : grid0.Coords) {f g b t : ℕ → ℕ → EReal} {d : ℕ → ℕ → EReal} {u : ℕ} {x0 x1 x4 D : FVec Ideal S512x1536 .f32} {x3 w0 w1 w2 w3 A : FVec Ideal S1x1536 .f32} {h : ℕ → ℕ → EReal}

theorem first (hu : u < 4) (hi : (i 0).val = u) : Scalar.cmpi .eq (BitVec.ofNat 32 (i 0).val) 0#32 = 1#1 ↔ u = 0 := by
  rw [hi]; exact WordCmp.cmpi_eq_ofNat_eq_one_iff (by omega) (by omega)

/-- A tile's rows moved down. -/
theorem moved (hu : u < 4) (hi : (i 0).val = u)
    (p0 : E512 x0 (fun r k => f (u * 512 + r) k)) (p1 : E512 x1 (fun r k => f ((u - 1) * 512 + r) k))
    (j : ℕ) (hj0 : 0 < j) (hj : j < 512) (w : BitVec 32) (hw : w = BitVec.ofNat 32 j) :
    E512 (select (cmpi .sge (iota .tc S512x1536 32 [0] iota_S512x1536_d0_w32) (broadcast S512x1536 w)) (dynamicRotate 0 w none x0 rotates_S512x1536_d0)
      (Scalar.select (Scalar.cmpi .eq (BitVec.ofNat 32 (i 0).val) 0#32) (broadcast S512x1536 (Scalar.ofBits (F := Ideal) .f32 0x00000000#32)) (dynamicRotate 0 w none x1 rotates_S512x1536_d0)))
      (fun r k => back j f (u * 512 + r) k) :=
  (p0.down p1 j hj0 hj w hw _ Ideal.ofBits_zero_f32 _ iota_S512x1536_d0_w32 rotates_S512x1536_d0).congr fun r hr k _ =>
    down_eq f _ u j r k (first i hu hi) (by omega) hr

/-- The gradient before the gate at a grid point. -/
theorem da_val (hu : u < 4) (hi : (i 0).val = u)
    (p0 : E512 x0 (fun r k => f (u * 512 + r) k)) (p1 : E512 x1 (fun r k => f ((u - 1) * 512 + r) k))
    (p3 : E1 x3 b) (p4 : E512 x4 (fun r k => t (u * 512 + r) k))
    (q0 : E1 w0 (fun r k => g (0 + r) (0 + k))) (q1 : E1 w1 (fun r k => g (1 + r) (0 + k)))
    (q2 : E1 w2 (fun r k => g (2 + r) (0 + k))) (q3 : E1 w3 (fun r k => g (3 + r) (0 + k))) :
    E512 (k0_pay7 (F := Ideal) (Scalar.cmpi .eq (BitVec.ofNat 32 (i 0).val) 0#32) (k0_pay2 x0) (iota .tc S512x1536 32 [0] iota_S512x1536_d0_w32)
      (k0_pay4 i x0 x1 x3 w3 w2 w1) (k0_pay5 x1) k0_pay6 w0 x4) (fun r k => convDa f g b t (u * 512 + r) k) := by
  unfold k0_pay7 k0_pay4 k0_pay5 k0_pay6 k0_pay3 k0_pay2
  rw [shapeCast_same, shapeCast_same]
  have q : E512 _ (fun r k => convPre f g b (u * 512 + r) k) := IsE.congr
    (((((p0.mul (q3.rowT broadcasts_S1x1536_S512x1536)).add (p3.rowT broadcasts_S1x1536_S512x1536)).add
    ((moved i hu hi p0 p1 1 (by decide) (by decide) 1#32 rfl).mul (q2.rowT broadcasts_S1x1536_S512x1536))).add
    ((moved i hu hi p0 p1 2 (by decide) (by decide) 2#32 rfl).mul (q1.rowT broadcasts_S1x1536_S512x1536))).add
    ((moved i hu hi p0 p1 3 (by decide) (by decide) 3#32 rfl).mul (q0.rowT broadcasts_S1x1536_S512x1536))) fun r hr k hk => by
      simp only [Nat.zero_add, Nat.add_zero]
      rfl
  exact p4.mul (q.sigT.mul (IsE.ones.add (q.mul (IsE.ones.sub q.sigT))))

/-- One more block of rows in the bias's gradient, -/
theorem db_step (hD : E512 D (fun r k => d (u * 512 + r) k)) (hA : E1 A (convDb d (u * 512))) :
    E1 (addf (shapeCast S1x1536 A shapeCasts_S1x1536_S1x1536) (shapeCast S1x1536 (multiReduction (F := Ideal) .add [0] S1536 D 0x00000000#32 reduces_S512x1536_S1536 (.inl rfl) rfl) shapeCasts_S1536_S1x1536))
      (convDb d ((u + 1) * 512)) :=
  ((hA.same _).add (hD.colT _ _ _ _ _)).congr fun r _ k _ => by
    unfold convDb
    rw [Nat.succ_mul, sum_range_add]

/-- and in a row of the weights' gradient. -/
theorem dw_step (j : ℕ) (hj : j ≤ 3) (hD : E512 D (fun r k => d (u * 512 + r) k)) {X : FVec Ideal S512x1536 .f32}
    (hX : E512 X (fun r k => back (3 - j) f (u * 512 + r) k))
    (hA : E1 A (fun r k => convDw d f (u * 512) (j + r) (0 + k))) :
    E1 (addf (shapeCast S1x1536 A shapeCasts_S1x1536_S1x1536) (shapeCast S1x1536 (multiReduction (F := Ideal) .add [0] S1536 (mulf D X) 0x00000000#32 reduces_S512x1536_S1536 (.inl rfl) rfl) shapeCasts_S1536_S1x1536))
      (fun r k => convDw d f ((u + 1) * 512) (j + r) k) :=
  ((hA.same _).add ((hD.mul hX).colT _ _ _ _ _)).congr fun r hr k _ => by
    obtain rfl : r = 0 := by omega
    unfold convDw
    beta_reduce
    rw [Nat.succ_mul, sum_range_add, Nat.zero_add, Nat.add_zero]

end

section

variable (i : grid0.Coords) (arg1 : Memref sig .tc .vmem S512x1536 .f32) (h1 : arg1.IsWhole) (arg2 : Memref sig .tc .vmem S512x1536 .f32) (h2 : arg2.IsWhole)
  (arg3 : Memref sig .tc .vmem S4x1536 .f32) (h3 : arg3.IsWhole) (arg4 : Memref sig .tc .vmem S1x1536 .f32) (h4 : arg4.IsWhole)
  (arg5 : Memref sig .tc .vmem S512x1536 .f32) (h5 : arg5.IsWhole) (arg6 : Memref sig .tc .vmem S512x1536 .f32) (h6 : arg6.IsWhole)
  (arg7 : Memref sig .tc .vmem S4x1536 .f32) (h7 : arg7.IsWhole) (arg8 : Memref sig .tc .vmem S1x1536 .f32) (h8 : arg8.IsWhole)
  {x0 x1 x4 : Vec Ideal S512x1536 .f32} {x2 x6 : Vec Ideal S4x1536 .f32} {x3 x7 : Vec Ideal S1x1536 .f32} {f g b t : ℕ → ℕ → EReal} {u : ℕ} (hu : u < 4) (hi : (i 0).val = u)
  (p0 : E512 x0 (fun r k => f (u * 512 + r) k)) (p1 : E512 x1 (fun r k => f ((u - 1) * 512 + r) k))
  (p2 : E4 x2 g) (p3 : E1 x3 b) (p4 : E512 x4 (fun r k => t (u * 512 + r) k))

include hu hi p0 p1 p2 p3 p4 in
/-- The gradient before the gate as a later point uses it, -/
theorem da_B : E512 (kernelRun0_B.sl.r_4 c i arg1 h1 arg2 h2 arg3 h3 arg4 h4 arg5 h5 x0 x1 x2 x3 x4) (fun r k => convDa f g b t (u * 512 + r) k) := by
  unfold kernelRun0_B.sl.r_4 kernelRun0_B.sl.v0 kernelRun0_B.sl.r kernelRun0_B.sl.v6 kernelRun0_B.sl.r_2 kernelRun0_B.sl.r_3
  rw [whole arg1 h1 x0 zz, whole arg2 h2 x1 zz, whole arg4 h4 x3 zz, whole arg5 h5 x4 zz]
  exact da_val i hu hi p0 p1 p3 p4 (row arg3 h3 p2 0 inb_S4x1536_S1x1536_0_0) (row arg3 h3 p2 1 inb_S4x1536_S1x1536_1_0) (row arg3 h3 p2 2 inb_S4x1536_S1x1536_2_0) (row arg3 h3 p2 3 inb_S4x1536_S1x1536_3_0)

include hu hi p0 p1 p2 p3 p4 in
/-- and as it stores it. -/
theorem out5_B (hc : ¬cond0_0 i) : E512 (out0_B_5 c i arg1 h1 arg2 h2 arg3 h3 arg4 h4 arg5 h5 arg6 h6 arg7 h7 arg8 h8 hc x0 x1 x2 x3 x4 x6 x7) (fun r k => convDa f g b t (u * 512 + r) k) := by
  have e : out0_B_5 c i arg1 h1 arg2 h2 arg3 h3 arg4 h4 arg5 h5 arg6 h6 arg7 h7 arg8 h8 hc x0 x1 x2 x3 x4 x6 x7 = View.canon [⟨Rect.unit (s := S512x1536) ![0, 0] S512x1536.size inb_S512x1536_S512x1536_0_0, kernelRun0_B.sl.r_4 c i arg1 h1 arg2 h2 arg3 h3 arg4 h4 arg5 h5 x0 x1 x2 x3 x4⟩] :=
    View.read_writes_junk_eq_canon _ _
  rw [e, View.canon_unit_zero zz]
  exact da_B c i arg1 h1 arg2 h2 arg3 h3 arg4 h4 arg5 h5 hu hi p0 p1 p2 p3 p4

include hu hi p0 p1 p2 p3 p4 in
/-- The bias's gradient after a later point. -/
theorem out7_B (hc : ¬cond0_0 i) (p7 : E1 x7 (convDb (convDa f g b t) (u * 512))) :
    E1 (out0_B_7 c i arg1 h1 arg2 h2 arg3 h3 arg4 h4 arg5 h5 arg6 h6 arg7 h7 arg8 h8 hc x0 x1 x2 x3 x4 x6 x7) (convDb (convDa f g b t) ((u + 1) * 512)) := by
  have e : out0_B_7 c i arg1 h1 arg2 h2 arg3 h3 arg4 h4 arg5 h5 arg6 h6 arg7 h7 arg8 h8 hc x0 x1 x2 x3 x4 x6 x7 = View.canon [⟨Rect.unit (s := S1x1536) ![0, 0] S1x1536.size inb_S1x1536_S1x1536_0_0,
      addf (shapeCast S1x1536 (View.readAt (Elt Ideal) arg8.view (Rect.unit (s := S1x1536) ![0, 0] S1x1536.size inb_S1x1536_S1x1536_0_0).toLoadRect (h8.unread x7)) shapeCasts_S1x1536_S1x1536)
        (shapeCast S1x1536 (multiReduction (F := Ideal) .add [0] S1536 (kernelRun0_B.sl.r_4 c i arg1 h1 arg2 h2 arg3 h3 arg4 h4 arg5 h5 x0 x1 x2 x3 x4) 0x00000000#32 reduces_S512x1536_S1536 (.inl rfl) rfl) shapeCasts_S1536_S1x1536)⟩] :=
    View.read_writes_junk_eq_canon _ _
  rw [e, View.canon_unit_zero zz, whole arg8 h8 x7 zz]
  exact db_step (da_B c i arg1 h1 arg2 h2 arg3 h3 arg4 h4 arg5 h5 hu hi p0 p1 p2 p3 p4) p7

include hu hi p0 p1 p2 p3 p4 in
/-- Row 0 of the weights' gradient after a later point. -/
theorem row0_B (p6 : E4 x6 (convDw (convDa f g b t) f (u * 512))) : E1 (k0_pay1 (kernelRun0_B.sl.v0 i) (kernelRun0_B.sl.r c arg1 h1 x0) (kernelRun0_B.sl.r_4 c i arg1 h1 arg2 h2 arg3 h3 arg4 h4 arg5 h5 x0 x1 x2 x3 x4) kernelRun0_B.sl.v6 (kernelRun0_B.sl.r_6 c arg2 h2 x1) kernelRun0_B.sl.cst_57 (kernelRun0_B.sl.v112 (F := Ideal) c arg7 h7 x6)) (fun r k => convDw (convDa f g b t) f ((u + 1) * 512) (0 + r) k) := by
  have hD := da_B c i arg1 h1 arg2 h2 arg3 h3 arg4 h4 arg5 h5 hu hi p0 p1 p2 p3 p4
  unfold k0_pay1 kernelRun0_B.sl.v112 kernelRun0_B.sl.r kernelRun0_B.sl.v0 kernelRun0_B.sl.v6 kernelRun0_B.sl.r_6 kernelRun0_B.sl.r_1 kernelRun0_B.sl.cst_57 k0_pay15 k0_pay2 k0_pay3
  rw [whole arg1 h1 x0 zz, whole arg2 h2 x1 zz]
  refine dw_step 0 (by decide) hD (IsE.of_eq (moved i hu hi p0 p1 3 (by decide) (by decide) 3#32 rfl) ?_) (row arg7 h7 p6 0 inb_S4x1536_S1x1536_0_0)
  simp only [shapeCast_same]
  try rfl

include hu hi p0 p1 p2 p3 p4 in
/-- Row 1 of the weights' gradient after a later point. -/
theorem row1_B (p6 : E4 x6 (convDw (convDa f g b t) f (u * 512))) : E1 (k0_pay14 (kernelRun0_B.sl.v0 i) (kernelRun0_B.sl.r c arg1 h1 x0) (kernelRun0_B.sl.r_1 c arg2 h2 x1) (kernelRun0_B.sl.r_4 c i arg1 h1 arg2 h2 arg3 h3 arg4 h4 arg5 h5 x0 x1 x2 x3 x4) kernelRun0_B.sl.v6 (kernelRun0_B.sl.v98 (F := Ideal) c arg7 h7 x6)) (fun r k => convDw (convDa f g b t) f ((u + 1) * 512) (1 + r) k) := by
  have hD := da_B c i arg1 h1 arg2 h2 arg3 h3 arg4 h4 arg5 h5 hu hi p0 p1 p2 p3 p4
  unfold k0_pay14 kernelRun0_B.sl.v98 kernelRun0_B.sl.r kernelRun0_B.sl.v0 kernelRun0_B.sl.v6 kernelRun0_B.sl.r_1 k0_pay2 k0_pay3
  rw [whole arg1 h1 x0 zz, whole arg2 h2 x1 zz]
  refine dw_step 1 (by decide) hD (IsE.of_eq (moved i hu hi p0 p1 2 (by decide) (by decide) 2#32 rfl) ?_) (row arg7 h7 p6 1 inb_S4x1536_S1x1536_1_0)
  simp only [shapeCast_same]
  try rfl

include hu hi p0 p1 p2 p3 p4 in
/-- Row 2 of the weights' gradient after a later point. -/
theorem row2_B (p6 : E4 x6 (convDw (convDa f g b t) f (u * 512))) : E1 (k0_pay13 (kernelRun0_B.sl.v0 i) (kernelRun0_B.sl.r c arg1 h1 x0) (kernelRun0_B.sl.r_1 c arg2 h2 x1) (kernelRun0_B.sl.r_4 c i arg1 h1 arg2 h2 arg3 h3 arg4 h4 arg5 h5 x0 x1 x2 x3 x4) kernelRun0_B.sl.v6 (kernelRun0_B.sl.v84 (F := Ideal) c arg7 h7 x6)) (fun r k => convDw (convDa f g b t) f ((u + 1) * 512) (2 + r) k) := by
  have hD := da_B c i arg1 h1 arg2 h2 arg3 h3 arg4 h4 arg5 h5 hu hi p0 p1 p2 p3 p4
  unfold k0_pay13 kernelRun0_B.sl.v84 kernelRun0_B.sl.r kernelRun0_B.sl.v0 kernelRun0_B.sl.v6 kernelRun0_B.sl.r_1 k0_pay2 k0_pay3
  rw [whole arg1 h1 x0 zz, whole arg2 h2 x1 zz]
  refine dw_step 2 (by decide) hD (IsE.of_eq (moved i hu hi p0 p1 1 (by decide) (by decide) 1#32 rfl) ?_) (row arg7 h7 p6 2 inb_S4x1536_S1x1536_2_0)
  simp only [shapeCast_same]
  try rfl

include hu hi p0 p1 p2 p3 p4 in
/-- Row 3 of the weights' gradient after a later point. -/
theorem row3_B (p6 : E4 x6 (convDw (convDa f g b t) f (u * 512))) : E1 (k0_pay12 (kernelRun0_B.sl.r c arg1 h1 x0) (kernelRun0_B.sl.r_4 c i arg1 h1 arg2 h2 arg3 h3 arg4 h4 arg5 h5 x0 x1 x2 x3 x4) (kernelRun0_B.sl.r_5 (F := Ideal) c arg7 h7 x6)) (fun r k => convDw (convDa f g b t) f ((u + 1) * 512) (3 + r) k) := by
  have hD := da_B c i arg1 h1 arg2 h2 arg3 h3 arg4 h4 arg5 h5 hu hi p0 p1 p2 p3 p4
  unfold k0_pay12 kernelRun0_B.sl.r_5 k0_pay11 kernelRun0_B.sl.r k0_pay2
  rw [whole arg1 h1 x0 zz]
  refine dw_step 3 (by decide) hD (IsE.of_eq p0 ?_) (row arg7 h7 p6 3 inb_S4x1536_S1x1536_3_0)
  simp only [shapeCast_same]
  try rfl

include hu hi p0 p1 p2 p3 p4 in
/-- The weights' gradient after a later point. -/
theorem out6_B (hc : ¬cond0_0 i) (p6 : E4 x6 (convDw (convDa f g b t) f (u * 512))) : E4 (out0_B_6 c i arg1 h1 arg2 h2 arg3 h3 arg4 h4 arg5 h5 arg6 h6 arg7 h7 arg8 h8 hc x0 x1 x2 x3 x4 x6 x7) (convDw (convDa f g b t) f ((u + 1) * 512)) := by
  have e : out0_B_6 c i arg1 h1 arg2 h2 arg3 h3 arg4 h4 arg5 h5 arg6 h6 arg7 h7 arg8 h8 hc x0 x1 x2 x3 x4 x6 x7 = View.canon (⟨Rect.unit (s := S4x1536) ![0, 0] S1x1536.size inb_S4x1536_S1x1536_0_0, k0_pay1 (kernelRun0_B.sl.v0 i) (kernelRun0_B.sl.r c arg1 h1 x0) (kernelRun0_B.sl.r_4 c i arg1 h1 arg2 h2 arg3 h3 arg4 h4 arg5 h5 x0 x1 x2 x3 x4) kernelRun0_B.sl.v6 (kernelRun0_B.sl.r_6 c arg2 h2 x1) kernelRun0_B.sl.cst_57 (kernelRun0_B.sl.v112 (F := Ideal) c arg7 h7 x6)⟩ ::
      ⟨Rect.unit (s := S4x1536) ![1, 0] S1x1536.size inb_S4x1536_S1x1536_1_0, k0_pay14 (kernelRun0_B.sl.v0 i) (kernelRun0_B.sl.r c arg1 h1 x0) (kernelRun0_B.sl.r_1 c arg2 h2 x1) (kernelRun0_B.sl.r_4 c i arg1 h1 arg2 h2 arg3 h3 arg4 h4 arg5 h5 x0 x1 x2 x3 x4) kernelRun0_B.sl.v6 (kernelRun0_B.sl.v98 (F := Ideal) c arg7 h7 x6)⟩ ::
      ⟨Rect.unit (s := S4x1536) ![2, 0] S1x1536.size inb_S4x1536_S1x1536_2_0, k0_pay13 (kernelRun0_B.sl.v0 i) (kernelRun0_B.sl.r c arg1 h1 x0) (kernelRun0_B.sl.r_1 c arg2 h2 x1) (kernelRun0_B.sl.r_4 c i arg1 h1 arg2 h2 arg3 h3 arg4 h4 arg5 h5 x0 x1 x2 x3 x4) kernelRun0_B.sl.v6 (kernelRun0_B.sl.v84 (F := Ideal) c arg7 h7 x6)⟩ ::
      ⟨Rect.unit (s := S4x1536) ![3, 0] S1x1536.size inb_S4x1536_S1x1536_3_0, k0_pay12 (kernelRun0_B.sl.r c arg1 h1 x0) (kernelRun0_B.sl.r_4 c i arg1 h1 arg2 h2 arg3 h3 arg4 h4 arg5 h5 x0 x1 x2 x3 x4) (kernelRun0_B.sl.r_5 (F := Ideal) c arg7 h7 x6)⟩ :: []) :=
    View.read_writes_junk_eq_canon _ _
  rw [e]
  exact four inb_S4x1536_S1x1536_0_0 inb_S4x1536_S1x1536_1_0 inb_S4x1536_S1x1536_2_0 inb_S4x1536_S1x1536_3_0
    (row0_B c i arg1 h1 arg2 h2 arg3 h3 arg4 h4 arg5 h5 arg7 h7 hu hi p0 p1 p2 p3 p4 p6)
    (row1_B c i arg1 h1 arg2 h2 arg3 h3 arg4 h4 arg5 h5 arg7 h7 hu hi p0 p1 p2 p3 p4 p6)
    (row2_B c i arg1 h1 arg2 h2 arg3 h3 arg4 h4 arg5 h5 arg7 h7 hu hi p0 p1 p2 p3 p4 p6)
    (row3_B c i arg1 h1 arg2 h2 arg3 h3 arg4 h4 arg5 h5 arg7 h7 hu hi p0 p1 p2 p3 p4 p6)

include hu hi p0 p1 p2 p3 p4 in
/-- The gradient before the gate as the first point uses it, -/
theorem da_A : E512 (kernelRun0_A.sl.r_4 c i arg1 h1 arg2 h2 arg3 h3 arg4 h4 arg5 h5 x0 x1 x2 x3 x4) (fun r k => convDa f g b t (u * 512 + r) k) := by
  unfold kernelRun0_A.sl.r_4 kernelRun0_A.sl.v0 kernelRun0_A.sl.r kernelRun0_A.sl.v6 kernelRun0_A.sl.r_2 kernelRun0_A.sl.r_3
  rw [whole arg1 h1 x0 zz, whole arg2 h2 x1 zz, whole arg4 h4 x3 zz, whole arg5 h5 x4 zz]
  exact da_val i hu hi p0 p1 p3 p4 (row arg3 h3 p2 0 inb_S4x1536_S1x1536_0_0) (row arg3 h3 p2 1 inb_S4x1536_S1x1536_1_0) (row arg3 h3 p2 2 inb_S4x1536_S1x1536_2_0) (row arg3 h3 p2 3 inb_S4x1536_S1x1536_3_0)

include hu hi p0 p1 p2 p3 p4 in
/-- and as it stores it. -/
theorem out5_A (hc : cond0_0 i) : E512 (out0_A_5 c i arg1 h1 arg2 h2 arg3 h3 arg4 h4 arg5 h5 arg6 h6 arg7 h7 arg8 h8 hc x0 x1 x2 x3 x4) (fun r k => convDa f g b t (u * 512 + r) k) := by
  have e : out0_A_5 c i arg1 h1 arg2 h2 arg3 h3 arg4 h4 arg5 h5 arg6 h6 arg7 h7 arg8 h8 hc x0 x1 x2 x3 x4 = View.canon [⟨Rect.unit (s := S512x1536) ![0, 0] S512x1536.size inb_S512x1536_S512x1536_0_0, kernelRun0_A.sl.r_4 c i arg1 h1 arg2 h2 arg3 h3 arg4 h4 arg5 h5 x0 x1 x2 x3 x4⟩] :=
    View.read_writes_junk_eq_canon _ _
  rw [e, View.canon_unit_zero zz]
  exact da_A c i arg1 h1 arg2 h2 arg3 h3 arg4 h4 arg5 h5 hu hi p0 p1 p2 p3 p4

include hu hi p0 p1 p2 p3 p4 in
/-- The bias's gradient after the first point. -/
theorem out7_A (hc : cond0_0 i) (u0 : u = 0) : E1 (out0_A_7 c i arg1 h1 arg2 h2 arg3 h3 arg4 h4 arg5 h5 arg6 h6 arg7 h7 arg8 h8 hc x0 x1 x2 x3 x4) (convDb (convDa f g b t) ((u + 1) * 512)) := by
  have e : out0_A_7 c i arg1 h1 arg2 h2 arg3 h3 arg4 h4 arg5 h5 arg6 h6 arg7 h7 arg8 h8 hc x0 x1 x2 x3 x4 = View.canon (⟨Rect.unit (s := S1x1536) ![0, 0] S1x1536.size inb_S1x1536_S1x1536_0_0,
      addf (shapeCast S1x1536 (kernelRun0_A.sl.v64 (F := Ideal) c arg8) shapeCasts_S1x1536_S1x1536)
        (shapeCast S1x1536 (multiReduction (F := Ideal) .add [0] S1536 (kernelRun0_A.sl.r_4 c i arg1 h1 arg2 h2 arg3 h3 arg4 h4 arg5 h5 x0 x1 x2 x3 x4) 0x00000000#32 reduces_S512x1536_S1536 (.inl rfl) rfl) shapeCasts_S1536_S1x1536)⟩ :: kernelRun0_A.sl.H7_1) :=
    View.read_writes_junk_eq_canon _ _
  rw [e]
  have q : E1 _ (convDb (convDa f g b t) ((u + 1) * 512)) := db_step (A := kernelRun0_A.sl.v64 (F := Ideal) c arg8) (da_A c i arg1 h1 arg2 h2 arg3 h3 arg4 h4 arg5 h5 hu hi p0 p1 p2 p3 p4) ((cov_row (n := 1) (c := 1536) arg8.view (H := kernelRun0_A.sl.H7_1 (F := Ideal)) (F := fun _ => 0) 0 (by decide)
    (fun k => by unfold kernelRun0_A.sl.H7_1; rw [View.canon_unit_zero zz]; exact Ideal.ofBits_zero_f32) inb_S1x1536_S1x1536_0_0).congr fun r _ k _ => by subst u0; rfl)
  intro r k
  exact (canon_in (n := 1) (c := 1536) (k := 1) (e := .f32) inb_S1x1536_S1x1536_0_0 _ _ r k r (Nat.zero_add _).symm).trans (q r k)

/-- Before a row is stored it is zero. -/
theorem zero_1 (o : ℕ) (ho : o < 4) (k : Fin 1536) : View.canon (kernelRun0_A.sl.H6_1 (F := Ideal)) (ix2 (⟨o, ho⟩ : Fin 4) k) = (0 : EReal) := by
  unfold kernelRun0_A.sl.H6_1
  rw [View.canon_unit_zero zz]
  exact Ideal.ofBits_zero_f32

theorem zero_2 (o : ℕ) (h : o < 4) (ho : o < 3) (k : Fin 1536) : View.canon (kernelRun0_A.sl.H6_2 (F := Ideal) c i arg1 h1 arg2 h2 arg3 h3 arg4 h4 arg5 h5 arg7 x0 x1 x2 x3 x4) (ix2 (⟨o, h⟩ : Fin 4) k) = (0 : EReal) := by
  unfold kernelRun0_A.sl.H6_2
  exact (canon_out (n := 4) (c := 1536) (k := 1) (e := .f32) inb_S4x1536_S1x1536_3_0 _ _ _ _ (by show ¬(3 ≤ o ∧ o < 3 + 1); omega)).trans (zero_1 o h k)

theorem zero_3 (o : ℕ) (h : o < 4) (ho : o < 2) (k : Fin 1536) : View.canon (kernelRun0_A.sl.H6_3 (F := Ideal) c i arg1 h1 arg2 h2 arg3 h3 arg4 h4 arg5 h5 arg7 x0 x1 x2 x3 x4) (ix2 (⟨o, h⟩ : Fin 4) k) = (0 : EReal) := by
  unfold kernelRun0_A.sl.H6_3
  exact (canon_out (n := 4) (c := 1536) (k := 1) (e := .f32) inb_S4x1536_S1x1536_2_0 _ _ _ _ (by show ¬(2 ≤ o ∧ o < 2 + 1); omega)).trans (zero_2 c i arg1 h1 arg2 h2 arg3 h3 arg4 h4 arg5 h5 arg7 o h (by omega) k)

theorem zero_4 (o : ℕ) (h : o < 4) (ho : o < 1) (k : Fin 1536) : View.canon (kernelRun0_A.sl.H6_4 (F := Ideal) c i arg1 h1 arg2 h2 arg3 h3 arg4 h4 arg5 h5 arg7 x0 x1 x2 x3 x4) (ix2 (⟨o, h⟩ : Fin 4) k) = (0 : EReal) := by
  unfold kernelRun0_A.sl.H6_4
  exact (canon_out (n := 4) (c := 1536) (k := 1) (e := .f32) inb_S4x1536_S1x1536_1_0 _ _ _ _ (by show ¬(1 ≤ o ∧ o < 1 + 1); omega)).trans (zero_3 c i arg1 h1 arg2 h2 arg3 h3 arg4 h4 arg5 h5 arg7 o h (by omega) k)

include hu hi p0 p1 p2 p3 p4 in
/-- Row 0 of the weights' gradient after the first point. -/
theorem row0_A (u0 : u = 0) : E1 (k0_pay1 (kernelRun0_A.sl.v0 i) (kernelRun0_A.sl.r c arg1 h1 x0) (kernelRun0_A.sl.r_4 c i arg1 h1 arg2 h2 arg3 h3 arg4 h4 arg5 h5 x0 x1 x2 x3 x4) kernelRun0_A.sl.v6 (kernelRun0_A.sl.r_6 c arg2 h2 x1) kernelRun0_A.sl.cst_57 (kernelRun0_A.sl.v112 (F := Ideal) c i arg1 h1 arg2 h2 arg3 h3 arg4 h4 arg5 h5 arg7 x0 x1 x2 x3 x4)) (fun r k => convDw (convDa f g b t) f ((u + 1) * 512) (0 + r) k) := by
  have hD := da_A c i arg1 h1 arg2 h2 arg3 h3 arg4 h4 arg5 h5 hu hi p0 p1 p2 p3 p4
  unfold k0_pay1 kernelRun0_A.sl.v112 kernelRun0_A.sl.r kernelRun0_A.sl.v0 kernelRun0_A.sl.v6 kernelRun0_A.sl.r_6 kernelRun0_A.sl.r_1 kernelRun0_A.sl.cst_57 k0_pay15 k0_pay2 k0_pay3
  rw [whole arg1 h1 x0 zz, whole arg2 h2 x1 zz]
  refine dw_step 0 (by decide) hD (IsE.of_eq (moved i hu hi p0 p1 3 (by decide) (by decide) 3#32 rfl) ?_) ((cov_row (n := 4) (c := 1536) arg7.view (F := fun _ => 0) 0 (by decide) (zero_4 c i arg1 h1 arg2 h2 arg3 h3 arg4 h4 arg5 h5 arg7 0 (by decide) (by decide)) inb_S4x1536_S1x1536_0_0).congr fun r _ k _ => by subst u0; rfl)
  simp only [shapeCast_same]
  try rfl

include hu hi p0 p1 p2 p3 p4 in
/-- Row 1 of the weights' gradient after the first point. -/
theorem row1_A (u0 : u = 0) : E1 (k0_pay14 (kernelRun0_A.sl.v0 i) (kernelRun0_A.sl.r c arg1 h1 x0) (kernelRun0_A.sl.r_1 c arg2 h2 x1) (kernelRun0_A.sl.r_4 c i arg1 h1 arg2 h2 arg3 h3 arg4 h4 arg5 h5 x0 x1 x2 x3 x4) kernelRun0_A.sl.v6 (kernelRun0_A.sl.v98 (F := Ideal) c i arg1 h1 arg2 h2 arg3 h3 arg4 h4 arg5 h5 arg7 x0 x1 x2 x3 x4)) (fun r k => convDw (convDa f g b t) f ((u + 1) * 512) (1 + r) k) := by
  have hD := da_A c i arg1 h1 arg2 h2 arg3 h3 arg4 h4 arg5 h5 hu hi p0 p1 p2 p3 p4
  unfold k0_pay14 kernelRun0_A.sl.v98 kernelRun0_A.sl.r kernelRun0_A.sl.v0 kernelRun0_A.sl.v6 kernelRun0_A.sl.r_1 k0_pay2 k0_pay3
  rw [whole arg1 h1 x0 zz, whole arg2 h2 x1 zz]
  refine dw_step 1 (by decide) hD (IsE.of_eq (moved i hu hi p0 p1 2 (by decide) (by decide) 2#32 rfl) ?_) ((cov_row (n := 4) (c := 1536) arg7.view (F := fun _ => 0) 1 (by decide) (zero_3 c i arg1 h1 arg2 h2 arg3 h3 arg4 h4 arg5 h5 arg7 1 (by decide) (by decide)) inb_S4x1536_S1x1536_1_0).congr fun r _ k _ => by subst u0; rfl)
  simp only [shapeCast_same]
  try rfl

include hu hi p0 p1 p2 p3 p4 in
/-- Row 2 of the weights' gradient after the first point. -/
theorem row2_A (u0 : u = 0) : E1 (k0_pay13 (kernelRun0_A.sl.v0 i) (kernelRun0_A.sl.r c arg1 h1 x0) (kernelRun0_A.sl.r_1 c arg2 h2 x1) (kernelRun0_A.sl.r_4 c i arg1 h1 arg2 h2 arg3 h3 arg4 h4 arg5 h5 x0 x1 x2 x3 x4) kernelRun0_A.sl.v6 (kernelRun0_A.sl.v84 (F := Ideal) c i arg1 h1 arg2 h2 arg3 h3 arg4 h4 arg5 h5 arg7 x0 x1 x2 x3 x4)) (fun r k => convDw (convDa f g b t) f ((u + 1) * 512) (2 + r) k) := by
  have hD := da_A c i arg1 h1 arg2 h2 arg3 h3 arg4 h4 arg5 h5 hu hi p0 p1 p2 p3 p4
  unfold k0_pay13 kernelRun0_A.sl.v84 kernelRun0_A.sl.r kernelRun0_A.sl.v0 kernelRun0_A.sl.v6 kernelRun0_A.sl.r_1 k0_pay2 k0_pay3
  rw [whole arg1 h1 x0 zz, whole arg2 h2 x1 zz]
  refine dw_step 2 (by decide) hD (IsE.of_eq (moved i hu hi p0 p1 1 (by decide) (by decide) 1#32 rfl) ?_) ((cov_row (n := 4) (c := 1536) arg7.view (F := fun _ => 0) 2 (by decide) (zero_2 c i arg1 h1 arg2 h2 arg3 h3 arg4 h4 arg5 h5 arg7 2 (by decide) (by decide)) inb_S4x1536_S1x1536_2_0).congr fun r _ k _ => by subst u0; rfl)
  simp only [shapeCast_same]
  try rfl

include hu hi p0 p1 p2 p3 p4 in
/-- Row 3 of the weights' gradient after the first point. -/
theorem row3_A (u0 : u = 0) : E1 (k0_pay12 (kernelRun0_A.sl.r c arg1 h1 x0) (kernelRun0_A.sl.r_4 c i arg1 h1 arg2 h2 arg3 h3 arg4 h4 arg5 h5 x0 x1 x2 x3 x4) (kernelRun0_A.sl.r_5 (F := Ideal) c arg7)) (fun r k => convDw (convDa f g b t) f ((u + 1) * 512) (3 + r) k) := by
  have hD := da_A c i arg1 h1 arg2 h2 arg3 h3 arg4 h4 arg5 h5 hu hi p0 p1 p2 p3 p4
  unfold k0_pay12 kernelRun0_A.sl.r_5 k0_pay11 kernelRun0_A.sl.v70 kernelRun0_A.sl.r k0_pay2
  rw [whole arg1 h1 x0 zz]
  refine dw_step 3 (by decide) hD (IsE.of_eq p0 ?_) ((cov_row (n := 4) (c := 1536) arg7.view (F := fun _ => 0) 3 (by decide) (zero_1 3 (by decide)) inb_S4x1536_S1x1536_3_0).congr fun r _ k _ => by subst u0; rfl)
  simp only [shapeCast_same]
  try rfl

include hu hi p0 p1 p2 p3 p4 in
/-- The weights' gradient after the first point. -/
theorem out6_A (hc : cond0_0 i) (u0 : u = 0) : E4 (out0_A_6 c i arg1 h1 arg2 h2 arg3 h3 arg4 h4 arg5 h5 arg6 h6 arg7 h7 arg8 h8 hc x0 x1 x2 x3 x4) (convDw (convDa f g b t) f ((u + 1) * 512)) := by
  have e : out0_A_6 c i arg1 h1 arg2 h2 arg3 h3 arg4 h4 arg5 h5 arg6 h6 arg7 h7 arg8 h8 hc x0 x1 x2 x3 x4 = View.canon (⟨Rect.unit (s := S4x1536) ![0, 0] S1x1536.size inb_S4x1536_S1x1536_0_0, k0_pay1 (kernelRun0_A.sl.v0 i) (kernelRun0_A.sl.r c arg1 h1 x0) (kernelRun0_A.sl.r_4 c i arg1 h1 arg2 h2 arg3 h3 arg4 h4 arg5 h5 x0 x1 x2 x3 x4) kernelRun0_A.sl.v6 (kernelRun0_A.sl.r_6 c arg2 h2 x1) kernelRun0_A.sl.cst_57 (kernelRun0_A.sl.v112 (F := Ideal) c i arg1 h1 arg2 h2 arg3 h3 arg4 h4 arg5 h5 arg7 x0 x1 x2 x3 x4)⟩ ::
      ⟨Rect.unit (s := S4x1536) ![1, 0] S1x1536.size inb_S4x1536_S1x1536_1_0, k0_pay14 (kernelRun0_A.sl.v0 i) (kernelRun0_A.sl.r c arg1 h1 x0) (kernelRun0_A.sl.r_1 c arg2 h2 x1) (kernelRun0_A.sl.r_4 c i arg1 h1 arg2 h2 arg3 h3 arg4 h4 arg5 h5 x0 x1 x2 x3 x4) kernelRun0_A.sl.v6 (kernelRun0_A.sl.v98 (F := Ideal) c i arg1 h1 arg2 h2 arg3 h3 arg4 h4 arg5 h5 arg7 x0 x1 x2 x3 x4)⟩ ::
      ⟨Rect.unit (s := S4x1536) ![2, 0] S1x1536.size inb_S4x1536_S1x1536_2_0, k0_pay13 (kernelRun0_A.sl.v0 i) (kernelRun0_A.sl.r c arg1 h1 x0) (kernelRun0_A.sl.r_1 c arg2 h2 x1) (kernelRun0_A.sl.r_4 c i arg1 h1 arg2 h2 arg3 h3 arg4 h4 arg5 h5 x0 x1 x2 x3 x4) kernelRun0_A.sl.v6 (kernelRun0_A.sl.v84 (F := Ideal) c i arg1 h1 arg2 h2 arg3 h3 arg4 h4 arg5 h5 arg7 x0 x1 x2 x3 x4)⟩ ::
      ⟨Rect.unit (s := S4x1536) ![3, 0] S1x1536.size inb_S4x1536_S1x1536_3_0, k0_pay12 (kernelRun0_A.sl.r c arg1 h1 x0) (kernelRun0_A.sl.r_4 c i arg1 h1 arg2 h2 arg3 h3 arg4 h4 arg5 h5 x0 x1 x2 x3 x4) (kernelRun0_A.sl.r_5 (F := Ideal) c arg7)⟩ :: kernelRun0_A.sl.H6_1) :=
    View.read_writes_junk_eq_canon _ _
  rw [e]
  exact four inb_S4x1536_S1x1536_0_0 inb_S4x1536_S1x1536_1_0 inb_S4x1536_S1x1536_2_0 inb_S4x1536_S1x1536_3_0
    (row0_A c i arg1 h1 arg2 h2 arg3 h3 arg4 h4 arg5 h5 arg7 hu hi p0 p1 p2 p3 p4 u0)
    (row1_A c i arg1 h1 arg2 h2 arg3 h3 arg4 h4 arg5 h5 arg7 hu hi p0 p1 p2 p3 p4 u0)
    (row2_A c i arg1 h1 arg2 h2 arg3 h3 arg4 h4 arg5 h5 arg7 hu hi p0 p1 p2 p3 p4 u0)
    (row3_A c i arg1 h1 arg2 h2 arg3 h3 arg4 h4 arg5 h5 arg7 hu hi p0 p1 p2 p3 p4 u0)

end

/-- The grid's points, and the windows' blocks there. -/
theorem tile : ∀ t : Fin grid0.N, (grid0.coords t 0).val = t.val ∧ win0_0.index t = ![t.val, 1] ∧ win0_1.index t = ![t.val - 1, 1]
    ∧ win0_2.index t = ![0, 0] ∧ win0_3.index t = ![0, 0] ∧ win0_4.index t = ![t.val, 0] ∧ win0_5.index t = ![t.val, 0] ∧ win0_6.index t = ![0, 0]
    ∧ win0_7.index t = ![0, 0] := by decide +kernel

theorem V_v2 : V m c main_v2 = concatenate S2048x3456 1 [⟨S2048x1536, broadcastInDim S2048x1536 ![] bcast_S_S2048x1536 (constant (F := Ideal) S_ .f32 0x00000000#32)⟩,
    ⟨S2048x1536, m ((c.tc : Thread nD τ).loc main_arg0)⟩, ⟨S2048x384, broadcastInDim S2048x384 ![] bcast_S_S2048x384 (constant (F := Ideal) S_ .f32 0x00000000#32)⟩]
    concatenates_S2048x1536_S2048x1536_S2048x384_S2048x3456_d1 := by
  show StableHlo.after hostOps0 (fun b => m (c, b)) (Proc.tc.devRef main_v2) = _
  rfl

/-- Window 0's block at a grid point. -/
theorem cur {f : ℕ → ℕ → EReal} (hV : IsE (a := 2048) (c := 3456) (φ := .f32) (V m c main_v2) (mid f)) (t : Fin grid0.N) (u : ℕ) (e : win0_0.index t = ![u, 1]) :
    E512 (X0_0 m c t) (fun r k => f (u * 512 + r) k) := fun r l => by
  have hl := l.isLt
  unfold X0_0 Pipeline.Window.fill
  rw [dif_pos (moved0_0 t _)]
  refine (hV.e2 (((cfg0.win 0).blk t).view.emb _)).trans ?_
  rw [show ((((cfg0.win 0).blk t).view.emb _ : S2048x3456.Idx) 0).val = u * 512 + r.val by show win0_0.index t 0 * 512 + 1 * r.val = _; rw [e, Nat.one_mul]; rfl,
    show ((((cfg0.win 0).blk t).view.emb _ : S2048x3456.Idx) 1).val = 1 * 1536 + l.val by show win0_0.index t 1 * 1536 + 1 * l.val = _; rw [e, Nat.one_mul]; rfl]
  unfold mid
  rw [if_neg (by omega), if_pos (by omega)]
  congr 1
  omega

/-- Window 1's block at a grid point. -/
theorem prev {f : ℕ → ℕ → EReal} (hV : IsE (a := 2048) (c := 3456) (φ := .f32) (V m c main_v2) (mid f)) (t : Fin grid0.N) (u : ℕ) (e : win0_1.index t = ![u, 1]) :
    E512 (X0_1 m c t) (fun r k => f (u * 512 + r) k) := fun r l => by
  have hl := l.isLt
  unfold X0_1 Pipeline.Window.fill
  rw [dif_pos (moved0_1 t _)]
  refine (hV.e2 (((cfg0.win 1).blk t).view.emb _)).trans ?_
  rw [show ((((cfg0.win 1).blk t).view.emb _ : S2048x3456.Idx) 0).val = u * 512 + r.val by show win0_1.index t 0 * 512 + 1 * r.val = _; rw [e, Nat.one_mul]; rfl,
    show ((((cfg0.win 1).blk t).view.emb _ : S2048x3456.Idx) 1).val = 1 * 1536 + l.val by show win0_1.index t 1 * 1536 + 1 * l.val = _; rw [e, Nat.one_mul]; rfl]
  unfold mid
  rw [if_neg (by omega), if_pos (by omega)]
  congr 1
  omega

section

variable {f g b t : ℕ → ℕ → EReal} (hf : IsE (a := 2048) (c := 1536) (φ := .f32) (m ((c.tc : Thread nD τ).loc main_arg0)) f)
  (hg : E4 (V m c main_arg1) g) (hb : E1 (V m c main_arg2) b)
  (ht : IsE (a := 2048) (c := 1536) (φ := .f32) (V m c main_arg3) t)

include hf in
/-- The two blocks of the input. -/
theorem b01 (s : Fin cfg0.N) : E512 (X0_0 m c s) (fun r k => f (s.val * 512 + r) k)
    ∧ E512 (X0_1 m c s) (fun r k => f ((s.val - 1) * 512 + r) k) := by
  have hV : IsE (a := 2048) (c := 3456) (φ := .f32) (V m c main_v2) (mid f) := by
    rw [V_v2]
    exact IsE.mid hf (IsE.zeros Ideal.ofBits_zero_f32 _) (IsE.zeros Ideal.ofBits_zero_f32 _) _
  exact ⟨cur m c hV s s.val (tile s).2.1, prev m c hV s (s.val - 1) (tile s).2.2.1⟩

include hg in
/-- The block of the weights, -/
theorem b2 (s : Fin cfg0.N) : E4 (iblk m c 2 s) g := by
  have e2 := (tile s).2.2.2.1
  exact (hg.blk (((cfg0.win 2).blk s).view.emb) 0 0
    (fun y => by show win0_2.index s 0 * 4 + 1 * (y 0).val = _; rw [e2, Nat.one_mul]; rfl) (fun y => by show win0_2.index s 1 * 1536 + 1 * (y 1).val = _; rw [e2, Nat.one_mul]; rfl)).congr
    fun r _ k _ => by simp only [Nat.zero_add]

include hb in
/-- of the bias, -/
theorem b3 (s : Fin cfg0.N) : E1 (iblk m c 3 s) b := by
  have e3 := (tile s).2.2.2.2.1
  exact (hb.blk (((cfg0.win 3).blk s).view.emb) 0 0
    (fun y => by show win0_3.index s 0 * 1 + 1 * (y 0).val = _; rw [e3, Nat.one_mul]; rfl) (fun y => by show win0_3.index s 1 * 1536 + 1 * (y 1).val = _; rw [e3, Nat.one_mul]; rfl)).congr
    fun r _ k _ => by simp only [Nat.zero_add]

include ht in
/-- and of the cotangent. -/
theorem b4 (s : Fin cfg0.N) : E512 (iblk m c 4 s) (fun r k => t (s.val * 512 + r) k) := by
  have e4 := (tile s).2.2.2.2.2.1
  exact (ht.blk (((cfg0.win 4).blk s).view.emb) (s.val * 512) 0
    (fun y => by show win0_4.index s 0 * 512 + 1 * (y 0).val = _; rw [e4, Nat.one_mul]; rfl) (fun y => by show win0_4.index s 1 * 1536 + 1 * (y 1).val = _; rw [e4, Nat.one_mul]; rfl)).congr
    fun r _ k _ => by simp only [Nat.zero_add]

theorem lt4 (s : Fin cfg0.N) : s.val < 4 := s.isLt

/-- What the first point leaves in the first array, -/
theorem eq5_A (s : Fin cfg0.N) (h0 : s.val % 4 = 0) : (outsAt0 m c s.val s.isLt).1 = out0_A_5 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) ((hcond0_0 s).mpr h0) (X0_0 m c s) (X0_1 m c s) (iblk m c 2 s) (iblk m c 3 s) (iblk m c 4 s) := by
  rw [outsAt0_A m c s h0]

include hf hg hb ht in
theorem at5_A (s : Fin cfg0.N) (h0 : s.val % 4 = 0) : E512 (outsAt0 m c s.val s.isLt).1 (fun r k => convDa f g b t (s.val * 512 + r) k) := by
  have hu := lt4 s
  have hi := (tile s).1
  have p := b01 m c hf s
  have p2 := b2 m c hg s
  have p3 := b3 m c hb s
  have p4 := b4 m c ht s
  rw [eq5_A m c s h0]
  exact out5_A c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) hu hi p.1 p.2 p2 p3 p4 ((hcond0_0 s).mpr h0)

/-- What the first point leaves in the second -/
theorem eq6_A (s : Fin cfg0.N) (h0 : s.val % 4 = 0) : (outsAt0 m c s.val s.isLt).2.1 = out0_A_6 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) ((hcond0_0 s).mpr h0) (X0_0 m c s) (X0_1 m c s) (iblk m c 2 s) (iblk m c 3 s) (iblk m c 4 s) := by
  rw [outsAt0_A m c s h0]

include hf hg hb ht in
theorem at6_A (s : Fin cfg0.N) (h0 : s.val % 4 = 0) : E4 (outsAt0 m c s.val s.isLt).2.1 (convDw (convDa f g b t) f ((s.val + 1) * 512)) := by
  have hu := lt4 s
  have hi := (tile s).1
  have p := b01 m c hf s
  have p2 := b2 m c hg s
  have p3 := b3 m c hb s
  have p4 := b4 m c ht s
  rw [eq6_A m c s h0]
  exact out6_A c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) hu hi p.1 p.2 p2 p3 p4 ((hcond0_0 s).mpr h0) (by have := lt4 s; omega)

/-- What the first point leaves in and in the third. -/
theorem eq7_A (s : Fin cfg0.N) (h0 : s.val % 4 = 0) : (outsAt0 m c s.val s.isLt).2.2 = out0_A_7 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) ((hcond0_0 s).mpr h0) (X0_0 m c s) (X0_1 m c s) (iblk m c 2 s) (iblk m c 3 s) (iblk m c 4 s) := by
  rw [outsAt0_A m c s h0]

include hf hg hb ht in
theorem at7_A (s : Fin cfg0.N) (h0 : s.val % 4 = 0) : E1 (outsAt0 m c s.val s.isLt).2.2 (convDb (convDa f g b t) ((s.val + 1) * 512)) := by
  have hu := lt4 s
  have hi := (tile s).1
  have p := b01 m c hf s
  have p2 := b2 m c hg s
  have p3 := b3 m c hb s
  have p4 := b4 m c ht s
  rw [eq7_A m c s h0]
  exact out7_A c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) hu hi p.1 p.2 p2 p3 p4 ((hcond0_0 s).mpr h0) (by have := lt4 s; omega)

/-- What a later point leaves in the first array, -/
theorem eq5_B (s : Fin cfg0.N) (h0 : ¬s.val % 4 = 0) : (outsAt0 m c s.val s.isLt).1 = out0_B_5 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (fun h => h0 ((hcond0_0 s).mp h)) (X0_0 m c s) (X0_1 m c s) (iblk m c 2 s) (iblk m c 3 s) (iblk m c 4 s) (outsAt0 m c (s.val - 1) (Nat.lt_of_le_of_lt (Nat.sub_le _ _) s.isLt)).2.1 (outsAt0 m c (s.val - 1) (Nat.lt_of_le_of_lt (Nat.sub_le _ _) s.isLt)).2.2 := by
  rw [outsAt0_B m c s h0]

include hf hg hb ht in
theorem at5_B (s : Fin cfg0.N) (h0 : ¬s.val % 4 = 0) : E512 (outsAt0 m c s.val s.isLt).1 (fun r k => convDa f g b t (s.val * 512 + r) k) := by
  have hu := lt4 s
  have hi := (tile s).1
  have p := b01 m c hf s
  have p2 := b2 m c hg s
  have p3 := b3 m c hb s
  have p4 := b4 m c ht s
  rw [eq5_B m c s h0]
  exact out5_B c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) hu hi p.1 p.2 p2 p3 p4 (fun h => h0 ((hcond0_0 s).mp h))

/-- What a later point leaves in the second -/
theorem eq6_B (s : Fin cfg0.N) (h0 : ¬s.val % 4 = 0) : (outsAt0 m c s.val s.isLt).2.1 = out0_B_6 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (fun h => h0 ((hcond0_0 s).mp h)) (X0_0 m c s) (X0_1 m c s) (iblk m c 2 s) (iblk m c 3 s) (iblk m c 4 s) (outsAt0 m c (s.val - 1) (Nat.lt_of_le_of_lt (Nat.sub_le _ _) s.isLt)).2.1 (outsAt0 m c (s.val - 1) (Nat.lt_of_le_of_lt (Nat.sub_le _ _) s.isLt)).2.2 := by
  rw [outsAt0_B m c s h0]

include hf hg hb ht in
theorem at6_B (s : Fin cfg0.N) (h0 : ¬s.val % 4 = 0)
    (q : E4 (outsAt0 m c (s.val - 1) (Nat.lt_of_le_of_lt (Nat.sub_le _ _) s.isLt)).2.1 (convDw (convDa f g b t) f (s.val * 512))) : E4 (outsAt0 m c s.val s.isLt).2.1 (convDw (convDa f g b t) f ((s.val + 1) * 512)) := by
  have hu := lt4 s
  have hi := (tile s).1
  have p := b01 m c hf s
  have p2 := b2 m c hg s
  have p3 := b3 m c hb s
  have p4 := b4 m c ht s
  rw [eq6_B m c s h0]
  exact out6_B c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) hu hi p.1 p.2 p2 p3 p4 (fun h => h0 ((hcond0_0 s).mp h)) q

/-- What a later point leaves in and in the third. -/
theorem eq7_B (s : Fin cfg0.N) (h0 : ¬s.val % 4 = 0) : (outsAt0 m c s.val s.isLt).2.2 = out0_B_7 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (fun h => h0 ((hcond0_0 s).mp h)) (X0_0 m c s) (X0_1 m c s) (iblk m c 2 s) (iblk m c 3 s) (iblk m c 4 s) (outsAt0 m c (s.val - 1) (Nat.lt_of_le_of_lt (Nat.sub_le _ _) s.isLt)).2.1 (outsAt0 m c (s.val - 1) (Nat.lt_of_le_of_lt (Nat.sub_le _ _) s.isLt)).2.2 := by
  rw [outsAt0_B m c s h0]

include hf hg hb ht in
theorem at7_B (s : Fin cfg0.N) (h0 : ¬s.val % 4 = 0)
    (q : E1 (outsAt0 m c (s.val - 1) (Nat.lt_of_le_of_lt (Nat.sub_le _ _) s.isLt)).2.2 (convDb (convDa f g b t) (s.val * 512))) : E1 (outsAt0 m c s.val s.isLt).2.2 (convDb (convDa f g b t) ((s.val + 1) * 512)) := by
  have hu := lt4 s
  have hi := (tile s).1
  have p := b01 m c hf s
  have p2 := b2 m c hg s
  have p3 := b3 m c hb s
  have p4 := b4 m c ht s
  rw [eq7_B m c s h0]
  exact out7_B c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) hu hi p.1 p.2 p2 p3 p4 (fun h => h0 ((hcond0_0 s).mp h)) q

include hf hg hb ht in
/-- What the grid points leave. -/
theorem left : ∀ (n : ℕ) (hn : n < cfg0.N), E512 (outsAt0 m c n hn).1 (fun r k => convDa f g b t (n * 512 + r) k)
    ∧ E4 (outsAt0 m c n hn).2.1 (convDw (convDa f g b t) f ((n + 1) * 512))
    ∧ E1 (outsAt0 m c n hn).2.2 (convDb (convDa f g b t) ((n + 1) * 512)) := by
  intro n
  induction n with
  | zero =>
    intro hn
    exact ⟨at5_A m c hf hg hb ht ⟨0, hn⟩ (Nat.zero_mod _), at6_A m c hf hg hb ht ⟨0, hn⟩ (Nat.zero_mod _), at7_A m c hf hg hb ht ⟨0, hn⟩ (Nat.zero_mod _)⟩
  | succ n ih =>
    intro hn
    have hn4 : n + 1 < 4 := hn
    have h0 : ¬(n + 1) % 4 = 0 := by omega
    have q := ih (Nat.lt_of_succ_lt hn)
    exact ⟨at5_B m c hf hg hb ht ⟨n + 1, hn⟩ h0, at6_B m c hf hg hb ht ⟨n + 1, hn⟩ h0 q.2.1, at7_B m c hf hg hb ht ⟨n + 1, hn⟩ h0 q.2.2⟩

/-- A block of the first array after the run is what its grid point left. -/
theorem block5 (s : Fin cfg0.N) : (fun y => (dats m 0 c).arrAt 5 cfg0.N (((cfg0.win 5).blk s).view.emb y)) = (outsAt0 m c s.val s.isLt).1 :=
  (Cert.Kernel7Ideal.Value.blocks5 m c s (flush0_5 s)).trans (Cert.Kernel7Ideal.Value.flushed5 m c s)

/-- The other two arrays are written at the last point. -/
theorem block6 (s : Fin cfg0.N) (hs : s.val = 3) : (fun y => (dats m 0 c).arrAt 6 cfg0.N (((cfg0.win 6).blk s).view.emb y)) = (outsAt0 m c s.val s.isLt).2.1 :=
  ((dats m 0 c).read_blk_arrAt_eq_flushed 6 (fun t t' h h' hne => absurd (Fin.ext (by
    have h1 := (flush0_6 t).mp h; have h2 := (flush0_6 t').mp h'; have := t.isLt; have := t'.isLt; have e : cfg0.N = 4 := rfl; omega)) hne) cfg0.N s s.isLt
    ((flush0_6 s).mpr (by omega))).trans (Cert.Kernel7Ideal.Value.flushed6 m c s)

theorem block7 (s : Fin cfg0.N) (hs : s.val = 3) : (fun y => (dats m 0 c).arrAt 7 cfg0.N (((cfg0.win 7).blk s).view.emb y)) = (outsAt0 m c s.val s.isLt).2.2 :=
  ((dats m 0 c).read_blk_arrAt_eq_flushed 7 (fun t t' h h' hne => absurd (Fin.ext (by
    have h1 := (flush0_7 t).mp h; have h2 := (flush0_7 t').mp h'; have := t.isLt; have := t'.isLt; have e : cfg0.N = 4 := rfl; omega)) hne) cfg0.N s s.isLt
    ((flush0_7 s).mpr (by omega))).trans (Cert.Kernel7Ideal.Value.flushed7 m c s)

include hf hg hb ht in
/-- The gradient before the gate after the run, -/
theorem array5 : IsE (a := 2048) (c := 1536) (φ := .f32) ((dats m 0 c).arrAt 5 cfg0.N) (convDa f g b t) := by
  refine IsE.ofBlocks 512 1536 (by decide) (by decide) fun u v hu hv => ?_
  obtain rfl : v = 0 := by omega
  have hu4 : u < cfg0.N := by show u < 4; omega
  have e := (tile ⟨u, hu4⟩).2.2.2.2.2.2.1
  refine ⟨((cfg0.win 5).blk ⟨u, hu4⟩).view.emb, (fun y => by show win0_5.index ⟨u, hu4⟩ 0 * 512 + 1 * (y 0).val = _; rw [e, Nat.one_mul]; rfl),
    (fun y => by show win0_5.index ⟨u, hu4⟩ 1 * 1536 + 1 * (y 1).val = _; rw [e, Nat.one_mul]; rfl), ?_⟩
  exact ((left m c hf hg hb ht u hu4).1.congr fun r _ k _ => by rw [Nat.zero_mul, Nat.zero_add]).of_eq (block5 m c ⟨u, hu4⟩)

include hf hg hb ht in
/-- the weights' gradient, -/
theorem array6 : E4 ((dats m 0 c).arrAt 6 cfg0.N) (convDw (convDa f g b t) f 2048) := by
  refine IsE.ofBlocks 4 1536 (by decide) (by decide) fun u v hu hv => ?_
  obtain rfl : v = 0 := by omega
  obtain rfl : u = 0 := by omega
  have h3 : 3 < cfg0.N := by show 3 < 4; omega
  have e := (tile ⟨3, h3⟩).2.2.2.2.2.2.2.1
  refine ⟨((cfg0.win 6).blk ⟨3, h3⟩).view.emb, (fun y => by show win0_6.index ⟨3, h3⟩ 0 * 4 + 1 * (y 0).val = _; rw [e, Nat.one_mul]; rfl),
    (fun y => by show win0_6.index ⟨3, h3⟩ 1 * 1536 + 1 * (y 1).val = _; rw [e, Nat.one_mul]; rfl), ?_⟩
  exact ((left m c hf hg hb ht 3 h3).2.1.congr fun r _ k _ => by rw [Nat.zero_add, Nat.zero_add]).of_eq (block6 m c ⟨3, h3⟩ rfl)

include hf hg hb ht in
/-- and the bias's. -/
theorem array7 : E1 ((dats m 0 c).arrAt 7 cfg0.N) (convDb (convDa f g b t) 2048) := by
  refine IsE.ofBlocks 1 1536 (by decide) (by decide) fun u v hu hv => ?_
  obtain rfl : v = 0 := by omega
  obtain rfl : u = 0 := by omega
  have h3 : 3 < cfg0.N := by show 3 < 4; omega
  have e := (tile ⟨3, h3⟩).2.2.2.2.2.2.2.2
  refine ⟨((cfg0.win 7).blk ⟨3, h3⟩).view.emb, (fun y => by show win0_7.index ⟨3, h3⟩ 0 * 1 + 1 * (y 0).val = _; rw [e, Nat.one_mul]; rfl),
    (fun y => by show win0_7.index ⟨3, h3⟩ 1 * 1536 + 1 * (y 1).val = _; rw [e, Nat.one_mul]; rfl), ?_⟩
  exact ((left m c hf hg hb ht 3 h3).2.2.congr fun r _ k _ => by rw [Nat.zero_add, Nat.zero_add]).of_eq (block7 m c ⟨3, h3⟩ rfl)

end

end Cert.Kernel7Ideal.Hand

end
-- ==== Proof.ConvRef.lean ====
/- The convolution's gradients in the reference, and the arguments' entries read off as real numbers. -/
module

public import proofs.«01_k».proof.Proof.ConvSum
public import proofs.«01_k».proof.Proof.FfnMath
public import proofs.«01_k».proof.Proof.Finite
public import proofs.«01_k».proof.Proof.Gen.Reference7Ideal.Read
public import proofs.«01_k».proof.Proof.Gen.Pre_finite7

@[expose] public section

set_option maxRecDepth 16384

noncomputable section

open Idealize.ShloMosaic hiding ix1 ix2
open Idealize.ShloMosaic.ValueIdx Cert.Attn Finset

namespace Cert.Attn

/-- Every entry is a real number. -/
def Rl (f : ℕ → ℕ → EReal) : Prop := ∀ r k, ∃ y : ℝ, f r k = (y : EReal)

variable {f g b t : ℕ → ℕ → EReal}

theorem Rl.back (h : Rl f) (j : ℕ) : Rl (back j f) := fun r k => by
  unfold Cert.Attn.back
  by_cases e : j ≤ r
  · rw [if_pos e]; exact h _ _
  · rw [if_neg e]; exact ⟨0, EReal.coe_zero.symm⟩

theorem Rl.add (h : Rl f) (h' : Rl g) : Rl (fun r k => f r k + g r k) := fun r k => by
  obtain ⟨x, e⟩ := h r k
  obtain ⟨y, e'⟩ := h' r k
  exact ⟨x + y, by beta_reduce; rw [e, e', EReal.coe_add]⟩

theorem Rl.mul (h : Rl f) (h' : Rl g) : Rl (fun r k => f r k * g r k) := fun r k => by
  obtain ⟨x, e⟩ := h r k
  obtain ⟨y, e'⟩ := h' r k
  exact ⟨x * y, by beta_reduce; rw [e, e', EReal.coe_mul]⟩

theorem Rl.row (h : Rl f) (o : ℕ) : Rl (fun _ k => f o k) := fun _ k => h o k

/-- The logistic function of a real number. -/
theorem sigE_coe (x : ℝ) : sigE x = ((1 / (1 + Real.exp (-x)) : ℝ) : EReal) := by
  unfold sigE
  rw [← EReal.coe_neg, exp_coe', ← EReal.coe_one, ← EReal.coe_add, div_coe_coe _ _ (one_add_exp_ne _)]

/-- The convolution of real numbers. -/
theorem Rl.pre (hf : Rl f) (hg : Rl g) (hb : Rl b) : Rl (convPre f g b) :=
  (((((hf.mul (hg.row 3)).add (hb.row 0)).add ((hf.back 1).mul (hg.row 2))).add ((hf.back 2).mul (hg.row 1))).add ((hf.back 3).mul (hg.row 0)))

/-- The gate's derivative by the product rule. -/
theorem da_eq (hp : Rl (convPre f g b)) (ht : Rl t) (r k : ℕ) :
    t r k * sigE (convPre f g b r k) + convPre f g b r k * t r k * (sigE (convPre f g b r k) * (1 - sigE (convPre f g b r k))) = convDa f g b t r k := by
  obtain ⟨p, e⟩ := hp r k
  obtain ⟨x, e'⟩ := ht r k
  unfold convDa
  rw [e, e', sigE_coe, ← EReal.coe_one]
  generalize 1 / (1 + Real.exp (-p)) = s
  simp only [← EReal.coe_mul, ← EReal.coe_add, ← EReal.coe_sub]
  congr 1
  ring

end Cert.Attn

namespace Cert.Reference7Ideal.Hand

open Cert.Reference7Ideal Cert.Reference7Ideal.Gen Cert.Reference7Ideal.Read

section

variable {x0 : FVec Ideal S2048x1536 .f32} {x1 : FVec Ideal S4x1536 .f32} {x2 : FVec Ideal S1x1536 .f32} {x3 : FVec Ideal S2048x1536 .f32} {f g b t : ℕ → ℕ → EReal}

/-- The array below three rows of zeros. -/
theorem low (hf : IsE (a := 2048) (c := 1536) x0 f) : IsE (a := 2051) (c := 1536) (φ := .f32) (val_main_v1 (F := Ideal) x0) (back 3 f) :=
  IsE.below hf (IsE.zeros Ideal.ofBits_zero_f32 _) _

/-- The convolution before the gate. -/
theorem pre (hf : IsE (a := 2048) (c := 1536) x0 f) (hg : IsE (a := 4) (c := 1536) x1 g) (hb : IsE (a := 1) (c := 1536) x2 b) :
    IsE (a := 2048) (c := 1536) (φ := .f32) (val_main_v22 (F := Ideal) x0 x1 x2) (convPre f g b) :=
  ((((((((hg.sliceR 0 _).rowH _).mul ((low hf).sliceR 0 _)).add (((hg.sliceR 1 _).rowH _).mul ((low hf).sliceR 1 _))).add
    (((hg.sliceR 2 _).rowH _).mul ((low hf).sliceR 2 _))).add (((hg.sliceR 3 _).rowH _).mul ((low hf).sliceR 3 _))).add (hb.rowH _))).congr fun r hr k hk => by
    beta_reduce
    rw [back_add f 0 r k (by omega), back_add f 1 r k (by omega), back_add f 2 r k (by omega), back_add f 3 r k (by omega)]
    show g 0 k * back 3 f r k + g 1 k * back 2 f r k + g 2 k * back 1 f r k + g 3 k * back 0 f r k + b 0 k = _
    unfold convPre
    rw [back_zero, mul_comm (g 0 k), mul_comm (g 1 k), mul_comm (g 2 k), mul_comm (g 3 k)]
    ac_rfl

/-- A host array of ones. -/
theorem ones : IsE (a := 2048) (c := 1536) (φ := .f32) (val_main_call0_v6 (F := Ideal)) (fun _ _ => 1) := fun _ _ => ofBits_one

/-- The gradient before the gate. -/
theorem da (rf : Rl f) (rg : Rl g) (rb : Rl b) (rt : Rl t) (hf : IsE (a := 2048) (c := 1536) x0 f) (hg : IsE (a := 4) (c := 1536) x1 g) (hb : IsE (a := 1) (c := 1536) x2 b)
    (ht : IsE (a := 2048) (c := 1536) x3 t) : IsE (a := 2048) (c := 1536) (φ := .f32) (val_main_v24 (F := Ideal) x0 x1 x2 x3) (convDa f g b t) := by
  have p := pre hf hg hb
  have s : IsE (a := 2048) (c := 1536) (φ := .f32) (val_main_v23_2 (F := Ideal) x0 x1 x2) (fun r k => sigE (convPre f g b r k)) := IsE.sigH p _
  exact ((ht.mul s).add ((p.mul ht).mul (s.mul (ones.sub s)))).congr fun r _ k _ => da_eq (rf.pre rg rb) rt r k

/-- The reductions' initial value. -/
theorem init (i : S_.Idx) : (constant (F := Ideal) S_ .f32 0x00000000#32) i = 0 := Ideal.ofBits_zero_f32

/-- A column sum over the rows, as one row. -/
theorem col {X : FVec Ideal S2048x1536 .f32} {d : ℕ → ℕ → EReal} (hX : IsE (a := 2048) (c := 1536) X d) (h1 : S1536.ShapeCasts S1x1536) :
    IsE (a := 1) (c := 1536) (φ := .f32) (shapeCast S1x1536 (Host.reduceAdd X (constant (F := Ideal) S_ .f32 0x00000000#32) reducesTo_S2048x1536_S1536_d0 h_S_) h1)
      (fun _ k => ∑ x ∈ range 2048, d x k) :=
  hX.colH _ _ _ init (by decide) _

/-- The gradient of the bias, -/
theorem db {d : ℕ → ℕ → EReal} (hd : IsE (a := 2048) (c := 1536) (φ := .f32) (val_main_v24 (F := Ideal) x0 x1 x2 x3) d) :
    IsE (a := 1) (c := 1536) (φ := .f32) (val_main_v26 (F := Ideal) x0 x1 x2 x3) (convDb d 2048) := col hd _

/-- and of the weights. -/
theorem dw {d : ℕ → ℕ → EReal} (hf : IsE (a := 2048) (c := 1536) x0 f) (hd : IsE (a := 2048) (c := 1536) (φ := .f32) (val_main_v24 (F := Ideal) x0 x1 x2 x3) d) :
    IsE (a := 4) (c := 1536) (φ := .f32) (val_main_v45 (F := Ideal) x0 x1 x2 x3) (convDw d f 2048) := by
  have q : IsE (a := 4) (c := 1536) (φ := .f32) (val_main_v45 (F := Ideal) x0 x1 x2 x3) _ := ((((col (hd.mul ((low hf).sliceR 3 _)) _).padRow 3 0 _ init _ _).add
    ((col (hd.mul ((low hf).sliceR 2 _)) _).padRow 2 1 _ init _ _)).add ((col (hd.mul ((low hf).sliceR 1 _)) _).padRow 1 2 _ init _ _)).add
    ((col (hd.mul ((low hf).sliceR 0 _)) _).padRow 0 3 _ init _ _)
  refine q.congr fun r hr k _ => ?_
  have e : ∀ o, o ≤ 3 → (∑ x ∈ range 2048, d x k * back 3 f (o + x) k) = convDw d f 2048 o k := fun o ho => sum_congr rfl fun x _ => by rw [back_add f o x k ho]
  beta_reduce
  rw [e 0 (by omega), e 1 (by omega), e 2 (by omega), e 3 (by omega)]
  interval_cases r <;> simp

end

end Cert.Reference7Ideal.Hand

namespace Cert.Attn

open Cert.Pre_finite7 Cert.Pre_finite7.Facts

/-- An array of real numbers. -/
theorem IsE.real {a c : ℕ} {X : FVec Ideal (M a c) .f32} (h : ∀ i, X i = (((X i).toReal : ℝ) : EReal)) : ∃ f, Rl f ∧ IsE X f :=
  ⟨fun r k => (entry2 X r k : ℝ), fun r k => ⟨_, rfl⟩, fun r k => entry2_R2 X h (ix2 r k)⟩

/-- Under the precondition the arguments hold real numbers. -/
theorem real7 [Facts] (x0 : FVec Ideal S2048x1536 .f32) (x1 : FVec Ideal S4x1536 .f32) (x2 : FVec Ideal S1x1536 .f32) (x3 : FVec Ideal S2048x1536 .f32)
    (h : fn (F := Ideal) x0 x1 x2 x3 = fun _ => 1#1) :
    ((∃ f, Rl f ∧ IsE (a := 2048) (c := 1536) x0 f) ∧ ∃ f, Rl f ∧ IsE (a := 4) (c := 1536) x1 f) ∧ (∃ f, Rl f ∧ IsE (a := 1) (c := 1536) x2 f) ∧ ∃ f, Rl f ∧ IsE (a := 2048) (c := 1536) x3 f := by
  have e := congrFun h (fun k => k.elim0)
  obtain ⟨e, h3⟩ := andi_one _ _ e
  obtain ⟨e, h2⟩ := andi_one _ _ e
  obtain ⟨h0, h1⟩ := andi_one _ _ e
  exact ⟨⟨IsE.real (real_of_all (s := S2048x1536) _ _ _ _ _ h0), IsE.real (real_of_all (s := S4x1536) _ _ _ _ _ h1)⟩,
    IsE.real (real_of_all (s := S1x1536) _ _ _ _ _ h2), IsE.real (real_of_all (s := S2048x1536) _ _ _ _ _ h3)⟩

end Cert.Attn

end
-- ==== Proof.lean ====
/- The certificates of the nine programs put together: of each the frames and the values of all its results. -/
module

public import proofs.«01_k».proof.Defs
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Pre_finite2
public import proofs.«01_k».proof.Proof.Gen.Pre_finite5
public import proofs.«01_k».proof.Proof.Gen.Pre_finite7
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read
public import proofs.«01_k».proof.Proof.Results
public import proofs.«01_k».proof.Proof.Finite
public import proofs.«01_k».proof.Proof.FfnLaunch
public import proofs.«01_k».proof.Proof.FfnChain
public import proofs.«01_k».proof.Proof.FfnRef
public import proofs.«01_k».proof.Proof.FfnFinite
public import proofs.«01_k».proof.Proof.ProdLaunch
public import proofs.«01_k».proof.Proof.ProdChain
public import proofs.«01_k».proof.Proof.ProdRef
public import proofs.«01_k».proof.Proof.WinLaunch
public import proofs.«01_k».proof.Proof.WinChain
public import proofs.«01_k».proof.Proof.WinRef
public import proofs.«01_k».proof.Proof.FwdRef
public import proofs.«01_k».proof.Proof.UpLaunch
public import proofs.«01_k».proof.Proof.UpChain
public import proofs.«01_k».proof.Proof.UpRef
public import proofs.«01_k».proof.Proof.ConvIn
public import proofs.«01_k».proof.Proof.ConvFwd
public import proofs.«01_k».proof.Proof.ConvPre
public import proofs.«01_k».proof.Proof.ConvRef
public import Idealize.ShloMosaic.Lib.Quiescent
public import Idealize.ShloMosaic.Adequacy
public import Idealize.ShloMosaic.Init

@[expose] public section

noncomputable section

namespace Cert.Proof

open Idealize.ShloMosaic Idealize.SL.Sem Cert.Attn

/-- The reference runs and leaves its arguments alone; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- Two arrays that hold the same reals are equal. -/
theorem R3_eq {a b c : ℕ} {X Y : (⟨3, ![a, b, c]⟩ : Shape).Idx → EReal} {f : ℕ → ℕ → ℕ → ℝ} (hX : R3 X f) (hY : R3 Y f) : Y = X :=
  funext fun i => (hY i).trans (hX i).symm

theorem R2_eq {a b : ℕ} {X Y : (⟨2, ![a, b]⟩ : Shape).Idx → EReal} {f : ℕ → ℕ → ℝ} (hX : R2 X f) (hY : R2 Y f) : Y = X :=
  funext fun i => (hY i).trans (hX i).symm

open Cert.KernelIdeal.Hand Cert.ReferenceIdeal.Hand in
/-- The five gradients that the kernel computes are the reference's, element by element. -/
theorem algebraic : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  intro m ρ m' ρ' hpre hagree
  haveI := Cert.Pre_finite.Gen.facts
  have H := fun c => holds_of_finite _ _ _ _ _ _ (hpre c)
  have H' : ∀ c : Dev Cert.ReferenceIdeal.nD, Holds6 _
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) := fun c => by
    rw [(hagree c).1, (hagree c).2.1, (hagree c).2.2.1, (hagree c).2.2.2.1, (hagree c).2.2.2.2.1, (hagree c).2.2.2.2.2]
    exact H c
  refine ⟨fun c => Cert.KernelIdeal.Hand.fin m c Cert.KernelIdeal.main_v39, fun c => Cert.KernelIdeal.Hand.fin m c Cert.KernelIdeal.main_v45,
    fun c => Cert.KernelIdeal.Hand.fin m c Cert.KernelIdeal.main_v46, fun c => Cert.KernelIdeal.Hand.fin m c Cert.KernelIdeal.main_v47,
    fun c => Cert.KernelIdeal.Hand.fin m c Cert.KernelIdeal.main_v49, ?_, ?_⟩
  · refine (θ_run Cert.KernelIdeal.defs _ _).mono (fun r h c => ?_) (θ_run_and (Cert.KernelIdeal.Gen.run_main m ρ) (Cert.KernelIdeal.Gen.unchanged m ρ))
    exact ⟨(h.1 c).2 _ (Pipeline.mem_restRefs_of Cert.KernelIdeal.main_v39 (by decide) (by decide)), (h.1 c).2 _ (Pipeline.mem_restRefs_of Cert.KernelIdeal.main_v45 (by decide) (by decide)),
      (h.1 c).2 _ (Pipeline.mem_restRefs_of Cert.KernelIdeal.main_v46 (by decide) (by decide)), (h.1 c).2 _ (Pipeline.mem_restRefs_of Cert.KernelIdeal.main_v47 (by decide) (by decide)),
      (h.1 c).2 _ (Pipeline.mem_restRefs_of Cert.KernelIdeal.main_v49 (by decide) (by decide)), h.2 c⟩
  · refine (θ_run Cert.ReferenceIdeal.defs _ _).mono (fun r h c => ?_) (Cert.ReferenceIdeal.Value.run (F := Ideal) m' ρ')
    have I := ins (H c)
    exact ⟨(h c).1.trans ((Cert.ReferenceIdeal.Read.val_main_v69_eq m' c).trans (R3_eq (fin39 m _ c I) (v69_real (H' c)))),
      (h c).2.1.trans ((Cert.ReferenceIdeal.Read.val_main_v63_eq m' c).trans (R3_eq (fin45 m _ c I) (v63_real (H' c)))),
      (h c).2.2.1.trans ((Cert.ReferenceIdeal.Read.val_main_v66_eq m' c).trans (R3_eq (fin46 m _ c I) (v66_real (H' c)))),
      (h c).2.2.2.1.trans ((Cert.ReferenceIdeal.Read.val_main_v46_eq m' c).trans (R3_eq (fin47 m _ c I) (v46_real (H' c)))),
      (h c).2.2.2.2.1.trans ((Cert.ReferenceIdeal.Read.val_main_v64_eq m' c).trans (R2_eq (fin49 m _ c I) (v64_real (H' c)))),
      (h c).2.2.2.2.2⟩

/-- The feed-forward block's reference runs and leaves its arguments alone; it declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

open Cert.Kernel2Ideal.Hand Cert.Reference2Ideal.Hand in
/-- The five results of the feed-forward block that the nine products compute are the reference's, element by element. -/
theorem algebraic2 : Cert.algebraic_Kernel2Ideal_Reference2Ideal_pre_finite2
    (hKernel2Ideal := Cert.Kernel2Ideal.Gen.facts) (hReference2Ideal := Cert.Reference2Ideal.Gen.facts) (hPre_finite2 := Cert.Pre_finite2.Gen.facts) := by
  intro m ρ m' ρ' hpre hagree
  haveI := Cert.Pre_finite2.Gen.facts
  have H := fun c => holds5_of_finite _ _ _ _ _ (hpre c)
  have H' : ∀ c : Dev Cert.Reference2Ideal.nD, Holds5 _
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4)) := fun c => by
    rw [(hagree c).1, (hagree c).2.1, (hagree c).2.2.1, (hagree c).2.2.2.1, (hagree c).2.2.2.2]
    exact H c
  refine ⟨fun c => Cert.Kernel2Ideal.Gen.W12 m ρ c (Proc.devRef .tc Cert.Kernel2Ideal.main_v20),
    fun c => Cert.Kernel2Ideal.Gen.W12 m ρ c (Proc.devRef .tc Cert.Kernel2Ideal.main_v15),
    fun c => Cert.Kernel2Ideal.Gen.W12 m ρ c (Proc.devRef .tc Cert.Kernel2Ideal.main_v16),
    fun c => Cert.Kernel2Ideal.Gen.W12 m ρ c (Proc.devRef .tc Cert.Kernel2Ideal.main_v17),
    fun c => Cert.Kernel2Ideal.Gen.W12 m ρ c (Proc.devRef .tc Cert.Kernel2Ideal.main_v11), ?_, ?_⟩
  · refine (θ_run Cert.Kernel2Ideal.defs _ _).mono (fun r h c => ?_) (θ_run_and (run_all m ρ) (Cert.Kernel2Ideal.Gen.unchanged m ρ))
    exact ⟨h.1 c _ (Cert.Kernel2Ideal.Gen.mem_uc Cert.Kernel2Ideal.main_v20 (by decide)),
      h.1 c _ (Cert.Kernel2Ideal.Gen.mem_uc Cert.Kernel2Ideal.main_v15 (by decide)),
      h.1 c _ (Cert.Kernel2Ideal.Gen.mem_uc Cert.Kernel2Ideal.main_v16 (by decide)),
      h.1 c _ (Cert.Kernel2Ideal.Gen.mem_uc Cert.Kernel2Ideal.main_v17 (by decide)),
      h.1 c _ (Cert.Kernel2Ideal.Gen.mem_uc Cert.Kernel2Ideal.main_v11 (by decide)), h.2 c⟩
  · refine (θ_run Cert.Reference2Ideal.defs _ _).mono (fun r h c => ?_) (Cert.Reference2Ideal.Value.run (F := Ideal) m' ρ')
    exact ⟨(h c).1.trans ((Cert.Reference2Ideal.Read.val_main_v7_eq _ _ _ _).trans (R2_eq (fin_v20 (H c) ρ).r2 (v7_real (H' c)))),
      (h c).2.1.trans ((Cert.Reference2Ideal.Read.val_main_v25_eq _ _ _ _ _).trans (R2_eq (fin_v15 (H c) ρ).r2 (v25_real (H' c)))),
      (h c).2.2.1.trans ((Cert.Reference2Ideal.Read.val_main_v27_eq _ _ _ _ _).trans (R2_eq (fin_v16 (H c) ρ).r2 (v27_real (H' c)))),
      (h c).2.2.2.1.trans ((Cert.Reference2Ideal.Read.val_main_v29_eq _ _ _ _).trans (R2_eq (fin_v17 (H c) ρ).r2 (v29_real (H' c)))),
      (h c).2.2.2.2.1.trans ((Cert.Reference2Ideal.Read.val_main_v30_eq _ _ _ _).trans (R2_eq (fin_v11 (H c) ρ).r2 (v30_real (H' c)))),
      (h c).2.2.2.2.2⟩

/-- The products' reference runs and leaves its arguments alone; it declares no semaphore. -/
theorem frame_reference3 : Cert.quiescent_Reference3Ideal (hReference3Ideal := Cert.Reference3Ideal.Gen.facts) := fun m ρ _ =>
  (θ_run Cert.Reference3Ideal.defs _ _).mono (fun r h => ⟨fun c => (h c).2.2.2.2.2.2.2.2, sem_eq_zero_of_no_sems (by decide) r.2⟩)
    (Cert.Reference3Ideal.Value.run (F := Ideal) m ρ)

open Cert.Kernel3Ideal.Hand Cert.Reference3Ideal.Hand in
/-- The eight results of the products of the output projection and of the layer embedding are the reference's, element by element, of
    any arguments at all. -/
theorem algebraic3 : Cert.algebraic_Kernel3Ideal_Reference3Ideal
    (hKernel3Ideal := Cert.Kernel3Ideal.Gen.facts) (hReference3Ideal := Cert.Reference3Ideal.Gen.facts) := by
  intro m ρ m' ρ' _ hagree
  have e0 := fun c => (hagree c).1
  have e1 := fun c => (hagree c).2.1
  have e2 := fun c => (hagree c).2.2.1
  have e3 := fun c => (hagree c).2.2.2.1
  have e4 := fun c => (hagree c).2.2.2.2.1
  have e5 := fun c => (hagree c).2.2.2.2.2.1
  have e6 := fun c => (hagree c).2.2.2.2.2.2.1
  have e7 := fun c => (hagree c).2.2.2.2.2.2.2.1
  have e8 := fun c => (hagree c).2.2.2.2.2.2.2.2.1
  have e9 := fun c => (hagree c).2.2.2.2.2.2.2.2.2
  refine ⟨fun c => Cert.Kernel3Ideal.Gen.W9 m ρ c (Proc.devRef .tc Cert.Kernel3Ideal.main_v9),
    fun c => Cert.Kernel3Ideal.Gen.W9 m ρ c (Proc.devRef .tc Cert.Kernel3Ideal.main_v10),
    fun c => Cert.Kernel3Ideal.Gen.W9 m ρ c (Proc.devRef .tc Cert.Kernel3Ideal.main_v11),
    fun c => Cert.Kernel3Ideal.Gen.W9 m ρ c (Proc.devRef .tc Cert.Kernel3Ideal.main_v15),
    fun c => Cert.Kernel3Ideal.Gen.W9 m ρ c (Proc.devRef .tc Cert.Kernel3Ideal.main_v16),
    fun c => Cert.Kernel3Ideal.Gen.W9 m ρ c (Proc.devRef .tc Cert.Kernel3Ideal.main_v12),
    fun c => Cert.Kernel3Ideal.Gen.W9 m ρ c (Proc.devRef .tc Cert.Kernel3Ideal.main_v13),
    fun c => Cert.Kernel3Ideal.Gen.W9 m ρ c (Proc.devRef .tc Cert.Kernel3Ideal.main_v14), ?_, ?_⟩
  · refine (θ_run Cert.Kernel3Ideal.defs _ _).mono (fun r h c => ?_) (θ_run_and (run_all m ρ) (Cert.Kernel3Ideal.Gen.unchanged m ρ))
    exact ⟨h.1 c _ (Cert.Kernel3Ideal.Gen.mem_uc Cert.Kernel3Ideal.main_v9 (by decide)),
      h.1 c _ (Cert.Kernel3Ideal.Gen.mem_uc Cert.Kernel3Ideal.main_v10 (by decide)),
      h.1 c _ (Cert.Kernel3Ideal.Gen.mem_uc Cert.Kernel3Ideal.main_v11 (by decide)),
      h.1 c _ (Cert.Kernel3Ideal.Gen.mem_uc Cert.Kernel3Ideal.main_v15 (by decide)),
      h.1 c _ (Cert.Kernel3Ideal.Gen.mem_uc Cert.Kernel3Ideal.main_v16 (by decide)),
      h.1 c _ (Cert.Kernel3Ideal.Gen.mem_uc Cert.Kernel3Ideal.main_v12 (by decide)),
      h.1 c _ (Cert.Kernel3Ideal.Gen.mem_uc Cert.Kernel3Ideal.main_v13 (by decide)),
      h.1 c _ (Cert.Kernel3Ideal.Gen.mem_uc Cert.Kernel3Ideal.main_v14 (by decide)), h.2 c⟩
  · refine (θ_run Cert.Reference3Ideal.defs _ _).mono (fun r h c => ?_) (Cert.Reference3Ideal.Value.run (F := Ideal) m' ρ')
    exact ⟨(h c).1.trans ((Cert.Reference3Ideal.Read.val_main_v0_eq _ _).trans (by rw [e0 c, e1 c]; exact E2_eq (fin_v9 m ρ c).e2 (v0_val _ _))),
      (h c).2.1.trans ((Cert.Reference3Ideal.Read.val_main_v1_eq _ _).trans (by rw [e2 c, e3 c]; exact E2_eq (fin_v10 m ρ c).e2 (v1_val _ _))),
      (h c).2.2.1.trans ((Cert.Reference3Ideal.Read.val_main_v2_eq _ _).trans (by rw [e4 c, e5 c]; exact E2_eq (fin_v11 m ρ c).e2 (v2_val _ _))),
      (h c).2.2.2.1.trans ((Cert.Reference3Ideal.Read.val_main_v11_eq _ _).trans (by rw [e1 c, e6 c]; exact E2_eq (fin_v15 m ρ c).e2 (v11_val _ _))),
      (h c).2.2.2.2.1.trans ((Cert.Reference3Ideal.Read.val_main_v12_eq _ _).trans (by rw [e0 c, e6 c]; exact E2_eq (fin_v16 m ρ c).e2 (v12_val _ _))),
      (h c).2.2.2.2.2.1.trans ((Cert.Reference3Ideal.Read.val_main_v13_eq _ _ _).trans (by rw [e3 c, e7 c, e9 c]; exact E2_eq (fin_v12 m ρ c).e2 (v13_val _ _ _))),
      (h c).2.2.2.2.2.2.1.trans ((Cert.Reference3Ideal.Read.val_main_v14_eq _ _).trans (by rw [e2 c, e7 c]; exact E2_eq (fin_v13 m ρ c).e2 (v14_val _ _))),
      (h c).2.2.2.2.2.2.2.1.trans ((Cert.Reference3Ideal.Read.val_main_v15_eq _ _).trans (by rw [e4 c, e8 c]; exact E2_eq (fin_v14 m ρ c).e2 (v15_val _ _))),
      (h c).2.2.2.2.2.2.2.2⟩

/-- The input projection's reference runs and leaves its arguments alone; it declares no semaphore. -/
theorem frame_reference4 : Cert.quiescent_Reference4Ideal (hReference4Ideal := Cert.Reference4Ideal.Gen.facts) := fun m ρ _ =>
  (θ_run Cert.Reference4Ideal.defs _ _).mono (fun r h => ⟨fun c => (h c).2.2.2.2.2.2.2.2, sem_eq_zero_of_no_sems (by decide) r.2⟩)
    (Cert.Reference4Ideal.Value.run (F := Ideal) m ρ)

open Cert.Kernel4Ideal.Hand Cert.Reference4Ideal.Hand in
/-- The eight results of the products of the input projection are the reference's, element by element, of any arguments at all. -/
theorem algebraic4 : Cert.algebraic_Kernel4Ideal_Reference4Ideal
    (hKernel4Ideal := Cert.Kernel4Ideal.Gen.facts) (hReference4Ideal := Cert.Reference4Ideal.Gen.facts) := by
  intro m ρ m' ρ' _ hagree
  have e0 := fun c => (hagree c).1
  have e1 := fun c => (hagree c).2.1
  have e2 := fun c => (hagree c).2.2.1
  have e3 := fun c => (hagree c).2.2.2.1
  have e4 := fun c => (hagree c).2.2.2.2.1
  have e5 := fun c => (hagree c).2.2.2.2.2.1
  have e6 := fun c => (hagree c).2.2.2.2.2.2.1
  have e7 := fun c => (hagree c).2.2.2.2.2.2.2.1
  have e8 := fun c => (hagree c).2.2.2.2.2.2.2.2
  refine ⟨fun c => Cert.Kernel4Ideal.Gen.W6 m ρ c (Proc.devRef .tc Cert.Kernel4Ideal.main_v27),
    fun c => Cert.Kernel4Ideal.Gen.W6 m ρ c (Proc.devRef .tc Cert.Kernel4Ideal.main_v28),
    fun c => Cert.Kernel4Ideal.Gen.W6 m ρ c (Proc.devRef .tc Cert.Kernel4Ideal.main_v29),
    fun c => Cert.Kernel4Ideal.Gen.W6 m ρ c (Proc.devRef .tc Cert.Kernel4Ideal.main_v30),
    fun c => Cert.Kernel4Ideal.Gen.W6 m ρ c (Proc.devRef .tc Cert.Kernel4Ideal.main_v31),
    fun c => Cert.Kernel4Ideal.Gen.W6 m ρ c (Proc.devRef .tc Cert.Kernel4Ideal.main_v32),
    fun c => Cert.Kernel4Ideal.Gen.W6 m ρ c (Proc.devRef .tc Cert.Kernel4Ideal.main_v26),
    fun c => Cert.Kernel4Ideal.Gen.W6 m ρ c (Proc.devRef .tc Cert.Kernel4Ideal.main_v39), ?_, ?_⟩
  · refine (θ_run Cert.Kernel4Ideal.defs _ _).mono (fun r h c => ?_) (θ_run_and (run_all m ρ) (Cert.Kernel4Ideal.Gen.unchanged m ρ))
    exact ⟨h.1 c _ (Cert.Kernel4Ideal.Gen.mem_uc Cert.Kernel4Ideal.main_v27 (by decide)),
      h.1 c _ (Cert.Kernel4Ideal.Gen.mem_uc Cert.Kernel4Ideal.main_v28 (by decide)),
      h.1 c _ (Cert.Kernel4Ideal.Gen.mem_uc Cert.Kernel4Ideal.main_v29 (by decide)),
      h.1 c _ (Cert.Kernel4Ideal.Gen.mem_uc Cert.Kernel4Ideal.main_v30 (by decide)),
      h.1 c _ (Cert.Kernel4Ideal.Gen.mem_uc Cert.Kernel4Ideal.main_v31 (by decide)),
      h.1 c _ (Cert.Kernel4Ideal.Gen.mem_uc Cert.Kernel4Ideal.main_v32 (by decide)),
      h.1 c _ (Cert.Kernel4Ideal.Gen.mem_uc Cert.Kernel4Ideal.main_v26 (by decide)),
      h.1 c _ (Cert.Kernel4Ideal.Gen.mem_uc Cert.Kernel4Ideal.main_v39 (by decide)), h.2 c⟩
  · refine (θ_run Cert.Reference4Ideal.defs _ _).mono (fun r h c => ?_) (Cert.Reference4Ideal.Value.run (F := Ideal) m' ρ')
    exact ⟨(h c).1.trans ((Cert.Reference4Ideal.Read.val_main_v1_eq _ _).trans (by rw [e0 c, e1 c]; exact E2_eq (fin_v27 m ρ c).e2 (v1_val _ _))),
      (h c).2.1.trans ((Cert.Reference4Ideal.Read.val_main_v2_eq _ _).trans (by rw [e0 c, e1 c]; exact E2_eq (fin_v28 m ρ c).e2 (v2_val _ _))),
      (h c).2.2.1.trans ((Cert.Reference4Ideal.Read.val_main_v3_eq _ _).trans (by rw [e0 c, e1 c]; exact E2_eq (fin_v29 m ρ c).e2 (v3_val _ _))),
      (h c).2.2.2.1.trans ((Cert.Reference4Ideal.Read.val_main_v4_eq _ _).trans (by rw [e0 c, e1 c]; exact E2_eq (fin_v30 m ρ c).e2 (v4_val _ _))),
      (h c).2.2.2.2.1.trans ((Cert.Reference4Ideal.Read.val_main_v5_eq _ _).trans (by rw [e0 c, e1 c]; exact E2_eq (fin_v31 m ρ c).e2 (v5_val _ _))),
      (h c).2.2.2.2.2.1.trans ((Cert.Reference4Ideal.Read.val_main_v6_eq _ _).trans (by rw [e0 c, e1 c]; exact E2_eq (fin_v32 m ρ c).e2 (v6_val _ _))),
      (h c).2.2.2.2.2.2.1.trans ((Cert.Reference4Ideal.Read.val_main_v11_eq _ _ _ _ _ _ _ _).trans (by rw [e1 c, e2 c, e3 c, e4 c, e5 c, e6 c, e7 c, e8 c]; exact E2_eq (fin_v26 m ρ c).e2 (v11_val _ _ _ _ _ _ _ _))),
      (h c).2.2.2.2.2.2.2.1.trans ((Cert.Reference4Ideal.Read.val_main_v13_eq _ _ _ _ _ _ _).trans (by rw [e0 c, e2 c, e3 c, e4 c, e5 c, e6 c, e7 c]; exact E2_eq (fin_v39 m ρ c).e2 (v13_val _ _ _ _ _ _ _))),
      (h c).2.2.2.2.2.2.2.2⟩

/-- The attention forward reference runs and leaves its arguments alone; it declares no semaphore. -/
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

open Cert.Kernel5Ideal.Hand Cert.Reference5Ideal.Hand in
/-- The attention output that the forward call computes is the reference's, element by element, of finite queries and keys and any values. -/
theorem algebraic5 : Cert.algebraic_Kernel5Ideal_Reference5Ideal_pre_finite5
    (hKernel5Ideal := Cert.Kernel5Ideal.Gen.facts) (hReference5Ideal := Cert.Reference5Ideal.Gen.facts) (hPre_finite5 := Cert.Pre_finite5.Gen.facts) := by
  intro m ρ m' ρ' hpre hagree
  haveI := Cert.Pre_finite5.Gen.facts
  have H := fun c => holds_of_finite5 _ _ _ _ _ (hpre c)
  have e0 := fun c => (hagree c).1
  have e1 := fun c => (hagree c).2.1
  have e2 := fun c => (hagree c).2.2.1
  have e3 := fun c => (hagree c).2.2.2.1
  have e4 := fun c => (hagree c).2.2.2.2
  refine ⟨fun c => (Cert.Kernel5Ideal.Gen.dats m 0 c).arrAt 5 Cert.Kernel5Ideal.cfg0.N, ?_, ?_⟩
  · refine (θ_run Cert.Kernel5Ideal.defs _ _).mono (fun r h c => ?_) (θ_run_and (Cert.Kernel5Ideal.Gen.run_main m ρ) (Cert.Kernel5Ideal.Gen.unchanged m ρ))
    exact ⟨(h.1 c).1 5, h.2 c⟩
  · refine (θ_run Cert.Reference5Ideal.defs _ _).mono (fun r h c => ?_) (Cert.Reference5Ideal.Value.run (F := Ideal) m' ρ')
    have I := ins m (H c).sc (H c).qn (H c).qr (H c).kn (ent3_E3 _) (H c).kr
    refine ⟨(h c).1.trans ((Cert.Reference5Ideal.Read.val_main_v26_eq m' c).trans ?_), (h c).2⟩
    rw [e0 c, e1 c, e2 c, e3 c, e4 c]
    exact E2_eq (f := fun r k => (argsF _ _ _ _).OE (ent3 _) (k / 64) r (k % 64)) (IsE.e2 (a := 2048) (c := 1024) (φ := .f32) fun r k => array5 m _ _ c I r k)
      (IsE.e2 (a := 2048) (c := 1024) (φ := .f32) fun r k => v26_val (H c) (ent3_E3 _) r k)

/-- The up-projections' reference runs and leaves its arguments alone; it declares no semaphore. -/
theorem frame_reference6 : Cert.quiescent_Reference6Ideal (hReference6Ideal := Cert.Reference6Ideal.Gen.facts) := fun m ρ _ =>
  (θ_run Cert.Reference6Ideal.defs _ _).mono (fun r h => ⟨fun c => (h c).2.2.2.2.2.2.2.2, sem_eq_zero_of_no_sems (by decide) r.2⟩)
    (Cert.Reference6Ideal.Value.run (F := Ideal) m ρ)

open Cert.Kernel6Ideal.Hand Cert.Reference6Ideal.Hand in
/-- The up-projections and their four gradients: the eight results are the reference's, element by element, of any arguments. -/
theorem algebraic6 : Cert.algebraic_Kernel6Ideal_Reference6Ideal
    (hKernel6Ideal := Cert.Kernel6Ideal.Gen.facts) (hReference6Ideal := Cert.Reference6Ideal.Gen.facts) := by
  intro m ρ m' ρ' _ hagree
  have e0 := fun c => (hagree c).1
  have e1 := fun c => (hagree c).2.1
  have e2 := fun c => (hagree c).2.2.1
  have e3 := fun c => (hagree c).2.2.2.1
  have e4 := fun c => (hagree c).2.2.2.2.1
  have e5 := fun c => (hagree c).2.2.2.2.2.1
  have e6 := fun c => (hagree c).2.2.2.2.2.2.1
  have e7 := fun c => (hagree c).2.2.2.2.2.2.2
  refine ⟨fun c => Cert.Kernel6Ideal.Gen.W9 m ρ c (Proc.devRef .tc Cert.Kernel6Ideal.main_v34),
    fun c => Cert.Kernel6Ideal.Gen.W9 m ρ c (Proc.devRef .tc Cert.Kernel6Ideal.main_v36),
    fun c => Cert.Kernel6Ideal.Gen.W9 m ρ c (Proc.devRef .tc Cert.Kernel6Ideal.main_v38),
    fun c => Cert.Kernel6Ideal.Gen.W9 m ρ c (Proc.devRef .tc Cert.Kernel6Ideal.main_v40),
    fun c => Cert.Kernel6Ideal.Gen.W9 m ρ c (Proc.devRef .tc Cert.Kernel6Ideal.main_v29),
    fun c => Cert.Kernel6Ideal.Gen.W9 m ρ c (Proc.devRef .tc Cert.Kernel6Ideal.main_v46),
    fun c => Cert.Kernel6Ideal.Gen.W9 m ρ c (Proc.devRef .tc Cert.Kernel6Ideal.main_v31),
    fun c => Cert.Kernel6Ideal.Gen.W9 m ρ c (Proc.devRef .tc Cert.Kernel6Ideal.main_v52), ?_, ?_⟩
  · refine (θ_run Cert.Kernel6Ideal.defs _ _).mono (fun r h c => ?_) (θ_run_and (run_all m ρ) (Cert.Kernel6Ideal.Gen.unchanged m ρ))
    exact ⟨h.1 c _ (Cert.Kernel6Ideal.Gen.mem_uc Cert.Kernel6Ideal.main_v34 (by decide)),
      h.1 c _ (Cert.Kernel6Ideal.Gen.mem_uc Cert.Kernel6Ideal.main_v36 (by decide)),
      h.1 c _ (Cert.Kernel6Ideal.Gen.mem_uc Cert.Kernel6Ideal.main_v38 (by decide)),
      h.1 c _ (Cert.Kernel6Ideal.Gen.mem_uc Cert.Kernel6Ideal.main_v40 (by decide)),
      h.1 c _ (Cert.Kernel6Ideal.Gen.mem_uc Cert.Kernel6Ideal.main_v29 (by decide)),
      h.1 c _ (Cert.Kernel6Ideal.Gen.mem_uc Cert.Kernel6Ideal.main_v46 (by decide)),
      h.1 c _ (Cert.Kernel6Ideal.Gen.mem_uc Cert.Kernel6Ideal.main_v31 (by decide)),
      h.1 c _ (Cert.Kernel6Ideal.Gen.mem_uc Cert.Kernel6Ideal.main_v52 (by decide)), h.2 c⟩
  · refine (θ_run Cert.Reference6Ideal.defs _ _).mono (fun r h c => ?_) (Cert.Reference6Ideal.Value.run (F := Ideal) m' ρ')
    exact ⟨(h c).1.trans ((Cert.Reference6Ideal.Read.val_main_v4_eq _ _).trans (by rw [e0 c, e1 c]; exact E3_eq (fin_v34 m ρ c) (v4_val _ _))),
      (h c).2.1.trans ((Cert.Reference6Ideal.Read.val_main_v5_eq _ _).trans (by rw [e0 c, e1 c]; exact E3_eq (fin_v36 m ρ c) (v5_val _ _))),
      (h c).2.2.1.trans ((Cert.Reference6Ideal.Read.val_main_v6_eq _ _).trans (by rw [e2 c, e3 c]; exact E3_eq (fin_v38 m ρ c) (v6_val _ _))),
      (h c).2.2.2.1.trans ((Cert.Reference6Ideal.Read.val_main_v7_eq _ _).trans (by rw [e2 c, e3 c]; exact E3_eq (fin_v40 m ρ c) (v7_val _ _))),
      (h c).2.2.2.2.1.trans ((Cert.Reference6Ideal.Read.val_main_v17_eq _ _ _).trans (by rw [e1 c, e4 c, e5 c]; exact E2_eq (fin_v29 m ρ c).e2 (v17_val _ _ _))),
      (h c).2.2.2.2.2.1.trans ((Cert.Reference6Ideal.Read.val_main_v19_eq _ _ _).trans (by rw [e0 c, e4 c, e5 c]; exact E2_eq (fin_v46 m ρ c).e2 (v19_val _ _ _))),
      (h c).2.2.2.2.2.2.1.trans ((Cert.Reference6Ideal.Read.val_main_v13_eq _ _ _).trans (by rw [e3 c, e6 c, e7 c]; exact E2_eq (fin_v31 m ρ c).e2 (v13_val _ _ _))),
      (h c).2.2.2.2.2.2.2.1.trans ((Cert.Reference6Ideal.Read.val_main_v20_eq _ _ _).trans (by rw [e2 c, e6 c, e7 c]; exact E2_eq (fin_v52 m ρ c).e2 (v20_val _ _ _))),
      (h c).2.2.2.2.2.2.2.2⟩

/-- The convolution's references run and leave their arguments alone; they declare no semaphore. -/
theorem frame_reference7 : Cert.quiescent_Reference7Ideal (hReference7Ideal := Cert.Reference7Ideal.Gen.facts) := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The gated convolution's gradients before the gate, of the weights and of the bias are the reference's, element by element, of real arguments. -/
theorem algebraic7 : Cert.algebraic_Kernel7Ideal_Reference7Ideal_pre_finite7
    (hKernel7Ideal := Cert.Kernel7Ideal.Gen.facts) (hReference7Ideal := Cert.Reference7Ideal.Gen.facts) (hPre_finite7 := Cert.Pre_finite7.Gen.facts) := by
  intro m ρ m' ρ' hpre hagree
  haveI := Cert.Pre_finite7.Gen.facts
  refine ⟨fun c => (Cert.Kernel7Ideal.Gen.dats m 0 c).arrAt 5 Cert.Kernel7Ideal.cfg0.N, fun c => (Cert.Kernel7Ideal.Gen.dats m 0 c).arrAt 6 Cert.Kernel7Ideal.cfg0.N,
    fun c => (Cert.Kernel7Ideal.Gen.dats m 0 c).arrAt 7 Cert.Kernel7Ideal.cfg0.N, Cert.Kernel7Ideal.Value.run_blocks m ρ, ?_⟩
  refine (θ_run Cert.Reference7Ideal.defs _ _).mono (fun r h c => ?_) (Cert.Reference7Ideal.Value.run (F := Ideal) m' ρ')
  obtain ⟨e0, e1, e2, e3⟩ := hagree c
  obtain ⟨⟨⟨f, rf, hf⟩, g, rg, hg⟩, ⟨b, rb, hb⟩, t, rt, ht⟩ := real7 _ _ _ _ (hpre c)
  have hd := Cert.Reference7Ideal.Hand.da rf rg rb rt hf hg hb ht
  refine ⟨(h c).1.trans ((Cert.Reference7Ideal.Read.val_main_v24_eq m' c).trans ?_), (h c).2.1.trans ((Cert.Reference7Ideal.Read.val_main_v45_eq m' c).trans ?_),
    (h c).2.2.1.trans ((Cert.Reference7Ideal.Read.val_main_v26_eq m' c).trans ?_), (h c).2.2.2⟩
  · rw [e0, e1, e2, e3]
    exact E2_eq (Cert.Kernel7Ideal.Hand.array5 m c hf hg hb ht).e2 hd.e2
  · rw [e0, e1, e2, e3]
    exact E2_eq (Cert.Kernel7Ideal.Hand.array6 m c hf hg hb ht).e2 (Cert.Reference7Ideal.Hand.dw hf hd).e2
  · rw [e0, e1, e2, e3]
    exact E2_eq (Cert.Kernel7Ideal.Hand.array7 m c hf hg hb ht).e2 (Cert.Reference7Ideal.Hand.db hd).e2

/-- The convolution's gradient of its input is the reference's, element by element, of any arguments. -/
theorem algebraic8 : Cert.algebraic_Kernel8Ideal_Reference8Ideal
    (hKernel8Ideal := Cert.Kernel8Ideal.Gen.facts) (hReference8Ideal := Cert.Reference8Ideal.Gen.facts) := by
  intro m ρ m' ρ' _ hagree
  refine ⟨fun c => (Cert.Kernel8Ideal.Gen.dats m 0 c).arrAt 3 Cert.Kernel8Ideal.cfg0.N, Cert.Kernel8Ideal.Value.run_blocks m ρ, ?_⟩
  refine (θ_run Cert.Reference8Ideal.defs _ _).mono (fun r h c => ?_) (Cert.Reference8Ideal.Value.run (F := Ideal) m' ρ')
  obtain ⟨e0, e1⟩ := hagree c
  have e : Cert.Reference8Ideal.Read.val_main_v45 (F := Ideal) _ _ = (Cert.Kernel8Ideal.Gen.dats m 0 c).arrAt 3 Cert.Kernel8Ideal.cfg0.N :=
    E2_eq (a := 2048) (b := 1536) (IsE.e2 (Cert.Kernel8Ideal.Hand.array m c (entE_E2 _).isE (entE_E2 _).isE))
      (IsE.e2 (Cert.Reference8Ideal.Hand.result (x0 := m ((c.tc : Thread Cert.Kernel8Ideal.nD Cert.Kernel8Ideal.τ).loc Cert.Kernel8Ideal.main_arg0))
        (x1 := m ((c.tc : Thread Cert.Kernel8Ideal.nD Cert.Kernel8Ideal.τ).loc Cert.Kernel8Ideal.main_arg1)) (entE_E2 _).isE (entE_E2 _).isE))
  refine ⟨(h c).1.trans ((Cert.Reference8Ideal.Read.val_main_v45_eq (F := Ideal) _ _).trans ?_), (h c).2⟩
  rw [e0, e1]
  exact e

/-- The gated convolution is the reference's, element by element, of any arguments. -/
theorem algebraic9 : Cert.algebraic_Kernel9Ideal_Reference9Ideal
    (hKernel9Ideal := Cert.Kernel9Ideal.Gen.facts) (hReference9Ideal := Cert.Reference9Ideal.Gen.facts) := by
  intro m ρ m' ρ' _ hagree
  refine ⟨fun c => (Cert.Kernel9Ideal.Gen.dats m 0 c).arrAt 4 Cert.Kernel9Ideal.cfg0.N, Cert.Kernel9Ideal.Value.run_blocks m ρ, ?_⟩
  refine (θ_run Cert.Reference9Ideal.defs _ _).mono (fun r h c => ?_) (Cert.Reference9Ideal.Value.run (F := Ideal) m' ρ')
  obtain ⟨e0, e1, e2⟩ := hagree c
  refine ⟨(h c).1.trans ((Cert.Reference9Ideal.Read.val_main_v23_eq m' c).trans ?_), (h c).2⟩
  rw [e0, e1, e2]
  exact E2_eq (Cert.Kernel9Ideal.Hand.array m c (entE_E2 _).isE (entE_E2 _).isE (entE_E2 _).isE).e2
    (Cert.Reference9Ideal.Hand.result (entE_E2 _).isE (entE_E2 _).isE (entE_E2 _).isE).e2

/-- Everything the certificate states. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts,
  Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
  Cert.Pre_finite.Gen.facts, Cert.Pre_finite2.Gen.facts, Cert.Pre_finite5.Gen.facts, Cert.Pre_finite7.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ trivial,
  fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  fun m ρ _ => frame_reference2 m ρ trivial,
  fun m ρ _ => frame_reference2 m ρ trivial,
  fun m ρ _ => Cert.Kernel3.Gen.frame m ρ,
  fun m ρ _ => Cert.Kernel3Ideal.Gen.frame m ρ,
  fun m ρ _ => frame_reference3 m ρ trivial,
  fun m ρ _ => Cert.Kernel4.Gen.frame m ρ,
  fun m ρ _ => Cert.Kernel4Ideal.Gen.frame m ρ,
  fun m ρ _ => frame_reference4 m ρ trivial,
  fun m ρ _ => Cert.Kernel5.Gen.frame m ρ,
  fun m ρ _ => Cert.Kernel5Ideal.Gen.frame m ρ,
  fun m ρ _ => Cert.Kernel5Ideal.Gen.frame m ρ,
  fun m ρ _ => frame_reference5 m ρ trivial,
  fun m ρ _ => frame_reference5 m ρ trivial,
  fun m ρ _ => Cert.Kernel6.Gen.frame m ρ,
  fun m ρ _ => Cert.Kernel6Ideal.Gen.frame m ρ,
  fun m ρ _ => frame_reference6 m ρ trivial,
  fun m ρ _ => Cert.Kernel7.Gen.frame m ρ,
  fun m ρ _ => Cert.Kernel7Ideal.Gen.frame m ρ,
  fun m ρ _ => Cert.Kernel7Ideal.Gen.frame m ρ,
  fun m ρ _ => frame_reference7 m ρ trivial,
  fun m ρ _ => frame_reference7 m ρ trivial,
  fun m ρ _ => Cert.Kernel8.Gen.frame m ρ,
  fun m ρ _ => Cert.Kernel8Ideal.Gen.frame m ρ,
  fun m ρ _ => frame_reference8 m ρ trivial,
  fun m ρ _ => Cert.Kernel9.Gen.frame m ρ,
  fun m ρ _ => Cert.Kernel9Ideal.Gen.frame m ρ,
  fun m ρ _ => frame_reference9 m ρ trivial,
  trivial,
  algebraic,
  trivial,
  algebraic2,
  trivial,
  algebraic3,
  trivial,
  algebraic4,
  trivial,
  algebraic5,
  trivial,
  algebraic6,
  trivial,
  algebraic7,
  trivial,
  algebraic8,
  trivial,
  algebraic9⟩

end Cert.Proof

end
